-- ==== Defs.lean ====
def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_EvenGrad (m : (ℓ : Loc Cert.EvenGrad.nD Cert.EvenGrad.τ Cert.EvenGrad.sig) → Buf (Elt Bits) ℓ) : Prop :=
  True

def Pre_EvenGradIdeal (m : (ℓ : Loc Cert.EvenGradIdeal.nD Cert.EvenGradIdeal.τ Cert.EvenGradIdeal.sig) → Buf (Elt Ideal) ℓ) : Prop :=
  True

def Pre_EvenGradIdeal_even_finite [hPre_even_finite : Cert.Pre_even_finite.Facts] (m : (ℓ : Loc Cert.EvenGradIdeal.nD Cert.EvenGradIdeal.τ Cert.EvenGradIdeal.sig) → Buf (Elt Ideal) ℓ) : Prop :=
  ∀ c : Dev Cert.EvenGradIdeal.nD,
    (Cert.Pre_even_finite.fn (F := Ideal) (m ((c.tc : Thread Cert.EvenGradIdeal.nD Cert.EvenGradIdeal.τ).loc Cert.EvenGradIdeal.main_arg0)) (m ((c.tc : Thread Cert.EvenGradIdeal.nD Cert.EvenGradIdeal.τ).loc Cert.EvenGradIdeal.main_arg1)) (m ((c.tc : Thread Cert.EvenGradIdeal.nD Cert.EvenGradIdeal.τ).loc Cert.EvenGradIdeal.main_arg2)) (m ((c.tc : Thread Cert.EvenGradIdeal.nD Cert.EvenGradIdeal.τ).loc Cert.EvenGradIdeal.main_arg3)) (m ((c.tc : Thread Cert.EvenGradIdeal.nD Cert.EvenGradIdeal.τ).loc Cert.EvenGradIdeal.main_arg4)) (m ((c.tc : Thread Cert.EvenGradIdeal.nD Cert.EvenGradIdeal.τ).loc Cert.EvenGradIdeal.main_arg5)) (m ((c.tc : Thread Cert.EvenGradIdeal.nD Cert.EvenGradIdeal.τ).loc Cert.EvenGradIdeal.main_arg6)) (m ((c.tc : Thread Cert.EvenGradIdeal.nD Cert.EvenGradIdeal.τ).loc Cert.EvenGradIdeal.main_arg7))).1 = (fun _ => 1#1)
    ∧ (Cert.Pre_even_finite.fn (F := Ideal) (m ((c.tc : Thread Cert.EvenGradIdeal.nD Cert.EvenGradIdeal.τ).loc Cert.EvenGradIdeal.main_arg0)) (m ((c.tc : Thread Cert.EvenGradIdeal.nD Cert.EvenGradIdeal.τ).loc Cert.EvenGradIdeal.main_arg1)) (m ((c.tc : Thread Cert.EvenGradIdeal.nD Cert.EvenGradIdeal.τ).loc Cert.EvenGradIdeal.main_arg2)) (m ((c.tc : Thread Cert.EvenGradIdeal.nD Cert.EvenGradIdeal.τ).loc Cert.EvenGradIdeal.main_arg3)) (m ((c.tc : Thread Cert.EvenGradIdeal.nD Cert.EvenGradIdeal.τ).loc Cert.EvenGradIdeal.main_arg4)) (m ((c.tc : Thread Cert.EvenGradIdeal.nD Cert.EvenGradIdeal.τ).loc Cert.EvenGradIdeal.main_arg5)) (m ((c.tc : Thread Cert.EvenGradIdeal.nD Cert.EvenGradIdeal.τ).loc Cert.EvenGradIdeal.main_arg6)) (m ((c.tc : Thread Cert.EvenGradIdeal.nD Cert.EvenGradIdeal.τ).loc Cert.EvenGradIdeal.main_arg7))).2.1 = (fun _ => 1#1)
    ∧ (Cert.Pre_even_finite.fn (F := Ideal) (m ((c.tc : Thread Cert.EvenGradIdeal.nD Cert.EvenGradIdeal.τ).loc Cert.EvenGradIdeal.main_arg0)) (m ((c.tc : Thread Cert.EvenGradIdeal.nD Cert.EvenGradIdeal.τ).loc Cert.EvenGradIdeal.main_arg1)) (m ((c.tc : Thread Cert.EvenGradIdeal.nD Cert.EvenGradIdeal.τ).loc Cert.EvenGradIdeal.main_arg2)) (m ((c.tc : Thread Cert.EvenGradIdeal.nD Cert.EvenGradIdeal.τ).loc Cert.EvenGradIdeal.main_arg3)) (m ((c.tc : Thread Cert.EvenGradIdeal.nD Cert.EvenGradIdeal.τ).loc Cert.EvenGradIdeal.main_arg4)) (m ((c.tc : Thread Cert.EvenGradIdeal.nD Cert.EvenGradIdeal.τ).loc Cert.EvenGradIdeal.main_arg5)) (m ((c.tc : Thread Cert.EvenGradIdeal.nD Cert.EvenGradIdeal.τ).loc Cert.EvenGradIdeal.main_arg6)) (m ((c.tc : Thread Cert.EvenGradIdeal.nD Cert.EvenGradIdeal.τ).loc Cert.EvenGradIdeal.main_arg7))).2.2.1 = (fun _ => 1#1)
    ∧ (Cert.Pre_even_finite.fn (F := Ideal) (m ((c.tc : Thread Cert.EvenGradIdeal.nD Cert.EvenGradIdeal.τ).loc Cert.EvenGradIdeal.main_arg0)) (m ((c.tc : Thread Cert.EvenGradIdeal.nD Cert.EvenGradIdeal.τ).loc Cert.EvenGradIdeal.main_arg1)) (m ((c.tc : Thread Cert.EvenGradIdeal.nD Cert.EvenGradIdeal.τ).loc Cert.EvenGradIdeal.main_arg2)) (m ((c.tc : Thread Cert.EvenGradIdeal.nD Cert.EvenGradIdeal.τ).loc Cert.EvenGradIdeal.main_arg3)) (m ((c.tc : Thread Cert.EvenGradIdeal.nD Cert.EvenGradIdeal.τ).loc Cert.EvenGradIdeal.main_arg4)) (m ((c.tc : Thread Cert.EvenGradIdeal.nD Cert.EvenGradIdeal.τ).loc Cert.EvenGradIdeal.main_arg5)) (m ((c.tc : Thread Cert.EvenGradIdeal.nD Cert.EvenGradIdeal.τ).loc Cert.EvenGradIdeal.main_arg6)) (m ((c.tc : Thread Cert.EvenGradIdeal.nD Cert.EvenGradIdeal.τ).loc Cert.EvenGradIdeal.main_arg7))).2.2.2.1 = (fun _ => 1#1)
    ∧ (Cert.Pre_even_finite.fn (F := Ideal) (m ((c.tc : Thread Cert.EvenGradIdeal.nD Cert.EvenGradIdeal.τ).loc Cert.EvenGradIdeal.main_arg0)) (m ((c.tc : Thread Cert.EvenGradIdeal.nD Cert.EvenGradIdeal.τ).loc Cert.EvenGradIdeal.main_arg1)) (m ((c.tc : Thread Cert.EvenGradIdeal.nD Cert.EvenGradIdeal.τ).loc Cert.EvenGradIdeal.main_arg2)) (m ((c.tc : Thread Cert.EvenGradIdeal.nD Cert.EvenGradIdeal.τ).loc Cert.EvenGradIdeal.main_arg3)) (m ((c.tc : Thread Cert.EvenGradIdeal.nD Cert.EvenGradIdeal.τ).loc Cert.EvenGradIdeal.main_arg4)) (m ((c.tc : Thread Cert.EvenGradIdeal.nD Cert.EvenGradIdeal.τ).loc Cert.EvenGradIdeal.main_arg5)) (m ((c.tc : Thread Cert.EvenGradIdeal.nD Cert.EvenGradIdeal.τ).loc Cert.EvenGradIdeal.main_arg6)) (m ((c.tc : Thread Cert.EvenGradIdeal.nD Cert.EvenGradIdeal.τ).loc Cert.EvenGradIdeal.main_arg7))).2.2.2.2.1 = (fun _ => 1#1)
    ∧ (Cert.Pre_even_finite.fn (F := Ideal) (m ((c.tc : Thread Cert.EvenGradIdeal.nD Cert.EvenGradIdeal.τ).loc Cert.EvenGradIdeal.main_arg0)) (m ((c.tc : Thread Cert.EvenGradIdeal.nD Cert.EvenGradIdeal.τ).loc Cert.EvenGradIdeal.main_arg1)) (m ((c.tc : Thread Cert.EvenGradIdeal.nD Cert.EvenGradIdeal.τ).loc Cert.EvenGradIdeal.main_arg2)) (m ((c.tc : Thread Cert.EvenGradIdeal.nD Cert.EvenGradIdeal.τ).loc Cert.EvenGradIdeal.main_arg3)) (m ((c.tc : Thread Cert.EvenGradIdeal.nD Cert.EvenGradIdeal.τ).loc Cert.EvenGradIdeal.main_arg4)) (m ((c.tc : Thread Cert.EvenGradIdeal.nD Cert.EvenGradIdeal.τ).loc Cert.EvenGradIdeal.main_arg5)) (m ((c.tc : Thread Cert.EvenGradIdeal.nD Cert.EvenGradIdeal.τ).loc Cert.EvenGradIdeal.main_arg6)) (m ((c.tc : Thread Cert.EvenGradIdeal.nD Cert.EvenGradIdeal.τ).loc Cert.EvenGradIdeal.main_arg7))).2.2.2.2.2 = (fun _ => 1#1)

def Pre_EvenGradRefIdeal (m : (ℓ : Loc Cert.EvenGradRefIdeal.nD Cert.EvenGradRefIdeal.τ Cert.EvenGradRefIdeal.sig) → Buf (Elt Ideal) ℓ) : Prop :=
  True

def Pre_EvenGradRefIdeal_even_finite [hPre_even_finite : Cert.Pre_even_finite.Facts] (m : (ℓ : Loc Cert.EvenGradRefIdeal.nD Cert.EvenGradRefIdeal.τ Cert.EvenGradRefIdeal.sig) → Buf (Elt Ideal) ℓ) : Prop :=
  ∀ c : Dev Cert.EvenGradRefIdeal.nD,
    (Cert.Pre_even_finite.fn (F := Ideal) (m ((c.tc : Thread Cert.EvenGradRefIdeal.nD Cert.EvenGradRefIdeal.τ).loc Cert.EvenGradRefIdeal.main_arg0)) (m ((c.tc : Thread Cert.EvenGradRefIdeal.nD Cert.EvenGradRefIdeal.τ).loc Cert.EvenGradRefIdeal.main_arg1)) (m ((c.tc : Thread Cert.EvenGradRefIdeal.nD Cert.EvenGradRefIdeal.τ).loc Cert.EvenGradRefIdeal.main_arg2)) (m ((c.tc : Thread Cert.EvenGradRefIdeal.nD Cert.EvenGradRefIdeal.τ).loc Cert.EvenGradRefIdeal.main_arg3)) (m ((c.tc : Thread Cert.EvenGradRefIdeal.nD Cert.EvenGradRefIdeal.τ).loc Cert.EvenGradRefIdeal.main_arg4)) (m ((c.tc : Thread Cert.EvenGradRefIdeal.nD Cert.EvenGradRefIdeal.τ).loc Cert.EvenGradRefIdeal.main_arg5)) (m ((c.tc : Thread Cert.EvenGradRefIdeal.nD Cert.EvenGradRefIdeal.τ).loc Cert.EvenGradRefIdeal.main_arg6)) (m ((c.tc : Thread Cert.EvenGradRefIdeal.nD Cert.EvenGradRefIdeal.τ).loc Cert.EvenGradRefIdeal.main_arg7))).1 = (fun _ => 1#1)
    ∧ (Cert.Pre_even_finite.fn (F := Ideal) (m ((c.tc : Thread Cert.EvenGradRefIdeal.nD Cert.EvenGradRefIdeal.τ).loc Cert.EvenGradRefIdeal.main_arg0)) (m ((c.tc : Thread Cert.EvenGradRefIdeal.nD Cert.EvenGradRefIdeal.τ).loc Cert.EvenGradRefIdeal.main_arg1)) (m ((c.tc : Thread Cert.EvenGradRefIdeal.nD Cert.EvenGradRefIdeal.τ).loc Cert.EvenGradRefIdeal.main_arg2)) (m ((c.tc : Thread Cert.EvenGradRefIdeal.nD Cert.EvenGradRefIdeal.τ).loc Cert.EvenGradRefIdeal.main_arg3)) (m ((c.tc : Thread Cert.EvenGradRefIdeal.nD Cert.EvenGradRefIdeal.τ).loc Cert.EvenGradRefIdeal.main_arg4)) (m ((c.tc : Thread Cert.EvenGradRefIdeal.nD Cert.EvenGradRefIdeal.τ).loc Cert.EvenGradRefIdeal.main_arg5)) (m ((c.tc : Thread Cert.EvenGradRefIdeal.nD Cert.EvenGradRefIdeal.τ).loc Cert.EvenGradRefIdeal.main_arg6)) (m ((c.tc : Thread Cert.EvenGradRefIdeal.nD Cert.EvenGradRefIdeal.τ).loc Cert.EvenGradRefIdeal.main_arg7))).2.1 = (fun _ => 1#1)
    ∧ (Cert.Pre_even_finite.fn (F := Ideal) (m ((c.tc : Thread Cert.EvenGradRefIdeal.nD Cert.EvenGradRefIdeal.τ).loc Cert.EvenGradRefIdeal.main_arg0)) (m ((c.tc : Thread Cert.EvenGradRefIdeal.nD Cert.EvenGradRefIdeal.τ).loc Cert.EvenGradRefIdeal.main_arg1)) (m ((c.tc : Thread Cert.EvenGradRefIdeal.nD Cert.EvenGradRefIdeal.τ).loc Cert.EvenGradRefIdeal.main_arg2)) (m ((c.tc : Thread Cert.EvenGradRefIdeal.nD Cert.EvenGradRefIdeal.τ).loc Cert.EvenGradRefIdeal.main_arg3)) (m ((c.tc : Thread Cert.EvenGradRefIdeal.nD Cert.EvenGradRefIdeal.τ).loc Cert.EvenGradRefIdeal.main_arg4)) (m ((c.tc : Thread Cert.EvenGradRefIdeal.nD Cert.EvenGradRefIdeal.τ).loc Cert.EvenGradRefIdeal.main_arg5)) (m ((c.tc : Thread Cert.EvenGradRefIdeal.nD Cert.EvenGradRefIdeal.τ).loc Cert.EvenGradRefIdeal.main_arg6)) (m ((c.tc : Thread Cert.EvenGradRefIdeal.nD Cert.EvenGradRefIdeal.τ).loc Cert.EvenGradRefIdeal.main_arg7))).2.2.1 = (fun _ => 1#1)
    ∧ (Cert.Pre_even_finite.fn (F := Ideal) (m ((c.tc : Thread Cert.EvenGradRefIdeal.nD Cert.EvenGradRefIdeal.τ).loc Cert.EvenGradRefIdeal.main_arg0)) (m ((c.tc : Thread Cert.EvenGradRefIdeal.nD Cert.EvenGradRefIdeal.τ).loc Cert.EvenGradRefIdeal.main_arg1)) (m ((c.tc : Thread Cert.EvenGradRefIdeal.nD Cert.EvenGradRefIdeal.τ).loc Cert.EvenGradRefIdeal.main_arg2)) (m ((c.tc : Thread Cert.EvenGradRefIdeal.nD Cert.EvenGradRefIdeal.τ).loc Cert.EvenGradRefIdeal.main_arg3)) (m ((c.tc : Thread Cert.EvenGradRefIdeal.nD Cert.EvenGradRefIdeal.τ).loc Cert.EvenGradRefIdeal.main_arg4)) (m ((c.tc : Thread Cert.EvenGradRefIdeal.nD Cert.EvenGradRefIdeal.τ).loc Cert.EvenGradRefIdeal.main_arg5)) (m ((c.tc : Thread Cert.EvenGradRefIdeal.nD Cert.EvenGradRefIdeal.τ).loc Cert.EvenGradRefIdeal.main_arg6)) (m ((c.tc : Thread Cert.EvenGradRefIdeal.nD Cert.EvenGradRefIdeal.τ).loc Cert.EvenGradRefIdeal.main_arg7))).2.2.2.1 = (fun _ => 1#1)
    ∧ (Cert.Pre_even_finite.fn (F := Ideal) (m ((c.tc : Thread Cert.EvenGradRefIdeal.nD Cert.EvenGradRefIdeal.τ).loc Cert.EvenGradRefIdeal.main_arg0)) (m ((c.tc : Thread Cert.EvenGradRefIdeal.nD Cert.EvenGradRefIdeal.τ).loc Cert.EvenGradRefIdeal.main_arg1)) (m ((c.tc : Thread Cert.EvenGradRefIdeal.nD Cert.EvenGradRefIdeal.τ).loc Cert.EvenGradRefIdeal.main_arg2)) (m ((c.tc : Thread Cert.EvenGradRefIdeal.nD Cert.EvenGradRefIdeal.τ).loc Cert.EvenGradRefIdeal.main_arg3)) (m ((c.tc : Thread Cert.EvenGradRefIdeal.nD Cert.EvenGradRefIdeal.τ).loc Cert.EvenGradRefIdeal.main_arg4)) (m ((c.tc : Thread Cert.EvenGradRefIdeal.nD Cert.EvenGradRefIdeal.τ).loc Cert.EvenGradRefIdeal.main_arg5)) (m ((c.tc : Thread Cert.EvenGradRefIdeal.nD Cert.EvenGradRefIdeal.τ).loc Cert.EvenGradRefIdeal.main_arg6)) (m ((c.tc : Thread Cert.EvenGradRefIdeal.nD Cert.EvenGradRefIdeal.τ).loc Cert.EvenGradRefIdeal.main_arg7))).2.2.2.2.1 = (fun _ => 1#1)
    ∧ (Cert.Pre_even_finite.fn (F := Ideal) (m ((c.tc : Thread Cert.EvenGradRefIdeal.nD Cert.EvenGradRefIdeal.τ).loc Cert.EvenGradRefIdeal.main_arg0)) (m ((c.tc : Thread Cert.EvenGradRefIdeal.nD Cert.EvenGradRefIdeal.τ).loc Cert.EvenGradRefIdeal.main_arg1)) (m ((c.tc : Thread Cert.EvenGradRefIdeal.nD Cert.EvenGradRefIdeal.τ).loc Cert.EvenGradRefIdeal.main_arg2)) (m ((c.tc : Thread Cert.EvenGradRefIdeal.nD Cert.EvenGradRefIdeal.τ).loc Cert.EvenGradRefIdeal.main_arg3)) (m ((c.tc : Thread Cert.EvenGradRefIdeal.nD Cert.EvenGradRefIdeal.τ).loc Cert.EvenGradRefIdeal.main_arg4)) (m ((c.tc : Thread Cert.EvenGradRefIdeal.nD Cert.EvenGradRefIdeal.τ).loc Cert.EvenGradRefIdeal.main_arg5)) (m ((c.tc : Thread Cert.EvenGradRefIdeal.nD Cert.EvenGradRefIdeal.τ).loc Cert.EvenGradRefIdeal.main_arg6)) (m ((c.tc : Thread Cert.EvenGradRefIdeal.nD Cert.EvenGradRefIdeal.τ).loc Cert.EvenGradRefIdeal.main_arg7))).2.2.2.2.2 = (fun _ => 1#1)

def Pre_FfnGrad (m : (ℓ : Loc Cert.FfnGrad.nD Cert.FfnGrad.τ Cert.FfnGrad.sig) → Buf (Elt Bits) ℓ) : Prop :=
  True

def Pre_FfnGradIdeal (m : (ℓ : Loc Cert.FfnGradIdeal.nD Cert.FfnGradIdeal.τ Cert.FfnGradIdeal.sig) → Buf (Elt Ideal) ℓ) : Prop :=
  True

def Pre_FfnGradIdeal_ffn_finite [hPre_ffn_finite : Cert.Pre_ffn_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7))).1 = (fun _ => 1#1)
    ∧ (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7))).2.1 = (fun _ => 1#1)
    ∧ (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7))).2.2.1 = (fun _ => 1#1)
    ∧ (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7))).2.2.2 = (fun _ => 1#1)

def Pre_FfnGradRefIdeal (m : (ℓ : Loc Cert.FfnGradRefIdeal.nD Cert.FfnGradRefIdeal.τ Cert.FfnGradRefIdeal.sig) → Buf (Elt Ideal) ℓ) : Prop :=
  True

def Pre_FfnGradRefIdeal_ffn_finite [hPre_ffn_finite : Cert.Pre_ffn_finite.Facts] (m : (ℓ : Loc Cert.FfnGradRefIdeal.nD Cert.FfnGradRefIdeal.τ Cert.FfnGradRefIdeal.sig) → Buf (Elt Ideal) ℓ) : Prop :=
  ∀ c : Dev Cert.FfnGradRefIdeal.nD,
    (Cert.Pre_ffn_finite.fn (F := Ideal) (m ((c.tc : Thread Cert.FfnGradRefIdeal.nD Cert.FfnGradRefIdeal.τ).loc Cert.FfnGradRefIdeal.main_arg0)) (m ((c.tc : Thread Cert.FfnGradRefIdeal.nD Cert.FfnGradRefIdeal.τ).loc Cert.FfnGradRefIdeal.main_arg1)) (m ((c.tc : Thread Cert.FfnGradRefIdeal.nD Cert.FfnGradRefIdeal.τ).loc Cert.FfnGradRefIdeal.main_arg2)) (m ((c.tc : Thread Cert.FfnGradRefIdeal.nD Cert.FfnGradRefIdeal.τ).loc Cert.FfnGradRefIdeal.main_arg3)) (m ((c.tc : Thread Cert.FfnGradRefIdeal.nD Cert.FfnGradRefIdeal.τ).loc Cert.FfnGradRefIdeal.main_arg4)) (m ((c.tc : Thread Cert.FfnGradRefIdeal.nD Cert.FfnGradRefIdeal.τ).loc Cert.FfnGradRefIdeal.main_arg5)) (m ((c.tc : Thread Cert.FfnGradRefIdeal.nD Cert.FfnGradRefIdeal.τ).loc Cert.FfnGradRefIdeal.main_arg6)) (m ((c.tc : Thread Cert.FfnGradRefIdeal.nD Cert.FfnGradRefIdeal.τ).loc Cert.FfnGradRefIdeal.main_arg7))).1 = (fun _ => 1#1)
    ∧ (Cert.Pre_ffn_finite.fn (F := Ideal) (m ((c.tc : Thread Cert.FfnGradRefIdeal.nD Cert.FfnGradRefIdeal.τ).loc Cert.FfnGradRefIdeal.main_arg0)) (m ((c.tc : Thread Cert.FfnGradRefIdeal.nD Cert.FfnGradRefIdeal.τ).loc Cert.FfnGradRefIdeal.main_arg1)) (m ((c.tc : Thread Cert.FfnGradRefIdeal.nD Cert.FfnGradRefIdeal.τ).loc Cert.FfnGradRefIdeal.main_arg2)) (m ((c.tc : Thread Cert.FfnGradRefIdeal.nD Cert.FfnGradRefIdeal.τ).loc Cert.FfnGradRefIdeal.main_arg3)) (m ((c.tc : Thread Cert.FfnGradRefIdeal.nD Cert.FfnGradRefIdeal.τ).loc Cert.FfnGradRefIdeal.main_arg4)) (m ((c.tc : Thread Cert.FfnGradRefIdeal.nD Cert.FfnGradRefIdeal.τ).loc Cert.FfnGradRefIdeal.main_arg5)) (m ((c.tc : Thread Cert.FfnGradRefIdeal.nD Cert.FfnGradRefIdeal.τ).loc Cert.FfnGradRefIdeal.main_arg6)) (m ((c.tc : Thread Cert.FfnGradRefIdeal.nD Cert.FfnGradRefIdeal.τ).loc Cert.FfnGradRefIdeal.main_arg7))).2.1 = (fun _ => 1#1)
    ∧ (Cert.Pre_ffn_finite.fn (F := Ideal) (m ((c.tc : Thread Cert.FfnGradRefIdeal.nD Cert.FfnGradRefIdeal.τ).loc Cert.FfnGradRefIdeal.main_arg0)) (m ((c.tc : Thread Cert.FfnGradRefIdeal.nD Cert.FfnGradRefIdeal.τ).loc Cert.FfnGradRefIdeal.main_arg1)) (m ((c.tc : Thread Cert.FfnGradRefIdeal.nD Cert.FfnGradRefIdeal.τ).loc Cert.FfnGradRefIdeal.main_arg2)) (m ((c.tc : Thread Cert.FfnGradRefIdeal.nD Cert.FfnGradRefIdeal.τ).loc Cert.FfnGradRefIdeal.main_arg3)) (m ((c.tc : Thread Cert.FfnGradRefIdeal.nD Cert.FfnGradRefIdeal.τ).loc Cert.FfnGradRefIdeal.main_arg4)) (m ((c.tc : Thread Cert.FfnGradRefIdeal.nD Cert.FfnGradRefIdeal.τ).loc Cert.FfnGradRefIdeal.main_arg5)) (m ((c.tc : Thread Cert.FfnGradRefIdeal.nD Cert.FfnGradRefIdeal.τ).loc Cert.FfnGradRefIdeal.main_arg6)) (m ((c.tc : Thread Cert.FfnGradRefIdeal.nD Cert.FfnGradRefIdeal.τ).loc Cert.FfnGradRefIdeal.main_arg7))).2.2.1 = (fun _ => 1#1)
    ∧ (Cert.Pre_ffn_finite.fn (F := Ideal) (m ((c.tc : Thread Cert.FfnGradRefIdeal.nD Cert.FfnGradRefIdeal.τ).loc Cert.FfnGradRefIdeal.main_arg0)) (m ((c.tc : Thread Cert.FfnGradRefIdeal.nD Cert.FfnGradRefIdeal.τ).loc Cert.FfnGradRefIdeal.main_arg1)) (m ((c.tc : Thread Cert.FfnGradRefIdeal.nD Cert.FfnGradRefIdeal.τ).loc Cert.FfnGradRefIdeal.main_arg2)) (m ((c.tc : Thread Cert.FfnGradRefIdeal.nD Cert.FfnGradRefIdeal.τ).loc Cert.FfnGradRefIdeal.main_arg3)) (m ((c.tc : Thread Cert.FfnGradRefIdeal.nD Cert.FfnGradRefIdeal.τ).loc Cert.FfnGradRefIdeal.main_arg4)) (m ((c.tc : Thread Cert.FfnGradRefIdeal.nD Cert.FfnGradRefIdeal.τ).loc Cert.FfnGradRefIdeal.main_arg5)) (m ((c.tc : Thread Cert.FfnGradRefIdeal.nD Cert.FfnGradRefIdeal.τ).loc Cert.FfnGradRefIdeal.main_arg6)) (m ((c.tc : Thread Cert.FfnGradRefIdeal.nD Cert.FfnGradRefIdeal.τ).loc Cert.FfnGradRefIdeal.main_arg7))).2.2.2 = (fun _ => 1#1)

def Pre_SguGrad (m : (ℓ : Loc Cert.SguGrad.nD Cert.SguGrad.τ Cert.SguGrad.sig) → Buf (Elt Bits) ℓ) : Prop :=
  True

def Pre_SguGradIdeal (m : (ℓ : Loc Cert.SguGradIdeal.nD Cert.SguGradIdeal.τ Cert.SguGradIdeal.sig) → Buf (Elt Ideal) ℓ) : Prop :=
  True

def Pre_SguGradIdeal_sgu_finite [hPre_sgu_finite : Cert.Pre_sgu_finite.Facts] (m : (ℓ : Loc Cert.SguGradIdeal.nD Cert.SguGradIdeal.τ Cert.SguGradIdeal.sig) → Buf (Elt Ideal) ℓ) : Prop :=
  ∀ c : Dev Cert.SguGradIdeal.nD,
    (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4)) (m ((c.tc : Thread Cert.SguGradIdeal.nD Cert.SguGradIdeal.τ).loc Cert.SguGradIdeal.main_arg5)) (m ((c.tc : Thread Cert.SguGradIdeal.nD Cert.SguGradIdeal.τ).loc Cert.SguGradIdeal.main_arg6)) (m ((c.tc : Thread Cert.SguGradIdeal.nD Cert.SguGradIdeal.τ).loc Cert.SguGradIdeal.main_arg7))).1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4)) (m ((c.tc : Thread Cert.SguGradIdeal.nD Cert.SguGradIdeal.τ).loc Cert.SguGradIdeal.main_arg5)) (m ((c.tc : Thread Cert.SguGradIdeal.nD Cert.SguGradIdeal.τ).loc Cert.SguGradIdeal.main_arg6)) (m ((c.tc : Thread Cert.SguGradIdeal.nD Cert.SguGradIdeal.τ).loc Cert.SguGradIdeal.main_arg7))).2.1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4)) (m ((c.tc : Thread Cert.SguGradIdeal.nD Cert.SguGradIdeal.τ).loc Cert.SguGradIdeal.main_arg5)) (m ((c.tc : Thread Cert.SguGradIdeal.nD Cert.SguGradIdeal.τ).loc Cert.SguGradIdeal.main_arg6)) (m ((c.tc : Thread Cert.SguGradIdeal.nD Cert.SguGradIdeal.τ).loc Cert.SguGradIdeal.main_arg7))).2.2.1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4)) (m ((c.tc : Thread Cert.SguGradIdeal.nD Cert.SguGradIdeal.τ).loc Cert.SguGradIdeal.main_arg5)) (m ((c.tc : Thread Cert.SguGradIdeal.nD Cert.SguGradIdeal.τ).loc Cert.SguGradIdeal.main_arg6)) (m ((c.tc : Thread Cert.SguGradIdeal.nD Cert.SguGradIdeal.τ).loc Cert.SguGradIdeal.main_arg7))).2.2.2.1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4)) (m ((c.tc : Thread Cert.SguGradIdeal.nD Cert.SguGradIdeal.τ).loc Cert.SguGradIdeal.main_arg5)) (m ((c.tc : Thread Cert.SguGradIdeal.nD Cert.SguGradIdeal.τ).loc Cert.SguGradIdeal.main_arg6)) (m ((c.tc : Thread Cert.SguGradIdeal.nD Cert.SguGradIdeal.τ).loc Cert.SguGradIdeal.main_arg7))).2.2.2.2.1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4)) (m ((c.tc : Thread Cert.SguGradIdeal.nD Cert.SguGradIdeal.τ).loc Cert.SguGradIdeal.main_arg5)) (m ((c.tc : Thread Cert.SguGradIdeal.nD Cert.SguGradIdeal.τ).loc Cert.SguGradIdeal.main_arg6)) (m ((c.tc : Thread Cert.SguGradIdeal.nD Cert.SguGradIdeal.τ).loc Cert.SguGradIdeal.main_arg7))).2.2.2.2.2.1 = (fun _ => 1#1)
    ∧ (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4)) (m ((c.tc : Thread Cert.SguGradIdeal.nD Cert.SguGradIdeal.τ).loc Cert.SguGradIdeal.main_arg5)) (m ((c.tc : Thread Cert.SguGradIdeal.nD Cert.SguGradIdeal.τ).loc Cert.SguGradIdeal.main_arg6)) (m ((c.tc : Thread Cert.SguGradIdeal.nD Cert.SguGradIdeal.τ).loc Cert.SguGradIdeal.main_arg7))).2.2.2.2.2.2 = (fun _ => 1#1)

def Pre_SguGradRefIdeal (m : (ℓ : Loc Cert.SguGradRefIdeal.nD Cert.SguGradRefIdeal.τ Cert.SguGradRefIdeal.sig) → Buf (Elt Ideal) ℓ) : Prop :=
  True

def Pre_SguGradRefIdeal_sgu_finite [hPre_sgu_finite : Cert.Pre_sgu_finite.Facts] (m : (ℓ : Loc Cert.SguGradRefIdeal.nD Cert.SguGradRefIdeal.τ Cert.SguGradRefIdeal.sig) → Buf (Elt Ideal) ℓ) : Prop :=
  ∀ c : Dev Cert.SguGradRefIdeal.nD,
    (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4)) (m ((c.tc : Thread Cert.SguGradRefIdeal.nD Cert.SguGradRefIdeal.τ).loc Cert.SguGradRefIdeal.main_arg5)) (m ((c.tc : Thread Cert.SguGradRefIdeal.nD Cert.SguGradRefIdeal.τ).loc Cert.SguGradRefIdeal.main_arg6)) (m ((c.tc : Thread Cert.SguGradRefIdeal.nD Cert.SguGradRefIdeal.τ).loc Cert.SguGradRefIdeal.main_arg7))).1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4)) (m ((c.tc : Thread Cert.SguGradRefIdeal.nD Cert.SguGradRefIdeal.τ).loc Cert.SguGradRefIdeal.main_arg5)) (m ((c.tc : Thread Cert.SguGradRefIdeal.nD Cert.SguGradRefIdeal.τ).loc Cert.SguGradRefIdeal.main_arg6)) (m ((c.tc : Thread Cert.SguGradRefIdeal.nD Cert.SguGradRefIdeal.τ).loc Cert.SguGradRefIdeal.main_arg7))).2.1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4)) (m ((c.tc : Thread Cert.SguGradRefIdeal.nD Cert.SguGradRefIdeal.τ).loc Cert.SguGradRefIdeal.main_arg5)) (m ((c.tc : Thread Cert.SguGradRefIdeal.nD Cert.SguGradRefIdeal.τ).loc Cert.SguGradRefIdeal.main_arg6)) (m ((c.tc : Thread Cert.SguGradRefIdeal.nD Cert.SguGradRefIdeal.τ).loc Cert.SguGradRefIdeal.main_arg7))).2.2.1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4)) (m ((c.tc : Thread Cert.SguGradRefIdeal.nD Cert.SguGradRefIdeal.τ).loc Cert.SguGradRefIdeal.main_arg5)) (m ((c.tc : Thread Cert.SguGradRefIdeal.nD Cert.SguGradRefIdeal.τ).loc Cert.SguGradRefIdeal.main_arg6)) (m ((c.tc : Thread Cert.SguGradRefIdeal.nD Cert.SguGradRefIdeal.τ).loc Cert.SguGradRefIdeal.main_arg7))).2.2.2.1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4)) (m ((c.tc : Thread Cert.SguGradRefIdeal.nD Cert.SguGradRefIdeal.τ).loc Cert.SguGradRefIdeal.main_arg5)) (m ((c.tc : Thread Cert.SguGradRefIdeal.nD Cert.SguGradRefIdeal.τ).loc Cert.SguGradRefIdeal.main_arg6)) (m ((c.tc : Thread Cert.SguGradRefIdeal.nD Cert.SguGradRefIdeal.τ).loc Cert.SguGradRefIdeal.main_arg7))).2.2.2.2.1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4)) (m ((c.tc : Thread Cert.SguGradRefIdeal.nD Cert.SguGradRefIdeal.τ).loc Cert.SguGradRefIdeal.main_arg5)) (m ((c.tc : Thread Cert.SguGradRefIdeal.nD Cert.SguGradRefIdeal.τ).loc Cert.SguGradRefIdeal.main_arg6)) (m ((c.tc : Thread Cert.SguGradRefIdeal.nD Cert.SguGradRefIdeal.τ).loc Cert.SguGradRefIdeal.main_arg7))).2.2.2.2.2.1 = (fun _ => 1#1)
    ∧ (Cert.Pre_sgu_finite.fn (F := Ideal) (m ((c.tc : Thread Cert.SguGradRefIdeal.nD Cert.SguGradRefIdeal.τ).loc Cert.SguGradRefIdeal.main_arg0)) (m ((c.tc : Thread Cert.SguGradRefIdeal.nD Cert.SguGradRefIdeal.τ).loc Cert.SguGradRefIdeal.main_arg1)) (m ((c.tc : Thread Cert.SguGradRefIdeal.nD Cert.SguGradRefIdeal.τ).loc Cert.SguGradRefIdeal.main_arg2)) (m ((c.tc : Thread Cert.SguGradRefIdeal.nD Cert.SguGradRefIdeal.τ).loc Cert.SguGradRefIdeal.main_arg3)) (m ((c.tc : Thread Cert.SguGradRefIdeal.nD Cert.SguGradRefIdeal.τ).loc Cert.SguGradRefIdeal.main_arg4)) (m ((c.tc : Thread Cert.SguGradRefIdeal.nD Cert.SguGradRefIdeal.τ).loc Cert.SguGradRefIdeal.main_arg5)) (m ((c.tc : Thread Cert.SguGradRefIdeal.nD Cert.SguGradRefIdeal.τ).loc Cert.SguGradRefIdeal.main_arg6)) (m ((c.tc : Thread Cert.SguGradRefIdeal.nD Cert.SguGradRefIdeal.τ).loc Cert.SguGradRefIdeal.main_arg7))).2.2.2.2.2.2 = (fun _ => 1#1)

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossRefIdeal (m : (ℓ : Loc Cert.FfnLossRefIdeal.nD Cert.FfnLossRefIdeal.τ Cert.FfnLossRefIdeal.sig) → Buf (Elt Ideal) ℓ) : Prop :=
  True

def Pre_OddFwd (m : (ℓ : Loc Cert.OddFwd.nD Cert.OddFwd.τ Cert.OddFwd.sig) → Buf (Elt Bits) ℓ) : Prop :=
  True

def Pre_OddFwdIdeal (m : (ℓ : Loc Cert.OddFwdIdeal.nD Cert.OddFwdIdeal.τ Cert.OddFwdIdeal.sig) → Buf (Elt Ideal) ℓ) : Prop :=
  True

def Pre_OddFwdRefIdeal (m : (ℓ : Loc Cert.OddFwdRefIdeal.nD Cert.OddFwdRefIdeal.τ Cert.OddFwdRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_EvenFwd (m : (ℓ : Loc Cert.EvenFwd.nD Cert.EvenFwd.τ Cert.EvenFwd.sig) → Buf (Elt Bits) ℓ) : Prop :=
  True

def Pre_EvenFwdIdeal (m : (ℓ : Loc Cert.EvenFwdIdeal.nD Cert.EvenFwdIdeal.τ Cert.EvenFwdIdeal.sig) → Buf (Elt Ideal) ℓ) : Prop :=
  True

def Pre_EvenFwdIdeal_even_fwd_finite [hPre_even_fwd_finite : Cert.Pre_even_fwd_finite.Facts] (m : (ℓ : Loc Cert.EvenFwdIdeal.nD Cert.EvenFwdIdeal.τ Cert.EvenFwdIdeal.sig) → Buf (Elt Ideal) ℓ) : Prop :=
  ∀ c : Dev Cert.EvenFwdIdeal.nD,
    (Cert.Pre_even_fwd_finite.fn (F := Ideal) (m ((c.tc : Thread Cert.EvenFwdIdeal.nD Cert.EvenFwdIdeal.τ).loc Cert.EvenFwdIdeal.main_arg0)) (m ((c.tc : Thread Cert.EvenFwdIdeal.nD Cert.EvenFwdIdeal.τ).loc Cert.EvenFwdIdeal.main_arg1)) (m ((c.tc : Thread Cert.EvenFwdIdeal.nD Cert.EvenFwdIdeal.τ).loc Cert.EvenFwdIdeal.main_arg2)) (m ((c.tc : Thread Cert.EvenFwdIdeal.nD Cert.EvenFwdIdeal.τ).loc Cert.EvenFwdIdeal.main_arg3)) (m ((c.tc : Thread Cert.EvenFwdIdeal.nD Cert.EvenFwdIdeal.τ).loc Cert.EvenFwdIdeal.main_arg4)) (m ((c.tc : Thread Cert.EvenFwdIdeal.nD Cert.EvenFwdIdeal.τ).loc Cert.EvenFwdIdeal.main_arg5)) (m ((c.tc : Thread Cert.EvenFwdIdeal.nD Cert.EvenFwdIdeal.τ).loc Cert.EvenFwdIdeal.main_arg6)) (m ((c.tc : Thread Cert.EvenFwdIdeal.nD Cert.EvenFwdIdeal.τ).loc Cert.EvenFwdIdeal.main_arg7))).1 = (fun _ => 1#1)
    ∧ (Cert.Pre_even_fwd_finite.fn (F := Ideal) (m ((c.tc : Thread Cert.EvenFwdIdeal.nD Cert.EvenFwdIdeal.τ).loc Cert.EvenFwdIdeal.main_arg0)) (m ((c.tc : Thread Cert.EvenFwdIdeal.nD Cert.EvenFwdIdeal.τ).loc Cert.EvenFwdIdeal.main_arg1)) (m ((c.tc : Thread Cert.EvenFwdIdeal.nD Cert.EvenFwdIdeal.τ).loc Cert.EvenFwdIdeal.main_arg2)) (m ((c.tc : Thread Cert.EvenFwdIdeal.nD Cert.EvenFwdIdeal.τ).loc Cert.EvenFwdIdeal.main_arg3)) (m ((c.tc : Thread Cert.EvenFwdIdeal.nD Cert.EvenFwdIdeal.τ).loc Cert.EvenFwdIdeal.main_arg4)) (m ((c.tc : Thread Cert.EvenFwdIdeal.nD Cert.EvenFwdIdeal.τ).loc Cert.EvenFwdIdeal.main_arg5)) (m ((c.tc : Thread Cert.EvenFwdIdeal.nD Cert.EvenFwdIdeal.τ).loc Cert.EvenFwdIdeal.main_arg6)) (m ((c.tc : Thread Cert.EvenFwdIdeal.nD Cert.EvenFwdIdeal.τ).loc Cert.EvenFwdIdeal.main_arg7))).2 = (fun _ => 1#1)

def Pre_EvenFwdRefIdeal (m : (ℓ : Loc Cert.EvenFwdRefIdeal.nD Cert.EvenFwdRefIdeal.τ Cert.EvenFwdRefIdeal.sig) → Buf (Elt Ideal) ℓ) : Prop :=
  True

def Pre_EvenFwdRefIdeal_even_fwd_finite [hPre_even_fwd_finite : Cert.Pre_even_fwd_finite.Facts] (m : (ℓ : Loc Cert.EvenFwdRefIdeal.nD Cert.EvenFwdRefIdeal.τ Cert.EvenFwdRefIdeal.sig) → Buf (Elt Ideal) ℓ) : Prop :=
  ∀ c : Dev Cert.EvenFwdRefIdeal.nD,
    (Cert.Pre_even_fwd_finite.fn (F := Ideal) (m ((c.tc : Thread Cert.EvenFwdRefIdeal.nD Cert.EvenFwdRefIdeal.τ).loc Cert.EvenFwdRefIdeal.main_arg0)) (m ((c.tc : Thread Cert.EvenFwdRefIdeal.nD Cert.EvenFwdRefIdeal.τ).loc Cert.EvenFwdRefIdeal.main_arg1)) (m ((c.tc : Thread Cert.EvenFwdRefIdeal.nD Cert.EvenFwdRefIdeal.τ).loc Cert.EvenFwdRefIdeal.main_arg2)) (m ((c.tc : Thread Cert.EvenFwdRefIdeal.nD Cert.EvenFwdRefIdeal.τ).loc Cert.EvenFwdRefIdeal.main_arg3)) (m ((c.tc : Thread Cert.EvenFwdRefIdeal.nD Cert.EvenFwdRefIdeal.τ).loc Cert.EvenFwdRefIdeal.main_arg4)) (m ((c.tc : Thread Cert.EvenFwdRefIdeal.nD Cert.EvenFwdRefIdeal.τ).loc Cert.EvenFwdRefIdeal.main_arg5)) (m ((c.tc : Thread Cert.EvenFwdRefIdeal.nD Cert.EvenFwdRefIdeal.τ).loc Cert.EvenFwdRefIdeal.main_arg6)) (m ((c.tc : Thread Cert.EvenFwdRefIdeal.nD Cert.EvenFwdRefIdeal.τ).loc Cert.EvenFwdRefIdeal.main_arg7))).1 = (fun _ => 1#1)
    ∧ (Cert.Pre_even_fwd_finite.fn (F := Ideal) (m ((c.tc : Thread Cert.EvenFwdRefIdeal.nD Cert.EvenFwdRefIdeal.τ).loc Cert.EvenFwdRefIdeal.main_arg0)) (m ((c.tc : Thread Cert.EvenFwdRefIdeal.nD Cert.EvenFwdRefIdeal.τ).loc Cert.EvenFwdRefIdeal.main_arg1)) (m ((c.tc : Thread Cert.EvenFwdRefIdeal.nD Cert.EvenFwdRefIdeal.τ).loc Cert.EvenFwdRefIdeal.main_arg2)) (m ((c.tc : Thread Cert.EvenFwdRefIdeal.nD Cert.EvenFwdRefIdeal.τ).loc Cert.EvenFwdRefIdeal.main_arg3)) (m ((c.tc : Thread Cert.EvenFwdRefIdeal.nD Cert.EvenFwdRefIdeal.τ).loc Cert.EvenFwdRefIdeal.main_arg4)) (m ((c.tc : Thread Cert.EvenFwdRefIdeal.nD Cert.EvenFwdRefIdeal.τ).loc Cert.EvenFwdRefIdeal.main_arg5)) (m ((c.tc : Thread Cert.EvenFwdRefIdeal.nD Cert.EvenFwdRefIdeal.τ).loc Cert.EvenFwdRefIdeal.main_arg6)) (m ((c.tc : Thread Cert.EvenFwdRefIdeal.nD Cert.EvenFwdRefIdeal.τ).loc Cert.EvenFwdRefIdeal.main_arg7))).2 = (fun _ => 1#1)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4)
      ∧ r.2.mem ((c.tc : Thread Cert.FfnDx.nD Cert.FfnDx.τ).loc Cert.FfnDx.main_arg5) = m ((c.tc : Thread Cert.FfnDx.nD Cert.FfnDx.τ).loc Cert.FfnDx.main_arg5)
      ∧ r.2.mem ((c.tc : Thread Cert.FfnDx.nD Cert.FfnDx.τ).loc Cert.FfnDx.main_arg6) = m ((c.tc : Thread Cert.FfnDx.nD Cert.FfnDx.τ).loc Cert.FfnDx.main_arg6))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3)
      ∧ r.2.mem ((c.tc : Thread Cert.FfnDxRefIdeal.nD Cert.FfnDxRefIdeal.τ).loc Cert.FfnDxRefIdeal.main_arg4) = m ((c.tc : Thread Cert.FfnDxRefIdeal.nD Cert.FfnDxRefIdeal.τ).loc Cert.FfnDxRefIdeal.main_arg4)
      ∧ r.2.mem ((c.tc : Thread Cert.FfnDxRefIdeal.nD Cert.FfnDxRefIdeal.τ).loc Cert.FfnDxRefIdeal.main_arg5) = m ((c.tc : Thread Cert.FfnDxRefIdeal.nD Cert.FfnDxRefIdeal.τ).loc Cert.FfnDxRefIdeal.main_arg5)
      ∧ r.2.mem ((c.tc : Thread Cert.FfnDxRefIdeal.nD Cert.FfnDxRefIdeal.τ).loc Cert.FfnDxRefIdeal.main_arg6) = m ((c.tc : Thread Cert.FfnDxRefIdeal.nD Cert.FfnDxRefIdeal.τ).loc Cert.FfnDxRefIdeal.main_arg6))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2)
      ∧ r.2.mem ((c.tc : Thread Cert.MixDx.nD Cert.MixDx.τ).loc Cert.MixDx.main_arg3) = m ((c.tc : Thread Cert.MixDx.nD Cert.MixDx.τ).loc Cert.MixDx.main_arg3)
      ∧ r.2.mem ((c.tc : Thread Cert.MixDx.nD Cert.MixDx.τ).loc Cert.MixDx.main_arg4) = m ((c.tc : Thread Cert.MixDx.nD Cert.MixDx.τ).loc Cert.MixDx.main_arg4))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4))
      ∧ r.2.sem = fun _ => 0)

def quiescent_EvenGrad [hEvenGrad : Cert.EvenGrad.Facts] : Prop :=
  ∀ (m : (ℓ : Loc Cert.EvenGrad.nD Cert.EvenGrad.τ Cert.EvenGrad.sig) → Buf (Elt Bits) ℓ) (g : Dev Cert.EvenGrad.nD → PrngReg), Pre_EvenGrad m →
    θ_run (Cert.EvenGrad.defs (F := Bits)) (onTc (τ := Cert.EvenGrad.τ) (Cert.EvenGrad.main (F := Bits))) ⟨m, fun _ => 0, g⟩ (fun r => (∀ c : Dev Cert.EvenGrad.nD,
      r.2.mem ((c.tc : Thread Cert.EvenGrad.nD Cert.EvenGrad.τ).loc Cert.EvenGrad.main_arg0) = m ((c.tc : Thread Cert.EvenGrad.nD Cert.EvenGrad.τ).loc Cert.EvenGrad.main_arg0)
      ∧ r.2.mem ((c.tc : Thread Cert.EvenGrad.nD Cert.EvenGrad.τ).loc Cert.EvenGrad.main_arg1) = m ((c.tc : Thread Cert.EvenGrad.nD Cert.EvenGrad.τ).loc Cert.EvenGrad.main_arg1)
      ∧ r.2.mem ((c.tc : Thread Cert.EvenGrad.nD Cert.EvenGrad.τ).loc Cert.EvenGrad.main_arg2) = m ((c.tc : Thread Cert.EvenGrad.nD Cert.EvenGrad.τ).loc Cert.EvenGrad.main_arg2)
      ∧ r.2.mem ((c.tc : Thread Cert.EvenGrad.nD Cert.EvenGrad.τ).loc Cert.EvenGrad.main_arg3) = m ((c.tc : Thread Cert.EvenGrad.nD Cert.EvenGrad.τ).loc Cert.EvenGrad.main_arg3)
      ∧ r.2.mem ((c.tc : Thread Cert.EvenGrad.nD Cert.EvenGrad.τ).loc Cert.EvenGrad.main_arg4) = m ((c.tc : Thread Cert.EvenGrad.nD Cert.EvenGrad.τ).loc Cert.EvenGrad.main_arg4)
      ∧ r.2.mem ((c.tc : Thread Cert.EvenGrad.nD Cert.EvenGrad.τ).loc Cert.EvenGrad.main_arg5) = m ((c.tc : Thread Cert.EvenGrad.nD Cert.EvenGrad.τ).loc Cert.EvenGrad.main_arg5)
      ∧ r.2.mem ((c.tc : Thread Cert.EvenGrad.nD Cert.EvenGrad.τ).loc Cert.EvenGrad.main_arg6) = m ((c.tc : Thread Cert.EvenGrad.nD Cert.EvenGrad.τ).loc Cert.EvenGrad.main_arg6)
      ∧ r.2.mem ((c.tc : Thread Cert.EvenGrad.nD Cert.EvenGrad.τ).loc Cert.EvenGrad.main_arg7) = m ((c.tc : Thread Cert.EvenGrad.nD Cert.EvenGrad.τ).loc Cert.EvenGrad.main_arg7))
      ∧ r.2.sem = fun _ => 0)

def quiescent_EvenGradIdeal [hEvenGradIdeal : Cert.EvenGradIdeal.Facts] : Prop :=
  ∀ (m : (ℓ : Loc Cert.EvenGradIdeal.nD Cert.EvenGradIdeal.τ Cert.EvenGradIdeal.sig) → Buf (Elt Ideal) ℓ) (g : Dev Cert.EvenGradIdeal.nD → PrngReg), Pre_EvenGradIdeal m →
    θ_run (Cert.EvenGradIdeal.defs (F := Ideal)) (onTc (τ := Cert.EvenGradIdeal.τ) (Cert.EvenGradIdeal.main (F := Ideal))) ⟨m, fun _ => 0, g⟩ (fun r => (∀ c : Dev Cert.EvenGradIdeal.nD,
      r.2.mem ((c.tc : Thread Cert.EvenGradIdeal.nD Cert.EvenGradIdeal.τ).loc Cert.EvenGradIdeal.main_arg0) = m ((c.tc : Thread Cert.EvenGradIdeal.nD Cert.EvenGradIdeal.τ).loc Cert.EvenGradIdeal.main_arg0)
      ∧ r.2.mem ((c.tc : Thread Cert.EvenGradIdeal.nD Cert.EvenGradIdeal.τ).loc Cert.EvenGradIdeal.main_arg1) = m ((c.tc : Thread Cert.EvenGradIdeal.nD Cert.EvenGradIdeal.τ).loc Cert.EvenGradIdeal.main_arg1)
      ∧ r.2.mem ((c.tc : Thread Cert.EvenGradIdeal.nD Cert.EvenGradIdeal.τ).loc Cert.EvenGradIdeal.main_arg2) = m ((c.tc : Thread Cert.EvenGradIdeal.nD Cert.EvenGradIdeal.τ).loc Cert.EvenGradIdeal.main_arg2)
      ∧ r.2.mem ((c.tc : Thread Cert.EvenGradIdeal.nD Cert.EvenGradIdeal.τ).loc Cert.EvenGradIdeal.main_arg3) = m ((c.tc : Thread Cert.EvenGradIdeal.nD Cert.EvenGradIdeal.τ).loc Cert.EvenGradIdeal.main_arg3)
      ∧ r.2.mem ((c.tc : Thread Cert.EvenGradIdeal.nD Cert.EvenGradIdeal.τ).loc Cert.EvenGradIdeal.main_arg4) = m ((c.tc : Thread Cert.EvenGradIdeal.nD Cert.EvenGradIdeal.τ).loc Cert.EvenGradIdeal.main_arg4)
      ∧ r.2.mem ((c.tc : Thread Cert.EvenGradIdeal.nD Cert.EvenGradIdeal.τ).loc Cert.EvenGradIdeal.main_arg5) = m ((c.tc : Thread Cert.EvenGradIdeal.nD Cert.EvenGradIdeal.τ).loc Cert.EvenGradIdeal.main_arg5)
      ∧ r.2.mem ((c.tc : Thread Cert.EvenGradIdeal.nD Cert.EvenGradIdeal.τ).loc Cert.EvenGradIdeal.main_arg6) = m ((c.tc : Thread Cert.EvenGradIdeal.nD Cert.EvenGradIdeal.τ).loc Cert.EvenGradIdeal.main_arg6)
      ∧ r.2.mem ((c.tc : Thread Cert.EvenGradIdeal.nD Cert.EvenGradIdeal.τ).loc Cert.EvenGradIdeal.main_arg7) = m ((c.tc : Thread Cert.EvenGradIdeal.nD Cert.EvenGradIdeal.τ).loc Cert.EvenGradIdeal.main_arg7))
      ∧ r.2.sem = fun _ => 0)

def quiescent_EvenGradIdeal_pre_even_finite [hEvenGradIdeal : Cert.EvenGradIdeal.Facts] [hPre_even_finite : Cert.Pre_even_finite.Facts] : Prop :=
  ∀ (m : (ℓ : Loc Cert.EvenGradIdeal.nD Cert.EvenGradIdeal.τ Cert.EvenGradIdeal.sig) → Buf (Elt Ideal) ℓ) (g : Dev Cert.EvenGradIdeal.nD → PrngReg), Pre_EvenGradIdeal_even_finite m →
    θ_run (Cert.EvenGradIdeal.defs (F := Ideal)) (onTc (τ := Cert.EvenGradIdeal.τ) (Cert.EvenGradIdeal.main (F := Ideal))) ⟨m, fun _ => 0, g⟩ (fun r => (∀ c : Dev Cert.EvenGradIdeal.nD,
      r.2.mem ((c.tc : Thread Cert.EvenGradIdeal.nD Cert.EvenGradIdeal.τ).loc Cert.EvenGradIdeal.main_arg0) = m ((c.tc : Thread Cert.EvenGradIdeal.nD Cert.EvenGradIdeal.τ).loc Cert.EvenGradIdeal.main_arg0)
      ∧ r.2.mem ((c.tc : Thread Cert.EvenGradIdeal.nD Cert.EvenGradIdeal.τ).loc Cert.EvenGradIdeal.main_arg1) = m ((c.tc : Thread Cert.EvenGradIdeal.nD Cert.EvenGradIdeal.τ).loc Cert.EvenGradIdeal.main_arg1)
      ∧ r.2.mem ((c.tc : Thread Cert.EvenGradIdeal.nD Cert.EvenGradIdeal.τ).loc Cert.EvenGradIdeal.main_arg2) = m ((c.tc : Thread Cert.EvenGradIdeal.nD Cert.EvenGradIdeal.τ).loc Cert.EvenGradIdeal.main_arg2)
      ∧ r.2.mem ((c.tc : Thread Cert.EvenGradIdeal.nD Cert.EvenGradIdeal.τ).loc Cert.EvenGradIdeal.main_arg3) = m ((c.tc : Thread Cert.EvenGradIdeal.nD Cert.EvenGradIdeal.τ).loc Cert.EvenGradIdeal.main_arg3)
      ∧ r.2.mem ((c.tc : Thread Cert.EvenGradIdeal.nD Cert.EvenGradIdeal.τ).loc Cert.EvenGradIdeal.main_arg4) = m ((c.tc : Thread Cert.EvenGradIdeal.nD Cert.EvenGradIdeal.τ).loc Cert.EvenGradIdeal.main_arg4)
      ∧ r.2.mem ((c.tc : Thread Cert.EvenGradIdeal.nD Cert.EvenGradIdeal.τ).loc Cert.EvenGradIdeal.main_arg5) = m ((c.tc : Thread Cert.EvenGradIdeal.nD Cert.EvenGradIdeal.τ).loc Cert.EvenGradIdeal.main_arg5)
      ∧ r.2.mem ((c.tc : Thread Cert.EvenGradIdeal.nD Cert.EvenGradIdeal.τ).loc Cert.EvenGradIdeal.main_arg6) = m ((c.tc : Thread Cert.EvenGradIdeal.nD Cert.EvenGradIdeal.τ).loc Cert.EvenGradIdeal.main_arg6)
      ∧ r.2.mem ((c.tc : Thread Cert.EvenGradIdeal.nD Cert.EvenGradIdeal.τ).loc Cert.EvenGradIdeal.main_arg7) = m ((c.tc : Thread Cert.EvenGradIdeal.nD Cert.EvenGradIdeal.τ).loc Cert.EvenGradIdeal.main_arg7))
      ∧ r.2.sem = fun _ => 0)

def quiescent_EvenGradRefIdeal [hEvenGradRefIdeal : Cert.EvenGradRefIdeal.Facts] : Prop :=
  ∀ (m : (ℓ : Loc Cert.EvenGradRefIdeal.nD Cert.EvenGradRefIdeal.τ Cert.EvenGradRefIdeal.sig) → Buf (Elt Ideal) ℓ) (g : Dev Cert.EvenGradRefIdeal.nD → PrngReg), Pre_EvenGradRefIdeal m →
    θ_run (Cert.EvenGradRefIdeal.defs (F := Ideal)) (onTc (τ := Cert.EvenGradRefIdeal.τ) (Cert.EvenGradRefIdeal.main (F := Ideal))) ⟨m, fun _ => 0, g⟩ (fun r => (∀ c : Dev Cert.EvenGradRefIdeal.nD,
      r.2.mem ((c.tc : Thread Cert.EvenGradRefIdeal.nD Cert.EvenGradRefIdeal.τ).loc Cert.EvenGradRefIdeal.main_arg0) = m ((c.tc : Thread Cert.EvenGradRefIdeal.nD Cert.EvenGradRefIdeal.τ).loc Cert.EvenGradRefIdeal.main_arg0)
      ∧ r.2.mem ((c.tc : Thread Cert.EvenGradRefIdeal.nD Cert.EvenGradRefIdeal.τ).loc Cert.EvenGradRefIdeal.main_arg1) = m ((c.tc : Thread Cert.EvenGradRefIdeal.nD Cert.EvenGradRefIdeal.τ).loc Cert.EvenGradRefIdeal.main_arg1)
      ∧ r.2.mem ((c.tc : Thread Cert.EvenGradRefIdeal.nD Cert.EvenGradRefIdeal.τ).loc Cert.EvenGradRefIdeal.main_arg2) = m ((c.tc : Thread Cert.EvenGradRefIdeal.nD Cert.EvenGradRefIdeal.τ).loc Cert.EvenGradRefIdeal.main_arg2)
      ∧ r.2.mem ((c.tc : Thread Cert.EvenGradRefIdeal.nD Cert.EvenGradRefIdeal.τ).loc Cert.EvenGradRefIdeal.main_arg3) = m ((c.tc : Thread Cert.EvenGradRefIdeal.nD Cert.EvenGradRefIdeal.τ).loc Cert.EvenGradRefIdeal.main_arg3)
      ∧ r.2.mem ((c.tc : Thread Cert.EvenGradRefIdeal.nD Cert.EvenGradRefIdeal.τ).loc Cert.EvenGradRefIdeal.main_arg4) = m ((c.tc : Thread Cert.EvenGradRefIdeal.nD Cert.EvenGradRefIdeal.τ).loc Cert.EvenGradRefIdeal.main_arg4)
      ∧ r.2.mem ((c.tc : Thread Cert.EvenGradRefIdeal.nD Cert.EvenGradRefIdeal.τ).loc Cert.EvenGradRefIdeal.main_arg5) = m ((c.tc : Thread Cert.EvenGradRefIdeal.nD Cert.EvenGradRefIdeal.τ).loc Cert.EvenGradRefIdeal.main_arg5)
      ∧ r.2.mem ((c.tc : Thread Cert.EvenGradRefIdeal.nD Cert.EvenGradRefIdeal.τ).loc Cert.EvenGradRefIdeal.main_arg6) = m ((c.tc : Thread Cert.EvenGradRefIdeal.nD Cert.EvenGradRefIdeal.τ).loc Cert.EvenGradRefIdeal.main_arg6)
      ∧ r.2.mem ((c.tc : Thread Cert.EvenGradRefIdeal.nD Cert.EvenGradRefIdeal.τ).loc Cert.EvenGradRefIdeal.main_arg7) = m ((c.tc : Thread Cert.EvenGradRefIdeal.nD Cert.EvenGradRefIdeal.τ).loc Cert.EvenGradRefIdeal.main_arg7))
      ∧ r.2.sem = fun _ => 0)

def quiescent_EvenGradRefIdeal_pre_even_finite [hEvenGradRefIdeal : Cert.EvenGradRefIdeal.Facts] [hPre_even_finite : Cert.Pre_even_finite.Facts] : Prop :=
  ∀ (m : (ℓ : Loc Cert.EvenGradRefIdeal.nD Cert.EvenGradRefIdeal.τ Cert.EvenGradRefIdeal.sig) → Buf (Elt Ideal) ℓ) (g : Dev Cert.EvenGradRefIdeal.nD → PrngReg), Pre_EvenGradRefIdeal_even_finite m →
    θ_run (Cert.EvenGradRefIdeal.defs (F := Ideal)) (onTc (τ := Cert.EvenGradRefIdeal.τ) (Cert.EvenGradRefIdeal.main (F := Ideal))) ⟨m, fun _ => 0, g⟩ (fun r => (∀ c : Dev Cert.EvenGradRefIdeal.nD,
      r.2.mem ((c.tc : Thread Cert.EvenGradRefIdeal.nD Cert.EvenGradRefIdeal.τ).loc Cert.EvenGradRefIdeal.main_arg0) = m ((c.tc : Thread Cert.EvenGradRefIdeal.nD Cert.EvenGradRefIdeal.τ).loc Cert.EvenGradRefIdeal.main_arg0)
      ∧ r.2.mem ((c.tc : Thread Cert.EvenGradRefIdeal.nD Cert.EvenGradRefIdeal.τ).loc Cert.EvenGradRefIdeal.main_arg1) = m ((c.tc : Thread Cert.EvenGradRefIdeal.nD Cert.EvenGradRefIdeal.τ).loc Cert.EvenGradRefIdeal.main_arg1)
      ∧ r.2.mem ((c.tc : Thread Cert.EvenGradRefIdeal.nD Cert.EvenGradRefIdeal.τ).loc Cert.EvenGradRefIdeal.main_arg2) = m ((c.tc : Thread Cert.EvenGradRefIdeal.nD Cert.EvenGradRefIdeal.τ).loc Cert.EvenGradRefIdeal.main_arg2)
      ∧ r.2.mem ((c.tc : Thread Cert.EvenGradRefIdeal.nD Cert.EvenGradRefIdeal.τ).loc Cert.EvenGradRefIdeal.main_arg3) = m ((c.tc : Thread Cert.EvenGradRefIdeal.nD Cert.EvenGradRefIdeal.τ).loc Cert.EvenGradRefIdeal.main_arg3)
      ∧ r.2.mem ((c.tc : Thread Cert.EvenGradRefIdeal.nD Cert.EvenGradRefIdeal.τ).loc Cert.EvenGradRefIdeal.main_arg4) = m ((c.tc : Thread Cert.EvenGradRefIdeal.nD Cert.EvenGradRefIdeal.τ).loc Cert.EvenGradRefIdeal.main_arg4)
      ∧ r.2.mem ((c.tc : Thread Cert.EvenGradRefIdeal.nD Cert.EvenGradRefIdeal.τ).loc Cert.EvenGradRefIdeal.main_arg5) = m ((c.tc : Thread Cert.EvenGradRefIdeal.nD Cert.EvenGradRefIdeal.τ).loc Cert.EvenGradRefIdeal.main_arg5)
      ∧ r.2.mem ((c.tc : Thread Cert.EvenGradRefIdeal.nD Cert.EvenGradRefIdeal.τ).loc Cert.EvenGradRefIdeal.main_arg6) = m ((c.tc : Thread Cert.EvenGradRefIdeal.nD Cert.EvenGradRefIdeal.τ).loc Cert.EvenGradRefIdeal.main_arg6)
      ∧ r.2.mem ((c.tc : Thread Cert.EvenGradRefIdeal.nD Cert.EvenGradRefIdeal.τ).loc Cert.EvenGradRefIdeal.main_arg7) = m ((c.tc : Thread Cert.EvenGradRefIdeal.nD Cert.EvenGradRefIdeal.τ).loc Cert.EvenGradRefIdeal.main_arg7))
      ∧ r.2.sem = fun _ => 0)

def quiescent_FfnGrad [hFfnGrad : Cert.FfnGrad.Facts] : Prop :=
  ∀ (m : (ℓ : Loc Cert.FfnGrad.nD Cert.FfnGrad.τ Cert.FfnGrad.sig) → Buf (Elt Bits) ℓ) (g : Dev Cert.FfnGrad.nD → PrngReg), Pre_FfnGrad m →
    θ_run (Cert.FfnGrad.defs (F := Bits)) (onTc (τ := Cert.FfnGrad.τ) (Cert.FfnGrad.main (F := Bits))) ⟨m, fun _ => 0, g⟩ (fun r => (∀ c : Dev Cert.FfnGrad.nD,
      r.2.mem ((c.tc : Thread Cert.FfnGrad.nD Cert.FfnGrad.τ).loc Cert.FfnGrad.main_arg0) = m ((c.tc : Thread Cert.FfnGrad.nD Cert.FfnGrad.τ).loc Cert.FfnGrad.main_arg0)
      ∧ r.2.mem ((c.tc : Thread Cert.FfnGrad.nD Cert.FfnGrad.τ).loc Cert.FfnGrad.main_arg1) = m ((c.tc : Thread Cert.FfnGrad.nD Cert.FfnGrad.τ).loc Cert.FfnGrad.main_arg1)
      ∧ r.2.mem ((c.tc : Thread Cert.FfnGrad.nD Cert.FfnGrad.τ).loc Cert.FfnGrad.main_arg2) = m ((c.tc : Thread Cert.FfnGrad.nD Cert.FfnGrad.τ).loc Cert.FfnGrad.main_arg2)
      ∧ r.2.mem ((c.tc : Thread Cert.FfnGrad.nD Cert.FfnGrad.τ).loc Cert.FfnGrad.main_arg3) = m ((c.tc : Thread Cert.FfnGrad.nD Cert.FfnGrad.τ).loc Cert.FfnGrad.main_arg3)
      ∧ r.2.mem ((c.tc : Thread Cert.FfnGrad.nD Cert.FfnGrad.τ).loc Cert.FfnGrad.main_arg4) = m ((c.tc : Thread Cert.FfnGrad.nD Cert.FfnGrad.τ).loc Cert.FfnGrad.main_arg4)
      ∧ r.2.mem ((c.tc : Thread Cert.FfnGrad.nD Cert.FfnGrad.τ).loc Cert.FfnGrad.main_arg5) = m ((c.tc : Thread Cert.FfnGrad.nD Cert.FfnGrad.τ).loc Cert.FfnGrad.main_arg5)
      ∧ r.2.mem ((c.tc : Thread Cert.FfnGrad.nD Cert.FfnGrad.τ).loc Cert.FfnGrad.main_arg6) = m ((c.tc : Thread Cert.FfnGrad.nD Cert.FfnGrad.τ).loc Cert.FfnGrad.main_arg6)
      ∧ r.2.mem ((c.tc : Thread Cert.FfnGrad.nD Cert.FfnGrad.τ).loc Cert.FfnGrad.main_arg7) = m ((c.tc : Thread Cert.FfnGrad.nD Cert.FfnGrad.τ).loc Cert.FfnGrad.main_arg7))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6)
      ∧ r.2.mem ((c.tc : Thread Cert.FfnGradIdeal.nD Cert.FfnGradIdeal.τ).loc Cert.FfnGradIdeal.main_arg7) = m ((c.tc : Thread Cert.FfnGradIdeal.nD Cert.FfnGradIdeal.τ).loc Cert.FfnGradIdeal.main_arg7))
      ∧ r.2.sem = fun _ => 0)

def quiescent_FfnGradIdeal_pre_ffn_finite [hFfnGradIdeal : Cert.FfnGradIdeal.Facts] [hPre_ffn_finite : Cert.Pre_ffn_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_ffn_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6)
      ∧ r.2.mem ((c.tc : Thread Cert.FfnGradIdeal.nD Cert.FfnGradIdeal.τ).loc Cert.FfnGradIdeal.main_arg7) = m ((c.tc : Thread Cert.FfnGradIdeal.nD Cert.FfnGradIdeal.τ).loc Cert.FfnGradIdeal.main_arg7))
      ∧ r.2.sem = fun _ => 0)

def quiescent_FfnGradRefIdeal [hFfnGradRefIdeal : Cert.FfnGradRefIdeal.Facts] : Prop :=
  ∀ (m : (ℓ : Loc Cert.FfnGradRefIdeal.nD Cert.FfnGradRefIdeal.τ Cert.FfnGradRefIdeal.sig) → Buf (Elt Ideal) ℓ) (g : Dev Cert.FfnGradRefIdeal.nD → PrngReg), Pre_FfnGradRefIdeal m →
    θ_run (Cert.FfnGradRefIdeal.defs (F := Ideal)) (onTc (τ := Cert.FfnGradRefIdeal.τ) (Cert.FfnGradRefIdeal.main (F := Ideal))) ⟨m, fun _ => 0, g⟩ (fun r => (∀ c : Dev Cert.FfnGradRefIdeal.nD,
      r.2.mem ((c.tc : Thread Cert.FfnGradRefIdeal.nD Cert.FfnGradRefIdeal.τ).loc Cert.FfnGradRefIdeal.main_arg0) = m ((c.tc : Thread Cert.FfnGradRefIdeal.nD Cert.FfnGradRefIdeal.τ).loc Cert.FfnGradRefIdeal.main_arg0)
      ∧ r.2.mem ((c.tc : Thread Cert.FfnGradRefIdeal.nD Cert.FfnGradRefIdeal.τ).loc Cert.FfnGradRefIdeal.main_arg1) = m ((c.tc : Thread Cert.FfnGradRefIdeal.nD Cert.FfnGradRefIdeal.τ).loc Cert.FfnGradRefIdeal.main_arg1)
      ∧ r.2.mem ((c.tc : Thread Cert.FfnGradRefIdeal.nD Cert.FfnGradRefIdeal.τ).loc Cert.FfnGradRefIdeal.main_arg2) = m ((c.tc : Thread Cert.FfnGradRefIdeal.nD Cert.FfnGradRefIdeal.τ).loc Cert.FfnGradRefIdeal.main_arg2)
      ∧ r.2.mem ((c.tc : Thread Cert.FfnGradRefIdeal.nD Cert.FfnGradRefIdeal.τ).loc Cert.FfnGradRefIdeal.main_arg3) = m ((c.tc : Thread Cert.FfnGradRefIdeal.nD Cert.FfnGradRefIdeal.τ).loc Cert.FfnGradRefIdeal.main_arg3)
      ∧ r.2.mem ((c.tc : Thread Cert.FfnGradRefIdeal.nD Cert.FfnGradRefIdeal.τ).loc Cert.FfnGradRefIdeal.main_arg4) = m ((c.tc : Thread Cert.FfnGradRefIdeal.nD Cert.FfnGradRefIdeal.τ).loc Cert.FfnGradRefIdeal.main_arg4)
      ∧ r.2.mem ((c.tc : Thread Cert.FfnGradRefIdeal.nD Cert.FfnGradRefIdeal.τ).loc Cert.FfnGradRefIdeal.main_arg5) = m ((c.tc : Thread Cert.FfnGradRefIdeal.nD Cert.FfnGradRefIdeal.τ).loc Cert.FfnGradRefIdeal.main_arg5)
      ∧ r.2.mem ((c.tc : Thread Cert.FfnGradRefIdeal.nD Cert.FfnGradRefIdeal.τ).loc Cert.FfnGradRefIdeal.main_arg6) = m ((c.tc : Thread Cert.FfnGradRefIdeal.nD Cert.FfnGradRefIdeal.τ).loc Cert.FfnGradRefIdeal.main_arg6)
      ∧ r.2.mem ((c.tc : Thread Cert.FfnGradRefIdeal.nD Cert.FfnGradRefIdeal.τ).loc Cert.FfnGradRefIdeal.main_arg7) = m ((c.tc : Thread Cert.FfnGradRefIdeal.nD Cert.FfnGradRefIdeal.τ).loc Cert.FfnGradRefIdeal.main_arg7))
      ∧ r.2.sem = fun _ => 0)

def quiescent_FfnGradRefIdeal_pre_ffn_finite [hFfnGradRefIdeal : Cert.FfnGradRefIdeal.Facts] [hPre_ffn_finite : Cert.Pre_ffn_finite.Facts] : Prop :=
  ∀ (m : (ℓ : Loc Cert.FfnGradRefIdeal.nD Cert.FfnGradRefIdeal.τ Cert.FfnGradRefIdeal.sig) → Buf (Elt Ideal) ℓ) (g : Dev Cert.FfnGradRefIdeal.nD → PrngReg), Pre_FfnGradRefIdeal_ffn_finite m →
    θ_run (Cert.FfnGradRefIdeal.defs (F := Ideal)) (onTc (τ := Cert.FfnGradRefIdeal.τ) (Cert.FfnGradRefIdeal.main (F := Ideal))) ⟨m, fun _ => 0, g⟩ (fun r => (∀ c : Dev Cert.FfnGradRefIdeal.nD,
      r.2.mem ((c.tc : Thread Cert.FfnGradRefIdeal.nD Cert.FfnGradRefIdeal.τ).loc Cert.FfnGradRefIdeal.main_arg0) = m ((c.tc : Thread Cert.FfnGradRefIdeal.nD Cert.FfnGradRefIdeal.τ).loc Cert.FfnGradRefIdeal.main_arg0)
      ∧ r.2.mem ((c.tc : Thread Cert.FfnGradRefIdeal.nD Cert.FfnGradRefIdeal.τ).loc Cert.FfnGradRefIdeal.main_arg1) = m ((c.tc : Thread Cert.FfnGradRefIdeal.nD Cert.FfnGradRefIdeal.τ).loc Cert.FfnGradRefIdeal.main_arg1)
      ∧ r.2.mem ((c.tc : Thread Cert.FfnGradRefIdeal.nD Cert.FfnGradRefIdeal.τ).loc Cert.FfnGradRefIdeal.main_arg2) = m ((c.tc : Thread Cert.FfnGradRefIdeal.nD Cert.FfnGradRefIdeal.τ).loc Cert.FfnGradRefIdeal.main_arg2)
      ∧ r.2.mem ((c.tc : Thread Cert.FfnGradRefIdeal.nD Cert.FfnGradRefIdeal.τ).loc Cert.FfnGradRefIdeal.main_arg3) = m ((c.tc : Thread Cert.FfnGradRefIdeal.nD Cert.FfnGradRefIdeal.τ).loc Cert.FfnGradRefIdeal.main_arg3)
      ∧ r.2.mem ((c.tc : Thread Cert.FfnGradRefIdeal.nD Cert.FfnGradRefIdeal.τ).loc Cert.FfnGradRefIdeal.main_arg4) = m ((c.tc : Thread Cert.FfnGradRefIdeal.nD Cert.FfnGradRefIdeal.τ).loc Cert.FfnGradRefIdeal.main_arg4)
      ∧ r.2.mem ((c.tc : Thread Cert.FfnGradRefIdeal.nD Cert.FfnGradRefIdeal.τ).loc Cert.FfnGradRefIdeal.main_arg5) = m ((c.tc : Thread Cert.FfnGradRefIdeal.nD Cert.FfnGradRefIdeal.τ).loc Cert.FfnGradRefIdeal.main_arg5)
      ∧ r.2.mem ((c.tc : Thread Cert.FfnGradRefIdeal.nD Cert.FfnGradRefIdeal.τ).loc Cert.FfnGradRefIdeal.main_arg6) = m ((c.tc : Thread Cert.FfnGradRefIdeal.nD Cert.FfnGradRefIdeal.τ).loc Cert.FfnGradRefIdeal.main_arg6)
      ∧ r.2.mem ((c.tc : Thread Cert.FfnGradRefIdeal.nD Cert.FfnGradRefIdeal.τ).loc Cert.FfnGradRefIdeal.main_arg7) = m ((c.tc : Thread Cert.FfnGradRefIdeal.nD Cert.FfnGradRefIdeal.τ).loc Cert.FfnGradRefIdeal.main_arg7))
      ∧ r.2.sem = fun _ => 0)

def quiescent_SguGrad [hSguGrad : Cert.SguGrad.Facts] : Prop :=
  ∀ (m : (ℓ : Loc Cert.SguGrad.nD Cert.SguGrad.τ Cert.SguGrad.sig) → Buf (Elt Bits) ℓ) (g : Dev Cert.SguGrad.nD → PrngReg), Pre_SguGrad m →
    θ_run (Cert.SguGrad.defs (F := Bits)) (onTc (τ := Cert.SguGrad.τ) (Cert.SguGrad.main (F := Bits))) ⟨m, fun _ => 0, g⟩ (fun r => (∀ c : Dev Cert.SguGrad.nD,
      r.2.mem ((c.tc : Thread Cert.SguGrad.nD Cert.SguGrad.τ).loc Cert.SguGrad.main_arg0) = m ((c.tc : Thread Cert.SguGrad.nD Cert.SguGrad.τ).loc Cert.SguGrad.main_arg0)
      ∧ r.2.mem ((c.tc : Thread Cert.SguGrad.nD Cert.SguGrad.τ).loc Cert.SguGrad.main_arg1) = m ((c.tc : Thread Cert.SguGrad.nD Cert.SguGrad.τ).loc Cert.SguGrad.main_arg1)
      ∧ r.2.mem ((c.tc : Thread Cert.SguGrad.nD Cert.SguGrad.τ).loc Cert.SguGrad.main_arg2) = m ((c.tc : Thread Cert.SguGrad.nD Cert.SguGrad.τ).loc Cert.SguGrad.main_arg2)
      ∧ r.2.mem ((c.tc : Thread Cert.SguGrad.nD Cert.SguGrad.τ).loc Cert.SguGrad.main_arg3) = m ((c.tc : Thread Cert.SguGrad.nD Cert.SguGrad.τ).loc Cert.SguGrad.main_arg3)
      ∧ r.2.mem ((c.tc : Thread Cert.SguGrad.nD Cert.SguGrad.τ).loc Cert.SguGrad.main_arg4) = m ((c.tc : Thread Cert.SguGrad.nD Cert.SguGrad.τ).loc Cert.SguGrad.main_arg4)
      ∧ r.2.mem ((c.tc : Thread Cert.SguGrad.nD Cert.SguGrad.τ).loc Cert.SguGrad.main_arg5) = m ((c.tc : Thread Cert.SguGrad.nD Cert.SguGrad.τ).loc Cert.SguGrad.main_arg5)
      ∧ r.2.mem ((c.tc : Thread Cert.SguGrad.nD Cert.SguGrad.τ).loc Cert.SguGrad.main_arg6) = m ((c.tc : Thread Cert.SguGrad.nD Cert.SguGrad.τ).loc Cert.SguGrad.main_arg6)
      ∧ r.2.mem ((c.tc : Thread Cert.SguGrad.nD Cert.SguGrad.τ).loc Cert.SguGrad.main_arg7) = m ((c.tc : Thread Cert.SguGrad.nD Cert.SguGrad.τ).loc Cert.SguGrad.main_arg7))
      ∧ r.2.sem = fun _ => 0)

def quiescent_SguGradIdeal [hSguGradIdeal : Cert.SguGradIdeal.Facts] : Prop :=
  ∀ (m : (ℓ : Loc Cert.SguGradIdeal.nD Cert.SguGradIdeal.τ Cert.SguGradIdeal.sig) → Buf (Elt Ideal) ℓ) (g : Dev Cert.SguGradIdeal.nD → PrngReg), Pre_SguGradIdeal m →
    θ_run (Cert.SguGradIdeal.defs (F := Ideal)) (onTc (τ := Cert.SguGradIdeal.τ) (Cert.SguGradIdeal.main (F := Ideal))) ⟨m, fun _ => 0, g⟩ (fun r => (∀ c : Dev Cert.SguGradIdeal.nD,
      r.2.mem ((c.tc : Thread Cert.SguGradIdeal.nD Cert.SguGradIdeal.τ).loc Cert.SguGradIdeal.main_arg0) = m ((c.tc : Thread Cert.SguGradIdeal.nD Cert.SguGradIdeal.τ).loc Cert.SguGradIdeal.main_arg0)
      ∧ r.2.mem ((c.tc : Thread Cert.SguGradIdeal.nD Cert.SguGradIdeal.τ).loc Cert.SguGradIdeal.main_arg1) = m ((c.tc : Thread Cert.SguGradIdeal.nD Cert.SguGradIdeal.τ).loc Cert.SguGradIdeal.main_arg1)
      ∧ r.2.mem ((c.tc : Thread Cert.SguGradIdeal.nD Cert.SguGradIdeal.τ).loc Cert.SguGradIdeal.main_arg2) = m ((c.tc : Thread Cert.SguGradIdeal.nD Cert.SguGradIdeal.τ).loc Cert.SguGradIdeal.main_arg2)
      ∧ r.2.mem ((c.tc : Thread Cert.SguGradIdeal.nD Cert.SguGradIdeal.τ).loc Cert.SguGradIdeal.main_arg3) = m ((c.tc : Thread Cert.SguGradIdeal.nD Cert.SguGradIdeal.τ).loc Cert.SguGradIdeal.main_arg3)
      ∧ r.2.mem ((c.tc : Thread Cert.SguGradIdeal.nD Cert.SguGradIdeal.τ).loc Cert.SguGradIdeal.main_arg4) = m ((c.tc : Thread Cert.SguGradIdeal.nD Cert.SguGradIdeal.τ).loc Cert.SguGradIdeal.main_arg4)
      ∧ r.2.mem ((c.tc : Thread Cert.SguGradIdeal.nD Cert.SguGradIdeal.τ).loc Cert.SguGradIdeal.main_arg5) = m ((c.tc : Thread Cert.SguGradIdeal.nD Cert.SguGradIdeal.τ).loc Cert.SguGradIdeal.main_arg5)
      ∧ r.2.mem ((c.tc : Thread Cert.SguGradIdeal.nD Cert.SguGradIdeal.τ).loc Cert.SguGradIdeal.main_arg6) = m ((c.tc : Thread Cert.SguGradIdeal.nD Cert.SguGradIdeal.τ).loc Cert.SguGradIdeal.main_arg6)
      ∧ r.2.mem ((c.tc : Thread Cert.SguGradIdeal.nD Cert.SguGradIdeal.τ).loc Cert.SguGradIdeal.main_arg7) = m ((c.tc : Thread Cert.SguGradIdeal.nD Cert.SguGradIdeal.τ).loc Cert.SguGradIdeal.main_arg7))
      ∧ r.2.sem = fun _ => 0)

def quiescent_SguGradIdeal_pre_sgu_finite [hSguGradIdeal : Cert.SguGradIdeal.Facts] [hPre_sgu_finite : Cert.Pre_sgu_finite.Facts] : Prop :=
  ∀ (m : (ℓ : Loc Cert.SguGradIdeal.nD Cert.SguGradIdeal.τ Cert.SguGradIdeal.sig) → Buf (Elt Ideal) ℓ) (g : Dev Cert.SguGradIdeal.nD → PrngReg), Pre_SguGradIdeal_sgu_finite m →
    θ_run (Cert.SguGradIdeal.defs (F := Ideal)) (onTc (τ := Cert.SguGradIdeal.τ) (Cert.SguGradIdeal.main (F := Ideal))) ⟨m, fun _ => 0, g⟩ (fun r => (∀ c : Dev Cert.SguGradIdeal.nD,
      r.2.mem ((c.tc : Thread Cert.SguGradIdeal.nD Cert.SguGradIdeal.τ).loc Cert.SguGradIdeal.main_arg0) = m ((c.tc : Thread Cert.SguGradIdeal.nD Cert.SguGradIdeal.τ).loc Cert.SguGradIdeal.main_arg0)
      ∧ r.2.mem ((c.tc : Thread Cert.SguGradIdeal.nD Cert.SguGradIdeal.τ).loc Cert.SguGradIdeal.main_arg1) = m ((c.tc : Thread Cert.SguGradIdeal.nD Cert.SguGradIdeal.τ).loc Cert.SguGradIdeal.main_arg1)
      ∧ r.2.mem ((c.tc : Thread Cert.SguGradIdeal.nD Cert.SguGradIdeal.τ).loc Cert.SguGradIdeal.main_arg2) = m ((c.tc : Thread Cert.SguGradIdeal.nD Cert.SguGradIdeal.τ).loc Cert.SguGradIdeal.main_arg2)
      ∧ r.2.mem ((c.tc : Thread Cert.SguGradIdeal.nD Cert.SguGradIdeal.τ).loc Cert.SguGradIdeal.main_arg3) = m ((c.tc : Thread Cert.SguGradIdeal.nD Cert.SguGradIdeal.τ).loc Cert.SguGradIdeal.main_arg3)
      ∧ r.2.mem ((c.tc : Thread Cert.SguGradIdeal.nD Cert.SguGradIdeal.τ).loc Cert.SguGradIdeal.main_arg4) = m ((c.tc : Thread Cert.SguGradIdeal.nD Cert.SguGradIdeal.τ).loc Cert.SguGradIdeal.main_arg4)
      ∧ r.2.mem ((c.tc : Thread Cert.SguGradIdeal.nD Cert.SguGradIdeal.τ).loc Cert.SguGradIdeal.main_arg5) = m ((c.tc : Thread Cert.SguGradIdeal.nD Cert.SguGradIdeal.τ).loc Cert.SguGradIdeal.main_arg5)
      ∧ r.2.mem ((c.tc : Thread Cert.SguGradIdeal.nD Cert.SguGradIdeal.τ).loc Cert.SguGradIdeal.main_arg6) = m ((c.tc : Thread Cert.SguGradIdeal.nD Cert.SguGradIdeal.τ).loc Cert.SguGradIdeal.main_arg6)
      ∧ r.2.mem ((c.tc : Thread Cert.SguGradIdeal.nD Cert.SguGradIdeal.τ).loc Cert.SguGradIdeal.main_arg7) = m ((c.tc : Thread Cert.SguGradIdeal.nD Cert.SguGradIdeal.τ).loc Cert.SguGradIdeal.main_arg7))
      ∧ r.2.sem = fun _ => 0)

def quiescent_SguGradRefIdeal [hSguGradRefIdeal : Cert.SguGradRefIdeal.Facts] : Prop :=
  ∀ (m : (ℓ : Loc Cert.SguGradRefIdeal.nD Cert.SguGradRefIdeal.τ Cert.SguGradRefIdeal.sig) → Buf (Elt Ideal) ℓ) (g : Dev Cert.SguGradRefIdeal.nD → PrngReg), Pre_SguGradRefIdeal m →
    θ_run (Cert.SguGradRefIdeal.defs (F := Ideal)) (onTc (τ := Cert.SguGradRefIdeal.τ) (Cert.SguGradRefIdeal.main (F := Ideal))) ⟨m, fun _ => 0, g⟩ (fun r => (∀ c : Dev Cert.SguGradRefIdeal.nD,
      r.2.mem ((c.tc : Thread Cert.SguGradRefIdeal.nD Cert.SguGradRefIdeal.τ).loc Cert.SguGradRefIdeal.main_arg0) = m ((c.tc : Thread Cert.SguGradRefIdeal.nD Cert.SguGradRefIdeal.τ).loc Cert.SguGradRefIdeal.main_arg0)
      ∧ r.2.mem ((c.tc : Thread Cert.SguGradRefIdeal.nD Cert.SguGradRefIdeal.τ).loc Cert.SguGradRefIdeal.main_arg1) = m ((c.tc : Thread Cert.SguGradRefIdeal.nD Cert.SguGradRefIdeal.τ).loc Cert.SguGradRefIdeal.main_arg1)
      ∧ r.2.mem ((c.tc : Thread Cert.SguGradRefIdeal.nD Cert.SguGradRefIdeal.τ).loc Cert.SguGradRefIdeal.main_arg2) = m ((c.tc : Thread Cert.SguGradRefIdeal.nD Cert.SguGradRefIdeal.τ).loc Cert.SguGradRefIdeal.main_arg2)
      ∧ r.2.mem ((c.tc : Thread Cert.SguGradRefIdeal.nD Cert.SguGradRefIdeal.τ).loc Cert.SguGradRefIdeal.main_arg3) = m ((c.tc : Thread Cert.SguGradRefIdeal.nD Cert.SguGradRefIdeal.τ).loc Cert.SguGradRefIdeal.main_arg3)
      ∧ r.2.mem ((c.tc : Thread Cert.SguGradRefIdeal.nD Cert.SguGradRefIdeal.τ).loc Cert.SguGradRefIdeal.main_arg4) = m ((c.tc : Thread Cert.SguGradRefIdeal.nD Cert.SguGradRefIdeal.τ).loc Cert.SguGradRefIdeal.main_arg4)
      ∧ r.2.mem ((c.tc : Thread Cert.SguGradRefIdeal.nD Cert.SguGradRefIdeal.τ).loc Cert.SguGradRefIdeal.main_arg5) = m ((c.tc : Thread Cert.SguGradRefIdeal.nD Cert.SguGradRefIdeal.τ).loc Cert.SguGradRefIdeal.main_arg5)
      ∧ r.2.mem ((c.tc : Thread Cert.SguGradRefIdeal.nD Cert.SguGradRefIdeal.τ).loc Cert.SguGradRefIdeal.main_arg6) = m ((c.tc : Thread Cert.SguGradRefIdeal.nD Cert.SguGradRefIdeal.τ).loc Cert.SguGradRefIdeal.main_arg6)
      ∧ r.2.mem ((c.tc : Thread Cert.SguGradRefIdeal.nD Cert.SguGradRefIdeal.τ).loc Cert.SguGradRefIdeal.main_arg7) = m ((c.tc : Thread Cert.SguGradRefIdeal.nD Cert.SguGradRefIdeal.τ).loc Cert.SguGradRefIdeal.main_arg7))
      ∧ r.2.sem = fun _ => 0)

def quiescent_SguGradRefIdeal_pre_sgu_finite [hSguGradRefIdeal : Cert.SguGradRefIdeal.Facts] [hPre_sgu_finite : Cert.Pre_sgu_finite.Facts] : Prop :=
  ∀ (m : (ℓ : Loc Cert.SguGradRefIdeal.nD Cert.SguGradRefIdeal.τ Cert.SguGradRefIdeal.sig) → Buf (Elt Ideal) ℓ) (g : Dev Cert.SguGradRefIdeal.nD → PrngReg), Pre_SguGradRefIdeal_sgu_finite m →
    θ_run (Cert.SguGradRefIdeal.defs (F := Ideal)) (onTc (τ := Cert.SguGradRefIdeal.τ) (Cert.SguGradRefIdeal.main (F := Ideal))) ⟨m, fun _ => 0, g⟩ (fun r => (∀ c : Dev Cert.SguGradRefIdeal.nD,
      r.2.mem ((c.tc : Thread Cert.SguGradRefIdeal.nD Cert.SguGradRefIdeal.τ).loc Cert.SguGradRefIdeal.main_arg0) = m ((c.tc : Thread Cert.SguGradRefIdeal.nD Cert.SguGradRefIdeal.τ).loc Cert.SguGradRefIdeal.main_arg0)
      ∧ r.2.mem ((c.tc : Thread Cert.SguGradRefIdeal.nD Cert.SguGradRefIdeal.τ).loc Cert.SguGradRefIdeal.main_arg1) = m ((c.tc : Thread Cert.SguGradRefIdeal.nD Cert.SguGradRefIdeal.τ).loc Cert.SguGradRefIdeal.main_arg1)
      ∧ r.2.mem ((c.tc : Thread Cert.SguGradRefIdeal.nD Cert.SguGradRefIdeal.τ).loc Cert.SguGradRefIdeal.main_arg2) = m ((c.tc : Thread Cert.SguGradRefIdeal.nD Cert.SguGradRefIdeal.τ).loc Cert.SguGradRefIdeal.main_arg2)
      ∧ r.2.mem ((c.tc : Thread Cert.SguGradRefIdeal.nD Cert.SguGradRefIdeal.τ).loc Cert.SguGradRefIdeal.main_arg3) = m ((c.tc : Thread Cert.SguGradRefIdeal.nD Cert.SguGradRefIdeal.τ).loc Cert.SguGradRefIdeal.main_arg3)
      ∧ r.2.mem ((c.tc : Thread Cert.SguGradRefIdeal.nD Cert.SguGradRefIdeal.τ).loc Cert.SguGradRefIdeal.main_arg4) = m ((c.tc : Thread Cert.SguGradRefIdeal.nD Cert.SguGradRefIdeal.τ).loc Cert.SguGradRefIdeal.main_arg4)
      ∧ r.2.mem ((c.tc : Thread Cert.SguGradRefIdeal.nD Cert.SguGradRefIdeal.τ).loc Cert.SguGradRefIdeal.main_arg5) = m ((c.tc : Thread Cert.SguGradRefIdeal.nD Cert.SguGradRefIdeal.τ).loc Cert.SguGradRefIdeal.main_arg5)
      ∧ r.2.mem ((c.tc : Thread Cert.SguGradRefIdeal.nD Cert.SguGradRefIdeal.τ).loc Cert.SguGradRefIdeal.main_arg6) = m ((c.tc : Thread Cert.SguGradRefIdeal.nD Cert.SguGradRefIdeal.τ).loc Cert.SguGradRefIdeal.main_arg6)
      ∧ r.2.mem ((c.tc : Thread Cert.SguGradRefIdeal.nD Cert.SguGradRefIdeal.τ).loc Cert.SguGradRefIdeal.main_arg7) = m ((c.tc : Thread Cert.SguGradRefIdeal.nD Cert.SguGradRefIdeal.τ).loc Cert.SguGradRefIdeal.main_arg7))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5)
      ∧ r.2.mem ((c.tc : Thread Cert.FfnLoss.nD Cert.FfnLoss.τ).loc Cert.FfnLoss.main_arg6) = m ((c.tc : Thread Cert.FfnLoss.nD Cert.FfnLoss.τ).loc Cert.FfnLoss.main_arg6)
      ∧ r.2.mem ((c.tc : Thread Cert.FfnLoss.nD Cert.FfnLoss.τ).loc Cert.FfnLoss.main_arg7) = m ((c.tc : Thread Cert.FfnLoss.nD Cert.FfnLoss.τ).loc Cert.FfnLoss.main_arg7)
      ∧ r.2.mem ((c.tc : Thread Cert.FfnLoss.nD Cert.FfnLoss.τ).loc Cert.FfnLoss.main_arg8) = m ((c.tc : Thread Cert.FfnLoss.nD Cert.FfnLoss.τ).loc Cert.FfnLoss.main_arg8))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6)
      ∧ r.2.mem ((c.tc : Thread Cert.FfnLossIdeal.nD Cert.FfnLossIdeal.τ).loc Cert.FfnLossIdeal.main_arg7) = m ((c.tc : Thread Cert.FfnLossIdeal.nD Cert.FfnLossIdeal.τ).loc Cert.FfnLossIdeal.main_arg7)
      ∧ r.2.mem ((c.tc : Thread Cert.FfnLossIdeal.nD Cert.FfnLossIdeal.τ).loc Cert.FfnLossIdeal.main_arg8) = m ((c.tc : Thread Cert.FfnLossIdeal.nD Cert.FfnLossIdeal.τ).loc Cert.FfnLossIdeal.main_arg8))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5)
      ∧ r.2.mem ((c.tc : Thread Cert.FfnLossRefIdeal.nD Cert.FfnLossRefIdeal.τ).loc Cert.FfnLossRefIdeal.main_arg6) = m ((c.tc : Thread Cert.FfnLossRefIdeal.nD Cert.FfnLossRefIdeal.τ).loc Cert.FfnLossRefIdeal.main_arg6)
      ∧ r.2.mem ((c.tc : Thread Cert.FfnLossRefIdeal.nD Cert.FfnLossRefIdeal.τ).loc Cert.FfnLossRefIdeal.main_arg7) = m ((c.tc : Thread Cert.FfnLossRefIdeal.nD Cert.FfnLossRefIdeal.τ).loc Cert.FfnLossRefIdeal.main_arg7)
      ∧ r.2.mem ((c.tc : Thread Cert.FfnLossRefIdeal.nD Cert.FfnLossRefIdeal.τ).loc Cert.FfnLossRefIdeal.main_arg8) = m ((c.tc : Thread Cert.FfnLossRefIdeal.nD Cert.FfnLossRefIdeal.τ).loc Cert.FfnLossRefIdeal.main_arg8))
      ∧ r.2.sem = fun _ => 0)

def quiescent_OddFwd [hOddFwd : Cert.OddFwd.Facts] : Prop :=
  ∀ (m : (ℓ : Loc Cert.OddFwd.nD Cert.OddFwd.τ Cert.OddFwd.sig) → Buf (Elt Bits) ℓ) (g : Dev Cert.OddFwd.nD → PrngReg), Pre_OddFwd m →
    θ_run (Cert.OddFwd.defs (F := Bits)) (onTc (τ := Cert.OddFwd.τ) (Cert.OddFwd.main (F := Bits))) ⟨m, fun _ => 0, g⟩ (fun r => (∀ c : Dev Cert.OddFwd.nD,
      r.2.mem ((c.tc : Thread Cert.OddFwd.nD Cert.OddFwd.τ).loc Cert.OddFwd.main_arg0) = m ((c.tc : Thread Cert.OddFwd.nD Cert.OddFwd.τ).loc Cert.OddFwd.main_arg0)
      ∧ r.2.mem ((c.tc : Thread Cert.OddFwd.nD Cert.OddFwd.τ).loc Cert.OddFwd.main_arg1) = m ((c.tc : Thread Cert.OddFwd.nD Cert.OddFwd.τ).loc Cert.OddFwd.main_arg1)
      ∧ r.2.mem ((c.tc : Thread Cert.OddFwd.nD Cert.OddFwd.τ).loc Cert.OddFwd.main_arg2) = m ((c.tc : Thread Cert.OddFwd.nD Cert.OddFwd.τ).loc Cert.OddFwd.main_arg2)
      ∧ r.2.mem ((c.tc : Thread Cert.OddFwd.nD Cert.OddFwd.τ).loc Cert.OddFwd.main_arg3) = m ((c.tc : Thread Cert.OddFwd.nD Cert.OddFwd.τ).loc Cert.OddFwd.main_arg3)
      ∧ r.2.mem ((c.tc : Thread Cert.OddFwd.nD Cert.OddFwd.τ).loc Cert.OddFwd.main_arg4) = m ((c.tc : Thread Cert.OddFwd.nD Cert.OddFwd.τ).loc Cert.OddFwd.main_arg4)
      ∧ r.2.mem ((c.tc : Thread Cert.OddFwd.nD Cert.OddFwd.τ).loc Cert.OddFwd.main_arg5) = m ((c.tc : Thread Cert.OddFwd.nD Cert.OddFwd.τ).loc Cert.OddFwd.main_arg5)
      ∧ r.2.mem ((c.tc : Thread Cert.OddFwd.nD Cert.OddFwd.τ).loc Cert.OddFwd.main_arg6) = m ((c.tc : Thread Cert.OddFwd.nD Cert.OddFwd.τ).loc Cert.OddFwd.main_arg6))
      ∧ r.2.sem = fun _ => 0)

def quiescent_OddFwdIdeal [hOddFwdIdeal : Cert.OddFwdIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg), Pre_OddFwdIdeal m →
    θ_run (Cert.OddFwdIdeal.defs (F := Ideal)) (onTc (τ := Cert.OddFwdIdeal.τ) (Cert.OddFwdIdeal.main (F := Ideal))) ⟨m, fun _ => 0, g⟩ (fun r => (∀ c : Dev Cert.OddFwdIdeal.nD,
      r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
      ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
      ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2)
      ∧ r.2.mem ((c.tc : Thread Cert.OddFwdIdeal.nD Cert.OddFwdIdeal.τ).loc Cert.OddFwdIdeal.main_arg3) = m ((c.tc : Thread Cert.OddFwdIdeal.nD Cert.OddFwdIdeal.τ).loc Cert.OddFwdIdeal.main_arg3)
      ∧ r.2.mem ((c.tc : Thread Cert.OddFwdIdeal.nD Cert.OddFwdIdeal.τ).loc Cert.OddFwdIdeal.main_arg4) = m ((c.tc : Thread Cert.OddFwdIdeal.nD Cert.OddFwdIdeal.τ).loc Cert.OddFwdIdeal.main_arg4)
      ∧ r.2.mem ((c.tc : Thread Cert.OddFwdIdeal.nD Cert.OddFwdIdeal.τ).loc Cert.OddFwdIdeal.main_arg5) = m ((c.tc : Thread Cert.OddFwdIdeal.nD Cert.OddFwdIdeal.τ).loc Cert.OddFwdIdeal.main_arg5)
      ∧ r.2.mem ((c.tc : Thread Cert.OddFwdIdeal.nD Cert.OddFwdIdeal.τ).loc Cert.OddFwdIdeal.main_arg6) = m ((c.tc : Thread Cert.OddFwdIdeal.nD Cert.OddFwdIdeal.τ).loc Cert.OddFwdIdeal.main_arg6))
      ∧ r.2.sem = fun _ => 0)

def quiescent_OddFwdRefIdeal [hOddFwdRefIdeal : Cert.OddFwdRefIdeal.Facts] : Prop :=
  ∀ (m : (ℓ : Loc Cert.OddFwdRefIdeal.nD Cert.OddFwdRefIdeal.τ Cert.OddFwdRefIdeal.sig) → Buf (Elt Ideal) ℓ) (g : Dev Cert.OddFwdRefIdeal.nD → PrngReg), Pre_OddFwdRefIdeal m →
    θ_run (Cert.OddFwdRefIdeal.defs (F := Ideal)) (onTc (τ := Cert.OddFwdRefIdeal.τ) (Cert.OddFwdRefIdeal.main (F := Ideal))) ⟨m, fun _ => 0, g⟩ (fun r => (∀ c : Dev Cert.OddFwdRefIdeal.nD,
      r.2.mem ((c.tc : Thread Cert.OddFwdRefIdeal.nD Cert.OddFwdRefIdeal.τ).loc Cert.OddFwdRefIdeal.main_arg0) = m ((c.tc : Thread Cert.OddFwdRefIdeal.nD Cert.OddFwdRefIdeal.τ).loc Cert.OddFwdRefIdeal.main_arg0)
      ∧ r.2.mem ((c.tc : Thread Cert.OddFwdRefIdeal.nD Cert.OddFwdRefIdeal.τ).loc Cert.OddFwdRefIdeal.main_arg1) = m ((c.tc : Thread Cert.OddFwdRefIdeal.nD Cert.OddFwdRefIdeal.τ).loc Cert.OddFwdRefIdeal.main_arg1)
      ∧ r.2.mem ((c.tc : Thread Cert.OddFwdRefIdeal.nD Cert.OddFwdRefIdeal.τ).loc Cert.OddFwdRefIdeal.main_arg2) = m ((c.tc : Thread Cert.OddFwdRefIdeal.nD Cert.OddFwdRefIdeal.τ).loc Cert.OddFwdRefIdeal.main_arg2)
      ∧ r.2.mem ((c.tc : Thread Cert.OddFwdRefIdeal.nD Cert.OddFwdRefIdeal.τ).loc Cert.OddFwdRefIdeal.main_arg3) = m ((c.tc : Thread Cert.OddFwdRefIdeal.nD Cert.OddFwdRefIdeal.τ).loc Cert.OddFwdRefIdeal.main_arg3)
      ∧ r.2.mem ((c.tc : Thread Cert.OddFwdRefIdeal.nD Cert.OddFwdRefIdeal.τ).loc Cert.OddFwdRefIdeal.main_arg4) = m ((c.tc : Thread Cert.OddFwdRefIdeal.nD Cert.OddFwdRefIdeal.τ).loc Cert.OddFwdRefIdeal.main_arg4)
      ∧ r.2.mem ((c.tc : Thread Cert.OddFwdRefIdeal.nD Cert.OddFwdRefIdeal.τ).loc Cert.OddFwdRefIdeal.main_arg5) = m ((c.tc : Thread Cert.OddFwdRefIdeal.nD Cert.OddFwdRefIdeal.τ).loc Cert.OddFwdRefIdeal.main_arg5)
      ∧ r.2.mem ((c.tc : Thread Cert.OddFwdRefIdeal.nD Cert.OddFwdRefIdeal.τ).loc Cert.OddFwdRefIdeal.main_arg6) = m ((c.tc : Thread Cert.OddFwdRefIdeal.nD Cert.OddFwdRefIdeal.τ).loc Cert.OddFwdRefIdeal.main_arg6))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_EvenFwd [hEvenFwd : Cert.EvenFwd.Facts] : Prop :=
  ∀ (m : (ℓ : Loc Cert.EvenFwd.nD Cert.EvenFwd.τ Cert.EvenFwd.sig) → Buf (Elt Bits) ℓ) (g : Dev Cert.EvenFwd.nD → PrngReg), Pre_EvenFwd m →
    θ_run (Cert.EvenFwd.defs (F := Bits)) (onTc (τ := Cert.EvenFwd.τ) (Cert.EvenFwd.main (F := Bits))) ⟨m, fun _ => 0, g⟩ (fun r => (∀ c : Dev Cert.EvenFwd.nD,
      r.2.mem ((c.tc : Thread Cert.EvenFwd.nD Cert.EvenFwd.τ).loc Cert.EvenFwd.main_arg0) = m ((c.tc : Thread Cert.EvenFwd.nD Cert.EvenFwd.τ).loc Cert.EvenFwd.main_arg0)
      ∧ r.2.mem ((c.tc : Thread Cert.EvenFwd.nD Cert.EvenFwd.τ).loc Cert.EvenFwd.main_arg1) = m ((c.tc : Thread Cert.EvenFwd.nD Cert.EvenFwd.τ).loc Cert.EvenFwd.main_arg1)
      ∧ r.2.mem ((c.tc : Thread Cert.EvenFwd.nD Cert.EvenFwd.τ).loc Cert.EvenFwd.main_arg2) = m ((c.tc : Thread Cert.EvenFwd.nD Cert.EvenFwd.τ).loc Cert.EvenFwd.main_arg2)
      ∧ r.2.mem ((c.tc : Thread Cert.EvenFwd.nD Cert.EvenFwd.τ).loc Cert.EvenFwd.main_arg3) = m ((c.tc : Thread Cert.EvenFwd.nD Cert.EvenFwd.τ).loc Cert.EvenFwd.main_arg3)
      ∧ r.2.mem ((c.tc : Thread Cert.EvenFwd.nD Cert.EvenFwd.τ).loc Cert.EvenFwd.main_arg4) = m ((c.tc : Thread Cert.EvenFwd.nD Cert.EvenFwd.τ).loc Cert.EvenFwd.main_arg4)
      ∧ r.2.mem ((c.tc : Thread Cert.EvenFwd.nD Cert.EvenFwd.τ).loc Cert.EvenFwd.main_arg5) = m ((c.tc : Thread Cert.EvenFwd.nD Cert.EvenFwd.τ).loc Cert.EvenFwd.main_arg5)
      ∧ r.2.mem ((c.tc : Thread Cert.EvenFwd.nD Cert.EvenFwd.τ).loc Cert.EvenFwd.main_arg6) = m ((c.tc : Thread Cert.EvenFwd.nD Cert.EvenFwd.τ).loc Cert.EvenFwd.main_arg6)
      ∧ r.2.mem ((c.tc : Thread Cert.EvenFwd.nD Cert.EvenFwd.τ).loc Cert.EvenFwd.main_arg7) = m ((c.tc : Thread Cert.EvenFwd.nD Cert.EvenFwd.τ).loc Cert.EvenFwd.main_arg7))
      ∧ r.2.sem = fun _ => 0)

def quiescent_EvenFwdIdeal [hEvenFwdIdeal : Cert.EvenFwdIdeal.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg), Pre_EvenFwdIdeal m →
    θ_run (Cert.EvenFwdIdeal.defs (F := Ideal)) (onTc (τ := Cert.EvenFwdIdeal.τ) (Cert.EvenFwdIdeal.main (F := Ideal))) ⟨m, fun _ => 0, g⟩ (fun r => (∀ c : Dev Cert.EvenFwdIdeal.nD,
      r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
      ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
      ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
      ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
      ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
      ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
      ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
      ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7))
      ∧ r.2.sem = fun _ => 0)

def quiescent_EvenFwdIdeal_pre_even_fwd_finite [hEvenFwdIdeal : Cert.EvenFwdIdeal.Facts] [hPre_even_fwd_finite : Cert.Pre_even_fwd_finite.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg), Pre_EvenFwdIdeal_even_fwd_finite m →
    θ_run (Cert.EvenFwdIdeal.defs (F := Ideal)) (onTc (τ := Cert.EvenFwdIdeal.τ) (Cert.EvenFwdIdeal.main (F := Ideal))) ⟨m, fun _ => 0, g⟩ (fun r => (∀ c : Dev Cert.EvenFwdIdeal.nD,
      r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
      ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
      ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
      ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
      ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
      ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
      ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
      ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7))
      ∧ r.2.sem = fun _ => 0)

def quiescent_EvenFwdRefIdeal [hEvenFwdRefIdeal : Cert.EvenFwdRefIdeal.Facts] : Prop :=
  ∀ (m : (ℓ : Loc Cert.EvenFwdRefIdeal.nD Cert.EvenFwdRefIdeal.τ Cert.EvenFwdRefIdeal.sig) → Buf (Elt Ideal) ℓ) (g : Dev Cert.EvenFwdRefIdeal.nD → PrngReg), Pre_EvenFwdRefIdeal m →
    θ_run (Cert.EvenFwdRefIdeal.defs (F := Ideal)) (onTc (τ := Cert.EvenFwdRefIdeal.τ) (Cert.EvenFwdRefIdeal.main (F := Ideal))) ⟨m, fun _ => 0, g⟩ (fun r => (∀ c : Dev Cert.EvenFwdRefIdeal.nD,
      r.2.mem ((c.tc : Thread Cert.EvenFwdRefIdeal.nD Cert.EvenFwdRefIdeal.τ).loc Cert.EvenFwdRefIdeal.main_arg0) = m ((c.tc : Thread Cert.EvenFwdRefIdeal.nD Cert.EvenFwdRefIdeal.τ).loc Cert.EvenFwdRefIdeal.main_arg0)
      ∧ r.2.mem ((c.tc : Thread Cert.EvenFwdRefIdeal.nD Cert.EvenFwdRefIdeal.τ).loc Cert.EvenFwdRefIdeal.main_arg1) = m ((c.tc : Thread Cert.EvenFwdRefIdeal.nD Cert.EvenFwdRefIdeal.τ).loc Cert.EvenFwdRefIdeal.main_arg1)
      ∧ r.2.mem ((c.tc : Thread Cert.EvenFwdRefIdeal.nD Cert.EvenFwdRefIdeal.τ).loc Cert.EvenFwdRefIdeal.main_arg2) = m ((c.tc : Thread Cert.EvenFwdRefIdeal.nD Cert.EvenFwdRefIdeal.τ).loc Cert.EvenFwdRefIdeal.main_arg2)
      ∧ r.2.mem ((c.tc : Thread Cert.EvenFwdRefIdeal.nD Cert.EvenFwdRefIdeal.τ).loc Cert.EvenFwdRefIdeal.main_arg3) = m ((c.tc : Thread Cert.EvenFwdRefIdeal.nD Cert.EvenFwdRefIdeal.τ).loc Cert.EvenFwdRefIdeal.main_arg3)
      ∧ r.2.mem ((c.tc : Thread Cert.EvenFwdRefIdeal.nD Cert.EvenFwdRefIdeal.τ).loc Cert.EvenFwdRefIdeal.main_arg4) = m ((c.tc : Thread Cert.EvenFwdRefIdeal.nD Cert.EvenFwdRefIdeal.τ).loc Cert.EvenFwdRefIdeal.main_arg4)
      ∧ r.2.mem ((c.tc : Thread Cert.EvenFwdRefIdeal.nD Cert.EvenFwdRefIdeal.τ).loc Cert.EvenFwdRefIdeal.main_arg5) = m ((c.tc : Thread Cert.EvenFwdRefIdeal.nD Cert.EvenFwdRefIdeal.τ).loc Cert.EvenFwdRefIdeal.main_arg5)
      ∧ r.2.mem ((c.tc : Thread Cert.EvenFwdRefIdeal.nD Cert.EvenFwdRefIdeal.τ).loc Cert.EvenFwdRefIdeal.main_arg6) = m ((c.tc : Thread Cert.EvenFwdRefIdeal.nD Cert.EvenFwdRefIdeal.τ).loc Cert.EvenFwdRefIdeal.main_arg6)
      ∧ r.2.mem ((c.tc : Thread Cert.EvenFwdRefIdeal.nD Cert.EvenFwdRefIdeal.τ).loc Cert.EvenFwdRefIdeal.main_arg7) = m ((c.tc : Thread Cert.EvenFwdRefIdeal.nD Cert.EvenFwdRefIdeal.τ).loc Cert.EvenFwdRefIdeal.main_arg7))
      ∧ r.2.sem = fun _ => 0)

def quiescent_EvenFwdRefIdeal_pre_even_fwd_finite [hEvenFwdRefIdeal : Cert.EvenFwdRefIdeal.Facts] [hPre_even_fwd_finite : Cert.Pre_even_fwd_finite.Facts] : Prop :=
  ∀ (m : (ℓ : Loc Cert.EvenFwdRefIdeal.nD Cert.EvenFwdRefIdeal.τ Cert.EvenFwdRefIdeal.sig) → Buf (Elt Ideal) ℓ) (g : Dev Cert.EvenFwdRefIdeal.nD → PrngReg), Pre_EvenFwdRefIdeal_even_fwd_finite m →
    θ_run (Cert.EvenFwdRefIdeal.defs (F := Ideal)) (onTc (τ := Cert.EvenFwdRefIdeal.τ) (Cert.EvenFwdRefIdeal.main (F := Ideal))) ⟨m, fun _ => 0, g⟩ (fun r => (∀ c : Dev Cert.EvenFwdRefIdeal.nD,
      r.2.mem ((c.tc : Thread Cert.EvenFwdRefIdeal.nD Cert.EvenFwdRefIdeal.τ).loc Cert.EvenFwdRefIdeal.main_arg0) = m ((c.tc : Thread Cert.EvenFwdRefIdeal.nD Cert.EvenFwdRefIdeal.τ).loc Cert.EvenFwdRefIdeal.main_arg0)
      ∧ r.2.mem ((c.tc : Thread Cert.EvenFwdRefIdeal.nD Cert.EvenFwdRefIdeal.τ).loc Cert.EvenFwdRefIdeal.main_arg1) = m ((c.tc : Thread Cert.EvenFwdRefIdeal.nD Cert.EvenFwdRefIdeal.τ).loc Cert.EvenFwdRefIdeal.main_arg1)
      ∧ r.2.mem ((c.tc : Thread Cert.EvenFwdRefIdeal.nD Cert.EvenFwdRefIdeal.τ).loc Cert.EvenFwdRefIdeal.main_arg2) = m ((c.tc : Thread Cert.EvenFwdRefIdeal.nD Cert.EvenFwdRefIdeal.τ).loc Cert.EvenFwdRefIdeal.main_arg2)
      ∧ r.2.mem ((c.tc : Thread Cert.EvenFwdRefIdeal.nD Cert.EvenFwdRefIdeal.τ).loc Cert.EvenFwdRefIdeal.main_arg3) = m ((c.tc : Thread Cert.EvenFwdRefIdeal.nD Cert.EvenFwdRefIdeal.τ).loc Cert.EvenFwdRefIdeal.main_arg3)
      ∧ r.2.mem ((c.tc : Thread Cert.EvenFwdRefIdeal.nD Cert.EvenFwdRefIdeal.τ).loc Cert.EvenFwdRefIdeal.main_arg4) = m ((c.tc : Thread Cert.EvenFwdRefIdeal.nD Cert.EvenFwdRefIdeal.τ).loc Cert.EvenFwdRefIdeal.main_arg4)
      ∧ r.2.mem ((c.tc : Thread Cert.EvenFwdRefIdeal.nD Cert.EvenFwdRefIdeal.τ).loc Cert.EvenFwdRefIdeal.main_arg5) = m ((c.tc : Thread Cert.EvenFwdRefIdeal.nD Cert.EvenFwdRefIdeal.τ).loc Cert.EvenFwdRefIdeal.main_arg5)
      ∧ r.2.mem ((c.tc : Thread Cert.EvenFwdRefIdeal.nD Cert.EvenFwdRefIdeal.τ).loc Cert.EvenFwdRefIdeal.main_arg6) = m ((c.tc : Thread Cert.EvenFwdRefIdeal.nD Cert.EvenFwdRefIdeal.τ).loc Cert.EvenFwdRefIdeal.main_arg6)
      ∧ r.2.mem ((c.tc : Thread Cert.EvenFwdRefIdeal.nD Cert.EvenFwdRefIdeal.τ).loc Cert.EvenFwdRefIdeal.main_arg7) = m ((c.tc : Thread Cert.EvenFwdRefIdeal.nD Cert.EvenFwdRefIdeal.τ).loc Cert.EvenFwdRefIdeal.main_arg7))
      ∧ r.2.sem = fun _ => 0)

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)
      ∧ m' ((c.tc : Thread Cert.FfnDxRefIdeal.nD Cert.FfnDxRefIdeal.τ).loc Cert.FfnDxRefIdeal.main_arg4) = m ((c.tc : Thread Cert.FfnDxIdeal.nD Cert.FfnDxIdeal.τ).loc Cert.FfnDxIdeal.main_arg4)
      ∧ m' ((c.tc : Thread Cert.FfnDxRefIdeal.nD Cert.FfnDxRefIdeal.τ).loc Cert.FfnDxRefIdeal.main_arg5) = m ((c.tc : Thread Cert.FfnDxIdeal.nD Cert.FfnDxIdeal.τ).loc Cert.FfnDxIdeal.main_arg5)
      ∧ m' ((c.tc : Thread Cert.FfnDxRefIdeal.nD Cert.FfnDxRefIdeal.τ).loc Cert.FfnDxRefIdeal.main_arg6) = m ((c.tc : Thread Cert.FfnDxIdeal.nD Cert.FfnDxIdeal.τ).loc Cert.FfnDxIdeal.main_arg6)) →
    ∃ (v0 : (c : Dev Cert.FfnDxIdeal.nD) → Buf (Elt Ideal) ((c.tc : Thread Cert.FfnDxIdeal.nD Cert.FfnDxIdeal.τ).loc Cert.FfnDxIdeal.main_v20_0)) (v1 : (c : Dev Cert.FfnDxIdeal.nD) → Buf (Elt Ideal) ((c.tc : Thread Cert.FfnDxIdeal.nD Cert.FfnDxIdeal.τ).loc Cert.FfnDxIdeal.main_v20_1)) (v2 : (c : Dev Cert.FfnDxIdeal.nD) → Buf (Elt Ideal) ((c.tc : Thread Cert.FfnDxIdeal.nD Cert.FfnDxIdeal.τ).loc Cert.FfnDxIdeal.main_v20_2)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v20_0) = v0 c
          ∧ r.2.mem ((c.tc : Thread Cert.FfnDxIdeal.nD Cert.FfnDxIdeal.τ).loc Cert.FfnDxIdeal.main_v20_1) = v1 c
          ∧ r.2.mem ((c.tc : Thread Cert.FfnDxIdeal.nD Cert.FfnDxIdeal.τ).loc Cert.FfnDxIdeal.main_v20_2) = v2 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
          ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
          ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v42) = v0 c
          ∧ r.2.mem ((c.tc : Thread Cert.FfnDxRefIdeal.nD Cert.FfnDxRefIdeal.τ).loc Cert.FfnDxRefIdeal.main_v43) = v1 c
          ∧ r.2.mem ((c.tc : Thread Cert.FfnDxRefIdeal.nD Cert.FfnDxRefIdeal.τ).loc Cert.FfnDxRefIdeal.main_v44) = v2 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3)
          ∧ r.2.mem ((c.tc : Thread Cert.FfnDxRefIdeal.nD Cert.FfnDxRefIdeal.τ).loc Cert.FfnDxRefIdeal.main_arg4) = m' ((c.tc : Thread Cert.FfnDxRefIdeal.nD Cert.FfnDxRefIdeal.τ).loc Cert.FfnDxRefIdeal.main_arg4)
          ∧ r.2.mem ((c.tc : Thread Cert.FfnDxRefIdeal.nD Cert.FfnDxRefIdeal.τ).loc Cert.FfnDxRefIdeal.main_arg5) = m' ((c.tc : Thread Cert.FfnDxRefIdeal.nD Cert.FfnDxRefIdeal.τ).loc Cert.FfnDxRefIdeal.main_arg5)
          ∧ r.2.mem ((c.tc : Thread Cert.FfnDxRefIdeal.nD Cert.FfnDxRefIdeal.τ).loc Cert.FfnDxRefIdeal.main_arg6) = m' ((c.tc : Thread Cert.FfnDxRefIdeal.nD Cert.FfnDxRefIdeal.τ).loc Cert.FfnDxRefIdeal.main_arg6))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)
      ∧ m' ((c.tc : Thread Cert.MixDxRefIdeal.nD Cert.MixDxRefIdeal.τ).loc Cert.MixDxRefIdeal.main_arg3) = m ((c.tc : Thread Cert.MixDxIdeal.nD Cert.MixDxIdeal.τ).loc Cert.MixDxIdeal.main_arg3)
      ∧ m' ((c.tc : Thread Cert.MixDxRefIdeal.nD Cert.MixDxRefIdeal.τ).loc Cert.MixDxRefIdeal.main_arg4) = m ((c.tc : Thread Cert.MixDxIdeal.nD Cert.MixDxIdeal.τ).loc Cert.MixDxIdeal.main_arg4)) →
    ∃ (v0 : (c : Dev Cert.MixDxIdeal.nD) → Buf (Elt Ideal) ((c.tc : Thread Cert.MixDxIdeal.nD Cert.MixDxIdeal.τ).loc Cert.MixDxIdeal.main_v14_0)) (v1 : (c : Dev Cert.MixDxIdeal.nD) → Buf (Elt Ideal) ((c.tc : Thread Cert.MixDxIdeal.nD Cert.MixDxIdeal.τ).loc Cert.MixDxIdeal.main_v14_1)) (v2 : (c : Dev Cert.MixDxIdeal.nD) → Buf (Elt Ideal) ((c.tc : Thread Cert.MixDxIdeal.nD Cert.MixDxIdeal.τ).loc Cert.MixDxIdeal.main_v14_2)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v14_0) = v0 c
          ∧ r.2.mem ((c.tc : Thread Cert.MixDxIdeal.nD Cert.MixDxIdeal.τ).loc Cert.MixDxIdeal.main_v14_1) = v1 c
          ∧ r.2.mem ((c.tc : Thread Cert.MixDxIdeal.nD Cert.MixDxIdeal.τ).loc Cert.MixDxIdeal.main_v14_2) = v2 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
          ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
          ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v39) = v0 c
          ∧ r.2.mem ((c.tc : Thread Cert.MixDxRefIdeal.nD Cert.MixDxRefIdeal.τ).loc Cert.MixDxRefIdeal.main_v40) = v1 c
          ∧ r.2.mem ((c.tc : Thread Cert.MixDxRefIdeal.nD Cert.MixDxRefIdeal.τ).loc Cert.MixDxRefIdeal.main_v41) = v2 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2)
          ∧ r.2.mem ((c.tc : Thread Cert.MixDxRefIdeal.nD Cert.MixDxRefIdeal.τ).loc Cert.MixDxRefIdeal.main_arg3) = m' ((c.tc : Thread Cert.MixDxRefIdeal.nD Cert.MixDxRefIdeal.τ).loc Cert.MixDxRefIdeal.main_arg3)
          ∧ r.2.mem ((c.tc : Thread Cert.MixDxRefIdeal.nD Cert.MixDxRefIdeal.τ).loc Cert.MixDxRefIdeal.main_arg4) = m' ((c.tc : Thread Cert.MixDxRefIdeal.nD Cert.MixDxRefIdeal.τ).loc Cert.MixDxRefIdeal.main_arg4))

def preserves_EvenGrad_EvenGradIdeal : Prop :=
  True

def algebraic_EvenGradIdeal_EvenGradRefIdeal_pre_even_finite [hEvenGradIdeal : Cert.EvenGradIdeal.Facts] [hEvenGradRefIdeal : Cert.EvenGradRefIdeal.Facts] [hPre_even_finite : Cert.Pre_even_finite.Facts] : Prop :=
  ∀ (m : (ℓ : Loc Cert.EvenGradIdeal.nD Cert.EvenGradIdeal.τ Cert.EvenGradIdeal.sig) → Buf (Elt Ideal) ℓ) (g : Dev Cert.EvenGradIdeal.nD → PrngReg)
    (m' : (ℓ : Loc Cert.EvenGradRefIdeal.nD Cert.EvenGradRefIdeal.τ Cert.EvenGradRefIdeal.sig) → Buf (Elt Ideal) ℓ) (g' : Dev Cert.EvenGradRefIdeal.nD → PrngReg), Pre_EvenGradIdeal_even_finite m →
    (∀ c : Dev Cert.EvenGradIdeal.nD,
      m' ((c.tc : Thread Cert.EvenGradRefIdeal.nD Cert.EvenGradRefIdeal.τ).loc Cert.EvenGradRefIdeal.main_arg0) = m ((c.tc : Thread Cert.EvenGradIdeal.nD Cert.EvenGradIdeal.τ).loc Cert.EvenGradIdeal.main_arg0)
      ∧ m' ((c.tc : Thread Cert.EvenGradRefIdeal.nD Cert.EvenGradRefIdeal.τ).loc Cert.EvenGradRefIdeal.main_arg1) = m ((c.tc : Thread Cert.EvenGradIdeal.nD Cert.EvenGradIdeal.τ).loc Cert.EvenGradIdeal.main_arg1)
      ∧ m' ((c.tc : Thread Cert.EvenGradRefIdeal.nD Cert.EvenGradRefIdeal.τ).loc Cert.EvenGradRefIdeal.main_arg2) = m ((c.tc : Thread Cert.EvenGradIdeal.nD Cert.EvenGradIdeal.τ).loc Cert.EvenGradIdeal.main_arg2)
      ∧ m' ((c.tc : Thread Cert.EvenGradRefIdeal.nD Cert.EvenGradRefIdeal.τ).loc Cert.EvenGradRefIdeal.main_arg3) = m ((c.tc : Thread Cert.EvenGradIdeal.nD Cert.EvenGradIdeal.τ).loc Cert.EvenGradIdeal.main_arg3)
      ∧ m' ((c.tc : Thread Cert.EvenGradRefIdeal.nD Cert.EvenGradRefIdeal.τ).loc Cert.EvenGradRefIdeal.main_arg4) = m ((c.tc : Thread Cert.EvenGradIdeal.nD Cert.EvenGradIdeal.τ).loc Cert.EvenGradIdeal.main_arg4)
      ∧ m' ((c.tc : Thread Cert.EvenGradRefIdeal.nD Cert.EvenGradRefIdeal.τ).loc Cert.EvenGradRefIdeal.main_arg5) = m ((c.tc : Thread Cert.EvenGradIdeal.nD Cert.EvenGradIdeal.τ).loc Cert.EvenGradIdeal.main_arg5)
      ∧ m' ((c.tc : Thread Cert.EvenGradRefIdeal.nD Cert.EvenGradRefIdeal.τ).loc Cert.EvenGradRefIdeal.main_arg6) = m ((c.tc : Thread Cert.EvenGradIdeal.nD Cert.EvenGradIdeal.τ).loc Cert.EvenGradIdeal.main_arg6)
      ∧ m' ((c.tc : Thread Cert.EvenGradRefIdeal.nD Cert.EvenGradRefIdeal.τ).loc Cert.EvenGradRefIdeal.main_arg7) = m ((c.tc : Thread Cert.EvenGradIdeal.nD Cert.EvenGradIdeal.τ).loc Cert.EvenGradIdeal.main_arg7)) →
    ∃ (v0 : (c : Dev Cert.EvenGradIdeal.nD) → Buf (Elt Ideal) ((c.tc : Thread Cert.EvenGradIdeal.nD Cert.EvenGradIdeal.τ).loc Cert.EvenGradIdeal.main_v123_0)) (v1 : (c : Dev Cert.EvenGradIdeal.nD) → Buf (Elt Ideal) ((c.tc : Thread Cert.EvenGradIdeal.nD Cert.EvenGradIdeal.τ).loc Cert.EvenGradIdeal.main_v123_1)) (v2 : (c : Dev Cert.EvenGradIdeal.nD) → Buf (Elt Ideal) ((c.tc : Thread Cert.EvenGradIdeal.nD Cert.EvenGradIdeal.τ).loc Cert.EvenGradIdeal.main_v123_2)) (v3 : (c : Dev Cert.EvenGradIdeal.nD) → Buf (Elt Ideal) ((c.tc : Thread Cert.EvenGradIdeal.nD Cert.EvenGradIdeal.τ).loc Cert.EvenGradIdeal.main_v123_3)) (v4 : (c : Dev Cert.EvenGradIdeal.nD) → Buf (Elt Ideal) ((c.tc : Thread Cert.EvenGradIdeal.nD Cert.EvenGradIdeal.τ).loc Cert.EvenGradIdeal.main_v123_4)) (v5 : (c : Dev Cert.EvenGradIdeal.nD) → Buf (Elt Ideal) ((c.tc : Thread Cert.EvenGradIdeal.nD Cert.EvenGradIdeal.τ).loc Cert.EvenGradIdeal.main_v123_5)),
      θ_run (Cert.EvenGradIdeal.defs (F := Ideal)) (onTc (τ := Cert.EvenGradIdeal.τ) (Cert.EvenGradIdeal.main (F := Ideal))) ⟨m, fun _ => 0, g⟩ (fun r => ∀ c : Dev Cert.EvenGradIdeal.nD,
          r.2.mem ((c.tc : Thread Cert.EvenGradIdeal.nD Cert.EvenGradIdeal.τ).loc Cert.EvenGradIdeal.main_v123_0) = v0 c
          ∧ r.2.mem ((c.tc : Thread Cert.EvenGradIdeal.nD Cert.EvenGradIdeal.τ).loc Cert.EvenGradIdeal.main_v123_1) = v1 c
          ∧ r.2.mem ((c.tc : Thread Cert.EvenGradIdeal.nD Cert.EvenGradIdeal.τ).loc Cert.EvenGradIdeal.main_v123_2) = v2 c
          ∧ r.2.mem ((c.tc : Thread Cert.EvenGradIdeal.nD Cert.EvenGradIdeal.τ).loc Cert.EvenGradIdeal.main_v123_3) = v3 c
          ∧ r.2.mem ((c.tc : Thread Cert.EvenGradIdeal.nD Cert.EvenGradIdeal.τ).loc Cert.EvenGradIdeal.main_v123_4) = v4 c
          ∧ r.2.mem ((c.tc : Thread Cert.EvenGradIdeal.nD Cert.EvenGradIdeal.τ).loc Cert.EvenGradIdeal.main_v123_5) = v5 c
          ∧ r.2.mem ((c.tc : Thread Cert.EvenGradIdeal.nD Cert.EvenGradIdeal.τ).loc Cert.EvenGradIdeal.main_arg0) = m ((c.tc : Thread Cert.EvenGradIdeal.nD Cert.EvenGradIdeal.τ).loc Cert.EvenGradIdeal.main_arg0)
          ∧ r.2.mem ((c.tc : Thread Cert.EvenGradIdeal.nD Cert.EvenGradIdeal.τ).loc Cert.EvenGradIdeal.main_arg1) = m ((c.tc : Thread Cert.EvenGradIdeal.nD Cert.EvenGradIdeal.τ).loc Cert.EvenGradIdeal.main_arg1)
          ∧ r.2.mem ((c.tc : Thread Cert.EvenGradIdeal.nD Cert.EvenGradIdeal.τ).loc Cert.EvenGradIdeal.main_arg2) = m ((c.tc : Thread Cert.EvenGradIdeal.nD Cert.EvenGradIdeal.τ).loc Cert.EvenGradIdeal.main_arg2)
          ∧ r.2.mem ((c.tc : Thread Cert.EvenGradIdeal.nD Cert.EvenGradIdeal.τ).loc Cert.EvenGradIdeal.main_arg3) = m ((c.tc : Thread Cert.EvenGradIdeal.nD Cert.EvenGradIdeal.τ).loc Cert.EvenGradIdeal.main_arg3)
          ∧ r.2.mem ((c.tc : Thread Cert.EvenGradIdeal.nD Cert.EvenGradIdeal.τ).loc Cert.EvenGradIdeal.main_arg4) = m ((c.tc : Thread Cert.EvenGradIdeal.nD Cert.EvenGradIdeal.τ).loc Cert.EvenGradIdeal.main_arg4)
          ∧ r.2.mem ((c.tc : Thread Cert.EvenGradIdeal.nD Cert.EvenGradIdeal.τ).loc Cert.EvenGradIdeal.main_arg5) = m ((c.tc : Thread Cert.EvenGradIdeal.nD Cert.EvenGradIdeal.τ).loc Cert.EvenGradIdeal.main_arg5)
          ∧ r.2.mem ((c.tc : Thread Cert.EvenGradIdeal.nD Cert.EvenGradIdeal.τ).loc Cert.EvenGradIdeal.main_arg6) = m ((c.tc : Thread Cert.EvenGradIdeal.nD Cert.EvenGradIdeal.τ).loc Cert.EvenGradIdeal.main_arg6)
          ∧ r.2.mem ((c.tc : Thread Cert.EvenGradIdeal.nD Cert.EvenGradIdeal.τ).loc Cert.EvenGradIdeal.main_arg7) = m ((c.tc : Thread Cert.EvenGradIdeal.nD Cert.EvenGradIdeal.τ).loc Cert.EvenGradIdeal.main_arg7))
      ∧ θ_run (Cert.EvenGradRefIdeal.defs (F := Ideal)) (onTc (τ := Cert.EvenGradRefIdeal.τ) (Cert.EvenGradRefIdeal.main (F := Ideal))) ⟨m', fun _ => 0, g'⟩ (fun r => ∀ c : Dev Cert.EvenGradRefIdeal.nD,
          r.2.mem ((c.tc : Thread Cert.EvenGradRefIdeal.nD Cert.EvenGradRefIdeal.τ).loc Cert.EvenGradRefIdeal.main_v248) = v0 c
          ∧ r.2.mem ((c.tc : Thread Cert.EvenGradRefIdeal.nD Cert.EvenGradRefIdeal.τ).loc Cert.EvenGradRefIdeal.main_v250) = v1 c
          ∧ r.2.mem ((c.tc : Thread Cert.EvenGradRefIdeal.nD Cert.EvenGradRefIdeal.τ).loc Cert.EvenGradRefIdeal.main_v119) = v2 c
          ∧ r.2.mem ((c.tc : Thread Cert.EvenGradRefIdeal.nD Cert.EvenGradRefIdeal.τ).loc Cert.EvenGradRefIdeal.main_v231) = v3 c
          ∧ r.2.mem ((c.tc : Thread Cert.EvenGradRefIdeal.nD Cert.EvenGradRefIdeal.τ).loc Cert.EvenGradRefIdeal.main_v134) = v4 c
          ∧ r.2.mem ((c.tc : Thread Cert.EvenGradRefIdeal.nD Cert.EvenGradRefIdeal.τ).loc Cert.EvenGradRefIdeal.main_v251) = v5 c
          ∧ r.2.mem ((c.tc : Thread Cert.EvenGradRefIdeal.nD Cert.EvenGradRefIdeal.τ).loc Cert.EvenGradRefIdeal.main_arg0) = m' ((c.tc : Thread Cert.EvenGradRefIdeal.nD Cert.EvenGradRefIdeal.τ).loc Cert.EvenGradRefIdeal.main_arg0)
          ∧ r.2.mem ((c.tc : Thread Cert.EvenGradRefIdeal.nD Cert.EvenGradRefIdeal.τ).loc Cert.EvenGradRefIdeal.main_arg1) = m' ((c.tc : Thread Cert.EvenGradRefIdeal.nD Cert.EvenGradRefIdeal.τ).loc Cert.EvenGradRefIdeal.main_arg1)
          ∧ r.2.mem ((c.tc : Thread Cert.EvenGradRefIdeal.nD Cert.EvenGradRefIdeal.τ).loc Cert.EvenGradRefIdeal.main_arg2) = m' ((c.tc : Thread Cert.EvenGradRefIdeal.nD Cert.EvenGradRefIdeal.τ).loc Cert.EvenGradRefIdeal.main_arg2)
          ∧ r.2.mem ((c.tc : Thread Cert.EvenGradRefIdeal.nD Cert.EvenGradRefIdeal.τ).loc Cert.EvenGradRefIdeal.main_arg3) = m' ((c.tc : Thread Cert.EvenGradRefIdeal.nD Cert.EvenGradRefIdeal.τ).loc Cert.EvenGradRefIdeal.main_arg3)
          ∧ r.2.mem ((c.tc : Thread Cert.EvenGradRefIdeal.nD Cert.EvenGradRefIdeal.τ).loc Cert.EvenGradRefIdeal.main_arg4) = m' ((c.tc : Thread Cert.EvenGradRefIdeal.nD Cert.EvenGradRefIdeal.τ).loc Cert.EvenGradRefIdeal.main_arg4)
          ∧ r.2.mem ((c.tc : Thread Cert.EvenGradRefIdeal.nD Cert.EvenGradRefIdeal.τ).loc Cert.EvenGradRefIdeal.main_arg5) = m' ((c.tc : Thread Cert.EvenGradRefIdeal.nD Cert.EvenGradRefIdeal.τ).loc Cert.EvenGradRefIdeal.main_arg5)
          ∧ r.2.mem ((c.tc : Thread Cert.EvenGradRefIdeal.nD Cert.EvenGradRefIdeal.τ).loc Cert.EvenGradRefIdeal.main_arg6) = m' ((c.tc : Thread Cert.EvenGradRefIdeal.nD Cert.EvenGradRefIdeal.τ).loc Cert.EvenGradRefIdeal.main_arg6)
          ∧ r.2.mem ((c.tc : Thread Cert.EvenGradRefIdeal.nD Cert.EvenGradRefIdeal.τ).loc Cert.EvenGradRefIdeal.main_arg7) = m' ((c.tc : Thread Cert.EvenGradRefIdeal.nD Cert.EvenGradRefIdeal.τ).loc Cert.EvenGradRefIdeal.main_arg7))

def preserves_FfnGrad_FfnGradIdeal : Prop :=
  True

def algebraic_FfnGradIdeal_FfnGradRefIdeal_pre_ffn_finite [hFfnGradIdeal : Cert.FfnGradIdeal.Facts] [hFfnGradRefIdeal : Cert.FfnGradRefIdeal.Facts] [hPre_ffn_finite : Cert.Pre_ffn_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg)
    (m' : (ℓ : Loc Cert.FfnGradRefIdeal.nD Cert.FfnGradRefIdeal.τ Cert.FfnGradRefIdeal.sig) → Buf (Elt Ideal) ℓ) (g' : Dev Cert.FfnGradRefIdeal.nD → PrngReg), Pre_FfnGradIdeal_ffn_finite m →
    (∀ c : Dev Cert.FfnGradIdeal.nD,
      m' ((c.tc : Thread Cert.FfnGradRefIdeal.nD Cert.FfnGradRefIdeal.τ).loc Cert.FfnGradRefIdeal.main_arg0) = m ((c.tc : Thread Cert.FfnGradIdeal.nD Cert.FfnGradIdeal.τ).loc Cert.FfnGradIdeal.main_arg0)
      ∧ m' ((c.tc : Thread Cert.FfnGradRefIdeal.nD Cert.FfnGradRefIdeal.τ).loc Cert.FfnGradRefIdeal.main_arg1) = m ((c.tc : Thread Cert.FfnGradIdeal.nD Cert.FfnGradIdeal.τ).loc Cert.FfnGradIdeal.main_arg1)
      ∧ m' ((c.tc : Thread Cert.FfnGradRefIdeal.nD Cert.FfnGradRefIdeal.τ).loc Cert.FfnGradRefIdeal.main_arg2) = m ((c.tc : Thread Cert.FfnGradIdeal.nD Cert.FfnGradIdeal.τ).loc Cert.FfnGradIdeal.main_arg2)
      ∧ m' ((c.tc : Thread Cert.FfnGradRefIdeal.nD Cert.FfnGradRefIdeal.τ).loc Cert.FfnGradRefIdeal.main_arg3) = m ((c.tc : Thread Cert.FfnGradIdeal.nD Cert.FfnGradIdeal.τ).loc Cert.FfnGradIdeal.main_arg3)
      ∧ m' ((c.tc : Thread Cert.FfnGradRefIdeal.nD Cert.FfnGradRefIdeal.τ).loc Cert.FfnGradRefIdeal.main_arg4) = m ((c.tc : Thread Cert.FfnGradIdeal.nD Cert.FfnGradIdeal.τ).loc Cert.FfnGradIdeal.main_arg4)
      ∧ m' ((c.tc : Thread Cert.FfnGradRefIdeal.nD Cert.FfnGradRefIdeal.τ).loc Cert.FfnGradRefIdeal.main_arg5) = m ((c.tc : Thread Cert.FfnGradIdeal.nD Cert.FfnGradIdeal.τ).loc Cert.FfnGradIdeal.main_arg5)
      ∧ m' ((c.tc : Thread Cert.FfnGradRefIdeal.nD Cert.FfnGradRefIdeal.τ).loc Cert.FfnGradRefIdeal.main_arg6) = m ((c.tc : Thread Cert.FfnGradIdeal.nD Cert.FfnGradIdeal.τ).loc Cert.FfnGradIdeal.main_arg6)
      ∧ m' ((c.tc : Thread Cert.FfnGradRefIdeal.nD Cert.FfnGradRefIdeal.τ).loc Cert.FfnGradRefIdeal.main_arg7) = m ((c.tc : Thread Cert.FfnGradIdeal.nD Cert.FfnGradIdeal.τ).loc Cert.FfnGradIdeal.main_arg7)) →
    ∃ (v0 : (c : Dev Cert.FfnGradIdeal.nD) → Buf (Elt Ideal) ((c.tc : Thread Cert.FfnGradIdeal.nD Cert.FfnGradIdeal.τ).loc Cert.FfnGradIdeal.main_v54_0)) (v1 : (c : Dev Cert.FfnGradIdeal.nD) → Buf (Elt Ideal) ((c.tc : Thread Cert.FfnGradIdeal.nD Cert.FfnGradIdeal.τ).loc Cert.FfnGradIdeal.main_v54_1)) (v2 : (c : Dev Cert.FfnGradIdeal.nD) → Buf (Elt Ideal) ((c.tc : Thread Cert.FfnGradIdeal.nD Cert.FfnGradIdeal.τ).loc Cert.FfnGradIdeal.main_v54_2)) (v3 : (c : Dev Cert.FfnGradIdeal.nD) → Buf (Elt Ideal) ((c.tc : Thread Cert.FfnGradIdeal.nD Cert.FfnGradIdeal.τ).loc Cert.FfnGradIdeal.main_v54_3)) (v4 : (c : Dev Cert.FfnGradIdeal.nD) → Buf (Elt Ideal) ((c.tc : Thread Cert.FfnGradIdeal.nD Cert.FfnGradIdeal.τ).loc Cert.FfnGradIdeal.main_v54_4)) (v5 : (c : Dev Cert.FfnGradIdeal.nD) → Buf (Elt Ideal) ((c.tc : Thread Cert.FfnGradIdeal.nD Cert.FfnGradIdeal.τ).loc Cert.FfnGradIdeal.main_v54_5)) (v6 : (c : Dev Cert.FfnGradIdeal.nD) → Buf (Elt Ideal) ((c.tc : Thread Cert.FfnGradIdeal.nD Cert.FfnGradIdeal.τ).loc Cert.FfnGradIdeal.main_v54_6)),
      θ_run (Cert.FfnGradIdeal.defs (F := Ideal)) (onTc (τ := Cert.FfnGradIdeal.τ) (Cert.FfnGradIdeal.main (F := Ideal))) ⟨m, fun _ => 0, g⟩ (fun r => ∀ c : Dev Cert.FfnGradIdeal.nD,
          r.2.mem ((c.tc : Thread Cert.FfnGradIdeal.nD Cert.FfnGradIdeal.τ).loc Cert.FfnGradIdeal.main_v54_0) = v0 c
          ∧ r.2.mem ((c.tc : Thread Cert.FfnGradIdeal.nD Cert.FfnGradIdeal.τ).loc Cert.FfnGradIdeal.main_v54_1) = v1 c
          ∧ r.2.mem ((c.tc : Thread Cert.FfnGradIdeal.nD Cert.FfnGradIdeal.τ).loc Cert.FfnGradIdeal.main_v54_2) = v2 c
          ∧ r.2.mem ((c.tc : Thread Cert.FfnGradIdeal.nD Cert.FfnGradIdeal.τ).loc Cert.FfnGradIdeal.main_v54_3) = v3 c
          ∧ r.2.mem ((c.tc : Thread Cert.FfnGradIdeal.nD Cert.FfnGradIdeal.τ).loc Cert.FfnGradIdeal.main_v54_4) = v4 c
          ∧ r.2.mem ((c.tc : Thread Cert.FfnGradIdeal.nD Cert.FfnGradIdeal.τ).loc Cert.FfnGradIdeal.main_v54_5) = v5 c
          ∧ r.2.mem ((c.tc : Thread Cert.FfnGradIdeal.nD Cert.FfnGradIdeal.τ).loc Cert.FfnGradIdeal.main_v54_6) = v6 c
          ∧ r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
          ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6)
          ∧ r.2.mem ((c.tc : Thread Cert.FfnGradIdeal.nD Cert.FfnGradIdeal.τ).loc Cert.FfnGradIdeal.main_arg7) = m ((c.tc : Thread Cert.FfnGradIdeal.nD Cert.FfnGradIdeal.τ).loc Cert.FfnGradIdeal.main_arg7))
      ∧ θ_run (Cert.FfnGradRefIdeal.defs (F := Ideal)) (onTc (τ := Cert.FfnGradRefIdeal.τ) (Cert.FfnGradRefIdeal.main (F := Ideal))) ⟨m', fun _ => 0, g'⟩ (fun r => ∀ c : Dev Cert.FfnGradRefIdeal.nD,
          r.2.mem ((c.tc : Thread Cert.FfnGradRefIdeal.nD Cert.FfnGradRefIdeal.τ).loc Cert.FfnGradRefIdeal.main_v92) = v0 c
          ∧ r.2.mem ((c.tc : Thread Cert.FfnGradRefIdeal.nD Cert.FfnGradRefIdeal.τ).loc Cert.FfnGradRefIdeal.main_v95) = v1 c
          ∧ r.2.mem ((c.tc : Thread Cert.FfnGradRefIdeal.nD Cert.FfnGradRefIdeal.τ).loc Cert.FfnGradRefIdeal.main_v97) = v2 c
          ∧ r.2.mem ((c.tc : Thread Cert.FfnGradRefIdeal.nD Cert.FfnGradRefIdeal.τ).loc Cert.FfnGradRefIdeal.main_v99) = v3 c
          ∧ r.2.mem ((c.tc : Thread Cert.FfnGradRefIdeal.nD Cert.FfnGradRefIdeal.τ).loc Cert.FfnGradRefIdeal.main_v100) = v4 c
          ∧ r.2.mem ((c.tc : Thread Cert.FfnGradRefIdeal.nD Cert.FfnGradRefIdeal.τ).loc Cert.FfnGradRefIdeal.main_v102) = v5 c
          ∧ r.2.mem ((c.tc : Thread Cert.FfnGradRefIdeal.nD Cert.FfnGradRefIdeal.τ).loc Cert.FfnGradRefIdeal.main_v103) = v6 c
          ∧ r.2.mem ((c.tc : Thread Cert.FfnGradRefIdeal.nD Cert.FfnGradRefIdeal.τ).loc Cert.FfnGradRefIdeal.main_arg0) = m' ((c.tc : Thread Cert.FfnGradRefIdeal.nD Cert.FfnGradRefIdeal.τ).loc Cert.FfnGradRefIdeal.main_arg0)
          ∧ r.2.mem ((c.tc : Thread Cert.FfnGradRefIdeal.nD Cert.FfnGradRefIdeal.τ).loc Cert.FfnGradRefIdeal.main_arg1) = m' ((c.tc : Thread Cert.FfnGradRefIdeal.nD Cert.FfnGradRefIdeal.τ).loc Cert.FfnGradRefIdeal.main_arg1)
          ∧ r.2.mem ((c.tc : Thread Cert.FfnGradRefIdeal.nD Cert.FfnGradRefIdeal.τ).loc Cert.FfnGradRefIdeal.main_arg2) = m' ((c.tc : Thread Cert.FfnGradRefIdeal.nD Cert.FfnGradRefIdeal.τ).loc Cert.FfnGradRefIdeal.main_arg2)
          ∧ r.2.mem ((c.tc : Thread Cert.FfnGradRefIdeal.nD Cert.FfnGradRefIdeal.τ).loc Cert.FfnGradRefIdeal.main_arg3) = m' ((c.tc : Thread Cert.FfnGradRefIdeal.nD Cert.FfnGradRefIdeal.τ).loc Cert.FfnGradRefIdeal.main_arg3)
          ∧ r.2.mem ((c.tc : Thread Cert.FfnGradRefIdeal.nD Cert.FfnGradRefIdeal.τ).loc Cert.FfnGradRefIdeal.main_arg4) = m' ((c.tc : Thread Cert.FfnGradRefIdeal.nD Cert.FfnGradRefIdeal.τ).loc Cert.FfnGradRefIdeal.main_arg4)
          ∧ r.2.mem ((c.tc : Thread Cert.FfnGradRefIdeal.nD Cert.FfnGradRefIdeal.τ).loc Cert.FfnGradRefIdeal.main_arg5) = m' ((c.tc : Thread Cert.FfnGradRefIdeal.nD Cert.FfnGradRefIdeal.τ).loc Cert.FfnGradRefIdeal.main_arg5)
          ∧ r.2.mem ((c.tc : Thread Cert.FfnGradRefIdeal.nD Cert.FfnGradRefIdeal.τ).loc Cert.FfnGradRefIdeal.main_arg6) = m' ((c.tc : Thread Cert.FfnGradRefIdeal.nD Cert.FfnGradRefIdeal.τ).loc Cert.FfnGradRefIdeal.main_arg6)
          ∧ r.2.mem ((c.tc : Thread Cert.FfnGradRefIdeal.nD Cert.FfnGradRefIdeal.τ).loc Cert.FfnGradRefIdeal.main_arg7) = m' ((c.tc : Thread Cert.FfnGradRefIdeal.nD Cert.FfnGradRefIdeal.τ).loc Cert.FfnGradRefIdeal.main_arg7))

def preserves_SguGrad_SguGradIdeal : Prop :=
  IdealRules.named_const.Statement Cert.SguGradIdeal.κ "inv_sqrt_2" .f32 0x3F3504F3#32 (((Real.sqrt 2)⁻¹ : ℝ) : EReal)
  ∧ IdealRules.named_const.Statement Cert.SguGradIdeal.κ "c_over_2_sqrt_2" .f32 0x3ECC422A#32 (((9465531 / 16777216) * (Real.sqrt 2)⁻¹ : ℝ) : EReal)

def algebraic_SguGradIdeal_SguGradRefIdeal_pre_sgu_finite [hSguGradIdeal : Cert.SguGradIdeal.Facts] [hSguGradRefIdeal : Cert.SguGradRefIdeal.Facts] [hPre_sgu_finite : Cert.Pre_sgu_finite.Facts] : Prop :=
  ∀ (m : (ℓ : Loc Cert.SguGradIdeal.nD Cert.SguGradIdeal.τ Cert.SguGradIdeal.sig) → Buf (Elt Ideal) ℓ) (g : Dev Cert.SguGradIdeal.nD → PrngReg)
    (m' : (ℓ : Loc Cert.SguGradRefIdeal.nD Cert.SguGradRefIdeal.τ Cert.SguGradRefIdeal.sig) → Buf (Elt Ideal) ℓ) (g' : Dev Cert.SguGradRefIdeal.nD → PrngReg), Pre_SguGradIdeal_sgu_finite m →
    (∀ c : Dev Cert.SguGradIdeal.nD,
      m' ((c.tc : Thread Cert.SguGradRefIdeal.nD Cert.SguGradRefIdeal.τ).loc Cert.SguGradRefIdeal.main_arg0) = m ((c.tc : Thread Cert.SguGradIdeal.nD Cert.SguGradIdeal.τ).loc Cert.SguGradIdeal.main_arg0)
      ∧ m' ((c.tc : Thread Cert.SguGradRefIdeal.nD Cert.SguGradRefIdeal.τ).loc Cert.SguGradRefIdeal.main_arg1) = m ((c.tc : Thread Cert.SguGradIdeal.nD Cert.SguGradIdeal.τ).loc Cert.SguGradIdeal.main_arg1)
      ∧ m' ((c.tc : Thread Cert.SguGradRefIdeal.nD Cert.SguGradRefIdeal.τ).loc Cert.SguGradRefIdeal.main_arg2) = m ((c.tc : Thread Cert.SguGradIdeal.nD Cert.SguGradIdeal.τ).loc Cert.SguGradIdeal.main_arg2)
      ∧ m' ((c.tc : Thread Cert.SguGradRefIdeal.nD Cert.SguGradRefIdeal.τ).loc Cert.SguGradRefIdeal.main_arg3) = m ((c.tc : Thread Cert.SguGradIdeal.nD Cert.SguGradIdeal.τ).loc Cert.SguGradIdeal.main_arg3)
      ∧ m' ((c.tc : Thread Cert.SguGradRefIdeal.nD Cert.SguGradRefIdeal.τ).loc Cert.SguGradRefIdeal.main_arg4) = m ((c.tc : Thread Cert.SguGradIdeal.nD Cert.SguGradIdeal.τ).loc Cert.SguGradIdeal.main_arg4)
      ∧ m' ((c.tc : Thread Cert.SguGradRefIdeal.nD Cert.SguGradRefIdeal.τ).loc Cert.SguGradRefIdeal.main_arg5) = m ((c.tc : Thread Cert.SguGradIdeal.nD Cert.SguGradIdeal.τ).loc Cert.SguGradIdeal.main_arg5)
      ∧ m' ((c.tc : Thread Cert.SguGradRefIdeal.nD Cert.SguGradRefIdeal.τ).loc Cert.SguGradRefIdeal.main_arg6) = m ((c.tc : Thread Cert.SguGradIdeal.nD Cert.SguGradIdeal.τ).loc Cert.SguGradIdeal.main_arg6)
      ∧ m' ((c.tc : Thread Cert.SguGradRefIdeal.nD Cert.SguGradRefIdeal.τ).loc Cert.SguGradRefIdeal.main_arg7) = m ((c.tc : Thread Cert.SguGradIdeal.nD Cert.SguGradIdeal.τ).loc Cert.SguGradIdeal.main_arg7)) →
    ∃ (v0 : (c : Dev Cert.SguGradIdeal.nD) → Buf (Elt Ideal) ((c.tc : Thread Cert.SguGradIdeal.nD Cert.SguGradIdeal.τ).loc Cert.SguGradIdeal.main_v79_0)) (v1 : (c : Dev Cert.SguGradIdeal.nD) → Buf (Elt Ideal) ((c.tc : Thread Cert.SguGradIdeal.nD Cert.SguGradIdeal.τ).loc Cert.SguGradIdeal.main_v79_1)) (v2 : (c : Dev Cert.SguGradIdeal.nD) → Buf (Elt Ideal) ((c.tc : Thread Cert.SguGradIdeal.nD Cert.SguGradIdeal.τ).loc Cert.SguGradIdeal.main_v79_2)) (v3 : (c : Dev Cert.SguGradIdeal.nD) → Buf (Elt Ideal) ((c.tc : Thread Cert.SguGradIdeal.nD Cert.SguGradIdeal.τ).loc Cert.SguGradIdeal.main_v79_3)) (v4 : (c : Dev Cert.SguGradIdeal.nD) → Buf (Elt Ideal) ((c.tc : Thread Cert.SguGradIdeal.nD Cert.SguGradIdeal.τ).loc Cert.SguGradIdeal.main_v79_4)) (v5 : (c : Dev Cert.SguGradIdeal.nD) → Buf (Elt Ideal) ((c.tc : Thread Cert.SguGradIdeal.nD Cert.SguGradIdeal.τ).loc Cert.SguGradIdeal.main_v79_5)),
      θ_run (Cert.SguGradIdeal.defs (F := Ideal)) (onTc (τ := Cert.SguGradIdeal.τ) (Cert.SguGradIdeal.main (F := Ideal))) ⟨m, fun _ => 0, g⟩ (fun r => ∀ c : Dev Cert.SguGradIdeal.nD,
          r.2.mem ((c.tc : Thread Cert.SguGradIdeal.nD Cert.SguGradIdeal.τ).loc Cert.SguGradIdeal.main_v79_0) = v0 c
          ∧ r.2.mem ((c.tc : Thread Cert.SguGradIdeal.nD Cert.SguGradIdeal.τ).loc Cert.SguGradIdeal.main_v79_1) = v1 c
          ∧ r.2.mem ((c.tc : Thread Cert.SguGradIdeal.nD Cert.SguGradIdeal.τ).loc Cert.SguGradIdeal.main_v79_2) = v2 c
          ∧ r.2.mem ((c.tc : Thread Cert.SguGradIdeal.nD Cert.SguGradIdeal.τ).loc Cert.SguGradIdeal.main_v79_3) = v3 c
          ∧ r.2.mem ((c.tc : Thread Cert.SguGradIdeal.nD Cert.SguGradIdeal.τ).loc Cert.SguGradIdeal.main_v79_4) = v4 c
          ∧ r.2.mem ((c.tc : Thread Cert.SguGradIdeal.nD Cert.SguGradIdeal.τ).loc Cert.SguGradIdeal.main_v79_5) = v5 c
          ∧ r.2.mem ((c.tc : Thread Cert.SguGradIdeal.nD Cert.SguGradIdeal.τ).loc Cert.SguGradIdeal.main_arg0) = m ((c.tc : Thread Cert.SguGradIdeal.nD Cert.SguGradIdeal.τ).loc Cert.SguGradIdeal.main_arg0)
          ∧ r.2.mem ((c.tc : Thread Cert.SguGradIdeal.nD Cert.SguGradIdeal.τ).loc Cert.SguGradIdeal.main_arg1) = m ((c.tc : Thread Cert.SguGradIdeal.nD Cert.SguGradIdeal.τ).loc Cert.SguGradIdeal.main_arg1)
          ∧ r.2.mem ((c.tc : Thread Cert.SguGradIdeal.nD Cert.SguGradIdeal.τ).loc Cert.SguGradIdeal.main_arg2) = m ((c.tc : Thread Cert.SguGradIdeal.nD Cert.SguGradIdeal.τ).loc Cert.SguGradIdeal.main_arg2)
          ∧ r.2.mem ((c.tc : Thread Cert.SguGradIdeal.nD Cert.SguGradIdeal.τ).loc Cert.SguGradIdeal.main_arg3) = m ((c.tc : Thread Cert.SguGradIdeal.nD Cert.SguGradIdeal.τ).loc Cert.SguGradIdeal.main_arg3)
          ∧ r.2.mem ((c.tc : Thread Cert.SguGradIdeal.nD Cert.SguGradIdeal.τ).loc Cert.SguGradIdeal.main_arg4) = m ((c.tc : Thread Cert.SguGradIdeal.nD Cert.SguGradIdeal.τ).loc Cert.SguGradIdeal.main_arg4)
          ∧ r.2.mem ((c.tc : Thread Cert.SguGradIdeal.nD Cert.SguGradIdeal.τ).loc Cert.SguGradIdeal.main_arg5) = m ((c.tc : Thread Cert.SguGradIdeal.nD Cert.SguGradIdeal.τ).loc Cert.SguGradIdeal.main_arg5)
          ∧ r.2.mem ((c.tc : Thread Cert.SguGradIdeal.nD Cert.SguGradIdeal.τ).loc Cert.SguGradIdeal.main_arg6) = m ((c.tc : Thread Cert.SguGradIdeal.nD Cert.SguGradIdeal.τ).loc Cert.SguGradIdeal.main_arg6)
          ∧ r.2.mem ((c.tc : Thread Cert.SguGradIdeal.nD Cert.SguGradIdeal.τ).loc Cert.SguGradIdeal.main_arg7) = m ((c.tc : Thread Cert.SguGradIdeal.nD Cert.SguGradIdeal.τ).loc Cert.SguGradIdeal.main_arg7))
      ∧ θ_run (Cert.SguGradRefIdeal.defs (F := Ideal)) (onTc (τ := Cert.SguGradRefIdeal.τ) (Cert.SguGradRefIdeal.main (F := Ideal))) ⟨m', fun _ => 0, g'⟩ (fun r => ∀ c : Dev Cert.SguGradRefIdeal.nD,
          r.2.mem ((c.tc : Thread Cert.SguGradRefIdeal.nD Cert.SguGradRefIdeal.τ).loc Cert.SguGradRefIdeal.main_v114) = v0 c
          ∧ r.2.mem ((c.tc : Thread Cert.SguGradRefIdeal.nD Cert.SguGradRefIdeal.τ).loc Cert.SguGradRefIdeal.main_v116) = v1 c
          ∧ r.2.mem ((c.tc : Thread Cert.SguGradRefIdeal.nD Cert.SguGradRefIdeal.τ).loc Cert.SguGradRefIdeal.main_v60) = v2 c
          ∧ r.2.mem ((c.tc : Thread Cert.SguGradRefIdeal.nD Cert.SguGradRefIdeal.τ).loc Cert.SguGradRefIdeal.main_v117) = v3 c
          ∧ r.2.mem ((c.tc : Thread Cert.SguGradRefIdeal.nD Cert.SguGradRefIdeal.τ).loc Cert.SguGradRefIdeal.main_v74) = v4 c
          ∧ r.2.mem ((c.tc : Thread Cert.SguGradRefIdeal.nD Cert.SguGradRefIdeal.τ).loc Cert.SguGradRefIdeal.main_v118) = v5 c
          ∧ r.2.mem ((c.tc : Thread Cert.SguGradRefIdeal.nD Cert.SguGradRefIdeal.τ).loc Cert.SguGradRefIdeal.main_arg0) = m' ((c.tc : Thread Cert.SguGradRefIdeal.nD Cert.SguGradRefIdeal.τ).loc Cert.SguGradRefIdeal.main_arg0)
          ∧ r.2.mem ((c.tc : Thread Cert.SguGradRefIdeal.nD Cert.SguGradRefIdeal.τ).loc Cert.SguGradRefIdeal.main_arg1) = m' ((c.tc : Thread Cert.SguGradRefIdeal.nD Cert.SguGradRefIdeal.τ).loc Cert.SguGradRefIdeal.main_arg1)
          ∧ r.2.mem ((c.tc : Thread Cert.SguGradRefIdeal.nD Cert.SguGradRefIdeal.τ).loc Cert.SguGradRefIdeal.main_arg2) = m' ((c.tc : Thread Cert.SguGradRefIdeal.nD Cert.SguGradRefIdeal.τ).loc Cert.SguGradRefIdeal.main_arg2)
          ∧ r.2.mem ((c.tc : Thread Cert.SguGradRefIdeal.nD Cert.SguGradRefIdeal.τ).loc Cert.SguGradRefIdeal.main_arg3) = m' ((c.tc : Thread Cert.SguGradRefIdeal.nD Cert.SguGradRefIdeal.τ).loc Cert.SguGradRefIdeal.main_arg3)
          ∧ r.2.mem ((c.tc : Thread Cert.SguGradRefIdeal.nD Cert.SguGradRefIdeal.τ).loc Cert.SguGradRefIdeal.main_arg4) = m' ((c.tc : Thread Cert.SguGradRefIdeal.nD Cert.SguGradRefIdeal.τ).loc Cert.SguGradRefIdeal.main_arg4)
          ∧ r.2.mem ((c.tc : Thread Cert.SguGradRefIdeal.nD Cert.SguGradRefIdeal.τ).loc Cert.SguGradRefIdeal.main_arg5) = m' ((c.tc : Thread Cert.SguGradRefIdeal.nD Cert.SguGradRefIdeal.τ).loc Cert.SguGradRefIdeal.main_arg5)
          ∧ r.2.mem ((c.tc : Thread Cert.SguGradRefIdeal.nD Cert.SguGradRefIdeal.τ).loc Cert.SguGradRefIdeal.main_arg6) = m' ((c.tc : Thread Cert.SguGradRefIdeal.nD Cert.SguGradRefIdeal.τ).loc Cert.SguGradRefIdeal.main_arg6)
          ∧ r.2.mem ((c.tc : Thread Cert.SguGradRefIdeal.nD Cert.SguGradRefIdeal.τ).loc Cert.SguGradRefIdeal.main_arg7) = m' ((c.tc : Thread Cert.SguGradRefIdeal.nD Cert.SguGradRefIdeal.τ).loc Cert.SguGradRefIdeal.main_arg7))

def preserves_FfnLoss_FfnLossIdeal : Prop :=
  True

def algebraic_FfnLossIdeal_FfnLossRefIdeal [hFfnLossIdeal : Cert.FfnLossIdeal.Facts] [hFfnLossRefIdeal : Cert.FfnLossRefIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)
      ∧ m' ((c.tc : Thread Cert.FfnLossRefIdeal.nD Cert.FfnLossRefIdeal.τ).loc Cert.FfnLossRefIdeal.main_arg5) = m ((c.tc : Thread Cert.FfnLossIdeal.nD Cert.FfnLossIdeal.τ).loc Cert.FfnLossIdeal.main_arg5)
      ∧ m' ((c.tc : Thread Cert.FfnLossRefIdeal.nD Cert.FfnLossRefIdeal.τ).loc Cert.FfnLossRefIdeal.main_arg6) = m ((c.tc : Thread Cert.FfnLossIdeal.nD Cert.FfnLossIdeal.τ).loc Cert.FfnLossIdeal.main_arg6)
      ∧ m' ((c.tc : Thread Cert.FfnLossRefIdeal.nD Cert.FfnLossRefIdeal.τ).loc Cert.FfnLossRefIdeal.main_arg7) = m ((c.tc : Thread Cert.FfnLossIdeal.nD Cert.FfnLossIdeal.τ).loc Cert.FfnLossIdeal.main_arg7)
      ∧ m' ((c.tc : Thread Cert.FfnLossRefIdeal.nD Cert.FfnLossRefIdeal.τ).loc Cert.FfnLossRefIdeal.main_arg8) = m ((c.tc : Thread Cert.FfnLossIdeal.nD Cert.FfnLossIdeal.τ).loc Cert.FfnLossIdeal.main_arg8)) →
    ∃ (v0 : (c : Dev Cert.FfnLossIdeal.nD) → Buf (Elt Ideal) ((c.tc : Thread Cert.FfnLossIdeal.nD Cert.FfnLossIdeal.τ).loc Cert.FfnLossIdeal.main_v11_0)) (v1 : (c : Dev Cert.FfnLossIdeal.nD) → Buf (Elt Ideal) ((c.tc : Thread Cert.FfnLossIdeal.nD Cert.FfnLossIdeal.τ).loc Cert.FfnLossIdeal.main_v11_1)) (v2 : (c : Dev Cert.FfnLossIdeal.nD) → Buf (Elt Ideal) ((c.tc : Thread Cert.FfnLossIdeal.nD Cert.FfnLossIdeal.τ).loc Cert.FfnLossIdeal.main_v11_2)) (v3 : (c : Dev Cert.FfnLossIdeal.nD) → Buf (Elt Ideal) ((c.tc : Thread Cert.FfnLossIdeal.nD Cert.FfnLossIdeal.τ).loc Cert.FfnLossIdeal.main_v11_3)) (v4 : (c : Dev Cert.FfnLossIdeal.nD) → Buf (Elt Ideal) ((c.tc : Thread Cert.FfnLossIdeal.nD Cert.FfnLossIdeal.τ).loc Cert.FfnLossIdeal.main_v11_4)) (v5 : (c : Dev Cert.FfnLossIdeal.nD) → Buf (Elt Ideal) ((c.tc : Thread Cert.FfnLossIdeal.nD Cert.FfnLossIdeal.τ).loc Cert.FfnLossIdeal.main_v11_5)) (v6 : (c : Dev Cert.FfnLossIdeal.nD) → Buf (Elt Ideal) ((c.tc : Thread Cert.FfnLossIdeal.nD Cert.FfnLossIdeal.τ).loc Cert.FfnLossIdeal.main_v11_6)) (v7 : (c : Dev Cert.FfnLossIdeal.nD) → Buf (Elt Ideal) ((c.tc : Thread Cert.FfnLossIdeal.nD Cert.FfnLossIdeal.τ).loc Cert.FfnLossIdeal.main_v11_7)) (v8 : (c : Dev Cert.FfnLossIdeal.nD) → Buf (Elt Ideal) ((c.tc : Thread Cert.FfnLossIdeal.nD Cert.FfnLossIdeal.τ).loc Cert.FfnLossIdeal.main_v11_8)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v11_0) = v0 c
          ∧ r.2.mem ((c.tc : Thread Cert.FfnLossIdeal.nD Cert.FfnLossIdeal.τ).loc Cert.FfnLossIdeal.main_v11_1) = v1 c
          ∧ r.2.mem ((c.tc : Thread Cert.FfnLossIdeal.nD Cert.FfnLossIdeal.τ).loc Cert.FfnLossIdeal.main_v11_2) = v2 c
          ∧ r.2.mem ((c.tc : Thread Cert.FfnLossIdeal.nD Cert.FfnLossIdeal.τ).loc Cert.FfnLossIdeal.main_v11_3) = v3 c
          ∧ r.2.mem ((c.tc : Thread Cert.FfnLossIdeal.nD Cert.FfnLossIdeal.τ).loc Cert.FfnLossIdeal.main_v11_4) = v4 c
          ∧ r.2.mem ((c.tc : Thread Cert.FfnLossIdeal.nD Cert.FfnLossIdeal.τ).loc Cert.FfnLossIdeal.main_v11_5) = v5 c
          ∧ r.2.mem ((c.tc : Thread Cert.FfnLossIdeal.nD Cert.FfnLossIdeal.τ).loc Cert.FfnLossIdeal.main_v11_6) = v6 c
          ∧ r.2.mem ((c.tc : Thread Cert.FfnLossIdeal.nD Cert.FfnLossIdeal.τ).loc Cert.FfnLossIdeal.main_v11_7) = v7 c
          ∧ r.2.mem ((c.tc : Thread Cert.FfnLossIdeal.nD Cert.FfnLossIdeal.τ).loc Cert.FfnLossIdeal.main_v11_8) = v8 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
          ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6)
          ∧ r.2.mem ((c.tc : Thread Cert.FfnLossIdeal.nD Cert.FfnLossIdeal.τ).loc Cert.FfnLossIdeal.main_arg7) = m ((c.tc : Thread Cert.FfnLossIdeal.nD Cert.FfnLossIdeal.τ).loc Cert.FfnLossIdeal.main_arg7)
          ∧ r.2.mem ((c.tc : Thread Cert.FfnLossIdeal.nD Cert.FfnLossIdeal.τ).loc Cert.FfnLossIdeal.main_arg8) = m ((c.tc : Thread Cert.FfnLossIdeal.nD Cert.FfnLossIdeal.τ).loc Cert.FfnLossIdeal.main_arg8))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v96) = v0 c
          ∧ r.2.mem ((c.tc : Thread Cert.FfnLossRefIdeal.nD Cert.FfnLossRefIdeal.τ).loc Cert.FfnLossRefIdeal.main_v105) = v1 c
          ∧ r.2.mem ((c.tc : Thread Cert.FfnLossRefIdeal.nD Cert.FfnLossRefIdeal.τ).loc Cert.FfnLossRefIdeal.main_v106) = v2 c
          ∧ r.2.mem ((c.tc : Thread Cert.FfnLossRefIdeal.nD Cert.FfnLossRefIdeal.τ).loc Cert.FfnLossRefIdeal.main_v107) = v3 c
          ∧ r.2.mem ((c.tc : Thread Cert.FfnLossRefIdeal.nD Cert.FfnLossRefIdeal.τ).loc Cert.FfnLossRefIdeal.main_v108) = v4 c
          ∧ r.2.mem ((c.tc : Thread Cert.FfnLossRefIdeal.nD Cert.FfnLossRefIdeal.τ).loc Cert.FfnLossRefIdeal.main_v104) = v5 c
          ∧ r.2.mem ((c.tc : Thread Cert.FfnLossRefIdeal.nD Cert.FfnLossRefIdeal.τ).loc Cert.FfnLossRefIdeal.main_v111) = v6 c
          ∧ r.2.mem ((c.tc : Thread Cert.FfnLossRefIdeal.nD Cert.FfnLossRefIdeal.τ).loc Cert.FfnLossRefIdeal.main_v114) = v7 c
          ∧ r.2.mem ((c.tc : Thread Cert.FfnLossRefIdeal.nD Cert.FfnLossRefIdeal.τ).loc Cert.FfnLossRefIdeal.main_v142) = v8 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4)
          ∧ r.2.mem ((c.tc : Thread Cert.FfnLossRefIdeal.nD Cert.FfnLossRefIdeal.τ).loc Cert.FfnLossRefIdeal.main_arg5) = m' ((c.tc : Thread Cert.FfnLossRefIdeal.nD Cert.FfnLossRefIdeal.τ).loc Cert.FfnLossRefIdeal.main_arg5)
          ∧ r.2.mem ((c.tc : Thread Cert.FfnLossRefIdeal.nD Cert.FfnLossRefIdeal.τ).loc Cert.FfnLossRefIdeal.main_arg6) = m' ((c.tc : Thread Cert.FfnLossRefIdeal.nD Cert.FfnLossRefIdeal.τ).loc Cert.FfnLossRefIdeal.main_arg6)
          ∧ r.2.mem ((c.tc : Thread Cert.FfnLossRefIdeal.nD Cert.FfnLossRefIdeal.τ).loc Cert.FfnLossRefIdeal.main_arg7) = m' ((c.tc : Thread Cert.FfnLossRefIdeal.nD Cert.FfnLossRefIdeal.τ).loc Cert.FfnLossRefIdeal.main_arg7)
          ∧ r.2.mem ((c.tc : Thread Cert.FfnLossRefIdeal.nD Cert.FfnLossRefIdeal.τ).loc Cert.FfnLossRefIdeal.main_arg8) = m' ((c.tc : Thread Cert.FfnLossRefIdeal.nD Cert.FfnLossRefIdeal.τ).loc Cert.FfnLossRefIdeal.main_arg8))

def preserves_OddFwd_OddFwdIdeal : Prop :=
  IdealRules.named_const.Statement Cert.OddFwdIdeal.κ "inv_sqrt_2" .f32 0x3F3504F3#32 (((Real.sqrt 2)⁻¹ : ℝ) : EReal)

def algebraic_OddFwdIdeal_OddFwdRefIdeal [hOddFwdIdeal : Cert.OddFwdIdeal.Facts] [hOddFwdRefIdeal : Cert.OddFwdRefIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg)
    (m' : (ℓ : Loc Cert.OddFwdRefIdeal.nD Cert.OddFwdRefIdeal.τ Cert.OddFwdRefIdeal.sig) → Buf (Elt Ideal) ℓ) (g' : Dev Cert.OddFwdRefIdeal.nD → PrngReg), Pre_OddFwdIdeal m →
    (∀ c : Dev Cert.OddFwdIdeal.nD,
      m' ((c.tc : Thread Cert.OddFwdRefIdeal.nD Cert.OddFwdRefIdeal.τ).loc Cert.OddFwdRefIdeal.main_arg0) = m ((c.tc : Thread Cert.OddFwdIdeal.nD Cert.OddFwdIdeal.τ).loc Cert.OddFwdIdeal.main_arg0)
      ∧ m' ((c.tc : Thread Cert.OddFwdRefIdeal.nD Cert.OddFwdRefIdeal.τ).loc Cert.OddFwdRefIdeal.main_arg1) = m ((c.tc : Thread Cert.OddFwdIdeal.nD Cert.OddFwdIdeal.τ).loc Cert.OddFwdIdeal.main_arg1)
      ∧ m' ((c.tc : Thread Cert.OddFwdRefIdeal.nD Cert.OddFwdRefIdeal.τ).loc Cert.OddFwdRefIdeal.main_arg2) = m ((c.tc : Thread Cert.OddFwdIdeal.nD Cert.OddFwdIdeal.τ).loc Cert.OddFwdIdeal.main_arg2)
      ∧ m' ((c.tc : Thread Cert.OddFwdRefIdeal.nD Cert.OddFwdRefIdeal.τ).loc Cert.OddFwdRefIdeal.main_arg3) = m ((c.tc : Thread Cert.OddFwdIdeal.nD Cert.OddFwdIdeal.τ).loc Cert.OddFwdIdeal.main_arg3)
      ∧ m' ((c.tc : Thread Cert.OddFwdRefIdeal.nD Cert.OddFwdRefIdeal.τ).loc Cert.OddFwdRefIdeal.main_arg4) = m ((c.tc : Thread Cert.OddFwdIdeal.nD Cert.OddFwdIdeal.τ).loc Cert.OddFwdIdeal.main_arg4)
      ∧ m' ((c.tc : Thread Cert.OddFwdRefIdeal.nD Cert.OddFwdRefIdeal.τ).loc Cert.OddFwdRefIdeal.main_arg5) = m ((c.tc : Thread Cert.OddFwdIdeal.nD Cert.OddFwdIdeal.τ).loc Cert.OddFwdIdeal.main_arg5)
      ∧ m' ((c.tc : Thread Cert.OddFwdRefIdeal.nD Cert.OddFwdRefIdeal.τ).loc Cert.OddFwdRefIdeal.main_arg6) = m ((c.tc : Thread Cert.OddFwdIdeal.nD Cert.OddFwdIdeal.τ).loc Cert.OddFwdIdeal.main_arg6)) →
    ∃ (v0 : (c : Dev Cert.OddFwdIdeal.nD) → Buf (Elt Ideal) ((c.tc : Thread Cert.OddFwdIdeal.nD Cert.OddFwdIdeal.τ).loc Cert.OddFwdIdeal.main_v5_0)) (v1 : (c : Dev Cert.OddFwdIdeal.nD) → Buf (Elt Ideal) ((c.tc : Thread Cert.OddFwdIdeal.nD Cert.OddFwdIdeal.τ).loc Cert.OddFwdIdeal.main_v5_1)) (v2 : (c : Dev Cert.OddFwdIdeal.nD) → Buf (Elt Ideal) ((c.tc : Thread Cert.OddFwdIdeal.nD Cert.OddFwdIdeal.τ).loc Cert.OddFwdIdeal.main_v5_2)) (v3 : (c : Dev Cert.OddFwdIdeal.nD) → Buf (Elt Ideal) ((c.tc : Thread Cert.OddFwdIdeal.nD Cert.OddFwdIdeal.τ).loc Cert.OddFwdIdeal.main_v5_3)) (v4 : (c : Dev Cert.OddFwdIdeal.nD) → Buf (Elt Ideal) ((c.tc : Thread Cert.OddFwdIdeal.nD Cert.OddFwdIdeal.τ).loc Cert.OddFwdIdeal.main_v5_4)) (v5 : (c : Dev Cert.OddFwdIdeal.nD) → Buf (Elt Ideal) ((c.tc : Thread Cert.OddFwdIdeal.nD Cert.OddFwdIdeal.τ).loc Cert.OddFwdIdeal.main_v5_5)),
      θ_run (Cert.OddFwdIdeal.defs (F := Ideal)) (onTc (τ := Cert.OddFwdIdeal.τ) (Cert.OddFwdIdeal.main (F := Ideal))) ⟨m, fun _ => 0, g⟩ (fun r => ∀ c : Dev Cert.OddFwdIdeal.nD,
          r.2.mem ((c.tc : Thread Cert.OddFwdIdeal.nD Cert.OddFwdIdeal.τ).loc Cert.OddFwdIdeal.main_v5_0) = v0 c
          ∧ r.2.mem ((c.tc : Thread Cert.OddFwdIdeal.nD Cert.OddFwdIdeal.τ).loc Cert.OddFwdIdeal.main_v5_1) = v1 c
          ∧ r.2.mem ((c.tc : Thread Cert.OddFwdIdeal.nD Cert.OddFwdIdeal.τ).loc Cert.OddFwdIdeal.main_v5_2) = v2 c
          ∧ r.2.mem ((c.tc : Thread Cert.OddFwdIdeal.nD Cert.OddFwdIdeal.τ).loc Cert.OddFwdIdeal.main_v5_3) = v3 c
          ∧ r.2.mem ((c.tc : Thread Cert.OddFwdIdeal.nD Cert.OddFwdIdeal.τ).loc Cert.OddFwdIdeal.main_v5_4) = v4 c
          ∧ r.2.mem ((c.tc : Thread Cert.OddFwdIdeal.nD Cert.OddFwdIdeal.τ).loc Cert.OddFwdIdeal.main_v5_5) = v5 c
          ∧ r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
          ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
          ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2)
          ∧ r.2.mem ((c.tc : Thread Cert.OddFwdIdeal.nD Cert.OddFwdIdeal.τ).loc Cert.OddFwdIdeal.main_arg3) = m ((c.tc : Thread Cert.OddFwdIdeal.nD Cert.OddFwdIdeal.τ).loc Cert.OddFwdIdeal.main_arg3)
          ∧ r.2.mem ((c.tc : Thread Cert.OddFwdIdeal.nD Cert.OddFwdIdeal.τ).loc Cert.OddFwdIdeal.main_arg4) = m ((c.tc : Thread Cert.OddFwdIdeal.nD Cert.OddFwdIdeal.τ).loc Cert.OddFwdIdeal.main_arg4)
          ∧ r.2.mem ((c.tc : Thread Cert.OddFwdIdeal.nD Cert.OddFwdIdeal.τ).loc Cert.OddFwdIdeal.main_arg5) = m ((c.tc : Thread Cert.OddFwdIdeal.nD Cert.OddFwdIdeal.τ).loc Cert.OddFwdIdeal.main_arg5)
          ∧ r.2.mem ((c.tc : Thread Cert.OddFwdIdeal.nD Cert.OddFwdIdeal.τ).loc Cert.OddFwdIdeal.main_arg6) = m ((c.tc : Thread Cert.OddFwdIdeal.nD Cert.OddFwdIdeal.τ).loc Cert.OddFwdIdeal.main_arg6))
      ∧ θ_run (Cert.OddFwdRefIdeal.defs (F := Ideal)) (onTc (τ := Cert.OddFwdRefIdeal.τ) (Cert.OddFwdRefIdeal.main (F := Ideal))) ⟨m', fun _ => 0, g'⟩ (fun r => ∀ c : Dev Cert.OddFwdRefIdeal.nD,
          r.2.mem ((c.tc : Thread Cert.OddFwdRefIdeal.nD Cert.OddFwdRefIdeal.τ).loc Cert.OddFwdRefIdeal.main_v65) = v0 c
          ∧ r.2.mem ((c.tc : Thread Cert.OddFwdRefIdeal.nD Cert.OddFwdRefIdeal.τ).loc Cert.OddFwdRefIdeal.main_v66) = v1 c
          ∧ r.2.mem ((c.tc : Thread Cert.OddFwdRefIdeal.nD Cert.OddFwdRefIdeal.τ).loc Cert.OddFwdRefIdeal.main_v74) = v2 c
          ∧ r.2.mem ((c.tc : Thread Cert.OddFwdRefIdeal.nD Cert.OddFwdRefIdeal.τ).loc Cert.OddFwdRefIdeal.main_v77) = v3 c
          ∧ r.2.mem ((c.tc : Thread Cert.OddFwdRefIdeal.nD Cert.OddFwdRefIdeal.τ).loc Cert.OddFwdRefIdeal.main_v78) = v4 c
          ∧ r.2.mem ((c.tc : Thread Cert.OddFwdRefIdeal.nD Cert.OddFwdRefIdeal.τ).loc Cert.OddFwdRefIdeal.main_v86) = v5 c
          ∧ r.2.mem ((c.tc : Thread Cert.OddFwdRefIdeal.nD Cert.OddFwdRefIdeal.τ).loc Cert.OddFwdRefIdeal.main_arg0) = m' ((c.tc : Thread Cert.OddFwdRefIdeal.nD Cert.OddFwdRefIdeal.τ).loc Cert.OddFwdRefIdeal.main_arg0)
          ∧ r.2.mem ((c.tc : Thread Cert.OddFwdRefIdeal.nD Cert.OddFwdRefIdeal.τ).loc Cert.OddFwdRefIdeal.main_arg1) = m' ((c.tc : Thread Cert.OddFwdRefIdeal.nD Cert.OddFwdRefIdeal.τ).loc Cert.OddFwdRefIdeal.main_arg1)
          ∧ r.2.mem ((c.tc : Thread Cert.OddFwdRefIdeal.nD Cert.OddFwdRefIdeal.τ).loc Cert.OddFwdRefIdeal.main_arg2) = m' ((c.tc : Thread Cert.OddFwdRefIdeal.nD Cert.OddFwdRefIdeal.τ).loc Cert.OddFwdRefIdeal.main_arg2)
          ∧ r.2.mem ((c.tc : Thread Cert.OddFwdRefIdeal.nD Cert.OddFwdRefIdeal.τ).loc Cert.OddFwdRefIdeal.main_arg3) = m' ((c.tc : Thread Cert.OddFwdRefIdeal.nD Cert.OddFwdRefIdeal.τ).loc Cert.OddFwdRefIdeal.main_arg3)
          ∧ r.2.mem ((c.tc : Thread Cert.OddFwdRefIdeal.nD Cert.OddFwdRefIdeal.τ).loc Cert.OddFwdRefIdeal.main_arg4) = m' ((c.tc : Thread Cert.OddFwdRefIdeal.nD Cert.OddFwdRefIdeal.τ).loc Cert.OddFwdRefIdeal.main_arg4)
          ∧ r.2.mem ((c.tc : Thread Cert.OddFwdRefIdeal.nD Cert.OddFwdRefIdeal.τ).loc Cert.OddFwdRefIdeal.main_arg5) = m' ((c.tc : Thread Cert.OddFwdRefIdeal.nD Cert.OddFwdRefIdeal.τ).loc Cert.OddFwdRefIdeal.main_arg5)
          ∧ r.2.mem ((c.tc : Thread Cert.OddFwdRefIdeal.nD Cert.OddFwdRefIdeal.τ).loc Cert.OddFwdRefIdeal.main_arg6) = m' ((c.tc : Thread Cert.OddFwdRefIdeal.nD Cert.OddFwdRefIdeal.τ).loc Cert.OddFwdRefIdeal.main_arg6))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)) →
    ∃ (v0 : (c : Dev Cert.FfnInIdeal.nD) → Buf (Elt Ideal) ((c.tc : Thread Cert.FfnInIdeal.nD Cert.FfnInIdeal.τ).loc Cert.FfnInIdeal.main_v23_0)) (v1 : (c : Dev Cert.FfnInIdeal.nD) → Buf (Elt Ideal) ((c.tc : Thread Cert.FfnInIdeal.nD Cert.FfnInIdeal.τ).loc Cert.FfnInIdeal.main_v23_1)) (v2 : (c : Dev Cert.FfnInIdeal.nD) → Buf (Elt Ideal) ((c.tc : Thread Cert.FfnInIdeal.nD Cert.FfnInIdeal.τ).loc Cert.FfnInIdeal.main_v23_2)) (v3 : (c : Dev Cert.FfnInIdeal.nD) → Buf (Elt Ideal) ((c.tc : Thread Cert.FfnInIdeal.nD Cert.FfnInIdeal.τ).loc Cert.FfnInIdeal.main_v23_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v23_0) = v0 c
          ∧ r.2.mem ((c.tc : Thread Cert.FfnInIdeal.nD Cert.FfnInIdeal.τ).loc Cert.FfnInIdeal.main_v23_1) = v1 c
          ∧ r.2.mem ((c.tc : Thread Cert.FfnInIdeal.nD Cert.FfnInIdeal.τ).loc Cert.FfnInIdeal.main_v23_2) = v2 c
          ∧ r.2.mem ((c.tc : Thread Cert.FfnInIdeal.nD Cert.FfnInIdeal.τ).loc Cert.FfnInIdeal.main_v23_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v42) = v0 c
          ∧ r.2.mem ((c.tc : Thread Cert.FfnInRefIdeal.nD Cert.FfnInRefIdeal.τ).loc Cert.FfnInRefIdeal.main_v45) = v1 c
          ∧ r.2.mem ((c.tc : Thread Cert.FfnInRefIdeal.nD Cert.FfnInRefIdeal.τ).loc Cert.FfnInRefIdeal.main_v48) = v2 c
          ∧ r.2.mem ((c.tc : Thread Cert.FfnInRefIdeal.nD Cert.FfnInRefIdeal.τ).loc Cert.FfnInRefIdeal.main_v53) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5))

def preserves_EvenFwd_EvenFwdIdeal : Prop :=
  True

def algebraic_EvenFwdIdeal_EvenFwdRefIdeal_pre_even_fwd_finite [hEvenFwdIdeal : Cert.EvenFwdIdeal.Facts] [hEvenFwdRefIdeal : Cert.EvenFwdRefIdeal.Facts] [hPre_even_fwd_finite : Cert.Pre_even_fwd_finite.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg)
    (m' : (ℓ : Loc Cert.EvenFwdRefIdeal.nD Cert.EvenFwdRefIdeal.τ Cert.EvenFwdRefIdeal.sig) → Buf (Elt Ideal) ℓ) (g' : Dev Cert.EvenFwdRefIdeal.nD → PrngReg), Pre_EvenFwdIdeal_even_fwd_finite m →
    (∀ c : Dev Cert.EvenFwdIdeal.nD,
      m' ((c.tc : Thread Cert.EvenFwdRefIdeal.nD Cert.EvenFwdRefIdeal.τ).loc Cert.EvenFwdRefIdeal.main_arg0) = m ((c.tc : Thread Cert.EvenFwdIdeal.nD Cert.EvenFwdIdeal.τ).loc Cert.EvenFwdIdeal.main_arg0)
      ∧ m' ((c.tc : Thread Cert.EvenFwdRefIdeal.nD Cert.EvenFwdRefIdeal.τ).loc Cert.EvenFwdRefIdeal.main_arg1) = m ((c.tc : Thread Cert.EvenFwdIdeal.nD Cert.EvenFwdIdeal.τ).loc Cert.EvenFwdIdeal.main_arg1)
      ∧ m' ((c.tc : Thread Cert.EvenFwdRefIdeal.nD Cert.EvenFwdRefIdeal.τ).loc Cert.EvenFwdRefIdeal.main_arg2) = m ((c.tc : Thread Cert.EvenFwdIdeal.nD Cert.EvenFwdIdeal.τ).loc Cert.EvenFwdIdeal.main_arg2)
      ∧ m' ((c.tc : Thread Cert.EvenFwdRefIdeal.nD Cert.EvenFwdRefIdeal.τ).loc Cert.EvenFwdRefIdeal.main_arg3) = m ((c.tc : Thread Cert.EvenFwdIdeal.nD Cert.EvenFwdIdeal.τ).loc Cert.EvenFwdIdeal.main_arg3)
      ∧ m' ((c.tc : Thread Cert.EvenFwdRefIdeal.nD Cert.EvenFwdRefIdeal.τ).loc Cert.EvenFwdRefIdeal.main_arg4) = m ((c.tc : Thread Cert.EvenFwdIdeal.nD Cert.EvenFwdIdeal.τ).loc Cert.EvenFwdIdeal.main_arg4)
      ∧ m' ((c.tc : Thread Cert.EvenFwdRefIdeal.nD Cert.EvenFwdRefIdeal.τ).loc Cert.EvenFwdRefIdeal.main_arg5) = m ((c.tc : Thread Cert.EvenFwdIdeal.nD Cert.EvenFwdIdeal.τ).loc Cert.EvenFwdIdeal.main_arg5)
      ∧ m' ((c.tc : Thread Cert.EvenFwdRefIdeal.nD Cert.EvenFwdRefIdeal.τ).loc Cert.EvenFwdRefIdeal.main_arg6) = m ((c.tc : Thread Cert.EvenFwdIdeal.nD Cert.EvenFwdIdeal.τ).loc Cert.EvenFwdIdeal.main_arg6)
      ∧ m' ((c.tc : Thread Cert.EvenFwdRefIdeal.nD Cert.EvenFwdRefIdeal.τ).loc Cert.EvenFwdRefIdeal.main_arg7) = m ((c.tc : Thread Cert.EvenFwdIdeal.nD Cert.EvenFwdIdeal.τ).loc Cert.EvenFwdIdeal.main_arg7)) →
    ∃ (v0 : (c : Dev Cert.EvenFwdIdeal.nD) → Buf (Elt Ideal) ((c.tc : Thread Cert.EvenFwdIdeal.nD Cert.EvenFwdIdeal.τ).loc Cert.EvenFwdIdeal.main_v5_0)) (v1 : (c : Dev Cert.EvenFwdIdeal.nD) → Buf (Elt Ideal) ((c.tc : Thread Cert.EvenFwdIdeal.nD Cert.EvenFwdIdeal.τ).loc Cert.EvenFwdIdeal.main_v5_1)) (v2 : (c : Dev Cert.EvenFwdIdeal.nD) → Buf (Elt Ideal) ((c.tc : Thread Cert.EvenFwdIdeal.nD Cert.EvenFwdIdeal.τ).loc Cert.EvenFwdIdeal.main_v5_2)) (v3 : (c : Dev Cert.EvenFwdIdeal.nD) → Buf (Elt Ideal) ((c.tc : Thread Cert.EvenFwdIdeal.nD Cert.EvenFwdIdeal.τ).loc Cert.EvenFwdIdeal.main_v5_3)) (v4 : (c : Dev Cert.EvenFwdIdeal.nD) → Buf (Elt Ideal) ((c.tc : Thread Cert.EvenFwdIdeal.nD Cert.EvenFwdIdeal.τ).loc Cert.EvenFwdIdeal.main_v5_4)) (v5 : (c : Dev Cert.EvenFwdIdeal.nD) → Buf (Elt Ideal) ((c.tc : Thread Cert.EvenFwdIdeal.nD Cert.EvenFwdIdeal.τ).loc Cert.EvenFwdIdeal.main_v5_5)) (v6 : (c : Dev Cert.EvenFwdIdeal.nD) → Buf (Elt Ideal) ((c.tc : Thread Cert.EvenFwdIdeal.nD Cert.EvenFwdIdeal.τ).loc Cert.EvenFwdIdeal.main_v5_6)),
      θ_run (Cert.EvenFwdIdeal.defs (F := Ideal)) (onTc (τ := Cert.EvenFwdIdeal.τ) (Cert.EvenFwdIdeal.main (F := Ideal))) ⟨m, fun _ => 0, g⟩ (fun r => ∀ c : Dev Cert.EvenFwdIdeal.nD,
          r.2.mem ((c.tc : Thread Cert.EvenFwdIdeal.nD Cert.EvenFwdIdeal.τ).loc Cert.EvenFwdIdeal.main_v5_0) = v0 c
          ∧ r.2.mem ((c.tc : Thread Cert.EvenFwdIdeal.nD Cert.EvenFwdIdeal.τ).loc Cert.EvenFwdIdeal.main_v5_1) = v1 c
          ∧ r.2.mem ((c.tc : Thread Cert.EvenFwdIdeal.nD Cert.EvenFwdIdeal.τ).loc Cert.EvenFwdIdeal.main_v5_2) = v2 c
          ∧ r.2.mem ((c.tc : Thread Cert.EvenFwdIdeal.nD Cert.EvenFwdIdeal.τ).loc Cert.EvenFwdIdeal.main_v5_3) = v3 c
          ∧ r.2.mem ((c.tc : Thread Cert.EvenFwdIdeal.nD Cert.EvenFwdIdeal.τ).loc Cert.EvenFwdIdeal.main_v5_4) = v4 c
          ∧ r.2.mem ((c.tc : Thread Cert.EvenFwdIdeal.nD Cert.EvenFwdIdeal.τ).loc Cert.EvenFwdIdeal.main_v5_5) = v5 c
          ∧ r.2.mem ((c.tc : Thread Cert.EvenFwdIdeal.nD Cert.EvenFwdIdeal.τ).loc Cert.EvenFwdIdeal.main_v5_6) = v6 c
          ∧ r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
          ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
          ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
          ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
          ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
          ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
          ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
          ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7))
      ∧ θ_run (Cert.EvenFwdRefIdeal.defs (F := Ideal)) (onTc (τ := Cert.EvenFwdRefIdeal.τ) (Cert.EvenFwdRefIdeal.main (F := Ideal))) ⟨m', fun _ => 0, g'⟩ (fun r => ∀ c : Dev Cert.EvenFwdRefIdeal.nD,
          r.2.mem ((c.tc : Thread Cert.EvenFwdRefIdeal.nD Cert.EvenFwdRefIdeal.τ).loc Cert.EvenFwdRefIdeal.main_v115) = v0 c
          ∧ r.2.mem ((c.tc : Thread Cert.EvenFwdRefIdeal.nD Cert.EvenFwdRefIdeal.τ).loc Cert.EvenFwdRefIdeal.main_v116) = v1 c
          ∧ r.2.mem ((c.tc : Thread Cert.EvenFwdRefIdeal.nD Cert.EvenFwdRefIdeal.τ).loc Cert.EvenFwdRefIdeal.main_v124) = v2 c
          ∧ r.2.mem ((c.tc : Thread Cert.EvenFwdRefIdeal.nD Cert.EvenFwdRefIdeal.τ).loc Cert.EvenFwdRefIdeal.main_v134) = v3 c
          ∧ r.2.mem ((c.tc : Thread Cert.EvenFwdRefIdeal.nD Cert.EvenFwdRefIdeal.τ).loc Cert.EvenFwdRefIdeal.main_v135) = v4 c
          ∧ r.2.mem ((c.tc : Thread Cert.EvenFwdRefIdeal.nD Cert.EvenFwdRefIdeal.τ).loc Cert.EvenFwdRefIdeal.main_v150) = v5 c
          ∧ r.2.mem ((c.tc : Thread Cert.EvenFwdRefIdeal.nD Cert.EvenFwdRefIdeal.τ).loc Cert.EvenFwdRefIdeal.main_v158) = v6 c
          ∧ r.2.mem ((c.tc : Thread Cert.EvenFwdRefIdeal.nD Cert.EvenFwdRefIdeal.τ).loc Cert.EvenFwdRefIdeal.main_arg0) = m' ((c.tc : Thread Cert.EvenFwdRefIdeal.nD Cert.EvenFwdRefIdeal.τ).loc Cert.EvenFwdRefIdeal.main_arg0)
          ∧ r.2.mem ((c.tc : Thread Cert.EvenFwdRefIdeal.nD Cert.EvenFwdRefIdeal.τ).loc Cert.EvenFwdRefIdeal.main_arg1) = m' ((c.tc : Thread Cert.EvenFwdRefIdeal.nD Cert.EvenFwdRefIdeal.τ).loc Cert.EvenFwdRefIdeal.main_arg1)
          ∧ r.2.mem ((c.tc : Thread Cert.EvenFwdRefIdeal.nD Cert.EvenFwdRefIdeal.τ).loc Cert.EvenFwdRefIdeal.main_arg2) = m' ((c.tc : Thread Cert.EvenFwdRefIdeal.nD Cert.EvenFwdRefIdeal.τ).loc Cert.EvenFwdRefIdeal.main_arg2)
          ∧ r.2.mem ((c.tc : Thread Cert.EvenFwdRefIdeal.nD Cert.EvenFwdRefIdeal.τ).loc Cert.EvenFwdRefIdeal.main_arg3) = m' ((c.tc : Thread Cert.EvenFwdRefIdeal.nD Cert.EvenFwdRefIdeal.τ).loc Cert.EvenFwdRefIdeal.main_arg3)
          ∧ r.2.mem ((c.tc : Thread Cert.EvenFwdRefIdeal.nD Cert.EvenFwdRefIdeal.τ).loc Cert.EvenFwdRefIdeal.main_arg4) = m' ((c.tc : Thread Cert.EvenFwdRefIdeal.nD Cert.EvenFwdRefIdeal.τ).loc Cert.EvenFwdRefIdeal.main_arg4)
          ∧ r.2.mem ((c.tc : Thread Cert.EvenFwdRefIdeal.nD Cert.EvenFwdRefIdeal.τ).loc Cert.EvenFwdRefIdeal.main_arg5) = m' ((c.tc : Thread Cert.EvenFwdRefIdeal.nD Cert.EvenFwdRefIdeal.τ).loc Cert.EvenFwdRefIdeal.main_arg5)
          ∧ r.2.mem ((c.tc : Thread Cert.EvenFwdRefIdeal.nD Cert.EvenFwdRefIdeal.τ).loc Cert.EvenFwdRefIdeal.main_arg6) = m' ((c.tc : Thread Cert.EvenFwdRefIdeal.nD Cert.EvenFwdRefIdeal.τ).loc Cert.EvenFwdRefIdeal.main_arg6)
          ∧ r.2.mem ((c.tc : Thread Cert.EvenFwdRefIdeal.nD Cert.EvenFwdRefIdeal.τ).loc Cert.EvenFwdRefIdeal.main_arg7) = m' ((c.tc : Thread Cert.EvenFwdRefIdeal.nD Cert.EvenFwdRefIdeal.τ).loc Cert.EvenFwdRefIdeal.main_arg7))

def Claim : Prop :=
  ∃ (hFfnDx : Cert.FfnDx.Facts) (hFfnDxIdeal : Cert.FfnDxIdeal.Facts) (hFfnDxRefIdeal : Cert.FfnDxRefIdeal.Facts) (hMixDx : Cert.MixDx.Facts) (hMixDxIdeal : Cert.MixDxIdeal.Facts) (hMixDxRefIdeal : Cert.MixDxRefIdeal.Facts) (hEvenGrad : Cert.EvenGrad.Facts) (hEvenGradIdeal : Cert.EvenGradIdeal.Facts) (hEvenGradRefIdeal : Cert.EvenGradRefIdeal.Facts) (hFfnGrad : Cert.FfnGrad.Facts) (hFfnGradIdeal : Cert.FfnGradIdeal.Facts) (hFfnGradRefIdeal : Cert.FfnGradRefIdeal.Facts) (hSguGrad : Cert.SguGrad.Facts) (hSguGradIdeal : Cert.SguGradIdeal.Facts) (hSguGradRefIdeal : Cert.SguGradRefIdeal.Facts) (hFfnLoss : Cert.FfnLoss.Facts) (hFfnLossIdeal : Cert.FfnLossIdeal.Facts) (hFfnLossRefIdeal : Cert.FfnLossRefIdeal.Facts) (hOddFwd : Cert.OddFwd.Facts) (hOddFwdIdeal : Cert.OddFwdIdeal.Facts) (hOddFwdRefIdeal : Cert.OddFwdRefIdeal.Facts) (hFfnIn : Cert.FfnIn.Facts) (hFfnInIdeal : Cert.FfnInIdeal.Facts) (hFfnInRefIdeal : Cert.FfnInRefIdeal.Facts) (hEvenFwd : Cert.EvenFwd.Facts) (hEvenFwdIdeal : Cert.EvenFwdIdeal.Facts) (hEvenFwdRefIdeal : Cert.EvenFwdRefIdeal.Facts) (hPre_even_finite : Cert.Pre_even_finite.Facts) (hPre_ffn_finite : Cert.Pre_ffn_finite.Facts) (hPre_sgu_finite : Cert.Pre_sgu_finite.Facts) (hPre_even_fwd_finite : Cert.Pre_even_fwd_finite.Facts),
    quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_EvenGrad (hEvenGrad := hEvenGrad)
    ∧ quiescent_EvenGradIdeal (hEvenGradIdeal := hEvenGradIdeal)
    ∧ quiescent_EvenGradIdeal_pre_even_finite (hEvenGradIdeal := hEvenGradIdeal) (hPre_even_finite := hPre_even_finite)
    ∧ quiescent_EvenGradRefIdeal (hEvenGradRefIdeal := hEvenGradRefIdeal)
    ∧ quiescent_EvenGradRefIdeal_pre_even_finite (hEvenGradRefIdeal := hEvenGradRefIdeal) (hPre_even_finite := hPre_even_finite)
    ∧ quiescent_FfnGrad (hFfnGrad := hFfnGrad)
    ∧ quiescent_FfnGradIdeal (hFfnGradIdeal := hFfnGradIdeal)
    ∧ quiescent_FfnGradIdeal_pre_ffn_finite (hFfnGradIdeal := hFfnGradIdeal) (hPre_ffn_finite := hPre_ffn_finite)
    ∧ quiescent_FfnGradRefIdeal (hFfnGradRefIdeal := hFfnGradRefIdeal)
    ∧ quiescent_FfnGradRefIdeal_pre_ffn_finite (hFfnGradRefIdeal := hFfnGradRefIdeal) (hPre_ffn_finite := hPre_ffn_finite)
    ∧ quiescent_SguGrad (hSguGrad := hSguGrad)
    ∧ quiescent_SguGradIdeal (hSguGradIdeal := hSguGradIdeal)
    ∧ quiescent_SguGradIdeal_pre_sgu_finite (hSguGradIdeal := hSguGradIdeal) (hPre_sgu_finite := hPre_sgu_finite)
    ∧ quiescent_SguGradRefIdeal (hSguGradRefIdeal := hSguGradRefIdeal)
    ∧ quiescent_SguGradRefIdeal_pre_sgu_finite (hSguGradRefIdeal := hSguGradRefIdeal) (hPre_sgu_finite := hPre_sgu_finite)
    ∧ quiescent_FfnLoss (hFfnLoss := hFfnLoss)
    ∧ quiescent_FfnLossIdeal (hFfnLossIdeal := hFfnLossIdeal)
    ∧ quiescent_FfnLossRefIdeal (hFfnLossRefIdeal := hFfnLossRefIdeal)
    ∧ quiescent_OddFwd (hOddFwd := hOddFwd)
    ∧ quiescent_OddFwdIdeal (hOddFwdIdeal := hOddFwdIdeal)
    ∧ quiescent_OddFwdRefIdeal (hOddFwdRefIdeal := hOddFwdRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_EvenFwd (hEvenFwd := hEvenFwd)
    ∧ quiescent_EvenFwdIdeal (hEvenFwdIdeal := hEvenFwdIdeal)
    ∧ quiescent_EvenFwdIdeal_pre_even_fwd_finite (hEvenFwdIdeal := hEvenFwdIdeal) (hPre_even_fwd_finite := hPre_even_fwd_finite)
    ∧ quiescent_EvenFwdRefIdeal (hEvenFwdRefIdeal := hEvenFwdRefIdeal)
    ∧ quiescent_EvenFwdRefIdeal_pre_even_fwd_finite (hEvenFwdRefIdeal := hEvenFwdRefIdeal) (hPre_even_fwd_finite := hPre_even_fwd_finite)
    ∧ preserves_FfnDx_FfnDxIdeal
    ∧ algebraic_FfnDxIdeal_FfnDxRefIdeal (hFfnDxIdeal := hFfnDxIdeal) (hFfnDxRefIdeal := hFfnDxRefIdeal)
    ∧ preserves_MixDx_MixDxIdeal
    ∧ algebraic_MixDxIdeal_MixDxRefIdeal (hMixDxIdeal := hMixDxIdeal) (hMixDxRefIdeal := hMixDxRefIdeal)
    ∧ preserves_EvenGrad_EvenGradIdeal
    ∧ algebraic_EvenGradIdeal_EvenGradRefIdeal_pre_even_finite (hEvenGradIdeal := hEvenGradIdeal) (hEvenGradRefIdeal := hEvenGradRefIdeal) (hPre_even_finite := hPre_even_finite)
    ∧ preserves_FfnGrad_FfnGradIdeal
    ∧ algebraic_FfnGradIdeal_FfnGradRefIdeal_pre_ffn_finite (hFfnGradIdeal := hFfnGradIdeal) (hFfnGradRefIdeal := hFfnGradRefIdeal) (hPre_ffn_finite := hPre_ffn_finite)
    ∧ preserves_SguGrad_SguGradIdeal
    ∧ algebraic_SguGradIdeal_SguGradRefIdeal_pre_sgu_finite (hSguGradIdeal := hSguGradIdeal) (hSguGradRefIdeal := hSguGradRefIdeal) (hPre_sgu_finite := hPre_sgu_finite)
    ∧ preserves_FfnLoss_FfnLossIdeal
    ∧ algebraic_FfnLossIdeal_FfnLossRefIdeal (hFfnLossIdeal := hFfnLossIdeal) (hFfnLossRefIdeal := hFfnLossRefIdeal)
    ∧ preserves_OddFwd_OddFwdIdeal
    ∧ algebraic_OddFwdIdeal_OddFwdRefIdeal (hOddFwdIdeal := hOddFwdIdeal) (hOddFwdRefIdeal := hOddFwdRefIdeal)
    ∧ preserves_FfnIn_FfnInIdeal
    ∧ algebraic_FfnInIdeal_FfnInRefIdeal (hFfnInIdeal := hFfnInIdeal) (hFfnInRefIdeal := hFfnInRefIdeal)
    ∧ preserves_EvenFwd_EvenFwdIdeal
    ∧ algebraic_EvenFwdIdeal_EvenFwdRefIdeal_pre_even_fwd_finite (hEvenFwdIdeal := hEvenFwdIdeal) (hEvenFwdRefIdeal := hEvenFwdRefIdeal) (hPre_even_fwd_finite := hPre_even_fwd_finite)
-- ==== Pre_even_finite.lean ====
abbrev S4096x1024 : Shape := ⟨2, ![4096, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S1024x2048 : S_.BroadcastsInDim S1024x2048 (![] : Fin 0 → Fin S1024x2048.rank)
  bcast_S_S4x128x128 : S_.BroadcastsInDim S4x128x128 (![] : Fin 0 → Fin S4x128x128.rank)
  bcast_S_S512 : S_.BroadcastsInDim S512 (![] : Fin 0 → Fin S512.rank)
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024x2048 .f32) (main_arg3 : FVec F S3x512 .f32) (main_arg4 : FVec F S4x128x128 .f32) (main_arg5 : FVec F S512 .f32) (main_arg6 : FVec F S1024x1024 .f32) (main_arg7 : FVec F S4096x1024 .f32) : IVec S1024 1 × IVec S1024x2048 1 × IVec S4x128x128 1 × IVec S512 1 × IVec S1024x1024 1 × IVec S4096x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2048 .f32 := Host.absf main_arg2
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : FVec F S4x128x128 .f32 := Host.absf main_arg4
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S512 .f32 := Host.absf main_arg5
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S1024x1024 .f32 := Host.absf main_arg6
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S4096x1024 .f32 := Host.absf main_arg7
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_even_fwd_finite.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S1x1024 : S_.BroadcastsInDim S1x1024 (![] : Fin 0 → Fin S1x1024.rank)
  bcast_S_S1024x2048 : S_.BroadcastsInDim S1024x2048 (![] : Fin 0 → Fin S1024x2048.rank)

variable [Facts]

def fn {F : FTy → Type} [FloatOps F] (main_arg0 : FVec F S4096x1024 .f32) (main_arg1 : FVec F S1x1024 .f32) (main_arg2 : FVec F S1024x2048 .f32) (main_arg3 : FVec F S3x512 .f32) (main_arg4 : FVec F S4x128x128 .f32) (main_arg5 : FVec F S1x512 .f32) (main_arg6 : FVec F S1024x1024 .f32) (main_arg7 : FVec F S1x1024 .f32) : IVec S1x1024 1 × IVec S1024x2048 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x2048 .f32 := Host.absf main_arg2
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  (main_v2, main_v5)
-- ==== Pre_ffn_finite.lean ====
abbrev S4096x1024 : Shape := ⟨2, ![4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024x2816 .f32) (main_arg3 : FVec F S1024x2816 .f32) (main_arg4 : FVec F S3x2816 .f32) (main_arg5 : FVec F S2816 .f32) (main_arg6 : FVec F S2816x1024 .f32) (main_arg7 : FVec F S4096x1024 .f32) : IVec S1024 1 × IVec S1024x2816 1 × IVec S2816x1024 1 × IVec S4096x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg6
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg7
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_sgu_finite.lean ====
abbrev S4096x1024 : Shape := ⟨2, ![4096, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S1024x2048 : S_.BroadcastsInDim S1024x2048 (![] : Fin 0 → Fin S1024x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn_part1 {F : FTy → Type} [FloatOps F] (main_arg7 : FVec F S4096x1024 .f32) (main_v2 : IVec S1024 1) (main_v5 : IVec S1024x2048 1) (main_v8 : IVec S1024 1) (main_v11 : IVec S8x128x128 1) (main_v14 : IVec S8x128 1) (main_v17 : IVec S1024x1024 1) : IVec S1024 1 × IVec S1024x2048 1 × IVec S1024 1 × IVec S8x128x128 1 × IVec S8x128 1 × IVec S1024x1024 1 × IVec S4096x1024 1 :=
  let main_v18 : FVec F S4096x1024 .f32 := Host.absf main_arg7
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S1024 .f32) (main_arg2 : FVec F S1024x2048 .f32) (main_arg3 : FVec F S1024 .f32) (main_arg4 : FVec F S8x128x128 .f32) (main_arg5 : FVec F S8x128 .f32) (main_arg6 : FVec F S1024x1024 .f32) (main_arg7 : FVec F S4096x1024 .f32) : IVec S1024 1 × IVec S1024x2048 1 × IVec S1024 1 × IVec S8x128x128 1 × IVec S8x128 1 × IVec S1024x1024 1 × IVec S4096x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2048 .f32 := Host.absf main_arg2
  let main_cst_0 : FVec F S_ .f32 := constant S_ .f32 0x7F800000#32
  let main_v4 : FVec F S1024x2048 .f32 := broadcastInDim S1024x2048 ![] bcast_S_S1024x2048 main_cst_0
  let main_v5 : IVec S1024x2048 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8x128x128 .f32 := Host.absf main_arg4
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_v12 : FVec F S8x128 .f32 := Host.absf main_arg5
  let main_cst_3 : FVec F S_ .f32 := constant S_ .f32 0x7F800000#32
  let main_v13 : FVec F S8x128 .f32 := broadcastInDim S8x128 ![] bcast_S_S8x128 main_cst_3
  let main_v14 : IVec S8x128 1 := cmpf .olt main_v12 main_v13
  let main_v15 : FVec F S1024x1024 .f32 := Host.absf main_arg6
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg7 main_v2 main_v5 main_v8 main_v11 main_v14 main_v17
-- ==== FfnDx.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S4x512x704 : Shape := ⟨3, ![4, 512, 704]⟩
abbrev S512x1024 : Shape := ⟨2, ![512, 1024]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S1024 : Shape := ⟨1, ![1024]⟩
abbrev S512 : Shape := ⟨1, ![512]⟩

abbrev nBuf : Space → Nat
  | .hbm => 33
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S2816x1024, .f32⟩
  | .hbm, ⟨19, _⟩ => ⟨S4x704x1024, .f32⟩
  | .hbm, ⟨20, _⟩ => ⟨S4x704x1024, .bf16⟩
  | .hbm, ⟨21, _⟩ => ⟨S2816x1024, .f32⟩
  | .hbm, ⟨22, _⟩ => ⟨S4x704x1024, .f32⟩
  | .hbm, ⟨23, _⟩ => ⟨S4x704x1024, .bf16⟩
  | .hbm, ⟨24, _⟩ => ⟨S4096x4x704, .f32⟩
  | .hbm, ⟨25, _⟩ => ⟨S4x4096x704, .f32⟩
  | .hbm, ⟨26, _⟩ => ⟨S4x4096x704, .bf16⟩
  | .hbm, ⟨27, _⟩ => ⟨S4096x4x704, .f32⟩
  | .hbm, ⟨28, _⟩ => ⟨S4x4096x704, .f32⟩
  | .hbm, ⟨29, _⟩ => ⟨S4x4096x704, .bf16⟩
  | .hbm, ⟨30, _⟩ => ⟨S4096x1024, .f32⟩
  | .hbm, ⟨31, _⟩ => ⟨S4096x1024, .bf16⟩
  | .hbm, ⟨32, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1, .f32⟩
  | .local _ .vmem, ⟨10, _⟩ => ⟨S512x1, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnDxRefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== MixDx.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024x4x512 : Shape := ⟨3, ![1024, 4, 512]⟩
abbrev S4x1024x512 : Shape := ⟨3, ![4, 1024, 512]⟩
abbrev S4096x4x512 : Shape := ⟨3, ![4096, 4, 512]⟩
abbrev S4x4096x512 : Shape := ⟨3, ![4, 4096, 512]⟩
abbrev S4x512x512 : Shape := ⟨3, ![4, 512, 512]⟩
abbrev S512x1024 : Shape := ⟨2, ![512, 1024]⟩
abbrev S512x1 : Shape := ⟨2, ![512, 1]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S1024 : Shape := ⟨1, ![1024]⟩
abbrev S512 : Shape := ⟨1, ![512]⟩

abbrev nBuf : Space → Nat
  | .hbm => 25
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S1024x4x512, .f32⟩
  | .hbm, ⟨17, _⟩ => ⟨S4x1024x512, .f32⟩
  | .hbm, ⟨18, _⟩ => ⟨S4x1024x512, .bf16⟩
  | .hbm, ⟨19, _⟩ => ⟨S4096x4x512, .f32⟩
  | .hbm, ⟨20, _⟩ => ⟨S4x4096x512, .f32⟩
  | .hbm, ⟨21, _⟩ => ⟨S4x4096x512, .bf16⟩
  | .hbm, ⟨22, _⟩ => ⟨S4096x1024, .f32⟩
  | .hbm, ⟨23, _⟩ => ⟨S4096x1024, .bf16⟩
  | .hbm, ⟨24, _⟩ => ⟨S1x1024, .f32⟩
  | .local _ .vmem, ⟨0, _⟩ => ⟨S4x512x512, .bf16⟩
  | .local _ .vmem, ⟨1, _⟩ => ⟨S4x512x512, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixDxRefIdeal.lean ====
abbrev S4096x1024 : Shape := ⟨2, ![4096, 1024]⟩
abbrev S1x1024 : Shape := ⟨2, ![1, 1024]⟩
abbrev S1024x2048 : Shape := ⟨2, ![1024, 2048]⟩
abbrev S4096x2048 : Shape := ⟨2, ![4096, 2048]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== EvenGrad.lean ====
abbrev S4096x1024 : Shape := ⟨2, ![4096, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S2x512 : Shape := ⟨2, ![2, 512]⟩
abbrev S4098x512 : Shape := ⟨2, ![4098, 512]⟩
abbrev S1x512 : Shape := ⟨2, ![1, 512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S4096x4x512 : Shape := ⟨3, ![4096, 4, 512]⟩
abbrev S4x4096x512 : Shape := ⟨3, ![4, 4096, 512]⟩
abbrev S4x1024x512 : Shape := ⟨3, ![4, 1024, 512]⟩
abbrev S4x512x512 : Shape := ⟨3, ![4, 512, 512]⟩
abbrev S4x16x512 : Shape := ⟨3, ![4, 16, 512]⟩
abbrev S512x1024 : Shape := ⟨2, ![512, 1024]⟩
abbrev S16x1024 : Shape := ⟨2, ![16, 1024]⟩
abbrev S528x1024 : Shape := ⟨2, ![528, 1024]⟩
abbrev S1x512x512 : Shape := ⟨3, ![1, 512, 512]⟩
abbrev S512x512 : Shape := ⟨2, ![512, 512]⟩
abbrev S1x16x512 : Shape := ⟨3, ![1, 16, 512]⟩
abbrev S16x512 : Shape := ⟨2, ![16, 512]⟩
abbrev S528x512 : Shape := ⟨2, ![528, 512]⟩
abbrev S512x1 : Shape := ⟨2, ![512, 1]⟩
abbrev S528x1 : Shape := ⟨2, ![528, 1]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x512x128 : Shape := ⟨3, ![1, 512, 128]⟩
abbrev S1x1024x512 : Shape := ⟨3, ![1, 1024, 512]⟩
abbrev S1024x512 : Shape := ⟨2, ![1024, 512]⟩

abbrev nBuf : Space → Nat
  | .hbm => 152
  | .vmem => 26
  | .smem => 0
  | _ => 0

abbrev hbmTy0_0 (i : Nat) : BufTy := match i % 128 with
  | 0 => ⟨S4096x1024, .f32⟩
  | 1 => ⟨S1024, .f32⟩
  | 2 => ⟨S1024x2048, .f32⟩
  | 3 => ⟨S3x512, .f32⟩
  | 4 => ⟨S4x128x128, .f32⟩
  | 5 => ⟨S512, .f32⟩
  | 6 => ⟨S1024x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x2048, .f32⟩
  | 25 => ⟨S4096x512, .f32⟩
  | 26 => ⟨S4096x512, .f32⟩
  | 27 => ⟨S4096x512, .f32⟩
  | 28 => ⟨S4096x512, .f32⟩
  | 29 => ⟨S_, .f32⟩
  | 30 => ⟨S2x512, .f32⟩
  | 31 => ⟨S4098x512, .f32⟩
  | 32 => ⟨S4096x512, .f32⟩
  | 33 => ⟨S1x512, .f32⟩
  | 34 => ⟨S512, .f32⟩
  | 35 => ⟨S1x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S1x512, .f32⟩
  | 42 => ⟨S4096x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S1x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x4x128, .f32⟩
  | 55 => ⟨S_, .f32⟩
  | 56 => ⟨S_, .f32⟩
  | 57 => ⟨S4096x4x128, .f32⟩
  | 58 => ⟨S4096, .f32⟩
  | 59 => ⟨S_, .f32⟩
  | 60 => ⟨S4096, .f32⟩
  | 61 => ⟨S4096, .f32⟩
  | 62 => ⟨S4096x1, .f32⟩
  | 63 => ⟨S4096x1x128, .f32⟩
  | 64 => ⟨S4096x128, .f32⟩
  | 65 => ⟨S_, .f32⟩
  | 66 => ⟨S2x128, .f32⟩
  | 67 => ⟨S4098x128, .f32⟩
  | 68 => ⟨S4096x128, .f32⟩
  | 69 => ⟨S_, .f32⟩
  | 70 => ⟨S4096x1, .f32⟩
  | 71 => ⟨S4096x1, .f32⟩
  | 72 => ⟨S4096x128, .f32⟩
  | 73 => ⟨S4096x128, .f32⟩
  | 74 => ⟨S4096x128, .f32⟩
  | 75 => ⟨S4096x1x128, .f32⟩
  | 76 => ⟨S4096x128, .f32⟩
  | 77 => ⟨S4096x128, .f32⟩
  | 78 => ⟨S4096x1x128, .f32⟩
  | 79 => ⟨S4096x128, .f32⟩
  | 80 => ⟨S_, .f32⟩
  | 81 => ⟨S4x128, .f32⟩
  | 82 => ⟨S4100x128, .f32⟩
  | 83 => ⟨S4096x128, .f32⟩
  | 84 => ⟨S_, .f32⟩
  | 85 => ⟨S4096x1, .f32⟩
  | 86 => ⟨S4096x1, .f32⟩
  | 87 => ⟨S4096x128, .f32⟩
  | 88 => ⟨S4096x128, .f32⟩
  | 89 => ⟨S4096x128, .f32⟩
  | 90 => ⟨S4096x1x128, .f32⟩
  | 91 => ⟨S4096x128, .f32⟩
  | 92 => ⟨S4096x128, .f32⟩
  | 93 => ⟨S4096x1x128, .f32⟩
  | 94 => ⟨S4096x128, .f32⟩
  | 95 => ⟨S_, .f32⟩
  | 96 => ⟨S8x128, .f32⟩
  | 97 => ⟨S4104x128, .f32⟩
  | 98 => ⟨S4096x128, .f32⟩
  | 99 => ⟨S_, .f32⟩
  | 100 => ⟨S4096x1, .f32⟩
  | 101 => ⟨S4096x1, .f32⟩
  | 102 => ⟨S4096x128, .f32⟩
  | 103 => ⟨S4096x128, .f32⟩
  | 104 => ⟨S4096x128, .f32⟩
  | 105 => ⟨S4096x1x128, .f32⟩
  | 106 => ⟨S4096x128, .f32⟩
  | 107 => ⟨S4096x128, .f32⟩
  | 108 => ⟨S4096x1x128, .f32⟩
  | 109 => ⟨S4096x128, .f32⟩
  | 110 => ⟨S_, .f32⟩
  | 111 => ⟨S16x128, .f32⟩
  | 112 => ⟨S4112x128, .f32⟩
  | 113 => ⟨S4096x128, .f32⟩
  | 114 => ⟨S_, .f32⟩
  | 115 => ⟨S4096x1, .f32⟩
  | 116 => ⟨S4096x1, .f32⟩
  | 117 => ⟨S4096x128, .f32⟩
  | 118 => ⟨S4096x128, .f32⟩
  | 119 => ⟨S4096x128, .f32⟩
  | 120 => ⟨S4096x1x128, .f32⟩
  | 121 => ⟨S4096x128, .f32⟩
  | 122 => ⟨S4096x128, .f32⟩
  | 123 => ⟨S4096x1x128, .f32⟩
  | 124 => ⟨S4096x1x128, .f32⟩
  | 125 => ⟨S4096x1x128, .f32⟩
  | 126 => ⟨S4096x1x128, .f32⟩
  | 127 => ⟨S4096x4x128, .f32⟩
  | _ => ⟨S4096x1024, .f32⟩

abbrev hbmTy0_1 (i : Nat) : BufTy := match i % 128 with
  | 0 => ⟨S4x128x4096, .f32⟩
  | 1 => ⟨S4096x4x128, .f32⟩
  | 2 => ⟨S4096x512, .f32⟩
  | 3 => ⟨S1x512, .f32⟩
  | 4 => ⟨S4096x512, .f32⟩
  | 5 => ⟨S4096x512, .f32⟩
  | 6 => ⟨S4096x1024, .f32⟩
  | 7 => ⟨S4096x4x512, .f32⟩
  | 8 => ⟨S4x4096x512, .f32⟩
  | 9 => ⟨S4x4096x512, .bf16⟩
  | 10 => ⟨S4096x1024, .bf16⟩
  | 11 => ⟨S4096x1024, .bf16⟩
  | 12 => ⟨S4096x1024, .bf16⟩
  | 13 => ⟨S1024x1024, .bf16⟩
  | 14 => ⟨S4x128x128, .bf16⟩
  | 15 => ⟨S4x128x128, .f32⟩
  | 16 => ⟨S4x128x128, .bf16⟩
  | 17 => ⟨S1x512, .f32⟩
  | 18 => ⟨S4x4096x512, .bf16⟩
  | 19 => ⟨S4x1024x512, .f32⟩
  | 20 => ⟨S1024x1024, .f32⟩
  | 21 => ⟨S3x512, .f32⟩
  | 22 => ⟨S4x128x128, .f32⟩
  | 23 => ⟨S1x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S4x512x512, .bf16⟩
  | .local _ .vmem, ⟨1, _⟩ => ⟨S4x512x512, .bf16⟩
  | .local _ .vmem, ⟨2, _⟩ => ⟨S4x16x512, .bf16⟩
  | .local _ .vmem, ⟨3, _⟩ => ⟨S4x16x512, .bf16⟩
  | .local _ .vmem, ⟨4, _⟩ => ⟨S4x16x512, .bf16⟩
  | .local _ .vmem, ⟨5, _⟩ => ⟨S4x16x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S1024x1024, .bf16⟩
  | .local _ .vmem, ⟨15, _⟩ => ⟨S3x512, .f32⟩
  | .local _ .vmem, ⟨16, _⟩ => ⟨S4x128x128, .bf16⟩
  | .local _ .vmem, ⟨17, _⟩ => ⟨S4x128x128, .bf16⟩
  | .local _ .vmem, ⟨18, _⟩ => ⟨S1x512, .f32⟩
  | .local _ .vmem, ⟨19, _⟩ => ⟨S4x512x512, .bf16⟩
  | .local _ .vmem, ⟨20, _⟩ => ⟨S4x512x512, .bf16⟩
  | .local _ .vmem, ⟨21, _⟩ => ⟨S4x1024x512, .f32⟩
  | .local _ .vmem, ⟨22, _⟩ => ⟨S1024x1024, .f32⟩
  | .local _ .vmem, ⟨23, _⟩ => ⟨S3x512, .f32⟩
  | .local _ .vmem, ⟨24, _⟩ => ⟨S4x128x128, .f32⟩
  | .local _ .vmem, ⟨25, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_call0_cst : Ref sig .tc := ⟨.hbm, 55, rfl⟩
abbrev main_call0_call0_v0 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_8 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_9 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_10 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_11 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123_0 : Ref sig .tc := ⟨.hbm, 146, rfl⟩
abbrev main_v123_1 : Ref sig .tc := ⟨.hbm, 147, rfl⟩
abbrev main_v123_2 : Ref sig .tc := ⟨.hbm, 148, rfl⟩
abbrev main_v123_3 : Ref sig .tc := ⟨.hbm, 149, rfl⟩
abbrev main_v123_4 : Ref sig .tc := ⟨.hbm, 150, rfl⟩
abbrev main_v123_5 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== EvenGradRefIdeal.lean ====
abbrev S4096x1024 : Shape := ⟨2, ![4096, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S2x512 : Shape := ⟨2, ![2, 512]⟩
abbrev S4098x512 : Shape := ⟨2, ![4098, 512]⟩
abbrev S1x512 : Shape := ⟨2, ![1, 512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S4x4096x128 : Shape := ⟨3, ![4, 4096, 128]⟩
abbrev S2048x1024 : Shape := ⟨2, ![2048, 1024]⟩
abbrev S4096x4x512 : Shape := ⟨3, ![4096, 4, 512]⟩
abbrev S4x4096x512 : Shape := ⟨3, ![4, 4096, 512]⟩
abbrev S1024x4x512 : Shape := ⟨3, ![1024, 4, 512]⟩
abbrev S4x1024x512 : Shape := ⟨3, ![4, 1024, 512]⟩

abbrev nBuf : Space → Nat
  | .hbm => 312
  | .vmem => 0
  | .smem => 0
  | _ => 0

abbrev hbmTy0_0 (i : Nat) : BufTy := match i % 128 with
  | 0 => ⟨S4096x1024, .f32⟩
  | 1 => ⟨S1024, .f32⟩
  | 2 => ⟨S1024x2048, .f32⟩
  | 3 => ⟨S3x512, .f32⟩
  | 4 => ⟨S4x128x128, .f32⟩
  | 5 => ⟨S512, .f32⟩
  | 6 => ⟨S1024x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x2048, .f32⟩
  | 25 => ⟨S4096x512, .f32⟩
  | 26 => ⟨S4096x512, .f32⟩
  | 27 => ⟨S4096x512, .f32⟩
  | 28 => ⟨S4096x512, .f32⟩
  | 29 => ⟨S_, .f32⟩
  | 30 => ⟨S2x512, .f32⟩
  | 31 => ⟨S4098x512, .f32⟩
  | 32 => ⟨S_, .f32⟩
  | 33 => ⟨S2x512, .f32⟩
  | 34 => ⟨S4096x512, .f32⟩
  | 35 => ⟨S1x512, .f32⟩
  | 36 => ⟨S512, .f32⟩
  | 37 => ⟨S1x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S1x512, .f32⟩
  | 44 => ⟨S4096x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S1x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x4x128, .f32⟩
  | 57 => ⟨S_, .f32⟩
  | 58 => ⟨S_, .f32⟩
  | 59 => ⟨S4096x4x128, .f32⟩
  | 60 => ⟨S4096, .f32⟩
  | 61 => ⟨S_, .f32⟩
  | 62 => ⟨S4096, .f32⟩
  | 63 => ⟨S4096, .f32⟩
  | 64 => ⟨S4096x1, .f32⟩
  | 65 => ⟨S4096x1x128, .f32⟩
  | 66 => ⟨S4096x128, .f32⟩
  | 67 => ⟨S_, .f32⟩
  | 68 => ⟨S2x128, .f32⟩
  | 69 => ⟨S4098x128, .f32⟩
  | 70 => ⟨S_, .f32⟩
  | 71 => ⟨S2x128, .f32⟩
  | 72 => ⟨S4096x128, .f32⟩
  | 73 => ⟨S_, .f32⟩
  | 74 => ⟨S4096x1, .f32⟩
  | 75 => ⟨S4096x1, .f32⟩
  | 76 => ⟨S4096x128, .f32⟩
  | 77 => ⟨S4096x128, .f32⟩
  | 78 => ⟨S4096x128, .f32⟩
  | 79 => ⟨S4096x1x128, .f32⟩
  | 80 => ⟨S4096x128, .f32⟩
  | 81 => ⟨S4096x128, .f32⟩
  | 82 => ⟨S4096x1x128, .f32⟩
  | 83 => ⟨S4096x128, .f32⟩
  | 84 => ⟨S_, .f32⟩
  | 85 => ⟨S4x128, .f32⟩
  | 86 => ⟨S4100x128, .f32⟩
  | 87 => ⟨S_, .f32⟩
  | 88 => ⟨S4x128, .f32⟩
  | 89 => ⟨S4096x128, .f32⟩
  | 90 => ⟨S_, .f32⟩
  | 91 => ⟨S4096x1, .f32⟩
  | 92 => ⟨S4096x1, .f32⟩
  | 93 => ⟨S4096x128, .f32⟩
  | 94 => ⟨S4096x128, .f32⟩
  | 95 => ⟨S4096x128, .f32⟩
  | 96 => ⟨S4096x1x128, .f32⟩
  | 97 => ⟨S4096x128, .f32⟩
  | 98 => ⟨S4096x128, .f32⟩
  | 99 => ⟨S4096x1x128, .f32⟩
  | 100 => ⟨S4096x128, .f32⟩
  | 101 => ⟨S_, .f32⟩
  | 102 => ⟨S8x128, .f32⟩
  | 103 => ⟨S4104x128, .f32⟩
  | 104 => ⟨S_, .f32⟩
  | 105 => ⟨S8x128, .f32⟩
  | 106 => ⟨S4096x128, .f32⟩
  | 107 => ⟨S_, .f32⟩
  | 108 => ⟨S4096x1, .f32⟩
  | 109 => ⟨S4096x1, .f32⟩
  | 110 => ⟨S4096x128, .f32⟩
  | 111 => ⟨S4096x128, .f32⟩
  | 112 => ⟨S4096x128, .f32⟩
  | 113 => ⟨S4096x1x128, .f32⟩
  | 114 => ⟨S4096x128, .f32⟩
  | 115 => ⟨S4096x128, .f32⟩
  | 116 => ⟨S4096x1x128, .f32⟩
  | 117 => ⟨S4096x128, .f32⟩
  | 118 => ⟨S_, .f32⟩
  | 119 => ⟨S16x128, .f32⟩
  | 120 => ⟨S4112x128, .f32⟩
  | 121 => ⟨S_, .f32⟩
  | 122 => ⟨S16x128, .f32⟩
  | 123 => ⟨S4096x128, .f32⟩
  | 124 => ⟨S_, .f32⟩
  | 125 => ⟨S4096x1, .f32⟩
  | 126 => ⟨S4096x1, .f32⟩
  | 127 => ⟨S4096x128, .f32⟩
  | _ => ⟨S4096x1024, .f32⟩

abbrev hbmTy0_1 (i : Nat) : BufTy := match i % 128 with
  | 0 => ⟨S4096x128, .f32⟩
  | 1 => ⟨S4096x128, .f32⟩
  | 2 => ⟨S4096x1x128, .f32⟩
  | 3 => ⟨S4096x128, .f32⟩
  | 4 => ⟨S4096x128, .f32⟩
  | 5 => ⟨S4096x1x128, .f32⟩
  | 6 => ⟨S4096x1x128, .f32⟩
  | 7 => ⟨S4096x1x128, .f32⟩
  | 8 => ⟨S4096x1x128, .f32⟩
  | 9 => ⟨S4096x4x128, .f32⟩
  | 10 => ⟨S4x128x4096, .f32⟩
  | 11 => ⟨S4096x4x128, .f32⟩
  | 12 => ⟨S4096x512, .f32⟩
  | 13 => ⟨S1x512, .f32⟩
  | 14 => ⟨S4096x512, .f32⟩
  | 15 => ⟨S4096x512, .f32⟩
  | 16 => ⟨S4096x1024, .f32⟩
  | 17 => ⟨S4096x1024, .f32⟩
  | 18 => ⟨S1024x1024, .f32⟩
  | 19 => ⟨S1024x1024, .f32⟩
  | 20 => ⟨S4096x1024, .f32⟩
  | 21 => ⟨S4096x512, .f32⟩
  | 22 => ⟨S4096x512, .f32⟩
  | 23 => ⟨S4096x512, .f32⟩
  | 24 => ⟨S_, .f32⟩
  | 25 => ⟨S512, .f32⟩
  | 26 => ⟨S1x512, .f32⟩
  | 27 => ⟨S4096x512, .f32⟩
  | 28 => ⟨S4096x512, .f32⟩
  | 29 => ⟨S_, .f32⟩
  | 30 => ⟨S512, .f32⟩
  | 31 => ⟨S4096x4x128, .f32⟩
  | 32 => ⟨S4x128x4096, .f32⟩
  | 33 => ⟨S4x4096x128, .f32⟩
  | 34 => ⟨S4096x4x128, .f32⟩
  | 35 => ⟨S4x128x128, .f32⟩
  | 36 => ⟨S4x128x128, .f32⟩
  | 37 => ⟨S4096x1x128, .f32⟩
  | 38 => ⟨S4096x128, .f32⟩
  | 39 => ⟨S4096x1x128, .f32⟩
  | 40 => ⟨S4096x128, .f32⟩
  | 41 => ⟨S4096x1x128, .f32⟩
  | 42 => ⟨S4096x128, .f32⟩
  | 43 => ⟨S4096x1x128, .f32⟩
  | 44 => ⟨S4096x128, .f32⟩
  | 45 => ⟨S4096x128, .f32⟩
  | 46 => ⟨S4096x1x128, .f32⟩
  | 47 => ⟨S_, .f32⟩
  | 48 => ⟨S4096x4x128, .f32⟩
  | 49 => ⟨S4096x128, .f32⟩
  | 50 => ⟨S4096x128, .f32⟩
  | 51 => ⟨S4096x128, .f32⟩
  | 52 => ⟨S_, .f32⟩
  | 53 => ⟨S4112x128, .f32⟩
  | 54 => ⟨S16x128, .f32⟩
  | 55 => ⟨S4096x128, .f32⟩
  | 56 => ⟨S4096x128, .f32⟩
  | 57 => ⟨S4096x1x128, .f32⟩
  | 58 => ⟨S_, .f32⟩
  | 59 => ⟨S4096x4x128, .f32⟩
  | 60 => ⟨S4096x128, .f32⟩
  | 61 => ⟨S4096x1x128, .f32⟩
  | 62 => ⟨S_, .f32⟩
  | 63 => ⟨S4096x4x128, .f32⟩
  | 64 => ⟨S4096x4x128, .f32⟩
  | 65 => ⟨S4096x128, .f32⟩
  | 66 => ⟨S4096x128, .f32⟩
  | 67 => ⟨S4096x128, .f32⟩
  | 68 => ⟨S_, .f32⟩
  | 69 => ⟨S4104x128, .f32⟩
  | 70 => ⟨S8x128, .f32⟩
  | 71 => ⟨S4096x128, .f32⟩
  | 72 => ⟨S4096x128, .f32⟩
  | 73 => ⟨S4096x1x128, .f32⟩
  | 74 => ⟨S_, .f32⟩
  | 75 => ⟨S4096x4x128, .f32⟩
  | 76 => ⟨S4096x4x128, .f32⟩
  | 77 => ⟨S4096x128, .f32⟩
  | 78 => ⟨S4096x1x128, .f32⟩
  | 79 => ⟨S_, .f32⟩
  | 80 => ⟨S4096x4x128, .f32⟩
  | 81 => ⟨S4096x4x128, .f32⟩
  | 82 => ⟨S4096x128, .f32⟩
  | 83 => ⟨S4096x128, .f32⟩
  | 84 => ⟨S4096x128, .f32⟩
  | 85 => ⟨S_, .f32⟩
  | 86 => ⟨S4100x128, .f32⟩
  | 87 => ⟨S4x128, .f32⟩
  | 88 => ⟨S4096x128, .f32⟩
  | 89 => ⟨S4096x128, .f32⟩
  | 90 => ⟨S4096x1x128, .f32⟩
  | 91 => ⟨S_, .f32⟩
  | 92 => ⟨S4096x4x128, .f32⟩
  | 93 => ⟨S4096x4x128, .f32⟩
  | 94 => ⟨S4096x128, .f32⟩
  | 95 => ⟨S4096x1x128, .f32⟩
  | 96 => ⟨S_, .f32⟩
  | 97 => ⟨S4096x4x128, .f32⟩
  | 98 => ⟨S4096x4x128, .f32⟩
  | 99 => ⟨S4096x128, .f32⟩
  | 100 => ⟨S4096x128, .f32⟩
  | 101 => ⟨S4096x128, .f32⟩
  | 102 => ⟨S_, .f32⟩
  | 103 => ⟨S4098x128, .f32⟩
  | 104 => ⟨S2x128, .f32⟩
  | 105 => ⟨S4096x128, .f32⟩
  | 106 => ⟨S4096x128, .f32⟩
  | 107 => ⟨S4096x1x128, .f32⟩
  | 108 => ⟨S_, .f32⟩
  | 109 => ⟨S4096x4x128, .f32⟩
  | 110 => ⟨S4096x4x128, .f32⟩
  | 111 => ⟨S_, .f32⟩
  | 112 => ⟨S_, .f32⟩
  | 113 => ⟨S4096x4x128, .f32⟩
  | 114 => ⟨S4096x4x128, .f32⟩
  | 115 => ⟨S4096x512, .f32⟩
  | 116 => ⟨S_, .f32⟩
  | 117 => ⟨S4096x2048, .f32⟩
  | 118 => ⟨S4096x512, .f32⟩
  | 119 => ⟨S4096x512, .f32⟩
  | 120 => ⟨S4096x512, .f32⟩
  | 121 => ⟨S_, .f32⟩
  | 122 => ⟨S512, .f32⟩
  | 123 => ⟨S1x512, .f32⟩
  | 124 => ⟨S4096x512, .f32⟩
  | 125 => ⟨S4096x512, .f32⟩
  | 126 => ⟨S_, .f32⟩
  | 127 => ⟨S512, .f32⟩
  | _ => ⟨S4096x1024, .f32⟩

abbrev hbmTy0_2 (i : Nat) : BufTy := match i % 128 with
  | 0 => ⟨S1x512, .f32⟩
  | 1 => ⟨S_, .f32⟩
  | 2 => ⟨S3x512, .f32⟩
  | 3 => ⟨S_, .f32⟩
  | 4 => ⟨S4098x512, .f32⟩
  | 5 => ⟨S4096x512, .f32⟩
  | 6 => ⟨S_, .f32⟩
  | 7 => ⟨S512, .f32⟩
  | 8 => ⟨S1x512, .f32⟩
  | 9 => ⟨S4096x512, .f32⟩
  | 10 => ⟨S4096x512, .f32⟩
  | 11 => ⟨S_, .f32⟩
  | 12 => ⟨S512, .f32⟩
  | 13 => ⟨S1x512, .f32⟩
  | 14 => ⟨S_, .f32⟩
  | 15 => ⟨S3x512, .f32⟩
  | 16 => ⟨S3x512, .f32⟩
  | 17 => ⟨S_, .f32⟩
  | 18 => ⟨S4098x512, .f32⟩
  | 19 => ⟨S4098x512, .f32⟩
  | 20 => ⟨S4096x512, .f32⟩
  | 21 => ⟨S_, .f32⟩
  | 22 => ⟨S512, .f32⟩
  | 23 => ⟨S1x512, .f32⟩
  | 24 => ⟨S4096x512, .f32⟩
  | 25 => ⟨S4096x512, .f32⟩
  | 26 => ⟨S_, .f32⟩
  | 27 => ⟨S512, .f32⟩
  | 28 => ⟨S1x512, .f32⟩
  | 29 => ⟨S_, .f32⟩
  | 30 => ⟨S3x512, .f32⟩
  | 31 => ⟨S3x512, .f32⟩
  | 32 => ⟨S_, .f32⟩
  | 33 => ⟨S4098x512, .f32⟩
  | 34 => ⟨S4098x512, .f32⟩
  | 35 => ⟨S2x512, .f32⟩
  | 36 => ⟨S4096x512, .f32⟩
  | 37 => ⟨S4096x512, .f32⟩
  | 38 => ⟨S4096x512, .f32⟩
  | 39 => ⟨S_, .f32⟩
  | 40 => ⟨S4096x2048, .f32⟩
  | 41 => ⟨S4096x2048, .f32⟩
  | 42 => ⟨S_, .f32⟩
  | 43 => ⟨S4096x2048, .f32⟩
  | 44 => ⟨S4096x2048, .f32⟩
  | 45 => ⟨S_, .f32⟩
  | 46 => ⟨S4096x2048, .f32⟩
  | 47 => ⟨S4096x2048, .f32⟩
  | 48 => ⟨S2048x1024, .f32⟩
  | 49 => ⟨S1024x2048, .f32⟩
  | 50 => ⟨S4096x4x512, .f32⟩
  | 51 => ⟨S4x4096x512, .f32⟩
  | 52 => ⟨S4x4096x512, .bf16⟩
  | 53 => ⟨S1024x4x512, .f32⟩
  | 54 => ⟨S4x1024x512, .f32⟩
  | 55 => ⟨S1x512, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_call0_cst : Ref sig .tc := ⟨.hbm, 57, rfl⟩
abbrev main_call0_call0_v0 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_14 : Ref sig .tc := ⟨.hbm, 118, rfl⟩
abbrev main_v93 : Ref sig .tc := ⟨.hbm, 119, rfl⟩
abbrev main_v94 : Ref sig .tc := ⟨.hbm, 120, rfl⟩
abbrev main_cst_15 : Ref sig .tc := ⟨.hbm, 121, rfl⟩
abbrev main_v95 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_17 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_18 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_19 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_20 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_21 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_22 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_23 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_cst_24 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_cst_25 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_26 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_cst_27 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_cst_28 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_cst_29 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_cst_30 : Ref sig .tc := ⟨.hbm, 236, rfl⟩
abbrev main_v195 : Ref sig .tc := ⟨.hbm, 237, rfl⟩
abbrev main_v196 : Ref sig .tc := ⟨.hbm, 238, rfl⟩
abbrev main_call1_call0_cst : Ref sig .tc := ⟨.hbm, 239, rfl⟩
abbrev main_call1_call0_v0 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_cst_31 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_cst_32 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_cst_33 : Ref sig .tc := ⟨.hbm, 254, rfl⟩
abbrev main_v208 : Ref sig .tc := ⟨.hbm, 255, rfl⟩
abbrev main_v209 : Ref sig .tc := ⟨.hbm, 256, rfl⟩
abbrev main_cst_34 : Ref sig .tc := ⟨.hbm, 257, rfl⟩
abbrev main_v210 : Ref sig .tc := ⟨.hbm, 258, rfl⟩
abbrev main_cst_35 : Ref sig .tc := ⟨.hbm, 259, rfl⟩
abbrev main_v211 : Ref sig .tc := ⟨.hbm, 260, rfl⟩
abbrev main_v212 : Ref sig .tc := ⟨.hbm, 261, rfl⟩
abbrev main_cst_36 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_cst_37 : Ref sig .tc := ⟨.hbm, 267, rfl⟩
abbrev main_v217 : Ref sig .tc := ⟨.hbm, 268, rfl⟩
abbrev main_v218 : Ref sig .tc := ⟨.hbm, 269, rfl⟩
abbrev main_cst_38 : Ref sig .tc := ⟨.hbm, 270, rfl⟩
abbrev main_v219 : Ref sig .tc := ⟨.hbm, 271, rfl⟩
abbrev main_v220 : Ref sig .tc := ⟨.hbm, 272, rfl⟩
abbrev main_cst_39 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_cst_40 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_cst_41 : Ref sig .tc := ⟨.hbm, 282, rfl⟩
abbrev main_v228 : Ref sig .tc := ⟨.hbm, 283, rfl⟩
abbrev main_v229 : Ref sig .tc := ⟨.hbm, 284, rfl⟩
abbrev main_cst_42 : Ref sig .tc := ⟨.hbm, 285, rfl⟩
abbrev main_v230 : Ref sig .tc := ⟨.hbm, 286, rfl⟩
abbrev main_v231 : Ref sig .tc := ⟨.hbm, 287, rfl⟩
abbrev main_cst_43 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_cst_44 : Ref sig .tc := ⟨.hbm, 295, rfl⟩
abbrev main_v238 : Ref sig .tc := ⟨.hbm, 296, rfl⟩
abbrev main_v239 : Ref sig .tc := ⟨.hbm, 297, rfl⟩
abbrev main_cst_45 : Ref sig .tc := ⟨.hbm, 298, rfl⟩
abbrev main_v240 : Ref sig .tc := ⟨.hbm, 299, rfl⟩
abbrev main_v241 : Ref sig .tc := ⟨.hbm, 300, rfl⟩
abbrev main_cst_46 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩

abbrev nD : Nat := 1
abbrev τ : Topo := Topo.v7x

variable {F : FTy → Type} [FloatOps F]
-- ==== FfnGrad.lean ====
abbrev S4096x1024 : Shape := ⟨2, ![4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4098x2816 : Shape := ⟨2, ![4098, 2816]⟩
abbrev S1x2816 : Shape := ⟨2, ![1, 2816]⟩
abbrev S4x704x1024 : Shape := ⟨3, ![4, 704, 1024]⟩
abbrev S3x4x704 : Shape := ⟨3, ![3, 4, 704]⟩
abbrev S4x3x704 : Shape := ⟨3, ![4, 3, 704]⟩
abbrev S4096x4x704 : Shape := ⟨3, ![4096, 4, 704]⟩
abbrev S4x4096x704 : Shape := ⟨3, ![4, 4096, 704]⟩
abbrev S4x1x704 : Shape := ⟨3, ![4, 1, 704]⟩
abbrev S512x1024 : Shape := ⟨2, ![512, 1024]⟩
abbrev S16x1024 : Shape := ⟨2, ![16, 1024]⟩
abbrev S1x512x704 : Shape := ⟨3, ![1, 512, 704]⟩
abbrev S1x16x704 : Shape := ⟨3, ![1, 16, 704]⟩
abbrev S1x704x1024 : Shape := ⟨3, ![1, 704, 1024]⟩
abbrev S1x3x704 : Shape := ⟨3, ![1, 3, 704]⟩
abbrev S1x1x704 : Shape := ⟨3, ![1, 1, 704]⟩
abbrev S704x1024 : Shape := ⟨2, ![704, 1024]⟩
abbrev S3x704 : Shape := ⟨2, ![3, 704]⟩
abbrev S1x704 : Shape := ⟨2, ![1, 704]⟩
abbrev S528x1024 : Shape := ⟨2, ![528, 1024]⟩
abbrev S528x704 : Shape := ⟨2, ![528, 704]⟩
abbrev S512x704 : Shape := ⟨2, ![512, 704]⟩
abbrev S16x704 : Shape := ⟨2, ![16, 704]⟩
abbrev S704 : Shape := ⟨1, ![704]⟩

abbrev nBuf : Space → Nat
  | .hbm => 74
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S_, .i32⟩
  | .hbm, ⟨26, _⟩ => ⟨S_, .f32⟩
  | .hbm, ⟨27, _⟩ => ⟨S4098x2816, .f32⟩
  | .hbm, ⟨28, _⟩ => ⟨S4096x2816, .f32⟩
  | .hbm, ⟨29, _⟩ => ⟨S1x2816, .f32⟩
  | .hbm, ⟨30, _⟩ => ⟨S2816, .f32⟩
  | .hbm, ⟨31, _⟩ => ⟨S1x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x2816, .f32⟩
  | .hbm, ⟨36, _⟩ => ⟨S2816, .f32⟩
  | .hbm, ⟨37, _⟩ => ⟨S1x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S1x2816, .f32⟩
  | .hbm, ⟨43, _⟩ => ⟨S2816, .f32⟩
  | .hbm, ⟨44, _⟩ => ⟨S1x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S1x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4x704x1024, .f32⟩
  | .hbm, ⟨53, _⟩ => ⟨S4x704x1024, .bf16⟩
  | .hbm, ⟨54, _⟩ => ⟨S3x4x704, .f32⟩
  | .hbm, ⟨55, _⟩ => ⟨S4x3x704, .f32⟩
  | .hbm, ⟨56, _⟩ => ⟨S4096x1024, .bf16⟩
  | .hbm, ⟨57, _⟩ => ⟨S4096x1024, .bf16⟩
  | .hbm, ⟨58, _⟩ => ⟨S4096x4x704, .f32⟩
  | .hbm, ⟨59, _⟩ => ⟨S4x4096x704, .f32⟩
  | .hbm, ⟨60, _⟩ => ⟨S4x4096x704, .bf16⟩
  | .hbm, ⟨61, _⟩ => ⟨S4096x4x704, .f32⟩
  | .hbm, ⟨62, _⟩ => ⟨S4x4096x704, .f32⟩
  | .hbm, ⟨63, _⟩ => ⟨S4x4096x704, .bf16⟩
  | .hbm, ⟨64, _⟩ => ⟨S4096x4x704, .f32⟩
  | .hbm, ⟨65, _⟩ => ⟨S4x4096x704, .f32⟩
  | .hbm, ⟨66, _⟩ => ⟨S4x4096x704, .bf16⟩
  | .hbm, ⟨67, _⟩ => ⟨S4x4096x704, .bf16⟩
  | .hbm, ⟨68, _⟩ => ⟨S4x4096x704, .bf16⟩
  | .hbm, ⟨69, _⟩ => ⟨S4x704x1024, .f32⟩
  | .hbm, ⟨70, _⟩ => ⟨S4x704x1024, .f32⟩
  | .hbm, ⟨71, _⟩ => ⟨S4x704x1024, .f32⟩
  | .hbm, ⟨72, _⟩ => ⟨S4x3x704, .f32⟩
  | .hbm, ⟨73, _⟩ => ⟨S4x1x704, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x16x704, .bf16⟩
  | .local _ .vmem, ⟨11, _⟩ => ⟨S1x16x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x16x704, .bf16⟩
  | .local _ .vmem, ⟨15, _⟩ => ⟨S1x16x704, .bf16⟩
  | .local _ .vmem, ⟨16, _⟩ => ⟨S1x704x1024, .bf16⟩
  | .local _ .vmem, ⟨17, _⟩ => ⟨S1x704x1024, .bf16⟩
  | .local _ .vmem, ⟨18, _⟩ => ⟨S1x3x704, .f32⟩
  | .local _ .vmem, ⟨19, _⟩ => ⟨S1x3x704, .f32⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x704x1024, .f32⟩
  | .local _ .vmem, ⟨25, _⟩ => ⟨S1x704x1024, .f32⟩
  | .local _ .vmem, ⟨26, _⟩ => ⟨S1x704x1024, .f32⟩
  | .local _ .vmem, ⟨27, _⟩ => ⟨S1x704x1024, .f32⟩
  | .local _ .vmem, ⟨28, _⟩ => ⟨S1x704x1024, .f32⟩
  | .local _ .vmem, ⟨29, _⟩ => ⟨S1x704x1024, .f32⟩
  | .local _ .vmem, ⟨30, _⟩ => ⟨S1x3x704, .f32⟩
  | .local _ .vmem, ⟨31, _⟩ => ⟨S1x3x704, .f32⟩
  | .local _ .vmem, ⟨32, _⟩ => ⟨S1x1x704, .f32⟩
  | .local _ .vmem, ⟨33, _⟩ => ⟨S1x1x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54_0 : Ref sig .tc := ⟨.hbm, 67, rfl⟩
abbrev main_v54_1 : Ref sig .tc := ⟨.hbm, 68, rfl⟩
abbrev main_v54_2 : Ref sig .tc := ⟨.hbm, 69, rfl⟩
abbrev main_v54_3 : Ref sig .tc := ⟨.hbm, 70, rfl⟩
abbrev main_v54_4 : Ref sig .tc := ⟨.hbm, 71, rfl⟩
abbrev main_v54_5 : Ref sig .tc := ⟨.hbm, 72, rfl⟩
abbrev main_v54_6 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x3x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x704x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x704x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x704x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x3x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x704 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== FfnGradRefIdeal.lean ====
abbrev S4096x1024 : Shape := ⟨2, ![4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S2x2816 : Shape := ⟨2, ![2, 2816]⟩
abbrev S4098x2816 : Shape := ⟨2, ![4098, 2816]⟩
abbrev S1x2816 : Shape := ⟨2, ![1, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S3x4x704 : Shape := ⟨3, ![3, 4, 704]⟩
abbrev S4x3x704 : Shape := ⟨3, ![4, 3, 704]⟩
abbrev S4x1x704 : Shape := ⟨3, ![4, 1, 704]⟩

abbrev nBuf : Space → Nat
  | .hbm => 146
  | .vmem => 0
  | .smem => 0
  | _ => 0

abbrev hbmTy0_0 (i : Nat) : BufTy := match i % 128 with
  | 0 => ⟨S4096x1024, .f32⟩
  | 1 => ⟨S1024, .f32⟩
  | 2 => ⟨S1024x2816, .f32⟩
  | 3 => ⟨S1024x2816, .f32⟩
  | 4 => ⟨S3x2816, .f32⟩
  | 5 => ⟨S2816, .f32⟩
  | 6 => ⟨S2816x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x2816, .f32⟩
  | 25 => ⟨S4096x2816, .f32⟩
  | 26 => ⟨S_, .f32⟩
  | 27 => ⟨S2x2816, .f32⟩
  | 28 => ⟨S4098x2816, .f32⟩
  | 29 => ⟨S_, .f32⟩
  | 30 => ⟨S2x2816, .f32⟩
  | 31 => ⟨S4096x2816, .f32⟩
  | 32 => ⟨S1x2816, .f32⟩
  | 33 => ⟨S2816, .f32⟩
  | 34 => ⟨S1x2816, .f32⟩
  | 35 => ⟨S4096x2816, .f32⟩
  | 36 => ⟨S4096x2816, .f32⟩
  | 37 => ⟨S4096x2816, .f32⟩
  | 38 => ⟨S1x2816, .f32⟩
  | 39 => ⟨S2816, .f32⟩
  | 40 => ⟨S1x2816, .f32⟩
  | 41 => ⟨S4096x2816, .f32⟩
  | 42 => ⟨S4096x2816, .f32⟩
  | 43 => ⟨S4096x2816, .f32⟩
  | 44 => ⟨S4096x2816, .f32⟩
  | 45 => ⟨S1x2816, .f32⟩
  | 46 => ⟨S2816, .f32⟩
  | 47 => ⟨S1x2816, .f32⟩
  | 48 => ⟨S4096x2816, .f32⟩
  | 49 => ⟨S4096x2816, .f32⟩
  | 50 => ⟨S4096x2816, .f32⟩
  | 51 => ⟨S1x2816, .f32⟩
  | 52 => ⟨S4096x2816, .f32⟩
  | 53 => ⟨S4096x2816, .f32⟩
  | 54 => ⟨S4096x2816, .f32⟩
  | 55 => ⟨S4096x2816, .f32⟩
  | 56 => ⟨S_, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S4096x2816, .f32⟩
  | 66 => ⟨S4096x2816, .f32⟩
  | 67 => ⟨S4096x2816, .f32⟩
  | 68 => ⟨S4096x1024, .f32⟩
  | 69 => ⟨S1024x2816, .f32⟩
  | 70 => ⟨S2816x1024, .f32⟩
  | 71 => ⟨S4096x2816, .f32⟩
  | 72 => ⟨S4096x2816, .f32⟩
  | 73 => ⟨S4096x2816, .f32⟩
  | 74 => ⟨S4096x2816, .f32⟩
  | 75 => ⟨S4096x2816, .f32⟩
  | 76 => ⟨S4096x2816, .f32⟩
  | 77 => ⟨S4096x2816, .f32⟩
  | 78 => ⟨S_, .f32⟩
  | 79 => ⟨S2816, .f32⟩
  | 80 => ⟨S1x2816, .f32⟩
  | 81 => ⟨S_, .f32⟩
  | 82 => ⟨S2816, .f32⟩
  | 83 => ⟨S4096x2816, .f32⟩
  | 84 => ⟨S_, .f32⟩
  | 85 => ⟨S2816, .f32⟩
  | 86 => ⟨S1x2816, .f32⟩
  | 87 => ⟨S4096x2816, .f32⟩
  | 88 => ⟨S4096x2816, .f32⟩
  | 89 => ⟨S_, .f32⟩
  | 90 => ⟨S2816, .f32⟩
  | 91 => ⟨S1x2816, .f32⟩
  | 92 => ⟨S_, .f32⟩
  | 93 => ⟨S3x2816, .f32⟩
  | 94 => ⟨S_, .f32⟩
  | 95 => ⟨S4098x2816, .f32⟩
  | 96 => ⟨S4096x2816, .f32⟩
  | 97 => ⟨S_, .f32⟩
  | 98 => ⟨S2816, .f32⟩
  | 99 => ⟨S1x2816, .f32⟩
  | 100 => ⟨S4096x2816, .f32⟩
  | 101 => ⟨S4096x2816, .f32⟩
  | 102 => ⟨S_, .f32⟩
  | 103 => ⟨S2816, .f32⟩
  | 104 => ⟨S1x2816, .f32⟩
  | 105 => ⟨S_, .f32⟩
  | 106 => ⟨S3x2816, .f32⟩
  | 107 => ⟨S3x2816, .f32⟩
  | 108 => ⟨S_, .f32⟩
  | 109 => ⟨S4098x2816, .f32⟩
  | 110 => ⟨S4098x2816, .f32⟩
  | 111 => ⟨S4096x2816, .f32⟩
  | 112 => ⟨S_, .f32⟩
  | 113 => ⟨S2816, .f32⟩
  | 114 => ⟨S1x2816, .f32⟩
  | 115 => ⟨S4096x2816, .f32⟩
  | 116 => ⟨S4096x2816, .f32⟩
  | 117 => ⟨S_, .f32⟩
  | 118 => ⟨S2816, .f32⟩
  | 119 => ⟨S1x2816, .f32⟩
  | 120 => ⟨S_, .f32⟩
  | 121 => ⟨S3x2816, .f32⟩
  | 122 => ⟨S3x2816, .f32⟩
  | 123 => ⟨S_, .f32⟩
  | 124 => ⟨S4098x2816, .f32⟩
  | 125 => ⟨S4098x2816, .f32⟩
  | 126 => ⟨S2x2816, .f32⟩
  | 127 => ⟨S4096x2816, .f32⟩
  | _ => ⟨S4096x1024, .f32⟩

abbrev hbmTy0_1 (i : Nat) : BufTy := match i % 128 with
  | 0 => ⟨S2816x1024, .f32⟩
  | 1 => ⟨S1024x2816, .f32⟩
  | 2 => ⟨S2816x1024, .f32⟩
  | 3 => ⟨S1024x2816, .f32⟩
  | 4 => ⟨S4096x4x704, .f32⟩
  | 5 => ⟨S4x4096x704, .f32⟩
  | 6 => ⟨S4x4096x704, .bf16⟩
  | 7 => ⟨S4096x4x704, .f32⟩
  | 8 => ⟨S4x4096x704, .f32⟩
  | 9 => ⟨S4x4096x704, .bf16⟩
  | 10 => ⟨S2816x1024, .f32⟩
  | 11 => ⟨S4x704x1024, .f32⟩
  | 12 => ⟨S2816x1024, .f32⟩
  | 13 => ⟨S4x704x1024, .f32⟩
  | 14 => ⟨S4x704x1024, .f32⟩
  | 15 => ⟨S3x4x704, .f32⟩
  | 16 => ⟨S4x3x704, .f32⟩
  | 17 => ⟨S4x1x704, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v41_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v41_1 : Ref sig .tc := ⟨.hbm, 65, rfl⟩
abbrev main_v41_0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_cst_4 : Ref sig .tc := ⟨.hbm, 78, rfl⟩
abbrev main_v50 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_cst_9 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_11 : Ref sig .tc := ⟨.hbm, 102, rfl⟩
abbrev main_v67 : Ref sig .tc := ⟨.hbm, 103, rfl⟩
abbrev main_v68 : Ref sig .tc := ⟨.hbm, 104, rfl⟩
abbrev main_cst_12 : Ref sig .tc := ⟨.hbm, 105, rfl⟩
abbrev main_v69 : Ref sig .tc := ⟨.hbm, 106, rfl⟩
abbrev main_v70 : Ref sig .tc := ⟨.hbm, 107, rfl⟩
abbrev main_cst_13 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_14 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_cst_16 : Ref sig .tc := ⟨.hbm, 120, rfl⟩
abbrev main_v80 : Ref sig .tc := ⟨.hbm, 121, rfl⟩
abbrev main_v81 : Ref sig .tc := ⟨.hbm, 122, rfl⟩
abbrev main_cst_17 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩

abbrev nD : Nat := 1
abbrev τ : Topo := Topo.v7x

variable {F : FTy → Type} [FloatOps F]
-- ==== SguGrad.lean ====
abbrev S4096x1024 : Shape := ⟨2, ![4096, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x4x512 : Shape := ⟨3, ![4096, 4, 512]⟩
abbrev S4x4096x512 : Shape := ⟨3, ![4, 4096, 512]⟩
abbrev S8x128x1 : Shape := ⟨3, ![8, 128, 1]⟩
abbrev S4x1024x512 : Shape := ⟨3, ![4, 1024, 512]⟩
abbrev S4x512x512 : Shape := ⟨3, ![4, 512, 512]⟩
abbrev S512x1024 : Shape := ⟨2, ![512, 1024]⟩
abbrev S512x1 : Shape := ⟨2, ![512, 1]⟩
abbrev S1x512x512 : Shape := ⟨3, ![1, 512, 512]⟩
abbrev S512x512 : Shape := ⟨2, ![512, 512]⟩
abbrev S1x512 : Shape := ⟨2, ![1, 512]⟩
abbrev S1x128x1 : Shape := ⟨3, ![1, 128, 1]⟩
abbrev S128x1 : Shape := ⟨2, ![128, 1]⟩
abbrev S128 : Shape := ⟨1, ![128]⟩
abbrev S512 : Shape := ⟨1, ![512]⟩
abbrev S1x1024x512 : Shape := ⟨3, ![1, 1024, 512]⟩
abbrev S1024x512 : Shape := ⟨2, ![1024, 512]⟩

abbrev nBuf : Space → Nat
  | .hbm => 115
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2048, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S32x128x8x128, .f32⟩
  | .hbm, ⟨78, _⟩ => ⟨S_, .f32⟩
  | .hbm, ⟨79, _⟩ => ⟨S128x128, .f32⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S128x128, .i32⟩
  | .hbm, ⟨85, _⟩ => ⟨S128x128, .i1⟩
  | .hbm, ⟨86, _⟩ => ⟨S_, .f32⟩
  | .hbm, ⟨87, _⟩ => ⟨S128x128, .f32⟩
  | .hbm, ⟨88, _⟩ => ⟨S128x128, .f32⟩
  | .hbm, ⟨89, _⟩ => ⟨S1x128x128, .f32⟩
  | .hbm, ⟨90, _⟩ => ⟨S8x128x128, .f32⟩
  | .hbm, ⟨91, _⟩ => ⟨S8x128x128, .f32⟩
  | .hbm, ⟨92, _⟩ => ⟨S8x32x128x128, .f32⟩
  | .hbm, ⟨93, _⟩ => ⟨S32x128x8x128, .f32⟩
  | .hbm, ⟨94, _⟩ => ⟨S128x8, .f32⟩
  | .hbm, ⟨95, _⟩ => ⟨S1x128x8x1, .f32⟩
  | .hbm, ⟨96, _⟩ => ⟨S32x128x8x128, .f32⟩
  | .hbm, ⟨97, _⟩ => ⟨S32x128x8x128, .f32⟩
  | .hbm, ⟨98, _⟩ => ⟨S4096x1024, .f32⟩
  | .hbm, ⟨99, _⟩ => ⟨S4096x1024, .f32⟩
  | .hbm, ⟨100, _⟩ => ⟨S4096x4x512, .f32⟩
  | .hbm, ⟨101, _⟩ => ⟨S4x4096x512, .f32⟩
  | .hbm, ⟨102, _⟩ => ⟨S4x4096x512, .bf16⟩
  | .hbm, ⟨103, _⟩ => ⟨S4096x1024, .bf16⟩
  | .hbm, ⟨104, _⟩ => ⟨S4096x1024, .bf16⟩
  | .hbm, ⟨105, _⟩ => ⟨S4096x1024, .bf16⟩
  | .hbm, ⟨106, _⟩ => ⟨S1024x1024, .bf16⟩
  | .hbm, ⟨107, _⟩ => ⟨S1x1024, .f32⟩
  | .hbm, ⟨108, _⟩ => ⟨S8x128x1, .f32⟩
  | .hbm, ⟨109, _⟩ => ⟨S4x4096x512, .bf16⟩
  | .hbm, ⟨110, _⟩ => ⟨S4x1024x512, .f32⟩
  | .hbm, ⟨111, _⟩ => ⟨S1024x1024, .f32⟩
  | .hbm, ⟨112, _⟩ => ⟨S1x1024, .f32⟩
  | .hbm, ⟨113, _⟩ => ⟨S8x128x128, .f32⟩
  | .hbm, ⟨114, _⟩ => ⟨S8x128x1, .f32⟩
  | .local _ .vmem, ⟨0, _⟩ => ⟨S4x512x512, .bf16⟩
  | .local _ .vmem, ⟨1, _⟩ => ⟨S4x512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1, .f32⟩
  | .local _ .vmem, ⟨10, _⟩ => ⟨S512x1, .f32⟩
  | .local _ .vmem, ⟨11, _⟩ => ⟨S1x1024, .f32⟩
  | .local _ .vmem, ⟨12, _⟩ => ⟨S8x128x128, .f32⟩
  | .local _ .vmem, ⟨13, _⟩ => ⟨S8x128x1, .f32⟩
  | .local _ .vmem, ⟨14, _⟩ => ⟨S4x512x512, .bf16⟩
  | .local _ .vmem, ⟨15, _⟩ => ⟨S4x512x512, .bf16⟩
  | .local _ .vmem, ⟨16, _⟩ => ⟨S4x1024x512, .f32⟩
  | .local _ .vmem, ⟨17, _⟩ => ⟨S1024x1024, .f32⟩
  | .local _ .vmem, ⟨18, _⟩ => ⟨S1x1024, .f32⟩
  | .local _ .vmem, ⟨19, _⟩ => ⟨S8x128x128, .f32⟩
  | .local _ .vmem, ⟨20, _⟩ => ⟨S8x128x1, .f32⟩
  | .local _ .vmem, ⟨21, _⟩ => ⟨S512x1024, .f32⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_cst : Ref sig .tc := ⟨.hbm, 86, rfl⟩
abbrev main_call0_v5 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79_0 : Ref sig .tc := ⟨.hbm, 109, rfl⟩
abbrev main_v79_1 : Ref sig .tc := ⟨.hbm, 110, rfl⟩
abbrev main_v79_2 : Ref sig .tc := ⟨.hbm, 111, rfl⟩
abbrev main_v79_3 : Ref sig .tc := ⟨.hbm, 112, rfl⟩
abbrev main_v79_4 : Ref sig .tc := ⟨.hbm, 113, rfl⟩
abbrev main_v79_5 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SguGradIdeal.lean ====
variable {F : FTy → Type} [FloatOps F] [Named F]
def κ : String → Option EReal := fun
  | "c_over_2_sqrt_2" => some (((9465531 / 16777216) * (Real.sqrt 2)⁻¹ : ℝ) : EReal)
  | "inv_sqrt_2" => some (((Real.sqrt 2)⁻¹ : ℝ) : EReal)
  | _ => none
-- ==== SguGradRefIdeal.lean ====
abbrev S4096x1024 : Shape := ⟨2, ![4096, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S2048x1024 : Shape := ⟨2, ![2048, 1024]⟩
abbrev S4096x4x512 : Shape := ⟨3, ![4096, 4, 512]⟩
abbrev S4x4096x512 : Shape := ⟨3, ![4, 4096, 512]⟩
abbrev S1024x4x512 : Shape := ⟨3, ![1024, 4, 512]⟩
abbrev S4x1024x512 : Shape := ⟨3, ![4, 1024, 512]⟩
abbrev S8x128x1 : Shape := ⟨3, ![8, 128, 1]⟩

abbrev nBuf : Space → Nat
  | .hbm => 156
  | .vmem => 0
  | .smem => 0
  | _ => 0

abbrev hbmTy0_0 (i : Nat) : BufTy := match i % 128 with
  | 0 => ⟨S4096x1024, .f32⟩
  | 1 => ⟨S1024, .f32⟩
  | 2 => ⟨S1024x2048, .f32⟩
  | 3 => ⟨S1024, .f32⟩
  | 4 => ⟨S8x128x128, .f32⟩
  | 5 => ⟨S8x128, .f32⟩
  | 6 => ⟨S1024x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x2048, .f32⟩
  | 25 => ⟨S_, .f32⟩
  | 26 => ⟨S4096x2048, .f32⟩
  | 27 => ⟨S4096x2048, .f32⟩
  | 28 => ⟨S4096x2048, .f32⟩
  | 29 => ⟨S_, .f32⟩
  | 30 => ⟨S_, .f32⟩
  | 31 => ⟨S_, .f32⟩
  | 32 => ⟨S4096x2048, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S4096x2048, .f32⟩
  | 39 => ⟨S4096x1024, .f32⟩
  | 40 => ⟨S4096x1024, .f32⟩
  | 41 => ⟨S4096x1024, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1024, .f32⟩
  | 57 => ⟨S4096x1024, .f32⟩
  | 58 => ⟨S1x1024, .f32⟩
  | 59 => ⟨S4096x1024, .f32⟩
  | 60 => ⟨S4096x1024, .f32⟩
  | 61 => ⟨S32x128x8x128, .f32⟩
  | 62 => ⟨S_, .f32⟩
  | 63 => ⟨S128x128, .f32⟩
  | 64 => ⟨S128x128, .i32⟩
  | 65 => ⟨S_, .i32⟩
  | 66 => ⟨S128x128, .i32⟩
  | 67 => ⟨S128x128, .i32⟩
  | 68 => ⟨S128x128, .i32⟩
  | 69 => ⟨S128x128, .i1⟩
  | 70 => ⟨S_, .f32⟩
  | 71 => ⟨S128x128, .f32⟩
  | 72 => ⟨S128x128, .f32⟩
  | 73 => ⟨S1x128x128, .f32⟩
  | 74 => ⟨S8x128x128, .f32⟩
  | 75 => ⟨S8x128x128, .f32⟩
  | 76 => ⟨S8x32x128x128, .f32⟩
  | 77 => ⟨S32x128x8x128, .f32⟩
  | 78 => ⟨S128x8, .f32⟩
  | 79 => ⟨S1x128x8x1, .f32⟩
  | 80 => ⟨S32x128x8x128, .f32⟩
  | 81 => ⟨S32x128x8x128, .f32⟩
  | 82 => ⟨S4096x1024, .f32⟩
  | 83 => ⟨S4096x1024, .f32⟩
  | 84 => ⟨S4096x1024, .f32⟩
  | 85 => ⟨S1024x1024, .f32⟩
  | 86 => ⟨S1024x1024, .f32⟩
  | 87 => ⟨S4096x1024, .f32⟩
  | 88 => ⟨S4096x1024, .f32⟩
  | 89 => ⟨S4096x1024, .f32⟩
  | 90 => ⟨S32x128x8x128, .f32⟩
  | 91 => ⟨S_, .f32⟩
  | 92 => ⟨S128x8, .f32⟩
  | 93 => ⟨S1x128x8x1, .f32⟩
  | 94 => ⟨S_, .f32⟩
  | 95 => ⟨S128x8, .f32⟩
  | 96 => ⟨S8x128, .f32⟩
  | 97 => ⟨S8x32x128x128, .f32⟩
  | 98 => ⟨S8x128x128, .f32⟩
  | 99 => ⟨S8x32x128x128, .f32⟩
  | 100 => ⟨S32x128x8x128, .f32⟩
  | 101 => ⟨S8x128x128, .f32⟩
  | 102 => ⟨S8x128x128, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S1024, .f32⟩
  | 112 => ⟨S4096x1024, .f32⟩
  | 113 => ⟨S_, .f32⟩
  | 114 => ⟨S4096, .f32⟩
  | 115 => ⟨S4096x1, .f32⟩
  | 116 => ⟨S4096x1024, .f32⟩
  | 117 => ⟨S4096x1024, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096x2048, .f32⟩
  | 3 => ⟨S_, .f32⟩
  | 4 => ⟨S4096x2048, .f32⟩
  | 5 => ⟨S4096x2048, .f32⟩
  | 6 => ⟨S4096x2048, .f32⟩
  | 7 => ⟨S4096x2048, .f32⟩
  | 8 => ⟨S_, .f32⟩
  | 9 => ⟨S4096x2048, .f32⟩
  | 10 => ⟨S4096x2048, .f32⟩
  | 11 => ⟨S4096x2048, .f32⟩
  | 12 => ⟨S4096x2048, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S4096x2048, .f32⟩
  | 19 => ⟨S2048x1024, .f32⟩
  | 20 => ⟨S1024x2048, .f32⟩
  | 21 => ⟨S4096x4x512, .f32⟩
  | 22 => ⟨S4x4096x512, .f32⟩
  | 23 => ⟨S4x4096x512, .bf16⟩
  | 24 => ⟨S1024x4x512, .f32⟩
  | 25 => ⟨S4x1024x512, .f32⟩
  | 26 => ⟨S1x1024, .f32⟩
  | 27 => ⟨S8x128x1, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_cst : Ref sig .tc := ⟨.hbm, 70, rfl⟩
abbrev main_call0_v5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_cst_10 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_cst_13 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_v89 : Ref sig .tc := ⟨.hbm, 121, rfl⟩
abbrev main_cst_15 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_16 : Ref sig .tc := ⟨.hbm, 129, rfl⟩
abbrev main_v96 : Ref sig .tc := ⟨.hbm, 130, rfl⟩
abbrev main_cst_17 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_19 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩

abbrev nD : Nat := 1
abbrev τ : Topo := Topo.v7x

variable {F : FTy → Type} [FloatOps F]
-- ==== FfnLoss.lean ====
abbrev S4096x1024 : Shape := ⟨2, ![4096, 1024]⟩
abbrev S1x1024 : Shape := ⟨2, ![1, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4x704x1024 : Shape := ⟨3, ![4, 704, 1024]⟩
abbrev S3x4x704 : Shape := ⟨3, ![3, 4, 704]⟩
abbrev S4x3x704 : Shape := ⟨3, ![4, 3, 704]⟩
abbrev S4x1x704 : Shape := ⟨3, ![4, 1, 704]⟩
abbrev S1x128 : Shape := ⟨2, ![1, 128]⟩
abbrev S4096x1 : Shape := ⟨2, ![4096, 1]⟩
abbrev S4x4096x704 : Shape := ⟨3, ![4, 4096, 704]⟩
abbrev S512x1024 : Shape := ⟨2, ![512, 1024]⟩
abbrev S16x1024 : Shape := ⟨2, ![16, 1024]⟩
abbrev S1x3x704 : Shape := ⟨3, ![1, 3, 704]⟩
abbrev S1x1x704 : Shape := ⟨3, ![1, 1, 704]⟩
abbrev S512x1 : Shape := ⟨2, ![512, 1]⟩
abbrev S1x512x704 : Shape := ⟨3, ![1, 512, 704]⟩
abbrev S528x1024 : Shape := ⟨2, ![528, 1024]⟩
abbrev S528 : Shape := ⟨1, ![528]⟩
abbrev S528x1 : Shape := ⟨2, ![528, 1]⟩
abbrev S1x704x1024 : Shape := ⟨3, ![1, 704, 1024]⟩
abbrev S704x1024 : Shape := ⟨2, ![704, 1024]⟩
abbrev S528x704 : Shape := ⟨2, ![528, 704]⟩
abbrev S512x704 : Shape := ⟨2, ![512, 704]⟩
abbrev S16x704 : Shape := ⟨2, ![16, 704]⟩
abbrev S1x704 : Shape := ⟨2, ![1, 704]⟩
abbrev S512 : Shape := ⟨1, ![512]⟩
abbrev S1 : Shape := ⟨1, ![1]⟩
abbrev S1x1 : Shape := ⟨2, ![1, 1]⟩
abbrev S1024 : Shape := ⟨1, ![1024]⟩

abbrev nBuf : Space → Nat
  | .hbm => 29
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4096x1024, .f32⟩
  | .hbm, ⟨8, _⟩ => ⟨S1x1024, .f32⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S2816x1024, .f32⟩
  | .hbm, ⟨13, _⟩ => ⟨S4x704x1024, .f32⟩
  | .hbm, ⟨14, _⟩ => ⟨S4x704x1024, .bf16⟩
  | .hbm, ⟨15, _⟩ => ⟨S4x704x1024, .f32⟩
  | .hbm, ⟨16, _⟩ => ⟨S4x704x1024, .bf16⟩
  | .hbm, ⟨17, _⟩ => ⟨S3x4x704, .f32⟩
  | .hbm, ⟨18, _⟩ => ⟨S4x3x704, .f32⟩
  | .hbm, ⟨19, _⟩ => ⟨S4x1x704, .f32⟩
  | .hbm, ⟨20, _⟩ => ⟨S4096x1024, .f32⟩
  | .hbm, ⟨21, _⟩ => ⟨S4096x1024, .bf16⟩
  | .hbm, ⟨22, _⟩ => ⟨S1x128, .f32⟩
  | .hbm, ⟨23, _⟩ => ⟨S1x1024, .f32⟩
  | .hbm, ⟨24, _⟩ => ⟨S4096x1024, .bf16⟩
  | .hbm, ⟨25, _⟩ => ⟨S4096x1, .f32⟩
  | .hbm, ⟨26, _⟩ => ⟨S4x4096x704, .bf16⟩
  | .hbm, ⟨27, _⟩ => ⟨S4x4096x704, .bf16⟩
  | .hbm, ⟨28, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S4x704x1024, .bf16⟩
  | .local _ .vmem, ⟨6, _⟩ => ⟨S4x704x1024, .bf16⟩
  | .local _ .vmem, ⟨7, _⟩ => ⟨S4x704x1024, .bf16⟩
  | .local _ .vmem, ⟨8, _⟩ => ⟨S1x3x704, .f32⟩
  | .local _ .vmem, ⟨9, _⟩ => ⟨S1x3x704, .f32⟩
  | .local _ .vmem, ⟨10, _⟩ => ⟨S1x1x704, .f32⟩
  | .local _ .vmem, ⟨11, _⟩ => ⟨S1x1x704, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x128, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S512x1, .f32⟩
  | .local _ .vmem, ⟨24, _⟩ => ⟨S512x1, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x512x704, .bf16⟩
  | .local _ .vmem, ⟨30, _⟩ => ⟨S1x512x704, .bf16⟩
  | .local _ .vmem, ⟨31, _⟩ => ⟨S528x1024, .bf16⟩
  | .local _ .vmem, ⟨32, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_v11_7 : Ref sig .tc := ⟨.hbm, 27, rfl⟩
abbrev main_v11_8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v12 : Index := Scalar.indexCast arg1
  let c0_7 : Index := 0#32
  let c0_8 : Index := 0#32
  ![v12.toNat, 0, 0]
def k0_cond4 (i : grid0.Coords) : BitVec 1 :=
  let arg1 : BitVec 32 := BitVec.ofNat 32 (i 1).val
  let c3_i32 : BitVec 32 := 3#32
  let v79 : BitVec 1 := Scalar.cmpi .eq arg1 c3_i32
  let v80 : BitVec 32 := Scalar.extui v79
  let c0_i32_42 : BitVec 32 := 0#32
  let v81 : BitVec 1 := Scalar.cmpi .ne v80 c0_i32_42
  v81

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c0_i32_4 : BitVec 32 := 0#32
  let v8 : BitVec 1 := Scalar.cmpi .ne arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512x704 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x704 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x704 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== FfnLossRefIdeal.lean ====
abbrev S4096x1024 : Shape := ⟨2, ![4096, 1024]⟩
abbrev S1x1024 : Shape := ⟨2, ![1, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S2x2816 : Shape := ⟨2, ![2, 2816]⟩
abbrev S4098x2816 : Shape := ⟨2, ![4098, 2816]⟩
abbrev S1x2816 : Shape := ⟨2, ![1, 2816]⟩
abbrev S1x128 : Shape := ⟨2, ![1, 128]⟩
abbrev S4096x4x704 : Shape := ⟨3, ![4096, 4, 704]⟩
abbrev S4x4096x704 : Shape := ⟨3, ![4, 4096, 704]⟩

abbrev nBuf : Space → Nat
  | .hbm => 185
  | .vmem => 0
  | .smem => 0
  | _ => 0

abbrev hbmTy0_0 (i : Nat) : BufTy := match i % 128 with
  | 0 => ⟨S4096x1024, .f32⟩
  | 1 => ⟨S1x1024, .f32⟩
  | 2 => ⟨S1024x2816, .f32⟩
  | 3 => ⟨S1024x2816, .f32⟩
  | 4 => ⟨S3x2816, .f32⟩
  | 5 => ⟨S2816, .f32⟩
  | 6 => ⟨S2816x1024, .f32⟩
  | 7 => ⟨S4096x1024, .f32⟩
  | 8 => ⟨S1x1024, .f32⟩
  | 9 => ⟨S1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x2816, .f32⟩
  | 27 => ⟨S4096x2816, .f32⟩
  | 28 => ⟨S_, .f32⟩
  | 29 => ⟨S2x2816, .f32⟩
  | 30 => ⟨S4098x2816, .f32⟩
  | 31 => ⟨S4096x2816, .f32⟩
  | 32 => ⟨S1x2816, .f32⟩
  | 33 => ⟨S2816, .f32⟩
  | 34 => ⟨S1x2816, .f32⟩
  | 35 => ⟨S4096x2816, .f32⟩
  | 36 => ⟨S4096x2816, .f32⟩
  | 37 => ⟨S4096x2816, .f32⟩
  | 38 => ⟨S1x2816, .f32⟩
  | 39 => ⟨S2816, .f32⟩
  | 40 => ⟨S1x2816, .f32⟩
  | 41 => ⟨S4096x2816, .f32⟩
  | 42 => ⟨S4096x2816, .f32⟩
  | 43 => ⟨S4096x2816, .f32⟩
  | 44 => ⟨S4096x2816, .f32⟩
  | 45 => ⟨S1x2816, .f32⟩
  | 46 => ⟨S2816, .f32⟩
  | 47 => ⟨S1x2816, .f32⟩
  | 48 => ⟨S4096x2816, .f32⟩
  | 49 => ⟨S4096x2816, .f32⟩
  | 50 => ⟨S4096x2816, .f32⟩
  | 51 => ⟨S1x2816, .f32⟩
  | 52 => ⟨S4096x2816, .f32⟩
  | 53 => ⟨S4096x2816, .f32⟩
  | 54 => ⟨S4096x2816, .f32⟩
  | 55 => ⟨S4096x2816, .f32⟩
  | 56 => ⟨S_, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S4096x2816, .f32⟩
  | 63 => ⟨S4096x2816, .f32⟩
  | 64 => ⟨S4096x1024, .f32⟩
  | 65 => ⟨S4096x1024, .f32⟩
  | 66 => ⟨S1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S4096, .f32⟩
  | 94 => ⟨S_, .f32⟩
  | 95 => ⟨S4096, .f32⟩
  | 96 => ⟨S4096, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S4096, .f32⟩
  | 105 => ⟨S_, .f32⟩
  | 106 => ⟨S4096, .f32⟩
  | 107 => ⟨S4096, .f32⟩
  | 108 => ⟨S4096x1024, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S4096x1024, .f32⟩
  | 116 => ⟨S_, .f32⟩
  | 117 => ⟨S1024, .f32⟩
  | 118 => ⟨S4096x1024, .f32⟩
  | 119 => ⟨S_, .f32⟩
  | 120 => ⟨S4096, .f32⟩
  | 121 => ⟨S4096x1, .f32⟩
  | 122 => ⟨S4096x1024, .f32⟩
  | 123 => ⟨S4096x1024, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .bf16⟩
  | 19 => ⟨S1x128, .f32⟩
  | 20 => ⟨S1x1024, .f32⟩
  | 21 => ⟨S4096x1024, .bf16⟩
  | 22 => ⟨S4096x4x704, .f32⟩
  | 23 => ⟨S4x4096x704, .f32⟩
  | 24 => ⟨S4x4096x704, .bf16⟩
  | 25 => ⟨S4096x4x704, .f32⟩
  | 26 => ⟨S4x4096x704, .f32⟩
  | 27 => ⟨S4x4096x704, .bf16⟩
  | 28 => ⟨S_, .f32⟩
  | 29 => ⟨S2x2816, .f32⟩
  | 30 => ⟨S4098x2816, .f32⟩
  | 31 => ⟨S4096x2816, .f32⟩
  | 32 => ⟨S1x2816, .f32⟩
  | 33 => ⟨S2816, .f32⟩
  | 34 => ⟨S1x2816, .f32⟩
  | 35 => ⟨S4096x2816, .f32⟩
  | 36 => ⟨S4096x2816, .f32⟩
  | 37 => ⟨S4096x2816, .f32⟩
  | 38 => ⟨S1x2816, .f32⟩
  | 39 => ⟨S2816, .f32⟩
  | 40 => ⟨S1x2816, .f32⟩
  | 41 => ⟨S4096x2816, .f32⟩
  | 42 => ⟨S4096x2816, .f32⟩
  | 43 => ⟨S4096x2816, .f32⟩
  | 44 => ⟨S4096x2816, .f32⟩
  | 45 => ⟨S1x2816, .f32⟩
  | 46 => ⟨S2816, .f32⟩
  | 47 => ⟨S1x2816, .f32⟩
  | 48 => ⟨S4096x2816, .f32⟩
  | 49 => ⟨S4096x2816, .f32⟩
  | 50 => ⟨S4096x2816, .f32⟩
  | 51 => ⟨S1x2816, .f32⟩
  | 52 => ⟨S4096x2816, .f32⟩
  | 53 => ⟨S4096x2816, .f32⟩
  | 54 => ⟨S4096x4x704, .f32⟩
  | 55 => ⟨S4x4096x704, .f32⟩
  | 56 => ⟨S4x4096x704, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_cst_10 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_cst_12 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_16 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_cst_22 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_23 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩

abbrev nD : Nat := 1
abbrev τ : Topo := Topo.v7x

variable {F : FTy → Type} [FloatOps F]
-- ==== OddFwd.lean ====
abbrev S4096x1024 : Shape := ⟨2, ![4096, 1024]⟩
abbrev S1x1024 : Shape := ⟨2, ![1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1024x4x512 : Shape := ⟨3, ![1024, 4, 512]⟩
abbrev S4x1024x512 : Shape := ⟨3, ![4, 1024, 512]⟩
abbrev S8x128x1 : Shape := ⟨3, ![8, 128, 1]⟩
abbrev S4096x1 : Shape := ⟨2, ![4096, 1]⟩
abbrev S4x4096x512 : Shape := ⟨3, ![4, 4096, 512]⟩
abbrev S512x1024 : Shape := ⟨2, ![512, 1024]⟩
abbrev S512x1 : Shape := ⟨2, ![512, 1]⟩
abbrev S4x512x512 : Shape := ⟨3, ![4, 512, 512]⟩
abbrev S512 : Shape := ⟨1, ![512]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩
abbrev S1x512 : Shape := ⟨2, ![1, 512]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 18
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | .hbm, ⟨10, _⟩ => ⟨S8x128x1, .f32⟩
  | .hbm, ⟨11, _⟩ => ⟨S1024x1024, .bf16⟩
  | .hbm, ⟨12, _⟩ => ⟨S4096x1024, .f32⟩
  | .hbm, ⟨13, _⟩ => ⟨S4096x1024, .bf16⟩
  | .hbm, ⟨14, _⟩ => ⟨S4096x1, .f32⟩
  | .hbm, ⟨15, _⟩ => ⟨S4x4096x512, .bf16⟩
  | .hbm, ⟨16, _⟩ => ⟨S4096x1024, .bf16⟩
  | .hbm, ⟨17, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S1x1024, .f32⟩
  | .local _ .vmem, ⟨5, _⟩ => ⟨S8x128x128, .f32⟩
  | .local _ .vmem, ⟨6, _⟩ => ⟨S8x128x1, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1, .f32⟩
  | .local _ .vmem, ⟨13, _⟩ => ⟨S512x1, .f32⟩
  | .local _ .vmem, ⟨14, _⟩ => ⟨S4x512x512, .bf16⟩
  | .local _ .vmem, ⟨15, _⟩ => ⟨S4x512x512, .bf16⟩
  | .local _ .vmem, ⟨16, _⟩ => ⟨S512x1024, .bf16⟩
  | .local _ .vmem, ⟨17, _⟩ => ⟨S512x1024, .bf16⟩
  | .local _ .vmem, ⟨18, _⟩ => ⟨S512x1, .f32⟩
  | .local _ .vmem, ⟨19, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OddFwdIdeal.lean ====
variable {F : FTy → Type} [FloatOps F] [Named F]
def κ : String → Option EReal := fun
  | "inv_sqrt_2" => some (((Real.sqrt 2)⁻¹ : ℝ) : EReal)
  | _ => none
-- ==== OddFwdRefIdeal.lean ====
abbrev S4096x1024 : Shape := ⟨2, ![4096, 1024]⟩
abbrev S1x1024 : Shape := ⟨2, ![1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x4x512 : Shape := ⟨3, ![4096, 4, 512]⟩
abbrev S4x4096x512 : Shape := ⟨3, ![4, 4096, 512]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2048, .f32⟩
  | .hbm, ⟨25, _⟩ => ⟨S1024, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S32x128x8x128, .f32⟩
  | .hbm, ⟨56, _⟩ => ⟨S_, .f32⟩
  | .hbm, ⟨57, _⟩ => ⟨S128x128, .f32⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S1x128x128, .f32⟩
  | .hbm, ⟨68, _⟩ => ⟨S8x128x128, .f32⟩
  | .hbm, ⟨69, _⟩ => ⟨S8x128x128, .f32⟩
  | .hbm, ⟨70, _⟩ => ⟨S8x32x128x128, .f32⟩
  | .hbm, ⟨71, _⟩ => ⟨S32x128x8x128, .f32⟩
  | .hbm, ⟨72, _⟩ => ⟨S128x8, .f32⟩
  | .hbm, ⟨73, _⟩ => ⟨S1x128x8x1, .f32⟩
  | .hbm, ⟨74, _⟩ => ⟨S32x128x8x128, .f32⟩
  | .hbm, ⟨75, _⟩ => ⟨S32x128x8x128, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .bf16⟩
  | .hbm, ⟨93, _⟩ => ⟨S4096x1024, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S4096x1, .f32⟩
  | .hbm, ⟨104, _⟩ => ⟨S4096x4x512, .f32⟩
  | .hbm, ⟨105, _⟩ => ⟨S4x4096x512, .f32⟩
  | .hbm, ⟨106, _⟩ => ⟨S4x4096x512, .bf16⟩
  | .hbm, ⟨107, _⟩ => ⟨S4096x1024, .bf16⟩
  | .hbm, ⟨108, _⟩ => ⟨S4096x1024, .f32⟩
  | .hbm, ⟨109, _⟩ => ⟨S_, .f32⟩
  | .hbm, ⟨110, _⟩ => ⟨S4096, .f32⟩
  | .hbm, ⟨111, _⟩ => ⟨S4096x1, .f32⟩
  | .hbm, ⟨112, _⟩ => ⟨S_, .f32⟩
  | .hbm, ⟨113, _⟩ => ⟨S4096x1, .f32⟩
  | .hbm, ⟨114, _⟩ => ⟨S4096x1, .f32⟩
  | .hbm, ⟨115, _⟩ => ⟨S_, .f32⟩
  | .hbm, ⟨116, _⟩ => ⟨S4096x1, .f32⟩
  | .hbm, ⟨117, _⟩ => ⟨S4096x1, .f32⟩
  | .hbm, ⟨118, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_cst : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_v81 : Ref sig .tc := ⟨.hbm, 111, rfl⟩
abbrev main_cst_14 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]
-- ==== FfnIn.lean ====
abbrev S4096x1024 : Shape := ⟨2, ![4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4x704x1024 : Shape := ⟨3, ![4, 704, 1024]⟩
abbrev S3x4x704 : Shape := ⟨3, ![3, 4, 704]⟩
abbrev S4x3x704 : Shape := ⟨3, ![4, 3, 704]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1x704 : Shape := ⟨3, ![4, 1, 704]⟩
abbrev S4x4096x704 : Shape := ⟨3, ![4, 4096, 704]⟩
abbrev S512x1024 : Shape := ⟨2, ![512, 1024]⟩
abbrev S16x1024 : Shape := ⟨2, ![16, 1024]⟩
abbrev S1x3x704 : Shape := ⟨3, ![1, 3, 704]⟩
abbrev S1x1x704 : Shape := ⟨3, ![1, 1, 704]⟩
abbrev S1x512x704 : Shape := ⟨3, ![1, 512, 704]⟩
abbrev S528x1024 : Shape := ⟨2, ![528, 1024]⟩
abbrev S1x704x1024 : Shape := ⟨3, ![1, 704, 1024]⟩
abbrev S704x1024 : Shape := ⟨2, ![704, 1024]⟩
abbrev S528x704 : Shape := ⟨2, ![528, 704]⟩
abbrev S512x704 : Shape := ⟨2, ![512, 704]⟩
abbrev S16x704 : Shape := ⟨2, ![16, 704]⟩
abbrev S1x704 : Shape := ⟨2, ![1, 704]⟩

abbrev nBuf : Space → Nat
  | .hbm => 36
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S3x4x704, .f32⟩
  | .hbm, ⟨13, _⟩ => ⟨S4x3x704, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4x1x704, .f32⟩
  | .hbm, ⟨32, _⟩ => ⟨S4x4096x704, .bf16⟩
  | .hbm, ⟨33, _⟩ => ⟨S4x4096x704, .bf16⟩
  | .hbm, ⟨34, _⟩ => ⟨S4x4096x704, .bf16⟩
  | .hbm, ⟨35, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x3x704, .f32⟩
  | .local _ .vmem, ⟨7, _⟩ => ⟨S1x3x704, .f32⟩
  | .local _ .vmem, ⟨8, _⟩ => ⟨S1x1x704, .f32⟩
  | .local _ .vmem, ⟨9, _⟩ => ⟨S1x1x704, .f32⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x512x704, .bf16⟩
  | .local _ .vmem, ⟨17, _⟩ => ⟨S1x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v5 : Index := Scalar.indexCast arg1
  let c0_3 : Index := 0#32
  let c0_4 : Index := 0#32
  ![v5.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnInRefIdeal.lean ====
abbrev S4096x1024 : Shape := ⟨2, ![4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S2x2816 : Shape := ⟨2, ![2, 2816]⟩
abbrev S4098x2816 : Shape := ⟨2, ![4098, 2816]⟩
abbrev S1x2816 : Shape := ⟨2, ![1, 2816]⟩
abbrev S4096x4x704 : Shape := ⟨3, ![4096, 4, 704]⟩
abbrev S4x4096x704 : Shape := ⟨3, ![4, 4096, 704]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S2x2816, .f32⟩
  | .hbm, ⟨26, _⟩ => ⟨S4098x2816, .f32⟩
  | .hbm, ⟨27, _⟩ => ⟨S4096x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S1x2816, .f32⟩
  | .hbm, ⟨35, _⟩ => ⟨S2816, .f32⟩
  | .hbm, ⟨36, _⟩ => ⟨S1x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S1x2816, .f32⟩
  | .hbm, ⟨42, _⟩ => ⟨S2816, .f32⟩
  | .hbm, ⟨43, _⟩ => ⟨S1x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S1x2816, .f32⟩
  | .hbm, ⟨48, _⟩ => ⟨S4096x2816, .f32⟩
  | .hbm, ⟨49, _⟩ => ⟨S4096x2816, .f32⟩
  | .hbm, ⟨50, _⟩ => ⟨S4096x4x704, .f32⟩
  | .hbm, ⟨51, _⟩ => ⟨S4x4096x704, .f32⟩
  | .hbm, ⟨52, _⟩ => ⟨S4x4096x704, .bf16⟩
  | .hbm, ⟨53, _⟩ => ⟨S4096x4x704, .f32⟩
  | .hbm, ⟨54, _⟩ => ⟨S4x4096x704, .f32⟩
  | .hbm, ⟨55, _⟩ => ⟨S4x4096x704, .bf16⟩
  | .hbm, ⟨56, _⟩ => ⟨S4096x4x704, .f32⟩
  | .hbm, ⟨57, _⟩ => ⟨S4x4096x704, .f32⟩
  | .hbm, ⟨58, _⟩ => ⟨S4x4096x704, .bf16⟩
  | .hbm, ⟨59, _⟩ => ⟨S4096x2816, .f32⟩
  | .hbm, ⟨60, _⟩ => ⟨S4096x2816, .f32⟩
  | .hbm, ⟨61, _⟩ => ⟨S_, .f32⟩
  | .hbm, ⟨62, _⟩ => ⟨S4096x2816, .f32⟩
  | .hbm, ⟨63, _⟩ => ⟨S4096x2816, .f32⟩
  | .hbm, ⟨64, _⟩ => ⟨S_, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x4x704, .f32⟩
  | .hbm, ⟨70, _⟩ => ⟨S4x4096x704, .f32⟩
  | .hbm, ⟨71, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== EvenFwd.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S1024x4x512 : Shape := ⟨3, ![1024, 4, 512]⟩
abbrev S4x1024x512 : Shape := ⟨3, ![4, 1024, 512]⟩
abbrev S4096x1 : Shape := ⟨2, ![4096, 1]⟩
abbrev S4x4096x512 : Shape := ⟨3, ![4, 4096, 512]⟩
abbrev S512x1024 : Shape := ⟨2, ![512, 1024]⟩
abbrev S16x1024 : Shape := ⟨2, ![16, 1024]⟩
abbrev S512x1 : Shape := ⟨2, ![512, 1]⟩
abbrev S4x512x512 : Shape := ⟨3, ![4, 512, 512]⟩
abbrev S528x1024 : Shape := ⟨2, ![528, 1024]⟩
abbrev S528 : Shape := ⟨1, ![528]⟩
abbrev S528x1 : Shape := ⟨2, ![528, 1]⟩
abbrev S1x1024x512 : Shape := ⟨3, ![1, 1024, 512]⟩
abbrev S1024x512 : Shape := ⟨2, ![1024, 512]⟩
abbrev S528x512 : Shape := ⟨2, ![528, 512]⟩
abbrev S512x512 : Shape := ⟨2, ![512, 512]⟩
abbrev S1x512x512 : Shape := ⟨3, ![1, 512, 512]⟩
abbrev S16x512 : Shape := ⟨2, ![16, 512]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S512 : Shape := ⟨1, ![512]⟩

abbrev nBuf : Space → Nat
  | .hbm => 20
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S3x512, .f32⟩
  | .hbm, ⟨4, _⟩ => ⟨S4x128x128, .f32⟩
  | .hbm, ⟨5, _⟩ => ⟨S1x512, .f32⟩
  | .hbm, ⟨6, _⟩ => ⟨S1024x1024, .f32⟩
  | .hbm, ⟨7, _⟩ => ⟨S1x1024, .f32⟩
  | .hbm, ⟨8, _⟩ => ⟨S1024x4x512, .f32⟩
  | .hbm, ⟨9, _⟩ => ⟨S4x1024x512, .f32⟩
  | .hbm, ⟨10, _⟩ => ⟨S4x1024x512, .bf16⟩
  | .hbm, ⟨11, _⟩ => ⟨S4x128x128, .bf16⟩
  | .hbm, ⟨12, _⟩ => ⟨S1024x1024, .bf16⟩
  | .hbm, ⟨13, _⟩ => ⟨S4096x1024, .f32⟩
  | .hbm, ⟨14, _⟩ => ⟨S4096x1024, .bf16⟩
  | .hbm, ⟨15, _⟩ => ⟨S4096x1, .f32⟩
  | .hbm, ⟨16, _⟩ => ⟨S4x4096x512, .bf16⟩
  | .hbm, ⟨17, _⟩ => ⟨S4096x1024, .bf16⟩
  | .hbm, ⟨18, _⟩ => ⟨S4096x1024, .bf16⟩
  | .hbm, ⟨19, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S4x1024x512, .bf16⟩
  | .local _ .vmem, ⟨6, _⟩ => ⟨S3x512, .f32⟩
  | .local _ .vmem, ⟨7, _⟩ => ⟨S4x128x128, .bf16⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1, .f32⟩
  | .local _ .vmem, ⟨16, _⟩ => ⟨S512x1, .f32⟩
  | .local _ .vmem, ⟨17, _⟩ => ⟨S4x512x512, .bf16⟩
  | .local _ .vmem, ⟨18, _⟩ => ⟨S4x512x512, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1, .f32⟩
  | .local _ .vmem, ⟨24, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== EvenFwdRefIdeal.lean ====
abbrev S4096x1024 : Shape := ⟨2, ![4096, 1024]⟩
abbrev S1x1024 : Shape := ⟨2, ![1, 1024]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S512 : Shape := ⟨1, ![512]⟩
abbrev S4096x512 : Shape := ⟨2, ![4096, 512]⟩
abbrev S2x512 : Shape := ⟨2, ![2, 512]⟩
abbrev S4098x512 : Shape := ⟨2, ![4098, 512]⟩
abbrev S4096x4x128 : Shape := ⟨3, ![4096, 4, 128]⟩
abbrev S4096x1x128 : Shape := ⟨3, ![4096, 1, 128]⟩
abbrev S4096x128 : Shape := ⟨2, ![4096, 128]⟩
abbrev S2x128 : Shape := ⟨2, ![2, 128]⟩
abbrev S4098x128 : Shape := ⟨2, ![4098, 128]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S4x128x4096 : Shape := ⟨3, ![4, 128, 4096]⟩
abbrev S1x4096x512 : Shape := ⟨3, ![1, 4096, 512]⟩
abbrev S4x4096x512 : Shape := ⟨3, ![4, 4096, 512]⟩

abbrev nBuf : Space → Nat
  | .hbm => 191
  | .vmem => 0
  | .smem => 0
  | _ => 0

abbrev hbmTy0_0 (i : Nat) : BufTy := match i % 128 with
  | 0 => ⟨S4096x1024, .f32⟩
  | 1 => ⟨S1x1024, .f32⟩
  | 2 => ⟨S1024x2048, .f32⟩
  | 3 => ⟨S3x512, .f32⟩
  | 4 => ⟨S4x128x128, .f32⟩
  | 5 => ⟨S1x512, .f32⟩
  | 6 => ⟨S1024x1024, .f32⟩
  | 7 => ⟨S1x1024, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S4096x2048, .f32⟩
  | 26 => ⟨S512, .f32⟩
  | 27 => ⟨S4096x512, .f32⟩
  | 28 => ⟨S4096x512, .f32⟩
  | 29 => ⟨S4096x512, .f32⟩
  | 30 => ⟨S4096x512, .f32⟩
  | 31 => ⟨S_, .f32⟩
  | 32 => ⟨S2x512, .f32⟩
  | 33 => ⟨S4098x512, .f32⟩
  | 34 => ⟨S4096x512, .f32⟩
  | 35 => ⟨S1x512, .f32⟩
  | 36 => ⟨S512, .f32⟩
  | 37 => ⟨S1x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S1x512, .f32⟩
  | 44 => ⟨S4096x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S1x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x4x128, .f32⟩
  | 57 => ⟨S_, .f32⟩
  | 58 => ⟨S_, .f32⟩
  | 59 => ⟨S4096x4x128, .f32⟩
  | 60 => ⟨S4096, .f32⟩
  | 61 => ⟨S_, .f32⟩
  | 62 => ⟨S4096, .f32⟩
  | 63 => ⟨S4096, .f32⟩
  | 64 => ⟨S4096x1, .f32⟩
  | 65 => ⟨S4096x1x128, .f32⟩
  | 66 => ⟨S4096x128, .f32⟩
  | 67 => ⟨S_, .f32⟩
  | 68 => ⟨S2x128, .f32⟩
  | 69 => ⟨S4098x128, .f32⟩
  | 70 => ⟨S4096x128, .f32⟩
  | 71 => ⟨S_, .f32⟩
  | 72 => ⟨S4096x1, .f32⟩
  | 73 => ⟨S4096x1, .f32⟩
  | 74 => ⟨S4096x128, .f32⟩
  | 75 => ⟨S4096x128, .f32⟩
  | 76 => ⟨S4096x128, .f32⟩
  | 77 => ⟨S4096x1x128, .f32⟩
  | 78 => ⟨S4096x128, .f32⟩
  | 79 => ⟨S4096x128, .f32⟩
  | 80 => ⟨S4096x1x128, .f32⟩
  | 81 => ⟨S4096x128, .f32⟩
  | 82 => ⟨S_, .f32⟩
  | 83 => ⟨S4x128, .f32⟩
  | 84 => ⟨S4100x128, .f32⟩
  | 85 => ⟨S4096x128, .f32⟩
  | 86 => ⟨S_, .f32⟩
  | 87 => ⟨S4096x1, .f32⟩
  | 88 => ⟨S4096x1, .f32⟩
  | 89 => ⟨S4096x128, .f32⟩
  | 90 => ⟨S4096x128, .f32⟩
  | 91 => ⟨S4096x128, .f32⟩
  | 92 => ⟨S4096x1x128, .f32⟩
  | 93 => ⟨S4096x128, .f32⟩
  | 94 => ⟨S4096x128, .f32⟩
  | 95 => ⟨S4096x1x128, .f32⟩
  | 96 => ⟨S4096x128, .f32⟩
  | 97 => ⟨S_, .f32⟩
  | 98 => ⟨S8x128, .f32⟩
  | 99 => ⟨S4104x128, .f32⟩
  | 100 => ⟨S4096x128, .f32⟩
  | 101 => ⟨S_, .f32⟩
  | 102 => ⟨S4096x1, .f32⟩
  | 103 => ⟨S4096x1, .f32⟩
  | 104 => ⟨S4096x128, .f32⟩
  | 105 => ⟨S4096x128, .f32⟩
  | 106 => ⟨S4096x128, .f32⟩
  | 107 => ⟨S4096x1x128, .f32⟩
  | 108 => ⟨S4096x128, .f32⟩
  | 109 => ⟨S4096x128, .f32⟩
  | 110 => ⟨S4096x1x128, .f32⟩
  | 111 => ⟨S4096x128, .f32⟩
  | 112 => ⟨S_, .f32⟩
  | 113 => ⟨S16x128, .f32⟩
  | 114 => ⟨S4112x128, .f32⟩
  | 115 => ⟨S4096x128, .f32⟩
  | 116 => ⟨S_, .f32⟩
  | 117 => ⟨S4096x1, .f32⟩
  | 118 => ⟨S4096x1, .f32⟩
  | 119 => ⟨S4096x128, .f32⟩
  | 120 => ⟨S4096x128, .f32⟩
  | 121 => ⟨S4096x128, .f32⟩
  | 122 => ⟨S4096x1x128, .f32⟩
  | 123 => ⟨S4096x128, .f32⟩
  | 124 => ⟨S4096x128, .f32⟩
  | 125 => ⟨S4096x1x128, .f32⟩
  | 126 => ⟨S4096x1x128, .f32⟩
  | 127 => ⟨S4096x1x128, .f32⟩
  | _ => ⟨S4096x1024, .f32⟩

abbrev hbmTy0_1 (i : Nat) : BufTy := match i % 128 with
  | 0 => ⟨S4096x1x128, .f32⟩
  | 1 => ⟨S4096x4x128, .f32⟩
  | 2 => ⟨S4x128x4096, .f32⟩
  | 3 => ⟨S4096x4x128, .f32⟩
  | 4 => ⟨S4096x512, .f32⟩
  | 5 => ⟨S1x512, .f32⟩
  | 6 => ⟨S4096x512, .f32⟩
  | 7 => ⟨S4096x512, .f32⟩
  | 8 => ⟨S4096x1024, .f32⟩
  | 9 => ⟨S4096x1024, .f32⟩
  | 10 => ⟨S4096x1024, .f32⟩
  | 11 => ⟨S4096x1024, .bf16⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x512, .f32⟩
  | 24 => ⟨S4096x512, .f32⟩
  | 25 => ⟨S4096x512, .f32⟩
  | 26 => ⟨S4096x512, .f32⟩
  | 27 => ⟨S1x4096x512, .f32⟩
  | 28 => ⟨S1x4096x512, .f32⟩
  | 29 => ⟨S1x4096x512, .f32⟩
  | 30 => ⟨S1x4096x512, .f32⟩
  | 31 => ⟨S4x4096x512, .f32⟩
  | 32 => ⟨S4x4096x512, .bf16⟩
  | 33 => ⟨S4096x1024, .bf16⟩
  | 34 => ⟨S1024, .f32⟩
  | 35 => ⟨S4096x1024, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x1, .f32⟩
  | 46 => ⟨S4096x1024, .f32⟩
  | 47 => ⟨S4096x1024, .f32⟩
  | 48 => ⟨S1x1024, .f32⟩
  | 49 => ⟨S4096x1024, .f32⟩
  | 50 => ⟨S4096x1024, .f32⟩
  | 51 => ⟨S4096x1024, .bf16⟩
  | 52 => ⟨S4096x1024, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_call0_cst : Ref sig .tc := ⟨.hbm, 57, rfl⟩
abbrev main_call0_call0_v0 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_6 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_10 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_11 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_12 : Ref sig .tc := ⟨.hbm, 141, rfl⟩
abbrev main_v118 : Ref sig .tc := ⟨.hbm, 142, rfl⟩
abbrev main_v119 : Ref sig .tc := ⟨.hbm, 143, rfl⟩
abbrev main_cst_13 : Ref sig .tc := ⟨.hbm, 144, rfl⟩
abbrev main_v120 : Ref sig .tc := ⟨.hbm, 145, rfl⟩
abbrev main_v121 : Ref sig .tc := ⟨.hbm, 146, rfl⟩
abbrev main_cst_14 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_15 : Ref sig .tc := ⟨.hbm, 164, rfl⟩
abbrev main_v138 : Ref sig .tc := ⟨.hbm, 165, rfl⟩
abbrev main_v139 : Ref sig .tc := ⟨.hbm, 166, rfl⟩
abbrev main_cst_16 : Ref sig .tc := ⟨.hbm, 167, rfl⟩
abbrev main_v140 : Ref sig .tc := ⟨.hbm, 168, rfl⟩
abbrev main_v141 : Ref sig .tc := ⟨.hbm, 169, rfl⟩
abbrev main_cst_17 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_cst_18 : Ref sig .tc := ⟨.hbm, 181, rfl⟩
abbrev main_v152 : Ref sig .tc := ⟨.hbm, 182, rfl⟩
abbrev main_v153 : Ref sig .tc := ⟨.hbm, 183, rfl⟩
abbrev main_cst_19 : Ref sig .tc := ⟨.hbm, 184, rfl⟩
abbrev main_v154 : Ref sig .tc := ⟨.hbm, 185, rfl⟩
abbrev main_v155 : Ref sig .tc := ⟨.hbm, 186, rfl⟩
abbrev main_cst_20 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩

abbrev nD : Nat := 1
abbrev τ : Topo := Topo.v7x

variable {F : FTy → Type} [FloatOps F]
-- ==== Proof.Common.lean ====
module

public import Idealize.ShloMosaic.Lib.Pointwise
public import Idealize.ShloMosaic.Lib.IdealHost
public import Mathlib.Algebra.BigOperators.Fin

@[expose] public section

/-! # The gradient of a root-mean-square norm, over the extended reals

A row `h` of 1024 numbers is scaled by `r = 1 / sqrt (mean (h²) + eps)` and by a gain. This module proves that the
gradient the kernel forms with respect to that row is the one reverse differentiation gives, for all extended reals:
no entry need be finite. -/

noncomputable section

namespace Step

open Idealize.ShloMosaic

/-- The word of the f32 constant 1024. -/
theorem ofBits_1024 : Ideal.ofBits .f32 0x44800000#32 = ((1024 : ℝ) : EReal) := by
  simp [Ideal.ofBits, Ideal.ieee, -EReal.coe_mul]; norm_num

/-- The word of the f32 constant −1/2. -/
theorem ofBits_neg_half : Ideal.ofBits .f32 0xBF000000#32 = ((-(1 / 2) : ℝ) : EReal) := by
  simp [Ideal.ofBits, Ideal.ieee, -EReal.coe_mul, -EReal.coe_neg]; norm_num

/-- The number that the f32 word of 1e-6 holds. -/
def eps : ℝ := 8796093 / 8796093022208

theorem eps_pos : 0 < eps := by unfold eps; norm_num

/-- The word of the f32 constant 1e-6. -/
theorem ofBits_eps : Ideal.ofBits .f32 0x358637BD#32 = ((eps : ℝ) : EReal) := by
  simp [Ideal.ofBits, Ideal.ieee, -EReal.coe_mul, eps]; norm_num

/-- A finite sum of reals is real. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A nonnegative finite factor goes into a finite sum. -/
theorem mul_sum_nonneg {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The same number times a real, twice, is it times the doubled real. -/
theorem mul_add_self (x : EReal) (c : ℝ) : x * (c : EReal) + x * (c : EReal) = x * ((2 * c : ℝ) : EReal) := by
  induction x with
  | coe x => rw [← EReal.coe_mul, ← EReal.coe_mul, ← EReal.coe_add]; congr 1; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The square of an extended real is nonnegative. -/
theorem sq_nonneg' (x : EReal) : 0 ≤ x * x := by
  induction x with
  | coe x => exact_mod_cast mul_self_nonneg x
  | top => simp
  | bot => simp

/-- The mean of squares of a row, plus eps. -/
def ms (h : Fin 1024 → EReal) : EReal :=
  Ideal.div (∑ x, h x * h x) (Ideal.ofBits .f32 0x44800000#32) + Ideal.ofBits .f32 0x358637BD#32

/-- The factor by which the norm scales a row. -/
def rs (h : Fin 1024 → EReal) : EReal := Ideal.rsqrt (ms h)

/-- The norm's gradient with respect to the row as the kernel forms it: `dx` is the gradient with respect to the scaled
row, `g` the gain, `dres` what else flows into the row. -/
def rowK (dres : EReal) (h g dx : Fin 1024 → EReal) (l : Fin 1024) : EReal :=
  dres + rs h * (dx l * g l - h l * rs h * Ideal.div (∑ x, dx x * g x * (h x * rs h)) (Ideal.ofBits .f32 0x44800000#32))

/-- The half of the gradient that flows through the mean of squares, by reverse differentiation. -/
def rowQ (h g dx : Fin 1024 → EReal) : EReal :=
  Ideal.div ((∑ x, h x * (dx x * g x)) * (Ideal.ofBits .f32 0xBF000000#32 * Ideal.div (rs h) (ms h))) (Ideal.ofBits .f32 0x44800000#32)

/-- The norm's gradient with respect to the row by reverse differentiation. -/
def rowR (dres : EReal) (h g dx : Fin 1024 → EReal) (l : Fin 1024) : EReal :=
  dres + dx l * g l * rs h + h l * rowQ h g dx + rowQ h g dx * h l

/-- A row either has an infinite mean of squares and is scaled by zero, or is a row of reals and scaled by the positive
real whose square is the inverse of the mean. -/
theorem ms_cases (h : Fin 1024 → EReal) :
    (ms h = ⊤ ∧ rs h = 0) ∨ ∃ (η : Fin 1024 → ℝ) (T ρ : ℝ), (∀ x, h x = η x) ∧ 0 < T ∧ 0 < ρ ∧ ρ * ρ = 1 / T ∧ ms h = T ∧ rs h = ρ := by
  have hM : (0 : EReal) ≤ ∑ x, h x * h x := Finset.sum_nonneg fun x _ => sq_nonneg' (h x)
  by_cases ht : ∑ x, h x * h x = ⊤
  · left
    have h1 : ms h = ⊤ := by
      unfold ms
      rw [ht, ofBits_1024, Ideal.div_coe (by norm_num), EReal.top_mul_coe_of_pos (by norm_num), ofBits_eps, EReal.top_add_coe]
    exact ⟨h1, by rw [rs, h1]; rfl⟩
  · right
    have hx : ∀ x, ∃ y : ℝ, h x = y := by
      intro x
      have hle : h x * h x ≤ ∑ x, h x * h x := Finset.single_le_sum (f := fun x => h x * h x) (fun y _ => sq_nonneg' (h y)) (Finset.mem_univ x)
      have hlt : h x * h x ≠ ⊤ := fun e => ht (top_le_iff.mp (e ▸ hle))
      cases e : h x with
      | coe y => exact ⟨y, rfl⟩
      | top => rw [e] at hlt; simp at hlt
      | bot => rw [e] at hlt; simp at hlt
    choose η hη using hx
    have hs : ∑ x, h x * h x = ((∑ x, η x * η x : ℝ) : EReal) := by
      rw [coe_sum]
      exact Finset.sum_congr rfl fun x _ => by rw [hη, EReal.coe_mul]
    set T : ℝ := (∑ x, η x * η x) * (1 / 1024) + eps with hT
    have hTpos : 0 < T := by
      have : 0 ≤ ∑ x, η x * η x := Finset.sum_nonneg fun x _ => mul_self_nonneg _
      have := eps_pos
      positivity
    have h1 : ms h = T := by
      unfold ms
      rw [hs, ofBits_1024, Ideal.div_coe (by norm_num), ofBits_eps, ← EReal.coe_mul, ← EReal.coe_add]
    refine ⟨η, T, (Real.sqrt T)⁻¹, hη, hTpos, by positivity, ?_, h1, ?_⟩
    · rw [← mul_inv, Real.mul_self_sqrt hTpos.le, one_div]
    · rw [rs, h1, Ideal.rsqrt_coe, if_neg (not_lt.mpr hTpos.le), if_neg hTpos.ne']

/-- The kernel's gradient of the norm is the one of reverse differentiation, on all extended reals. -/
theorem row_eq (dres : EReal) (h g dx : Fin 1024 → EReal) (l : Fin 1024) : rowK dres h g dx l = rowR dres h g dx l := by
  rcases ms_cases h with ⟨h1, h2⟩ | ⟨η, T, ρ, hη, hT, hρ, hρT, h1, h2⟩
  · have hq : rowQ h g dx = 0 := by
      unfold rowQ
      rw [h1, h2, ofBits_1024, Ideal.div_coe (by norm_num)]
      simp [Ideal.div]
    unfold rowK rowR
    rw [hq, h2]
    simp
  · have hS : ∑ x, dx x * g x * (h x * rs h) = (ρ : EReal) * ∑ x, h x * (dx x * g x) := by
      rw [mul_sum_nonneg _ _ hρ.le]
      refine Finset.sum_congr rfl fun x _ => ?_
      rw [h2]; ac_rfl
    set S := ∑ x, h x * (dx x * g x) with hSdef
    have hQ : h l * rowQ h g dx = S * ((-(η l * ρ / T / 1024 / 2) : ℝ) : EReal) := by
      unfold rowQ
      rw [h1, h2, ofBits_1024, ofBits_neg_half, Ideal.div_coe (by norm_num), Ideal.div_coe hT.ne', hη l, ← hSdef]
      rw [← EReal.coe_mul, ← EReal.coe_mul, mul_left_comm, mul_assoc, ← EReal.coe_mul, ← EReal.coe_mul]
      congr 2
      field_simp
    have hQ' : rowQ h g dx * h l = S * ((-(η l * ρ / T / 1024 / 2) : ℝ) : EReal) := by rw [mul_comm, hQ]
    unfold rowK rowR
    rw [hQ, hQ', hS, h2, add_assoc (dres + _), mul_add_self, add_assoc dres]
    congr 1
    rw [sub_eq_add_neg, EReal.left_distrib_of_nonneg_of_ne_top (by exact_mod_cast hρ.le) (EReal.coe_ne_top ρ), mul_comm (ρ : EReal) (dx l * g l)]
    congr 1
    rw [ofBits_1024, Ideal.div_coe (by norm_num), hη l]
    have e : (ρ : EReal) * -(↑(η l) * ↑ρ * (↑ρ * S * ↑((1 : ℝ) / 1024))) = S * ((-(ρ * (η l * ρ) * ρ * (1 / 1024)) : ℝ) : EReal) := by
      rw [EReal.coe_neg, mul_neg, mul_neg, EReal.coe_mul, EReal.coe_mul, EReal.coe_mul, EReal.coe_mul]
      congr 1; ac_rfl
    rw [e]
    congr 2
    have : ρ * (η l * ρ) * ρ = η l * ρ * (1 / T) := by rw [← hρT]; ring
    rw [this]; ring

/-- A sum over 2048 places, as four sums over 512. -/
theorem sum4_512 (f : Fin 2048 → EReal) :
    ∑ x : Fin 2048, f x = ∑ x : Fin 512, f ⟨x.val, by omega⟩ + ∑ x : Fin 512, f ⟨512 + x.val, by omega⟩
      + ∑ x : Fin 512, f ⟨1024 + x.val, by omega⟩ + ∑ x : Fin 512, f ⟨1536 + x.val, by omega⟩ := by
  rw [show (∑ x : Fin 2048, f x) = ∑ x : Fin (512 + 512 + 512 + 512), f x from rfl, Fin.sum_univ_add, Fin.sum_univ_add, Fin.sum_univ_add]
  rfl

/-- Two sums over 2816 places, as four sums over 704 of each, taken in turn. -/
theorem sum4_704 (f g : Fin 2816 → EReal) :
    ∑ x : Fin 2816, f x + ∑ x : Fin 2816, g x
      = ∑ x : Fin 704, f ⟨x.val, by omega⟩ + ∑ x : Fin 704, g ⟨x.val, by omega⟩
        + ∑ x : Fin 704, f ⟨704 + x.val, by omega⟩ + ∑ x : Fin 704, g ⟨704 + x.val, by omega⟩
        + ∑ x : Fin 704, f ⟨1408 + x.val, by omega⟩ + ∑ x : Fin 704, g ⟨1408 + x.val, by omega⟩
        + ∑ x : Fin 704, f ⟨2112 + x.val, by omega⟩ + ∑ x : Fin 704, g ⟨2112 + x.val, by omega⟩ := by
  have h : ∀ f : Fin 2816 → EReal, ∑ x : Fin 2816, f x = ∑ x : Fin 704, f ⟨x.val, by omega⟩ + ∑ x : Fin 704, f ⟨704 + x.val, by omega⟩
      + ∑ x : Fin 704, f ⟨1408 + x.val, by omega⟩ + ∑ x : Fin 704, f ⟨2112 + x.val, by omega⟩ := by
    intro f
    rw [show (∑ x : Fin 2816, f x) = ∑ x : Fin (704 + 704 + 704 + 704), f x from rfl, Fin.sum_univ_add, Fin.sum_univ_add, Fin.sum_univ_add]
    rfl
  rw [h f, h g]
  ac_rfl

end Step
-- ==== Proof.FfnDx.Array.lean ====
module

public import proofs.«01_k».proof.Proof.Gen.FfnDxIdeal.Value
public import proofs.«01_k».proof.Proof.Common
public import Idealize.ShloMosaic.Lib.Pipeline.ValueKit

@[expose] public section

set_option maxRecDepth 16384

/-! # What the kernel's arrays hold after its run (the feed-forward layer's input gradient) -/

noncomputable section

namespace Cert.FfnDxIdeal.Arr

open Cert.FfnDxIdeal Cert.FfnDxIdeal.Gen Idealize.ShloMosaic Idealize.ShloMosaic.TcCoe Idealize.SL.Sem

variable (m : (ℓ : Loc nD τ sig) → Buf (Elt Ideal) ℓ) (c : Dev nD)

/-- Which block of each window a grid point works on. -/
theorem idx : ∀ t : Fin cfg0.N, win0_0.index t = ![0, t.val, 0] ∧ win0_1.index t = ![0, t.val, 0] ∧ win0_2.index t = ![0, 0, 0] ∧ win0_3.index t = ![0, 0, 0]
    ∧ win0_4.index t = ![t.val, 0] ∧ win0_5.index t = ![0, 0] ∧ win0_6.index t = ![t.val, 0] ∧ win0_7.index t = ![t.val, 0] ∧ win0_8.index t = ![t.val, 0]
    ∧ win0_9.index t = ![t.val, 0] ∧ win0_10.index t = ![0, 0] := by decide +kernel

/-- The seven arrays at the entry: the block's input. -/
def A0 : Vec Ideal S4096x1024 .f32 := m ((c : Thread nD τ).loc main_arg0)
/-- The gain. -/
def A1 : Vec Ideal S1x1024 .f32 := m ((c : Thread nD τ).loc main_arg1)
/-- The gate's weight. -/
def A2 : Vec Ideal S1024x2816 .f32 := m ((c : Thread nD τ).loc main_arg2)
/-- The other branch's weight. -/
def A3 : Vec Ideal S1024x2816 .f32 := m ((c : Thread nD τ).loc main_arg3)
/-- The gate's cotangent. -/
def A4 : Vec Ideal S4096x2816 .f32 := m ((c : Thread nD τ).loc main_arg4)
/-- The other branch's cotangent. -/
def A5 : Vec Ideal S4096x2816 .f32 := m ((c : Thread nD τ).loc main_arg5)
/-- What else flows into the block's input. -/
def A6 : Vec Ideal S4096x1024 .f32 := m ((c : Thread nD τ).loc main_arg6)

/-- The gate's cotangent, cut by columns into the four chips' blocks. -/
theorem v16 (j : Fin 4) (r : Fin 4096) (k : Fin 704) : V m c main_v16 (ix3 j r k) = A4 m c (ix2 r ⟨j.val * 704 + k.val, by omega⟩) := by
  entry_read
  pointwise
  rfl

/-- The other cotangent, cut likewise. -/
theorem v19 (j : Fin 4) (r : Fin 4096) (k : Fin 704) : V m c main_v19 (ix3 j r k) = A5 m c (ix2 r ⟨j.val * 704 + k.val, by omega⟩) := by
  entry_read
  pointwise
  rfl

/-- The gate's weight, transposed and cut. -/
theorem v10 (j : Fin 4) (k : Fin 704) (l : Fin 1024) : V m c main_v10 (ix3 j k l) = A2 m c (ix2 l ⟨j.val * 704 + k.val, by omega⟩) := by
  entry_read
  pointwise
  rfl

/-- The other weight, transposed and cut. -/
theorem v13 (j : Fin 4) (k : Fin 704) (l : Fin 1024) : V m c main_v13 (ix3 j k l) = A3 m c (ix2 l ⟨j.val * 704 + k.val, by omega⟩) := by
  entry_read
  pointwise
  rfl

/-- The saved factor of a row's norm. -/
theorem v7 (r : Fin 4096) : V m c main_v7 (ix2 r 0) = Step.rs (fun l => A0 m c (ix2 r l)) := by
  entry_read
  pointwise
  rfl

/-- The gradient with respect to the normed row. -/
def dx (r : Fin 4096) (l : Fin 1024) : EReal := ∑ k, A4 m c (ix2 r k) * A2 m c (ix2 l k) + ∑ k, A5 m c (ix2 r k) * A3 m c (ix2 l k)

/-- Row `p` of the tile at grid point `t`. -/
def row (t : Fin cfg0.N) (p : Fin 512) : Fin 4096 := ⟨t.val * 512 + p.val, by have h : t.val < 8 := t.isLt; omega⟩

theorem blk0 (t : Fin cfg0.N) (j : Fin 4) (p : Fin 512) (k : Fin 704) : iblk m c 0 t (ix3 j p k) = A4 m c (ix2 (row t p) ⟨j.val * 704 + k.val, by omega⟩) := by
  rw [← v16]
  unfold row
  blk_ext [iblk, idx t]

theorem blk1 (t : Fin cfg0.N) (j : Fin 4) (p : Fin 512) (k : Fin 704) : iblk m c 1 t (ix3 j p k) = A5 m c (ix2 (row t p) ⟨j.val * 704 + k.val, by omega⟩) := by
  rw [← v19]
  unfold row
  blk_ext [iblk, idx t]

theorem blk2 (t : Fin cfg0.N) (j : Fin 4) (k : Fin 704) (l : Fin 1024) : iblk m c 2 t (ix3 j k l) = A2 m c (ix2 l ⟨j.val * 704 + k.val, by omega⟩) := by
  rw [← v10]
  blk_ext [iblk, idx t]

theorem blk3 (t : Fin cfg0.N) (j : Fin 4) (k : Fin 704) (l : Fin 1024) : iblk m c 3 t (ix3 j k l) = A3 m c (ix2 l ⟨j.val * 704 + k.val, by omega⟩) := by
  rw [← v13]
  blk_ext [iblk, idx t]

theorem blk4 (t : Fin cfg0.N) (p : Fin 512) (l : Fin 1024) : iblk m c 4 t (ix2 p l) = A0 m c (ix2 (row t p) l) := by
  unfold A0 row
  blk_ext [iblk, V, idx t]

theorem blk5 (t : Fin cfg0.N) (p : Fin 1024) : iblk m c 5 t (ix2 0 p) = A1 m c (ix2 0 p) := by
  unfold A1
  blk_ext [iblk, V, idx t]

theorem blk6 (t : Fin cfg0.N) (p : Fin 512) : iblk m c 6 t (ix2 p 0) = Step.rs (fun l => A0 m c (ix2 (row t p) l)) := by
  refine Eq.trans ?_ (v7 m c (row t p))
  unfold row
  blk_ext [iblk, idx t]

theorem blk7 (t : Fin cfg0.N) (p : Fin 512) (l : Fin 1024) : iblk m c 7 t (ix2 p l) = A6 m c (ix2 (row t p) l) := by
  unfold A6 row
  blk_ext [iblk, V, idx t]

/-- The row of the two products added, as the eight partial products in the order the kernel adds them. -/
theorem dx_parts (r : Fin 4096) (l : Fin 1024) :
    dx m c r l = ∑ k : Fin 704, A4 m c (ix2 r ⟨(0 : Fin 4).val * 704 + k.val, by omega⟩) * A2 m c (ix2 l ⟨(0 : Fin 4).val * 704 + k.val, by omega⟩)
      + ∑ k : Fin 704, A5 m c (ix2 r ⟨(0 : Fin 4).val * 704 + k.val, by omega⟩) * A3 m c (ix2 l ⟨(0 : Fin 4).val * 704 + k.val, by omega⟩)
      + ∑ k : Fin 704, A4 m c (ix2 r ⟨(1 : Fin 4).val * 704 + k.val, by omega⟩) * A2 m c (ix2 l ⟨(1 : Fin 4).val * 704 + k.val, by omega⟩)
      + ∑ k : Fin 704, A5 m c (ix2 r ⟨(1 : Fin 4).val * 704 + k.val, by omega⟩) * A3 m c (ix2 l ⟨(1 : Fin 4).val * 704 + k.val, by omega⟩)
      + ∑ k : Fin 704, A4 m c (ix2 r ⟨(2 : Fin 4).val * 704 + k.val, by omega⟩) * A2 m c (ix2 l ⟨(2 : Fin 4).val * 704 + k.val, by omega⟩)
      + ∑ k : Fin 704, A5 m c (ix2 r ⟨(2 : Fin 4).val * 704 + k.val, by omega⟩) * A3 m c (ix2 l ⟨(2 : Fin 4).val * 704 + k.val, by omega⟩)
      + ∑ k : Fin 704, A4 m c (ix2 r ⟨(3 : Fin 4).val * 704 + k.val, by omega⟩) * A2 m c (ix2 l ⟨(3 : Fin 4).val * 704 + k.val, by omega⟩)
      + ∑ k : Fin 704, A5 m c (ix2 r ⟨(3 : Fin 4).val * 704 + k.val, by omega⟩) * A3 m c (ix2 l ⟨(3 : Fin 4).val * 704 + k.val, by omega⟩) := by
  unfold dx
  rw [Step.sum4_704]
  congr! <;> simp

/-- The gradient with respect to the block's input. -/
def dh (r : Fin 4096) (l : Fin 1024) : EReal :=
  Step.rowK (A6 m c (ix2 r l)) (fun x => A0 m c (ix2 r x)) (fun x => A1 m c (ix2 0 x)) (dx m c r) l

/-- What a grid point leaves in its row tile. -/
theorem out8 (t : Fin cfg0.N) (p : Fin 512) (l : Fin 1024) : (outsAt0 m c t.val t.isLt).1 (ix2 p l) = dh m c (row t p) l := by
  unfold dh Step.rowK
  simp only [dx_parts]
  by_cases h0 : t.val % 8 = 0
  · rw [outsAt0_A m c t h0]
    frame_out
    unfold_payloads
    pointwise
    simp only [blk0, blk1, blk2, blk3, blk4, blk5, blk6, blk7]
    rfl
  · rw [outsAt0_B m c t h0]
    frame_out
    unfold_payloads
    pointwise
    simp only [blk0, blk1, blk2, blk3, blk4, blk5, blk6, blk7]
    rfl

/-- The bf16 copy that a grid point leaves, over the extended reals the same tile. -/
theorem out9 (t : Fin cfg0.N) : (outsAt0 m c t.val t.isLt).2.1 = (outsAt0 m c t.val t.isLt).1 := by
  by_cases h0 : t.val % 8 = 0
  · rw [outsAt0_A m c t h0]
    frame_out
    rfl
  · rw [outsAt0_B m c t h0]
    frame_out
    rfl

/-- The array of the gradient with respect to the block's input. -/
theorem arr8 : (dats m 0 c).arrAt 8 cfg0.N = fun i => dh m c (i 0) (i 1) := by
  refine (dats m 0 c).arrAt_eq_of_covers 8 _ (by decide +kernel) fun t hf y => ?_
  blk_simp
  rw [after0_8]
  idx_vars y
  have e0 : (((View.whole main_v20_0).slice (win0_8.rect t)).emb (ix2 y0 y1)) = ix2 (row t y0) y1 := by
    unfold row
    blk_ext [idx t]
  rw [e0]
  exact out8 m c t y0 y1

/-- The array of its bf16 copy. -/
theorem arr9 : (dats m 0 c).arrAt 9 cfg0.N = fun i => dh m c (i 0) (i 1) := by
  refine (dats m 0 c).arrAt_eq_of_covers 9 _ (by decide +kernel) fun t hf y => ?_
  blk_simp
  rw [after0_9]
  idx_vars y
  have e0 : (((View.whole main_v20_1).slice (win0_9.rect t)).emb (ix2 y0 y1)) = ix2 (row t y0) y1 := by
    unfold row
    blk_ext [idx t]
  rw [e0, out9]
  exact out8 m c t y0 y1

/-- The gradient with respect to the gain. -/
def dgain (l : Fin 1024) : EReal := ∑ r, dx m c r l * (A0 m c (ix2 r l) * Step.rs (fun y => A0 m c (ix2 r y)))

/-- The array of the gradient with respect to the gain. -/
theorem arr10 : (dats m 0 c).arrAt 10 cfg0.N = fun i => dgain m c (i 1) := by
  refine (dats m 0 c).arrAt_eq_of_after_last 10 t0_7 (by decide +kernel) _ fun j => ?_
  blk_simp
  rw [after0_10]
  refine (Pipeline.eq_sum_fin_of_reset_step_apply_last (fun n h => (outsAt0 m c n h).2.2) 8 (fun _ => (0 : EReal))
    (fun t j => ∑ p, dx m c (row t p) (j 1) * (A0 m c (ix2 (row t p) (j 1)) * Step.rs (fun y => A0 m c (ix2 (row t p) y))))
    (fun t h j => ?_) (fun t h j => ?_) (by decide) t0_7 rfl j).trans ?_
  · rw [outsAt0_A m c t h]
    frame_out
    idx_vars j
    unfold_payloads
    pointwise
    simp only [blk0, blk1, blk2, blk3, blk4, blk6, dx_parts]
  · rw [outsAt0_B m c t h]
    frame_out
    idx_vars j
    unfold_payloads
    pointwise
    simp only [blk0, blk1, blk2, blk3, blk4, blk6, dx_parts]
  · rw [zero_add]
    exact Fin.sum_mul_add_congr (S := 8) (n := 512) (f := fun r => dx m c r (j 1) * (A0 m c (ix2 r (j 1)) * Step.rs (fun y => A0 m c (ix2 r y)))) fun s k _ => rfl

end Cert.FfnDxIdeal.Arr
-- ==== Proof.FfnDx.Ref.lean ====
module

public import proofs.«01_k».proof.Proof.Gen.FfnDxRefIdeal.Read
public import proofs.«01_k».proof.Proof.Common

@[expose] public section

set_option maxRecDepth 16384

/-! # What the reference computes, entry by entry (the feed-forward layer's input gradient) -/

noncomputable section

namespace Cert.FfnDxRefIdeal.Read

open Cert.FfnDxRefIdeal Idealize.ShloMosaic Idealize.ShloMosaic.TcCoe Idealize.SL.Sem

/-- The gradient with respect to the normed row, from the two cotangents. -/
def dxR (x2 x3 : Vec Ideal S1024x2816 .f32) (x4 x5 : Vec Ideal S4096x2816 .f32) (r : Fin 4096) (l : Fin 1024) : EReal :=
  ∑ x, x5 (ix2 r x) * x3 (ix2 l x) + ∑ x, x4 (ix2 r x) * x2 (ix2 l x)

/-- The reference's gradient with respect to the block's input. -/
theorem ref42 (x0 : Vec Ideal S4096x1024 .f32) (x1 : Vec Ideal S1x1024 .f32) (x2 x3 : Vec Ideal S1024x2816 .f32) (x4 x5 : Vec Ideal S4096x2816 .f32) (x6 : Vec Ideal S4096x1024 .f32) (r : Fin 4096) (l : Fin 1024) :
    val_main_v42 (F := Ideal) x0 x1 x2 x3 x4 x5 x6 (ix2 r l)
      = Step.rowR (x6 (ix2 r l)) (fun x => x0 (ix2 r x)) (fun x => x1 (ix2 0 x)) (dxR x2 x3 x4 x5 r) l := by
  pointwise [val_main_v0, val_main_v1, val_main_cst, val_main_v2, val_main_v3, val_main_cst_0, val_main_v4, val_main_v5, val_main_cst_1, val_main_v6, val_main_v7, val_main_v8, val_main_v9,
    val_main_cst_2, val_main_v10, val_main_v11, val_main_v12, val_main_v13, val_main_v14, val_main_v15, val_main_v16, val_main_v17, val_main_v18, val_main_v19, val_main_v20,
    val_main_v21, val_main_v22, val_main_cst_3, val_main_v23, val_main_v24, val_main_v25, val_main_v26, val_main_cst_4, val_main_v27, val_main_v28, val_main_cst_5, val_main_v29,
    val_main_v30, val_main_v31, val_main_v32, val_main_v33, val_main_v34, val_main_cst_6, val_main_v35, val_main_v36, val_main_cst_7, val_main_v37, val_main_v38, val_main_v39,
    val_main_v40, val_main_v41, val_main_v42, val_main_v43, val_main_v44]
  simp only [Fin.sum_univ_one]
  rfl

/-- Its bf16 copy is the same array over the extended reals. -/
theorem ref43 (x0 : Vec Ideal S4096x1024 .f32) (x1 : Vec Ideal S1x1024 .f32) (x2 x3 : Vec Ideal S1024x2816 .f32) (x4 x5 : Vec Ideal S4096x2816 .f32) (x6 : Vec Ideal S4096x1024 .f32) (r : Fin 4096) (l : Fin 1024) :
    val_main_v43 (F := Ideal) x0 x1 x2 x3 x4 x5 x6 (ix2 r l)
      = Step.rowR (x6 (ix2 r l)) (fun x => x0 (ix2 r x)) (fun x => x1 (ix2 0 x)) (dxR x2 x3 x4 x5 r) l :=
  ref42 x0 x1 x2 x3 x4 x5 x6 r l

/-- The reference's gradient with respect to the gain. -/
theorem ref44 (x0 : Vec Ideal S4096x1024 .f32) (x2 x3 : Vec Ideal S1024x2816 .f32) (x4 x5 : Vec Ideal S4096x2816 .f32) (z : Fin 1) (l : Fin 1024) :
    val_main_v44 (F := Ideal) x0 x2 x3 x4 x5 (ix2 z l)
      = ∑ r, dxR x2 x3 x4 x5 r l * (x0 (ix2 r l) * Step.rs (fun y => x0 (ix2 r y))) := by
  pointwise [val_main_v0, val_main_v1, val_main_cst, val_main_v2, val_main_v3, val_main_cst_0, val_main_v4, val_main_v5, val_main_cst_1, val_main_v6, val_main_v7, val_main_v8, val_main_v9,
    val_main_cst_2, val_main_v10, val_main_v11, val_main_v12, val_main_v13, val_main_v14, val_main_v15, val_main_v16, val_main_v17, val_main_v18, val_main_v19, val_main_v20,
    val_main_v21, val_main_v22, val_main_cst_3, val_main_v23, val_main_v24, val_main_v25, val_main_v26, val_main_cst_4, val_main_v27, val_main_v28, val_main_cst_5, val_main_v29,
    val_main_v30, val_main_v31, val_main_v32, val_main_v33, val_main_v34, val_main_cst_6, val_main_v35, val_main_v36, val_main_cst_7, val_main_v37, val_main_v38, val_main_v39,
    val_main_v40, val_main_v41, val_main_v42, val_main_v43, val_main_v44]
  simp only [Fin.sum_univ_one]
  exact Finset.sum_congr rfl fun r _ => mul_comm _ _

end Cert.FfnDxRefIdeal.Read
-- ==== Proof.FfnDx.Claim.lean ====
module

public import proofs.«01_k».proof.Defs
public import proofs.«01_k».proof.Proof.Gen.FfnDxIdeal
public import proofs.«01_k».proof.Proof.Gen.FfnDxRefIdeal
public import proofs.«01_k».proof.Proof.FfnDx.Array
public import proofs.«01_k».proof.Proof.FfnDx.Ref

@[expose] public section

/-! # The feed-forward layer's input gradient: the kernel's three results are the reference's -/

noncomputable section

namespace Cert.FfnDxTie

open Idealize.ShloMosaic Idealize.ShloMosaic.TcCoe Idealize.SL.Sem

/-- The two programs add the two branches' products in the two orders. -/
theorem dx_eq (m : (ℓ : Loc FfnDxIdeal.nD FfnDxIdeal.τ FfnDxIdeal.sig) → Buf (Elt Ideal) ℓ) (c : Dev FfnDxIdeal.nD) :
    FfnDxRefIdeal.Read.dxR (FfnDxIdeal.Arr.A2 m c) (FfnDxIdeal.Arr.A3 m c) (FfnDxIdeal.Arr.A4 m c) (FfnDxIdeal.Arr.A5 m c) = FfnDxIdeal.Arr.dx m c :=
  funext fun _ => funext fun _ => add_comm _ _

/-- The reference's gradient with respect to the block's input is the kernel's. -/
theorem dh_eq (m : (ℓ : Loc FfnDxIdeal.nD FfnDxIdeal.τ FfnDxIdeal.sig) → Buf (Elt Ideal) ℓ) (c : Dev FfnDxIdeal.nD) (r : Fin 4096) (l : Fin 1024) :
    Step.rowR (FfnDxIdeal.Arr.A6 m c (ix2 r l)) (fun x => FfnDxIdeal.Arr.A0 m c (ix2 r x)) (fun x => FfnDxIdeal.Arr.A1 m c (ix2 0 x))
      (FfnDxRefIdeal.Read.dxR (FfnDxIdeal.Arr.A2 m c) (FfnDxIdeal.Arr.A3 m c) (FfnDxIdeal.Arr.A4 m c) (FfnDxIdeal.Arr.A5 m c) r) l = FfnDxIdeal.Arr.dh m c r l := by
  rw [dx_eq]
  exact (Step.row_eq _ _ _ _ _).symm

/-- The kernel's three arrays, at the entry's arrays, are what reverse differentiation of the forward lines gives. -/
theorem algebraic : Cert.algebraic_FfnDxIdeal_FfnDxRefIdeal := by
  intro m ρ m' ρ' _ hag
  refine ⟨_, _, _, FfnDxIdeal.Value.run_blocks m ρ, ?_⟩
  refine (θ_run FfnDxRefIdeal.defs _ _).mono (fun r h c => ?_) (FfnDxRefIdeal.Value.run (F := Ideal) m' ρ')
  obtain ⟨e0, e1, e2, e3, e4, e5, e6⟩ := hag c
  refine ⟨(h c).1.trans ?_, (h c).2.1.trans ?_, (h c).2.2.1.trans ?_, (h c).2.2.2⟩
  · rw [FfnDxRefIdeal.Read.val_main_v42_eq, e0, e1, e2, e3, e4, e5, e6, FfnDxIdeal.Arr.arr8]
    funext i
    obtain ⟨r, l, rfl⟩ : ∃ (r : Fin 4096) (l : Fin 1024), i = ix2 r l := ⟨i 0, i 1, eq_ix2 i⟩
    exact (FfnDxRefIdeal.Read.ref42 _ _ _ _ _ _ _ r l).trans (dh_eq m c r l)
  · rw [FfnDxRefIdeal.Read.val_main_v43_eq, e0, e1, e2, e3, e4, e5, e6, FfnDxIdeal.Arr.arr9]
    funext i
    obtain ⟨r, l, rfl⟩ : ∃ (r : Fin 4096) (l : Fin 1024), i = ix2 r l := ⟨i 0, i 1, eq_ix2 i⟩
    exact (FfnDxRefIdeal.Read.ref43 _ _ _ _ _ _ _ r l).trans (dh_eq m c r l)
  · rw [e0, e2, e3, e4, e5]
    refine (FfnDxRefIdeal.Read.val_main_v44_eq _ _ _ _ _).trans ?_
    rw [FfnDxIdeal.Arr.arr10]
    funext i
    obtain ⟨r, l, rfl⟩ : ∃ (r : Fin 1) (l : Fin 1024), i = ix2 r l := ⟨i 0, i 1, eq_ix2 i⟩
    refine (FfnDxRefIdeal.Read.ref44 _ _ _ _ _ r l).trans ?_
    exact Finset.sum_congr rfl fun s _ => congrArg (· * _) (congrFun (congrFun (dx_eq m c) s) l)

/-- The reference ends with its arguments unchanged; it has no semaphore. -/
theorem frame_ref : Cert.quiescent_FfnDxRefIdeal := fun m ρ _ =>
  (θ_run FfnDxRefIdeal.defs _ _).mono (fun r h => ⟨fun c => (h c).2.2.2, sem_eq_zero_of_no_sems (by decide) r.2⟩)
    (FfnDxRefIdeal.Value.run (F := Ideal) m ρ)

end Cert.FfnDxTie
-- ==== Proof.MixDx.Array.lean ====
module

public import proofs.«01_k».proof.Proof.Gen.MixDxIdeal.Value
public import proofs.«01_k».proof.Proof.Common
public import Idealize.ShloMosaic.Lib.Pipeline.ValueKit

@[expose] public section

set_option maxRecDepth 16384

/-! # What the kernel's arrays hold after its run (the mixers' input gradient) -/

noncomputable section

namespace Cert.MixDxIdeal.Arr

open Cert.MixDxIdeal Cert.MixDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, t.val, 0] ∧ win0_1.index t = ![0, 0, 0] ∧ win0_2.index t = ![t.val, 0] ∧ win0_3.index t = ![0, 0] ∧ win0_4.index t = ![t.val, 0] ∧ win0_5.index t = ![t.val, 0] ∧ win0_6.index t = ![t.val, 0] ∧ win0_7.index t = ![t.val, 0] ∧ win0_8.index t = ![0, 0] := by decide +kernel

/-- The five arrays at the entry. -/
def A0 : Vec Ideal S4096x1024 .f32 := m ((c : Thread nD τ).loc main_arg0)
@[inherit_doc A0] def A1 : Vec Ideal S1x1024 .f32 := m ((c : Thread nD τ).loc main_arg1)
@[inherit_doc A0] def A2 : Vec Ideal S1024x2048 .f32 := m ((c : Thread nD τ).loc main_arg2)
@[inherit_doc A0] def A3 : Vec Ideal S4096x2048 .f32 := m ((c : Thread nD τ).loc main_arg3)
@[inherit_doc A0] def A4 : Vec Ideal S4096x1024 .f32 := m ((c : Thread nD τ).loc main_arg4)

/-- The cotangent's blocks: the chip's columns, in order. -/
theorem v13 (j : Fin 4) (r : Fin 4096) (k : Fin 512) : V m c main_v13 (ix3 j r k) = A3 m c (ix2 r ⟨j.val * 512 + k.val, by omega⟩) := by
  entry_read
  pointwise
  rfl

/-- The weight's blocks: the chip's columns, in order. -/
theorem v10 (j : Fin 4) (r : Fin 1024) (k : Fin 512) : V m c main_v10 (ix3 j r k) = A2 m c (ix2 r ⟨j.val * 512 + k.val, by omega⟩) := by
  entry_read
  pointwise
  rfl

/-- The saved factor of a row's norm. -/
theorem v7 (r : Fin 4096) : V m c main_v7 (ix2 r 0) = Step.rs (fun l => A0 m c (ix2 r l)) := by
  entry_read
  pointwise
  rfl

/-- The gradient with respect to the normed row. -/
def dx (r : Fin 4096) (l : Fin 1024) : EReal := ∑ k, A3 m c (ix2 r k) * A2 m c (ix2 l k)

/-- Row `p` of the tile at grid point `t`. -/
def row (t : Fin cfg0.N) (p : Fin 512) : Fin 4096 := ⟨t.val * 512 + p.val, by have h : t.val < 8 := t.isLt; omega⟩

theorem blk0 (t : Fin cfg0.N) (j : Fin 4) (p : Fin 512) (k : Fin 512) : iblk m c 0 t (ix3 j p k) = A3 m c (ix2 (row t p) ⟨j.val * 512 + k.val, by omega⟩) := by
  rw [← v13]
  unfold row
  blk_ext [iblk, idx t]

theorem blk1 (t : Fin cfg0.N) (j : Fin 4) (p : Fin 1024) (k : Fin 512) : iblk m c 1 t (ix3 j p k) = A2 m c (ix2 p ⟨j.val * 512 + k.val, by omega⟩) := by
  rw [← v10]
  blk_ext [iblk, idx t]

theorem blk2 (t : Fin cfg0.N) (p : Fin 512) (l : Fin 1024) : iblk m c 2 t (ix2 p l) = A0 m c (ix2 (row t p) l) := by
  unfold A0 row
  blk_ext [iblk, V, idx t]

theorem blk3 (t : Fin cfg0.N) (p : Fin 1024) : iblk m c 3 t (ix2 0 p) = A1 m c (ix2 0 p) := by
  unfold A1
  blk_ext [iblk, V, idx t]

theorem blk4 (t : Fin cfg0.N) (p : Fin 512) : iblk m c 4 t (ix2 p 0) = Step.rs (fun l => A0 m c (ix2 (row t p) l)) := by
  refine Eq.trans ?_ (v7 m c (row t p))
  unfold row
  blk_ext [iblk, idx t]

theorem blk5 (t : Fin cfg0.N) (p : Fin 512) (l : Fin 1024) : iblk m c 5 t (ix2 p l) = A4 m c (ix2 (row t p) l) := by
  unfold A4 row
  blk_ext [iblk, V, idx t]

/-- The row of the product, as the four partial products added. -/
theorem dx_parts (r : Fin 4096) (l : Fin 1024) :
    dx m c r l = ∑ k : Fin 512, A3 m c (ix2 r ⟨(0 : Fin 4).val * 512 + k.val, by omega⟩) * A2 m c (ix2 l ⟨(0 : Fin 4).val * 512 + k.val, by omega⟩)
      + ∑ k : Fin 512, A3 m c (ix2 r ⟨(1 : Fin 4).val * 512 + k.val, by omega⟩) * A2 m c (ix2 l ⟨(1 : Fin 4).val * 512 + k.val, by omega⟩)
      + ∑ k : Fin 512, A3 m c (ix2 r ⟨(2 : Fin 4).val * 512 + k.val, by omega⟩) * A2 m c (ix2 l ⟨(2 : Fin 4).val * 512 + k.val, by omega⟩)
      + ∑ k : Fin 512, A3 m c (ix2 r ⟨(3 : Fin 4).val * 512 + k.val, by omega⟩) * A2 m c (ix2 l ⟨(3 : Fin 4).val * 512 + k.val, by omega⟩) := by
  unfold dx
  rw [Step.sum4_512]
  congr! <;> simp

/-- The gradient with respect to the block's input. -/
def dh (r : Fin 4096) (l : Fin 1024) : EReal :=
  Step.rowK (A4 m c (ix2 r l)) (fun x => A0 m c (ix2 r x)) (fun x => A1 m c (ix2 0 x)) (dx m c r) l

/-- What a grid point stores into its row tile. -/
theorem pay5 (t : Fin cfg0.N) (p : Fin 512) (l : Fin 1024) :
    k0_pay5
      (k0_pay8 (View.ld (iblk m c 0 t) (Rect.unit ![0, 0, 0] ![1, 512, 512] inb_S4x512x512_S1x512x512_0_0_0))
        (View.ld (iblk m c 1 t) (Rect.unit ![0, 0, 0] ![1, 1024, 512] inb_S4x1024x512_S1x1024x512_0_0_0))
        (View.ld (iblk m c 0 t) (Rect.unit ![1, 0, 0] ![1, 512, 512] inb_S4x512x512_S1x512x512_1_0_0))
        (View.ld (iblk m c 1 t) (Rect.unit ![1, 0, 0] ![1, 1024, 512] inb_S4x1024x512_S1x1024x512_1_0_0))
        (View.ld (iblk m c 0 t) (Rect.unit ![2, 0, 0] ![1, 512, 512] inb_S4x512x512_S1x512x512_2_0_0))
        (View.ld (iblk m c 1 t) (Rect.unit ![2, 0, 0] ![1, 1024, 512] inb_S4x1024x512_S1x1024x512_2_0_0)))
      (k0_pay9 (View.ld (iblk m c 0 t) (Rect.unit ![3, 0, 0] ![1, 512, 512] inb_S4x512x512_S1x512x512_3_0_0))
        (View.ld (iblk m c 1 t) (Rect.unit ![3, 0, 0] ![1, 1024, 512] inb_S4x1024x512_S1x1024x512_3_0_0)))
      (iblk m c 4 t) (iblk m c 2 t) (iblk m c 3 t) (iblk m c 5 t) (ix2 p l) = dh m c (row t p) l := by
  unfold_payloads
  pointwise
  simp only [blk0, blk1, blk2, blk3, blk4, blk5]
  unfold dh Step.rowK
  simp only [dx_parts]

/-- What a grid point adds to the gain's gradient. -/
theorem pay4 (t : Fin cfg0.N) (x : Vec Ideal S1x1024 .f32) (z : Fin 1) (l : Fin 1024) :
    k0_pay4
      (k0_pay8 (View.ld (iblk m c 0 t) (Rect.unit ![0, 0, 0] ![1, 512, 512] inb_S4x512x512_S1x512x512_0_0_0))
        (View.ld (iblk m c 1 t) (Rect.unit ![0, 0, 0] ![1, 1024, 512] inb_S4x1024x512_S1x1024x512_0_0_0))
        (View.ld (iblk m c 0 t) (Rect.unit ![1, 0, 0] ![1, 512, 512] inb_S4x512x512_S1x512x512_1_0_0))
        (View.ld (iblk m c 1 t) (Rect.unit ![1, 0, 0] ![1, 1024, 512] inb_S4x1024x512_S1x1024x512_1_0_0))
        (View.ld (iblk m c 0 t) (Rect.unit ![2, 0, 0] ![1, 512, 512] inb_S4x512x512_S1x512x512_2_0_0))
        (View.ld (iblk m c 1 t) (Rect.unit ![2, 0, 0] ![1, 1024, 512] inb_S4x1024x512_S1x1024x512_2_0_0)))
      (k0_pay9 (View.ld (iblk m c 0 t) (Rect.unit ![3, 0, 0] ![1, 512, 512] inb_S4x512x512_S1x512x512_3_0_0))
        (View.ld (iblk m c 1 t) (Rect.unit ![3, 0, 0] ![1, 1024, 512] inb_S4x1024x512_S1x1024x512_3_0_0)))
      (iblk m c 4 t) (iblk m c 2 t) x (ix2 z l)
      = x (ix2 z l) + ∑ p, dx m c (row t p) l * (A0 m c (ix2 (row t p) l) * Step.rs (fun y => A0 m c (ix2 (row t p) y))) := by
  unfold_payloads
  pointwise
  simp only [blk0, blk1, blk2, blk4, dx_parts]

/-- The array of the gradient with respect to the block's input. -/
theorem arr6 : (dats m 0 c).arrAt 6 cfg0.N = fun i => dh m c (i 0) (i 1) := by
  refine (dats m 0 c).arrAt_eq_of_covers 6 _ (by decide +kernel) fun t hf y => ?_
  blk_simp
  rw [after0_6]
  idx_vars y
  have e := pay5 m c t y0 y1
  have e0 : (((View.whole main_v14_0).slice (win0_6.rect t)).emb (ix2 y0 y1)) = ix2 (row t y0) y1 := by
    unfold row
    blk_ext [idx t]
  rw [e0]
  by_cases h0 : t.val % 8 = 0
  · rw [outsAt0_A m c t h0]
    frame_out
    exact e
  · rw [outsAt0_B m c t h0]
    frame_out
    exact e

/-- The array of its bf16 copy. -/
theorem arr7 : (dats m 0 c).arrAt 7 cfg0.N = fun i => dh m c (i 0) (i 1) := by
  refine (dats m 0 c).arrAt_eq_of_covers 7 _ (by decide +kernel) fun t hf y => ?_
  blk_simp
  rw [after0_7]
  idx_vars y
  have e := pay5 m c t y0 y1
  have e0 : (((View.whole main_v14_1).slice (win0_7.rect t)).emb (ix2 y0 y1)) = ix2 (row t y0) y1 := by
    unfold row
    blk_ext [idx t]
  rw [e0]
  by_cases h0 : t.val % 8 = 0
  · rw [outsAt0_A m c t h0]
    frame_out
    exact e
  · rw [outsAt0_B m c t h0]
    frame_out
    exact e

/-- The gradient with respect to the gain. -/
def dgain (l : Fin 1024) : EReal := ∑ r, dx m c r l * (A0 m c (ix2 r l) * Step.rs (fun y => A0 m c (ix2 r y)))

/-- The array of the gradient with respect to the gain. -/
theorem arr8 : (dats m 0 c).arrAt 8 cfg0.N = fun i => dgain m c (i 1) := by
  refine (dats m 0 c).arrAt_eq_of_after_last 8 t0_7 (by decide +kernel) _ fun j => ?_
  blk_simp
  rw [after0_8]
  refine (Pipeline.eq_sum_fin_of_reset_step_apply_last (fun n h => (outsAt0 m c n h).2.2) 8 (fun _ => (0 : EReal))
    (fun t j => ∑ p, dx m c (row t p) (j 1) * (A0 m c (ix2 (row t p) (j 1)) * Step.rs (fun y => A0 m c (ix2 (row t p) y))))
    (fun t h j => ?_) (fun t h j => ?_) (by decide) t0_7 rfl j).trans ?_
  · rw [outsAt0_A m c t h]
    frame_out
    idx_vars j
    refine (pay4 m c t _ j0 j1).trans ?_
    unfold k0_pay7
    pointwise
  · rw [outsAt0_B m c t h]
    frame_out
    idx_vars j
    exact pay4 m c t _ j0 j1
  · rw [zero_add]
    exact Fin.sum_mul_add_congr (S := 8) (n := 512) (f := fun r => dx m c r (j 1) * (A0 m c (ix2 r (j 1)) * Step.rs (fun y => A0 m c (ix2 r y)))) fun s k _ => rfl

end Cert.MixDxIdeal.Arr
-- ==== Proof.MixDx.Ref.lean ====
module

public import proofs.«01_k».proof.Proof.Gen.MixDxRefIdeal.Read
public import proofs.«01_k».proof.Proof.Common

@[expose] public section

set_option maxRecDepth 16384

/-! # What the reference computes, entry by entry (the mixers' input gradient) -/

noncomputable section

namespace Cert.MixDxRefIdeal.Read

open Cert.MixDxRefIdeal Idealize.ShloMosaic Idealize.ShloMosaic.TcCoe Idealize.SL.Sem

/-- The reference's gradient with respect to the block's input. -/
theorem ref39 (x0 : Vec Ideal S4096x1024 .f32) (x1 : Vec Ideal S1x1024 .f32) (x2 : Vec Ideal S1024x2048 .f32) (x3 : Vec Ideal S4096x2048 .f32) (x4 : Vec Ideal S4096x1024 .f32) (r : Fin 4096) (l : Fin 1024) :
    val_main_v39 (F := Ideal) x0 x1 x2 x3 x4 (ix2 r l)
      = Step.rowR (x4 (ix2 r l)) (fun x => x0 (ix2 r x)) (fun x => x1 (ix2 0 x)) (fun y => ∑ x, x3 (ix2 r x) * x2 (ix2 y x)) l := by
  pointwise [val_main_v0, val_main_v1, val_main_cst, val_main_v2, val_main_v3, val_main_cst_0, val_main_v4, val_main_v5, val_main_cst_1, val_main_v6, val_main_v7, val_main_v8, val_main_v9,
val_main_cst_2, val_main_v10, val_main_v11, val_main_v12, val_main_v13, val_main_v14, val_main_v15, val_main_v16, val_main_v17, val_main_v18, val_main_v19, val_main_cst_3,
val_main_v20, val_main_v21, val_main_v22, val_main_v23, val_main_cst_4, val_main_v24, val_main_v25, val_main_cst_5, val_main_v26, val_main_v27, val_main_v28, val_main_v29,
val_main_v30, val_main_v31, val_main_cst_6, val_main_v32, val_main_v33, val_main_cst_7, val_main_v34, val_main_v35, val_main_v36, val_main_v37, val_main_v38, val_main_v39,
val_main_v40, val_main_v41]
  simp only [Fin.sum_univ_one]
  rfl

/-- Its bf16 copy is the same array over the extended reals. -/
theorem ref40 (x0 : Vec Ideal S4096x1024 .f32) (x1 : Vec Ideal S1x1024 .f32) (x2 : Vec Ideal S1024x2048 .f32) (x3 : Vec Ideal S4096x2048 .f32) (x4 : Vec Ideal S4096x1024 .f32) (r : Fin 4096) (l : Fin 1024) :
    val_main_v40 (F := Ideal) x0 x1 x2 x3 x4 (ix2 r l)
      = Step.rowR (x4 (ix2 r l)) (fun x => x0 (ix2 r x)) (fun x => x1 (ix2 0 x)) (fun y => ∑ x, x3 (ix2 r x) * x2 (ix2 y x)) l :=
  ref39 x0 x1 x2 x3 x4 r l

/-- The reference's gradient with respect to the gain. -/
theorem ref41 (x0 : Vec Ideal S4096x1024 .f32) (x2 : Vec Ideal S1024x2048 .f32) (x3 : Vec Ideal S4096x2048 .f32) (z : Fin 1) (l : Fin 1024) :
    val_main_v41 (F := Ideal) x0 x2 x3 (ix2 z l)
      = ∑ r, (∑ x, x3 (ix2 r x) * x2 (ix2 l x)) * (x0 (ix2 r l) * Step.rs (fun y => x0 (ix2 r y))) := by
  pointwise [val_main_v0, val_main_v1, val_main_cst, val_main_v2, val_main_v3, val_main_cst_0, val_main_v4, val_main_v5, val_main_cst_1, val_main_v6, val_main_v7, val_main_v8, val_main_v9,
val_main_cst_2, val_main_v10, val_main_v11, val_main_v12, val_main_v13, val_main_v14, val_main_v15, val_main_v16, val_main_v17, val_main_v18, val_main_v19, val_main_cst_3,
val_main_v20, val_main_v21, val_main_v22, val_main_v23, val_main_cst_4, val_main_v24, val_main_v25, val_main_cst_5, val_main_v26, val_main_v27, val_main_v28, val_main_v29,
val_main_v30, val_main_v31, val_main_cst_6, val_main_v32, val_main_v33, val_main_cst_7, val_main_v34, val_main_v35, val_main_v36, val_main_v37, val_main_v38, val_main_v39,
val_main_v40, val_main_v41]
  simp only [Fin.sum_univ_one]
  exact Finset.sum_congr rfl fun r _ => mul_comm _ _

end Cert.MixDxRefIdeal.Read
-- ==== Proof.MixDx.Claim.lean ====
module

public import proofs.«01_k».proof.Defs
public import proofs.«01_k».proof.Proof.Gen.MixDxIdeal
public import proofs.«01_k».proof.Proof.Gen.MixDxRefIdeal
public import proofs.«01_k».proof.Proof.MixDx.Array
public import proofs.«01_k».proof.Proof.MixDx.Ref

@[expose] public section

/-! # The mixers' input gradient: the kernel's three results are the reference's -/

noncomputable section

namespace Cert.MixDxTie

open Idealize.ShloMosaic Idealize.ShloMosaic.TcCoe Idealize.SL.Sem

/-- The kernel's three arrays, at the entry's arrays, are what reverse differentiation of the forward lines gives. -/
theorem algebraic : Cert.algebraic_MixDxIdeal_MixDxRefIdeal := by
  intro m ρ m' ρ' _ hag
  refine ⟨_, _, _, MixDxIdeal.Value.run_blocks m ρ, ?_⟩
  refine (θ_run MixDxRefIdeal.defs _ _).mono (fun r h c => ?_) (MixDxRefIdeal.Value.run (F := Ideal) m' ρ')
  obtain ⟨e0, e1, e2, e3, e4⟩ := hag c
  refine ⟨(h c).1.trans ?_, (h c).2.1.trans ?_, (h c).2.2.1.trans ?_, (h c).2.2.2⟩
  · rw [MixDxRefIdeal.Read.val_main_v39_eq, e0, e1, e2, e3, e4, MixDxIdeal.Arr.arr6]
    funext i
    obtain ⟨r, l, rfl⟩ : ∃ (r : Fin 4096) (l : Fin 1024), i = ix2 r l := ⟨i 0, i 1, eq_ix2 i⟩
    exact (MixDxRefIdeal.Read.ref39 _ _ _ _ _ r l).trans (Step.row_eq _ _ _ _ _).symm
  · rw [MixDxRefIdeal.Read.val_main_v40_eq, e0, e1, e2, e3, e4, MixDxIdeal.Arr.arr7]
    funext i
    obtain ⟨r, l, rfl⟩ : ∃ (r : Fin 4096) (l : Fin 1024), i = ix2 r l := ⟨i 0, i 1, eq_ix2 i⟩
    exact (MixDxRefIdeal.Read.ref40 _ _ _ _ _ r l).trans (Step.row_eq _ _ _ _ _).symm
  · rw [e0, e2, e3]
    refine (MixDxRefIdeal.Read.val_main_v41_eq _ _ _).trans ?_
    rw [MixDxIdeal.Arr.arr8]
    funext i
    obtain ⟨r, l, rfl⟩ : ∃ (r : Fin 1) (l : Fin 1024), i = ix2 r l := ⟨i 0, i 1, eq_ix2 i⟩
    exact MixDxRefIdeal.Read.ref41 _ _ _ r l

/-- The reference ends with its arguments unchanged; it has no semaphore. -/
theorem frame_ref : Cert.quiescent_MixDxRefIdeal := fun m ρ _ =>
  (θ_run MixDxRefIdeal.defs _ _).mono (fun r h => ⟨fun c => (h c).2.2.2, sem_eq_zero_of_no_sems (by decide) r.2⟩)
    (MixDxRefIdeal.Value.run (F := Ideal) m ρ)

end Cert.MixDxTie
-- ==== Proof.EvenGrad.Blocks.lean ====
module

public import proofs.«01_k».proof.Proof.Gen.EvenGradIdeal.Value
public import proofs.«01_k».proof.Proof.Common
public import Idealize.ShloMosaic.Lib.Pipeline.ValueKit

@[expose] public section

set_option maxRecDepth 16384

/-! # The blocks a grid point reads (the even layer's mixer gradient) -/

noncomputable section

namespace Cert.EvenGradIdeal.Arr

open Cert.EvenGradIdeal Cert.EvenGradIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, t.val, 0] ∧ win0_1.index t = ![0, t.val * 32 - 1, 0]
    ∧ win0_2.index t = ![0, min ((t.val + 1) * 32) 255, 0] ∧ win0_3.index t = ![t.val, 0] ∧ win0_4.index t = ![t.val, 0]
    ∧ win0_5.index t = ![t.val, 0] ∧ win0_6.index t = ![min ((t.val + 1) * 32) 255, 0] ∧ win0_7.index t = ![0, 0]
    ∧ win0_8.index t = ![0, 0] ∧ win0_9.index t = ![0, 0, 0] ∧ win0_10.index t = ![0, 0, 0] ∧ win0_11.index t = ![0, 0]
    ∧ win0_12.index t = ![0, t.val, 0] ∧ win0_13.index t = ![0, 0, 0] ∧ win0_14.index t = ![0, 0] ∧ win0_15.index t = ![0, 0]
    ∧ win0_16.index t = ![0, 0, 0] ∧ win0_17.index t = ![0, 0] := by decide +kernel

/-- The eight arrays at the entry. -/
def A0 : Vec Ideal S4096x1024 .f32 := m ((c : Thread nD τ).loc main_arg0)
@[inherit_doc A0] def A1 : Vec Ideal S1024 .f32 := m ((c : Thread nD τ).loc main_arg1)
@[inherit_doc A0] def A2 : Vec Ideal S1024x2048 .f32 := m ((c : Thread nD τ).loc main_arg2)
@[inherit_doc A0] def A3 : Vec Ideal S3x512 .f32 := m ((c : Thread nD τ).loc main_arg3)
@[inherit_doc A0] def A4 : Vec Ideal S4x128x128 .f32 := m ((c : Thread nD τ).loc main_arg4)
@[inherit_doc A0] def A5 : Vec Ideal S512 .f32 := m ((c : Thread nD τ).loc main_arg5)
@[inherit_doc A0] def A6 : Vec Ideal S1024x1024 .f32 := m ((c : Thread nD τ).loc main_arg6)
@[inherit_doc A0] def A7 : Vec Ideal S4096x1024 .f32 := m ((c : Thread nD τ).loc main_arg7)

/-- The normed row. -/
def xn (r : Fin 4096) (l : Fin 1024) : EReal := A0 m c (ix2 r l) * Step.rs (fun y => A0 m c (ix2 r y)) * A1 m c (ix1 l)

/-- Its projection, column `l` of block `k`. -/
def pr (k : Fin 4) (r : Fin 4096) (l : Fin 512) : EReal := ∑ x, xn m c r x * A2 m c (ix2 x ⟨k.val * 512 + l.val, by omega⟩)

theorem v116 (r : Fin 4096) (l : Fin 1024) : V m c main_v116 (ix2 r l) = xn m c r l := by
  unfold V
  simp only [hostOps0, hostOps0_1, hostOps0_2, List.flatten_cons, List.flatten_nil, List.cons_append, List.nil_append, List.append_nil]
  entry_read
  pointwise
  rfl

theorem v114 (k : Fin 4) (r : Fin 4096) (l : Fin 512) : V m c main_v114 (ix3 k r l) = pr m c k r l := by
  unfold V
  simp only [hostOps0, hostOps0_1, hostOps0_2, List.flatten_cons, List.flatten_nil, List.cons_append, List.nil_append, List.append_nil]
  entry_read
  pointwise
  rfl

theorem v117 (r : Fin 4096) (l : Fin 1024) : V m c main_v117 (ix2 r l) = A7 m c (ix2 r l) := by
  unfold V
  simp only [hostOps0, hostOps0_1, hostOps0_2, List.flatten_cons, List.flatten_nil, List.cons_append, List.nil_append, List.append_nil]
  entry_read
  pointwise
  rfl

theorem v118 (r : Fin 1024) (l : Fin 1024) : V m c main_v118 (ix2 r l) = A6 m c (ix2 r l) := by
  unfold V
  simp only [hostOps0, hostOps0_1, hostOps0_2, List.flatten_cons, List.flatten_nil, List.cons_append, List.nil_append, List.append_nil]
  entry_read
  pointwise
  rfl

theorem v119 (g : Fin 4) (r : Fin 128) (l : Fin 128) : V m c main_v119 (ix3 g r l) = A4 m c (ix3 g r l) := by
  unfold V
  simp only [hostOps0, hostOps0_1, hostOps0_2, List.flatten_cons, List.flatten_nil, List.cons_append, List.nil_append, List.append_nil]
  entry_read
  pointwise
  rfl

theorem v121 (g : Fin 4) (r : Fin 128) (l : Fin 128) : V m c main_v121 (ix3 g r l) = A4 m c (ix3 g l r) := by
  unfold V
  simp only [hostOps0, hostOps0_1, hostOps0_2, List.flatten_cons, List.flatten_nil, List.cons_append, List.nil_append, List.append_nil]
  entry_read
  pointwise
  rfl

theorem v122 (l : Fin 512) : V m c main_v122 (ix2 0 l) = A5 m c (ix1 l) := by
  unfold V
  simp only [hostOps0, hostOps0_1, hostOps0_2, List.flatten_cons, List.flatten_nil, List.cons_append, List.nil_append, List.append_nil]
  entry_read
  pointwise
  rfl

/-- Row `p` of the tile at grid point `t`. -/
def row (t : Fin cfg0.N) (p : Fin 512) : Fin 4096 := ⟨t.val * 512 + p.val, by have h : t.val < 8 := t.isLt; omega⟩

/-- Row `p` of the 16 rows before the tile (the first tile reads its own first rows). -/
def rowP (t : Fin cfg0.N) (p : Fin 16) : Fin 4096 := ⟨(t.val * 32 - 1) * 16 + p.val, by have h : t.val < 8 := t.isLt; omega⟩

/-- Row `p` of the 16 rows after the tile (the last tile reads its own last rows). -/
def rowN (t : Fin cfg0.N) (p : Fin 16) : Fin 4096 := ⟨min ((t.val + 1) * 32) 255 * 16 + p.val, by have h : t.val < 8 := t.isLt; omega⟩

theorem blk0 (t : Fin cfg0.N) (k : Fin 4) (p : Fin 512) (l : Fin 512) : iblk m c 0 t (ix3 k p l) = pr m c k (row t p) l := by
  rw [← v114]
  unfold row
  blk_ext [iblk, idx t]

theorem blk1 (t : Fin cfg0.N) (k : Fin 4) (p : Fin 16) (l : Fin 512) : iblk m c 1 t (ix3 k p l) = pr m c k (rowP t p) l := by
  rw [← v114]
  unfold rowP
  blk_ext [iblk, idx t]

theorem blk2 (t : Fin cfg0.N) (k : Fin 4) (p : Fin 16) (l : Fin 512) : iblk m c 2 t (ix3 k p l) = pr m c k (rowN t p) l := by
  rw [← v114]
  unfold rowN
  blk_ext [iblk, idx t]

theorem blk3 (t : Fin cfg0.N) (p : Fin 512) (l : Fin 1024) : iblk m c 3 t (ix2 p l) = V m c main_v115 (ix2 (row t p) l) := by
  unfold row
  blk_ext [iblk, idx t]

theorem blk4 (t : Fin cfg0.N) (p : Fin 512) (l : Fin 1024) : iblk m c 4 t (ix2 p l) = xn m c (row t p) l := by
  rw [← v116]
  unfold row
  blk_ext [iblk, idx t]

theorem blk5 (t : Fin cfg0.N) (p : Fin 512) (l : Fin 1024) : iblk m c 5 t (ix2 p l) = A7 m c (ix2 (row t p) l) := by
  rw [← v117]
  unfold row
  blk_ext [iblk, idx t]

theorem blk6 (t : Fin cfg0.N) (p : Fin 16) (l : Fin 1024) : iblk m c 6 t (ix2 p l) = A7 m c (ix2 (rowN t p) l) := by
  rw [← v117]
  unfold rowN
  blk_ext [iblk, idx t]

theorem blk7 (t : Fin cfg0.N) (p : Fin 1024) (l : Fin 1024) : iblk m c 7 t (ix2 p l) = A6 m c (ix2 p l) := by
  rw [← v118]
  blk_ext [iblk, idx t]

theorem blk8 (t : Fin cfg0.N) (p : Fin 3) (l : Fin 512) : iblk m c 8 t (ix2 p l) = A3 m c (ix2 p l) := by
  unfold A3
  blk_ext [iblk, V, idx t]

theorem blk9 (t : Fin cfg0.N) (g : Fin 4) (p : Fin 128) (l : Fin 128) : iblk m c 9 t (ix3 g p l) = A4 m c (ix3 g p l) := by
  rw [← v119]
  blk_ext [iblk, idx t]

theorem blk10 (t : Fin cfg0.N) (g : Fin 4) (p : Fin 128) (l : Fin 128) : iblk m c 10 t (ix3 g p l) = A4 m c (ix3 g l p) := by
  rw [← v121]
  blk_ext [iblk, idx t]

theorem blk11 (t : Fin cfg0.N) (l : Fin 512) : iblk m c 11 t (ix2 0 l) = A5 m c (ix1 l) := by
  rw [← v122]
  blk_ext [iblk, idx t]

end Cert.EvenGradIdeal.Arr
-- ==== Proof.Halo.lean ====
module

public import proofs.«01_k».proof.Proof.Common
public import Mathlib.Tactic.Abel

@[expose] public section

/-! # Rows before and after a row of an array of 4096 rows

A tile reads the sixteen rows before it and the sixteen after it; outside the array both are zero. -/

noncomputable section

namespace Step

open Idealize.ShloMosaic

/-- The array as a function on the natural numbers, zero from row 4096 on. -/
def ext (f : Fin 4096 → EReal) (n : ℕ) : EReal := if h : n < 4096 then f ⟨n, h⟩ else 0

/-- The array delayed by sixteen rows, zero in front. -/
def lag (f : Fin 4096 → EReal) (n : ℕ) : EReal := if 16 ≤ n then ext f (n - 16) else 0

/-- The value `k` rows above row `R`, zero above the array. -/
def back (f : Fin 4096 → EReal) (R : ℕ) (k : ℕ) : EReal := if k ≤ R then ext f (R - k) else 0

/-- The value `k` rows below row `R`, zero below the array. -/
def fwd (f : Fin 4096 → EReal) (R : ℕ) (k : ℕ) : EReal := ext f (R + k)

theorem ext_val (f : Fin 4096 → EReal) (R : Fin 4096) : ext f R.val = f R := by
  unfold ext; rw [dif_pos R.isLt]

theorem ext_of_lt (f : Fin 4096 → EReal) (n : ℕ) (h : n < 4096) : ext f n = f ⟨n, h⟩ := by
  unfold ext; rw [dif_pos h]

theorem ext_of_le (f : Fin 4096 → EReal) (n : ℕ) (h : 4096 ≤ n) : ext f n = 0 := by
  unfold ext; rw [dif_neg (by omega)]

theorem lag_eq (f : Fin 4096 → EReal) (R k : ℕ) (hk : k ≤ 16) : lag f (16 + R - k) = back f R k := by
  unfold lag back
  by_cases h : k ≤ R
  · rw [if_pos (by omega), if_pos h]; congr 1; omega
  · rw [if_neg (by omega), if_neg h]

theorem back_zero (f : Fin 4096 → EReal) (R : Fin 4096) : back f R.val 0 = f R := by
  unfold back; rw [if_pos (Nat.zero_le _), Nat.sub_zero, ext_val]

theorem fwd_zero (f : Fin 4096 → EReal) (R : Fin 4096) : fwd f R.val 0 = f R := by
  unfold fwd; rw [Nat.add_zero, ext_val]

/-- An operation that keeps zero passes under the extension by zero. -/
theorem ext_map (f : Fin 4096 → EReal) (u : ℕ → EReal → EReal) (hu : ∀ n, u n 0 = 0) (n : ℕ) : u n (ext f n) = ext (fun R => u R.val (f R)) n := by
  unfold ext
  by_cases h : n < 4096
  · rw [dif_pos h, dif_pos h]
  · rw [dif_neg h, dif_neg h, hu]

theorem ext_sum_mul {n : ℕ} (f : Fin n → Fin 4096 → EReal) (w : Fin n → EReal) (R : ℕ) : (∑ x, ext (f x) R * w x) = ext (fun r => ∑ x, f x r * w x) R := by
  unfold ext
  by_cases h : R < 4096
  · simp only [dif_pos h]
  · simp only [dif_neg h, zero_mul, Finset.sum_const_zero]

theorem lag_lo (f : Fin 4096 → EReal) (n : ℕ) (h : n < 16) : lag f n = 0 := by
  unfold lag; rw [if_neg (by omega)]

theorem lag_hi (f : Fin 4096 → EReal) (n : ℕ) (R : Fin 4096) (h : n = 16 + R.val) : lag f n = f R := by
  unfold lag; rw [if_pos (by omega), show n - 16 = R.val by omega, ext_val]

theorem ext_row (f : Fin 4096 → EReal) (n : ℕ) (R : Fin 4096) (h : n = R.val) : ext f n = f R := by
  rw [h, ext_val]

/-- The number of rows in the window of `n` rows ending at row `R`. -/
def cnt (n R : ℕ) : EReal := (((min (R + 1) n : ℕ) : ℝ) : EReal)

/-- The mean over the window of `n` rows ending at row `R`, less row `R`. -/
def pool (n : ℕ) (f : Fin 4096 → EReal) (R : ℕ) : EReal := Ideal.div (∑ k ∈ Finset.range n, back f R k) (cnt n R) - back f R 0

/-- The transpose of `pool`: each row's share of the windows that hold it, less the row. -/
def unpool (n : ℕ) (f : Fin 4096 → EReal) (R : ℕ) : EReal :=
  (∑ k ∈ Finset.range n, fwd (fun S => Ideal.div (f S) (cnt n S.val)) R k) - fwd f R 0

theorem cnt_min (n a : ℕ) : min (((a + 1 : ℕ) : ℝ) : EReal) (((n : ℕ) : ℝ) : EReal) = cnt n a := by
  unfold cnt
  rw [Nat.cast_min]
  exact (EReal.coe_strictMono.monotone.map_min).symm

theorem cnt_ne_zero (n R : ℕ) (hn : 0 < n) : ((min (R + 1) n : ℕ) : ℝ) ≠ 0 := by
  have : 0 < min (R + 1) n := by omega
  exact_mod_cast this.ne'

theorem div_cnt (n R : ℕ) (hn : 0 < n) (x : EReal) : Ideal.div x (cnt n R) = x * ((1 / ((min (R + 1) n : ℕ) : ℝ) : ℝ) : EReal) :=
  Ideal.div_coe (cnt_ne_zero n R hn) x

theorem ext_div (n : ℕ) (hn : 0 < n) (f : Fin 4096 → EReal) (R : ℕ) :
    Ideal.div (ext f R) (cnt n R) = ext (fun S => Ideal.div (f S) (cnt n S.val)) R := by
  unfold ext
  by_cases h : R < 4096
  · rw [dif_pos h, dif_pos h]
  · rw [dif_neg h, dif_neg h, div_cnt n R hn, zero_mul]

end Step

end

end
-- ==== Proof.EvenGrad.Pool.lean ====
module

public import proofs.«01_k».proof.Proof.Gen.EvenGradIdeal.Value
public import proofs.«01_k».proof.Proof.Halo
public import Idealize.ShloMosaic.Lib.Pipeline.ValueKit

@[expose] public section

set_option maxRecDepth 16384

/-! # Window sums by doubling

The body adds a block of rows to itself shifted by one row, then by two, by four and by eight. Away from the edge
the result is the sum over a window of two, four, eight or sixteen rows. -/

noncomputable section

namespace Cert.EvenGradIdeal.Arr

open Cert.EvenGradIdeal Cert.EvenGradIdeal.Gen Idealize.ShloMosaic Idealize.ShloMosaic.TcCoe Idealize.SL.Sem

/-- A block and the block rolled by `b` rows, added. -/
def dbl (b : BitVec 32) (X : FVec Ideal S528x128 .f32) : FVec Ideal S528x128 .f32 := addf X (dynamicRotate 0 b none X rotates_S528x128_d0)

/-- `X` holds at row `e ≥ lo` the sum of `n` rows of `f` ending at row `e`. -/
def Back (X : FVec Ideal S528x128 .f32) (f : Fin 128 → ℕ → EReal) (n lo : ℕ) : Prop :=
  ∀ (e : ℕ) (h : e < 528) (q : Fin 128), lo ≤ e → X (ix2 ⟨e, h⟩ q) = ∑ k ∈ Finset.range n, f q (e - k)

/-- `X` holds at row `e`, `hi` rows from the end, the sum of `n` rows of `f` beginning at row `e`. -/
def Fwd (X : FVec Ideal S528x128 .f32) (f : Fin 128 → ℕ → EReal) (n hi : ℕ) : Prop :=
  ∀ (e : ℕ) (h : e < 528) (q : Fin 128), e + hi < 528 → X (ix2 ⟨e, h⟩ q) = ∑ k ∈ Finset.range n, f q (e + k)

theorem dbl_apply (b : ℕ) (hb : b < 528) (X : FVec Ideal S528x128 .f32) (e : ℕ) (h : e < 528) (q : Fin 128) :
    dbl (BitVec.ofNat 32 b) X (ix2 ⟨e, h⟩ q) = X (ix2 ⟨e, h⟩ q) + X (ix2 ⟨(e + 528 - b) % 528, Nat.mod_lt _ (by decide)⟩ q) := by
  pointwise [dbl]
  have hw : (BitVec.ofNat 32 b).toNat % 528 = b := by rw [BitVec.toNat_ofNat]; omega
  simp only [hw]

theorem Back.one {X : FVec Ideal S528x128 .f32} {f : Fin 128 → ℕ → EReal} (hX : ∀ e h q, X (ix2 ⟨e, h⟩ q) = f q e) : Back X f 1 0 := by
  intro e h q _
  rw [hX, Finset.sum_range_one, Nat.sub_zero]

theorem Fwd.one {X : FVec Ideal S528x128 .f32} {f : Fin 128 → ℕ → EReal} (hX : ∀ e h q, X (ix2 ⟨e, h⟩ q) = f q e) : Fwd X f 1 0 := by
  intro e h q _
  rw [hX, Finset.sum_range_one, Nat.add_zero]

theorem Back.dbl {X : FVec Ideal S528x128 .f32} {f : Fin 128 → ℕ → EReal} {n lo : ℕ} (H : Back X f n lo) (hn : n < 528) :
    Back (dbl (BitVec.ofNat 32 n) X) f (n + n) (lo + n) := by
  intro e h q hlo
  have e1 : (e + 528 - n) % 528 = e - n := by omega
  rw [dbl_apply n hn, H e h q (by omega)]
  simp only [e1]
  rw [H (e - n) (by omega) q (by omega), Finset.sum_range_add]
  congr 1
  exact Finset.sum_congr rfl fun k _ => by rw [Nat.sub_sub]

theorem Fwd.dbl {X : FVec Ideal S528x128 .f32} {f : Fin 128 → ℕ → EReal} {n hi : ℕ} (H : Fwd X f n hi) (b : ℕ) (hn : b + n = 528) (h0 : 0 < n) :
    Fwd (Arr.dbl (BitVec.ofNat 32 b) X) f (n + n) (hi + n) := by
  intro e h q hlo
  have e1 : (e + 528 - b) % 528 = e + n := by omega
  rw [dbl_apply b (by omega), H e h q (by omega)]
  simp only [e1]
  rw [H (e + n) (by omega) q (by omega), Finset.sum_range_add]
  congr 1
  exact Finset.sum_congr rfl fun k _ => by rw [Nat.add_assoc]

/-- A window sum over its count, less the row itself. -/
def pooledOf (b : BitVec 32) (acc X : FVec Ideal S528x128 .f32) (pos : FVec Ideal S512x1 .f32) : FVec Ideal S512x128 .bf16 :=
  truncf .bf16 (subf (divf (extractStridedSlice S512x128 ![16, 0] acc slices_S528x128_o16_0_S512x128)
    (broadcastTo S512x128 (minimumf pos (broadcast S512x1 (Scalar.ofBits .f32 b))) broadcasts_S512x1_S512x128))
    (extractStridedSlice S512x128 ![16, 0] X slices_S528x128_o16_0_S512x128)) bitsLt_bf16_f32

theorem pooledOf_apply (b : BitVec 32) (acc X : FVec Ideal S528x128 .f32) (pos : FVec Ideal S512x1 .f32) (p : Fin 512) (q : Fin 128) :
    pooledOf b acc X pos (ix2 p q) = Ideal.div (acc (ix2 ⟨16 + p.val, by omega⟩ q)) (min (pos (ix2 p 0)) (Ideal.ofBits .f32 b)) - X (ix2 ⟨16 + p.val, by omega⟩ q) := by
  pointwise [pooledOf]

/-- The 128 columns of group `g` of the extended block. -/
def cols0 (Z : FVec Ideal S528x512 .f32) : FVec Ideal S528x128 .f32 := extractStridedSlice S528x128 ![0, 0] Z slices_S528x512_o0_0_S528x128
@[inherit_doc cols0] def cols1 (Z : FVec Ideal S528x512 .f32) : FVec Ideal S528x128 .f32 := extractStridedSlice S528x128 ![0, 128] Z slices_S528x512_o0_128_S528x128
@[inherit_doc cols0] def cols2 (Z : FVec Ideal S528x512 .f32) : FVec Ideal S528x128 .f32 := extractStridedSlice S528x128 ![0, 256] Z slices_S528x512_o0_256_S528x128
@[inherit_doc cols0] def cols3 (Z : FVec Ideal S528x512 .f32) : FVec Ideal S528x128 .f32 := extractStridedSlice S528x128 ![0, 384] Z slices_S528x512_o0_384_S528x128

theorem pay29_eq (Z : FVec Ideal S528x512 .f32) (pos : FVec Ideal S512x1 .f32) :
    k0_pay29 Z pos = pooledOf 0x40000000#32 (dbl 1#32 (cols0 Z)) (cols0 Z) pos := by
  simp only [k0_pay29, pooledOf, dbl, cols0]

theorem pay37_eq (Z : FVec Ideal S528x512 .f32) (pos : FVec Ideal S512x1 .f32) :
    k0_pay37 Z pos = pooledOf 0x40800000#32 (dbl 2#32 (dbl 1#32 (cols1 Z))) (cols1 Z) pos := by
  simp only [k0_pay37, pooledOf, dbl, cols1]

theorem pay47_eq (Z : FVec Ideal S528x512 .f32) (pos : FVec Ideal S512x1 .f32) :
    k0_pay47 Z pos = pooledOf 0x41000000#32 (dbl 4#32 (dbl 2#32 (dbl 1#32 (cols2 Z)))) (cols2 Z) pos := by
  simp only [k0_pay47, pooledOf, dbl, cols2]

theorem pay56_eq (Z : FVec Ideal S528x512 .f32) (pos : FVec Ideal S512x1 .f32) :
    k0_pay56 pos (k0_pay53 Z) (k0_pay54 Z) (k0_pay55 Z) = pooledOf 0x41800000#32 (dbl 8#32 (dbl 4#32 (dbl 2#32 (dbl 1#32 (cols3 Z))))) (cols3 Z) pos := by
  simp only [k0_pay56, k0_pay55, k0_pay54, k0_pay53, pooledOf, dbl, cols3]

/-- The gradient of the pooled block over the count, summed forward, less the gradient itself. -/
def dzOf (acc X : FVec Ideal S528x128 .f32) : FVec Ideal S1x512x128 .bf16 :=
  shapeCast S1x512x128 (truncf .bf16 (subf (extractStridedSlice S512x128 ![0, 0] acc slices_S528x128_o0_0_S512x128)
    (extractStridedSlice S512x128 ![0, 0] X slices_S528x128_o0_0_S512x128)) bitsLt_bf16_f32) shapeCasts_S512x128_S1x512x128

theorem dzOf_apply (acc X : FVec Ideal S528x128 .f32) (p : Fin 512) (q : Fin 128) :
    dzOf acc X (ix3 0 p q) = acc (ix2 ⟨p.val, by omega⟩ q) - X (ix2 ⟨p.val, by omega⟩ q) := by
  pointwise [dzOf]

/-- The gradient of the pooled block. -/
def dpOf (dm : FVec Ideal S528x128 .bf16) (w : Vec Ideal S1x128x128 .bf16) : FVec Ideal S528x128 .f32 :=
  matmul (φ₂ := .bf16) dot_S528x128_S128x128_S528x128_1_0_0_1_n_n none dm (shapeCast S128x128 w shapeCasts_S1x128x128_S128x128) (constant S528x128 .f32 0x00000000#32)

theorem dpOf_apply (dm : FVec Ideal S528x128 .bf16) (w : Vec Ideal S1x128x128 .bf16) (e : Fin 528) (q : Fin 128) :
    dpOf dm w (ix2 e q) = ∑ x, dm (ix2 e x) * w (ix3 0 x q) := by
  pointwise [dpOf]

/-- A block over the count of its rows' windows. -/
def over (b : BitVec 32) (X : FVec Ideal S528x128 .f32) (pos : FVec Ideal S528x1 .f32) : FVec Ideal S528x128 .f32 :=
  divf X (broadcastTo S528x128 (minimumf pos (broadcast S528x1 (Scalar.ofBits .f32 b))) broadcasts_S528x1_S528x128)

theorem over_apply (b : BitVec 32) (X : FVec Ideal S528x128 .f32) (pos : FVec Ideal S528x1 .f32) (e : Fin 528) (q : Fin 128) :
    over b X pos (ix2 e q) = Ideal.div (X (ix2 e q)) (min (pos (ix2 e 0)) (Ideal.ofBits .f32 b)) := by
  pointwise [over]

theorem pay36_eq (pos : FVec Ideal S528x1 .f32) (dm : FVec Ideal S528x128 .bf16) (w : Vec Ideal S1x128x128 .bf16) :
    k0_pay36 pos dm w = dzOf (dbl 527#32 (over 0x40000000#32 (dpOf dm w) pos)) (dpOf dm w) := by
  simp only [k0_pay36, dzOf, dbl, over, dpOf]

theorem pay44_eq (k : Ideal .f32) (D : FVec Ideal S528x1024 .f32) (pos : FVec Ideal S528x1 .f32) (y : FVec Ideal S512x128 .f32) (s : Vec Ideal S1x128 .f32) (w : Vec Ideal S1x128x128 .bf16) :
    k0_pay46 (k0_pay44 k D pos y s w) (k0_pay45 k D y s w)
      = dzOf (dbl 526#32 (dbl 527#32 (over 0x40800000#32 (dpOf (k0_pay41 k D y s) w) pos))) (dpOf (k0_pay41 k D y s) w) := by
  simp only [k0_pay46, k0_pay44, k0_pay45, k0_pay43, dzOf, dbl, over, dpOf]

theorem pay52_eq (pos : FVec Ideal S528x1 .f32) (dm : FVec Ideal S528x128 .bf16) (w : Vec Ideal S1x128x128 .bf16) :
    k0_pay52 pos dm w = dzOf (dbl 524#32 (dbl 526#32 (dbl 527#32 (over 0x41000000#32 (dpOf dm w) pos)))) (dpOf dm w) := by
  simp only [k0_pay52, dzOf, dbl, over, dpOf]

theorem pay61_eq (pos : FVec Ideal S528x1 .f32) (dm : FVec Ideal S528x128 .bf16) (w : Vec Ideal S1x128x128 .bf16) :
    k0_pay61 pos dm w = dzOf (dbl 520#32 (dbl 524#32 (dbl 526#32 (dbl 527#32 (over 0x41800000#32 (dpOf dm w) pos))))) (dpOf dm w) := by
  simp only [k0_pay61, dzOf, dbl, over, dpOf]

theorem grid_val : ∀ t : Fin cfg0.N, (grid0.coords t 0).val = t.val := by decide +kernel

theorem lit2 : Ideal.ofBits .f32 0x40000000#32 = ((2 : ℝ) : EReal) := by simp [Ideal.ofBits, Ideal.ieee, -EReal.coe_mul]; norm_num
theorem lit4 : Ideal.ofBits .f32 0x40800000#32 = ((4 : ℝ) : EReal) := by simp [Ideal.ofBits, Ideal.ieee, -EReal.coe_mul]; norm_num
theorem lit8 : Ideal.ofBits .f32 0x41000000#32 = ((8 : ℝ) : EReal) := by simp [Ideal.ofBits, Ideal.ieee, -EReal.coe_mul]; norm_num
theorem lit16 : Ideal.ofBits .f32 0x41800000#32 = ((16 : ℝ) : EReal) := by simp [Ideal.ofBits, Ideal.ieee, -EReal.coe_mul]; norm_num

theorem pos_word (t p : ℕ) (ht : t < 8) (hp : p < 528) :
    FloatOps.sitofp (F := Ideal) .f32 (IntOp.addi (IntOp.addi (Scalar.muli (BitVec.ofNat 32 t) 512#32) (BitVec.ofNat 32 p)) 1#32) = (((512 * t + p + 1 : ℕ) : ℝ) : EReal) := by
  show (((IntOp.addi (IntOp.addi (Scalar.muli (BitVec.ofNat 32 t) 512#32) (BitVec.ofNat 32 p)) 1#32).toInt : ℝ) : EReal) = _
  have e : (IntOp.addi (IntOp.addi (Scalar.muli (BitVec.ofNat 32 t) 512#32) (BitVec.ofNat 32 p)) 1#32) = BitVec.ofNat 32 (512 * t + p + 1) := by
    show (BitVec.ofNat 32 t * 512#32) + BitVec.ofNat 32 p + 1#32 = _
    apply BitVec.eq_of_toNat_eq
    simp only [BitVec.toNat_add, BitVec.toNat_mul, BitVec.toNat_ofNat]
    omega
  rw [e, BitVec.toInt_eq_toNat_of_lt (by rw [BitVec.toNat_ofNat]; omega), BitVec.toNat_ofNat, Nat.mod_eq_of_lt (by omega)]
  simp

theorem pos_apply (t : Fin cfg0.N) (p : Fin 512) :
    k0_pay27 (F := Ideal) (BitVec.ofNat 32 (grid0.coords t 0).val) (ix2 p 0) = (((512 * t.val + p.val + 1 : ℕ) : ℝ) : EReal) := by
  have ht : t.val < 8 := t.isLt
  pointwise [k0_pay27]
  rw [grid_val]
  exact pos_word t.val p.val ht (by omega)

theorem posx_apply (t : Fin cfg0.N) (p : Fin 528) :
    k0_pay28 (F := Ideal) (BitVec.ofNat 32 (grid0.coords t 0).val) (ix2 p 0) = (((512 * t.val + p.val + 1 : ℕ) : ℝ) : EReal) := by
  have ht : t.val < 8 := t.isLt
  pointwise [k0_pay28]
  rw [grid_val]
  exact pos_word t.val p.val ht (by omega)

theorem keepP (t : Fin cfg0.N) : k0_pay7 (F := Ideal) (grid0.coords t) = if t.val = 0 then 0 else 1 := by
  have hw : ∀ n : Fin 8, Scalar.cmpi .sgt (BitVec.ofNat 32 n.val) 0#32 = if n.val = 0 then 0#1 else 1#1 := by decide +kernel
  pointwise [k0_pay7]
  rw [grid_val, hw ⟨t.val, t.isLt⟩]
  by_cases h : t.val = 0
  · simp only [h, if_true]; rfl
  · simp only [h, if_false]; rfl

theorem keepN (t : Fin cfg0.N) : k0_pay8 (F := Ideal) (grid0.coords t) = if t.val = 7 then 0 else 1 := by
  have hw : ∀ n : Fin 8, Scalar.cmpi .slt (BitVec.ofNat 32 n.val) 7#32 = if n.val = 7 then 0#1 else 1#1 := by decide +kernel
  pointwise [k0_pay8]
  rw [grid_val, hw ⟨t.val, t.isLt⟩]
  by_cases h : t.val = 7
  · simp only [h, if_true]; rfl
  · simp only [h, if_false]; rfl

/-- The pooled block, once the doubled sum is known. -/
theorem pooledOf_window (n : ℕ) (b : BitVec 32) (hb : Ideal.ofBits .f32 b = (((n : ℕ) : ℝ) : EReal)) (hn : n ≤ 16) (hn0 : 0 < n) (t : Fin cfg0.N)
    (acc X : FVec Ideal S528x128 .f32) (f : Fin 128 → Fin 4096 → EReal) {lo : ℕ} (hlo : lo ≤ 16)
    (hX : ∀ e h q, X (ix2 ⟨e, h⟩ q) = Step.lag (f q) (512 * t.val + e)) (H : Back acc (fun q e => Step.lag (f q) (512 * t.val + e)) n lo)
    (p : Fin 512) (q : Fin 128) :
    pooledOf b acc X (k0_pay27 (F := Ideal) (BitVec.ofNat 32 (grid0.coords t 0).val)) (ix2 p q) = Step.pool n (f q) (512 * t.val + p.val) := by
  rw [pooledOf_apply, pos_apply, H _ _ _ (by omega), hX, hb, Step.cnt_min]
  unfold Step.pool
  congr 1
  · congr 1
    refine Finset.sum_congr rfl fun k hk => ?_
    have hk' := Finset.mem_range.mp hk
    rw [← Step.lag_eq _ _ _ (by omega)]
    show Step.lag (f q) (512 * t.val + (16 + p.val - k)) = _
    congr 1; omega
  · rw [← Step.lag_eq _ _ _ (by omega)]
    congr 1; omega

/-- The gradient of the pooled block taken back through the pooling, once the doubled sum is known. -/
theorem dzOf_window (n : ℕ) (hn0 : 0 < n) (t : Fin cfg0.N) (acc X : FVec Ideal S528x128 .f32) (f : Fin 128 → Fin 4096 → EReal) {hi : ℕ} (hhi : hi ≤ 16)
    (hX : ∀ e h q, X (ix2 ⟨e, h⟩ q) = Step.ext (f q) (512 * t.val + e))
    (H : Fwd acc (fun q e => Step.ext (fun S => Ideal.div (f q S) (Step.cnt n S.val)) (512 * t.val + e)) n hi) (p : Fin 512) (q : Fin 128) :
    dzOf acc X (ix3 0 p q) = Step.unpool n (f q) (512 * t.val + p.val) := by
  rw [dzOf_apply, H _ _ _ (by omega), hX]
  unfold Step.unpool Step.fwd
  simp only [Nat.add_assoc, Nat.add_zero]

theorem over_ext (n : ℕ) (hn0 : 0 < n) (b : BitVec 32) (hb : Ideal.ofBits .f32 b = (((n : ℕ) : ℝ) : EReal)) (t : Fin cfg0.N) (X : FVec Ideal S528x128 .f32)
    (f : Fin 128 → Fin 4096 → EReal) (hX : ∀ e h q, X (ix2 ⟨e, h⟩ q) = Step.ext (f q) (512 * t.val + e)) (e : ℕ) (h : e < 528) (q : Fin 128) :
    over b X (k0_pay28 (F := Ideal) (BitVec.ofNat 32 (grid0.coords t 0).val)) (ix2 ⟨e, h⟩ q) = Step.ext (fun S => Ideal.div (f q S) (Step.cnt n S.val)) (512 * t.val + e) := by
  rw [over_apply, posx_apply, hX, hb, Step.cnt_min, Step.ext_div n hn0]

theorem dpOf_ext (t : Fin cfg0.N) (dm : FVec Ideal S528x128 .bf16) (w : Vec Ideal S1x128x128 .bf16) (f : Fin 128 → Fin 4096 → EReal) (W : Fin 128 → Fin 128 → EReal)
    (hd : ∀ e h x, dm (ix2 ⟨e, h⟩ x) = Step.ext (f x) (512 * t.val + e)) (hw : ∀ x q, w (ix3 0 x q) = W q x) (e : ℕ) (h : e < 528) (q : Fin 128) :
    dpOf dm w (ix2 ⟨e, h⟩ q) = Step.ext (fun R => ∑ x, f x R * W q x) (512 * t.val + e) := by
  rw [dpOf_apply, ← Step.ext_sum_mul]
  exact Finset.sum_congr rfl fun x _ => by rw [hd, hw]

section Groups

variable (t : Fin cfg0.N) (Z : FVec Ideal S528x512 .f32) (f : Fin 512 → Fin 4096 → EReal)
  (hZ : ∀ e h l, Z (ix2 ⟨e, h⟩ l) = Step.lag (f l) (512 * t.val + e)) (p : Fin 512) (q : Fin 128)
include hZ

theorem pooled0 : k0_pay29 Z (k0_pay27 (F := Ideal) (BitVec.ofNat 32 (grid0.coords t 0).val)) (ix2 p q)
    = Step.pool 2 (f ⟨0 + q.val, by omega⟩) (512 * t.val + p.val) := by
  have hX : ∀ e h q, cols0 Z (ix2 ⟨e, h⟩ q) = Step.lag (f ⟨0 + q.val, by omega⟩) (512 * t.val + e) := fun e h q => by
    rw [← hZ e h]; pointwise [cols0]
  rw [pay29_eq]
  exact pooledOf_window 2 _ lit2 (by decide) (by decide) t _ _ (fun q => f ⟨0 + q.val, by omega⟩) (by decide) hX
    (Back.dbl (n := 1) (Back.one hX) (by decide)) p q

theorem pooled1 : k0_pay37 Z (k0_pay27 (F := Ideal) (BitVec.ofNat 32 (grid0.coords t 0).val)) (ix2 p q)
    = Step.pool 4 (f ⟨128 + q.val, by omega⟩) (512 * t.val + p.val) := by
  have hX : ∀ e h q, cols1 Z (ix2 ⟨e, h⟩ q) = Step.lag (f ⟨128 + q.val, by omega⟩) (512 * t.val + e) := fun e h q => by
    rw [← hZ e h]; pointwise [cols1]
  rw [pay37_eq]
  exact pooledOf_window 4 _ lit4 (by decide) (by decide) t _ _ (fun q => f ⟨128 + q.val, by omega⟩) (by decide) hX
    (Back.dbl (n := 2) (Back.dbl (n := 1) (Back.one hX) (by decide)) (by decide)) p q

theorem pooled2 : k0_pay47 Z (k0_pay27 (F := Ideal) (BitVec.ofNat 32 (grid0.coords t 0).val)) (ix2 p q)
    = Step.pool 8 (f ⟨256 + q.val, by omega⟩) (512 * t.val + p.val) := by
  have hX : ∀ e h q, cols2 Z (ix2 ⟨e, h⟩ q) = Step.lag (f ⟨256 + q.val, by omega⟩) (512 * t.val + e) := fun e h q => by
    rw [← hZ e h]; pointwise [cols2]
  rw [pay47_eq]
  exact pooledOf_window 8 _ lit8 (by decide) (by decide) t _ _ (fun q => f ⟨256 + q.val, by omega⟩) (by decide) hX
    (Back.dbl (n := 4) (Back.dbl (n := 2) (Back.dbl (n := 1) (Back.one hX) (by decide)) (by decide)) (by decide)) p q

theorem pooled3 : k0_pay56 (k0_pay27 (F := Ideal) (BitVec.ofNat 32 (grid0.coords t 0).val)) (k0_pay53 Z) (k0_pay54 Z) (k0_pay55 Z) (ix2 p q)
    = Step.pool 16 (f ⟨384 + q.val, by omega⟩) (512 * t.val + p.val) := by
  have hX : ∀ e h q, cols3 Z (ix2 ⟨e, h⟩ q) = Step.lag (f ⟨384 + q.val, by omega⟩) (512 * t.val + e) := fun e h q => by
    rw [← hZ e h]; pointwise [cols3]
  rw [pay56_eq]
  exact pooledOf_window 16 _ lit16 (by decide) (by decide) t _ _ (fun q => f ⟨384 + q.val, by omega⟩) (by decide) hX
    (Back.dbl (n := 8) (Back.dbl (n := 4) (Back.dbl (n := 2) (Back.dbl (n := 1) (Back.one hX) (by decide)) (by decide)) (by decide)) (by decide)) p q

end Groups

section Grads

variable (t : Fin cfg0.N) (dm : FVec Ideal S528x128 .bf16) (w : Vec Ideal S1x128x128 .bf16) (f : Fin 128 → Fin 4096 → EReal) (W : Fin 128 → Fin 128 → EReal)
  (hd : ∀ e h x, dm (ix2 ⟨e, h⟩ x) = Step.ext (f x) (512 * t.val + e)) (hw : ∀ x q, w (ix3 0 x q) = W q x) (p : Fin 512) (q : Fin 128)
include hd hw

theorem dz0 : k0_pay36 (k0_pay28 (F := Ideal) (BitVec.ofNat 32 (grid0.coords t 0).val)) dm w (ix3 0 p q)
    = Step.unpool 2 (fun R => ∑ x, f x R * W q x) (512 * t.val + p.val) := by
  have hX := dpOf_ext t dm w f W hd hw
  rw [pay36_eq]
  exact dzOf_window 2 (by decide) t _ _ (fun q R => ∑ x, f x R * W q x) (by decide) hX
    (Fwd.dbl (n := 1) (Fwd.one (over_ext 2 (by decide) _ lit2 t _ _ hX)) 527 rfl (by decide)) p q

theorem dz2 : k0_pay52 (k0_pay28 (F := Ideal) (BitVec.ofNat 32 (grid0.coords t 0).val)) dm w (ix3 0 p q)
    = Step.unpool 8 (fun R => ∑ x, f x R * W q x) (512 * t.val + p.val) := by
  have hX := dpOf_ext t dm w f W hd hw
  rw [pay52_eq]
  exact dzOf_window 8 (by decide) t _ _ (fun q R => ∑ x, f x R * W q x) (by decide) hX
    (Fwd.dbl (n := 4) (Fwd.dbl (n := 2) (Fwd.dbl (n := 1) (Fwd.one (over_ext 8 (by decide) _ lit8 t _ _ hX)) 527 rfl (by decide)) 526 rfl (by decide)) 524 rfl (by decide)) p q

theorem dz3 : k0_pay61 (k0_pay28 (F := Ideal) (BitVec.ofNat 32 (grid0.coords t 0).val)) dm w (ix3 0 p q)
    = Step.unpool 16 (fun R => ∑ x, f x R * W q x) (512 * t.val + p.val) := by
  have hX := dpOf_ext t dm w f W hd hw
  rw [pay61_eq]
  exact dzOf_window 16 (by decide) t _ _ (fun q R => ∑ x, f x R * W q x) (by decide) hX
    (Fwd.dbl (n := 8) (Fwd.dbl (n := 4) (Fwd.dbl (n := 2) (Fwd.dbl (n := 1) (Fwd.one (over_ext 16 (by decide) _ lit16 t _ _ hX)) 527 rfl (by decide)) 526 rfl (by decide)) 524 rfl (by decide)) 520 rfl (by decide)) p q

end Grads

theorem dz1 (t : Fin cfg0.N) (k : Ideal .f32) (D : FVec Ideal S528x1024 .f32) (y : FVec Ideal S512x128 .f32) (s : Vec Ideal S1x128 .f32) (w : Vec Ideal S1x128x128 .bf16)
    (f : Fin 128 → Fin 4096 → EReal) (W : Fin 128 → Fin 128 → EReal)
    (hd : ∀ e h x, k0_pay41 k D y s (ix2 ⟨e, h⟩ x) = Step.ext (f x) (512 * t.val + e)) (hw : ∀ x q, w (ix3 0 x q) = W q x) (p : Fin 512) (q : Fin 128) :
    k0_pay46 (k0_pay44 k D (k0_pay28 (F := Ideal) (BitVec.ofNat 32 (grid0.coords t 0).val)) y s w) (k0_pay45 k D y s w) (ix3 0 p q)
    = Step.unpool 4 (fun R => ∑ x, f x R * W q x) (512 * t.val + p.val) := by
  have hX := dpOf_ext t (k0_pay41 k D y s) w f W hd hw
  rw [pay44_eq]
  exact dzOf_window 4 (by decide) t _ _ (fun q R => ∑ x, f x R * W q x) (by decide) hX
    (Fwd.dbl (n := 2) (Fwd.dbl (n := 1) (Fwd.one (over_ext 4 (by decide) _ lit4 t _ _ hX)) 527 rfl (by decide)) 526 rfl (by decide)) p q

end Cert.EvenGradIdeal.Arr

end

end
-- ==== Proof.EvenGrad.Stage.lean ====
module

public import proofs.«01_k».proof.Proof.EvenGrad.Blocks
public import proofs.«01_k».proof.Proof.EvenGrad.Pool
public import Idealize.ShloMosaic.Lib.Pipeline.ValueKit
public import Idealize.ShloMosaic.Lib.Pipeline.ReadBack

@[expose] public section

set_option maxRecDepth 16384

/-! # The intermediate blocks of a grid point, as rows of arrays of 4096 rows -/

noncomputable section

namespace Cert.EvenGradIdeal.Arr

open Cert.EvenGradIdeal Cert.EvenGradIdeal.Gen Idealize.ShloMosaic Idealize.ShloMosaic.TcCoe Idealize.SL.Sem

variable (m : (ℓ : Loc nD τ sig) → Buf (Elt Ideal) ℓ) (c : Dev nD)

/-- The gradient of the concatenated mixer outputs. -/
def D (j : Fin 1024) (R : Fin 4096) : EReal := ∑ l, A7 m c (ix2 R l) * A6 m c (ix2 j l)

/-- The input of the pooling mixer. -/
def zf (l : Fin 512) (R : Fin 4096) : EReal := pr m c 3 R l

/-- The input of the short convolution. -/
def cvf (l : Fin 512) (R : Fin 4096) : EReal := pr m c 1 R l * pr m c 2 R l

/-- The gradient of the convolution's output. -/
def dcc (l : Fin 512) (R : Fin 4096) : EReal := D m c ⟨l.val, by omega⟩ R * pr m c 0 R l

/-- The gradient of the mixed pooling output, column `x` of the four groups side by side. -/
def dmx (x : Fin 512) (R : Fin 4096) : EReal := D m c ⟨512 + x.val, by omega⟩ R * A5 m c (ix1 x)

/-- The block of `dmix` a point computes. -/
def DX (t : Fin cfg0.N) : FVec Ideal S528x1024 .f32 := k0_pay10 (iblk m c 5 t) (iblk m c 6 t) (iblk m c 7 t)

theorem DX_lo (t : Fin cfg0.N) (e : Fin 512) (j : Fin 1024) : DX m c t (ix2 ⟨e.val, by omega⟩ j) = D m c j (row t e) := by
  pointwise [DX, k0_pay10]
  unfold D
  refine Finset.sum_congr rfl fun l _ => ?_
  rw [blk5, blk7]

theorem DX_hi (t : Fin cfg0.N) (e : Fin 16) (j : Fin 1024) : DX m c t (ix2 ⟨512 + e.val, by omega⟩ j) = D m c j (rowN t e) := by
  pointwise [DX, k0_pay10]
  unfold D
  refine Finset.sum_congr rfl fun l _ => ?_
  rw [blk6, blk7]

/-- The extended block of the pooling mixer's input. -/
def ZX (t : Fin cfg0.N) : FVec Ideal S528x512 .f32 :=
  k0_pay26 (k0_pay7 (grid0.coords t)) (View.ld (iblk m c 1 t) (Rect.unit ![3, 0, 0] ![1, 16, 512] inb_S4x16x512_S1x16x512_3_0_0))
    (View.ld (iblk m c 0 t) (Rect.unit ![3, 0, 0] ![1, 512, 512] inb_S4x512x512_S1x512x512_3_0_0))

theorem ZX_apply (t : Fin cfg0.N) (e : ℕ) (h : e < 528) (l : Fin 512) : ZX m c t (ix2 ⟨e, h⟩ l) = Step.lag (zf m c l) (512 * t.val + e) := by
  have ht : t.val < 8 := t.isLt
  pointwise [ZX, k0_pay26]
  rw [keepP]
  by_cases he : e < 16
  · rw [dif_pos he]
    by_cases h0 : t.val = 0
    · rw [if_pos h0, mul_zero, Step.lag_lo _ _ (by omega)]
    · rw [if_neg h0, mul_one]
      refine (blk1 m c t 3 ⟨e, he⟩ l).trans (Step.lag_hi (zf m c l) _ (rowP t ⟨e, he⟩) ?_).symm
      show _ = 16 + ((t.val * 32 - 1) * 16 + e)
      omega
  · rw [dif_neg he]
    refine (blk0 m c t 3 ⟨e - 16, by omega⟩ l).trans (Step.lag_hi (zf m c l) _ (row t ⟨e - 16, by omega⟩) ?_).symm
    show _ = 16 + (t.val * 512 + (e - 16))
    omega

/-- The extended block of the convolution's input. -/
def CX (t : Fin cfg0.N) : FVec Ideal S528x512 .f32 :=
  k0_pay14 (k0_pay7 (grid0.coords t)) (View.ld (iblk m c 0 t) (Rect.unit ![1, 0, 0] ![1, 512, 512] inb_S4x512x512_S1x512x512_1_0_0))
    (View.ld (iblk m c 0 t) (Rect.unit ![2, 0, 0] ![1, 512, 512] inb_S4x512x512_S1x512x512_2_0_0))
    (View.ld (iblk m c 1 t) (Rect.unit ![1, 0, 0] ![1, 16, 512] inb_S4x16x512_S1x16x512_1_0_0))
    (View.ld (iblk m c 1 t) (Rect.unit ![2, 0, 0] ![1, 16, 512] inb_S4x16x512_S1x16x512_2_0_0))

theorem CX_apply (t : Fin cfg0.N) (e : ℕ) (h : e < 528) (l : Fin 512) : CX m c t (ix2 ⟨e, h⟩ l) = Step.lag (cvf m c l) (512 * t.val + e) := by
  have ht : t.val < 8 := t.isLt
  pointwise [CX, k0_pay14, k0_pay12, k0_pay13]
  rw [keepP]
  by_cases he : e < 16
  · rw [dif_pos he]
    by_cases h0 : t.val = 0
    · rw [if_pos h0, mul_zero, Step.lag_lo _ _ (by omega)]
    · rw [if_neg h0, mul_one]
      refine (congrArg₂ (HMul.hMul : EReal → EReal → EReal) (blk1 m c t 1 ⟨e, he⟩ l) (blk1 m c t 2 ⟨e, he⟩ l)).trans
        (Step.lag_hi (cvf m c l) _ (rowP t ⟨e, he⟩) ?_).symm
      show _ = 16 + ((t.val * 32 - 1) * 16 + e)
      omega
  · rw [dif_neg he]
    refine (congrArg₂ (HMul.hMul : EReal → EReal → EReal) (blk0 m c t 1 ⟨e - 16, by omega⟩ l) (blk0 m c t 2 ⟨e - 16, by omega⟩ l)).trans
      (Step.lag_hi (cvf m c l) _ (row t ⟨e - 16, by omega⟩) ?_).symm
    show _ = 16 + (t.val * 512 + (e - 16))
    omega

/-- The tile of the convolution's output gradient. -/
def GX (t : Fin cfg0.N) : FVec Ideal S512x512 .f32 :=
  k0_pay17 (DX m c t) (k0_pay11 (View.ld (iblk m c 0 t) (Rect.unit ![0, 0, 0] ![1, 512, 512] inb_S4x512x512_S1x512x512_0_0_0)))

theorem GX_apply (t : Fin cfg0.N) (e : Fin 512) (l : Fin 512) : GX m c t (ix2 e l) = dcc m c l (row t e) := by
  pointwise [GX, k0_pay17, k0_pay15, k0_pay11]
  exact congrArg₂ (HMul.hMul : EReal → EReal → EReal) (DX_lo m c t e ⟨l.val, by omega⟩) (blk0 m c t 0 e l)

/-- The same with the sixteen rows after the tile. -/
def GXX (t : Fin cfg0.N) : FVec Ideal S528x512 .f32 :=
  k0_pay21 (k0_pay8 (grid0.coords t)) (DX m c t) (GX m c t) (View.ld (iblk m c 2 t) (Rect.unit ![0, 0, 0] ![1, 16, 512] inb_S4x16x512_S1x16x512_0_0_0))

theorem GXX_apply (t : Fin cfg0.N) (e : ℕ) (h : e < 528) (l : Fin 512) : GXX m c t (ix2 ⟨e, h⟩ l) = Step.ext (dcc m c l) (512 * t.val + e) := by
  have ht : t.val < 8 := t.isLt
  pointwise [GXX, k0_pay21]
  rw [keepN]
  by_cases he : e < 512
  · rw [dif_pos he]
    refine (GX_apply m c t ⟨e, he⟩ l).trans (Step.ext_row (dcc m c l) _ (row t ⟨e, he⟩) ?_).symm
    show _ = t.val * 512 + e
    omega
  · rw [dif_neg he]
    by_cases h7 : t.val = 7
    · rw [if_pos h7, mul_zero, Step.ext_of_le _ _ (by omega)]
    · rw [if_neg h7, mul_one]
      refine (congrArg₂ (HMul.hMul : EReal → EReal → EReal) (DX_hi m c t ⟨e - 512, by omega⟩ ⟨l.val, by omega⟩) (blk2 m c t 0 ⟨e - 512, by omega⟩ l)).trans
        (Step.ext_row (dcc m c l) _ (rowN t ⟨e - 512, by omega⟩) ?_).symm
      show _ = min ((t.val + 1) * 32) 255 * 16 + (e - 512)
      omega

/-- What the four groups' gradients of the mixed output have in common: a group's columns of the tile, then of the rows after it, scaled. -/
theorem dm_eq (t : Fin cfg0.N) (e : ℕ) (h : e < 528) (i : Fin 512) (j : Fin 1024) (hj : j.val = 512 + i.val) :
    (if he : e < 512 then DX m c t (ix2 ⟨e, h⟩ j) else DX m c t (ix2 ⟨512 + (e - 512), by omega⟩ j) * k0_pay8 (grid0.coords t)) * iblk m c 11 t (ix2 0 i)
      = Step.ext (dmx m c i) (512 * t.val + e) := by
  have ht : t.val < 8 := t.isLt
  rw [show j = ⟨512 + i.val, by have := i.isLt; omega⟩ from Fin.ext hj]
  rw [blk11, keepN]
  by_cases he : e < 512
  · rw [dif_pos he, Step.ext_row _ _ (row t ⟨e, he⟩) (by show _ = t.val * 512 + e; omega)]
    exact congrArg (· * _) (DX_lo m c t ⟨e, he⟩ _)
  · rw [dif_neg he]
    by_cases h7 : t.val = 7
    · rw [if_pos h7, mul_zero, zero_mul, Step.ext_of_le _ _ (by omega)]
    · rw [if_neg h7, mul_one, Step.ext_row _ _ (rowN t ⟨e - 512, by omega⟩) (by show _ = min ((t.val + 1) * 32) 255 * 16 + (e - 512); omega)]
      exact congrArg (· * _) (DX_hi m c t ⟨e - 512, by omega⟩ _)

/-- The gradient of the mixed output, group by group. -/
theorem dm0 (t : Fin cfg0.N) (e : ℕ) (h : e < 528) (x : Fin 128) :
    k0_pay32 (k0_pay8 (grid0.coords t)) (DX m c t) (View.ld (iblk m c 11 t) (Rect.unit ![0, 0] ![1, 128] inb_S1x512_S1x128_0_0)) (ix2 ⟨e, h⟩ x)
      = Step.ext (dmx m c ⟨0 + x.val, by omega⟩) (512 * t.val + e) := by
  have hx : (⟨0 + x.val, by omega⟩ : Fin 512) = ⟨x.val, by omega⟩ := Fin.ext (Nat.zero_add _)
  rw [hx]
  pointwise [k0_pay32, k0_pay30]
  exact dm_eq m c t e h ⟨x.val, by omega⟩ ⟨512 + x.val, by omega⟩ rfl

@[inherit_doc dm0]
theorem dm1 (t : Fin cfg0.N) (e : ℕ) (h : e < 528) (x : Fin 128) :
    k0_pay41 (k0_pay8 (grid0.coords t)) (DX m c t) (k0_pay39 (DX m c t)) (View.ld (iblk m c 11 t) (Rect.unit ![0, 128] ![1, 128] inb_S1x512_S1x128_0_128)) (ix2 ⟨e, h⟩ x)
      = Step.ext (dmx m c ⟨128 + x.val, by omega⟩) (512 * t.val + e) := by
  pointwise [k0_pay41, k0_pay39]
  exact dm_eq m c t e h ⟨128 + x.val, by omega⟩ ⟨640 + x.val, by omega⟩ (by show 640 + x.val = 512 + (128 + x.val); omega)

@[inherit_doc dm0]
theorem dm2 (t : Fin cfg0.N) (e : ℕ) (h : e < 528) (x : Fin 128) :
    k0_pay50 (k0_pay8 (grid0.coords t)) (DX m c t) (View.ld (iblk m c 11 t) (Rect.unit ![0, 256] ![1, 128] inb_S1x512_S1x128_0_256)) (ix2 ⟨e, h⟩ x)
      = Step.ext (dmx m c ⟨256 + x.val, by omega⟩) (512 * t.val + e) := by
  pointwise [k0_pay50, k0_pay48]
  exact dm_eq m c t e h ⟨256 + x.val, by omega⟩ ⟨768 + x.val, by omega⟩ (by show 768 + x.val = 512 + (256 + x.val); omega)

@[inherit_doc dm0]
theorem dm3 (t : Fin cfg0.N) (e : ℕ) (h : e < 528) (x : Fin 128) :
    k0_pay59 (k0_pay8 (grid0.coords t)) (DX m c t) (View.ld (iblk m c 11 t) (Rect.unit ![0, 384] ![1, 128] inb_S1x512_S1x128_0_384)) (ix2 ⟨e, h⟩ x)
      = Step.ext (dmx m c ⟨384 + x.val, by omega⟩) (512 * t.val + e) := by
  pointwise [k0_pay59, k0_pay57]
  exact dm_eq m c t e h ⟨384 + x.val, by omega⟩ ⟨896 + x.val, by omega⟩ (by show 896 + x.val = 512 + (384 + x.val); omega)

/-- The convolution of the rows above, times its gradient's gate. -/
def dp0 (l : Fin 512) (R : Fin 4096) : EReal :=
  D m c ⟨l.val, by omega⟩ R * (A3 m c (ix2 0 l) * Step.back (cvf m c l) R.val 2 + A3 m c (ix2 1 l) * Step.back (cvf m c l) R.val 1
    + A3 m c (ix2 2 l) * Step.back (cvf m c l) R.val 0)

/-- The gradient of the convolution's input. -/
def dcv (l : Fin 512) (R : Fin 4096) : EReal :=
  A3 m c (ix2 2 l) * Step.fwd (dcc m c l) R.val 0 + A3 m c (ix2 1 l) * Step.fwd (dcc m c l) R.val 1 + A3 m c (ix2 0 l) * Step.fwd (dcc m c l) R.val 2

/-- The column of group `g`. -/
def gcol (g : Fin 4) (x : Fin 128) : Fin 512 := ⟨g.val * 128 + x.val, by omega⟩

/-- The gradient of the pooling mixer's input, column `q` of group `g`. -/
def dz (g : Fin 4) (q : Fin 128) (R : Fin 4096) : EReal :=
  Step.unpool (2 ^ (g.val + 1)) (fun S => ∑ x, dmx m c (gcol g x) S * A4 m c (ix3 g q x)) R.val

theorem row_val (t : Fin cfg0.N) (p : Fin 512) : (row t p).val = 512 * t.val + p.val := by
  show t.val * 512 + p.val = _; omega

theorem CX_back (t : Fin cfg0.N) (p : Fin 512) (l : Fin 512) (k e : ℕ) (h : e < 528) (hk : k ≤ 16) (he : e = 16 + p.val - k) :
    CX m c t (ix2 ⟨e, h⟩ l) = Step.back (cvf m c l) (row t p).val k := by
  rw [CX_apply, row_val, ← Step.lag_eq _ _ _ hk]
  congr 1; omega

theorem GXX_fwd (t : Fin cfg0.N) (p : Fin 512) (l : Fin 512) (k e : ℕ) (h : e < 528) (he : e = p.val + k) :
    GXX m c t (ix2 ⟨e, h⟩ l) = Step.fwd (dcc m c l) (row t p).val k := by
  rw [GXX_apply, row_val]
  unfold Step.fwd
  congr 1; omega

theorem st0 (t : Fin cfg0.N) (p : Fin 512) (l : Fin 512) :
    k0_pay16 (k0_pay7 (grid0.coords t)) (DX m c t) (View.ld (iblk m c 0 t) (Rect.unit ![1, 0, 0] ![1, 512, 512] inb_S4x512x512_S1x512x512_1_0_0))
      (View.ld (iblk m c 0 t) (Rect.unit ![2, 0, 0] ![1, 512, 512] inb_S4x512x512_S1x512x512_2_0_0))
      (View.ld (iblk m c 1 t) (Rect.unit ![1, 0, 0] ![1, 16, 512] inb_S4x16x512_S1x16x512_1_0_0))
      (View.ld (iblk m c 1 t) (Rect.unit ![2, 0, 0] ![1, 16, 512] inb_S4x16x512_S1x16x512_2_0_0))
      (View.ld (iblk m c 8 t) (Rect.unit ![0, 0] ![1, 512] inb_S3x512_S1x512_0_0))
      (View.ld (iblk m c 8 t) (Rect.unit ![1, 0] ![1, 512] inb_S3x512_S1x512_1_0))
      (View.ld (iblk m c 8 t) (Rect.unit ![2, 0] ![1, 512] inb_S3x512_S1x512_2_0)) (ix3 0 p l) = dp0 m c l (row t p) := by
  have hC : ∀ k e h, k ≤ 16 → e = 16 + p.val - k → CX m c t (ix2 ⟨e, h⟩ l) = _ := CX_back m c t p l
  have hD := DX_lo m c t p ⟨l.val, by omega⟩
  unfold CX at hC
  unfold dp0
  rw [← hD, ← blk8 m c t, ← blk8 m c t, ← blk8 m c t, ← hC 2 ((16 + p.val + 528 - 2) % 528) (by omega) (by decide) (by omega),
    ← hC 1 ((16 + p.val + 528 - 1) % 528) (by omega) (by decide) (by omega), ← hC 0 (16 + p.val) (by omega) (by decide) (by omega)]
  pointwise [k0_pay16, k0_pay15]

theorem st1 (t : Fin cfg0.N) (p : Fin 512) (l : Fin 512) :
    k0_pay24 (k0_pay13 (View.ld (iblk m c 0 t) (Rect.unit ![2, 0, 0] ![1, 512, 512] inb_S4x512x512_S1x512x512_2_0_0))) (GXX m c t)
      (k0_pay22 (View.ld (iblk m c 8 t) (Rect.unit ![2, 0] ![1, 512] inb_S3x512_S1x512_2_0)))
      (View.ld (iblk m c 8 t) (Rect.unit ![1, 0] ![1, 512] inb_S3x512_S1x512_1_0))
      (View.ld (iblk m c 8 t) (Rect.unit ![0, 0] ![1, 512] inb_S3x512_S1x512_0_0)) (ix3 0 p l) = dcv m c l (row t p) * pr m c 2 (row t p) l := by
  unfold dcv
  rw [← blk0 m c t 2 p l, ← blk8 m c t, ← blk8 m c t, ← blk8 m c t, ← GXX_fwd m c t p l 0 p.val (by omega) (by omega),
    ← GXX_fwd m c t p l 1 ((p.val + 528 - 527) % 528) (by omega) (by omega), ← GXX_fwd m c t p l 2 ((p.val + 528 - 526) % 528) (by omega) (by omega)]
  pointwise [k0_pay24, k0_pay23, k0_pay22, k0_pay13]

theorem st2 (t : Fin cfg0.N) (p : Fin 512) (l : Fin 512) :
    k0_pay25 (k0_pay12 (View.ld (iblk m c 0 t) (Rect.unit ![1, 0, 0] ![1, 512, 512] inb_S4x512x512_S1x512x512_1_0_0))) (GXX m c t)
      (k0_pay22 (View.ld (iblk m c 8 t) (Rect.unit ![2, 0] ![1, 512] inb_S3x512_S1x512_2_0)))
      (View.ld (iblk m c 8 t) (Rect.unit ![1, 0] ![1, 512] inb_S3x512_S1x512_1_0))
      (View.ld (iblk m c 8 t) (Rect.unit ![0, 0] ![1, 512] inb_S3x512_S1x512_0_0)) (ix3 0 p l) = dcv m c l (row t p) * pr m c 1 (row t p) l := by
  unfold dcv
  rw [← blk0 m c t 1 p l, ← blk8 m c t, ← blk8 m c t, ← blk8 m c t, ← GXX_fwd m c t p l 0 p.val (by omega) (by omega),
    ← GXX_fwd m c t p l 1 ((p.val + 528 - 527) % 528) (by omega) (by omega), ← GXX_fwd m c t p l 2 ((p.val + 528 - 526) % 528) (by omega) (by omega)]
  pointwise [k0_pay25, k0_pay23, k0_pay22, k0_pay12]

/-- The gradient of the projection: block `k`, column `l`. -/
def dp (k : Fin 4) (l : Fin 512) (R : Fin 4096) : EReal :=
  if k.val = 0 then dp0 m c l R else if k.val = 1 then dcv m c l R * pr m c 2 R l else if k.val = 2 then dcv m c l R * pr m c 1 R l
  else dz m c ⟨l.val / 128, by omega⟩ ⟨l.val % 128, by omega⟩ R

end Cert.EvenGradIdeal.Arr

end

end
-- ==== Proof.EvenGrad.Fill.lean ====
module

public import proofs.«01_k».proof.Proof.EvenGrad.Blocks
public import proofs.«01_k».proof.Proof.EvenGrad.Pool
public import proofs.«01_k».proof.Proof.EvenGrad.Stage
public import Idealize.ShloMosaic.Lib.Pipeline.ValueKit
public import Idealize.ShloMosaic.Lib.Pipeline.ReadBack

@[expose] public section

set_option maxRecDepth 16384

/-! # The first output: the gradient of the projection, block by block -/

noncomputable section

namespace Cert.EvenGradIdeal.Arr

open Cert.EvenGradIdeal Cert.EvenGradIdeal.Gen Idealize.ShloMosaic Idealize.ShloMosaic.TcCoe Idealize.SL.Sem

variable (m : (ℓ : Loc nD τ sig) → Buf (Elt Ideal) ℓ) (c : Dev nD)

theorem hw10 (t : Fin cfg0.N) (g : Fin 4) (x q : Fin 128) : iblk m c 10 t (ix3 g x q) = A4 m c (ix3 g q x) := blk10 m c t g x q

/-- The pooling mixer's gradient, group 0. -/
theorem sdz0 (t : Fin cfg0.N) (p : Fin 512) (q : Fin 128) :
    k0_pay36 (k0_pay28 (BitVec.ofNat 32 (grid0.coords t 0).val)) (k0_pay32 (k0_pay8 (grid0.coords t)) (DX m c t) (View.ld (iblk m c 11 t) (Rect.unit ![0, 0] ![1, 128] inb_S1x512_S1x128_0_0))) (View.ld (iblk m c 10 t) (Rect.unit ![0, 0, 0] ![1, 128, 128] inb_S4x128x128_S1x128x128_0_0_0)) (ix3 0 p q) = dz m c 0 q (row t p) := by
  have hw : ∀ x q : Fin 128, (View.ld (iblk m c 10 t) (Rect.unit ![0, 0, 0] ![1, 128, 128] inb_S4x128x128_S1x128x128_0_0_0)) (ix3 0 x q) = A4 m c (ix3 0 q x) := fun x q => by
    rw [← blk10 m c t]
    pointwise []
  have hd := dm0 m c t
  unfold dz
  rw [row_val]
  exact dz0 t _ _ (fun x => dmx m c (gcol 0 x)) (fun q x => A4 m c (ix3 0 q x)) hd hw p q

/-- The pooling mixer's gradient, group 1. -/
theorem sdz1 (t : Fin cfg0.N) (p : Fin 512) (q : Fin 128) :
    k0_pay46 (k0_pay44 (k0_pay8 (grid0.coords t)) (DX m c t) (k0_pay28 (BitVec.ofNat 32 (grid0.coords t 0).val)) (k0_pay39 (DX m c t)) (View.ld (iblk m c 11 t) (Rect.unit ![0, 128] ![1, 128] inb_S1x512_S1x128_0_128)) (View.ld (iblk m c 10 t) (Rect.unit ![1, 0, 0] ![1, 128, 128] inb_S4x128x128_S1x128x128_1_0_0)))
      (k0_pay45 (k0_pay8 (grid0.coords t)) (DX m c t) (k0_pay39 (DX m c t)) (View.ld (iblk m c 11 t) (Rect.unit ![0, 128] ![1, 128] inb_S1x512_S1x128_0_128)) (View.ld (iblk m c 10 t) (Rect.unit ![1, 0, 0] ![1, 128, 128] inb_S4x128x128_S1x128x128_1_0_0))) (ix3 0 p q) = dz m c 1 q (row t p) := by
  have hw : ∀ x q : Fin 128, (View.ld (iblk m c 10 t) (Rect.unit ![1, 0, 0] ![1, 128, 128] inb_S4x128x128_S1x128x128_1_0_0)) (ix3 0 x q) = A4 m c (ix3 1 q x) := fun x q => by
    rw [← blk10 m c t]
    pointwise []
  have hd := dm1 m c t
  unfold dz
  rw [row_val]
  exact dz1 t _ _ _ _ _ (fun x => dmx m c (gcol 1 x)) (fun q x => A4 m c (ix3 1 q x)) hd hw p q

/-- The pooling mixer's gradient, group 2. -/
theorem sdz2 (t : Fin cfg0.N) (p : Fin 512) (q : Fin 128) :
    k0_pay52 (k0_pay28 (BitVec.ofNat 32 (grid0.coords t 0).val)) (k0_pay50 (k0_pay8 (grid0.coords t)) (DX m c t) (View.ld (iblk m c 11 t) (Rect.unit ![0, 256] ![1, 128] inb_S1x512_S1x128_0_256))) (View.ld (iblk m c 10 t) (Rect.unit ![2, 0, 0] ![1, 128, 128] inb_S4x128x128_S1x128x128_2_0_0)) (ix3 0 p q) = dz m c 2 q (row t p) := by
  have hw : ∀ x q : Fin 128, (View.ld (iblk m c 10 t) (Rect.unit ![2, 0, 0] ![1, 128, 128] inb_S4x128x128_S1x128x128_2_0_0)) (ix3 0 x q) = A4 m c (ix3 2 q x) := fun x q => by
    rw [← blk10 m c t]
    pointwise []
  have hd := dm2 m c t
  unfold dz
  rw [row_val]
  exact dz2 t _ _ (fun x => dmx m c (gcol 2 x)) (fun q x => A4 m c (ix3 2 q x)) hd hw p q

/-- The pooling mixer's gradient, group 3. -/
theorem sdz3 (t : Fin cfg0.N) (p : Fin 512) (q : Fin 128) :
    k0_pay61 (k0_pay28 (BitVec.ofNat 32 (grid0.coords t 0).val)) (k0_pay59 (k0_pay8 (grid0.coords t)) (DX m c t) (View.ld (iblk m c 11 t) (Rect.unit ![0, 384] ![1, 128] inb_S1x512_S1x128_0_384))) (View.ld (iblk m c 10 t) (Rect.unit ![3, 0, 0] ![1, 128, 128] inb_S4x128x128_S1x128x128_3_0_0)) (ix3 0 p q) = dz m c 3 q (row t p) := by
  have hw : ∀ x q : Fin 128, (View.ld (iblk m c 10 t) (Rect.unit ![3, 0, 0] ![1, 128, 128] inb_S4x128x128_S1x128x128_3_0_0)) (ix3 0 x q) = A4 m c (ix3 3 q x) := fun x q => by
    rw [← blk10 m c t]
    pointwise []
  have hd := dm3 m c t
  unfold dz
  rw [row_val]
  exact dz3 t _ _ (fun x => dmx m c (gcol 3 x)) (fun q x => A4 m c (ix3 3 q x)) hd hw p q

theorem dp_gcol (g : Fin 4) (q : Fin 128) (R : Fin 4096) : dp m c 3 (gcol g q) R = dz m c g q R := by
  have h1 : (g.val * 128 + q.val) / 128 = g.val := by omega
  have h2 : (g.val * 128 + q.val) % 128 = q.val := by omega
  simp only [dp, gcol, h1, h2]
  rfl

/-- The gradient block `dp` of grid point `t` as contents of its output window. -/
def G12 (t : Fin cfg0.N) : S4x512x512.Idx → Elt Ideal .bf16 := fun y => dp m c (y 0) (y 2) (row t (y 1))

theorem G12_at (t : Fin cfg0.N) (y : S4x512x512.Idx) (k : Fin 4) (p l : Fin 512) (hk : (y 0).val = k.val) (hp : (y 1).val = p.val) (hl : (y 2).val = l.val) :
    dp m c k l (row t p) = G12 m c t y := by
  unfold G12
  rw [← (Fin.ext hk : y 0 = k), ← (Fin.ext hp : y 1 = p), ← (Fin.ext hl : y 2 = l)]

/-- The stores of the first output. -/
def L12 (t : Fin cfg0.N) : List (View.Piece (Elt Ideal) S4x512x512 .bf16) :=
  [⟨Rect.unit ![3, 0, 384] ![1, 512, 128] inb_S4x512x512_S1x512x128_3_0_384, k0_pay61 (k0_pay28 (BitVec.ofNat 32 (grid0.coords t 0).val)) (k0_pay59 (k0_pay8 (grid0.coords t)) (DX m c t) (View.ld (iblk m c 11 t) (Rect.unit ![0, 384] ![1, 128] inb_S1x512_S1x128_0_384))) (View.ld (iblk m c 10 t) (Rect.unit ![3, 0, 0] ![1, 128, 128] inb_S4x128x128_S1x128x128_3_0_0))⟩,
   ⟨Rect.unit ![3, 0, 256] ![1, 512, 128] inb_S4x512x512_S1x512x128_3_0_256, k0_pay52 (k0_pay28 (BitVec.ofNat 32 (grid0.coords t 0).val)) (k0_pay50 (k0_pay8 (grid0.coords t)) (DX m c t) (View.ld (iblk m c 11 t) (Rect.unit ![0, 256] ![1, 128] inb_S1x512_S1x128_0_256))) (View.ld (iblk m c 10 t) (Rect.unit ![2, 0, 0] ![1, 128, 128] inb_S4x128x128_S1x128x128_2_0_0))⟩,
   ⟨Rect.unit ![3, 0, 128] ![1, 512, 128] inb_S4x512x512_S1x512x128_3_0_128, k0_pay46 (k0_pay44 (k0_pay8 (grid0.coords t)) (DX m c t) (k0_pay28 (BitVec.ofNat 32 (grid0.coords t 0).val)) (k0_pay39 (DX m c t)) (View.ld (iblk m c 11 t) (Rect.unit ![0, 128] ![1, 128] inb_S1x512_S1x128_0_128)) (View.ld (iblk m c 10 t) (Rect.unit ![1, 0, 0] ![1, 128, 128] inb_S4x128x128_S1x128x128_1_0_0)))
      (k0_pay45 (k0_pay8 (grid0.coords t)) (DX m c t) (k0_pay39 (DX m c t)) (View.ld (iblk m c 11 t) (Rect.unit ![0, 128] ![1, 128] inb_S1x512_S1x128_0_128)) (View.ld (iblk m c 10 t) (Rect.unit ![1, 0, 0] ![1, 128, 128] inb_S4x128x128_S1x128x128_1_0_0)))⟩,
   ⟨Rect.unit ![3, 0, 0] ![1, 512, 128] inb_S4x512x512_S1x512x128_3_0_0, k0_pay36 (k0_pay28 (BitVec.ofNat 32 (grid0.coords t 0).val)) (k0_pay32 (k0_pay8 (grid0.coords t)) (DX m c t) (View.ld (iblk m c 11 t) (Rect.unit ![0, 0] ![1, 128] inb_S1x512_S1x128_0_0))) (View.ld (iblk m c 10 t) (Rect.unit ![0, 0, 0] ![1, 128, 128] inb_S4x128x128_S1x128x128_0_0_0))⟩,
   ⟨Rect.unit ![2, 0, 0] ![1, 512, 512] inb_S4x512x512_S1x512x512_2_0_0, k0_pay25 (k0_pay12 (View.ld (iblk m c 0 t) (Rect.unit ![1, 0, 0] ![1, 512, 512] inb_S4x512x512_S1x512x512_1_0_0))) (GXX m c t) (k0_pay22 (View.ld (iblk m c 8 t) (Rect.unit ![2, 0] ![1, 512] inb_S3x512_S1x512_2_0)))
      (View.ld (iblk m c 8 t) (Rect.unit ![1, 0] ![1, 512] inb_S3x512_S1x512_1_0)) (View.ld (iblk m c 8 t) (Rect.unit ![0, 0] ![1, 512] inb_S3x512_S1x512_0_0))⟩,
   ⟨Rect.unit ![1, 0, 0] ![1, 512, 512] inb_S4x512x512_S1x512x512_1_0_0, k0_pay24 (k0_pay13 (View.ld (iblk m c 0 t) (Rect.unit ![2, 0, 0] ![1, 512, 512] inb_S4x512x512_S1x512x512_2_0_0))) (GXX m c t) (k0_pay22 (View.ld (iblk m c 8 t) (Rect.unit ![2, 0] ![1, 512] inb_S3x512_S1x512_2_0)))
      (View.ld (iblk m c 8 t) (Rect.unit ![1, 0] ![1, 512] inb_S3x512_S1x512_1_0)) (View.ld (iblk m c 8 t) (Rect.unit ![0, 0] ![1, 512] inb_S3x512_S1x512_0_0))⟩,
   ⟨Rect.unit ![0, 0, 0] ![1, 512, 512] inb_S4x512x512_S1x512x512_0_0_0, k0_pay16 (k0_pay7 (grid0.coords t)) (DX m c t) (View.ld (iblk m c 0 t) (Rect.unit ![1, 0, 0] ![1, 512, 512] inb_S4x512x512_S1x512x512_1_0_0)) (View.ld (iblk m c 0 t) (Rect.unit ![2, 0, 0] ![1, 512, 512] inb_S4x512x512_S1x512x512_2_0_0))
      (View.ld (iblk m c 1 t) (Rect.unit ![1, 0, 0] ![1, 16, 512] inb_S4x16x512_S1x16x512_1_0_0)) (View.ld (iblk m c 1 t) (Rect.unit ![2, 0, 0] ![1, 16, 512] inb_S4x16x512_S1x16x512_2_0_0))
      (View.ld (iblk m c 8 t) (Rect.unit ![0, 0] ![1, 512] inb_S3x512_S1x512_0_0)) (View.ld (iblk m c 8 t) (Rect.unit ![1, 0] ![1, 512] inb_S3x512_S1x512_1_0)) (View.ld (iblk m c 8 t) (Rect.unit ![2, 0] ![1, 512] inb_S3x512_S1x512_2_0))⟩]

theorem fill12 (t : Fin cfg0.N) : View.canon (L12 m c t) = G12 m c t := by
  funext y
  refine View.canon_append_of_piecesOf (G12 m c t) [] (L12 m c t) ⟨fun x => ?_, fun x => ?_, fun x => ?_, fun x => ?_, fun x => ?_, fun x => ?_, fun x => ?_, trivial⟩ y
    (View.cover_of_tiledBy _ ![1, 512, 128] (by sl_kernel_rfl) y)
  all_goals idx_vars x; obtain rfl : x0 = 0 := Subsingleton.elim _ _
  · refine (sdz3 m c t x1 x2).trans ((dp_gcol m c 3 x2 _).symm.trans (G12_at m c t _ 3 x1 _ rfl ?_ ?_)) <;> simp [gcol]
  · refine (sdz2 m c t x1 x2).trans ((dp_gcol m c 2 x2 _).symm.trans (G12_at m c t _ 3 x1 _ rfl ?_ ?_)) <;> simp [gcol]
  · refine (sdz1 m c t x1 x2).trans ((dp_gcol m c 1 x2 _).symm.trans (G12_at m c t _ 3 x1 _ rfl ?_ ?_)) <;> simp [gcol]
  · refine (sdz0 m c t x1 x2).trans ((dp_gcol m c 0 x2 _).symm.trans (G12_at m c t _ 3 x1 _ rfl ?_ ?_)) <;> simp [gcol]
  · refine (st2 m c t x1 x2).trans (Eq.trans ?_ (G12_at m c t _ 2 x1 x2 rfl ?_ ?_)) <;> simp [dp]
  · refine (st1 m c t x1 x2).trans (Eq.trans ?_ (G12_at m c t _ 1 x1 x2 rfl ?_ ?_)) <;> simp [dp]
  · refine (st0 m c t x1 x2).trans (Eq.trans ?_ (G12_at m c t _ 0 x1 x2 rfl ?_ ?_)) <;> simp [dp]

theorem t12A (t : Fin cfg0.N) (h0 : t.val % 8 = 0) : (outsAt0 m c t.val t.isLt).1 = G12 m c t := by
  rw [outsAt0_A m c t h0, ← fill12]
  frame_out
  rfl

theorem t12B (t : Fin cfg0.N) (h0 : ¬t.val % 8 = 0) : (outsAt0 m c t.val t.isLt).1 = G12 m c t := by
  rw [outsAt0_B m c t h0, ← fill12]
  frame_out
  rfl

end Cert.EvenGradIdeal.Arr

end

end
-- ==== Proof.EvenGrad.Sums.lean ====
module

public import proofs.«01_k».proof.Proof.EvenGrad.Blocks
public import proofs.«01_k».proof.Proof.EvenGrad.Pool
public import proofs.«01_k».proof.Proof.EvenGrad.Fill
public import Idealize.ShloMosaic.Lib.Pipeline.ValueKit
public import Idealize.ShloMosaic.Lib.Pipeline.ReadBack

@[expose] public section

set_option maxRecDepth 16384

/-! # One grid point's contribution to the outputs that are carried along -/

noncomputable section

namespace Cert.EvenGradIdeal.Arr

open Cert.EvenGradIdeal Cert.EvenGradIdeal.Gen Idealize.ShloMosaic Idealize.ShloMosaic.TcCoe Idealize.SL.Sem

variable (m : (ℓ : Loc nD τ sig) → Buf (Elt Ideal) ℓ) (c : Dev nD)

/-- The pooled input of group `g`. -/
def pl (g : Fin 4) (x : Fin 128) (R : Fin 4096) : EReal := Step.pool (2 ^ (g.val + 1)) (zf m c (gcol g x)) R.val

/-- The mixed pooling output of group `g`, before its scale. -/
def mxd (g : Fin 4) (q : Fin 128) (R : Fin 4096) : EReal := ∑ x, pl m c g x R * A4 m c (ix3 g x q)

/-- The saved concatenation of the two mixers' outputs. -/
def mx (R : Fin 4096) (j : Fin 1024) : EReal := V m c main_v115 (ix2 R j)

/-- Row `R`'s terms of the five accumulated gradients. -/
def T13 (k : Fin 4) (x : Fin 1024) (l : Fin 512) (R : Fin 4096) : EReal := xn m c R x * dp m c k l R
@[inherit_doc T13] def T14 (j l : Fin 1024) (R : Fin 4096) : EReal := mx m c R j * A7 m c (ix2 R l)
@[inherit_doc T13] def T15 (k : Fin 3) (l : Fin 512) (R : Fin 4096) : EReal := dcc m c l R * Step.back (cvf m c l) R.val (2 - k.val)
@[inherit_doc T13] def T16 (g : Fin 4) (a b : Fin 128) (R : Fin 4096) : EReal := pl m c g a R * dmx m c (gcol g b) R
@[inherit_doc T13] def T17 (l : Fin 512) (R : Fin 4096) : EReal :=
  D m c ⟨512 + l.val, by omega⟩ R * mxd m c ⟨l.val / 128, by omega⟩ ⟨l.val % 128, by omega⟩ R

theorem T17_gcol (g : Fin 4) (q : Fin 128) (R : Fin 4096) (j : Fin 1024) (hj : j.val = 512 + (g.val * 128 + q.val)) :
    T17 m c (gcol g q) R = D m c j R * mxd m c g q R := by
  have h1 : (g.val * 128 + q.val) / 128 = g.val := by omega
  have h2 : (g.val * 128 + q.val) % 128 = q.val := by omega
  rw [show j = ⟨512 + (g.val * 128 + q.val), by omega⟩ from Fin.ext hj]
  simp only [T17, gcol, h1, h2]

theorem ZX_lag (t : Fin cfg0.N) : ∀ e h l, ZX m c t (ix2 ⟨e, h⟩ l) = Step.lag (zf m c l) (512 * t.val + e) := ZX_apply m c t

theorem pl0 (t : Fin cfg0.N) (p : Fin 512) (q : Fin 128) : k0_pay29 (ZX m c t) (k0_pay27 (BitVec.ofNat 32 (grid0.coords t 0).val)) (ix2 p q) = pl m c 0 q (row t p) := by
  unfold pl
  rw [pooled0 t _ _ (ZX_lag m c t), row_val]
  rfl
theorem pl1 (t : Fin cfg0.N) (p : Fin 512) (q : Fin 128) : k0_pay37 (ZX m c t) (k0_pay27 (BitVec.ofNat 32 (grid0.coords t 0).val)) (ix2 p q) = pl m c 1 q (row t p) := by
  unfold pl
  rw [pooled1 t _ _ (ZX_lag m c t), row_val]
  rfl
theorem pl2 (t : Fin cfg0.N) (p : Fin 512) (q : Fin 128) : k0_pay47 (ZX m c t) (k0_pay27 (BitVec.ofNat 32 (grid0.coords t 0).val)) (ix2 p q) = pl m c 2 q (row t p) := by
  unfold pl
  rw [pooled2 t _ _ (ZX_lag m c t), row_val]
  rfl
theorem pl3 (t : Fin cfg0.N) (p : Fin 512) (q : Fin 128) :
    k0_pay56 (k0_pay27 (BitVec.ofNat 32 (grid0.coords t 0).val)) (k0_pay53 (ZX m c t)) (k0_pay54 (ZX m c t)) (k0_pay55 (ZX m c t)) (ix2 p q) = pl m c 3 q (row t p) := by
  unfold pl
  rw [pooled3 t _ _ (ZX_lag m c t), row_val]
  rfl

/-- The scale's gradient: the rows of `a` times the mixed rows, added to what was there. -/
def psOf (a : FVec Ideal S512x128 .f32) (X : FVec Ideal S512x128 .bf16) (w : Vec Ideal S1x128x128 .bf16) (z : Vec Ideal S1x128 .f32) : FVec Ideal S1x128 .f32 :=
  addf (shapeCast S1x128 z shapeCasts_S1x128_S1x128) (shapeCast S1x128 (multiReduction .add [0] S128 (mulf a (matmul (φ₂ := .bf16) dot_S512x128_S128x128_S512x128_1_0_0_1_n_n none X
    (shapeCast S128x128 w shapeCasts_S1x128x128_S128x128) (constant S512x128 .f32 0x00000000#32))) 0x00000000#32 reduces_S512x128_S128 (.inl rfl) rfl) shapeCasts_S128_S1x128)

theorem psOf_apply (a : FVec Ideal S512x128 .f32) (X : FVec Ideal S512x128 .bf16) (w : Vec Ideal S1x128x128 .bf16) (z : Vec Ideal S1x128 .f32) (q : Fin 128) :
    psOf a X w z (ix2 0 q) = z (ix2 0 q) + ∑ p, a (ix2 p q) * ∑ x, X (ix2 p x) * w (ix3 0 x q) := by
  pointwise [psOf]

/-- The pooling matrix's gradient: the pooled rows times the rows of `b`, added to what was there. -/
def wpOf (X : FVec Ideal S512x128 .bf16) (b : FVec Ideal S528x128 .bf16) (z : Vec Ideal S1x128x128 .f32) : FVec Ideal S1x128x128 .f32 :=
  shapeCast S1x128x128 (addf (shapeCast S128x128 z shapeCasts_S1x128x128_S128x128) (matmul (φ₂ := .bf16) dot_S512x128_S512x128_S128x128_0_0_1_1_n_n none X
    (extractStridedSlice S512x128 ![0, 0] b slices_S528x128_o0_0_S512x128) (constant S128x128 .f32 0x00000000#32))) shapeCasts_S128x128_S1x128x128

theorem wpOf_apply (X : FVec Ideal S512x128 .bf16) (b : FVec Ideal S528x128 .bf16) (z : Vec Ideal S1x128x128 .f32) (u v : Fin 128) :
    wpOf X b z (ix3 0 u v) = z (ix3 0 u v) + ∑ p : Fin 512, X (ix2 p u) * b (ix2 ⟨p.val, by omega⟩ v) := by
  pointwise [wpOf]

/-- One group's step of the scale's gradient, whatever the columns are called. -/
theorem ps_group (t : Fin cfg0.N) (g : Fin 4) (a : FVec Ideal S512x128 .f32) (X : FVec Ideal S512x128 .bf16) (w : Vec Ideal S1x128x128 .bf16) (z : Vec Ideal S1x128 .f32)
    (y : EReal) (q : Fin 128) (j : Fin 1024) (hj : j.val = 512 + (g.val * 128 + q.val)) (ha : ∀ p, a (ix2 p q) = D m c j (row t p))
    (hX : ∀ p x, X (ix2 p x) = pl m c g x (row t p)) (hw : ∀ x, w (ix3 0 x q) = A4 m c (ix3 g x q)) (hz : z (ix2 0 q) = y) :
    psOf a X w z (ix2 0 q) = y + ∑ p, T17 m c (gcol g q) (row t p) := by
  rw [psOf_apply, hz]
  refine congrArg _ (Finset.sum_congr rfl fun p _ => ?_)
  rw [T17_gcol m c g q _ j hj, ha, mxd]
  exact congrArg _ (Finset.sum_congr rfl fun x _ => by rw [hX, hw])

/-- One group's step of the pooling matrix's gradient. -/
theorem wp_group (t : Fin cfg0.N) (g : Fin 4) (X : FVec Ideal S512x128 .bf16) (b : FVec Ideal S528x128 .bf16) (z : Vec Ideal S1x128x128 .f32) (y : EReal) (u v : Fin 128)
    (hX : ∀ p x, X (ix2 p x) = pl m c g x (row t p)) (hb : ∀ e h x, b (ix2 ⟨e, h⟩ x) = Step.ext (dmx m c (gcol g x)) (512 * t.val + e)) (hz : z (ix3 0 u v) = y) :
    wpOf X b z (ix3 0 u v) = y + ∑ p, T16 m c g u v (row t p) := by
  rw [wpOf_apply, hz]
  refine congrArg _ (Finset.sum_congr rfl fun p _ => ?_)
  rw [hX, hb, Step.ext_row _ _ (row t p) (row_val t p).symm]
  rfl

theorem ps0 (t : Fin cfg0.N) (Z : Vec Ideal S1x512 .f32) (q : Fin 128) :
    k0_pay31 (DX m c t) (ZX m c t) (k0_pay27 (BitVec.ofNat 32 (grid0.coords t 0).val)) (View.ld (iblk m c 9 t) (Rect.unit ![0, 0, 0] ![1, 128, 128] inb_S4x128x128_S1x128x128_0_0_0)) (View.ld Z (Rect.unit ![0, 0] ![1, 128] inb_S1x512_S1x128_0_0)) (ix2 0 q)
      = Z (ix2 0 (gcol 0 q)) + ∑ p, T17 m c (gcol 0 q) (row t p) := by
  have e : k0_pay31 (DX m c t) (ZX m c t) (k0_pay27 (BitVec.ofNat 32 (grid0.coords t 0).val)) (View.ld (iblk m c 9 t) (Rect.unit ![0, 0, 0] ![1, 128, 128] inb_S4x128x128_S1x128x128_0_0_0)) (View.ld Z (Rect.unit ![0, 0] ![1, 128] inb_S1x512_S1x128_0_0))
      = psOf (k0_pay30 (DX m c t)) (k0_pay29 (ZX m c t) (k0_pay27 (BitVec.ofNat 32 (grid0.coords t 0).val))) (View.ld (iblk m c 9 t) (Rect.unit ![0, 0, 0] ![1, 128, 128] inb_S4x128x128_S1x128x128_0_0_0)) (View.ld Z (Rect.unit ![0, 0] ![1, 128] inb_S1x512_S1x128_0_0)) := by
    simp only [k0_pay31, psOf]
  rw [e]
  refine ps_group m c t 0 _ _ _ _ _ q ⟨512 + q.val, by omega⟩ (by show 512 + q.val = 512 + (0 * 128 + q.val); omega) (fun p => ?_) (pl0 m c t) (fun x => ?_) ?_
  · rw [← DX_lo m c t p]
    pointwise [k0_pay30]
  · rw [← blk9 m c t]
    pointwise []
  · pointwise [gcol]

theorem wp0 (t : Fin cfg0.N) (Z : Vec Ideal S4x128x128 .f32) (u v : Fin 128) :
    k0_pay35 (k0_pay29 (ZX m c t) (k0_pay27 (BitVec.ofNat 32 (grid0.coords t 0).val))) (k0_pay33 (View.ld Z (Rect.unit ![0, 0, 0] ![1, 128, 128] inb_S4x128x128_S1x128x128_0_0_0))) (k0_pay34 (k0_pay8 (grid0.coords t)) (DX m c t) (View.ld (iblk m c 11 t) (Rect.unit ![0, 0] ![1, 128] inb_S1x512_S1x128_0_0))) (ix3 0 u v)
      = Z (ix3 0 u v) + ∑ p, T16 m c 0 u v (row t p) := by
  have e : k0_pay35 (k0_pay29 (ZX m c t) (k0_pay27 (BitVec.ofNat 32 (grid0.coords t 0).val))) (k0_pay33 (View.ld Z (Rect.unit ![0, 0, 0] ![1, 128, 128] inb_S4x128x128_S1x128x128_0_0_0))) (k0_pay34 (k0_pay8 (grid0.coords t)) (DX m c t) (View.ld (iblk m c 11 t) (Rect.unit ![0, 0] ![1, 128] inb_S1x512_S1x128_0_0)))
      = wpOf (k0_pay29 (ZX m c t) (k0_pay27 (BitVec.ofNat 32 (grid0.coords t 0).val))) (k0_pay32 (k0_pay8 (grid0.coords t)) (DX m c t) (View.ld (iblk m c 11 t) (Rect.unit ![0, 0] ![1, 128] inb_S1x512_S1x128_0_0))) (View.ld Z (Rect.unit ![0, 0, 0] ![1, 128, 128] inb_S4x128x128_S1x128x128_0_0_0)) := by
    simp only [k0_pay35, k0_pay33, k0_pay34, wpOf]
  rw [e]
  refine wp_group m c t 0 _ _ _ _ u v (pl0 m c t) (dm0 m c t) ?_
  pointwise []

theorem ps1 (t : Fin cfg0.N) (Z : Vec Ideal S1x512 .f32) (q : Fin 128) :
    k0_pay40 (k0_pay38 (ZX m c t) (k0_pay27 (BitVec.ofNat 32 (grid0.coords t 0).val)) (View.ld (iblk m c 9 t) (Rect.unit ![1, 0, 0] ![1, 128, 128] inb_S4x128x128_S1x128x128_1_0_0))) (k0_pay39 (DX m c t)) (View.ld Z (Rect.unit ![0, 128] ![1, 128] inb_S1x512_S1x128_0_128)) (ix2 0 q)
      = Z (ix2 0 (gcol 1 q)) + ∑ p, T17 m c (gcol 1 q) (row t p) := by
  have e : k0_pay40 (k0_pay38 (ZX m c t) (k0_pay27 (BitVec.ofNat 32 (grid0.coords t 0).val)) (View.ld (iblk m c 9 t) (Rect.unit ![1, 0, 0] ![1, 128, 128] inb_S4x128x128_S1x128x128_1_0_0))) (k0_pay39 (DX m c t)) (View.ld Z (Rect.unit ![0, 128] ![1, 128] inb_S1x512_S1x128_0_128))
      = psOf (k0_pay39 (DX m c t)) (k0_pay37 (ZX m c t) (k0_pay27 (BitVec.ofNat 32 (grid0.coords t 0).val))) (View.ld (iblk m c 9 t) (Rect.unit ![1, 0, 0] ![1, 128, 128] inb_S4x128x128_S1x128x128_1_0_0)) (View.ld Z (Rect.unit ![0, 128] ![1, 128] inb_S1x512_S1x128_0_128)) := by
    simp only [k0_pay40, k0_pay38, psOf]
  rw [e]
  refine ps_group m c t 1 _ _ _ _ _ q ⟨640 + q.val, by omega⟩ (by show 640 + q.val = 512 + (1 * 128 + q.val); omega) (fun p => ?_) (pl1 m c t) (fun x => ?_) ?_
  · rw [← DX_lo m c t p]
    pointwise [k0_pay39]
  · rw [← blk9 m c t]
    pointwise []
  · pointwise [gcol]

theorem wp1 (t : Fin cfg0.N) (Z : Vec Ideal S4x128x128 .f32) (u v : Fin 128) :
    k0_pay42 (k0_pay8 (grid0.coords t)) (DX m c t) (k0_pay37 (ZX m c t) (k0_pay27 (BitVec.ofNat 32 (grid0.coords t 0).val))) (k0_pay39 (DX m c t)) (View.ld (iblk m c 11 t) (Rect.unit ![0, 128] ![1, 128] inb_S1x512_S1x128_0_128)) (View.ld Z (Rect.unit ![1, 0, 0] ![1, 128, 128] inb_S4x128x128_S1x128x128_1_0_0)) (ix3 0 u v)
      = Z (ix3 1 u v) + ∑ p, T16 m c 1 u v (row t p) := by
  have e : k0_pay42 (k0_pay8 (grid0.coords t)) (DX m c t) (k0_pay37 (ZX m c t) (k0_pay27 (BitVec.ofNat 32 (grid0.coords t 0).val))) (k0_pay39 (DX m c t)) (View.ld (iblk m c 11 t) (Rect.unit ![0, 128] ![1, 128] inb_S1x512_S1x128_0_128)) (View.ld Z (Rect.unit ![1, 0, 0] ![1, 128, 128] inb_S4x128x128_S1x128x128_1_0_0))
      = wpOf (k0_pay37 (ZX m c t) (k0_pay27 (BitVec.ofNat 32 (grid0.coords t 0).val))) (k0_pay41 (k0_pay8 (grid0.coords t)) (DX m c t) (k0_pay39 (DX m c t)) (View.ld (iblk m c 11 t) (Rect.unit ![0, 128] ![1, 128] inb_S1x512_S1x128_0_128))) (View.ld Z (Rect.unit ![1, 0, 0] ![1, 128, 128] inb_S4x128x128_S1x128x128_1_0_0)) := by
    simp only [k0_pay42, wpOf]
  rw [e]
  refine wp_group m c t 1 _ _ _ _ u v (pl1 m c t) (dm1 m c t) ?_
  pointwise []

theorem ps2 (t : Fin cfg0.N) (Z : Vec Ideal S1x512 .f32) (q : Fin 128) :
    k0_pay49 (DX m c t) (ZX m c t) (k0_pay27 (BitVec.ofNat 32 (grid0.coords t 0).val)) (View.ld (iblk m c 9 t) (Rect.unit ![2, 0, 0] ![1, 128, 128] inb_S4x128x128_S1x128x128_2_0_0)) (View.ld Z (Rect.unit ![0, 256] ![1, 128] inb_S1x512_S1x128_0_256)) (ix2 0 q)
      = Z (ix2 0 (gcol 2 q)) + ∑ p, T17 m c (gcol 2 q) (row t p) := by
  have e : k0_pay49 (DX m c t) (ZX m c t) (k0_pay27 (BitVec.ofNat 32 (grid0.coords t 0).val)) (View.ld (iblk m c 9 t) (Rect.unit ![2, 0, 0] ![1, 128, 128] inb_S4x128x128_S1x128x128_2_0_0)) (View.ld Z (Rect.unit ![0, 256] ![1, 128] inb_S1x512_S1x128_0_256))
      = psOf (k0_pay48 (DX m c t)) (k0_pay47 (ZX m c t) (k0_pay27 (BitVec.ofNat 32 (grid0.coords t 0).val))) (View.ld (iblk m c 9 t) (Rect.unit ![2, 0, 0] ![1, 128, 128] inb_S4x128x128_S1x128x128_2_0_0)) (View.ld Z (Rect.unit ![0, 256] ![1, 128] inb_S1x512_S1x128_0_256)) := by
    simp only [k0_pay49, psOf]
  rw [e]
  refine ps_group m c t 2 _ _ _ _ _ q ⟨768 + q.val, by omega⟩ (by show 768 + q.val = 512 + (2 * 128 + q.val); omega) (fun p => ?_) (pl2 m c t) (fun x => ?_) ?_
  · rw [← DX_lo m c t p]
    pointwise [k0_pay48]
  · rw [← blk9 m c t]
    pointwise []
  · pointwise [gcol]

theorem wp2 (t : Fin cfg0.N) (Z : Vec Ideal S4x128x128 .f32) (u v : Fin 128) :
    k0_pay51 (k0_pay47 (ZX m c t) (k0_pay27 (BitVec.ofNat 32 (grid0.coords t 0).val))) (k0_pay50 (k0_pay8 (grid0.coords t)) (DX m c t) (View.ld (iblk m c 11 t) (Rect.unit ![0, 256] ![1, 128] inb_S1x512_S1x128_0_256))) (View.ld Z (Rect.unit ![2, 0, 0] ![1, 128, 128] inb_S4x128x128_S1x128x128_2_0_0)) (ix3 0 u v)
      = Z (ix3 2 u v) + ∑ p, T16 m c 2 u v (row t p) := by
  have e : k0_pay51 (k0_pay47 (ZX m c t) (k0_pay27 (BitVec.ofNat 32 (grid0.coords t 0).val))) (k0_pay50 (k0_pay8 (grid0.coords t)) (DX m c t) (View.ld (iblk m c 11 t) (Rect.unit ![0, 256] ![1, 128] inb_S1x512_S1x128_0_256))) (View.ld Z (Rect.unit ![2, 0, 0] ![1, 128, 128] inb_S4x128x128_S1x128x128_2_0_0))
      = wpOf (k0_pay47 (ZX m c t) (k0_pay27 (BitVec.ofNat 32 (grid0.coords t 0).val))) (k0_pay50 (k0_pay8 (grid0.coords t)) (DX m c t) (View.ld (iblk m c 11 t) (Rect.unit ![0, 256] ![1, 128] inb_S1x512_S1x128_0_256))) (View.ld Z (Rect.unit ![2, 0, 0] ![1, 128, 128] inb_S4x128x128_S1x128x128_2_0_0)) := by
    simp only [k0_pay51, wpOf]
  rw [e]
  refine wp_group m c t 2 _ _ _ _ u v (pl2 m c t) (dm2 m c t) ?_
  pointwise []

theorem ps3 (t : Fin cfg0.N) (Z : Vec Ideal S1x512 .f32) (q : Fin 128) :
    k0_pay58 (DX m c t) (k0_pay27 (BitVec.ofNat 32 (grid0.coords t 0).val)) (k0_pay53 (ZX m c t)) (k0_pay54 (ZX m c t)) (k0_pay55 (ZX m c t)) (View.ld (iblk m c 9 t) (Rect.unit ![3, 0, 0] ![1, 128, 128] inb_S4x128x128_S1x128x128_3_0_0)) (View.ld Z (Rect.unit ![0, 384] ![1, 128] inb_S1x512_S1x128_0_384)) (ix2 0 q)
      = Z (ix2 0 (gcol 3 q)) + ∑ p, T17 m c (gcol 3 q) (row t p) := by
  have e : k0_pay58 (DX m c t) (k0_pay27 (BitVec.ofNat 32 (grid0.coords t 0).val)) (k0_pay53 (ZX m c t)) (k0_pay54 (ZX m c t)) (k0_pay55 (ZX m c t)) (View.ld (iblk m c 9 t) (Rect.unit ![3, 0, 0] ![1, 128, 128] inb_S4x128x128_S1x128x128_3_0_0)) (View.ld Z (Rect.unit ![0, 384] ![1, 128] inb_S1x512_S1x128_0_384))
      = psOf (k0_pay57 (DX m c t)) (k0_pay56 (k0_pay27 (BitVec.ofNat 32 (grid0.coords t 0).val)) (k0_pay53 (ZX m c t)) (k0_pay54 (ZX m c t)) (k0_pay55 (ZX m c t))) (View.ld (iblk m c 9 t) (Rect.unit ![3, 0, 0] ![1, 128, 128] inb_S4x128x128_S1x128x128_3_0_0)) (View.ld Z (Rect.unit ![0, 384] ![1, 128] inb_S1x512_S1x128_0_384)) := by
    simp only [k0_pay58, psOf]
  rw [e]
  refine ps_group m c t 3 _ _ _ _ _ q ⟨896 + q.val, by omega⟩ (by show 896 + q.val = 512 + (3 * 128 + q.val); omega) (fun p => ?_) (pl3 m c t) (fun x => ?_) ?_
  · rw [← DX_lo m c t p]
    pointwise [k0_pay57]
  · rw [← blk9 m c t]
    pointwise []
  · pointwise [gcol]

theorem wp3 (t : Fin cfg0.N) (Z : Vec Ideal S4x128x128 .f32) (u v : Fin 128) :
    k0_pay60 (k0_pay8 (grid0.coords t)) (DX m c t) (k0_pay27 (BitVec.ofNat 32 (grid0.coords t 0).val)) (k0_pay53 (ZX m c t)) (k0_pay54 (ZX m c t)) (k0_pay55 (ZX m c t)) (View.ld (iblk m c 11 t) (Rect.unit ![0, 384] ![1, 128] inb_S1x512_S1x128_0_384)) (View.ld Z (Rect.unit ![3, 0, 0] ![1, 128, 128] inb_S4x128x128_S1x128x128_3_0_0)) (ix3 0 u v)
      = Z (ix3 3 u v) + ∑ p, T16 m c 3 u v (row t p) := by
  have e : k0_pay60 (k0_pay8 (grid0.coords t)) (DX m c t) (k0_pay27 (BitVec.ofNat 32 (grid0.coords t 0).val)) (k0_pay53 (ZX m c t)) (k0_pay54 (ZX m c t)) (k0_pay55 (ZX m c t)) (View.ld (iblk m c 11 t) (Rect.unit ![0, 384] ![1, 128] inb_S1x512_S1x128_0_384)) (View.ld Z (Rect.unit ![3, 0, 0] ![1, 128, 128] inb_S4x128x128_S1x128x128_3_0_0))
      = wpOf (k0_pay56 (k0_pay27 (BitVec.ofNat 32 (grid0.coords t 0).val)) (k0_pay53 (ZX m c t)) (k0_pay54 (ZX m c t)) (k0_pay55 (ZX m c t))) (k0_pay59 (k0_pay8 (grid0.coords t)) (DX m c t) (View.ld (iblk m c 11 t) (Rect.unit ![0, 384] ![1, 128] inb_S1x512_S1x128_0_384))) (View.ld Z (Rect.unit ![3, 0, 0] ![1, 128, 128] inb_S4x128x128_S1x128x128_3_0_0)) := by
    simp only [k0_pay60, wpOf]
  rw [e]
  refine wp_group m c t 3 _ _ _ _ u v (pl3 m c t) (dm3 m c t) ?_
  pointwise []

end Cert.EvenGradIdeal.Arr

end

end
-- ==== Proof.EvenGrad.Steps.lean ====
module

public import proofs.«01_k».proof.Proof.EvenGrad.Blocks
public import proofs.«01_k».proof.Proof.EvenGrad.Pool
public import proofs.«01_k».proof.Proof.EvenGrad.Sums
public import Idealize.ShloMosaic.Lib.Pipeline.ValueKit
public import Idealize.ShloMosaic.Lib.Pipeline.ReadBack

@[expose] public section

set_option maxRecDepth 16384

/-! # The carried outputs after a grid point -/

noncomputable section

namespace Cert.EvenGradIdeal.Arr

open Cert.EvenGradIdeal Cert.EvenGradIdeal.Gen Idealize.ShloMosaic Idealize.ShloMosaic.TcCoe Idealize.SL.Sem

variable (m : (ℓ : Loc nD τ sig) → Buf (Elt Ideal) ℓ) (c : Dev nD)

theorem ca0 (t : Fin cfg0.N) (Z : Vec Ideal S3x512 .f32) (l : Fin 512) :
    k0_pay20 (CX m c t) (GX m c t) (View.ld Z (Rect.unit ![0, 0] ![1, 512] inb_S3x512_S1x512_0_0)) (ix2 0 l) = Z (ix2 0 l) + ∑ p, T15 m c 0 l (row t p) := by
  have h : ∀ p : Fin 512, T15 m c 0 l (row t p) = GX m c t (ix2 p l) * CX m c t (ix2 ⟨(16 + p.val + 528 - 2) % 528, by omega⟩ l) := fun p => by
    rw [GX_apply, CX_back m c t p l 2 _ (by omega) (by decide) (by omega)]
    rfl
  simp only [h]
  pointwise [k0_pay20]

theorem ca1 (t : Fin cfg0.N) (Z : Vec Ideal S3x512 .f32) (l : Fin 512) :
    k0_pay19 (CX m c t) (GX m c t) (View.ld Z (Rect.unit ![1, 0] ![1, 512] inb_S3x512_S1x512_1_0)) (ix2 0 l) = Z (ix2 1 l) + ∑ p, T15 m c 1 l (row t p) := by
  have h : ∀ p : Fin 512, T15 m c 1 l (row t p) = GX m c t (ix2 p l) * CX m c t (ix2 ⟨(16 + p.val + 528 - 1) % 528, by omega⟩ l) := fun p => by
    rw [GX_apply, CX_back m c t p l 1 _ (by omega) (by decide) (by omega)]
    rfl
  simp only [h]
  pointwise [k0_pay19]

theorem ca2 (t : Fin cfg0.N) (Z : Vec Ideal S3x512 .f32) (l : Fin 512) :
    k0_pay18 (CX m c t) (GX m c t) (View.ld Z (Rect.unit ![2, 0] ![1, 512] inb_S3x512_S1x512_2_0)) (ix2 0 l) = Z (ix2 2 l) + ∑ p, T15 m c 2 l (row t p) := by
  have h : ∀ p : Fin 512, T15 m c 2 l (row t p) = GX m c t (ix2 p l) * CX m c t (ix2 ⟨16 + p.val, by omega⟩ l) := fun p => by
    rw [GX_apply, CX_back m c t p l 0 _ (by omega) (by decide) (by omega)]
    rfl
  simp only [h]
  pointwise [k0_pay18]

theorem wi0 (t : Fin cfg0.N) (Z : Vec Ideal S4x1024x512 .f32) (X : Vec Ideal S1x512x512 .bf16) (hX : ∀ p l, X (ix3 0 p l) = dp m c 0 l (row t p)) (x : Fin 1024) (l : Fin 512) :
    k0_pay62 (View.ld Z (Rect.unit ![0, 0, 0] ![1, 1024, 512] inb_S4x1024x512_S1x1024x512_0_0_0)) (iblk m c 4 t) X (ix3 0 x l) = Z (ix3 0 x l) + ∑ p, T13 m c 0 x l (row t p) := by
  have h : ∀ p : Fin 512, T13 m c 0 x l (row t p) = (HMul.hMul : EReal → EReal → EReal) (iblk m c 4 t (ix2 p x)) (X (ix3 0 p l)) := fun p => by
    rw [hX, blk4]
    rfl
  simp only [h]
  pointwise [k0_pay62]

theorem wi1 (t : Fin cfg0.N) (Z : Vec Ideal S4x1024x512 .f32) (X : Vec Ideal S1x512x512 .bf16) (hX : ∀ p l, X (ix3 0 p l) = dp m c 1 l (row t p)) (x : Fin 1024) (l : Fin 512) :
    k0_pay63 (View.ld Z (Rect.unit ![1, 0, 0] ![1, 1024, 512] inb_S4x1024x512_S1x1024x512_1_0_0)) (iblk m c 4 t) X (ix3 0 x l) = Z (ix3 1 x l) + ∑ p, T13 m c 1 x l (row t p) := by
  have h : ∀ p : Fin 512, T13 m c 1 x l (row t p) = (HMul.hMul : EReal → EReal → EReal) (iblk m c 4 t (ix2 p x)) (X (ix3 0 p l)) := fun p => by
    rw [hX, blk4]
    rfl
  simp only [h]
  pointwise [k0_pay63]

theorem wi2 (t : Fin cfg0.N) (Z : Vec Ideal S4x1024x512 .f32) (X : Vec Ideal S1x512x512 .bf16) (hX : ∀ p l, X (ix3 0 p l) = dp m c 2 l (row t p)) (x : Fin 1024) (l : Fin 512) :
    k0_pay64 (View.ld Z (Rect.unit ![2, 0, 0] ![1, 1024, 512] inb_S4x1024x512_S1x1024x512_2_0_0)) (iblk m c 4 t) X (ix3 0 x l) = Z (ix3 2 x l) + ∑ p, T13 m c 2 x l (row t p) := by
  have h : ∀ p : Fin 512, T13 m c 2 x l (row t p) = (HMul.hMul : EReal → EReal → EReal) (iblk m c 4 t (ix2 p x)) (X (ix3 0 p l)) := fun p => by
    rw [hX, blk4]
    rfl
  simp only [h]
  pointwise [k0_pay64]

theorem wi3 (t : Fin cfg0.N) (Z : Vec Ideal S4x1024x512 .f32) (X : Vec Ideal S1x512x512 .bf16) (hX : ∀ p l, X (ix3 0 p l) = dp m c 3 l (row t p)) (x : Fin 1024) (l : Fin 512) :
    k0_pay1 (k0_pay65 (View.ld Z (Rect.unit ![3, 0, 0] ![1, 1024, 512] inb_S4x1024x512_S1x1024x512_3_0_0))) (k0_pay66 (iblk m c 4 t)) (k0_pay67 X) (constant S1024x512 .f32 0x00000000#32) (ix3 0 x l) = Z (ix3 3 x l) + ∑ p, T13 m c 3 x l (row t p) := by
  have h : ∀ p : Fin 512, T13 m c 3 x l (row t p) = (HMul.hMul : EReal → EReal → EReal) (iblk m c 4 t (ix2 p x)) (X (ix3 0 p l)) := fun p => by
    rw [hX, blk4]
    rfl
  simp only [h]
  pointwise [k0_pay1, k0_pay65, k0_pay66, k0_pay67]

theorem wo (t : Fin cfg0.N) (Z : Vec Ideal S1024x1024 .f32) (j l : Fin 1024) :
    k0_pay9 Z (iblk m c 3 t) (iblk m c 5 t) (ix2 j l) = Z (ix2 j l) + ∑ p, T14 m c j l (row t p) := by
  have h : ∀ p : Fin 512, T14 m c j l (row t p) = (HMul.hMul : EReal → EReal → EReal) (iblk m c 3 t (ix2 p j)) (iblk m c 5 t (ix2 p l)) := fun p => by
    rw [blk3, blk5]
    rfl
  simp only [h]
  pointwise [k0_pay9]

/-- A carried output after grid point `t`, which found `Z` there. -/
def G13 (t : Fin cfg0.N) (Z : Vec Ideal S4x1024x512 .f32) : Vec Ideal S4x1024x512 .f32 := fun y => Z y + ∑ p, T13 m c (y 0) (y 1) (y 2) (row t p)
@[inherit_doc G13] def G14 (t : Fin cfg0.N) (Z : Vec Ideal S1024x1024 .f32) : Vec Ideal S1024x1024 .f32 := fun y => Z y + ∑ p, T14 m c (y 0) (y 1) (row t p)
@[inherit_doc G13] def G15 (t : Fin cfg0.N) (Z : Vec Ideal S3x512 .f32) : Vec Ideal S3x512 .f32 := fun y => Z y + ∑ p, T15 m c (y 0) (y 1) (row t p)
@[inherit_doc G13] def G16 (t : Fin cfg0.N) (Z : Vec Ideal S4x128x128 .f32) : Vec Ideal S4x128x128 .f32 := fun y => Z y + ∑ p, T16 m c (y 0) (y 1) (y 2) (row t p)
@[inherit_doc G13] def G17 (t : Fin cfg0.N) (Z : Vec Ideal S1x512 .f32) : Vec Ideal S1x512 .f32 := fun y => Z y + ∑ p, T17 m c (y 1) (row t p)

/-- The stores that add a grid point's terms. -/
def L15 (t : Fin cfg0.N) (Z : Vec Ideal S3x512 .f32) : List (View.Piece (Elt Ideal) S3x512 .f32) :=
  [⟨Rect.unit ![0, 0] ![1, 512] inb_S3x512_S1x512_0_0, k0_pay20 (CX m c t) (GX m c t) (View.ld Z (Rect.unit ![0, 0] ![1, 512] inb_S3x512_S1x512_0_0))⟩,
   ⟨Rect.unit ![1, 0] ![1, 512] inb_S3x512_S1x512_1_0, k0_pay19 (CX m c t) (GX m c t) (View.ld Z (Rect.unit ![1, 0] ![1, 512] inb_S3x512_S1x512_1_0))⟩,
   ⟨Rect.unit ![2, 0] ![1, 512] inb_S3x512_S1x512_2_0, k0_pay18 (CX m c t) (GX m c t) (View.ld Z (Rect.unit ![2, 0] ![1, 512] inb_S3x512_S1x512_2_0))⟩]
@[inherit_doc L15] def L16 (t : Fin cfg0.N) (Z : Vec Ideal S4x128x128 .f32) : List (View.Piece (Elt Ideal) S4x128x128 .f32) :=
  [⟨Rect.unit ![3, 0, 0] ![1, 128, 128] inb_S4x128x128_S1x128x128_3_0_0, k0_pay60 (k0_pay8 (grid0.coords t)) (DX m c t) (k0_pay27 (BitVec.ofNat 32 (grid0.coords t 0).val)) (k0_pay53 (ZX m c t)) (k0_pay54 (ZX m c t)) (k0_pay55 (ZX m c t)) (View.ld (iblk m c 11 t) (Rect.unit ![0, 384] ![1, 128] inb_S1x512_S1x128_0_384)) (View.ld Z (Rect.unit ![3, 0, 0] ![1, 128, 128] inb_S4x128x128_S1x128x128_3_0_0))⟩,
   ⟨Rect.unit ![2, 0, 0] ![1, 128, 128] inb_S4x128x128_S1x128x128_2_0_0, k0_pay51 (k0_pay47 (ZX m c t) (k0_pay27 (BitVec.ofNat 32 (grid0.coords t 0).val))) (k0_pay50 (k0_pay8 (grid0.coords t)) (DX m c t) (View.ld (iblk m c 11 t) (Rect.unit ![0, 256] ![1, 128] inb_S1x512_S1x128_0_256))) (View.ld Z (Rect.unit ![2, 0, 0] ![1, 128, 128] inb_S4x128x128_S1x128x128_2_0_0))⟩,
   ⟨Rect.unit ![1, 0, 0] ![1, 128, 128] inb_S4x128x128_S1x128x128_1_0_0, k0_pay42 (k0_pay8 (grid0.coords t)) (DX m c t) (k0_pay37 (ZX m c t) (k0_pay27 (BitVec.ofNat 32 (grid0.coords t 0).val))) (k0_pay39 (DX m c t)) (View.ld (iblk m c 11 t) (Rect.unit ![0, 128] ![1, 128] inb_S1x512_S1x128_0_128)) (View.ld Z (Rect.unit ![1, 0, 0] ![1, 128, 128] inb_S4x128x128_S1x128x128_1_0_0))⟩,
   ⟨Rect.unit ![0, 0, 0] ![1, 128, 128] inb_S4x128x128_S1x128x128_0_0_0, k0_pay35 (k0_pay29 (ZX m c t) (k0_pay27 (BitVec.ofNat 32 (grid0.coords t 0).val))) (k0_pay33 (View.ld Z (Rect.unit ![0, 0, 0] ![1, 128, 128] inb_S4x128x128_S1x128x128_0_0_0))) (k0_pay34 (k0_pay8 (grid0.coords t)) (DX m c t) (View.ld (iblk m c 11 t) (Rect.unit ![0, 0] ![1, 128] inb_S1x512_S1x128_0_0)))⟩]
@[inherit_doc L15] def L17 (t : Fin cfg0.N) (Z : Vec Ideal S1x512 .f32) : List (View.Piece (Elt Ideal) S1x512 .f32) :=
  [⟨Rect.unit ![0, 384] ![1, 128] inb_S1x512_S1x128_0_384, k0_pay58 (DX m c t) (k0_pay27 (BitVec.ofNat 32 (grid0.coords t 0).val)) (k0_pay53 (ZX m c t)) (k0_pay54 (ZX m c t)) (k0_pay55 (ZX m c t)) (View.ld (iblk m c 9 t) (Rect.unit ![3, 0, 0] ![1, 128, 128] inb_S4x128x128_S1x128x128_3_0_0)) (View.ld Z (Rect.unit ![0, 384] ![1, 128] inb_S1x512_S1x128_0_384))⟩,
   ⟨Rect.unit ![0, 256] ![1, 128] inb_S1x512_S1x128_0_256, k0_pay49 (DX m c t) (ZX m c t) (k0_pay27 (BitVec.ofNat 32 (grid0.coords t 0).val)) (View.ld (iblk m c 9 t) (Rect.unit ![2, 0, 0] ![1, 128, 128] inb_S4x128x128_S1x128x128_2_0_0)) (View.ld Z (Rect.unit ![0, 256] ![1, 128] inb_S1x512_S1x128_0_256))⟩,
   ⟨Rect.unit ![0, 128] ![1, 128] inb_S1x512_S1x128_0_128, k0_pay40 (k0_pay38 (ZX m c t) (k0_pay27 (BitVec.ofNat 32 (grid0.coords t 0).val)) (View.ld (iblk m c 9 t) (Rect.unit ![1, 0, 0] ![1, 128, 128] inb_S4x128x128_S1x128x128_1_0_0))) (k0_pay39 (DX m c t)) (View.ld Z (Rect.unit ![0, 128] ![1, 128] inb_S1x512_S1x128_0_128))⟩,
   ⟨Rect.unit ![0, 0] ![1, 128] inb_S1x512_S1x128_0_0, k0_pay31 (DX m c t) (ZX m c t) (k0_pay27 (BitVec.ofNat 32 (grid0.coords t 0).val)) (View.ld (iblk m c 9 t) (Rect.unit ![0, 0, 0] ![1, 128, 128] inb_S4x128x128_S1x128x128_0_0_0)) (View.ld Z (Rect.unit ![0, 0] ![1, 128] inb_S1x512_S1x128_0_0))⟩]
@[inherit_doc L15] def L13 (t : Fin cfg0.N) (Z : Vec Ideal S4x1024x512 .f32) (X0 X1 X2 X3 : Vec Ideal S1x512x512 .bf16) : List (View.Piece (Elt Ideal) S4x1024x512 .f32) :=
  [⟨Rect.unit ![3, 0, 0] ![1, 1024, 512] inb_S4x1024x512_S1x1024x512_3_0_0, k0_pay1 (k0_pay65 (View.ld Z (Rect.unit ![3, 0, 0] ![1, 1024, 512] inb_S4x1024x512_S1x1024x512_3_0_0))) (k0_pay66 (iblk m c 4 t)) (k0_pay67 X3) (constant S1024x512 .f32 0x00000000#32)⟩,
   ⟨Rect.unit ![2, 0, 0] ![1, 1024, 512] inb_S4x1024x512_S1x1024x512_2_0_0, k0_pay64 (View.ld Z (Rect.unit ![2, 0, 0] ![1, 1024, 512] inb_S4x1024x512_S1x1024x512_2_0_0)) (iblk m c 4 t) X2⟩,
   ⟨Rect.unit ![1, 0, 0] ![1, 1024, 512] inb_S4x1024x512_S1x1024x512_1_0_0, k0_pay63 (View.ld Z (Rect.unit ![1, 0, 0] ![1, 1024, 512] inb_S4x1024x512_S1x1024x512_1_0_0)) (iblk m c 4 t) X1⟩,
   ⟨Rect.unit ![0, 0, 0] ![1, 1024, 512] inb_S4x1024x512_S1x1024x512_0_0_0, k0_pay62 (View.ld Z (Rect.unit ![0, 0, 0] ![1, 1024, 512] inb_S4x1024x512_S1x1024x512_0_0_0)) (iblk m c 4 t) X0⟩]

theorem pcs15 (t : Fin cfg0.N) (Z : Vec Ideal S3x512 .f32) : View.PiecesOf (G15 m c t Z) (L15 m c t Z) := by
  refine ⟨fun x => ?_, fun x => ?_, fun x => ?_, trivial⟩
  all_goals idx_vars x; obtain rfl : x0 = 0 := Subsingleton.elim _ _
  · refine (ca0 m c t Z x1).trans (congrArg (G15 m c t Z) (?_ : ix2 0 x1 = _))
    blk_ext []
  · refine (ca1 m c t Z x1).trans (congrArg (G15 m c t Z) (?_ : ix2 1 x1 = _))
    blk_ext []
  · refine (ca2 m c t Z x1).trans (congrArg (G15 m c t Z) (?_ : ix2 2 x1 = _))
    blk_ext []

theorem pcs16 (t : Fin cfg0.N) (Z : Vec Ideal S4x128x128 .f32) : View.PiecesOf (G16 m c t Z) (L16 m c t Z) := by
  refine ⟨fun x => ?_, fun x => ?_, fun x => ?_, fun x => ?_, trivial⟩
  all_goals idx_vars x; obtain rfl : x0 = 0 := Subsingleton.elim _ _
  · refine (wp3 m c t Z x1 x2).trans (congrArg (G16 m c t Z) (?_ : ix3 3 x1 x2 = _))
    blk_ext []
  · refine (wp2 m c t Z x1 x2).trans (congrArg (G16 m c t Z) (?_ : ix3 2 x1 x2 = _))
    blk_ext []
  · refine (wp1 m c t Z x1 x2).trans (congrArg (G16 m c t Z) (?_ : ix3 1 x1 x2 = _))
    blk_ext []
  · refine (wp0 m c t Z x1 x2).trans (congrArg (G16 m c t Z) (?_ : ix3 0 x1 x2 = _))
    blk_ext []

theorem pcs17 (t : Fin cfg0.N) (Z : Vec Ideal S1x512 .f32) : View.PiecesOf (G17 m c t Z) (L17 m c t Z) := by
  refine ⟨fun x => ?_, fun x => ?_, fun x => ?_, fun x => ?_, trivial⟩
  all_goals idx_vars x; obtain rfl : x0 = 0 := Subsingleton.elim _ _
  · refine (ps3 m c t Z x1).trans (congrArg (G17 m c t Z) (?_ : ix2 0 (gcol 3 x1) = _))
    blk_ext [gcol]
  · refine (ps2 m c t Z x1).trans (congrArg (G17 m c t Z) (?_ : ix2 0 (gcol 2 x1) = _))
    blk_ext [gcol]
  · refine (ps1 m c t Z x1).trans (congrArg (G17 m c t Z) (?_ : ix2 0 (gcol 1 x1) = _))
    blk_ext [gcol]
  · refine (ps0 m c t Z x1).trans (congrArg (G17 m c t Z) (?_ : ix2 0 (gcol 0 x1) = _))
    blk_ext [gcol]

theorem pcs13 (t : Fin cfg0.N) (Z : Vec Ideal S4x1024x512 .f32) (X0 X1 X2 X3 : Vec Ideal S1x512x512 .bf16) (h0 : ∀ p l, X0 (ix3 0 p l) = dp m c 0 l (row t p))
    (h1 : ∀ p l, X1 (ix3 0 p l) = dp m c 1 l (row t p)) (h2 : ∀ p l, X2 (ix3 0 p l) = dp m c 2 l (row t p)) (h3 : ∀ p l, X3 (ix3 0 p l) = dp m c 3 l (row t p)) :
    View.PiecesOf (G13 m c t Z) (L13 m c t Z X0 X1 X2 X3) := by
  refine ⟨fun x => ?_, fun x => ?_, fun x => ?_, fun x => ?_, trivial⟩
  all_goals idx_vars x; obtain rfl : x0 = 0 := Subsingleton.elim _ _
  · refine (wi3 m c t Z X3 h3 x1 x2).trans (congrArg (G13 m c t Z) (?_ : ix3 3 x1 x2 = _))
    blk_ext []
  · refine (wi2 m c t Z X2 h2 x1 x2).trans (congrArg (G13 m c t Z) (?_ : ix3 2 x1 x2 = _))
    blk_ext []
  · refine (wi1 m c t Z X1 h1 x1 x2).trans (congrArg (G13 m c t Z) (?_ : ix3 1 x1 x2 = _))
    blk_ext []
  · refine (wi0 m c t Z X0 h0 x1 x2).trans (congrArg (G13 m c t Z) (?_ : ix3 0 x1 x2 = _))
    blk_ext []

end Cert.EvenGradIdeal.Arr

end

end
-- ==== Proof.EvenGrad.Points.lean ====
module

public import proofs.«01_k».proof.Proof.EvenGrad.Blocks
public import proofs.«01_k».proof.Proof.EvenGrad.Pool
public import proofs.«01_k».proof.Proof.EvenGrad.Steps
public import Idealize.ShloMosaic.Lib.Pipeline.ValueKit
public import Idealize.ShloMosaic.Lib.Pipeline.ReadBack

@[expose] public section

set_option maxRecDepth 16384

/-! # The carried outputs, point after point -/

noncomputable section

namespace Cert.EvenGradIdeal.Arr

open Cert.EvenGradIdeal Cert.EvenGradIdeal.Gen Idealize.ShloMosaic Idealize.ShloMosaic.TcCoe Idealize.SL.Sem

variable (m : (ℓ : Loc nD τ sig) → Buf (Elt Ideal) ℓ) (c : Dev nD)

theorem t15A (t : Fin cfg0.N) (h0 : t.val % 8 = 0) : (outsAt0 m c t.val t.isLt).2.2.2.1 = G15 m c t (k0_pay4 (F := Ideal)) := by
  rw [outsAt0_A m c t h0]
  frame_open
  simp (disch := decide) only [↓ View.readCov_skip, ↓ View.readCov_cons_toLoadRect, ↓ View.readCov_fill]
  frame_out
  funext y
  exact View.canon_append_of_piecesOf (G15 m c t (k0_pay4 (F := Ideal))) [_] (L15 m c t (k0_pay4 (F := Ideal))) (pcs15 m c t (k0_pay4 (F := Ideal))) y (View.cover_of_tiledBy _ ![1, 512] (by sl_kernel_rfl) y)

theorem t15B (t : Fin cfg0.N) (h0 : ¬t.val % 8 = 0) : (outsAt0 m c t.val t.isLt).2.2.2.1 = G15 m c t (outsAt0 m c (t.val - 1) (by omega)).2.2.2.1 := by
  rw [outsAt0_B m c t h0]
  frame_open
  simp (disch := decide) only [↓ View.readCov_skip, ↓ View.readCov_cons_toLoadRect, ↓ View.readCov_fill]
  frame_out
  funext y
  exact View.canon_append_of_piecesOf (G15 m c t _) [] (L15 m c t _) (pcs15 m c t _) y (View.cover_of_tiledBy _ ![1, 512] (by sl_kernel_rfl) y)

theorem t16A (t : Fin cfg0.N) (h0 : t.val % 8 = 0) : (outsAt0 m c t.val t.isLt).2.2.2.2.1 = G16 m c t (k0_pay5 (F := Ideal)) := by
  rw [outsAt0_A m c t h0]
  frame_open
  simp (disch := decide) only [↓ View.readCov_skip, ↓ View.readCov_cons_toLoadRect, ↓ View.readCov_fill]
  frame_out
  funext y
  exact View.canon_append_of_piecesOf (G16 m c t (k0_pay5 (F := Ideal))) [_] (L16 m c t (k0_pay5 (F := Ideal))) (pcs16 m c t (k0_pay5 (F := Ideal))) y (View.cover_of_tiledBy _ ![1, 128, 128] (by sl_kernel_rfl) y)

theorem t16B (t : Fin cfg0.N) (h0 : ¬t.val % 8 = 0) : (outsAt0 m c t.val t.isLt).2.2.2.2.1 = G16 m c t (outsAt0 m c (t.val - 1) (by omega)).2.2.2.2.1 := by
  rw [outsAt0_B m c t h0]
  frame_open
  simp (disch := decide) only [↓ View.readCov_skip, ↓ View.readCov_cons_toLoadRect, ↓ View.readCov_fill]
  frame_out
  funext y
  exact View.canon_append_of_piecesOf (G16 m c t _) [] (L16 m c t _) (pcs16 m c t _) y (View.cover_of_tiledBy _ ![1, 128, 128] (by sl_kernel_rfl) y)

theorem t17A (t : Fin cfg0.N) (h0 : t.val % 8 = 0) : (outsAt0 m c t.val t.isLt).2.2.2.2.2 = G17 m c t (k0_pay6 (F := Ideal)) := by
  rw [outsAt0_A m c t h0]
  frame_open
  simp (disch := decide) only [↓ View.readCov_skip, ↓ View.readCov_cons_toLoadRect, ↓ View.readCov_fill]
  frame_out
  funext y
  exact View.canon_append_of_piecesOf (G17 m c t (k0_pay6 (F := Ideal))) [_] (L17 m c t (k0_pay6 (F := Ideal))) (pcs17 m c t (k0_pay6 (F := Ideal))) y (View.cover_of_tiledBy _ ![1, 128] (by sl_kernel_rfl) y)

theorem t17B (t : Fin cfg0.N) (h0 : ¬t.val % 8 = 0) : (outsAt0 m c t.val t.isLt).2.2.2.2.2 = G17 m c t (outsAt0 m c (t.val - 1) (by omega)).2.2.2.2.2 := by
  rw [outsAt0_B m c t h0]
  frame_open
  simp (disch := decide) only [↓ View.readCov_skip, ↓ View.readCov_cons_toLoadRect, ↓ View.readCov_fill]
  frame_out
  funext y
  exact View.canon_append_of_piecesOf (G17 m c t _) [] (L17 m c t _) (pcs17 m c t _) y (View.cover_of_tiledBy _ ![1, 128] (by sl_kernel_rfl) y)

theorem t14A (t : Fin cfg0.N) (h0 : t.val % 8 = 0) : (outsAt0 m c t.val t.isLt).2.2.1 = G14 m c t (k0_pay3 (F := Ideal)) := by
  rw [outsAt0_A m c t h0]
  frame_out
  funext y
  idx_vars y
  exact wo m c t _ y0 y1

theorem t14B (t : Fin cfg0.N) (h0 : ¬t.val % 8 = 0) : (outsAt0 m c t.val t.isLt).2.2.1 = G14 m c t (outsAt0 m c (t.val - 1) (by omega)).2.2.1 := by
  rw [outsAt0_B m c t h0]
  frame_out
  funext y
  idx_vars y
  exact wo m c t _ y0 y1

/-- The last block of `dp`, read back from the first output. -/
theorem back12 (t : Fin cfg0.N) (v : View sig .tc .vmem S4x512x512 .bf16) (p : Fin 512) (l : Fin 512) :
    (v.readCov (L12 m c t) (Rect.unit (s := S4x512x512) ![3, 0, 0] S1x512x512.size inb_S4x512x512_S1x512x512_3_0_0).toLoadRect : Vec Ideal S1x512x512 .bf16) (ix3 0 p l) = dp m c 3 l (row t p) := by
  rw [View.readCov_eq_canon', fill12]
  exact (G12_at m c t _ 3 p l rfl (by simp) (by simp)).symm

theorem t13A (t : Fin cfg0.N) (h0 : t.val % 8 = 0) : (outsAt0 m c t.val t.isLt).2.1 = G13 m c t (k0_pay2 (F := Ideal)) := by
  rw [outsAt0_A m c t h0]
  frame_open
  simp (disch := decide) only [↓ View.readCov_skip, ↓ View.readCov_cons_toLoadRect, ↓ View.readCov_fill]
  frame_out
  funext y
  exact View.canon_append_of_piecesOf (G13 m c t (k0_pay2 (F := Ideal))) [_] (L13 m c t (k0_pay2 (F := Ideal)) _ _ _ _) (pcs13 m c t (k0_pay2 (F := Ideal)) _ _ _ _ (fun p l => (st0 m c t p l).trans (by simp [dp]))
    (fun p l => (st1 m c t p l).trans (by simp [dp])) (fun p l => (st2 m c t p l).trans (by simp [dp])) (back12 m c t _)) y
    (View.cover_of_tiledBy _ ![1, 1024, 512] (by sl_kernel_rfl) y)

theorem t13B (t : Fin cfg0.N) (h0 : ¬t.val % 8 = 0) : (outsAt0 m c t.val t.isLt).2.1 = G13 m c t (outsAt0 m c (t.val - 1) (by omega)).2.1 := by
  rw [outsAt0_B m c t h0]
  frame_open
  simp (disch := decide) only [↓ View.readCov_skip, ↓ View.readCov_cons_toLoadRect, ↓ View.readCov_fill]
  frame_out
  funext y
  exact View.canon_append_of_piecesOf (G13 m c t _) [] (L13 m c t _ _ _ _ _) (pcs13 m c t _ _ _ _ _ (fun p l => (st0 m c t p l).trans (by simp [dp]))
    (fun p l => (st1 m c t p l).trans (by simp [dp])) (fun p l => (st2 m c t p l).trans (by simp [dp])) (back12 m c t _)) y
    (View.cover_of_tiledBy _ ![1, 1024, 512] (by sl_kernel_rfl) y)

end Cert.EvenGradIdeal.Arr

end

end
-- ==== Proof.EvenGrad.Array.lean ====
module

public import proofs.«01_k».proof.Proof.EvenGrad.Blocks
public import proofs.«01_k».proof.Proof.EvenGrad.Pool
public import proofs.«01_k».proof.Proof.EvenGrad.Points
public import Idealize.ShloMosaic.Lib.Pipeline.ValueKit
public import Idealize.ShloMosaic.Lib.Pipeline.ReadBack

@[expose] public section

set_option maxRecDepth 16384

/-! # The six arrays the kernel leaves -/

noncomputable section

namespace Cert.EvenGradIdeal.Arr

open Cert.EvenGradIdeal Cert.EvenGradIdeal.Gen Idealize.ShloMosaic Idealize.ShloMosaic.TcCoe Idealize.SL.Sem

variable (m : (ℓ : Loc nD τ sig) → Buf (Elt Ideal) ℓ) (c : Dev nD)

theorem arr12 : (dats m 0 c).arrAt 12 cfg0.N = fun i => dp m c (i 0) (i 2) (i 1) := by
  refine (dats m 0 c).arrAt_eq_of_covers 12 _ (by decide +kernel) fun t hf y => ?_
  blk_simp
  rw [after0_12]
  have e : (outsAt0 m c t.val t.isLt).1 = G12 m c t := by
    by_cases h0 : t.val % 8 = 0
    · exact t12A m c t h0
    · exact t12B m c t h0
  rw [e]
  idx_vars y
  have e0 : (((View.whole main_v123_0).slice (win0_12.rect t)).emb (ix3 y0 y1 y2)) = ix3 y0 (row t y1) y2 := by
    unfold row
    blk_ext [idx t]
  rw [e0]
  rfl

theorem arr13 : (dats m 0 c).arrAt 13 cfg0.N = fun j => ∑ R, T13 m c (j 0) (j 1) (j 2) R := by
  refine (dats m 0 c).arrAt_eq_of_after_last 13 t0_7 (by decide +kernel) _ fun j => ?_
  blk_simp
  rw [after0_13]
  refine (Pipeline.eq_sum_fin_of_reset_step_apply_last (fun n h => (outsAt0 m c n h).2.1) 8 (fun _ => (0 : EReal))
    (fun t j => ∑ p, T13 m c (j 0) (j 1) (j 2) (row t p)) (fun t h j => ?_) (fun t h j => ?_) (by decide) t0_7 rfl j).trans ?_
  · rw [t13A m c t h]
    refine congrArg (· + _) ?_
    unfold k0_pay2
    pointwise
  · exact congrFun (t13B m c t h) j
  · rw [zero_add]
    exact Fin.sum_mul_add_congr (S := 8) (n := 512) (f := fun r => T13 m c (j 0) (j 1) (j 2) r) fun s k _ => rfl

theorem arr14 : (dats m 0 c).arrAt 14 cfg0.N = fun j => ∑ R, T14 m c (j 0) (j 1) R := by
  refine (dats m 0 c).arrAt_eq_of_after_last 14 t0_7 (by decide +kernel) _ fun j => ?_
  blk_simp
  rw [after0_14]
  refine (Pipeline.eq_sum_fin_of_reset_step_apply_last (fun n h => (outsAt0 m c n h).2.2.1) 8 (fun _ => (0 : EReal))
    (fun t j => ∑ p, T14 m c (j 0) (j 1) (row t p)) (fun t h j => ?_) (fun t h j => ?_) (by decide) t0_7 rfl j).trans ?_
  · rw [t14A m c t h]
    refine congrArg (· + _) ?_
    unfold k0_pay3
    pointwise
  · exact congrFun (t14B m c t h) j
  · rw [zero_add]
    exact Fin.sum_mul_add_congr (S := 8) (n := 512) (f := fun r => T14 m c (j 0) (j 1) r) fun s k _ => rfl

theorem arr15 : (dats m 0 c).arrAt 15 cfg0.N = fun j => ∑ R, T15 m c (j 0) (j 1) R := by
  refine (dats m 0 c).arrAt_eq_of_after_last 15 t0_7 (by decide +kernel) _ fun j => ?_
  blk_simp
  rw [after0_15]
  refine (Pipeline.eq_sum_fin_of_reset_step_apply_last (fun n h => (outsAt0 m c n h).2.2.2.1) 8 (fun _ => (0 : EReal))
    (fun t j => ∑ p, T15 m c (j 0) (j 1) (row t p)) (fun t h j => ?_) (fun t h j => ?_) (by decide) t0_7 rfl j).trans ?_
  · rw [t15A m c t h]
    refine congrArg (· + _) ?_
    unfold k0_pay4
    pointwise
  · exact congrFun (t15B m c t h) j
  · rw [zero_add]
    exact Fin.sum_mul_add_congr (S := 8) (n := 512) (f := fun r => T15 m c (j 0) (j 1) r) fun s k _ => rfl

theorem arr16 : (dats m 0 c).arrAt 16 cfg0.N = fun j => ∑ R, T16 m c (j 0) (j 1) (j 2) R := by
  refine (dats m 0 c).arrAt_eq_of_after_last 16 t0_7 (by decide +kernel) _ fun j => ?_
  blk_simp
  rw [after0_16]
  refine (Pipeline.eq_sum_fin_of_reset_step_apply_last (fun n h => (outsAt0 m c n h).2.2.2.2.1) 8 (fun _ => (0 : EReal))
    (fun t j => ∑ p, T16 m c (j 0) (j 1) (j 2) (row t p)) (fun t h j => ?_) (fun t h j => ?_) (by decide) t0_7 rfl j).trans ?_
  · rw [t16A m c t h]
    refine congrArg (· + _) ?_
    unfold k0_pay5
    pointwise
  · exact congrFun (t16B m c t h) j
  · rw [zero_add]
    exact Fin.sum_mul_add_congr (S := 8) (n := 512) (f := fun r => T16 m c (j 0) (j 1) (j 2) r) fun s k _ => rfl

theorem arr17 : (dats m 0 c).arrAt 17 cfg0.N = fun j => ∑ R, T17 m c (j 1) R := by
  refine (dats m 0 c).arrAt_eq_of_after_last 17 t0_7 (by decide +kernel) _ fun j => ?_
  blk_simp
  rw [after0_17]
  refine (Pipeline.eq_sum_fin_of_reset_step_apply_last (fun n h => (outsAt0 m c n h).2.2.2.2.2) 8 (fun _ => (0 : EReal))
    (fun t j => ∑ p, T17 m c (j 1) (row t p)) (fun t h j => ?_) (fun t h j => ?_) (by decide) t0_7 rfl j).trans ?_
  · rw [t17A m c t h]
    refine congrArg (· + _) ?_
    unfold k0_pay6
    pointwise
  · exact congrFun (t17B m c t h) j
  · rw [zero_add]
    exact Fin.sum_mul_add_congr (S := 8) (n := 512) (f := fun r => T17 m c (j 1) r) fun s k _ => rfl

end Cert.EvenGradIdeal.Arr

end

end
-- ==== Proof.HostReads.lean ====
module

public import proofs.«01_k».proof.Proof.Halo
public import Idealize.ShloMosaic.Lib.Pipeline.ValueKit
public import Idealize.ShloMosaic.Lib.KernelVsHost

@[expose] public section

set_option maxRecDepth 16384

/-! # Running sums along the rows, as a host program writes them -/

noncomputable section

namespace Step

open Idealize.ShloMosaic

theorem foldl_add {ι : Type} (l : List ι) (e : ι → EReal) (v : EReal) : l.foldl (fun r n => r + e n) v = v + (l.map e).sum := by
  induction l generalizing v with
  | nil => simp
  | cons a l ih => rw [List.foldl_cons, ih, List.map_cons, List.sum_cons, add_assoc]

/-- The shape of a window as high as the array, one column wide. -/
abbrev colShape (n : ℕ) : Shape := ⟨3, ![n, 1, 1]⟩

theorem numel_col3 (n : ℕ) : (colShape n).numel = n := by
  refine (Fin.prod_univ_three _).trans ?_
  show n * 1 * 1 = n
  omega

theorem col3_pos (n : ℕ) (k : Fin (colShape n).numel) : ((colShape n).rowMajor.symm k 0).val = k.val
    ∧ ((colShape n).rowMajor.symm k 1).val = 0 ∧ ((colShape n).rowMajor.symm k 2).val = 0 := by
  have e := congrArg Fin.val ((colShape n).rowMajor.apply_symm_apply k)
  rw [← e]
  generalize (colShape n).rowMajor.symm k = i
  have h1 : (i 1).val < 1 := (i 1).isLt
  have h2 : (i 2).val < 1 := (i 2).isLt
  refine ⟨?_, by omega, by omega⟩
  rw [Shape.rowMajor_val_three i]
  show (i 0).val = ((i 0).val * 1 + (i 1).val) * 1 + (i 2).val
  omega

/-- A window sum as high as the array, as one sum over the window. -/
theorem window_sum {A L H B C : ℕ} (x : FVec Ideal ⟨3, ![A, B, C]⟩ .f32) (init : FVec Ideal ⟨0, ![]⟩ .f32) (hinit : ∀ i, init i = 0)
    (h : (⟨3, ![A, B, C]⟩ : Shape).ReduceWindows ![A, 1, 1] ![1, 1, 1] ![L, 0, 0] ![H, 0, 0] ⟨3, ![A, B, C]⟩) (hu : 0 < (⟨0, ![]⟩ : Shape).numel)
    (j : (⟨3, ![A, B, C]⟩ : Shape).Idx) :
    (Host.reduceWindowAdd ![A, 1, 1] ![1, 1, 1] ![L, 0, 0] ![H, 0, 0] x init h hu : FVec Ideal ⟨3, ![A, B, C]⟩ .f32) j
      = ∑ n : Fin (colShape A).numel, (
          let p : Fin 3 → ℕ := fun a => (j a).val * (![1, 1, 1] : Fin 3 → ℕ) a + ((colShape A).rowMajor.symm n a).val
          if hin : ∀ a, (![L, 0, 0] : Fin 3 → ℕ) a ≤ p a ∧ p a - (![L, 0, 0] : Fin 3 → ℕ) a < (⟨3, ![A, B, C]⟩ : Shape).size a then
            x (fun a => ⟨p a - (![L, 0, 0] : Fin 3 → ℕ) a, (hin a).2⟩) else (0 : EReal)) := by
  have hv : init (Shape.Idx.first hu) = 0 := hinit _
  refine (foldl_add _ _ _).trans ?_
  rw [Fin.sum_univ_def]
  show init _ + _ = _
  rw [hv, zero_add]
  refine congrArg List.sum (List.map_congr_left fun n _ => ?_)
  dsimp only
  split
  · next hin =>
    split
    · rfl
    · next hn => exact absurd hin hn
  · next hin =>
    split
    · next hn => exact absurd hn hin
    · rfl

/-- A running sum from the top, at row `R`: the sum of the rows up to and including it. -/
theorem cumsum_down {B C : ℕ} (x : FVec Ideal ⟨3, ![4096, B, C]⟩ .f32) (init : FVec Ideal ⟨0, ![]⟩ .f32) (hinit : ∀ i, init i = 0)
    (h : (⟨3, ![4096, B, C]⟩ : Shape).ReduceWindows ![4096, 1, 1] ![1, 1, 1] ![4095, 0, 0] ![0, 0, 0] ⟨3, ![4096, B, C]⟩) (hu : 0 < (⟨0, ![]⟩ : Shape).numel)
    (R : Fin 4096) (g : Fin B) (q : Fin C) :
    (Host.reduceWindowAdd ![4096, 1, 1] ![1, 1, 1] ![4095, 0, 0] ![0, 0, 0] x init h hu : FVec Ideal ⟨3, ![4096, B, C]⟩ .f32) (ix3 R g q)
      = ∑ k ∈ Finset.range 4096, back (fun S => x (ix3 S g q)) R.val k := by
  rw [window_sum x init hinit]
  refine (Fintype.sum_equiv (finCongr (numel_col3 4096)) _ (fun n : Fin 4096 => back (fun S => x (ix3 S g q)) R.val (4096 - 1 - n.val)) fun n => ?_).trans ?_
  · obtain ⟨w0, w1, w2⟩ := col3_pos 4096 n
    have hn : n.val < 4096 := (finCongr (numel_col3 4096) n).isLt
    have hR := R.isLt
    show (if hin : _ then _ else _) = back _ R.val (4096 - 1 - n.val)
    unfold back
    split
    · next hin =>
      have h0 := hin 0
      change 4095 ≤ R.val * 1 + ((colShape 4096).rowMajor.symm n 0).val ∧ R.val * 1 + ((colShape 4096).rowMajor.symm n 0).val - 4095 < 4096 at h0
      rw [w0] at h0
      rw [if_pos (by omega), ext_of_lt _ _ (by omega)]
      refine congrArg x (funext fun a => Fin.ext ?_)
      match a with
      | ⟨0, _⟩ =>
        show R.val * 1 + ((colShape 4096).rowMajor.symm n 0).val - 4095 = R.val - (4096 - 1 - n.val)
        rw [w0]; omega
      | ⟨1, _⟩ =>
        show g.val * 1 + ((colShape 4096).rowMajor.symm n 1).val - 0 = g.val
        rw [w1]; omega
      | ⟨2, _⟩ =>
        show q.val * 1 + ((colShape 4096).rowMajor.symm n 2).val - 0 = q.val
        rw [w2]; omega
    · next hin =>
      rw [if_neg fun hle => hin fun a => by
        match a with
        | ⟨0, _⟩ =>
          show 4095 ≤ R.val * 1 + ((colShape 4096).rowMajor.symm n 0).val ∧ R.val * 1 + ((colShape 4096).rowMajor.symm n 0).val - 4095 < 4096
          rw [w0]; omega
        | ⟨1, _⟩ =>
          show 0 ≤ g.val * 1 + ((colShape 4096).rowMajor.symm n 1).val ∧ g.val * 1 + ((colShape 4096).rowMajor.symm n 1).val - 0 < B
          rw [w1]; have := g.isLt; omega
        | ⟨2, _⟩ =>
          show 0 ≤ q.val * 1 + ((colShape 4096).rowMajor.symm n 2).val ∧ q.val * 1 + ((colShape 4096).rowMajor.symm n 2).val - 0 < C
          rw [w2]; have := q.isLt; omega]
  · rw [Fin.sum_univ_eq_sum_range (fun n => back (fun S => x (ix3 S g q)) R.val (4096 - 1 - n)) 4096]
    exact Finset.sum_range_reflect (fun k => back (fun S => x (ix3 S g q)) R.val k) 4096

/-- A running sum from the bottom, at row `R`: the sum of the rows from it on. -/
theorem cumsum_up {B C : ℕ} (x : FVec Ideal ⟨3, ![4096, B, C]⟩ .f32) (init : FVec Ideal ⟨0, ![]⟩ .f32) (hinit : ∀ i, init i = 0)
    (h : (⟨3, ![4096, B, C]⟩ : Shape).ReduceWindows ![4096, 1, 1] ![1, 1, 1] ![0, 0, 0] ![4095, 0, 0] ⟨3, ![4096, B, C]⟩) (hu : 0 < (⟨0, ![]⟩ : Shape).numel)
    (R : Fin 4096) (g : Fin B) (q : Fin C) :
    (Host.reduceWindowAdd ![4096, 1, 1] ![1, 1, 1] ![0, 0, 0] ![4095, 0, 0] x init h hu : FVec Ideal ⟨3, ![4096, B, C]⟩ .f32) (ix3 R g q)
      = ∑ k ∈ Finset.range 4096, fwd (fun S => x (ix3 S g q)) R.val k := by
  rw [window_sum x init hinit]
  refine (Fintype.sum_equiv (finCongr (numel_col3 4096)) _ (fun n : Fin 4096 => fwd (fun S => x (ix3 S g q)) R.val n.val) fun n => ?_).trans ?_
  · obtain ⟨w0, w1, w2⟩ := col3_pos 4096 n
    have hn : n.val < 4096 := (finCongr (numel_col3 4096) n).isLt
    have hR := R.isLt
    show (if hin : _ then _ else _) = fwd _ R.val n.val
    unfold fwd ext
    split
    · next hin =>
      have h0 := hin 0
      change 0 ≤ R.val * 1 + ((colShape 4096).rowMajor.symm n 0).val ∧ R.val * 1 + ((colShape 4096).rowMajor.symm n 0).val - 0 < 4096 at h0
      rw [w0] at h0
      rw [dif_pos (by omega)]
      refine congrArg x (funext fun a => Fin.ext ?_)
      match a with
      | ⟨0, _⟩ =>
        show R.val * 1 + ((colShape 4096).rowMajor.symm n 0).val - 0 = R.val + n.val
        rw [w0]; omega
      | ⟨1, _⟩ =>
        show g.val * 1 + ((colShape 4096).rowMajor.symm n 1).val - 0 = g.val
        rw [w1]; omega
      | ⟨2, _⟩ =>
        show q.val * 1 + ((colShape 4096).rowMajor.symm n 2).val - 0 = q.val
        rw [w2]; omega
    · next hin =>
      rw [dif_neg fun hle => hin fun a => by
        match a with
        | ⟨0, _⟩ =>
          show 0 ≤ R.val * 1 + ((colShape 4096).rowMajor.symm n 0).val ∧ R.val * 1 + ((colShape 4096).rowMajor.symm n 0).val - 0 < 4096
          rw [w0]; omega
        | ⟨1, _⟩ =>
          show 0 ≤ g.val * 1 + ((colShape 4096).rowMajor.symm n 1).val ∧ g.val * 1 + ((colShape 4096).rowMajor.symm n 1).val - 0 < B
          rw [w1]; have := g.isLt; omega
        | ⟨2, _⟩ =>
          show 0 ≤ q.val * 1 + ((colShape 4096).rowMajor.symm n 2).val ∧ q.val * 1 + ((colShape 4096).rowMajor.symm n 2).val - 0 < C
          rw [w2]; have := q.isLt; omega]
  · exact Fin.sum_univ_eq_sum_range (fun n => fwd (fun S => x (ix3 S g q)) R.val n) 4096

/-! ## Differences of running sums are window sums -/

theorem back_shift (f : Fin 4096 → EReal) (R w k : ℕ) (h : w ≤ R) : back f R (w + k) = back f (R - w) k := by
  unfold back
  by_cases hk : w + k ≤ R
  · rw [if_pos hk, if_pos (by omega)]; congr 1; omega
  · rw [if_neg hk, if_neg (by omega)]

theorem back_far (f : Fin 4096 → EReal) (R k : ℕ) (h : R < k) : back f R k = 0 := by
  unfold back; rw [if_neg (by omega)]

theorem fwd_shift (f : Fin 4096 → EReal) (R w k : ℕ) : fwd f R (w + k) = fwd f (R + w) k := by
  unfold fwd; congr 1; omega

theorem fwd_far (f : Fin 4096 → EReal) (R k : ℕ) (h : 4096 ≤ R + k) : fwd f R k = 0 := ext_of_le _ _ h

/-- Rows read after zero rows were put in front. -/
theorem back_dif (f : Fin 4096 → EReal) (R : Fin 4096) (n w k : ℕ) (hn : n + k = R.val + w) (pf : ¬n < w → n - w < 4096) :
    (if h : n < w then (0 : EReal) else f ⟨n - w, pf h⟩) = back f R.val k := by
  have hR := R.isLt
  unfold back
  by_cases h : n < w
  · rw [dif_pos h, if_neg (by omega)]
  · rw [dif_neg h, if_pos (by omega), ext_of_lt _ _ (by omega)]
    exact congrArg f (Fin.ext (by show n - w = R.val - k; omega))

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.sum {ι : Type*} (s : Finset ι) (f : ι → EReal) (hf : ∀ i, IsReal (f i)) : IsReal (∑ i ∈ s, f i) := by
  classical
  induction s using Finset.induction_on with
  | empty => exact IsReal.zero
  | insert a s ha ih => rw [Finset.sum_insert ha]; exact (hf a).add ih

theorem IsReal.ext {f : Fin 4096 → EReal} (hf : ∀ R, IsReal (f R)) (n : ℕ) : IsReal (ext f n) := by
  unfold Step.ext; split
  · exact hf _
  · exact IsReal.zero

theorem IsReal.back {f : Fin 4096 → EReal} (hf : ∀ R, IsReal (f R)) (R k : ℕ) : IsReal (back f R k) := by
  unfold Step.back; split
  · exact IsReal.ext hf _
  · exact IsReal.zero

theorem IsReal.div_cnt {x : EReal} (hx : IsReal x) (n R : ℕ) (hn : 0 < n) : IsReal (Ideal.div x (cnt n R)) := by
  rw [Step.div_cnt n R hn]; exact hx.mul (IsReal.coe _)

theorem IsReal.add_sub {x y : EReal} (hy : IsReal y) : x + y - y = x := by
  obtain ⟨r, rfl⟩ := hy; exact EReal.add_sub_cancel_right

/-- The scale of a row is a real number whatever the row. -/
theorem rs_real (h : Fin 1024 → EReal) : IsReal (rs h) := by
  rcases ms_cases h with ⟨_, h0⟩ | ⟨_, _, ρ, _, _, _, _, _, hρ⟩
  · rw [h0]; exact IsReal.zero
  · exact ⟨ρ, hρ⟩

/-- A normed entry is a real number whatever the row. -/
theorem normed_real (h : Fin 1024 → EReal) (l : Fin 1024) : IsReal (h l * rs h) := by
  rcases ms_cases h with ⟨_, h0⟩ | ⟨η, _, ρ, hη, _, _, _, _, hρ⟩
  · rw [h0, mul_zero]; exact IsReal.zero
  · rw [hη, hρ]; exact (IsReal.coe _).mul (IsReal.coe _)

/-- The running sum at `R` less the one `w` rows before is the sum over the last `w` rows. -/
theorem down_diff (f : Fin 4096 → EReal) (hf : ∀ R, IsReal (f R)) (R : Fin 4096) (w : ℕ) (hw : w ≤ 4096) :
    (∑ k ∈ Finset.range 4096, back f R.val k) - (if R.val < w then 0 else ∑ k ∈ Finset.range 4096, back f (R.val - w) k)
      = ∑ k ∈ Finset.range w, back f R.val k := by
  have hR := R.isLt
  have hs : ∀ F : ℕ → EReal, (∑ k ∈ Finset.range 4096, F k) = (∑ k ∈ Finset.range w, F k) + ∑ k ∈ Finset.range (4096 - w), F (w + k) := fun F => by
    rw [← Finset.sum_range_add, Nat.add_sub_cancel' hw]
  have e : (if R.val < w then 0 else ∑ k ∈ Finset.range 4096, back f (R.val - w) k) = ∑ k ∈ Finset.range (4096 - w), back f R.val (w + k) := by
    by_cases h : w ≤ R.val
    · rw [if_neg (by omega), ← Finset.sum_subset (Finset.range_subset_range.2 (Nat.sub_le 4096 w)) fun k _ hk => back_far f _ k (by
        rw [Finset.mem_range] at hk; omega)]
      exact Finset.sum_congr rfl fun k _ => (back_shift f _ _ _ h).symm
    · rw [if_pos (by omega)]
      exact (Finset.sum_eq_zero fun k _ => back_far f _ _ (by omega)).symm
  rw [hs, e]
  exact IsReal.add_sub (IsReal.sum _ _ fun k => IsReal.back hf _ _)

/-- The running sum from the bottom of an array less the same array moved up by `w` rows is the sum over the next `w` rows. -/
theorem up_diff (f : Fin 4096 → EReal) (hf : ∀ R, IsReal (f R)) (R : Fin 4096) (w : ℕ) (hw : w ≤ 4096) :
    (∑ k ∈ Finset.range 4096, fwd (fun S => f S + -(fwd f S.val w)) R.val k) = ∑ k ∈ Finset.range w, fwd f R.val k := by
  have e : ∀ k, fwd (fun S => f S + -(fwd f S.val w)) R.val k = fwd f R.val k + -(fwd f (R.val + w) k) := fun k => by
    unfold fwd
    by_cases h : R.val + k < 4096
    · rw [ext_of_lt _ _ h, ext_of_lt f _ h]
      exact congrArg (fun n => _ + -(ext f n)) (by show R.val + k + w = _; omega)
    · rw [ext_of_le _ _ (by omega), ext_of_le _ _ (by omega), ext_of_le _ _ (by omega), neg_zero, add_zero]
  rw [Finset.sum_congr rfl fun k _ => e k, Finset.sum_add_distrib]
  have neg : (∑ k ∈ Finset.range 4096, -(fwd f (R.val + w) k)) = -(∑ k ∈ Finset.range (4096 - w), fwd f R.val (w + k)) := by
    rw [← Finset.sum_subset (Finset.range_subset_range.2 (Nat.sub_le 4096 w)) fun k _ hk => by
        rw [fwd_far _ _ _ (by rw [Finset.mem_range] at hk; omega), neg_zero]]
    have hr : ∀ k, ∃ r : ℝ, fwd f (R.val + w) k = (r : EReal) := fun k => IsReal.ext hf _
    choose r hr using hr
    simp only [fwd_shift, hr, ← EReal.coe_neg, ← coe_sum, Finset.sum_neg_distrib]
  rw [neg]
  have hs : ∀ F : ℕ → EReal, (∑ k ∈ Finset.range 4096, F k) = (∑ k ∈ Finset.range w, F k) + ∑ k ∈ Finset.range (4096 - w), F (w + k) := fun F => by
    rw [← Finset.sum_range_add, Nat.add_sub_cancel' hw]
  rw [hs]
  exact IsReal.add_sub (IsReal.sum _ _ fun k => IsReal.ext hf _)

/-! ## The number of rows in a window, as the host counts it -/

theorem count_word (n : ℕ) (hn : n < 4096) : 1 + FloatOps.sitofp (F := Ideal) .f32 (BitVec.ofNat 32 n) = (((n + 1 : ℕ) : ℝ) : EReal) := by
  have e : (BitVec.ofNat 32 n).toInt = (n : ℤ) := by
    rw [BitVec.toInt_eq_toNat_of_lt (by rw [BitVec.toNat_ofNat]; omega), BitVec.toNat_ofNat, Nat.mod_eq_of_lt (by omega)]
  show 1 + ((((BitVec.ofNat 32 n).toInt : ℤ) : ℝ) : EReal) = _
  rw [e, show (1 : EReal) = ((1 : ℝ) : EReal) from rfl, ← EReal.coe_add]
  congr 1
  push_cast
  ring

theorem word2 : Ideal.ofBits .f32 1073741824#32 = (((2 : ℕ) : ℝ) : EReal) := by simp [Ideal.ofBits, Ideal.ieee, -EReal.coe_mul]; norm_num
theorem word4 : Ideal.ofBits .f32 1082130432#32 = (((4 : ℕ) : ℝ) : EReal) := by simp [Ideal.ofBits, Ideal.ieee, -EReal.coe_mul]; norm_num
theorem word8 : Ideal.ofBits .f32 1090519040#32 = (((8 : ℕ) : ℝ) : EReal) := by simp [Ideal.ofBits, Ideal.ieee, -EReal.coe_mul]; norm_num
theorem word16 : Ideal.ofBits .f32 1098907648#32 = (((16 : ℕ) : ℝ) : EReal) := by simp [Ideal.ofBits, Ideal.ieee, -EReal.coe_mul]; norm_num

/-- The pooled row from running sums. -/
theorem pool_of_sums (f : Fin 4096 → EReal) (hf : ∀ R, IsReal (f R)) (R : Fin 4096) (w : ℕ) (hw : w ≤ 4096) (z a b lit : EReal)
    (hz : z = f R) (ha : a = ∑ k ∈ Finset.range 4096, back f R.val k)
    (hb : b = if R.val < w then 0 else ∑ k ∈ Finset.range 4096, back f (R.val - w) k) (hl : lit = ((w : ℝ) : EReal)) :
    Ideal.div (a - b) (min (1 + FloatOps.sitofp (F := Ideal) .f32 (BitVec.ofNat 32 R.val)) lit) - z = pool w f R.val := by
  rw [ha, hb, down_diff f hf R w hw, hz, hl, count_word _ R.isLt, cnt_min]
  unfold pool
  rw [back_zero]

/-! ## A finite entry -/

/-- What the comparison of an absolute value with infinity says of an entry. -/
theorem real_of_abs_lt {x : EReal} (h : FloatOps.cmpf (F := Ideal) (φ := .f32) .olt (FloatOps.absf (F := Ideal) (φ := .f32) x) (FloatOps.ofBits (F := Ideal) (φ := .f32) 0x7F800000#32) = 1#1) : IsReal x := by
  have h1 : (Ideal.ofBits .f32 0x7F800000#32 : EReal) = ⊤ := by simp [Ideal.ofBits, Ideal.ieee]
  change BitVec.ofBool (decide (max x (-x) < Ideal.ofBits .f32 0x7F800000#32)) = 1#1 at h
  rw [h1] at h
  have h2 : max x (-x) < ⊤ := by
    by_contra hc
    rw [decide_eq_false hc] at h
    exact absurd h (by decide)
  rw [max_lt_iff] at h2
  induction x using EReal.rec with
  | bot => exact absurd h2.2 (by simp)
  | coe r => exact ⟨r, rfl⟩
  | top => exact absurd h2.1 (by simp)

end Step

end

end
-- ==== Proof.EvenGrad.RefFwd.lean ====
module

public import proofs.«01_k».proof.Proof.Gen.EvenGradRefIdeal.Read
public import proofs.«01_k».proof.Proof.HostReads

@[expose] public section

set_option maxRecDepth 16384

/-! # What the reference computes, entry by entry (the mixers' weight gradients): its forward lines -/

noncomputable section

namespace Cert.EvenGradRefIdeal.Read

open Cert.EvenGradRefIdeal Idealize.ShloMosaic Idealize.ShloMosaic.TcCoe Idealize.SL.Sem

section Defs

variable (x0 : Vec Ideal S4096x1024 .f32) (x1 : Vec Ideal S1024 .f32) (x2 : Vec Ideal S1024x2048 .f32) (x3 : Vec Ideal S3x512 .f32)
  (x4 : Vec Ideal S4x128x128 .f32) (x5 : Vec Ideal S512 .f32) (x6 : Vec Ideal S1024x1024 .f32) (x7 : Vec Ideal S4096x1024 .f32)

/-- The normalised input. -/
def xn (r : Fin 4096) (l : Fin 1024) : EReal := x0 (ix2 r l) * Step.rs (fun y => x0 (ix2 r y)) * x1 (ix1 l)

/-- Block `k` of the input projection. -/
def pr (k : Fin 4) (r : Fin 4096) (l : Fin 512) : EReal := ∑ x, xn x0 x1 r x * x2 (ix2 x ⟨k.val * 512 + l.val, by omega⟩)

/-- The input of the pooling mixer. -/
def zf (l : Fin 512) (R : Fin 4096) : EReal := pr x0 x1 x2 3 R l

/-- The input of the short convolution. -/
def cvf (l : Fin 512) (R : Fin 4096) : EReal := pr x0 x1 x2 1 R l * pr x0 x1 x2 2 R l

/-- The short convolution. -/
def cv (l : Fin 512) (R : Fin 4096) : EReal :=
  x3 (ix2 0 l) * Step.back (cvf x0 x1 x2 l) R.val 2 + x3 (ix2 1 l) * Step.back (cvf x0 x1 x2 l) R.val 1 + x3 (ix2 2 l) * Step.back (cvf x0 x1 x2 l) R.val 0

/-- Column `x` of group `g`. -/
def gcol (g : Fin 4) (x : Fin 128) : Fin 512 := ⟨g.val * 128 + x.val, by omega⟩

/-- The pooled input. -/
def pl (g : Fin 4) (x : Fin 128) (R : Fin 4096) : EReal := Step.pool (2 ^ (g.val + 1)) (zf x0 x1 x2 (gcol g x)) R.val

/-- The pooled input mixed within its group. -/
def mxd (g : Fin 4) (q : Fin 128) (R : Fin 4096) : EReal := ∑ x, pl x0 x1 x2 g x R * x4 (ix3 g x q)

/-- The two mixers' outputs side by side. -/
def mx (R : Fin 4096) (j : Fin 1024) : EReal :=
  if h : j.val < 512 then pr x0 x1 x2 0 R ⟨j.val, h⟩ * cv x0 x1 x2 x3 ⟨j.val, h⟩ R
  else mxd x0 x1 x2 x4 ⟨(j.val - 512) / 128, by omega⟩ ⟨(j.val - 512) % 128, by omega⟩ R * x5 (ix1 ⟨j.val - 512, by omega⟩)

/-- The gradient of the mixers' outputs. -/
def D (j : Fin 1024) (R : Fin 4096) : EReal := ∑ l, x7 (ix2 R l) * x6 (ix2 j l)

end Defs

theorem r12 (x0 : Vec Ideal S4096x1024 .f32) (x1 : Vec Ideal S1024 .f32) (r : Fin 4096) (l : Fin 1024) :
    val_main_v12 (F := Ideal) x0 x1 (ix2 r l) = xn x0 x1 r l := by
  pointwise [val_main_v12, val_main_v9, val_main_v8, val_main_v7, val_main_v6, val_main_v4, val_main_v2, val_main_v1, val_main_v0, val_main_cst, val_main_v3,
    val_main_cst_0, val_main_v5, val_main_cst_1, val_main_v11, val_main_v10]
  rfl

theorem r13 (x0 : Vec Ideal S4096x1024 .f32) (x1 : Vec Ideal S1024 .f32) (x2 : Vec Ideal S1024x2048 .f32) (k : Fin 4) (r : Fin 4096) (l : Fin 512) (j : Fin 2048) (hj : j.val = k.val * 512 + l.val) :
    val_main_v13 (F := Ideal) x0 x1 x2 (ix2 r j) = pr x0 x1 x2 k r l := by
  obtain ⟨j, hjl⟩ := j
  dsimp only at hj
  subst hj
  pointwise [val_main_v13]
  unfold pr
  exact Finset.sum_congr rfl fun x _ => by rw [r12]

theorem r14 (x0 : Vec Ideal S4096x1024 .f32) (x1 : Vec Ideal S1024 .f32) (x2 : Vec Ideal S1024x2048 .f32) (r : Fin 4096) (l : Fin 512) :
    val_main_v14 (F := Ideal) x0 x1 x2 (ix2 r l) = pr x0 x1 x2 0 r l := by
  pointwise [val_main_v14]
  exact r13 x0 x1 x2 0 r l _ (by simp)

theorem r15 (x0 : Vec Ideal S4096x1024 .f32) (x1 : Vec Ideal S1024 .f32) (x2 : Vec Ideal S1024x2048 .f32) (r : Fin 4096) (l : Fin 512) :
    val_main_v15 (F := Ideal) x0 x1 x2 (ix2 r l) = pr x0 x1 x2 1 r l := by
  pointwise [val_main_v15]
  exact r13 x0 x1 x2 1 r l _ (by simp)

theorem r16 (x0 : Vec Ideal S4096x1024 .f32) (x1 : Vec Ideal S1024 .f32) (x2 : Vec Ideal S1024x2048 .f32) (r : Fin 4096) (l : Fin 512) :
    val_main_v16 (F := Ideal) x0 x1 x2 (ix2 r l) = pr x0 x1 x2 2 r l := by
  pointwise [val_main_v16]
  exact r13 x0 x1 x2 2 r l _ (by simp)

theorem r42 (x0 : Vec Ideal S4096x1024 .f32) (x1 : Vec Ideal S1024 .f32) (x2 : Vec Ideal S1024x2048 .f32) (r : Fin 4096) (l : Fin 512) :
    val_main_v42 (F := Ideal) x0 x1 x2 (ix2 r l) = pr x0 x1 x2 3 r l := by
  pointwise [val_main_v42]
  exact r13 x0 x1 x2 3 r l _ (by simp)

theorem r17 (x0 : Vec Ideal S4096x1024 .f32) (x1 : Vec Ideal S1024 .f32) (x2 : Vec Ideal S1024x2048 .f32) (r : Fin 4096) (l : Fin 512) :
    val_main_v17 (F := Ideal) x0 x1 x2 (ix2 r l) = cvf x0 x1 x2 l r := by
  pointwise [val_main_v17]
  rw [r15, r16]; rfl

theorem r21 (x0 : Vec Ideal S4096x1024 .f32) (x1 : Vec Ideal S1024 .f32) (x2 : Vec Ideal S1024x2048 .f32) (r : Fin 4096) (l : Fin 512) :
    val_main_v21 (F := Ideal) x0 x1 x2 (ix2 r l) = Step.back (cvf x0 x1 x2 l) r.val 2 := by
  pointwise [val_main_v21, val_main_v19, val_main_v18, val_main_cst_2]
  rw [← Step.back_dif _ r r.val 2 2 (by omega) (by omega)]
  exact dite_congr rfl (fun _ => rfl) fun h => r17 x0 x1 x2 _ l

theorem r27 (x0 : Vec Ideal S4096x1024 .f32) (x1 : Vec Ideal S1024 .f32) (x2 : Vec Ideal S1024x2048 .f32) (r : Fin 4096) (l : Fin 512) :
    val_main_v27 (F := Ideal) x0 x1 x2 (ix2 r l) = Step.back (cvf x0 x1 x2 l) r.val 1 := by
  pointwise [val_main_v27, val_main_v19, val_main_v18, val_main_cst_2]
  rw [← Step.back_dif _ r (1 + r.val) 2 1 (by omega) (by omega)]
  exact dite_congr rfl (fun _ => rfl) fun h => r17 x0 x1 x2 _ l

theorem r34 (x0 : Vec Ideal S4096x1024 .f32) (x1 : Vec Ideal S1024 .f32) (x2 : Vec Ideal S1024x2048 .f32) (r : Fin 4096) (l : Fin 512) :
    val_main_v34 (F := Ideal) x0 x1 x2 (ix2 r l) = Step.back (cvf x0 x1 x2 l) r.val 0 := by
  pointwise [val_main_v34, val_main_v19, val_main_v18, val_main_cst_2]
  exact (r17 x0 x1 x2 r l).trans (Step.back_zero (cvf x0 x1 x2 l) r).symm

theorem r40 (x0 : Vec Ideal S4096x1024 .f32) (x1 : Vec Ideal S1024 .f32) (x2 : Vec Ideal S1024x2048 .f32) (x3 : Vec Ideal S3x512 .f32) (r : Fin 4096) (l : Fin 512) :
    val_main_v40 (F := Ideal) x0 x1 x2 x3 (ix2 r l) = cv x0 x1 x2 x3 l r := by
  pointwise [val_main_v40, val_main_v33, val_main_v26, val_main_v25, val_main_v24, val_main_v23, val_main_v22, val_main_v32, val_main_v31, val_main_v30,
    val_main_v29, val_main_v28, val_main_v39, val_main_v38, val_main_v37, val_main_v36, val_main_v35]
  rw [r21, r27, r34]
  unfold cv
  simp only [mul_comm]

theorem r43 (x0 : Vec Ideal S4096x1024 .f32) (x1 : Vec Ideal S1024 .f32) (x2 : Vec Ideal S1024x2048 .f32) (r : Fin 4096) (g : Fin 4) (q : Fin 128) :
    val_main_v43 (F := Ideal) x0 x1 x2 (ix3 r g q) = zf x0 x1 x2 (gcol g q) r := by
  pointwise [val_main_v43]
  exact r42 x0 x1 x2 r (gcol g q)

theorem r44 (x0 : Vec Ideal S4096x1024 .f32) (x1 : Vec Ideal S1024 .f32) (x2 : Vec Ideal S1024x2048 .f32) (r : Fin 4096) (g : Fin 4) (q : Fin 128) :
    val_main_v44 (F := Ideal) x0 x1 x2 (ix3 r g q) = ∑ k ∈ Finset.range 4096, Step.back (zf x0 x1 x2 (gcol g q)) r.val k := by
  unfold val_main_v44
  rw [Step.cumsum_down _ _ (fun i => by pointwise [val_main_call0_call0_v0, val_main_call0_call0_cst])]
  exact Finset.sum_congr rfl fun k _ => congrArg (fun f => Step.back f r.val k) (funext fun S => r43 x0 x1 x2 S g q)

theorem r62 (x0 : Vec Ideal S4096x1024 .f32) (x1 : Vec Ideal S1024 .f32) (x2 : Vec Ideal S1024x2048 .f32) (hz : ∀ l R, Step.IsReal (zf x0 x1 x2 l R)) (r : Fin 4096) (q : Fin 128) :
    val_main_v62 (F := Ideal) x0 x1 x2 (ix2 r q) = pl x0 x1 x2 0 q r := by
  pointwise [val_main_v62, val_main_v59, val_main_v57, val_main_v50, val_main_v49, val_main_v54, val_main_v52, val_main_v51, val_main_cst_5, val_main_v58,
    val_main_v56, val_main_v48, val_main_v47, val_main_v46, val_main_cst_4, val_main_v45, val_main_v55, val_main_cst_7, val_main_v61, val_main_v60]
  refine Step.pool_of_sums (zf x0 x1 x2 (gcol 0 q)) (hz _) r 2 (by omega) _ _ _ _ (r43 x0 x1 x2 r 0 q) (r44 x0 x1 x2 r 0 q) ?_ Step.word2
  exact dite_congr rfl (fun _ => rfl) fun h => r44 x0 x1 x2 _ 0 q

theorem r76 (x0 : Vec Ideal S4096x1024 .f32) (x1 : Vec Ideal S1024 .f32) (x2 : Vec Ideal S1024x2048 .f32) (hz : ∀ l R, Step.IsReal (zf x0 x1 x2 l R)) (r : Fin 4096) (q : Fin 128) :
    val_main_v76 (F := Ideal) x0 x1 x2 (ix2 r q) = pl x0 x1 x2 1 q r := by
  pointwise [val_main_v76, val_main_v73, val_main_v71, val_main_v64, val_main_v63, val_main_v68, val_main_v66, val_main_v65, val_main_cst_8, val_main_v72,
    val_main_v70, val_main_v48, val_main_v47, val_main_v46, val_main_cst_4, val_main_v45, val_main_v69, val_main_cst_10, val_main_v75, val_main_v74]
  refine Step.pool_of_sums (zf x0 x1 x2 (gcol 1 q)) (hz _) r 4 (by omega) _ _ _ _ (r43 x0 x1 x2 r 1 q) (r44 x0 x1 x2 r 1 q) ?_ Step.word4
  exact dite_congr rfl (fun _ => rfl) fun h => r44 x0 x1 x2 _ 1 q

theorem r90 (x0 : Vec Ideal S4096x1024 .f32) (x1 : Vec Ideal S1024 .f32) (x2 : Vec Ideal S1024x2048 .f32) (hz : ∀ l R, Step.IsReal (zf x0 x1 x2 l R)) (r : Fin 4096) (q : Fin 128) :
    val_main_v90 (F := Ideal) x0 x1 x2 (ix2 r q) = pl x0 x1 x2 2 q r := by
  pointwise [val_main_v90, val_main_v87, val_main_v85, val_main_v78, val_main_v77, val_main_v82, val_main_v80, val_main_v79, val_main_cst_11, val_main_v86,
    val_main_v84, val_main_v48, val_main_v47, val_main_v46, val_main_cst_4, val_main_v45, val_main_v83, val_main_cst_13, val_main_v89, val_main_v88]
  refine Step.pool_of_sums (zf x0 x1 x2 (gcol 2 q)) (hz _) r 8 (by omega) _ _ _ _ (r43 x0 x1 x2 r 2 q) (r44 x0 x1 x2 r 2 q) ?_ Step.word8
  exact dite_congr rfl (fun _ => rfl) fun h => r44 x0 x1 x2 _ 2 q

theorem r104 (x0 : Vec Ideal S4096x1024 .f32) (x1 : Vec Ideal S1024 .f32) (x2 : Vec Ideal S1024x2048 .f32) (hz : ∀ l R, Step.IsReal (zf x0 x1 x2 l R)) (r : Fin 4096) (q : Fin 128) :
    val_main_v104 (F := Ideal) x0 x1 x2 (ix2 r q) = pl x0 x1 x2 3 q r := by
  pointwise [val_main_v104, val_main_v101, val_main_v99, val_main_v92, val_main_v91, val_main_v96, val_main_v94, val_main_v93, val_main_cst_14, val_main_v100,
    val_main_v98, val_main_v48, val_main_v47, val_main_v46, val_main_cst_4, val_main_v45, val_main_v97, val_main_cst_16, val_main_v103, val_main_v102]
  refine Step.pool_of_sums (zf x0 x1 x2 (gcol 3 q)) (hz _) r 16 (by omega) _ _ _ _ (r43 x0 x1 x2 r 3 q) (r44 x0 x1 x2 r 3 q) ?_ Step.word16
  exact dite_congr rfl (fun _ => rfl) fun h => r44 x0 x1 x2 _ 3 q

theorem r109 (x0 : Vec Ideal S4096x1024 .f32) (x1 : Vec Ideal S1024 .f32) (x2 : Vec Ideal S1024x2048 .f32) (hz : ∀ l R, Step.IsReal (zf x0 x1 x2 l R)) (r : Fin 4096) (g : Fin 4) (q : Fin 128) :
    val_main_v109 (F := Ideal) x0 x1 x2 (ix3 r g q) = pl x0 x1 x2 g q r := by
  pointwise [val_main_v109, val_main_v105, val_main_v106, val_main_v107, val_main_v108]
  rw [r62 x0 x1 x2 hz, r76 x0 x1 x2 hz, r90 x0 x1 x2 hz, r104 x0 x1 x2 hz]
  match g with
  | 0 => rfl
  | 1 => rfl
  | 2 => rfl
  | 3 => rfl

theorem r112 (x0 : Vec Ideal S4096x1024 .f32) (x1 : Vec Ideal S1024 .f32) (x2 : Vec Ideal S1024x2048 .f32) (x4 : Vec Ideal S4x128x128 .f32) (hz : ∀ l R, Step.IsReal (zf x0 x1 x2 l R)) (r : Fin 4096) (l : Fin 512) :
    val_main_v112 (F := Ideal) x0 x1 x2 x4 (ix2 r l) = mxd x0 x1 x2 x4 ⟨l.val / 128, by omega⟩ ⟨l.val % 128, by omega⟩ r := by
  pointwise [val_main_v112, val_main_v111, val_main_v110]
  unfold mxd
  exact Finset.sum_congr rfl fun x _ => by rw [r109 x0 x1 x2 hz, mul_comm]

theorem r116 (x0 : Vec Ideal S4096x1024 .f32) (x1 : Vec Ideal S1024 .f32) (x2 : Vec Ideal S1024x2048 .f32) (x3 : Vec Ideal S3x512 .f32) (x4 : Vec Ideal S4x128x128 .f32) (x5 : Vec Ideal S512 .f32) (hz : ∀ l R, Step.IsReal (zf x0 x1 x2 l R)) (r : Fin 4096) (j : Fin 1024) :
    val_main_v116 (F := Ideal) x0 x1 x2 x3 x4 x5 (ix2 r j) = mx x0 x1 x2 x3 x4 x5 r j := by
  pointwise [val_main_v116, val_main_v41, val_main_v115, val_main_v114, val_main_v113]
  unfold mx
  exact dite_congr rfl (fun h => by rw [r14, r40]) fun h => by rw [r112 x0 x1 x2 x4 hz]

theorem r120 (x6 : Vec Ideal S1024x1024 .f32) (x7 : Vec Ideal S4096x1024 .f32) (r : Fin 4096) (j : Fin 1024) :
    val_main_v120 (F := Ideal) x6 x7 (ix2 r j) = D x6 x7 j r := by
  pointwise [val_main_v120]
  rfl

end Cert.EvenGradRefIdeal.Read

end

end
-- ==== Proof.EvenGrad.RefBwd.lean ====
module

public import proofs.«01_k».proof.Proof.EvenGrad.RefFwd

@[expose] public section

set_option maxRecDepth 16384

/-! # What the reference computes, entry by entry (the mixers' weight gradients): its backward lines -/

noncomputable section

namespace Cert.EvenGradRefIdeal.Read

open Cert.EvenGradRefIdeal Idealize.ShloMosaic Idealize.ShloMosaic.TcCoe Idealize.SL.Sem

section Defs

variable (x0 : Vec Ideal S4096x1024 .f32) (x1 : Vec Ideal S1024 .f32) (x2 : Vec Ideal S1024x2048 .f32) (x3 : Vec Ideal S3x512 .f32)
  (x4 : Vec Ideal S4x128x128 .f32) (x5 : Vec Ideal S512 .f32) (x6 : Vec Ideal S1024x1024 .f32) (x7 : Vec Ideal S4096x1024 .f32)

/-- The gradient of the convolution's output. -/
def dcc (l : Fin 512) (R : Fin 4096) : EReal := D x6 x7 ⟨l.val, by omega⟩ R * pr x0 x1 x2 0 R l

/-- The gradient of the mixed pooling output, column `x` of the four groups side by side. -/
def dmx (x : Fin 512) (R : Fin 4096) : EReal := D x6 x7 ⟨512 + x.val, by omega⟩ R * x5 (ix1 x)

/-- The gradient of the pooled input. -/
def dpo (g : Fin 4) (q : Fin 128) (R : Fin 4096) : EReal := ∑ x, dmx x5 x6 x7 (gcol g x) R * x4 (ix3 g q x)

/-- The gradient of the pooling mixer's input. -/
def dz (g : Fin 4) (q : Fin 128) (R : Fin 4096) : EReal := Step.unpool (2 ^ (g.val + 1)) (dpo x4 x5 x6 x7 g q) R.val

/-- The same over the number of rows in the window. -/
def qd (g : Fin 4) (q : Fin 128) (R : Fin 4096) : EReal := Ideal.div (dpo x4 x5 x6 x7 g q R) (Step.cnt (2 ^ (g.val + 1)) R.val)

/-- The gradient of the convolution's gate. -/
def dp0 (l : Fin 512) (R : Fin 4096) : EReal := D x6 x7 ⟨l.val, by omega⟩ R * cv x0 x1 x2 x3 l R

/-- The gradient of the convolution's input. -/
def dcv (l : Fin 512) (R : Fin 4096) : EReal :=
  x3 (ix2 2 l) * Step.fwd (dcc x0 x1 x2 x6 x7 l) R.val 0 + x3 (ix2 1 l) * Step.fwd (dcc x0 x1 x2 x6 x7 l) R.val 1
    + x3 (ix2 0 l) * Step.fwd (dcc x0 x1 x2 x6 x7 l) R.val 2

/-- The gradient of the projection: block `k`, column `l`. -/
def dp (k : Fin 4) (l : Fin 512) (R : Fin 4096) : EReal :=
  if k.val = 0 then dp0 x0 x1 x2 x3 x6 x7 l R else if k.val = 1 then dcv x0 x1 x2 x3 x6 x7 l R * pr x0 x1 x2 2 R l
  else if k.val = 2 then dcv x0 x1 x2 x3 x6 x7 l R * pr x0 x1 x2 1 R l else dz x4 x5 x6 x7 ⟨l.val / 128, by omega⟩ ⟨l.val % 128, by omega⟩ R

end Defs

theorem r127 (x5 : Vec Ideal S512 .f32) (x6 : Vec Ideal S1024x1024 .f32) (x7 : Vec Ideal S4096x1024 .f32) (r : Fin 4096) (l : Fin 512) :
    val_main_v127 (F := Ideal) x5 x6 x7 (ix2 r l) = dmx x5 x6 x7 l r := by
  pointwise [val_main_v127, val_main_v122, val_main_v126, val_main_v113]
  rw [r120]; rfl

theorem r132 (x4 : Vec Ideal S4x128x128 .f32) (x5 : Vec Ideal S512 .f32) (x6 : Vec Ideal S1024x1024 .f32) (x7 : Vec Ideal S4096x1024 .f32) (r : Fin 4096) (g : Fin 4) (q : Fin 128) :
    val_main_v132 (F := Ideal) x4 x5 x6 x7 (ix3 r g q) = dpo x4 x5 x6 x7 g q r := by
  pointwise [val_main_v132, val_main_v131, val_main_v130, val_main_v129]
  unfold dpo
  exact Finset.sum_congr rfl fun x _ => congrArg (fun e : EReal => e * x4 (ix3 g q x)) (r127 x5 x6 x7 r (gcol g x))

theorem r136 (x4 : Vec Ideal S4x128x128 .f32) (x5 : Vec Ideal S512 .f32) (x6 : Vec Ideal S1024x1024 .f32) (x7 : Vec Ideal S4096x1024 .f32) (r : Fin 4096) (q : Fin 128) :
    val_main_v136 (F := Ideal) x4 x5 x6 x7 (ix2 r q) = dpo x4 x5 x6 x7 0 q r := by
  pointwise [val_main_v136, val_main_v135]
  exact r132 x4 x5 x6 x7 r 0 q

theorem r138 (x4 : Vec Ideal S4x128x128 .f32) (x5 : Vec Ideal S512 .f32) (x6 : Vec Ideal S1024x1024 .f32) (x7 : Vec Ideal S4096x1024 .f32) (r : Fin 4096) (q : Fin 128) :
    val_main_v138 (F := Ideal) x4 x5 x6 x7 (ix2 r q) = dpo x4 x5 x6 x7 1 q r := by
  pointwise [val_main_v138, val_main_v137]
  exact r132 x4 x5 x6 x7 r 1 q

theorem r140 (x4 : Vec Ideal S4x128x128 .f32) (x5 : Vec Ideal S512 .f32) (x6 : Vec Ideal S1024x1024 .f32) (x7 : Vec Ideal S4096x1024 .f32) (r : Fin 4096) (q : Fin 128) :
    val_main_v140 (F := Ideal) x4 x5 x6 x7 (ix2 r q) = dpo x4 x5 x6 x7 2 q r := by
  pointwise [val_main_v140, val_main_v139]
  exact r132 x4 x5 x6 x7 r 2 q

theorem r142 (x4 : Vec Ideal S4x128x128 .f32) (x5 : Vec Ideal S512 .f32) (x6 : Vec Ideal S1024x1024 .f32) (x7 : Vec Ideal S4096x1024 .f32) (r : Fin 4096) (q : Fin 128) :
    val_main_v142 (F := Ideal) x4 x5 x6 x7 (ix2 r q) = dpo x4 x5 x6 x7 3 q r := by
  pointwise [val_main_v142, val_main_v141]
  exact r132 x4 x5 x6 x7 r 3 q

theorem r193 (x4 : Vec Ideal S4x128x128 .f32) (x5 : Vec Ideal S512 .f32) (x6 : Vec Ideal S1024x1024 .f32) (x7 : Vec Ideal S4096x1024 .f32) (r : Fin 4096) (q : Fin 128) :
    val_main_v193 (F := Ideal) x4 x5 x6 x7 (ix2 r q) = qd x4 x5 x6 x7 0 q r + -Step.fwd (qd x4 x5 x6 x7 0 q) r.val 2 := by
  pointwise [val_main_v193, val_main_v188, val_main_v187, val_main_v56, val_main_v48, val_main_v47, val_main_v46, val_main_cst_4, val_main_v45, val_main_v55,
    val_main_cst_7, val_main_v192, val_main_v190, val_main_v189, val_main_cst_29]
  rw [r136, Step.count_word _ r.isLt, Step.word2, Step.cnt_min]
  refine congrArg (fun e : EReal => qd x4 x5 x6 x7 0 q r + e) ?_
  unfold Step.fwd Step.ext
  by_cases h : 2 + r.val < 4096
  · rw [dif_pos h, dif_pos (by omega), r136, Step.count_word _ h, Step.cnt_min]
    exact congrArg (fun S => -qd x4 x5 x6 x7 0 q S) (Fin.ext (Nat.add_comm _ _))
  · rw [dif_neg h, dif_neg (by omega), neg_zero]

theorem r179 (x4 : Vec Ideal S4x128x128 .f32) (x5 : Vec Ideal S512 .f32) (x6 : Vec Ideal S1024x1024 .f32) (x7 : Vec Ideal S4096x1024 .f32) (r : Fin 4096) (q : Fin 128) :
    val_main_v179 (F := Ideal) x4 x5 x6 x7 (ix2 r q) = qd x4 x5 x6 x7 1 q r + -Step.fwd (qd x4 x5 x6 x7 1 q) r.val 4 := by
  pointwise [val_main_v179, val_main_v174, val_main_v173, val_main_v70, val_main_v48, val_main_v47, val_main_v46, val_main_cst_4, val_main_v45, val_main_v69,
    val_main_cst_10, val_main_v178, val_main_v176, val_main_v175, val_main_cst_26]
  rw [r138, Step.count_word _ r.isLt, Step.word4, Step.cnt_min]
  refine congrArg (fun e : EReal => qd x4 x5 x6 x7 1 q r + e) ?_
  unfold Step.fwd Step.ext
  by_cases h : 4 + r.val < 4096
  · rw [dif_pos h, dif_pos (by omega), r138, Step.count_word _ h, Step.cnt_min]
    exact congrArg (fun S => -qd x4 x5 x6 x7 1 q S) (Fin.ext (Nat.add_comm _ _))
  · rw [dif_neg h, dif_neg (by omega), neg_zero]

theorem r165 (x4 : Vec Ideal S4x128x128 .f32) (x5 : Vec Ideal S512 .f32) (x6 : Vec Ideal S1024x1024 .f32) (x7 : Vec Ideal S4096x1024 .f32) (r : Fin 4096) (q : Fin 128) :
    val_main_v165 (F := Ideal) x4 x5 x6 x7 (ix2 r q) = qd x4 x5 x6 x7 2 q r + -Step.fwd (qd x4 x5 x6 x7 2 q) r.val 8 := by
  pointwise [val_main_v165, val_main_v160, val_main_v159, val_main_v84, val_main_v48, val_main_v47, val_main_v46, val_main_cst_4, val_main_v45, val_main_v83,
    val_main_cst_13, val_main_v164, val_main_v162, val_main_v161, val_main_cst_23]
  rw [r140, Step.count_word _ r.isLt, Step.word8, Step.cnt_min]
  refine congrArg (fun e : EReal => qd x4 x5 x6 x7 2 q r + e) ?_
  unfold Step.fwd Step.ext
  by_cases h : 8 + r.val < 4096
  · rw [dif_pos h, dif_pos (by omega), r140, Step.count_word _ h, Step.cnt_min]
    exact congrArg (fun S => -qd x4 x5 x6 x7 2 q S) (Fin.ext (Nat.add_comm _ _))
  · rw [dif_neg h, dif_neg (by omega), neg_zero]

theorem r152 (x4 : Vec Ideal S4x128x128 .f32) (x5 : Vec Ideal S512 .f32) (x6 : Vec Ideal S1024x1024 .f32) (x7 : Vec Ideal S4096x1024 .f32) (r : Fin 4096) (q : Fin 128) :
    val_main_v152 (F := Ideal) x4 x5 x6 x7 (ix2 r q) = qd x4 x5 x6 x7 3 q r + -Step.fwd (qd x4 x5 x6 x7 3 q) r.val 16 := by
  pointwise [val_main_v152, val_main_v147, val_main_v146, val_main_v98, val_main_v48, val_main_v47, val_main_v46, val_main_cst_4, val_main_v45, val_main_v97,
    val_main_cst_16, val_main_v151, val_main_v149, val_main_v148, val_main_cst_20]
  rw [r142, Step.count_word _ r.isLt, Step.word16, Step.cnt_min]
  refine congrArg (fun e : EReal => qd x4 x5 x6 x7 3 q r + e) ?_
  unfold Step.fwd Step.ext
  by_cases h : 16 + r.val < 4096
  · rw [dif_pos h, dif_pos (by omega), r142, Step.count_word _ h, Step.cnt_min]
    exact congrArg (fun S => -qd x4 x5 x6 x7 3 q S) (Fin.ext (Nat.add_comm _ _))
  · rw [dif_neg h, dif_neg (by omega), neg_zero]

theorem r186 (x4 : Vec Ideal S4x128x128 .f32) (x5 : Vec Ideal S512 .f32) (x6 : Vec Ideal S1024x1024 .f32) (x7 : Vec Ideal S4096x1024 .f32) (r : Fin 4096) (g : Fin 4) (q : Fin 128) :
    val_main_v186 (F := Ideal) x4 x5 x6 x7 (ix3 r g q) = -dpo x4 x5 x6 x7 g q r := by
  pointwise [val_main_v186, val_main_v172, val_main_v158, val_main_v145, val_main_v144, val_main_v143, val_main_cst_19, val_main_v157, val_main_v156, val_main_v155,
    val_main_cst_22, val_main_v171, val_main_v170, val_main_v169, val_main_cst_25, val_main_v185, val_main_v184, val_main_v183, val_main_cst_28]
  rw [r136, r138, r140, r142]
  match g with
  | 0 => simp
  | 1 => simp
  | 2 => simp
  | 3 => simp

theorem r196 (x4 : Vec Ideal S4x128x128 .f32) (x5 : Vec Ideal S512 .f32) (x6 : Vec Ideal S1024x1024 .f32) (x7 : Vec Ideal S4096x1024 .f32) (r : Fin 4096) (g : Fin 4) (q : Fin 128) :
    val_main_v196 (F := Ideal) x4 x5 x6 x7 (ix3 r g q) = qd x4 x5 x6 x7 g q r + -Step.fwd (qd x4 x5 x6 x7 g q) r.val (2 ^ (g.val + 1)) := by
  pointwise [val_main_v196, val_main_v182, val_main_v168, val_main_v154, val_main_v153, val_main_cst_21, val_main_v167, val_main_v166, val_main_cst_24,
    val_main_v181, val_main_v180, val_main_cst_27, val_main_v195, val_main_v194, val_main_cst_30]
  rw [r193, r179, r165, r152]
  match g with
  | 0 => simp
  | 1 => simp
  | 2 => simp
  | 3 => simp

theorem r197 (x4 : Vec Ideal S4x128x128 .f32) (x5 : Vec Ideal S512 .f32) (x6 : Vec Ideal S1024x1024 .f32) (x7 : Vec Ideal S4096x1024 .f32) (hp : ∀ g q R, Step.IsReal (dpo x4 x5 x6 x7 g q R)) (r : Fin 4096) (g : Fin 4) (q : Fin 128) :
    val_main_v197 (F := Ideal) x4 x5 x6 x7 (ix3 r g q) = ∑ k ∈ Finset.range (2 ^ (g.val + 1)), Step.fwd (qd x4 x5 x6 x7 g q) r.val k := by
  unfold val_main_v197
  rw [Step.cumsum_up _ _ (fun i => by pointwise [val_main_call1_call0_v0, val_main_call1_call0_cst])]
  rw [← Step.up_diff (qd x4 x5 x6 x7 g q) (fun R => (hp g q R).div_cnt _ _ (by positivity)) r (2 ^ (g.val + 1)) (by
    match g with
    | 0 => decide
    | 1 => decide
    | 2 => decide
    | 3 => decide)]
  exact Finset.sum_congr rfl fun k _ => congrArg (fun f => Step.fwd f r.val k) (funext fun S => r196 x4 x5 x6 x7 S g q)

theorem r198 (x4 : Vec Ideal S4x128x128 .f32) (x5 : Vec Ideal S512 .f32) (x6 : Vec Ideal S1024x1024 .f32) (x7 : Vec Ideal S4096x1024 .f32) (hp : ∀ g q R, Step.IsReal (dpo x4 x5 x6 x7 g q R)) (r : Fin 4096) (g : Fin 4) (q : Fin 128) :
    val_main_v198 (F := Ideal) x4 x5 x6 x7 (ix3 r g q) = dz x4 x5 x6 x7 g q r := by
  pointwise [val_main_v198]
  rw [r186, r197 x4 x5 x6 x7 hp, add_comm]
  unfold dz Step.unpool
  rw [Step.fwd_zero]
  rfl

theorem r201 (x0 : Vec Ideal S4096x1024 .f32) (x1 : Vec Ideal S1024 .f32) (x2 : Vec Ideal S1024x2048 .f32) (x6 : Vec Ideal S1024x1024 .f32) (x7 : Vec Ideal S4096x1024 .f32) (r : Fin 4096) (l : Fin 512) :
    val_main_v201 (F := Ideal) x0 x1 x2 x6 x7 (ix2 r l) = dcc x0 x1 x2 x6 x7 l r := by
  pointwise [val_main_v201, val_main_v121]
  rw [r14, r120]; exact mul_comm _ _

theorem r235 (x0 : Vec Ideal S4096x1024 .f32) (x1 : Vec Ideal S1024 .f32) (x2 : Vec Ideal S1024x2048 .f32) (x3 : Vec Ideal S3x512 .f32) (x6 : Vec Ideal S1024x1024 .f32) (x7 : Vec Ideal S4096x1024 .f32) (r : Fin 4096) (l : Fin 512) :
    val_main_v235 (F := Ideal) x0 x1 x2 x3 x6 x7 (ix2 r l) = dcv x0 x1 x2 x3 x6 x7 l r := by
  pointwise [val_main_v235, val_main_v233, val_main_v222, val_main_v211, val_main_v207, val_main_v206, val_main_v37, val_main_v36, val_main_v35, val_main_cst_35,
    val_main_v221, val_main_v216, val_main_v215, val_main_v30, val_main_v29, val_main_v28, val_main_cst_39, val_main_v232, val_main_v227, val_main_v226,
    val_main_v24, val_main_v23, val_main_v22, val_main_cst_43]
  rw [r201]
  unfold dcv
  rw [Step.fwd_zero, mul_comm (x3 (ix2 2 l))]
  refine congrArg₂ (HAdd.hAdd : EReal → EReal → EReal) (congrArg (fun e : EReal => dcc x0 x1 x2 x6 x7 l r * x3 (ix2 2 l) + e) ?_) ?_
  all_goals
    unfold Step.fwd Step.ext
    rw [mul_comm (x3 _)]
    split
    · rw [r201, dif_pos (by omega)]
      exact congrArg (fun S => dcc x0 x1 x2 x6 x7 l S * x3 _) (Fin.ext (by dsimp only; omega))
    · rw [dif_neg (by omega), zero_mul]

theorem r243_0 (x0 : Vec Ideal S4096x1024 .f32) (x1 : Vec Ideal S1024 .f32) (x2 : Vec Ideal S1024x2048 .f32) (x3 : Vec Ideal S3x512 .f32) (x4 : Vec Ideal S4x128x128 .f32) (x5 : Vec Ideal S512 .f32) (x6 : Vec Ideal S1024x1024 .f32) (x7 : Vec Ideal S4096x1024 .f32) (hp : ∀ g q R, Step.IsReal (dpo x4 x5 x6 x7 g q R)) (r : Fin 4096) (l : Fin 512) (j : Fin 2048) (hj : j.val = l.val) :
    val_main_v243 (F := Ideal) x0 x1 x2 x3 x4 x5 x6 x7 (ix2 r j) = dp0 x0 x1 x2 x3 x6 x7 l r := by
  pointwise [val_main_v243, val_main_v241, val_main_v239, val_main_v200, val_main_v199, val_main_cst_31, val_main_v238, val_main_v236, val_main_cst_44,
    val_main_v240, val_main_v237, val_main_cst_45, val_main_v242, val_main_v202, val_main_v121, val_main_cst_46]
  rw [dif_neg (by omega), dif_neg (by omega), dif_neg (by omega), dif_pos (by omega), r120, zero_add, zero_add, zero_add]
  exact (congrArg (fun e : EReal => D x6 x7 ⟨j.val, by omega⟩ r * e) (r40 x0 x1 x2 x3 r ⟨j.val, by omega⟩)).trans
    (congrArg₂ (fun a b => D x6 x7 a r * cv x0 x1 x2 x3 b r) (Fin.ext hj) (Fin.ext hj))

theorem r243_1 (x0 : Vec Ideal S4096x1024 .f32) (x1 : Vec Ideal S1024 .f32) (x2 : Vec Ideal S1024x2048 .f32) (x3 : Vec Ideal S3x512 .f32) (x4 : Vec Ideal S4x128x128 .f32) (x5 : Vec Ideal S512 .f32) (x6 : Vec Ideal S1024x1024 .f32) (x7 : Vec Ideal S4096x1024 .f32) (hp : ∀ g q R, Step.IsReal (dpo x4 x5 x6 x7 g q R)) (r : Fin 4096) (l : Fin 512) (j : Fin 2048) (hj : j.val = 512 + l.val) :
    val_main_v243 (F := Ideal) x0 x1 x2 x3 x4 x5 x6 x7 (ix2 r j) = dcv x0 x1 x2 x3 x6 x7 l r * pr x0 x1 x2 2 r l := by
  pointwise [val_main_v243, val_main_v241, val_main_v239, val_main_v200, val_main_v199, val_main_cst_31, val_main_v238, val_main_v236, val_main_cst_44,
    val_main_v240, val_main_v237, val_main_cst_45, val_main_v242, val_main_v202, val_main_v121, val_main_cst_46]
  rw [dif_neg (by omega), dif_neg (by omega), dif_pos (by omega), dif_neg (by omega), show (⟨j.val - 512, by omega⟩ : Fin 512) = l from Fin.ext (by dsimp only; omega)]
  rw [r235, r16, zero_add, zero_add, add_zero]

theorem r243_2 (x0 : Vec Ideal S4096x1024 .f32) (x1 : Vec Ideal S1024 .f32) (x2 : Vec Ideal S1024x2048 .f32) (x3 : Vec Ideal S3x512 .f32) (x4 : Vec Ideal S4x128x128 .f32) (x5 : Vec Ideal S512 .f32) (x6 : Vec Ideal S1024x1024 .f32) (x7 : Vec Ideal S4096x1024 .f32) (hp : ∀ g q R, Step.IsReal (dpo x4 x5 x6 x7 g q R)) (r : Fin 4096) (l : Fin 512) (j : Fin 2048) (hj : j.val = 1024 + l.val) :
    val_main_v243 (F := Ideal) x0 x1 x2 x3 x4 x5 x6 x7 (ix2 r j) = dcv x0 x1 x2 x3 x6 x7 l r * pr x0 x1 x2 1 r l := by
  pointwise [val_main_v243, val_main_v241, val_main_v239, val_main_v200, val_main_v199, val_main_cst_31, val_main_v238, val_main_v236, val_main_cst_44,
    val_main_v240, val_main_v237, val_main_cst_45, val_main_v242, val_main_v202, val_main_v121, val_main_cst_46]
  rw [dif_neg (by omega), dif_pos (by omega), dif_neg (by omega), dif_neg (by omega), show (⟨j.val - 1024, by omega⟩ : Fin 512) = l from Fin.ext (by dsimp only; omega)]
  rw [r235, r15, zero_add, add_zero, add_zero, mul_comm]

theorem r243_3 (x0 : Vec Ideal S4096x1024 .f32) (x1 : Vec Ideal S1024 .f32) (x2 : Vec Ideal S1024x2048 .f32) (x3 : Vec Ideal S3x512 .f32) (x4 : Vec Ideal S4x128x128 .f32) (x5 : Vec Ideal S512 .f32) (x6 : Vec Ideal S1024x1024 .f32) (x7 : Vec Ideal S4096x1024 .f32) (hp : ∀ g q R, Step.IsReal (dpo x4 x5 x6 x7 g q R)) (r : Fin 4096) (l : Fin 512) (j : Fin 2048) (hj : j.val = 1536 + l.val) :
    val_main_v243 (F := Ideal) x0 x1 x2 x3 x4 x5 x6 x7 (ix2 r j) = dz x4 x5 x6 x7 ⟨l.val / 128, by omega⟩ ⟨l.val % 128, by omega⟩ r := by
  pointwise [val_main_v243, val_main_v241, val_main_v239, val_main_v200, val_main_v199, val_main_cst_31, val_main_v238, val_main_v236, val_main_cst_44,
    val_main_v240, val_main_v237, val_main_cst_45, val_main_v242, val_main_v202, val_main_v121, val_main_cst_46]
  have hq : j.val - 1536 = l.val := by omega
  rw [dif_pos (by omega), dif_neg (by omega), dif_neg (by omega), dif_neg (by omega), r198 x4 x5 x6 x7 hp, add_zero, add_zero, add_zero]
  exact congrArg₂ (fun a b => dz x4 x5 x6 x7 a b r) (Fin.ext (congrArg (· / 128) hq)) (Fin.ext (congrArg (· % 128) hq))

theorem r243 (x0 : Vec Ideal S4096x1024 .f32) (x1 : Vec Ideal S1024 .f32) (x2 : Vec Ideal S1024x2048 .f32) (x3 : Vec Ideal S3x512 .f32) (x4 : Vec Ideal S4x128x128 .f32) (x5 : Vec Ideal S512 .f32) (x6 : Vec Ideal S1024x1024 .f32) (x7 : Vec Ideal S4096x1024 .f32) (hp : ∀ g q R, Step.IsReal (dpo x4 x5 x6 x7 g q R)) (r : Fin 4096) (k : Fin 4) (l : Fin 512) :
    val_main_v243 (F := Ideal) x0 x1 x2 x3 x4 x5 x6 x7 (ix2 r ⟨k.val * 512 + l.val, by omega⟩) = dp x0 x1 x2 x3 x4 x5 x6 x7 k l r := by
  match k with
  | 0 => exact r243_0 x0 x1 x2 x3 x4 x5 x6 x7 hp r l _ (by simp)
  | 1 => exact r243_1 x0 x1 x2 x3 x4 x5 x6 x7 hp r l _ (by simp)
  | 2 => exact r243_2 x0 x1 x2 x3 x4 x5 x6 x7 hp r l _ (by simp)
  | 3 => exact r243_3 x0 x1 x2 x3 x4 x5 x6 x7 hp r l _ (by simp)

theorem r231 (x0 : Vec Ideal S4096x1024 .f32) (x1 : Vec Ideal S1024 .f32) (x2 : Vec Ideal S1024x2048 .f32) (x6 : Vec Ideal S1024x1024 .f32) (x7 : Vec Ideal S4096x1024 .f32) (k : Fin 3) (l : Fin 512) :
    val_main_v231 (F := Ideal) x0 x1 x2 x6 x7 (ix2 k l) = ∑ R : Fin 4096, dcc x0 x1 x2 x6 x7 l R * Step.back (cvf x0 x1 x2 l) R.val (2 - k.val) := by
  pointwise [val_main_v231, val_main_v220, val_main_v210, val_main_v209, val_main_v208, val_main_v205, val_main_v204, val_main_v203, val_main_cst_32,
    val_main_cst_33, val_main_cst_34, val_main_v219, val_main_v218, val_main_v217, val_main_v214, val_main_v213, val_main_v212, val_main_cst_36,
    val_main_cst_37, val_main_cst_38, val_main_v230, val_main_v229, val_main_v228, val_main_v225, val_main_v224, val_main_v223, val_main_cst_40,
    val_main_cst_41, val_main_cst_42]
  simp only [Fin.sum_univ_one, r34, r27, r21, r201]
  match k with
  | 0 => simp [mul_comm]
  | 1 => simp [mul_comm]
  | 2 => simp [mul_comm]

theorem r248 (x0 : Vec Ideal S4096x1024 .f32) (x1 : Vec Ideal S1024 .f32) (x2 : Vec Ideal S1024x2048 .f32) (x3 : Vec Ideal S3x512 .f32) (x4 : Vec Ideal S4x128x128 .f32) (x5 : Vec Ideal S512 .f32) (x6 : Vec Ideal S1024x1024 .f32) (x7 : Vec Ideal S4096x1024 .f32) (hp : ∀ g q R, Step.IsReal (dpo x4 x5 x6 x7 g q R)) (k : Fin 4) (r : Fin 4096) (l : Fin 512) :
    val_main_v248 (F := Ideal) x0 x1 x2 x3 x4 x5 x6 x7 (ix3 k r l) = dp x0 x1 x2 x3 x4 x5 x6 x7 k l r := by
  pointwise [val_main_v248, val_main_v247, val_main_v246]
  exact r243 x0 x1 x2 x3 x4 x5 x6 x7 hp r k l

theorem r250 (x0 : Vec Ideal S4096x1024 .f32) (x1 : Vec Ideal S1024 .f32) (x2 : Vec Ideal S1024x2048 .f32) (x3 : Vec Ideal S3x512 .f32) (x4 : Vec Ideal S4x128x128 .f32) (x5 : Vec Ideal S512 .f32) (x6 : Vec Ideal S1024x1024 .f32) (x7 : Vec Ideal S4096x1024 .f32) (hp : ∀ g q R, Step.IsReal (dpo x4 x5 x6 x7 g q R)) (k : Fin 4) (x : Fin 1024) (l : Fin 512) :
    val_main_v250 (F := Ideal) x0 x1 x2 x3 x4 x5 x6 x7 (ix3 k x l) = ∑ R, xn x0 x1 R x * dp x0 x1 x2 x3 x4 x5 x6 x7 k l R := by
  pointwise [val_main_v250, val_main_v249, val_main_v245, val_main_v244]
  exact Finset.sum_congr rfl fun R _ => by rw [r12, r243 x0 x1 x2 x3 x4 x5 x6 x7 hp R k l, mul_comm]

theorem r119 (x0 : Vec Ideal S4096x1024 .f32) (x1 : Vec Ideal S1024 .f32) (x2 : Vec Ideal S1024x2048 .f32) (x3 : Vec Ideal S3x512 .f32) (x4 : Vec Ideal S4x128x128 .f32) (x5 : Vec Ideal S512 .f32) (x7 : Vec Ideal S4096x1024 .f32) (hz : ∀ l R, Step.IsReal (zf x0 x1 x2 l R)) (j l : Fin 1024) :
    val_main_v119 (F := Ideal) x0 x1 x2 x3 x4 x5 x7 (ix2 j l) = ∑ R, mx x0 x1 x2 x3 x4 x5 R j * x7 (ix2 R l) := by
  pointwise [val_main_v119, val_main_v118]
  exact Finset.sum_congr rfl fun R _ => by rw [r116 x0 x1 x2 x3 x4 x5 hz, mul_comm]

theorem r134 (x0 : Vec Ideal S4096x1024 .f32) (x1 : Vec Ideal S1024 .f32) (x2 : Vec Ideal S1024x2048 .f32) (x5 : Vec Ideal S512 .f32) (x6 : Vec Ideal S1024x1024 .f32) (x7 : Vec Ideal S4096x1024 .f32) (hz : ∀ l R, Step.IsReal (zf x0 x1 x2 l R)) (g : Fin 4) (a b : Fin 128) :
    val_main_v134 (F := Ideal) x0 x1 x2 x5 x6 x7 (ix3 g a b) = ∑ R, pl x0 x1 x2 g a R * dmx x5 x6 x7 (gcol g b) R := by
  pointwise [val_main_v134, val_main_v133, val_main_v130, val_main_v129]
  refine Finset.sum_congr rfl fun R _ => ?_
  rw [r109 x0 x1 x2 hz, mul_comm]
  exact congrArg (fun e : EReal => pl x0 x1 x2 g a R * e) (r127 x5 x6 x7 R (gcol g b))

theorem r251 (x0 : Vec Ideal S4096x1024 .f32) (x1 : Vec Ideal S1024 .f32) (x2 : Vec Ideal S1024x2048 .f32) (x4 : Vec Ideal S4x128x128 .f32) (x6 : Vec Ideal S1024x1024 .f32) (x7 : Vec Ideal S4096x1024 .f32) (hz : ∀ l R, Step.IsReal (zf x0 x1 x2 l R)) (z : Fin 1) (l : Fin 512) :
    val_main_v251 (F := Ideal) x0 x1 x2 x4 x6 x7 (ix2 z l) = ∑ R, D x6 x7 ⟨512 + l.val, by omega⟩ R * mxd x0 x1 x2 x4 ⟨l.val / 128, by omega⟩ ⟨l.val % 128, by omega⟩ R := by
  pointwise [val_main_v251, val_main_v128, val_main_v125, val_main_v124, val_main_v123, val_main_v122, val_main_cst_17, val_main_cst_18]
  simp only [Fin.sum_univ_one]
  exact Finset.sum_congr rfl fun R _ => by rw [r112 x0 x1 x2 x4 hz, r120, mul_comm]

/-- With the input, the gain and the input projection real, so is the pooling mixer's input. -/
theorem zf_real (x0 : Vec Ideal S4096x1024 .f32) (x1 : Vec Ideal S1024 .f32) (x2 : Vec Ideal S1024x2048 .f32)
    (h1 : ∀ i, Step.IsReal (x1 i)) (h2 : ∀ i, Step.IsReal (x2 i)) (l : Fin 512) (R : Fin 4096) :
    Step.IsReal (zf x0 x1 x2 l R) := by
  unfold zf pr xn
  exact Step.IsReal.sum _ _ fun x => ((Step.normed_real (fun y => x0 (ix2 R y)) x).mul (h1 _)).mul (h2 _)

/-- With the cotangent, the output projection, the scales and the mixing weights real, so is the pooled input's gradient. -/
theorem dpo_real (x4 : Vec Ideal S4x128x128 .f32) (x5 : Vec Ideal S512 .f32) (x6 : Vec Ideal S1024x1024 .f32) (x7 : Vec Ideal S4096x1024 .f32)
    (h4 : ∀ i, Step.IsReal (x4 i)) (h5 : ∀ i, Step.IsReal (x5 i)) (h6 : ∀ i, Step.IsReal (x6 i)) (h7 : ∀ i, Step.IsReal (x7 i)) (g : Fin 4) (q : Fin 128) (R : Fin 4096) :
    Step.IsReal (dpo x4 x5 x6 x7 g q R) := by
  unfold dpo dmx D
  exact Step.IsReal.sum _ _ fun x => ((Step.IsReal.sum _ _ fun l => (h7 _).mul (h6 _)).mul (h5 _)).mul (h4 _)

end Cert.EvenGradRefIdeal.Read

end

end
-- ==== Proof.EvenGrad.Claim.lean ====
module

public import proofs.«01_k».proof.Defs
public import proofs.«01_k».proof.Proof.Gen.EvenGradIdeal
public import proofs.«01_k».proof.Proof.Gen.EvenGradRefIdeal
public import proofs.«01_k».proof.Proof.EvenGrad.Array
public import proofs.«01_k».proof.Proof.EvenGrad.RefBwd

@[expose] public section

set_option maxRecDepth 16384

/-! # The mixers' weight gradients: the kernel's six results are the reference's -/

noncomputable section

namespace Cert.EvenGradTie

open Idealize.ShloMosaic Idealize.ShloMosaic.TcCoe Idealize.SL.Sem

section Saved

open Cert.EvenGradIdeal Cert.EvenGradIdeal.Gen Cert.EvenGradIdeal.Arr

/-- Two stretches of lines, one after the other. -/
theorem app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The lines of the four groups' pooling, from any contents that hold the fourth projection and its running sums. -/
theorem pools (σ : Valuation τ sig (Elt Ideal)) (x0 : Vec Ideal S4096x1024 .f32) (x1 : Vec Ideal S1024 .f32) (x2 : Vec Ideal S1024x2048 .f32)
    (h42 : σ (Proc.tc.devRef main_v42) = EvenGradRefIdeal.Read.val_main_v43 (F := Ideal) x0 x1 x2)
    (h43 : σ (Proc.tc.devRef main_v43) = EvenGradRefIdeal.Read.val_main_v44 (F := Ideal) x0 x1 x2) :
    StableHlo.after (hostOps0_2.take 69) σ (Proc.tc.devRef main_v100) = EvenGradRefIdeal.Read.val_main_v105 (F := Ideal) x0 x1 x2
      ∧ StableHlo.after (hostOps0_2.take 69) σ (Proc.tc.devRef main_v101) = EvenGradRefIdeal.Read.val_main_v106 (F := Ideal) x0 x1 x2
      ∧ StableHlo.after (hostOps0_2.take 69) σ (Proc.tc.devRef main_v102) = EvenGradRefIdeal.Read.val_main_v107 (F := Ideal) x0 x1 x2
      ∧ StableHlo.after (hostOps0_2.take 69) σ (Proc.tc.devRef main_v103) = EvenGradRefIdeal.Read.val_main_v108 (F := Ideal) x0 x1 x2
      ∧ StableHlo.after (hostOps0_2.take 69) σ (Proc.tc.devRef main_v40) = σ (Proc.tc.devRef main_v40)
      ∧ StableHlo.after (hostOps0_2.take 69) σ (Proc.tc.devRef main_arg4) = σ (Proc.tc.devRef main_arg4)
      ∧ StableHlo.after (hostOps0_2.take 69) σ (Proc.tc.devRef main_arg5) = σ (Proc.tc.devRef main_arg5) := by
  simp only [hostOps0_2, List.take_succ_cons, List.take_zero]
  refine ⟨?_, ?_, ?_, ?_, ?_, ?_, ?_⟩
  · entry_read
    rw [h42, h43]
    rfl
  · entry_read
    rw [h42, h43]
    rfl
  · entry_read
    rw [h42, h43]
    rfl
  · entry_read
    rw [h42, h43]
    rfl
  all_goals entry_read; rfl

/-- The line that sets the four pooled groups side by side, from any contents that hold them. -/
theorem join (σ : Valuation τ sig (Elt Ideal)) (x0 : Vec Ideal S4096x1024 .f32) (x1 : Vec Ideal S1024 .f32) (x2 : Vec Ideal S1024x2048 .f32)
    (h100 : σ (Proc.tc.devRef main_v100) = EvenGradRefIdeal.Read.val_main_v105 (F := Ideal) x0 x1 x2)
    (h101 : σ (Proc.tc.devRef main_v101) = EvenGradRefIdeal.Read.val_main_v106 (F := Ideal) x0 x1 x2)
    (h102 : σ (Proc.tc.devRef main_v102) = EvenGradRefIdeal.Read.val_main_v107 (F := Ideal) x0 x1 x2)
    (h103 : σ (Proc.tc.devRef main_v103) = EvenGradRefIdeal.Read.val_main_v108 (F := Ideal) x0 x1 x2) :
    StableHlo.after ((hostOps0_2.drop 69).take 1) σ (Proc.tc.devRef main_v104) = EvenGradRefIdeal.Read.val_main_v109 (F := Ideal) x0 x1 x2
      ∧ StableHlo.after ((hostOps0_2.drop 69).take 1) σ (Proc.tc.devRef main_v40) = σ (Proc.tc.devRef main_v40)
      ∧ StableHlo.after ((hostOps0_2.drop 69).take 1) σ (Proc.tc.devRef main_arg4) = σ (Proc.tc.devRef main_arg4)
      ∧ StableHlo.after ((hostOps0_2.drop 69).take 1) σ (Proc.tc.devRef main_arg5) = σ (Proc.tc.devRef main_arg5) := by
  simp only [hostOps0_2, List.drop_succ_cons, List.drop_zero, List.take_succ_cons, List.take_zero]
  refine ⟨?_, ?_, ?_, ?_⟩
  · rw [StableHlo.after_cons, StableHlo.after_nil]
    refine (StableHlo.nary_result _ _ _ _ _ _).trans ?_
    show (fun (a b d e : Vec Ideal S4096x1x128 .f32) => concatenate S4096x4x128 1 [⟨S4096x1x128, a⟩, ⟨S4096x1x128, b⟩, ⟨S4096x1x128, d⟩, ⟨S4096x1x128, e⟩]
      concatenates_S4096x1x128_S4096x1x128_S4096x1x128_S4096x1x128_S4096x4x128_d1) (σ (Proc.tc.devRef main_v100)) (σ (Proc.tc.devRef main_v101))
      (σ (Proc.tc.devRef main_v102)) (σ (Proc.tc.devRef main_v103)) = _
    rw [h100, h101, h102, h103]
    rfl
  all_goals entry_read; rfl

/-- The lines that mix the pooled groups and join the two mixers, from any contents that hold the pooled groups. -/
theorem tail (σ : Valuation τ sig (Elt Ideal)) (x0 : Vec Ideal S4096x1024 .f32) (x1 : Vec Ideal S1024 .f32) (x2 : Vec Ideal S1024x2048 .f32)
    (x3 : Vec Ideal S3x512 .f32) (x4 : Vec Ideal S4x128x128 .f32) (x5 : Vec Ideal S512 .f32)
    (h104 : σ (Proc.tc.devRef main_v104) = EvenGradRefIdeal.Read.val_main_v109 (F := Ideal) x0 x1 x2)
    (h40 : σ (Proc.tc.devRef main_v40) = EvenGradRefIdeal.Read.val_main_v41 (F := Ideal) x0 x1 x2 x3)
    (h4 : σ (Proc.tc.devRef main_arg4) = x4) (h5 : σ (Proc.tc.devRef main_arg5) = x5) :
    StableHlo.after ((hostOps0_2.drop 69).drop 1) σ (Proc.tc.devRef main_v115) = EvenGradRefIdeal.Read.val_main_v116 (F := Ideal) x0 x1 x2 x3 x4 x5 := by
  simp only [hostOps0_2, List.drop_succ_cons, List.drop_zero]
  entry_read
  rw [h104, h40, h4, h5]
  rfl

/-- The lines of the first mixer and of the projections, from any contents. -/
theorem lead (σ : Valuation τ sig (Elt Ideal)) :
    StableHlo.after hostOps0 σ (Proc.tc.devRef main_v40) = EvenGradRefIdeal.Read.val_main_v41 (F := Ideal) (σ (Proc.tc.devRef main_arg0))
      (σ (Proc.tc.devRef main_arg1)) (σ (Proc.tc.devRef main_arg2)) (σ (Proc.tc.devRef main_arg3)) := by
  entry_read
  rfl

@[inherit_doc lead] theorem lead' (σ : Valuation τ sig (Elt Ideal)) :
    StableHlo.after hostOps0 σ (Proc.tc.devRef main_v42) = EvenGradRefIdeal.Read.val_main_v43 (F := Ideal) (σ (Proc.tc.devRef main_arg0))
      (σ (Proc.tc.devRef main_arg1)) (σ (Proc.tc.devRef main_arg2)) := by
  entry_read
  rfl

/-- The running sums, from any contents; every other array stays. -/
theorem sums (σ : Valuation τ sig (Elt Ideal)) (x0 : Vec Ideal S4096x1024 .f32) (x1 : Vec Ideal S1024 .f32) (x2 : Vec Ideal S1024x2048 .f32)
    (h42 : σ (Proc.tc.devRef main_v42) = EvenGradRefIdeal.Read.val_main_v43 (F := Ideal) x0 x1 x2) :
    StableHlo.after hostOps0_1 σ (Proc.tc.devRef main_v43) = EvenGradRefIdeal.Read.val_main_v44 (F := Ideal) x0 x1 x2 := by
  entry_read
  rw [h42]
  rfl

@[inherit_doc sums] theorem sums' (σ : Valuation τ sig (Elt Ideal)) :
    StableHlo.after hostOps0_1 σ (Proc.tc.devRef main_v40) = σ (Proc.tc.devRef main_v40)
      ∧ StableHlo.after hostOps0_1 σ (Proc.tc.devRef main_v42) = σ (Proc.tc.devRef main_v42)
      ∧ StableHlo.after hostOps0_1 σ (Proc.tc.devRef main_arg4) = σ (Proc.tc.devRef main_arg4)
      ∧ StableHlo.after hostOps0_1 σ (Proc.tc.devRef main_arg5) = σ (Proc.tc.devRef main_arg5) := by
  refine ⟨?_, ?_, ?_, ?_⟩ <;> entry_read <;> rfl

@[inherit_doc sums] theorem keep (σ : Valuation τ sig (Elt Ideal)) :
    StableHlo.after hostOps0 σ (Proc.tc.devRef main_arg4) = σ (Proc.tc.devRef main_arg4)
      ∧ StableHlo.after hostOps0 σ (Proc.tc.devRef main_arg5) = σ (Proc.tc.devRef main_arg5) := by
  refine ⟨?_, ?_⟩ <;> entry_read <;> rfl

/-- The saved mixer outputs the kernel reads are the forward lines' own array. -/
theorem saved (m : (ℓ : Loc nD τ sig) → Buf (Elt Ideal) ℓ) (c : Dev nD) :
    V m c main_v115 = EvenGradRefIdeal.Read.val_main_v116 (F := Ideal) (A0 m c) (A1 m c) (A2 m c) (A3 m c) (A4 m c) (A5 m c) := by
  unfold V
  rw [List.flatten_cons, List.flatten_cons, List.flatten_cons, List.flatten_nil, List.append_nil, app, app, ← List.take_append_drop 69 hostOps0_2,
    ← List.take_append_drop 1 (hostOps0_2.drop 69), app, app]
  obtain ⟨p0, p1, p2, p3, p4, p5, p6⟩ := pools (StableHlo.after hostOps0_1 (StableHlo.after hostOps0 (StableHlo.launchContents m c))) (A0 m c) (A1 m c) (A2 m c)
    ((sums' _).2.1.trans (lead' _)) (sums _ _ _ _ (lead' _))
  obtain ⟨q0, q1, q2, q3⟩ := join _ _ _ _ p0 p1 p2 p3
  exact tail _ _ _ _ _ _ _ q0 (q1.trans (p4.trans ((sums' _).1.trans (lead _)))) (q2.trans (p5.trans ((sums' _).2.2.1.trans (keep _).1)))
    (q3.trans (p6.trans ((sums' _).2.2.2.trans (keep _).2)))

end Saved

/-- The side conditions of the predicate's operations. -/
theorem preFacts : Cert.Pre_even_finite.Facts := ⟨by decide, by decide, by decide, by decide, by decide, by decide⟩

/-- What the precondition says: every entry of the six arrays it names is a real number. -/
theorem reals [Cert.Pre_even_finite.Facts] (m : (ℓ : Loc EvenGradIdeal.nD EvenGradIdeal.τ EvenGradIdeal.sig) → Buf (Elt Ideal) ℓ) (h : Cert.Pre_EvenGradIdeal_even_finite m) (c : Dev EvenGradIdeal.nD) :
    (∀ i, Step.IsReal (EvenGradIdeal.Arr.A1 m c i)) ∧ (∀ i, Step.IsReal (EvenGradIdeal.Arr.A2 m c i))
      ∧ (∀ i, Step.IsReal (EvenGradIdeal.Arr.A4 m c i)) ∧ (∀ i, Step.IsReal (EvenGradIdeal.Arr.A5 m c i)) ∧ (∀ i, Step.IsReal (EvenGradIdeal.Arr.A6 m c i))
      ∧ ∀ i, Step.IsReal (EvenGradIdeal.Arr.A7 m c i) := by
  obtain ⟨h1, h2, h4, h5, h6, h7⟩ := h c
  exact ⟨fun i => Step.real_of_abs_lt (congrFun h1 i), fun i => Step.real_of_abs_lt (congrFun h2 i),
    fun i => Step.real_of_abs_lt (congrFun h4 i), fun i => Step.real_of_abs_lt (congrFun h5 i), fun i => Step.real_of_abs_lt (congrFun h6 i),
    fun i => Step.real_of_abs_lt (congrFun h7 i)⟩

/-- The kernel's six arrays, at the entry's arrays, are what reverse differentiation of the forward lines gives. -/
theorem algebraic [Cert.Pre_even_finite.Facts] : Cert.algebraic_EvenGradIdeal_EvenGradRefIdeal_pre_even_finite := by
  intro m ρ m' ρ' hpre hag
  refine ⟨_, _, _, _, _, _, EvenGradIdeal.Value.run_blocks m ρ, ?_⟩
  refine (θ_run EvenGradRefIdeal.defs _ _).mono (fun r h c => ?_) (EvenGradRefIdeal.Value.run (F := Ideal) m' ρ')
  obtain ⟨e0, e1, e2, e3, e4, e5, e6, e7⟩ := hag c
  have l0 : StableHlo.launchContents m' c (Proc.tc.devRef EvenGradRefIdeal.main_arg0) = EvenGradIdeal.Arr.A0 m c := e0
  have l1 : StableHlo.launchContents m' c (Proc.tc.devRef EvenGradRefIdeal.main_arg1) = EvenGradIdeal.Arr.A1 m c := e1
  have l2 : StableHlo.launchContents m' c (Proc.tc.devRef EvenGradRefIdeal.main_arg2) = EvenGradIdeal.Arr.A2 m c := e2
  have l3 : StableHlo.launchContents m' c (Proc.tc.devRef EvenGradRefIdeal.main_arg3) = EvenGradIdeal.Arr.A3 m c := e3
  have l4 : StableHlo.launchContents m' c (Proc.tc.devRef EvenGradRefIdeal.main_arg4) = EvenGradIdeal.Arr.A4 m c := e4
  have l5 : StableHlo.launchContents m' c (Proc.tc.devRef EvenGradRefIdeal.main_arg5) = EvenGradIdeal.Arr.A5 m c := e5
  have l6 : StableHlo.launchContents m' c (Proc.tc.devRef EvenGradRefIdeal.main_arg6) = EvenGradIdeal.Arr.A6 m c := e6
  have l7 : StableHlo.launchContents m' c (Proc.tc.devRef EvenGradRefIdeal.main_arg7) = EvenGradIdeal.Arr.A7 m c := e7
  obtain ⟨h1, h2, h4, h5, h6, h7⟩ := reals m hpre c
  have hz := EvenGradRefIdeal.Read.zf_real (EvenGradIdeal.Arr.A0 m c) _ _ h1 h2
  have hp := EvenGradRefIdeal.Read.dpo_real _ _ _ _ h4 h5 h6 h7
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [EvenGradRefIdeal.Read.val_main_v248_eq, l0, l1, l2, l3, l4, l5, l6, l7, EvenGradIdeal.Arr.arr12]
    funext i
    obtain ⟨k, r, l, rfl⟩ : ∃ (k : Fin 4) (r : Fin 4096) (l : Fin 512), i = ix3 k r l := ⟨i 0, i 1, i 2, eq_ix3 i⟩
    exact EvenGradRefIdeal.Read.r248 _ _ _ _ _ _ _ _ hp k r l
  · rw [EvenGradRefIdeal.Read.val_main_v250_eq, l0, l1, l2, l3, l4, l5, l6, l7, EvenGradIdeal.Arr.arr13]
    funext i
    obtain ⟨k, x, l, rfl⟩ : ∃ (k : Fin 4) (x : Fin 1024) (l : Fin 512), i = ix3 k x l := ⟨i 0, i 1, i 2, eq_ix3 i⟩
    exact EvenGradRefIdeal.Read.r250 _ _ _ _ _ _ _ _ hp k x l
  · rw [EvenGradRefIdeal.Read.val_main_v119_eq, l0, l1, l2, l3, l4, l5, l7, EvenGradIdeal.Arr.arr14]
    funext i
    obtain ⟨j, l, rfl⟩ : ∃ (j : Fin 1024) (l : Fin 1024), i = ix2 j l := ⟨i 0, i 1, eq_ix2 i⟩
    refine (EvenGradRefIdeal.Read.r119 _ _ _ _ _ _ _ hz j l).trans (Finset.sum_congr rfl fun R _ => ?_)
    unfold EvenGradIdeal.Arr.T14 EvenGradIdeal.Arr.mx
    rw [saved]
    exact congrArg (fun e : EReal => e * EvenGradIdeal.Arr.A7 m c (ix2 R l)) (EvenGradRefIdeal.Read.r116 _ _ _ _ _ _ hz R j).symm
  · rw [EvenGradRefIdeal.Read.val_main_v231_eq, l0, l1, l2, l6, l7, EvenGradIdeal.Arr.arr15]
    funext i
    obtain ⟨k, l, rfl⟩ : ∃ (k : Fin 3) (l : Fin 512), i = ix2 k l := ⟨i 0, i 1, eq_ix2 i⟩
    exact EvenGradRefIdeal.Read.r231 _ _ _ _ _ k l
  · rw [EvenGradRefIdeal.Read.val_main_v134_eq, l0, l1, l2, l5, l6, l7, EvenGradIdeal.Arr.arr16]
    funext i
    obtain ⟨g, a, b, rfl⟩ : ∃ (g : Fin 4) (a : Fin 128) (b : Fin 128), i = ix3 g a b := ⟨i 0, i 1, i 2, eq_ix3 i⟩
    exact EvenGradRefIdeal.Read.r134 _ _ _ _ _ _ hz g a b
  · rw [EvenGradRefIdeal.Read.val_main_v251_eq, l0, l1, l2, l4, l6, l7, EvenGradIdeal.Arr.arr17]
    funext i
    obtain ⟨z, l, rfl⟩ : ∃ (z : Fin 1) (l : Fin 512), i = ix2 z l := ⟨i 0, i 1, eq_ix2 i⟩
    exact EvenGradRefIdeal.Read.r251 _ _ _ _ _ _ hz z l

/-- The reference ends with its arguments unchanged; it has no semaphore. -/
theorem frame_ref : Cert.quiescent_EvenGradRefIdeal := fun m ρ _ =>
  (θ_run EvenGradRefIdeal.defs _ _).mono (fun r h => ⟨fun c => (h c).2.2.2.2.2.2, sem_eq_zero_of_no_sems (by decide) r.2⟩)
    (EvenGradRefIdeal.Value.run (F := Ideal) m ρ)

end Cert.EvenGradTie

end

end
-- ==== Proof.FfnGrad.Blocks.lean ====
module

public import proofs.«01_k».proof.Proof.Gen.FfnGradIdeal.Value
public import proofs.«01_k».proof.Proof.Common
public import proofs.«01_k».proof.Proof.Halo
public import Idealize.ShloMosaic.Lib.Pipeline.ValueKit

@[expose] public section

set_option maxRecDepth 16384

/-! # The blocks a grid point reads (the feed-forward gradient)

The grid is four blocks of 704 hidden columns by eight tiles of 512 rows; point `t` is block `t / 8`, tile `t % 8`. -/

noncomputable section

namespace Cert.FfnGradIdeal.Arr

open Cert.FfnGradIdeal Cert.FfnGradIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 8, 0] ∧ win0_1.index t = ![min ((t.val % 8 + 1) * 32) 255, 0]
    ∧ win0_2.index t = ![t.val % 8, 0] ∧ win0_3.index t = ![t.val / 8, t.val % 8, 0] ∧ win0_4.index t = ![t.val / 8, t.val % 8, 0]
    ∧ win0_5.index t = ![t.val / 8, min ((t.val % 8 + 1) * 32) 255, 0] ∧ win0_6.index t = ![t.val / 8, t.val % 8, 0]
    ∧ win0_7.index t = ![t.val / 8, min ((t.val % 8 + 1) * 32) 255, 0] ∧ win0_8.index t = ![t.val / 8, 0, 0] ∧ win0_9.index t = ![t.val / 8, 0, 0]
    ∧ win0_10.index t = ![t.val / 8, t.val % 8, 0] ∧ win0_11.index t = ![t.val / 8, t.val % 8, 0] ∧ win0_12.index t = ![t.val / 8, 0, 0]
    ∧ win0_13.index t = ![t.val / 8, 0, 0] ∧ win0_14.index t = ![t.val / 8, 0, 0] ∧ win0_15.index t = ![t.val / 8, 0, 0]
    ∧ win0_16.index t = ![t.val / 8, 0, 0] := by decide +kernel

/-- The eight arrays at the entry. -/
def A0 : Vec Ideal S4096x1024 .f32 := m ((c : Thread nD τ).loc main_arg0)
@[inherit_doc A0] def A1 : Vec Ideal S1024 .f32 := m ((c : Thread nD τ).loc main_arg1)
@[inherit_doc A0] def A2 : Vec Ideal S1024x2816 .f32 := m ((c : Thread nD τ).loc main_arg2)
@[inherit_doc A0] def A3 : Vec Ideal S1024x2816 .f32 := m ((c : Thread nD τ).loc main_arg3)
@[inherit_doc A0] def A4 : Vec Ideal S3x2816 .f32 := m ((c : Thread nD τ).loc main_arg4)
@[inherit_doc A0] def A5 : Vec Ideal S2816 .f32 := m ((c : Thread nD τ).loc main_arg5)
@[inherit_doc A0] def A6 : Vec Ideal S2816x1024 .f32 := m ((c : Thread nD τ).loc main_arg6)
@[inherit_doc A0] def A7 : Vec Ideal S4096x1024 .f32 := m ((c : Thread nD τ).loc main_arg7)

/-- The hidden column `l` of block `k`. -/
def col (k : Fin 4) (l : Fin 704) : Fin 2816 := ⟨k.val * 704 + l.val, by omega⟩

/-- The normed row. -/
def xn (r : Fin 4096) (l : Fin 1024) : EReal := A0 m c (ix2 r l) * Step.rs (fun y => A0 m c (ix2 r y)) * A1 m c (ix1 l)

/-- Its gate projection at a hidden column, -/
def gf (q : Fin 2816) (r : Fin 4096) : EReal := ∑ x, xn m c r x * A2 m c (ix2 x q)

/-- its up projection, -/
def uf (q : Fin 2816) (r : Fin 4096) : EReal := ∑ x, xn m c r x * A3 m c (ix2 x q)

/-- and the causal convolution of the gate projection with its bias. -/
def gcf (q : Fin 2816) (r : Fin 4096) : EReal :=
  Step.back (gf m c q) r.val 2 * A4 m c (ix2 0 q) + Step.back (gf m c q) r.val 1 * A4 m c (ix2 1 q) + Step.back (gf m c q) r.val 0 * A4 m c (ix2 2 q)
    + A5 m c (ix1 q)

theorem v43 (r : Fin 4096) (l : Fin 1024) : V m c main_v43 (ix2 r l) = A7 m c (ix2 r l) := by
  unfold V
  simp only [hostOps0, hostOps0_1, hostOps0_2, List.flatten_cons, List.flatten_nil, List.cons_append, List.nil_append, List.append_nil]
  entry_read
  pointwise
  rfl

theorem v44 (r : Fin 4096) (l : Fin 1024) : V m c main_v44 (ix2 r l) = xn m c r l := by
  unfold V
  simp only [hostOps0, hostOps0_1, hostOps0_2, List.flatten_cons, List.flatten_nil, List.cons_append, List.nil_append, List.append_nil]
  entry_read
  pointwise
  rfl

theorem v47 (k : Fin 4) (r : Fin 4096) (l : Fin 704) : V m c main_v47 (ix3 k r l) = gf m c (col k l) r := by
  unfold V
  simp only [hostOps0, hostOps0_1, hostOps0_2, List.flatten_cons, List.flatten_nil, List.cons_append, List.nil_append, List.append_nil]
  entry_read
  pointwise
  rfl

theorem v50 (k : Fin 4) (r : Fin 4096) (l : Fin 704) : V m c main_v50 (ix3 k r l) = uf m c (col k l) r := by
  unfold V
  simp only [hostOps0, hostOps0_1, hostOps0_2, List.flatten_cons, List.flatten_nil, List.cons_append, List.nil_append, List.append_nil]
  entry_read
  pointwise
  rfl

theorem v40 (k : Fin 4) (l : Fin 704) (x : Fin 1024) : V m c main_v40 (ix3 k l x) = A6 m c (ix2 (col k l) x) := by
  unfold V
  simp only [hostOps0, hostOps0_1, hostOps0_2, List.flatten_cons, List.flatten_nil, List.cons_append, List.nil_append, List.append_nil]
  entry_read
  pointwise
  rfl

theorem v42 (k : Fin 4) (r : Fin 3) (l : Fin 704) : V m c main_v42 (ix3 k r l) = A4 m c (ix2 r (col k l)) := by
  unfold V
  simp only [hostOps0, hostOps0_1, hostOps0_2, List.flatten_cons, List.flatten_nil, List.cons_append, List.nil_append, List.append_nil]
  entry_read
  pointwise
  rfl

/-- Reading two rows of zeros in front of an array is reading back. -/
theorem pad_back (f : Fin 4096 → EReal) (r : Fin 4096) (k e : ℕ) (he : e + k = 2 + r.val) (Q : Prop) [Decidable Q] (hQ : Q) (z : EReal) (hz : z = 0) :
    (if h : (2 ≤ e ∧ e - 2 < 4096) ∧ Q then f ⟨e - 2, h.1.2⟩ else z) = Step.back f r.val k := by
  unfold Step.back
  by_cases h : 2 ≤ e
  · rw [dif_pos ⟨⟨h, by omega⟩, hQ⟩, if_pos (by omega), Step.ext_of_lt _ _ (by omega)]
    exact congrArg f (Fin.ext (by show e - 2 = r.val - k; omega))
  · rw [dif_neg (fun h' => h h'.1.1), if_neg (by omega), hz]

theorem zero_word : (FloatOps.sitofp (F := Ideal) .f32 0#32 : EReal) = 0 := by
  show ((((0#32 : BitVec 32).toInt : ℝ)) : EReal) = 0
  simp

theorem v53 (k : Fin 4) (r : Fin 4096) (l : Fin 704) : V m c main_v53 (ix3 k r l) = gcf m c (col k l) r := by
  have hq : k.val * 704 + l.val < 2816 := by omega
  have h2 := pad_back (gf m c (col k l)) r 2 r.val (by omega) _ hq _ zero_word
  have h1 := pad_back (gf m c (col k l)) r 1 (1 + r.val) (by omega) _ hq _ zero_word
  unfold gcf
  have h0 : (if h : k.val * 704 + l.val < 2816 then gf m c (col k l) r else FloatOps.sitofp (F := Ideal) .f32 0#32) = Step.back (gf m c (col k l)) r.val 0 :=
    (dif_pos hq).trans (Step.back_zero _ _).symm
  rw [← h2, ← h1, ← h0]
  unfold V
  simp only [hostOps0, hostOps0_1, hostOps0_2, List.flatten_cons, List.flatten_nil, List.cons_append, List.nil_append, List.append_nil]
  entry_read
  simp -implicitDefEqProofs only [StableHlo.TRef.toBuf, StableHlo.TRef.ofBuf, cast_cast, cast_eq]
  pointwise
  clear h0 h1 h2
  rfl

/-- Row `p` of the tile at grid point `t`. -/
def row (t : Fin cfg0.N) (p : Fin 512) : Fin 4096 := ⟨t.val % 8 * 512 + p.val, by omega⟩

/-- Row `p` of the 16 rows after the tile (the last tile reads its own last rows). -/
def rowN (t : Fin cfg0.N) (p : Fin 16) : Fin 4096 := ⟨min ((t.val % 8 + 1) * 32) 255 * 16 + p.val, by omega⟩

/-- The block of hidden columns of grid point `t`. -/
def chip (t : Fin cfg0.N) : Fin 4 := ⟨t.val / 8, by have h : t.val < 32 := t.isLt; omega⟩

theorem blk0 (t : Fin cfg0.N) (p : Fin 512) (l : Fin 1024) : iblk m c 0 t (ix2 p l) = A7 m c (ix2 (row t p) l) := by
  rw [← v43]
  unfold row
  blk_ext [iblk, idx t]

theorem blk1 (t : Fin cfg0.N) (p : Fin 16) (l : Fin 1024) : iblk m c 1 t (ix2 p l) = A7 m c (ix2 (rowN t p) l) := by
  rw [← v43]
  unfold rowN
  blk_ext [iblk, idx t]

theorem blk2 (t : Fin cfg0.N) (p : Fin 512) (l : Fin 1024) : iblk m c 2 t (ix2 p l) = xn m c (row t p) l := by
  rw [← v44]
  unfold row
  blk_ext [iblk, idx t]

theorem blk3 (t : Fin cfg0.N) (p : Fin 512) (l : Fin 704) : iblk m c 3 t (ix3 0 p l) = gf m c (col (chip t) l) (row t p) := by
  rw [← v47]
  unfold row chip
  blk_ext [iblk, idx t]

theorem blk4 (t : Fin cfg0.N) (p : Fin 512) (l : Fin 704) : iblk m c 4 t (ix3 0 p l) = gcf m c (col (chip t) l) (row t p) := by
  rw [← v53]
  unfold row chip
  blk_ext [iblk, idx t]

theorem blk5 (t : Fin cfg0.N) (p : Fin 16) (l : Fin 704) : iblk m c 5 t (ix3 0 p l) = gcf m c (col (chip t) l) (rowN t p) := by
  rw [← v53]
  unfold rowN chip
  blk_ext [iblk, idx t]

theorem blk6 (t : Fin cfg0.N) (p : Fin 512) (l : Fin 704) : iblk m c 6 t (ix3 0 p l) = uf m c (col (chip t) l) (row t p) := by
  rw [← v50]
  unfold row chip
  blk_ext [iblk, idx t]

theorem blk7 (t : Fin cfg0.N) (p : Fin 16) (l : Fin 704) : iblk m c 7 t (ix3 0 p l) = uf m c (col (chip t) l) (rowN t p) := by
  rw [← v50]
  unfold rowN chip
  blk_ext [iblk, idx t]

theorem blk8 (t : Fin cfg0.N) (l : Fin 704) (x : Fin 1024) : iblk m c 8 t (ix3 0 l x) = A6 m c (ix2 (col (chip t) l) x) := by
  rw [← v40]
  unfold chip
  blk_ext [iblk, idx t]

theorem blk9 (t : Fin cfg0.N) (k : Fin 3) (l : Fin 704) : iblk m c 9 t (ix3 0 k l) = A4 m c (ix2 k (col (chip t) l)) := by
  rw [← v42]
  unfold chip
  blk_ext [iblk, idx t]

end Cert.FfnGradIdeal.Arr
-- ==== Proof.FfnGrad.Stage.lean ====
module

public import proofs.«01_k».proof.Proof.FfnGrad.Blocks

@[expose] public section

set_option maxRecDepth 16384

/-! # What a grid point computes from its blocks (the feed-forward gradient) -/

noncomputable section

namespace Cert.FfnGradIdeal.Arr

open Cert.FfnGradIdeal Cert.FfnGradIdeal.Gen Idealize.ShloMosaic Idealize.ShloMosaic.TcCoe Idealize.SL.Sem

variable (m : (ℓ : Loc nD τ sig) → Buf (Elt Ideal) ℓ) (c : Dev nD)

/-- The gradient of the activation, -/
def D (q : Fin 2816) (R : Fin 4096) : EReal := ∑ x, A7 m c (ix2 R x) * A6 m c (ix2 q x)

/-- the sigmoid of the convolved gate, -/
def sg (q : Fin 2816) (R : Fin 4096) : EReal := Ideal.logistic (gcf m c q R)

/-- the activation, -/
def act (q : Fin 2816) (R : Fin 4096) : EReal := gcf m c q R * sg m c q R * uf m c q R

/-- the gradient of the up projection -/
def dup (q : Fin 2816) (R : Fin 4096) : EReal := D m c q R * (gcf m c q R * sg m c q R)

/-- and that of the convolved gate. -/
def dgc (q : Fin 2816) (R : Fin 4096) : EReal := D m c q R * uf m c q R * (sg m c q R + gcf m c q R * sg m c q R * (1 - sg m c q R))

/-- The gradient of the gate projection: the convolution run the other way. -/
def dg (q : Fin 2816) (R : Fin 4096) : EReal :=
  A4 m c (ix2 2 q) * Step.fwd (dgc m c q) R.val 0 + A4 m c (ix2 1 q) * Step.fwd (dgc m c q) R.val 1 + A4 m c (ix2 0 q) * Step.fwd (dgc m c q) R.val 2

theorem grid_val : ∀ t : Fin cfg0.N, (grid0.coords t 1).val = t.val % 8 := by decide +kernel

theorem row_val (t : Fin cfg0.N) (p : Fin 512) : (row t p).val = 512 * (t.val % 8) + p.val := by
  show t.val % 8 * 512 + p.val = _; omega

theorem lit1 : Ideal.ofBits .f32 0x3F800000#32 = (1 : EReal) := by simp [Ideal.ofBits, Ideal.ieee, -EReal.coe_mul]; norm_num

/-- The mask of the rows after the tile: zero past the last tile. -/
theorem keepN (t : Fin cfg0.N) :
    Scalar.select (Scalar.cmpi .slt (BitVec.ofNat 32 (grid0.coords t 1).val) 7#32) (Ideal.ofBits .f32 0x3F800000#32) (Ideal.ofBits .f32 0#32)
      = if t.val % 8 = 7 then (0 : EReal) else 1 := by
  have hw : ∀ n : Fin 8, Scalar.cmpi .slt (BitVec.ofNat 32 n.val) 7#32 = if n.val = 7 then 0#1 else 1#1 := by decide +kernel
  rw [grid_val, hw ⟨t.val % 8, by omega⟩, lit1]
  by_cases h : t.val % 8 = 7
  · simp only [h, if_true]
    show Ideal.ofBits .f32 0#32 = 0
    simp [Ideal.ofBits, Ideal.ieee]
  · simp only [h, if_false]; rfl

/-- The tile of the activation's gradient with the sixteen rows after it. -/
def DX (t : Fin cfg0.N) : FVec Ideal S528x704 .f32 := k0_pay8 (grid0.coords t) (iblk m c 0 t) (iblk m c 1 t) (iblk m c 8 t)

theorem D_lo (t : Fin cfg0.N) (e : Fin 512) (l : Fin 704) :
    (∑ x, (HMul.hMul : EReal → EReal → EReal) (iblk m c 0 t (ix2 e x)) (iblk m c 8 t (ix3 0 l x))) = D m c (col (chip t) l) (row t e) := by
  unfold D
  refine Finset.sum_congr rfl fun x _ => ?_
  rw [blk0, blk8]

theorem D_hi (t : Fin cfg0.N) (e : Fin 16) (l : Fin 704) :
    (∑ x, (HMul.hMul : EReal → EReal → EReal) (iblk m c 1 t (ix2 e x)) (iblk m c 8 t (ix3 0 l x))) = D m c (col (chip t) l) (rowN t e) := by
  unfold D
  refine Finset.sum_congr rfl fun x _ => ?_
  rw [blk1, blk8]

/-- The same computation with the mask a parameter. -/
def dactOf (s : Ideal .f32) (v5 : FVec Ideal S512x1024 .bf16) (v7 : FVec Ideal S16x1024 .bf16) (v10 : FVec Ideal S1x704x1024 .bf16) : FVec Ideal S528x704 .f32 :=
  have v12 : FVec Ideal S528x704 .f32 := matmul dot_S528x1024_S704x1024_S528x704_1_1_0_0_n_n none
    (concatenate S528x1024 0 [⟨S512x1024, k0_pay7 v5⟩, ⟨S16x1024, shapeCast S16x1024 v7 shapeCasts_S16x1024_S16x1024⟩] concatenates_S512x1024_S16x1024_S528x1024_d0)
    (shapeCast S704x1024 v10 shapeCasts_S1x704x1024_S704x1024) (constant S528x704 .f32 0x00000000#32)
  concatenate S528x704 0 [⟨S512x704, extractStridedSlice S512x704 ![0, 0] v12 slices_S528x704_o0_0_S512x704⟩,
    ⟨S16x704, mulf (extractStridedSlice S16x704 ![512, 0] v12 slices_S528x704_o512_0_S16x704) (broadcast S16x704 s)⟩] concatenates_S512x704_S16x704_S528x704_d0

theorem dactOf_lo (s : Ideal .f32) (v5 : FVec Ideal S512x1024 .bf16) (v7 : FVec Ideal S16x1024 .bf16) (v10 : FVec Ideal S1x704x1024 .bf16) (e : Fin 512) (l : Fin 704) :
    dactOf s v5 v7 v10 (ix2 ⟨e.val, by omega⟩ l) = ∑ x, (HMul.hMul : EReal → EReal → EReal) (v5 (ix2 e x)) (v10 (ix3 0 l x)) := by
  pointwise [dactOf, k0_pay7]

theorem dactOf_hi (s : Ideal .f32) (v5 : FVec Ideal S512x1024 .bf16) (v7 : FVec Ideal S16x1024 .bf16) (v10 : FVec Ideal S1x704x1024 .bf16) (e : Fin 16) (l : Fin 704) :
    dactOf s v5 v7 v10 (ix2 ⟨512 + e.val, by omega⟩ l) = (∑ x, (HMul.hMul : EReal → EReal → EReal) (v7 (ix2 e x)) (v10 (ix3 0 l x))) * s := by
  pointwise [dactOf, k0_pay7]

theorem DX_eq (t : Fin cfg0.N) : DX m c t = dactOf (if t.val % 8 = 7 then (0 : EReal) else 1) (iblk m c 0 t) (iblk m c 1 t) (iblk m c 8 t) := by
  rw [← keepN t]
  simp only [DX, k0_pay8, dactOf]
  rfl

theorem DX_lo (t : Fin cfg0.N) (e : ℕ) (h : e < 528) (he : e < 512) (l : Fin 704) : DX m c t (ix2 ⟨e, h⟩ l) = D m c (col (chip t) l) (row t ⟨e, he⟩) := by
  rw [DX_eq]
  exact (dactOf_lo _ _ _ _ ⟨e, he⟩ l).trans (D_lo m c t ⟨e, he⟩ l)

theorem DX_hi (t : Fin cfg0.N) (e : ℕ) (h : e < 528) (he : ¬e < 512) (l : Fin 704) :
    DX m c t (ix2 ⟨e, h⟩ l) = D m c (col (chip t) l) (rowN t ⟨e - 512, by omega⟩) * (if t.val % 8 = 7 then (0 : EReal) else 1) := by
  obtain ⟨f, rfl⟩ : ∃ f : Fin 16, e = 512 + f.val := ⟨⟨e - 512, by omega⟩, by show e = 512 + (e - 512); omega⟩
  rw [DX_eq]
  refine (dactOf_hi _ _ _ _ f l).trans (congrArg (· * _) ((D_hi m c t f l).trans ?_))
  exact congrArg (fun f => D m c (col (chip t) l) (rowN t f)) (Fin.ext (by show f.val = 512 + f.val - 512; omega))

/-- The sigmoid, the gated tile and the up projection on the same rows, -/
def SX (t : Fin cfg0.N) : FVec Ideal S528x704 .f32 := k0_pay10 (iblk m c 4 t) (iblk m c 5 t)
@[inherit_doc SX] def LX (t : Fin cfg0.N) : FVec Ideal S528x704 .f32 := k0_pay11 (iblk m c 4 t) (iblk m c 5 t)
@[inherit_doc SX] def UX (t : Fin cfg0.N) : FVec Ideal S528x704 .f32 := k0_pay12 (iblk m c 6 t) (iblk m c 7 t)

/-- and the convolved gate's gradient. -/
def GX (t : Fin cfg0.N) : FVec Ideal S528x704 .f32 := k0_pay16 (DX m c t) (SX m c t) (LX m c t) (UX m c t)

/-- A row of the extended tile in the whole array. -/
def rowE (t : Fin cfg0.N) (e : ℕ) (h : e < 528) : Fin 4096 := if he : e < 512 then row t ⟨e, he⟩ else rowN t ⟨e - 512, by omega⟩

theorem C_apply (t : Fin cfg0.N) (e : ℕ) (h : e < 528) (l : Fin 704) : k0_pay9 (F := Ideal) (iblk m c 4 t) (iblk m c 5 t) (ix2 ⟨e, h⟩ l) = gcf m c (col (chip t) l) (rowE t e h) := by
  pointwise [k0_pay9]
  unfold rowE
  by_cases he : e < 512
  · rw [dif_pos he, dif_pos he]; exact blk4 m c t ⟨e, he⟩ l
  · rw [dif_neg he, dif_neg he]; exact blk5 m c t ⟨e - 512, by omega⟩ l

theorem UX_apply (t : Fin cfg0.N) (e : ℕ) (h : e < 528) (l : Fin 704) : UX m c t (ix2 ⟨e, h⟩ l) = uf m c (col (chip t) l) (rowE t e h) := by
  pointwise [UX, k0_pay12]
  unfold rowE
  by_cases he : e < 512
  · rw [dif_pos he, dif_pos he]; exact blk6 m c t ⟨e, he⟩ l
  · rw [dif_neg he, dif_neg he]; exact blk7 m c t ⟨e - 512, by omega⟩ l

theorem SX_apply (t : Fin cfg0.N) (e : ℕ) (h : e < 528) (l : Fin 704) : SX m c t (ix2 ⟨e, h⟩ l) = sg m c (col (chip t) l) (rowE t e h) := by
  unfold SX k0_pay10 sg
  rw [← C_apply m c t e h l]
  rfl

theorem LX_apply (t : Fin cfg0.N) (e : ℕ) (h : e < 528) (l : Fin 704) :
    LX m c t (ix2 ⟨e, h⟩ l) = gcf m c (col (chip t) l) (rowE t e h) * sg m c (col (chip t) l) (rowE t e h) := by
  rw [← C_apply m c t e h l, ← SX_apply m c t e h l]
  rfl

theorem GX_apply (t : Fin cfg0.N) (e : ℕ) (h : e < 528) (l : Fin 704) : GX m c t (ix2 ⟨e, h⟩ l) = Step.ext (dgc m c (col (chip t) l)) (512 * (t.val % 8) + e) := by
  pointwise [GX, k0_pay16]
  rw [SX_apply, LX_apply, UX_apply]
  by_cases he : e < 512
  · rw [DX_lo m c t e h he, rowE, dif_pos he]
    refine (Step.ext_row (dgc m c (col (chip t) l)) _ (row t ⟨e, he⟩) ?_).symm
    show _ = t.val % 8 * 512 + e
    omega
  · rw [DX_hi m c t e h he, rowE, dif_neg he]
    by_cases h7 : t.val % 8 = 7
    · rw [if_pos h7, mul_zero, zero_mul, zero_mul, Step.ext_of_le _ _ (by omega)]
    · rw [if_neg h7, mul_one]
      refine (Step.ext_row (dgc m c (col (chip t) l)) _ (rowN t ⟨e - 512, by omega⟩) ?_).symm
      show _ = min ((t.val % 8 + 1) * 32) 255 * 16 + (e - 512)
      omega

theorem GX_fwd (t : Fin cfg0.N) (p : Fin 512) (l : Fin 704) (k e : ℕ) (h : e < 528) (he : e = p.val + k) :
    GX m c t (ix2 ⟨e, h⟩ l) = Step.fwd (dgc m c (col (chip t) l)) (row t p).val k := by
  rw [GX_apply, row_val]
  unfold Step.fwd
  congr 1; omega

theorem rowE_lo (t : Fin cfg0.N) (p : Fin 512) (h : p.val < 528) : rowE t p.val h = row t p := dif_pos p.isLt

/-- The block of the up projection's gradient the point writes, -/
theorem su (t : Fin cfg0.N) (p : Fin 512) (l : Fin 704) : k0_pay14 (F := Ideal) (DX m c t) (LX m c t) (ix2 p l) = dup m c (col (chip t) l) (row t p) := by
  pointwise [k0_pay14]
  rw [DX_lo m c t p.val (by omega) p.isLt, LX_apply, rowE_lo]
  rfl

/-- and that of the gate projection's. -/
theorem sd (t : Fin cfg0.N) (p : Fin 512) (l : Fin 704) :
    k0_pay21 (F := Ideal) (k0_pay18 (DX m c t) (SX m c t) (LX m c t) (UX m c t)) (k0_pay19 (DX m c t) (SX m c t) (LX m c t) (UX m c t)
        (View.ld (iblk m c 9 t) (Rect.unit ![0, 2, 0] ![1, 1, 704] inb_S1x3x704_S1x1x704_0_2_0))
        (View.ld (iblk m c 9 t) (Rect.unit ![0, 1, 0] ![1, 1, 704] inb_S1x3x704_S1x1x704_0_1_0)))
      (k0_pay20 (View.ld (iblk m c 9 t) (Rect.unit ![0, 0, 0] ![1, 1, 704] inb_S1x3x704_S1x1x704_0_0_0))) (ix2 p l) = dg m c (col (chip t) l) (row t p) := by
  change k0_pay21 (F := Ideal) (dynamicRotate 0 526#32 none (GX m c t) rotates_S528x704_d0) _ _ _ = _
  pointwise [k0_pay21, k0_pay20, k0_pay19, k0_pay17]
  change (HAdd.hAdd : EReal → EReal → EReal) ((HAdd.hAdd : EReal → EReal → EReal) ((HMul.hMul : EReal → EReal → EReal) (iblk m c 9 t (ix3 0 2 l)) (GX m c t (ix2 ⟨p.val, by omega⟩ l)))
    ((HMul.hMul : EReal → EReal → EReal) (iblk m c 9 t (ix3 0 1 l)) (GX m c t (ix2 ⟨(p.val + 528 - 527) % 528, by omega⟩ l))))
    ((HMul.hMul : EReal → EReal → EReal) (iblk m c 9 t (ix3 0 0 l)) (GX m c t (ix2 ⟨(p.val + 528 - 526) % 528, by omega⟩ l))) = _
  rw [GX_fwd m c t p l 0 _ _ (by omega), GX_fwd m c t p l 1 _ _ (by omega), GX_fwd m c t p l 2 _ _ (by omega), blk9, blk9, blk9]
  rfl

end Cert.FfnGradIdeal.Arr
-- ==== Proof.FfnGrad.Array.lean ====
module

public import proofs.«01_k».proof.Proof.FfnGrad.Stage
public import Idealize.ShloMosaic.Lib.Pipeline.ReadBack

@[expose] public section

set_option maxRecDepth 16384

/-! # What the output arrays hold (the feed-forward gradient)

Two outputs are written tile by tile; the other five are reset at the first tile of a block of hidden columns and gather the eight tiles. -/

noncomputable section

namespace Cert.FfnGradIdeal.Arr

open Cert.FfnGradIdeal Cert.FfnGradIdeal.Gen Idealize.ShloMosaic Idealize.ShloMosaic.TcCoe Idealize.SL.Sem

variable (m : (ℓ : Loc nD τ sig) → Buf (Elt Ideal) ℓ) (c : Dev nD)

/-- One row's share of the gate weights' gradient, -/
def T12 (q : Fin 2816) (x : Fin 1024) (R : Fin 4096) : EReal := dg m c q R * xn m c R x
/-- of the up weights', -/
def T13 (q : Fin 2816) (x : Fin 1024) (R : Fin 4096) : EReal := dup m c q R * xn m c R x
/-- of the down weights', -/
def T14 (q : Fin 2816) (x : Fin 1024) (R : Fin 4096) : EReal := act m c q R * A7 m c (ix2 R x)
/-- and of the convolution's weights'. -/
def T15 (k : Fin 3) (q : Fin 2816) (R : Fin 4096) : EReal := Step.fwd (dgc m c q) R.val (2 - k.val) * gf m c q R

/-- A carried output after grid point `t`, which found `Z` there. -/
def G12 (T : Fin 2816 → Fin 1024 → Fin 4096 → EReal) (t : Fin cfg0.N) (Z : Vec Ideal S1x704x1024 .f32) : Vec Ideal S1x704x1024 .f32 :=
  fun y => Z y + ∑ p, T (col (chip t) (y 1)) (y 2) (row t p)
@[inherit_doc G12] def G15 (t : Fin cfg0.N) (Z : Vec Ideal S1x3x704 .f32) : Vec Ideal S1x3x704 .f32 := fun y => Z y + ∑ p, T15 m c (y 1) (col (chip t) (y 2)) (row t p)
@[inherit_doc G12] def G16 (t : Fin cfg0.N) (Z : Vec Ideal S1x1x704 .f32) : Vec Ideal S1x1x704 .f32 := fun y => Z y + ∑ p, dgc m c (col (chip t) (y 2)) (row t p)

/-- The rows of the convolution's weights, as the body loads them. -/
def w2 (t : Fin cfg0.N) : Vec Ideal S1x1x704 .f32 := View.ld (iblk m c 9 t) (Rect.unit ![0, 2, 0] ![1, 1, 704] inb_S1x3x704_S1x1x704_0_2_0)
@[inherit_doc w2] def w1 (t : Fin cfg0.N) : Vec Ideal S1x1x704 .f32 := View.ld (iblk m c 9 t) (Rect.unit ![0, 1, 0] ![1, 1, 704] inb_S1x3x704_S1x1x704_0_1_0)
@[inherit_doc w2] def w0 (t : Fin cfg0.N) : Vec Ideal S1x1x704 .f32 := View.ld (iblk m c 9 t) (Rect.unit ![0, 0, 0] ![1, 1, 704] inb_S1x3x704_S1x1x704_0_0_0)

theorem s24 (t : Fin cfg0.N) (Z : Vec Ideal S1x704x1024 .f32) (l : Fin 704) (x : Fin 1024) :
    k0_pay24 (k0_pay18 (DX m c t) (SX m c t) (LX m c t) (UX m c t)) (k0_pay19 (DX m c t) (SX m c t) (LX m c t) (UX m c t) (w2 m c t) (w1 m c t))
      (k0_pay20 (w0 m c t)) (iblk m c 2 t) Z (ix3 0 l x) = Z (ix3 0 l x) + ∑ p, T12 m c (col (chip t) l) x (row t p) := by
  have h : ∀ p : Fin 512, T12 m c (col (chip t) l) x (row t p) = (HMul.hMul : EReal → EReal → EReal) (k0_pay21 (k0_pay18 (DX m c t) (SX m c t) (LX m c t) (UX m c t))
      (k0_pay19 (DX m c t) (SX m c t) (LX m c t) (UX m c t) (w2 m c t) (w1 m c t)) (k0_pay20 (w0 m c t)) (ix2 p l)) (iblk m c 2 t (ix2 p x)) := fun p => by
    rw [w2, w1, w0, sd, blk2]
    rfl
  simp only [h]
  pointwise [k0_pay24, k0_pay23]

theorem s25 (t : Fin cfg0.N) (Z : Vec Ideal S1x704x1024 .f32) (l : Fin 704) (x : Fin 1024) :
    k0_pay25 (k0_pay14 (DX m c t) (LX m c t)) (iblk m c 2 t) Z (ix3 0 l x) = Z (ix3 0 l x) + ∑ p, T13 m c (col (chip t) l) x (row t p) := by
  have h : ∀ p : Fin 512, T13 m c (col (chip t) l) x (row t p) = (HMul.hMul : EReal → EReal → EReal) (k0_pay14 (DX m c t) (LX m c t) (ix2 p l)) (iblk m c 2 t (ix2 p x)) := fun p => by
    rw [su, blk2]
    rfl
  simp only [h]
  pointwise [k0_pay25, k0_pay23]

theorem s13 (t : Fin cfg0.N) (Z : Vec Ideal S1x704x1024 .f32) (l : Fin 704) (x : Fin 1024) :
    k0_pay13 (k0_pay7 (iblk m c 0 t)) (LX m c t) (UX m c t) Z (ix3 0 l x) = Z (ix3 0 l x) + ∑ p, T14 m c (col (chip t) l) x (row t p) := by
  have h : ∀ p : Fin 512, T14 m c (col (chip t) l) x (row t p) = (HMul.hMul : EReal → EReal → EReal) (LX m c t (ix2 ⟨p.val, by omega⟩ l) * UX m c t (ix2 ⟨p.val, by omega⟩ l)) (iblk m c 0 t (ix2 p x)) := fun p => by
    rw [LX_apply, UX_apply, rowE_lo, blk0]
    rfl
  simp only [h]
  pointwise [k0_pay13, k0_pay7]

theorem s16 (t : Fin cfg0.N) (Z : Vec Ideal S1x1x704 .f32) (l : Fin 704) :
    k0_pay29 (k0_pay27 Z) (k0_pay28 (GX m c t)) (ix3 0 0 l) = Z (ix3 0 0 l) + ∑ p, dgc m c (col (chip t) l) (row t p) := by
  have h : ∀ p : Fin 512, dgc m c (col (chip t) l) (row t p) = GX m c t (ix2 ⟨p.val, by omega⟩ l) := fun p => by
    rw [GX_fwd m c t p l 0 _ _ (by omega), Step.fwd_zero]
  simp only [h]
  pointwise [k0_pay29, k0_pay27, k0_pay28]

theorem s15_2 (t : Fin cfg0.N) (Z : Vec Ideal S1x3x704 .f32) (l : Fin 704) :
    k0_pay30 (GX m c t) (k0_pay26 (iblk m c 3 t)) (View.ld Z (Rect.unit ![0, 2, 0] ![1, 1, 704] inb_S1x3x704_S1x1x704_0_2_0)) (ix3 0 0 l)
      = Z (ix3 0 2 l) + ∑ p, T15 m c 2 (col (chip t) l) (row t p) := by
  have h : ∀ p : Fin 512, T15 m c 2 (col (chip t) l) (row t p) = (HMul.hMul : EReal → EReal → EReal) (GX m c t (ix2 ⟨p.val, by omega⟩ l)) (iblk m c 3 t (ix3 0 p l)) := fun p => by
    rw [GX_fwd m c t p l 0 _ _ (by omega), blk3]
    rfl
  simp only [h]
  pointwise [k0_pay30, k0_pay26]

theorem s15_1 (t : Fin cfg0.N) (Z : Vec Ideal S1x3x704 .f32) (l : Fin 704) :
    k0_pay31 (k0_pay17 (DX m c t) (SX m c t) (LX m c t) (UX m c t)) (k0_pay26 (iblk m c 3 t)) (View.ld Z (Rect.unit ![0, 1, 0] ![1, 1, 704] inb_S1x3x704_S1x1x704_0_1_0)) (ix3 0 0 l)
      = Z (ix3 0 1 l) + ∑ p, T15 m c 1 (col (chip t) l) (row t p) := by
  have h : ∀ p : Fin 512, T15 m c 1 (col (chip t) l) (row t p) = (HMul.hMul : EReal → EReal → EReal) (GX m c t (ix2 ⟨(p.val + 528 - 527) % 528, by omega⟩ l)) (iblk m c 3 t (ix3 0 p l)) := fun p => by
    rw [GX_fwd m c t p l 1 _ _ (by omega), blk3]
    rfl
  simp only [h]
  change k0_pay31 (dynamicRotate 0 527#32 none (GX m c t) rotates_S528x704_d0) _ _ _ = _
  pointwise [k0_pay31, k0_pay26]

theorem s15_0 (t : Fin cfg0.N) (Z : Vec Ideal S1x3x704 .f32) (l : Fin 704) :
    k0_pay1 (k0_pay32 (k0_pay18 (DX m c t) (SX m c t) (LX m c t) (UX m c t)) (k0_pay26 (iblk m c 3 t)) (View.ld Z (Rect.unit ![0, 0, 0] ![1, 1, 704] inb_S1x3x704_S1x1x704_0_0_0))) (ix3 0 0 l)
      = Z (ix3 0 0 l) + ∑ p, T15 m c 0 (col (chip t) l) (row t p) := by
  have h : ∀ p : Fin 512, T15 m c 0 (col (chip t) l) (row t p) = (HMul.hMul : EReal → EReal → EReal) (GX m c t (ix2 ⟨(p.val + 528 - 526) % 528, by omega⟩ l)) (iblk m c 3 t (ix3 0 p l)) := fun p => by
    rw [GX_fwd m c t p l 2 _ _ (by omega), blk3]
    rfl
  simp only [h]
  change k0_pay1 (k0_pay32 (dynamicRotate 0 526#32 none (GX m c t) rotates_S528x704_d0) _ _) _ = _
  pointwise [k0_pay1, k0_pay32, k0_pay26]

/-- The stores a point makes into the convolution's output, the last first. -/
def L15 (t : Fin cfg0.N) (Z : Vec Ideal S1x3x704 .f32) : List (View.Piece (Elt Ideal) S1x3x704 .f32) :=
  [⟨Rect.unit ![0, 0, 0] ![1, 1, 704] inb_S1x3x704_S1x1x704_0_0_0, k0_pay1 (k0_pay32 (k0_pay18 (DX m c t) (SX m c t) (LX m c t) (UX m c t)) (k0_pay26 (iblk m c 3 t)) (View.ld Z (Rect.unit ![0, 0, 0] ![1, 1, 704] inb_S1x3x704_S1x1x704_0_0_0)))⟩,
   ⟨Rect.unit ![0, 1, 0] ![1, 1, 704] inb_S1x3x704_S1x1x704_0_1_0, k0_pay31 (k0_pay17 (DX m c t) (SX m c t) (LX m c t) (UX m c t)) (k0_pay26 (iblk m c 3 t)) (View.ld Z (Rect.unit ![0, 1, 0] ![1, 1, 704] inb_S1x3x704_S1x1x704_0_1_0))⟩,
   ⟨Rect.unit ![0, 2, 0] ![1, 1, 704] inb_S1x3x704_S1x1x704_0_2_0, k0_pay30 (GX m c t) (k0_pay26 (iblk m c 3 t)) (View.ld Z (Rect.unit ![0, 2, 0] ![1, 1, 704] inb_S1x3x704_S1x1x704_0_2_0))⟩]

theorem pcs15 (t : Fin cfg0.N) (Z : Vec Ideal S1x3x704 .f32) : View.PiecesOf (G15 m c t Z) (L15 m c t Z) := by
  refine ⟨fun x => ?_, fun x => ?_, fun x => ?_, trivial⟩
  all_goals idx_vars x; obtain rfl : x0 = 0 := Subsingleton.elim _ _; obtain rfl : x1 = 0 := Subsingleton.elim _ _
  · refine (s15_0 m c t Z x2).trans (congrArg (G15 m c t Z) (?_ : ix3 0 0 x2 = _))
    blk_ext []
  · refine (s15_1 m c t Z x2).trans (congrArg (G15 m c t Z) (?_ : ix3 0 1 x2 = _))
    blk_ext []
  · refine (s15_2 m c t Z x2).trans (congrArg (G15 m c t Z) (?_ : ix3 0 2 x2 = _))
    blk_ext []

theorem t12A (t : Fin cfg0.N) (h0 : t.val % 8 = 0) : (outsAt0 m c t.val t.isLt).2.2.1 = G12 (T12 m c) t (k0_pay2 (F := Ideal)) := by
  rw [outsAt0_A m c t h0]
  frame_out
  funext y
  idx_vars y
  obtain rfl : y0 = 0 := Subsingleton.elim _ _
  exact s24 m c t _ y1 y2

theorem t12B (t : Fin cfg0.N) (h0 : ¬t.val % 8 = 0) : (outsAt0 m c t.val t.isLt).2.2.1 = G12 (T12 m c) t (outsAt0 m c (t.val - 1) (by omega)).2.2.1 := by
  rw [outsAt0_B m c t h0]
  frame_out
  funext y
  idx_vars y
  obtain rfl : y0 = 0 := Subsingleton.elim _ _
  exact s24 m c t _ y1 y2

theorem t13A (t : Fin cfg0.N) (h0 : t.val % 8 = 0) : (outsAt0 m c t.val t.isLt).2.2.2.1 = G12 (T13 m c) t (k0_pay3 (F := Ideal)) := by
  rw [outsAt0_A m c t h0]
  frame_out
  funext y
  idx_vars y
  obtain rfl : y0 = 0 := Subsingleton.elim _ _
  exact s25 m c t _ y1 y2

theorem t13B (t : Fin cfg0.N) (h0 : ¬t.val % 8 = 0) : (outsAt0 m c t.val t.isLt).2.2.2.1 = G12 (T13 m c) t (outsAt0 m c (t.val - 1) (by omega)).2.2.2.1 := by
  rw [outsAt0_B m c t h0]
  frame_out
  funext y
  idx_vars y
  obtain rfl : y0 = 0 := Subsingleton.elim _ _
  exact s25 m c t _ y1 y2

theorem t14A (t : Fin cfg0.N) (h0 : t.val % 8 = 0) : (outsAt0 m c t.val t.isLt).2.2.2.2.1 = G12 (T14 m c) t (k0_pay4 (F := Ideal)) := by
  rw [outsAt0_A m c t h0]
  frame_out
  funext y
  idx_vars y
  obtain rfl : y0 = 0 := Subsingleton.elim _ _
  exact s13 m c t _ y1 y2

theorem t14B (t : Fin cfg0.N) (h0 : ¬t.val % 8 = 0) : (outsAt0 m c t.val t.isLt).2.2.2.2.1 = G12 (T14 m c) t (outsAt0 m c (t.val - 1) (by omega)).2.2.2.2.1 := by
  rw [outsAt0_B m c t h0]
  frame_out
  funext y
  idx_vars y
  obtain rfl : y0 = 0 := Subsingleton.elim _ _
  exact s13 m c t _ y1 y2

theorem t15A (t : Fin cfg0.N) (h0 : t.val % 8 = 0) : (outsAt0 m c t.val t.isLt).2.2.2.2.2.1 = G15 m c t (k0_pay5 (F := Ideal)) := by
  rw [outsAt0_A m c t h0]
  frame_open
  simp (disch := decide) only [↓ View.readCov_skip, ↓ View.readCov_cons_toLoadRect, ↓ View.readCov_fill]
  frame_out
  funext y
  exact View.canon_append_of_piecesOf (G15 m c t (k0_pay5 (F := Ideal))) [_] (L15 m c t (k0_pay5 (F := Ideal))) (pcs15 m c t (k0_pay5 (F := Ideal))) y (View.cover_of_tiledBy _ ![1, 1, 704] (by sl_kernel_rfl) y)

theorem t15B (t : Fin cfg0.N) (h0 : ¬t.val % 8 = 0) : (outsAt0 m c t.val t.isLt).2.2.2.2.2.1 = G15 m c t (outsAt0 m c (t.val - 1) (by omega)).2.2.2.2.2.1 := by
  rw [outsAt0_B m c t h0]
  frame_open
  simp (disch := decide) only [↓ View.readCov_skip, ↓ View.readCov_cons_toLoadRect, ↓ View.readCov_fill]
  frame_out
  funext y
  exact View.canon_append_of_piecesOf (G15 m c t _) [] (L15 m c t _) (pcs15 m c t _) y (View.cover_of_tiledBy _ ![1, 1, 704] (by sl_kernel_rfl) y)

theorem t16A (t : Fin cfg0.N) (h0 : t.val % 8 = 0) : (outsAt0 m c t.val t.isLt).2.2.2.2.2.2 = G16 m c t (k0_pay6 (F := Ideal)) := by
  rw [outsAt0_A m c t h0]
  frame_out
  funext y
  idx_vars y
  obtain rfl : y0 = 0 := Subsingleton.elim _ _
  obtain rfl : y1 = 0 := Subsingleton.elim _ _
  exact s16 m c t _ y2

theorem t16B (t : Fin cfg0.N) (h0 : ¬t.val % 8 = 0) : (outsAt0 m c t.val t.isLt).2.2.2.2.2.2 = G16 m c t (outsAt0 m c (t.val - 1) (by omega)).2.2.2.2.2.2 := by
  rw [outsAt0_B m c t h0]
  frame_out
  funext y
  idx_vars y
  obtain rfl : y0 = 0 := Subsingleton.elim _ _
  obtain rfl : y1 = 0 := Subsingleton.elim _ _
  exact s16 m c t _ y2

/-- The tiles the two tile-wise outputs receive. -/
theorem t10 (t : Fin cfg0.N) (p : Fin 512) (l : Fin 704) : (outsAt0 m c t.val t.isLt).1 (ix3 0 p l) = dg m c (col (chip t) l) (row t p) := by
  refine Eq.trans ?_ (sd m c t p l)
  by_cases h0 : t.val % 8 = 0
  · rw [outsAt0_A m c t h0]
    frame_out
    pointwise [k0_pay22]
    rfl
  · rw [outsAt0_B m c t h0]
    frame_out
    pointwise [k0_pay22]
    rfl

@[inherit_doc t10]
theorem t11 (t : Fin cfg0.N) (p : Fin 512) (l : Fin 704) : (outsAt0 m c t.val t.isLt).2.1 (ix3 0 p l) = dup m c (col (chip t) l) (row t p) := by
  refine Eq.trans ?_ (su m c t p l)
  by_cases h0 : t.val % 8 = 0
  · rw [outsAt0_A m c t h0]
    frame_out
    pointwise [k0_pay15]
    rfl
  · rw [outsAt0_B m c t h0]
    frame_out
    pointwise [k0_pay15]
    rfl

theorem arr10 : (dats m 0 c).arrAt 10 cfg0.N = fun i => dg m c (col (i 0) (i 2)) (i 1) := by
  refine (dats m 0 c).arrAt_eq_of_covers 10 _ (by decide +kernel) fun t hf y => ?_
  blk_simp
  rw [after0_10]
  idx_vars y
  obtain rfl : y0 = 0 := Subsingleton.elim _ _
  have e0 : (((View.whole main_v54_0).slice (win0_10.rect t)).emb (ix3 0 y1 y2)) = ix3 (chip t) (row t y1) y2 := by
    unfold row chip
    blk_ext [idx t]
  rw [e0]
  exact t10 m c t y1 y2

theorem arr11 : (dats m 0 c).arrAt 11 cfg0.N = fun i => dup m c (col (i 0) (i 2)) (i 1) := by
  refine (dats m 0 c).arrAt_eq_of_covers 11 _ (by decide +kernel) fun t hf y => ?_
  blk_simp
  rw [after0_11]
  idx_vars y
  obtain rfl : y0 = 0 := Subsingleton.elim _ _
  have e0 : (((View.whole main_v54_1).slice (win0_11.rect t)).emb (ix3 0 y1 y2)) = ix3 (chip t) (row t y1) y2 := by
    unfold row chip
    blk_ext [idx t]
  rw [e0]
  exact t11 m c t y1 y2

theorem idx12 (t : Fin cfg0.N) : win0_12.index t = ![t.val / 8, 0, 0] := (idx t).2.2.2.2.2.2.2.2.2.2.2.2.1
theorem idx13 (t : Fin cfg0.N) : win0_13.index t = ![t.val / 8, 0, 0] := (idx t).2.2.2.2.2.2.2.2.2.2.2.2.2.1
theorem idx14 (t : Fin cfg0.N) : win0_14.index t = ![t.val / 8, 0, 0] := (idx t).2.2.2.2.2.2.2.2.2.2.2.2.2.2.1
theorem idx15 (t : Fin cfg0.N) : win0_15.index t = ![t.val / 8, 0, 0] := (idx t).2.2.2.2.2.2.2.2.2.2.2.2.2.2.2.1

/-- Eight tiles of a block of hidden columns, gathered. -/
theorem gather (f : Fin 4 → Fin 4096 → EReal) (t : Fin cfg0.N) (h : ∀ s : Fin 8, 8 * (t.val / 8) + s.val < cfg0.N) :
    (0 : EReal) + ∑ s : Fin 8, ∑ p, f (chip ⟨8 * (t.val / 8) + s.val, h s⟩) (row ⟨8 * (t.val / 8) + s.val, h s⟩ p) = ∑ R, f (chip t) R := by
  rw [zero_add]
  refine Fin.sum_mul_add_congr (S := 8) (n := 512) (f := fun r => f (chip t) r) fun s k hl => ?_
  have e1 : chip ⟨8 * (t.val / 8) + s.val, h s⟩ = chip t := Fin.ext (by show (8 * (t.val / 8) + s.val) / 8 = t.val / 8; omega)
  have e2 : row ⟨8 * (t.val / 8) + s.val, h s⟩ k = ⟨s.val * 512 + k.val, hl⟩ := Fin.ext (by show (8 * (t.val / 8) + s.val) % 8 * 512 + k.val = _; congr 2; omega)
  rw [e1, e2]

theorem fin12 (t : Fin cfg0.N) (ht : t.val % 8 = 8 - 1) (j : S1x704x1024.Idx) :
    (outsAt0 m c t.val t.isLt).2.2.1 j = ∑ R, T12 m c (col (chip t) (j 1)) (j 2) R := by
  have hA : ∀ t : Fin cfg0.N, t.val % 8 = 0 → ∀ j, (outsAt0 m c t.val t.isLt).2.2.1 j = 0 + ∑ p, T12 m c (col (chip t) (j 1)) (j 2) (row t p) := fun t h j => by
    rw [t12A m c t h]
    refine congrArg (· + _) ?_
    unfold k0_pay2
    pointwise
  have hB : ∀ t : Fin cfg0.N, ¬t.val % 8 = 0 → ∀ j, (outsAt0 m c t.val t.isLt).2.2.1 j = (outsAt0 m c (t.val - 1) (Nat.lt_of_le_of_lt (Nat.sub_le _ _) t.isLt)).2.2.1 j + ∑ p, T12 m c (col (chip t) (j 1)) (j 2) (row t p) :=
    fun t h j => congrFun (t12B m c t h) j
  rw [Pipeline.eq_sum_fin_of_reset_step_apply_of_flush (fun n h => (outsAt0 m c n h).2.2.1) 8 (fun _ => (0 : EReal))
    (fun t j => ∑ p, T12 m c (col (chip t) (j 1)) (j 2) (row t p)) hA hB t ht j]
  exact gather (fun k => T12 m c (col k (j 1)) (j 2)) t _

set_option maxHeartbeats 1600000 in
theorem arr12 : (dats m 0 c).arrAt 12 cfg0.N = fun i => ∑ R, T12 m c (col (i 0) (i 1)) (i 2) R := by
  refine (dats m 0 c).arrAt_eq_of_covers 12 _ (by decide +kernel) fun t hf y => ?_
  blk_simp
  rw [after0_12]
  idx_vars y
  obtain rfl : y0 = 0 := Subsingleton.elim _ _
  have e0 : (((View.whole main_v54_2).slice (win0_12.rect t)).emb (ix3 0 y1 y2)) = ix3 (chip t) y1 y2 := by
    unfold chip
    blk_ext [idx12 t]
  rw [e0]
  show _ = ∑ R, T12 m c (col (chip t) y1) y2 R
  rw [fin12 m c t ((flush0_12 t).mp hf)]
  rfl

theorem fin13 (t : Fin cfg0.N) (ht : t.val % 8 = 8 - 1) (j : S1x704x1024.Idx) :
    (outsAt0 m c t.val t.isLt).2.2.2.1 j = ∑ R, T13 m c (col (chip t) (j 1)) (j 2) R := by
  have hA : ∀ t : Fin cfg0.N, t.val % 8 = 0 → ∀ j, (outsAt0 m c t.val t.isLt).2.2.2.1 j = 0 + ∑ p, T13 m c (col (chip t) (j 1)) (j 2) (row t p) := fun t h j => by
    rw [t13A m c t h]
    refine congrArg (· + _) ?_
    unfold k0_pay3
    pointwise
  have hB : ∀ t : Fin cfg0.N, ¬t.val % 8 = 0 → ∀ j, (outsAt0 m c t.val t.isLt).2.2.2.1 j = (outsAt0 m c (t.val - 1) (Nat.lt_of_le_of_lt (Nat.sub_le _ _) t.isLt)).2.2.2.1 j + ∑ p, T13 m c (col (chip t) (j 1)) (j 2) (row t p) :=
    fun t h j => congrFun (t13B m c t h) j
  rw [Pipeline.eq_sum_fin_of_reset_step_apply_of_flush (fun n h => (outsAt0 m c n h).2.2.2.1) 8 (fun _ => (0 : EReal))
    (fun t j => ∑ p, T13 m c (col (chip t) (j 1)) (j 2) (row t p)) hA hB t ht j]
  exact gather (fun k => T13 m c (col k (j 1)) (j 2)) t _

set_option maxHeartbeats 1600000 in
theorem arr13 : (dats m 0 c).arrAt 13 cfg0.N = fun i => ∑ R, T13 m c (col (i 0) (i 1)) (i 2) R := by
  refine (dats m 0 c).arrAt_eq_of_covers 13 _ (by decide +kernel) fun t hf y => ?_
  blk_simp
  rw [after0_13]
  idx_vars y
  obtain rfl : y0 = 0 := Subsingleton.elim _ _
  have e0 : (((View.whole main_v54_3).slice (win0_13.rect t)).emb (ix3 0 y1 y2)) = ix3 (chip t) y1 y2 := by
    unfold chip
    blk_ext [idx13 t]
  rw [e0]
  show _ = ∑ R, T13 m c (col (chip t) y1) y2 R
  rw [fin13 m c t ((flush0_13 t).mp hf)]
  rfl

theorem fin14 (t : Fin cfg0.N) (ht : t.val % 8 = 8 - 1) (j : S1x704x1024.Idx) :
    (outsAt0 m c t.val t.isLt).2.2.2.2.1 j = ∑ R, T14 m c (col (chip t) (j 1)) (j 2) R := by
  have hA : ∀ t : Fin cfg0.N, t.val % 8 = 0 → ∀ j, (outsAt0 m c t.val t.isLt).2.2.2.2.1 j = 0 + ∑ p, T14 m c (col (chip t) (j 1)) (j 2) (row t p) := fun t h j => by
    rw [t14A m c t h]
    refine congrArg (· + _) ?_
    unfold k0_pay4
    pointwise
  have hB : ∀ t : Fin cfg0.N, ¬t.val % 8 = 0 → ∀ j, (outsAt0 m c t.val t.isLt).2.2.2.2.1 j = (outsAt0 m c (t.val - 1) (Nat.lt_of_le_of_lt (Nat.sub_le _ _) t.isLt)).2.2.2.2.1 j + ∑ p, T14 m c (col (chip t) (j 1)) (j 2) (row t p) :=
    fun t h j => congrFun (t14B m c t h) j
  rw [Pipeline.eq_sum_fin_of_reset_step_apply_of_flush (fun n h => (outsAt0 m c n h).2.2.2.2.1) 8 (fun _ => (0 : EReal))
    (fun t j => ∑ p, T14 m c (col (chip t) (j 1)) (j 2) (row t p)) hA hB t ht j]
  exact gather (fun k => T14 m c (col k (j 1)) (j 2)) t _

set_option maxHeartbeats 1600000 in
theorem arr14 : (dats m 0 c).arrAt 14 cfg0.N = fun i => ∑ R, T14 m c (col (i 0) (i 1)) (i 2) R := by
  refine (dats m 0 c).arrAt_eq_of_covers 14 _ (by decide +kernel) fun t hf y => ?_
  blk_simp
  rw [after0_14]
  idx_vars y
  obtain rfl : y0 = 0 := Subsingleton.elim _ _
  have e0 : (((View.whole main_v54_4).slice (win0_14.rect t)).emb (ix3 0 y1 y2)) = ix3 (chip t) y1 y2 := by
    unfold chip
    blk_ext [idx14 t]
  rw [e0]
  show _ = ∑ R, T14 m c (col (chip t) y1) y2 R
  rw [fin14 m c t ((flush0_14 t).mp hf)]
  rfl

theorem fin15 (t : Fin cfg0.N) (ht : t.val % 8 = 8 - 1) (j : S1x3x704.Idx) :
    (outsAt0 m c t.val t.isLt).2.2.2.2.2.1 j = ∑ R, T15 m c (j 1) (col (chip t) (j 2)) R := by
  have hA : ∀ t : Fin cfg0.N, t.val % 8 = 0 → ∀ j, (outsAt0 m c t.val t.isLt).2.2.2.2.2.1 j = 0 + ∑ p, T15 m c (j 1) (col (chip t) (j 2)) (row t p) := fun t h j => by
    rw [t15A m c t h]
    refine congrArg (· + _) ?_
    unfold k0_pay5
    pointwise
  have hB : ∀ t : Fin cfg0.N, ¬t.val % 8 = 0 → ∀ j, (outsAt0 m c t.val t.isLt).2.2.2.2.2.1 j = (outsAt0 m c (t.val - 1) (Nat.lt_of_le_of_lt (Nat.sub_le _ _) t.isLt)).2.2.2.2.2.1 j + ∑ p, T15 m c (j 1) (col (chip t) (j 2)) (row t p) :=
    fun t h j => congrFun (t15B m c t h) j
  rw [Pipeline.eq_sum_fin_of_reset_step_apply_of_flush (fun n h => (outsAt0 m c n h).2.2.2.2.2.1) 8 (fun _ => (0 : EReal))
    (fun t j => ∑ p, T15 m c (j 1) (col (chip t) (j 2)) (row t p)) hA hB t ht j]
  exact gather (fun k => T15 m c (j 1) (col k (j 2))) t _

set_option maxHeartbeats 1600000 in
theorem arr15 : (dats m 0 c).arrAt 15 cfg0.N = fun i => ∑ R, T15 m c (i 1) (col (i 0) (i 2)) R := by
  refine (dats m 0 c).arrAt_eq_of_covers 15 _ (by decide +kernel) fun t hf y => ?_
  blk_simp
  rw [after0_15]
  idx_vars y
  obtain rfl : y0 = 0 := Subsingleton.elim _ _
  have e0 : (((View.whole main_v54_5).slice (win0_15.rect t)).emb (ix3 0 y1 y2)) = ix3 (chip t) y1 y2 := by
    unfold chip
    blk_ext [idx15 t]
  rw [e0]
  show _ = ∑ R, T15 m c y1 (col (chip t) y2) R
  rw [fin15 m c t ((flush0_15 t).mp hf)]
  rfl

theorem arr16 : (dats m 0 c).arrAt 16 cfg0.N = fun i => ∑ R, dgc m c (col (i 0) (i 2)) R := by
  refine (dats m 0 c).arrAt_eq_of_covers 16 _ (by decide +kernel) fun t hf y => ?_
  blk_simp
  rw [after0_16]
  idx_vars y
  obtain rfl : y0 = 0 := Subsingleton.elim _ _
  obtain rfl : y1 = 0 := Subsingleton.elim _ _
  have e0 : (((View.whole main_v54_6).slice (win0_16.rect t)).emb (ix3 0 0 y2)) = ix3 (chip t) 0 y2 := by
    unfold chip
    blk_ext [idx t]
  rw [e0]
  refine (Pipeline.eq_sum_fin_of_reset_step_apply_of_flush (fun n h => (outsAt0 m c n h).2.2.2.2.2.2) 8 (fun _ => (0 : EReal))
    (fun t j => ∑ p, dgc m c (col (chip t) (j 2)) (row t p)) (fun t h j => ?_) (fun t h j => ?_) t ((flush0_16 t).mp hf) (ix3 0 0 y2)).trans ?_
  · rw [t16A m c t h]
    refine congrArg (· + _) ?_
    unfold k0_pay6
    pointwise
  · exact congrFun (t16B m c t h) j
  · exact gather (fun k => dgc m c (col k y2)) t _

end Cert.FfnGradIdeal.Arr
-- ==== Proof.FfnGrad.Ref.lean ====
module

public import proofs.«01_k».proof.Proof.Gen.FfnGradRefIdeal.Read
public import proofs.«01_k».proof.Proof.HostReads

@[expose] public section

set_option maxRecDepth 16384

/-! # What the reference computes, entry by entry (the feed-forward weight gradients) -/

noncomputable section

namespace Cert.FfnGradRefIdeal.Read

open Cert.FfnGradRefIdeal Idealize.ShloMosaic Idealize.ShloMosaic.TcCoe Idealize.SL.Sem

section Defs

variable (x0 : Vec Ideal S4096x1024 .f32) (x1 : Vec Ideal S1024 .f32) (x2 x3 : Vec Ideal S1024x2816 .f32) (x4 : Vec Ideal S3x2816 .f32)
  (x5 : Vec Ideal S2816 .f32) (x6 : Vec Ideal S2816x1024 .f32) (x7 : Vec Ideal S4096x1024 .f32)

/-- Hidden column `l` of block `k`. -/
def col (k : Fin 4) (l : Fin 704) : Fin 2816 := ⟨k.val * 704 + l.val, by omega⟩

/-- The normalised input. -/
def xn (r : Fin 4096) (l : Fin 1024) : EReal := x0 (ix2 r l) * Step.rs (fun y => x0 (ix2 r y)) * x1 (ix1 l)

/-- A projection of it: the gate's or the up one. -/
def gf (q : Fin 2816) (r : Fin 4096) : EReal := ∑ x, xn x0 x1 r x * x2 (ix2 x q)

/-- The causal convolution of the gate projection, with its bias. -/
def gcf (q : Fin 2816) (r : Fin 4096) : EReal :=
  Step.back (gf x0 x1 x2 q) r.val 2 * x4 (ix2 0 q) + Step.back (gf x0 x1 x2 q) r.val 1 * x4 (ix2 1 q) + Step.back (gf x0 x1 x2 q) r.val 0 * x4 (ix2 2 q)
    + x5 (ix1 q)

/-- Its sigmoid. -/
def sg (q : Fin 2816) (r : Fin 4096) : EReal := Ideal.logistic (gcf x0 x1 x2 x4 x5 q r)

/-- The cotangent of the activation. -/
def D (q : Fin 2816) (R : Fin 4096) : EReal := ∑ x, x7 (ix2 R x) * x6 (ix2 q x)

/-- The activation. -/
def act (q : Fin 2816) (R : Fin 4096) : EReal := gcf x0 x1 x2 x4 x5 q R * sg x0 x1 x2 x4 x5 q R * gf x0 x1 x3 q R

/-- The gradient of the up projection, -/
def dup (q : Fin 2816) (R : Fin 4096) : EReal := D x6 x7 q R * (gcf x0 x1 x2 x4 x5 q R * sg x0 x1 x2 x4 x5 q R)

/-- of the convolved gate -/
def dgc (q : Fin 2816) (R : Fin 4096) : EReal :=
  D x6 x7 q R * gf x0 x1 x3 q R * (sg x0 x1 x2 x4 x5 q R + gcf x0 x1 x2 x4 x5 q R * sg x0 x1 x2 x4 x5 q R * (1 - sg x0 x1 x2 x4 x5 q R))

/-- and of the gate projection: the convolution run the other way. -/
def dg (q : Fin 2816) (R : Fin 4096) : EReal :=
  x4 (ix2 2 q) * Step.fwd (dgc x0 x1 x2 x3 x4 x5 x6 x7 q) R.val 0 + x4 (ix2 1 q) * Step.fwd (dgc x0 x1 x2 x3 x4 x5 x6 x7 q) R.val 1
    + x4 (ix2 0 q) * Step.fwd (dgc x0 x1 x2 x3 x4 x5 x6 x7 q) R.val 2

end Defs

/-- The derivative of `x · σ(x)` times a real cotangent, the two ways of writing it. At an infinite `x` both are what the sigmoid's end value leaves. -/
theorem silu_ct (x ct : EReal) (hc : Step.IsReal ct) :
    ct * Ideal.logistic x + x * ct * (Ideal.logistic x * (1 - Ideal.logistic x)) = ct * (Ideal.logistic x + x * Ideal.logistic x * (1 - Ideal.logistic x)) := by
  obtain ⟨c, rfl⟩ := hc
  induction x with
  | bot => simp
  | top =>
    have h : (1 : EReal) - 1 = 0 := by rw [← EReal.coe_one, ← EReal.coe_sub]; simp
    simp [h]
  | coe r =>
    rw [Ideal.logistic_coe, ← EReal.coe_one, ← EReal.coe_sub]
    simp only [← EReal.coe_mul, ← EReal.coe_add]
    congr 1
    ring

/-- Rows shifted back against rows shifted forward: the same sum. -/
theorem shift_sum (f g : Fin 4096 → EReal) (k : ℕ) (hk : k ≤ 4096) : (∑ R : Fin 4096, Step.back g R.val k * f R) = ∑ R : Fin 4096, Step.fwd f R.val k * g R := by
  have hl : (∑ R : Fin 4096, Step.back g R.val k * f R) = ∑ n ∈ Finset.range 4096, Step.back g n k * Step.ext f n := by
    rw [Finset.sum_range]
    exact Finset.sum_congr rfl fun R _ => by rw [Step.ext_of_lt _ _ R.isLt]
  have hr : (∑ R : Fin 4096, Step.fwd f R.val k * g R) = ∑ n ∈ Finset.range 4096, Step.fwd f n k * Step.ext g n := by
    rw [Finset.sum_range]
    exact Finset.sum_congr rfl fun R _ => by rw [Step.ext_of_lt _ _ R.isLt]
  rw [hl, hr]
  have h4 : 4096 = k + (4096 - k) := by omega
  have h5 : 4096 = (4096 - k) + k := by omega
  conv_lhs => rw [h4, Finset.sum_range_add]
  conv_rhs => rw [h5, Finset.sum_range_add]
  rw [Finset.sum_eq_zero (s := Finset.range k) fun n hn => by rw [Step.back_far _ _ _ (Finset.mem_range.mp hn), zero_mul], zero_add]
  rw [Finset.sum_eq_zero (s := Finset.range k) fun n _ => by rw [Step.fwd_far _ _ _ (by omega), zero_mul], add_zero]
  refine Finset.sum_congr rfl fun n _ => ?_
  unfold Step.back Step.fwd
  rw [if_pos (by omega), Nat.add_sub_cancel_left, Nat.add_comm k n, mul_comm]

theorem r12 (x0 : Vec Ideal S4096x1024 .f32) (x1 : Vec Ideal S1024 .f32) (r : Fin 4096) (l : Fin 1024) :
    val_main_v12 (F := Ideal) x0 x1 (ix2 r l) = xn x0 x1 r l := by
  pointwise [val_main_v12, val_main_v9, val_main_v8, val_main_v7, val_main_v6, val_main_v4, val_main_v2, val_main_v1, val_main_v0, val_main_cst, val_main_v3,
    val_main_cst_0, val_main_v5, val_main_cst_1, val_main_v11, val_main_v10]
  rfl

theorem r13 (x0 : Vec Ideal S4096x1024 .f32) (x1 : Vec Ideal S1024 .f32) (x2 : Vec Ideal S1024x2816 .f32) (r : Fin 4096) (q : Fin 2816) :
    val_main_v13 (F := Ideal) x0 x1 x2 (ix2 r q) = gf x0 x1 x2 q r := by
  pointwise [val_main_v13]
  simp only [r12]; rfl

theorem r14 (x0 : Vec Ideal S4096x1024 .f32) (x1 : Vec Ideal S1024 .f32) (x3 : Vec Ideal S1024x2816 .f32) (r : Fin 4096) (q : Fin 2816) :
    val_main_v14 (F := Ideal) x0 x1 x3 (ix2 r q) = gf x0 x1 x3 q r := by
  pointwise [val_main_v14]
  simp only [r12]; rfl

theorem r18 (x0 : Vec Ideal S4096x1024 .f32) (x1 : Vec Ideal S1024 .f32) (x2 : Vec Ideal S1024x2816 .f32) (r : Fin 4096) (q : Fin 2816) :
    val_main_v18 (F := Ideal) x0 x1 x2 (ix2 r q) = Step.back (gf x0 x1 x2 q) r.val 2 := by
  pointwise [val_main_v18, val_main_v16, val_main_v15, val_main_cst_2]
  rw [← Step.back_dif _ r r.val 2 2 (by omega) (fun _ => by omega)]
  exact dite_congr rfl (fun _ => rfl) fun h => r13 x0 x1 x2 _ q

theorem r24 (x0 : Vec Ideal S4096x1024 .f32) (x1 : Vec Ideal S1024 .f32) (x2 : Vec Ideal S1024x2816 .f32) (r : Fin 4096) (q : Fin 2816) :
    val_main_v24 (F := Ideal) x0 x1 x2 (ix2 r q) = Step.back (gf x0 x1 x2 q) r.val 1 := by
  pointwise [val_main_v24, val_main_v16, val_main_v15, val_main_cst_2]
  rw [← Step.back_dif _ r (1 + r.val) 2 1 (by omega) (fun _ => by omega)]
  exact dite_congr rfl (fun _ => rfl) fun h => r13 x0 x1 x2 _ q

theorem r31 (x0 : Vec Ideal S4096x1024 .f32) (x1 : Vec Ideal S1024 .f32) (x2 : Vec Ideal S1024x2816 .f32) (r : Fin 4096) (q : Fin 2816) :
    val_main_v31 (F := Ideal) x0 x1 x2 (ix2 r q) = Step.back (gf x0 x1 x2 q) r.val 0 := by
  pointwise [val_main_v31, val_main_v16, val_main_v15, val_main_cst_2]
  exact (r13 x0 x1 x2 r q).trans (Step.back_zero (gf x0 x1 x2 q) r).symm

theorem r40 (x0 : Vec Ideal S4096x1024 .f32) (x1 : Vec Ideal S1024 .f32) (x2 : Vec Ideal S1024x2816 .f32) (x4 : Vec Ideal S3x2816 .f32) (x5 : Vec Ideal S2816 .f32) (r : Fin 4096) (q : Fin 2816) :
    val_main_v40 (F := Ideal) x0 x1 x2 x4 x5 (ix2 r q) = gcf x0 x1 x2 x4 x5 q r := by
  pointwise [val_main_v40, val_main_v37, val_main_v30, val_main_v23, val_main_v22, val_main_v21, val_main_v20, val_main_v19, val_main_v29, val_main_v28,
    val_main_v27, val_main_v26, val_main_v25, val_main_v36, val_main_v35, val_main_v34, val_main_v33, val_main_v32, val_main_v39, val_main_v38]
  rw [r18, r24, r31]; rfl

theorem r41_2 (x0 : Vec Ideal S4096x1024 .f32) (x1 : Vec Ideal S1024 .f32) (x2 : Vec Ideal S1024x2816 .f32) (x4 : Vec Ideal S3x2816 .f32) (x5 : Vec Ideal S2816 .f32) (r : Fin 4096) (q : Fin 2816) :
    val_main_v41_2 (F := Ideal) x0 x1 x2 x4 x5 (ix2 r q) = sg x0 x1 x2 x4 x5 q r := by
  pointwise [val_main_v41_2, val_main_call0_v4, val_main_call0_cst_0, val_main_call0_v3, val_main_call0_v2, val_main_call0_cst, val_main_call0_v1,
    val_main_call0_v0]
  rw [r40]; rfl

theorem r41_1 (x0 : Vec Ideal S4096x1024 .f32) (x1 : Vec Ideal S1024 .f32) (x2 : Vec Ideal S1024x2816 .f32) (x4 : Vec Ideal S3x2816 .f32) (x5 : Vec Ideal S2816 .f32) (r : Fin 4096) (q : Fin 2816) :
    val_main_v41_1 (F := Ideal) x0 x1 x2 x4 x5 (ix2 r q) = sg x0 x1 x2 x4 x5 q r * (1 - sg x0 x1 x2 x4 x5 q r) := by
  pointwise [val_main_v41_1, val_main_call0_v7, val_main_call0_v6, val_main_call0_cst_1]
  rw [r41_2]

theorem r41_0 (x0 : Vec Ideal S4096x1024 .f32) (x1 : Vec Ideal S1024 .f32) (x2 : Vec Ideal S1024x2816 .f32) (x4 : Vec Ideal S3x2816 .f32) (x5 : Vec Ideal S2816 .f32) (r : Fin 4096) (q : Fin 2816) :
    val_main_v41_0 (F := Ideal) x0 x1 x2 x4 x5 (ix2 r q) = gcf x0 x1 x2 x4 x5 q r * sg x0 x1 x2 x4 x5 q r := by
  pointwise [val_main_v41_0]
  rw [r40, r41_2]

theorem r42 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (r : Fin 4096) (q : Fin 2816) :
    val_main_v42 (F := Ideal) x0 x1 x2 x3 x4 x5 (ix2 r q) = act x0 x1 x2 x3 x4 x5 q r := by
  pointwise [val_main_v42]
  rw [r41_0, r14]; rfl

theorem r46 (x6 : Vec Ideal S2816x1024 .f32) (x7 : Vec Ideal S4096x1024 .f32) (R : Fin 4096) (q : Fin 2816) :
    val_main_v46 (F := Ideal) x6 x7 (ix2 R q) = D x6 x7 q R := by
  pointwise [val_main_v46]
  rfl

theorem r47 (x0 : Vec Ideal S4096x1024 .f32) (x1 : Vec Ideal S1024 .f32) (x2 : Vec Ideal S1024x2816 .f32) (x4 : Vec Ideal S3x2816 .f32) (x5 : Vec Ideal S2816 .f32) (x6 : Vec Ideal S2816x1024 .f32) (x7 : Vec Ideal S4096x1024 .f32) (R : Fin 4096) (q : Fin 2816) :
    val_main_v47 (F := Ideal) x0 x1 x2 x4 x5 x6 x7 (ix2 R q) = dup x0 x1 x2 x4 x5 x6 x7 q R := by
  pointwise [val_main_v47]
  rw [r41_0, r46, mul_comm]; rfl

theorem r49 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (hc : ∀ q R, Step.IsReal (D x6 x7 q R * gf x0 x1 x3 q R)) (R : Fin 4096) (q : Fin 2816) :
    val_main_v49 (F := Ideal) x0 x1 x2 x3 x4 x5 x6 x7 (ix2 R q) = dgc x0 x1 x2 x3 x4 x5 x6 x7 q R := by
  pointwise [val_main_v49, val_main_call1_v1, val_main_v48, val_main_call1_v2, val_main_call1_v0]
  rw [r46, r14, r41_2, r41_1, r40]
  exact silu_ct _ _ (hc q R)

theorem r85 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (hc : ∀ q R, Step.IsReal (D x6 x7 q R * gf x0 x1 x3 q R)) (r : Fin 4096) (q : Fin 2816) :
    val_main_v85 (F := Ideal) x0 x1 x2 x3 x4 x5 x6 x7 (ix2 r q) = dg x0 x1 x2 x3 x4 x5 x6 x7 q r := by
  pointwise [val_main_v85, val_main_v83, val_main_v72, val_main_v61, val_main_v57, val_main_v56, val_main_v34, val_main_v33, val_main_v32, val_main_cst_9,
    val_main_v71, val_main_v66, val_main_v65, val_main_v27, val_main_v26, val_main_v25, val_main_cst_13, val_main_v82, val_main_v77, val_main_v76,
    val_main_v21, val_main_v20, val_main_v19, val_main_cst_17]
  rw [r49 x0 x1 x2 x3 x4 x5 x6 x7 hc]
  unfold dg
  rw [Step.fwd_zero, mul_comm (x4 (ix2 2 q))]
  refine congrArg₂ (HAdd.hAdd : EReal → EReal → EReal) (congrArg (fun e : EReal => dgc x0 x1 x2 x3 x4 x5 x6 x7 q r * x4 (ix2 2 q) + e) ?_) ?_
  all_goals
    unfold Step.fwd Step.ext
    rw [mul_comm (x4 _)]
    split
    · rw [r49 x0 x1 x2 x3 x4 x5 x6 x7 hc, dif_pos (by omega)]
      exact congrArg (fun S => dgc x0 x1 x2 x3 x4 x5 x6 x7 q S * x4 _) (Fin.ext (by dsimp only; omega))
    · rw [dif_neg (by omega), zero_mul]

theorem r92 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (hc : ∀ q R, Step.IsReal (D x6 x7 q R * gf x0 x1 x3 q R)) (k : Fin 4) (r : Fin 4096) (l : Fin 704) :
    val_main_v92 (F := Ideal) x0 x1 x2 x3 x4 x5 x6 x7 (ix3 k r l) = dg x0 x1 x2 x3 x4 x5 x6 x7 (col k l) r := by
  pointwise [val_main_v92, val_main_v91, val_main_v90]
  exact r85 x0 x1 x2 x3 x4 x5 x6 x7 hc r (col k l)

theorem r95 (x0 : Vec Ideal S4096x1024 .f32) (x1 : Vec Ideal S1024 .f32) (x2 : Vec Ideal S1024x2816 .f32) (x4 : Vec Ideal S3x2816 .f32) (x5 : Vec Ideal S2816 .f32) (x6 : Vec Ideal S2816x1024 .f32) (x7 : Vec Ideal S4096x1024 .f32) (k : Fin 4) (r : Fin 4096) (l : Fin 704) :
    val_main_v95 (F := Ideal) x0 x1 x2 x4 x5 x6 x7 (ix3 k r l) = dup x0 x1 x2 x4 x5 x6 x7 (col k l) r := by
  pointwise [val_main_v95, val_main_v94, val_main_v93]
  exact r47 x0 x1 x2 x4 x5 x6 x7 r (col k l)

theorem r97 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (hc : ∀ q R, Step.IsReal (D x6 x7 q R * gf x0 x1 x3 q R)) (k : Fin 4) (l : Fin 704) (x : Fin 1024) :
    val_main_v97 (F := Ideal) x0 x1 x2 x3 x4 x5 x6 x7 (ix3 k l x) = ∑ R, dg x0 x1 x2 x3 x4 x5 x6 x7 (col k l) R * xn x0 x1 R x := by
  pointwise [val_main_v97, val_main_v96, val_main_v89, val_main_v88]
  exact Finset.sum_congr rfl fun R _ => congrArg₂ (HMul.hMul : EReal → EReal → EReal) (r85 x0 x1 x2 x3 x4 x5 x6 x7 hc R (col k l)) (r12 x0 x1 R x)

theorem r99 (x0 : Vec Ideal S4096x1024 .f32) (x1 : Vec Ideal S1024 .f32) (x2 : Vec Ideal S1024x2816 .f32) (x4 : Vec Ideal S3x2816 .f32) (x5 : Vec Ideal S2816 .f32) (x6 : Vec Ideal S2816x1024 .f32) (x7 : Vec Ideal S4096x1024 .f32) (k : Fin 4) (l : Fin 704) (x : Fin 1024) :
    val_main_v99 (F := Ideal) x0 x1 x2 x4 x5 x6 x7 (ix3 k l x) = ∑ R, dup x0 x1 x2 x4 x5 x6 x7 (col k l) R * xn x0 x1 R x := by
  pointwise [val_main_v99, val_main_v98, val_main_v87, val_main_v86]
  exact Finset.sum_congr rfl fun R _ => congrArg₂ (HMul.hMul : EReal → EReal → EReal) (r47 x0 x1 x2 x4 x5 x6 x7 R (col k l)) (r12 x0 x1 R x)

theorem r100 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (x7 : Vec Ideal S4096x1024 .f32) (k : Fin 4) (l : Fin 704) (x : Fin 1024) :
    val_main_v100 (F := Ideal) x0 x1 x2 x3 x4 x5 x7 (ix3 k l x) = ∑ R, act x0 x1 x2 x3 x4 x5 (col k l) R * x7 (ix2 R x) := by
  pointwise [val_main_v100, val_main_v45, val_main_v44]
  exact Finset.sum_congr rfl fun R _ => (mul_comm _ _).trans (congrArg (fun e : EReal => e * x7 (ix2 R x)) (r42 x0 x1 x2 x3 x4 x5 R (col k l)))

theorem r81 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (hc : ∀ q R, Step.IsReal (D x6 x7 q R * gf x0 x1 x3 q R)) (k : Fin 3) (q : Fin 2816) :
    val_main_v81 (F := Ideal) x0 x1 x2 x3 x4 x5 x6 x7 (ix2 k q) = ∑ R : Fin 4096, Step.fwd (dgc x0 x1 x2 x3 x4 x5 x6 x7 q) R.val (2 - k.val) * gf x0 x1 x2 q R := by
  pointwise [val_main_v81, val_main_v70, val_main_v60, val_main_v59, val_main_v58, val_main_v55, val_main_v54, val_main_v53, val_main_cst_6, val_main_cst_7,
    val_main_cst_8, val_main_v69, val_main_v68, val_main_v67, val_main_v64, val_main_v63, val_main_v62, val_main_cst_10, val_main_cst_11, val_main_cst_12,
    val_main_v80, val_main_v79, val_main_v78, val_main_v75, val_main_v74, val_main_v73, val_main_cst_14, val_main_cst_15, val_main_cst_16]
  simp only [Fin.sum_univ_one, r18, r24, r31, r49 x0 x1 x2 x3 x4 x5 x6 x7 hc, ← shift_sum (dgc x0 x1 x2 x3 x4 x5 x6 x7 q) (gf x0 x1 x2 q) (2 - k.val) (by omega)]
  match k with
  | 0 => simp
  | 1 => simp
  | 2 => simp

theorem r102 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (hc : ∀ q R, Step.IsReal (D x6 x7 q R * gf x0 x1 x3 q R)) (k : Fin 4) (r : Fin 3) (l : Fin 704) :
    val_main_v102 (F := Ideal) x0 x1 x2 x3 x4 x5 x6 x7 (ix3 k r l) = ∑ R : Fin 4096, Step.fwd (dgc x0 x1 x2 x3 x4 x5 x6 x7 (col k l)) R.val (2 - r.val) * gf x0 x1 x2 (col k l) R := by
  pointwise [val_main_v102, val_main_v101]
  exact r81 x0 x1 x2 x3 x4 x5 x6 x7 hc r (col k l)

theorem r103 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (hc : ∀ q R, Step.IsReal (D x6 x7 q R * gf x0 x1 x3 q R)) (k : Fin 4) (z : Fin 1) (l : Fin 704) :
    val_main_v103 (F := Ideal) x0 x1 x2 x3 x4 x5 x6 x7 (ix3 k z l) = ∑ R : Fin 4096, dgc x0 x1 x2 x3 x4 x5 x6 x7 (col k l) R := by
  pointwise [val_main_v103, val_main_v52, val_main_v51, val_main_v50, val_main_cst_4, val_main_cst_5]
  simp only [Fin.sum_univ_one]
  exact Finset.sum_congr rfl fun R _ => r49 x0 x1 x2 x3 x4 x5 x6 x7 hc R (col k l)

/-- With the input, the gain, the up and down weights and the cotangent real, so is the cotangent of the gated activation. -/
theorem ct_real (x0 : Vec Ideal S4096x1024 .f32) (x1 : Vec Ideal S1024 .f32) (x3 : Vec Ideal S1024x2816 .f32) (x6 : Vec Ideal S2816x1024 .f32) (x7 : Vec Ideal S4096x1024 .f32)
    (h1 : ∀ i, Step.IsReal (x1 i)) (h3 : ∀ i, Step.IsReal (x3 i)) (h6 : ∀ i, Step.IsReal (x6 i)) (h7 : ∀ i, Step.IsReal (x7 i))
    (q : Fin 2816) (R : Fin 4096) : Step.IsReal (D x6 x7 q R * gf x0 x1 x3 q R) := by
  unfold D gf xn
  exact (Step.IsReal.sum _ _ fun x => (h7 _).mul (h6 _)).mul (Step.IsReal.sum _ _ fun x => ((Step.normed_real (fun y => x0 (ix2 R y)) x).mul (h1 _)).mul (h3 _))

end Cert.FfnGradRefIdeal.Read

end

end
-- ==== Proof.FfnGrad.Claim.lean ====
module

public import proofs.«01_k».proof.Defs
public import proofs.«01_k».proof.Proof.Gen.FfnGradIdeal
public import proofs.«01_k».proof.Proof.Gen.FfnGradRefIdeal
public import proofs.«01_k».proof.Proof.FfnGrad.Array
public import proofs.«01_k».proof.Proof.FfnGrad.Ref

@[expose] public section

set_option maxRecDepth 16384

/-! # The feed-forward weight gradients: the kernel's seven results are the reference's -/

noncomputable section

namespace Cert.FfnGradTie

open Idealize.ShloMosaic Idealize.ShloMosaic.TcCoe Idealize.SL.Sem

section Same

open Cert.FfnGradIdeal Cert.FfnGradIdeal.Arr

variable (m : (ℓ : Loc nD τ sig) → Buf (Elt Ideal) ℓ) (c : Dev nD)

/-- Both sides name the same quantities: the normed row, -/
theorem xn_same : xn m c = FfnGradRefIdeal.Read.xn (A0 m c) (A1 m c) := rfl

/-- the projections, -/
theorem gf_same : gf m c = FfnGradRefIdeal.Read.gf (A0 m c) (A1 m c) (A2 m c) := rfl

@[inherit_doc gf_same] theorem uf_same : uf m c = FfnGradRefIdeal.Read.gf (A0 m c) (A1 m c) (A3 m c) := rfl

/-- the convolved gate and its sigmoid, -/
theorem gcf_same : gcf m c = FfnGradRefIdeal.Read.gcf (A0 m c) (A1 m c) (A2 m c) (A4 m c) (A5 m c) := by
  funext q R; unfold gcf FfnGradRefIdeal.Read.gcf; rw [gf_same]

@[inherit_doc gcf_same] theorem sg_same : sg m c = FfnGradRefIdeal.Read.sg (A0 m c) (A1 m c) (A2 m c) (A4 m c) (A5 m c) := by
  funext q R; unfold sg FfnGradRefIdeal.Read.sg; rw [gcf_same]

/-- the cotangent of the activation, -/
theorem D_same : D m c = FfnGradRefIdeal.Read.D (A6 m c) (A7 m c) := rfl

/-- the activation -/
theorem act_same : act m c = FfnGradRefIdeal.Read.act (A0 m c) (A1 m c) (A2 m c) (A3 m c) (A4 m c) (A5 m c) := by
  funext q R; unfold act FfnGradRefIdeal.Read.act; rw [gcf_same, sg_same, uf_same]

/-- and the gradients of the up projection, -/
theorem dup_same : dup m c = FfnGradRefIdeal.Read.dup (A0 m c) (A1 m c) (A2 m c) (A4 m c) (A5 m c) (A6 m c) (A7 m c) := by
  funext q R; unfold dup FfnGradRefIdeal.Read.dup; rw [gcf_same, sg_same, D_same]

/-- of the convolved gate -/
theorem dgc_same : dgc m c = FfnGradRefIdeal.Read.dgc (A0 m c) (A1 m c) (A2 m c) (A3 m c) (A4 m c) (A5 m c) (A6 m c) (A7 m c) := by
  funext q R; unfold dgc FfnGradRefIdeal.Read.dgc; rw [gcf_same, sg_same, D_same, uf_same]

/-- and of the gate projection. -/
theorem dg_same : dg m c = FfnGradRefIdeal.Read.dg (A0 m c) (A1 m c) (A2 m c) (A3 m c) (A4 m c) (A5 m c) (A6 m c) (A7 m c) := by
  funext q R; unfold dg FfnGradRefIdeal.Read.dg; rw [dgc_same]

end Same

/-- The side conditions of the predicate's operations. -/
theorem preFacts : Cert.Pre_ffn_finite.Facts := ⟨by decide, by decide, by decide, by decide⟩

/-- What the precondition says: every entry of the four arrays it names is a real number. -/
theorem reals [Cert.Pre_ffn_finite.Facts] (m : (ℓ : Loc FfnGradIdeal.nD FfnGradIdeal.τ FfnGradIdeal.sig) → Buf (Elt Ideal) ℓ) (h : Cert.Pre_FfnGradIdeal_ffn_finite m) (c : Dev FfnGradIdeal.nD) :
    (∀ i, Step.IsReal (FfnGradIdeal.Arr.A1 m c i)) ∧ (∀ i, Step.IsReal (FfnGradIdeal.Arr.A3 m c i))
      ∧ (∀ i, Step.IsReal (FfnGradIdeal.Arr.A6 m c i)) ∧ ∀ i, Step.IsReal (FfnGradIdeal.Arr.A7 m c i) := by
  obtain ⟨h1, h3, h6, h7⟩ := h c
  exact ⟨fun i => Step.real_of_abs_lt (congrFun h1 i), fun i => Step.real_of_abs_lt (congrFun h3 i),
    fun i => Step.real_of_abs_lt (congrFun h6 i), fun i => Step.real_of_abs_lt (congrFun h7 i)⟩

set_option maxHeartbeats 1600000 in
/-- The kernel's seven arrays, at the entry's arrays, are what reverse differentiation of the forward lines gives. -/
theorem algebraic [Cert.Pre_ffn_finite.Facts] : Cert.algebraic_FfnGradIdeal_FfnGradRefIdeal_pre_ffn_finite := by
  intro m ρ m' ρ' hpre hag
  refine ⟨_, _, _, _, _, _, _, FfnGradIdeal.Value.run_blocks m ρ, ?_⟩
  refine (θ_run FfnGradRefIdeal.defs _ _).mono (fun r h c => ?_) (FfnGradRefIdeal.Value.run (F := Ideal) m' ρ')
  obtain ⟨e0, e1, e2, e3, e4, e5, e6, e7⟩ := hag c
  have l0 : m' ((c.tc : Thread FfnGradRefIdeal.nD FfnGradRefIdeal.τ).loc FfnGradRefIdeal.main_arg0) = FfnGradIdeal.Arr.A0 m c := e0
  have l1 : m' ((c.tc : Thread FfnGradRefIdeal.nD FfnGradRefIdeal.τ).loc FfnGradRefIdeal.main_arg1) = FfnGradIdeal.Arr.A1 m c := e1
  have l2 : m' ((c.tc : Thread FfnGradRefIdeal.nD FfnGradRefIdeal.τ).loc FfnGradRefIdeal.main_arg2) = FfnGradIdeal.Arr.A2 m c := e2
  have l3 : m' ((c.tc : Thread FfnGradRefIdeal.nD FfnGradRefIdeal.τ).loc FfnGradRefIdeal.main_arg3) = FfnGradIdeal.Arr.A3 m c := e3
  have l4 : m' ((c.tc : Thread FfnGradRefIdeal.nD FfnGradRefIdeal.τ).loc FfnGradRefIdeal.main_arg4) = FfnGradIdeal.Arr.A4 m c := e4
  have l5 : m' ((c.tc : Thread FfnGradRefIdeal.nD FfnGradRefIdeal.τ).loc FfnGradRefIdeal.main_arg5) = FfnGradIdeal.Arr.A5 m c := e5
  have l6 : m' ((c.tc : Thread FfnGradRefIdeal.nD FfnGradRefIdeal.τ).loc FfnGradRefIdeal.main_arg6) = FfnGradIdeal.Arr.A6 m c := e6
  have l7 : m' ((c.tc : Thread FfnGradRefIdeal.nD FfnGradRefIdeal.τ).loc FfnGradRefIdeal.main_arg7) = FfnGradIdeal.Arr.A7 m c := e7
  obtain ⟨h1, h3, h6, h7⟩ := reals m hpre c
  have hc := FfnGradRefIdeal.Read.ct_real (FfnGradIdeal.Arr.A0 m c) _ _ _ _ h1 h3 h6 h7
  refine ⟨(h c).1.trans ?_, (h c).2.1.trans ?_, (h c).2.2.1.trans ?_, (h c).2.2.2.1.trans ?_, (h c).2.2.2.2.1.trans ?_, (h c).2.2.2.2.2.1.trans ?_,
    (h c).2.2.2.2.2.2.1.trans ?_, (h c).2.2.2.2.2.2.2⟩
  · rw [FfnGradRefIdeal.Read.val_main_v92_eq, l0, l1, l2, l3, l4, l5, l6, l7, FfnGradIdeal.Arr.arr10]
    funext i
    obtain ⟨k, r, l, rfl⟩ : ∃ (k : Fin 4) (r : Fin 4096) (l : Fin 704), i = ix3 k r l := ⟨i 0, i 1, i 2, eq_ix3 i⟩
    simp only [dg_same]
    exact FfnGradRefIdeal.Read.r92 _ _ _ _ _ _ _ _ hc k r l
  · rw [FfnGradRefIdeal.Read.val_main_v95_eq, l0, l1, l2, l4, l5, l6, l7, FfnGradIdeal.Arr.arr11]
    funext i
    obtain ⟨k, r, l, rfl⟩ : ∃ (k : Fin 4) (r : Fin 4096) (l : Fin 704), i = ix3 k r l := ⟨i 0, i 1, i 2, eq_ix3 i⟩
    simp only [dup_same]
    exact FfnGradRefIdeal.Read.r95 _ _ _ _ _ _ _ k r l
  · rw [FfnGradRefIdeal.Read.val_main_v97_eq, l0, l1, l2, l3, l4, l5, l6, l7, FfnGradIdeal.Arr.arr12]
    funext i
    obtain ⟨k, l, x, rfl⟩ : ∃ (k : Fin 4) (l : Fin 704) (x : Fin 1024), i = ix3 k l x := ⟨i 0, i 1, i 2, eq_ix3 i⟩
    simp only [FfnGradIdeal.Arr.T12, dg_same, xn_same]
    exact FfnGradRefIdeal.Read.r97 _ _ _ _ _ _ _ _ hc k l x
  · rw [FfnGradRefIdeal.Read.val_main_v99_eq, l0, l1, l2, l4, l5, l6, l7, FfnGradIdeal.Arr.arr13]
    funext i
    obtain ⟨k, l, x, rfl⟩ : ∃ (k : Fin 4) (l : Fin 704) (x : Fin 1024), i = ix3 k l x := ⟨i 0, i 1, i 2, eq_ix3 i⟩
    simp only [FfnGradIdeal.Arr.T13, dup_same, xn_same]
    exact FfnGradRefIdeal.Read.r99 _ _ _ _ _ _ _ k l x
  · rw [FfnGradRefIdeal.Read.val_main_v100_eq, l0, l1, l2, l3, l4, l5, l7, FfnGradIdeal.Arr.arr14]
    funext i
    obtain ⟨k, l, x, rfl⟩ : ∃ (k : Fin 4) (l : Fin 704) (x : Fin 1024), i = ix3 k l x := ⟨i 0, i 1, i 2, eq_ix3 i⟩
    simp only [FfnGradIdeal.Arr.T14, act_same]
    exact FfnGradRefIdeal.Read.r100 _ _ _ _ _ _ _ k l x
  · rw [FfnGradRefIdeal.Read.val_main_v102_eq, l0, l1, l2, l3, l4, l5, l6, l7, FfnGradIdeal.Arr.arr15]
    funext i
    obtain ⟨k, r, l, rfl⟩ : ∃ (k : Fin 4) (r : Fin 3) (l : Fin 704), i = ix3 k r l := ⟨i 0, i 1, i 2, eq_ix3 i⟩
    simp only [FfnGradIdeal.Arr.T15, dgc_same, gf_same]
    exact FfnGradRefIdeal.Read.r102 _ _ _ _ _ _ _ _ hc k r l
  · rw [FfnGradRefIdeal.Read.val_main_v103_eq, l0, l1, l2, l3, l4, l5, l6, l7, FfnGradIdeal.Arr.arr16]
    funext i
    obtain ⟨k, z, l, rfl⟩ : ∃ (k : Fin 4) (z : Fin 1) (l : Fin 704), i = ix3 k z l := ⟨i 0, i 1, i 2, eq_ix3 i⟩
    simp only [dgc_same]
    exact FfnGradRefIdeal.Read.r103 _ _ _ _ _ _ _ _ hc k z l

/-- The reference ends with its arguments unchanged; it has no semaphore. -/
theorem frame_ref : Cert.quiescent_FfnGradRefIdeal := fun m ρ _ =>
  (θ_run FfnGradRefIdeal.defs _ _).mono (fun r h => ⟨fun c => (h c).2.2.2.2.2.2.2, sem_eq_zero_of_no_sems (by decide) r.2⟩)
    (FfnGradRefIdeal.Value.run (F := Ideal) m ρ)

end Cert.FfnGradTie

end

end
-- ==== Proof.SguGrad.Blocks.lean ====
module

public import proofs.«01_k».proof.Proof.Gen.SguGradIdeal.Value
public import proofs.«01_k».proof.Proof.Common
public import Idealize.ShloMosaic.Lib.Pipeline.ValueKit

@[expose] public section

set_option maxRecDepth 16384

/-! # The blocks a grid point reads (the spatial gating's gradient)

The grid is eight tiles of 512 rows. -/

noncomputable section

namespace Cert.SguGradIdeal.Arr

open Cert.SguGradIdeal Cert.SguGradIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0, 0] ∧ win0_8.index t = ![0, 0, 0]
    ∧ win0_9.index t = ![0, t.val, 0] ∧ win0_10.index t = ![0, 0, 0] ∧ win0_11.index t = ![0, 0] ∧ win0_12.index t = ![0, 0] ∧ win0_13.index t = ![0, 0, 0]
    ∧ win0_14.index t = ![0, 0, 0] := by decide +kernel

/-- The eight arrays at the entry. -/
def A0 : Vec Ideal S4096x1024 .f32 := m ((c : Thread nD τ).loc main_arg0)
@[inherit_doc A0] def A1 : Vec Ideal S1024 .f32 := m ((c : Thread nD τ).loc main_arg1)
@[inherit_doc A0] def A2 : Vec Ideal S1024x2048 .f32 := m ((c : Thread nD τ).loc main_arg2)
@[inherit_doc A0] def A3 : Vec Ideal S1024 .f32 := m ((c : Thread nD τ).loc main_arg3)
@[inherit_doc A0] def A4 : Vec Ideal S8x128x128 .f32 := m ((c : Thread nD τ).loc main_arg4)
@[inherit_doc A0] def A5 : Vec Ideal S8x128 .f32 := m ((c : Thread nD τ).loc main_arg5)
@[inherit_doc A0] def A6 : Vec Ideal S1024x1024 .f32 := m ((c : Thread nD τ).loc main_arg6)
@[inherit_doc A0] def A7 : Vec Ideal S4096x1024 .f32 := m ((c : Thread nD τ).loc main_arg7)

/-- The root of one half, as a host line takes it. -/
def r2 : EReal := Ideal.sqrt (Ideal.ofBits .f32 0x3F000000#32)

/-- GELU as a host line writes it. -/
def hg (x : EReal) : EReal := Ideal.ofBits .f32 0x3F000000#32 * x * Ideal.erfc (-x * r2)

/-- The normed row. -/
def xn (r : Fin 4096) (l : Fin 1024) : EReal := A0 m c (ix2 r l) * Step.rs (fun y => A0 m c (ix2 r y)) * A1 m c (ix1 l)

/-- Its projection on a column. -/
def pj (r : Fin 4096) (q : Fin 2048) : EReal := ∑ x, xn m c r x * A2 m c (ix2 x q)

/-- The first and the second half of the projections. -/
def pu (r : Fin 4096) (j : Fin 1024) : EReal := pj m c r ⟨j.val, by omega⟩
@[inherit_doc pu] def pv (r : Fin 4096) (j : Fin 1024) : EReal := pj m c r ⟨1024 + j.val, by omega⟩

/-- The norm of the second half's GELU. -/
def rv (r : Fin 4096) : EReal := Step.rs (fun j => hg (pv m c r j))

/-- What the forward pass saved: the gated first half. -/
def mx (r : Fin 4096) (j : Fin 1024) : EReal := V m c main_v73 (ix2 r j)

theorem v74 (r : Fin 4096) (l : Fin 1024) : V m c main_v74 (ix2 r l) = xn m c r l := by
  unfold V
  simp only [hostOps0, hostOps0_1, hostOps0_2, List.flatten_cons, List.flatten_nil, List.cons_append, List.nil_append, List.append_nil]
  entry_read
  pointwise
  rfl

theorem v75 (r : Fin 4096) (l : Fin 1024) : V m c main_v75 (ix2 r l) = A7 m c (ix2 r l) := by
  unfold V
  simp only [hostOps0, hostOps0_1, hostOps0_2, List.flatten_cons, List.flatten_nil, List.cons_append, List.nil_append, List.append_nil]
  entry_read
  pointwise
  rfl

theorem v76 (r l : Fin 1024) : V m c main_v76 (ix2 r l) = A6 m c (ix2 r l) := by
  unfold V
  simp only [hostOps0, hostOps0_1, hostOps0_2, List.flatten_cons, List.flatten_nil, List.cons_append, List.nil_append, List.append_nil]
  entry_read
  pointwise
  rfl

theorem v77 (l : Fin 1024) : V m c main_v77 (ix2 0 l) = A3 m c (ix1 l) := by
  unfold V
  simp only [hostOps0, hostOps0_1, hostOps0_2, List.flatten_cons, List.flatten_nil, List.cons_append, List.nil_append, List.append_nil]
  entry_read
  pointwise
  rfl

theorem v78 (h : Fin 8) (t : Fin 128) : V m c main_v78 (ix3 h t 0) = A5 m c (ix2 h t) := by
  unfold V
  simp only [hostOps0, hostOps0_1, hostOps0_2, List.flatten_cons, List.flatten_nil, List.cons_append, List.nil_append, List.append_nil]
  entry_read
  pointwise
  rfl

theorem v31 (r : Fin 4096) : V m c main_v31 (ix2 r 0) = rv m c r := by
  unfold V
  simp only [hostOps0, hostOps0_1, hostOps0_2, List.flatten_cons, List.flatten_nil, List.cons_append, List.nil_append, List.append_nil]
  entry_read
  pointwise
  rfl

theorem v72 (k : Fin 4) (r : Fin 4096) (l : Fin 512) : V m c main_v72 (ix3 k r l) = pj m c r ⟨k.val * 512 + l.val, by omega⟩ := by
  unfold V
  simp only [hostOps0, hostOps0_1, hostOps0_2, List.flatten_cons, List.flatten_nil, List.cons_append, List.nil_append, List.append_nil]
  entry_read
  pointwise
  rfl

/-- Row `p` of the tile at grid point `t`. -/
def row (t : Fin cfg0.N) (p : Fin 512) : Fin 4096 := ⟨t.val * 512 + p.val, by have h : t.val < 8 := t.isLt; omega⟩

theorem blk0 (t : Fin cfg0.N) (k : Fin 4) (p : Fin 512) (l : Fin 512) : iblk m c 0 t (ix3 k p l) = pj m c (row t p) ⟨k.val * 512 + l.val, by omega⟩ := by
  rw [← v72]
  unfold row
  blk_ext [iblk, idx t]

theorem blk1 (t : Fin cfg0.N) (p : Fin 512) (l : Fin 1024) : iblk m c 1 t (ix2 p l) = mx m c (row t p) l := by
  unfold mx row
  blk_ext [iblk, idx t]

theorem blk2 (t : Fin cfg0.N) (p : Fin 512) (l : Fin 1024) : iblk m c 2 t (ix2 p l) = xn m c (row t p) l := by
  rw [← v74]
  unfold row
  blk_ext [iblk, idx t]

theorem blk3 (t : Fin cfg0.N) (p : Fin 512) (l : Fin 1024) : iblk m c 3 t (ix2 p l) = A7 m c (ix2 (row t p) l) := by
  rw [← v75]
  unfold row
  blk_ext [iblk, idx t]

theorem blk4 (t : Fin cfg0.N) (p : Fin 1024) (l : Fin 1024) : iblk m c 4 t (ix2 p l) = A6 m c (ix2 p l) := by
  rw [← v76]
  blk_ext [iblk, idx t]

theorem blk5 (t : Fin cfg0.N) (p : Fin 512) : iblk m c 5 t (ix2 p 0) = rv m c (row t p) := by
  rw [← v31]
  unfold row
  blk_ext [iblk, idx t]

theorem blk6 (t : Fin cfg0.N) (l : Fin 1024) : iblk m c 6 t (ix2 0 l) = A3 m c (ix1 l) := by
  rw [← v77]
  blk_ext [iblk, idx t]

theorem blk7 (t : Fin cfg0.N) (h : Fin 8) (a b : Fin 128) : iblk m c 7 t (ix3 h a b) = A4 m c (ix3 h a b) := by
  have e : V m c main_arg4 (ix3 h a b) = A4 m c (ix3 h a b) := by
    unfold V
    simp only [hostOps0, hostOps0_1, hostOps0_2, List.flatten_cons, List.flatten_nil, List.cons_append, List.nil_append, List.append_nil]
    entry_read
    rfl
  rw [← e]
  blk_ext [iblk, idx t]

theorem blk8 (t : Fin cfg0.N) (h : Fin 8) (a : Fin 128) : iblk m c 8 t (ix3 h a 0) = A5 m c (ix2 h a) := by
  rw [← v78]
  blk_ext [iblk, idx t]

end Cert.SguGradIdeal.Arr
-- ==== Proof.SguGrad.Stage.lean ====
module

public import proofs.«01_k».proof.Proof.SguGrad.Blocks

@[expose] public section

set_option maxRecDepth 16384

/-! # What one grid point computes, tile by tile, in terms of the arrays -/

noncomputable section

namespace Cert.SguGradIdeal.Arr

open Cert.SguGradIdeal Cert.SguGradIdeal.Gen Idealize.ShloMosaic Idealize.ShloMosaic.TcCoe Idealize.SL.Sem

variable (m : (ℓ : Loc nD τ sig) → Buf (Elt Ideal) ℓ) (c : Dev nD)

/-- GELU as the kernel writes it. -/
def gk (x : EReal) : EReal := Ideal.ofBits .f32 1056964608#32 * x * (1 + FloatOps.erf (F := Ideal) (φ := .f32) (x * Named.named (F := Ideal) (φ := .f32) κ "inv_sqrt_2" 1060439283#32))

/-- Its derivative as the kernel writes it. -/
def gg (x : EReal) : EReal :=
  Ideal.ofBits .f32 1056964608#32 * (1 + FloatOps.erf (F := Ideal) (φ := .f32) (x * Named.named (F := Ideal) (φ := .f32) κ "inv_sqrt_2" 1060439283#32))
    + x * Ideal.exp (Ideal.ofBits .f32 3204448256#32 * x * x) * Named.named (F := Ideal) (φ := .f32) κ "c_over_2_sqrt_2" 1053573674#32

/-- `v` where column `s` is not past row `a`. -/
def tri (a s : Fin 128) (v : EReal) : EReal := Scalar.select (IntOp.cmpi .sge (BitVec.ofNat 32 a.val) (BitVec.ofNat 32 s.val)) v 0

/-- Row `s` of the chunk that holds row `r`. -/
def cr (r : Fin 4096) (s : Fin 128) : Fin 4096 := ⟨r.val / 128 * 128 + s.val, by omega⟩

/-- The place of a row in its chunk, the head of a column and its place in the head. -/
def ri (r : Fin 4096) : Fin 128 := ⟨r.val % 128, by omega⟩
@[inherit_doc ri] def hd (j : Fin 1024) : Fin 8 := ⟨j.val / 128, by omega⟩

/-- The cotangent of the saved product. -/
def dm (r : Fin 4096) (j : Fin 1024) : EReal := ∑ x, A7 m c (ix2 r x) * A6 m c (ix2 j x)

/-- The second half's GELU, normed, and scaled. -/
def vh (r : Fin 4096) (j : Fin 1024) : EReal := gk (pv m c r j) * rv m c r
@[inherit_doc vh] def vn (r : Fin 4096) (j : Fin 1024) : EReal := gk (pv m c r j) * rv m c r * A3 m c (ix1 j)

/-- The gate of a row and its cotangent. -/
def gate (r : Fin 4096) (j : Fin 1024) : EReal := (∑ s, tri (ri r) s (A4 m c (ix3 (hd j) (ri r) s) * vn m c (cr r s) j)) + A5 m c (ix2 (hd j) (ri r))
@[inherit_doc gate] def dgt (r : Fin 4096) (j : Fin 1024) : EReal := dm m c r j * gk (pu m c r j)

/-- The cotangent of the first half of the projections. -/
def dpu (r : Fin 4096) (j : Fin 1024) : EReal := dm m c r j * gate m c r j * gg (pu m c r j)

/-- The cotangent of the scaled second half. -/
def dvn (r : Fin 4096) (j : Fin 1024) : EReal := ∑ x, tri x (ri r) (A4 m c (ix3 (hd j) x (ri r)) * dgt m c (cr r x) j)

/-- The mean that the norm's derivative takes off. -/
def dt (r : Fin 4096) : EReal :=
  Ideal.div ((∑ x : Fin 512, dvn m c r ⟨x.val, by omega⟩ * A3 m c (ix1 ⟨x.val, by omega⟩) * vh m c r ⟨x.val, by omega⟩)
    + ∑ x : Fin 512, dvn m c r ⟨512 + x.val, by omega⟩ * A3 m c (ix1 ⟨512 + x.val, by omega⟩) * vh m c r ⟨512 + x.val, by omega⟩) (Ideal.ofBits .f32 1149239296#32)

/-- The cotangent of the second half of the projections. -/
def dpv (r : Fin 4096) (j : Fin 1024) : EReal := rv m c r * (dvn m c r j * A3 m c (ix1 j) - vh m c r j * dt m c r) * gg (pv m c r j)

/-- The cotangent of the projections. -/
def dp (r : Fin 4096) (q : Fin 2048) : EReal := if h : q.val < 1024 then dpu m c r ⟨q.val, h⟩ else dpv m c r ⟨q.val - 1024, by omega⟩

/-! ## Tiles, with the offsets their loads name -/

/-- An index moved by an offset. -/
def off : ℕ → ℕ → ℕ
  | 0, a => a
  | n + 1, a => n + 1 + a

theorem off_eq (n a : ℕ) : off n a = n + a := by cases n <;> simp [off]

theorem dm_blk (t : Fin cfg0.N) (p : Fin 512) (j : Fin 1024) : k0_pay8 (iblk m c 3 t) (iblk m c 4 t) (ix2 p j) = dm m c (row t p) j := by
  pointwise [k0_pay8]
  exact Finset.sum_congr rfl fun x _ => by rw [blk3, blk4]

/-- The index `o + a`. -/
def ao (N o a : ℕ) (h : o + a < N) : Fin N := ⟨off o a, by rw [off_eq]; exact h⟩

theorem ao_eq (N o a : ℕ) (h : o + a < N) : ao N o a h = ⟨o + a, h⟩ := Fin.ext (off_eq o a)

theorem pu_blk (t : Fin cfg0.N) (k : Fin 4) (p l : Fin 512) (r : Fin 4096) (j : Fin 1024) (hr : row t p = r) (hj : j.val = k.val * 512 + l.val) :
    iblk m c 0 t (ix3 k p l) = pu m c r j := by
  rw [blk0, hr]
  exact congrArg (pj m c _) (Fin.ext hj.symm)

theorem pv_blk (t : Fin cfg0.N) (k : Fin 4) (p l : Fin 512) (r : Fin 4096) (j : Fin 1024) (hr : row t p = r) (hj : 1024 + j.val = k.val * 512 + l.val) :
    iblk m c 0 t (ix3 k p l) = pv m c r j := by
  rw [blk0, hr]
  exact congrArg (pj m c _) (Fin.ext hj.symm)

/-- The blocks, named for the tiles below: the projections, the cotangent of the saved product, the norm, the scale, the weights and the bias. -/
def B0 (t : Fin cfg0.N) (k : Fin 4) (p l : Fin 512) : EReal := iblk m c 0 t (ix3 k p l)
@[inherit_doc B0] def BD (t : Fin cfg0.N) (p : Fin 512) (j : Fin 1024) : EReal := k0_pay8 (iblk m c 3 t) (iblk m c 4 t) (ix2 p j)
@[inherit_doc B0] def B5 (t : Fin cfg0.N) (p : Fin 512) : EReal := iblk m c 5 t (ix2 p 0)
@[inherit_doc B0] def B6 (t : Fin cfg0.N) (j : Fin 1024) : EReal := iblk m c 6 t (ix2 0 j)
@[inherit_doc B0] def B7 (t : Fin cfg0.N) (h : Fin 8) (a b : Fin 128) : EReal := iblk m c 7 t (ix3 h a b)
@[inherit_doc B0] def B8 (t : Fin cfg0.N) (h : Fin 8) (a : Fin 128) : EReal := iblk m c 8 t (ix3 h a 0)

/-- A tile of the cotangent of the scaled second half. -/
def tdvn (t : Fin cfg0.N) (o0 o1 : ℕ) (e1 : o1 % 128 = 0) (h0 : o0 + 128 ≤ 512) (h1 : o1 + 128 ≤ 1024) (a b : Fin 128) : EReal :=
  ∑ x : Fin 128, tri x a (B7 m c t (⟨o1 / 128, by omega⟩ : Fin 8) x a * (BD m c t (ao 512 o0 x.val (by omega)) (ao 1024 o1 b.val (by omega))
    * gk (B0 m c t (⟨o1 / 512, by omega⟩ : Fin 4) (ao 512 o0 x.val (by omega)) (ao 512 (o1 % 512) b.val (by omega)))))

theorem tdvn_eq (t : Fin cfg0.N) (o0 o1 : ℕ) (e0 : o0 % 128 = 0) (e1 : o1 % 128 = 0) (h0 : o0 + 128 ≤ 512) (h1 : o1 + 128 ≤ 1024) (a b : Fin 128) :
    tdvn m c t o0 o1 e1 h0 h1 a b = dvn m c (row t (⟨o0 + a.val, by omega⟩ : Fin 512)) (⟨o1 + b.val, by omega⟩ : Fin 1024) := by
  have ea : ri (row t (⟨o0 + a.val, by omega⟩ : Fin 512)) = a := Fin.ext (by simp only [ri, row]; omega)
  have eh : hd (⟨o1 + b.val, by omega⟩ : Fin 1024) = (⟨o1 / 128, by omega⟩ : Fin 8) := Fin.ext (by simp only [hd]; omega)
  unfold tdvn dvn dgt
  refine Finset.sum_congr rfl fun x _ => ?_
  have er : row t (⟨o0 + x.val, by omega⟩ : Fin 512) = cr (row t (⟨o0 + a.val, by omega⟩ : Fin 512)) x := Fin.ext (by simp only [cr, row]; omega)
  simp only [ao_eq]
  rw [ea, eh]
  unfold B7 BD B0
  rw [blk7, dm_blk, er, pu_blk m c t _ _ _ _ (⟨o1 + b.val, by omega⟩ : Fin 1024) er (by simp only; omega)]

/-- A tile of the cotangent of the first half. -/
def tdp (t : Fin cfg0.N) (k o1 o2 : ℕ) (hk : k < 2) (h1 : o1 + 128 ≤ 512) (h2 : o2 + 128 ≤ 512) (a b : Fin 128) : EReal :=
  BD m c t (ao 512 o1 a.val (by omega)) (ao 1024 (k * 512 + o2) b.val (by omega))
    * ((∑ s : Fin 128, tri a s (B7 m c t (⟨(k * 512 + o2) / 128, by omega⟩ : Fin 8) a s
        * (gk (B0 m c t (⟨k + 2, by omega⟩ : Fin 4) (ao 512 o1 s.val (by omega)) (ao 512 o2 b.val (by omega))) * B5 m c t (ao 512 o1 s.val (by omega))
          * B6 m c t (ao 1024 (k * 512) (off o2 b.val) (by rw [off_eq]; omega)))))
      + B8 m c t (⟨(k * 512 + o2) / 128, by omega⟩ : Fin 8) a)
  * gg (B0 m c t (⟨k, by omega⟩ : Fin 4) (ao 512 o1 a.val (by omega)) (ao 512 o2 b.val (by omega)))

theorem tdp_eq (t : Fin cfg0.N) (k o1 o2 : ℕ) (hk : k < 2) (e1 : o1 % 128 = 0) (e2 : o2 % 128 = 0) (h1 : o1 + 128 ≤ 512) (h2 : o2 + 128 ≤ 512) (a b : Fin 128) :
    tdp m c t k o1 o2 hk h1 h2 a b = dpu m c (row t (⟨o1 + a.val, by omega⟩ : Fin 512)) (⟨k * 512 + o2 + b.val, by omega⟩ : Fin 1024) := by
  have ea : ri (row t (⟨o1 + a.val, by omega⟩ : Fin 512)) = a := Fin.ext (by simp only [ri, row]; omega)
  have eh : hd (⟨k * 512 + o2 + b.val, by omega⟩ : Fin 1024) = (⟨(k * 512 + o2) / 128, by omega⟩ : Fin 8) := Fin.ext (by simp only [hd]; omega)
  have en : (⟨k * 512 + (o2 + b.val), by omega⟩ : Fin 1024) = ⟨k * 512 + o2 + b.val, by omega⟩ := Fin.ext (by simp only; omega)
  unfold tdp dpu gate vn
  simp only [ao_eq, off_eq]
  rw [ea, eh, en]
  unfold B7 BD B0 B5 B6 B8
  rw [dm_blk, blk8, pu_blk m c t _ _ _ _ (⟨k * 512 + o2 + b.val, by omega⟩ : Fin 1024) rfl (by simp only; omega)]
  refine congrArg (fun z : EReal => dm m c _ _ * (z + _) * _) (Finset.sum_congr rfl fun s _ => ?_)
  have er : row t (⟨o1 + s.val, by omega⟩ : Fin 512) = cr (row t (⟨o1 + a.val, by omega⟩ : Fin 512)) s := Fin.ext (by simp only [cr, row]; omega)
  rw [blk7, blk5, blk6, er, pv_blk m c t _ _ _ _ (⟨k * 512 + o2 + b.val, by omega⟩ : Fin 1024) er (by simp only; omega)]

/-- What one chunk adds to the cotangent of a head's bias and of its weights. -/
def tb (t : Fin cfg0.N) (h o : ℕ) (hh : h < 8) (ho : o + 128 ≤ 512) (a : Fin 128) : EReal :=
  ∑ x : Fin 128, BD m c t (ao 512 o a.val (by omega)) (ao 1024 (h * 128) x.val (by omega))
    * gk (B0 m c t (⟨h / 4, by omega⟩ : Fin 4) (ao 512 o a.val (by omega)) (ao 512 (h % 4 * 128) x.val (by omega)))
@[inherit_doc tb] def tw (t : Fin cfg0.N) (h o : ℕ) (hh : h < 8) (ho : o + 128 ≤ 512) (a s : Fin 128) : EReal :=
  tri a s (∑ x : Fin 128, BD m c t (ao 512 o a.val (by omega)) (ao 1024 (h * 128) x.val (by omega))
      * gk (B0 m c t (⟨h / 4, by omega⟩ : Fin 4) (ao 512 o a.val (by omega)) (ao 512 (h % 4 * 128) x.val (by omega)))
    * (gk (B0 m c t (⟨h / 4 + 2, by omega⟩ : Fin 4) (ao 512 o s.val (by omega)) (ao 512 (h % 4 * 128) x.val (by omega))) * B5 m c t (ao 512 o s.val (by omega))
      * B6 m c t (ao 1024 (h / 4 * 512) (off (h % 4 * 128) x.val) (by rw [off_eq]; omega))))

theorem tb_eq (t : Fin cfg0.N) (h o : ℕ) (hh : h < 8) (ho : o + 128 ≤ 512) (a : Fin 128) :
    tb m c t h o hh ho a = ∑ x : Fin 128, dgt m c (row t (⟨o + a.val, by omega⟩ : Fin 512)) (⟨h * 128 + x.val, by omega⟩ : Fin 1024) := by
  unfold tb dgt BD B0
  refine Finset.sum_congr rfl fun x _ => ?_
  simp only [ao_eq]
  rw [dm_blk, pu_blk m c t _ _ _ _ (⟨h * 128 + x.val, by omega⟩ : Fin 1024) rfl (by simp only; omega)]

theorem tw_eq (t : Fin cfg0.N) (h o : ℕ) (hh : h < 8) (ho : o + 128 ≤ 512) (a s : Fin 128) :
    tw m c t h o hh ho a s = tri a s (∑ x : Fin 128, dgt m c (row t (⟨o + a.val, by omega⟩ : Fin 512)) (⟨h * 128 + x.val, by omega⟩ : Fin 1024)
      * vn m c (row t (⟨o + s.val, by omega⟩ : Fin 512)) (⟨h * 128 + x.val, by omega⟩ : Fin 1024)) := by
  unfold tw dgt vn BD B0 B5 B6
  refine congrArg (tri a s) (Finset.sum_congr rfl fun x _ => ?_)
  have en : (⟨h / 4 * 512 + (h % 4 * 128 + x.val), by omega⟩ : Fin 1024) = ⟨h * 128 + x.val, by omega⟩ := Fin.ext (by simp only; omega)
  simp only [ao_eq, off_eq]
  rw [dm_blk, en, blk5, blk6, pu_blk m c t _ _ _ _ (⟨h * 128 + x.val, by omega⟩ : Fin 1024) rfl (by simp only; omega),
    pv_blk m c t _ _ _ _ (⟨h * 128 + x.val, by omega⟩ : Fin 1024) rfl (by simp only; omega)]

/-! ## What the windows hold after a point -/

/-- The cotangent of the scaled second half, as the scratch holds it. -/
def DV (t : Fin cfg0.N) : Vec Ideal S512x1024 .f32 := fun y => dvn m c (row t (y 0)) (y 1)

/-- The window of the projections' cotangent. -/
def G9 (t : Fin cfg0.N) : Vec Ideal S4x512x512 .bf16 := fun y => dp m c (row t (y 1)) ⟨(y 0).val * 512 + (y 2).val, by have h0 : (y 0).val < 4 := (y 0).isLt; have h2 : (y 2).val < 512 := (y 2).isLt; omega⟩

/-- The carried windows, from what they held. -/
def G10 (t : Fin cfg0.N) (Z : Vec Ideal S4x1024x512 .f32) : Vec Ideal S4x1024x512 .f32 := fun y =>
  (Z y : EReal) + ∑ p : Fin 512, xn m c (row t p) (y 1) * dp m c (row t p) ⟨(y 0).val * 512 + (y 2).val, by have h0 : (y 0).val < 4 := (y 0).isLt; have h2 : (y 2).val < 512 := (y 2).isLt; omega⟩
@[inherit_doc G10] def G11 (t : Fin cfg0.N) (Z : Vec Ideal S1024x1024 .f32) : Vec Ideal S1024x1024 .f32 := fun y => (Z y : EReal) + ∑ p : Fin 512, mx m c (row t p) (y 0) * A7 m c (ix2 (row t p) (y 1))
@[inherit_doc G10] def G12 (t : Fin cfg0.N) (Z : Vec Ideal S1x1024 .f32) : Vec Ideal S1x1024 .f32 := fun y => (Z y : EReal) + ∑ p : Fin 512, dvn m c (row t p) (y 1) * vh m c (row t p) (y 1)
@[inherit_doc G10] def G13 (t : Fin cfg0.N) (Z : Vec Ideal S8x128x128 .f32) : Vec Ideal S8x128x128 .f32 := fun y =>
  (Z y : EReal) + ∑ n : Fin 4, tri (y 1) (y 2) (∑ x : Fin 128, dgt m c (row t ⟨n.val * 128 + (y 1).val, by have h1 : (y 1).val < 128 := (y 1).isLt; omega⟩) ⟨(y 0).val * 128 + x.val, by have h0 : (y 0).val < 8 := (y 0).isLt; omega⟩
    * vn m c (row t ⟨n.val * 128 + (y 2).val, by have h2 : (y 2).val < 128 := (y 2).isLt; omega⟩) ⟨(y 0).val * 128 + x.val, by have h0 : (y 0).val < 8 := (y 0).isLt; omega⟩)
@[inherit_doc G10] def G14 (t : Fin cfg0.N) (Z : Vec Ideal S8x128x1 .f32) : Vec Ideal S8x128x1 .f32 := fun y =>
  (Z y : EReal) + ∑ n : Fin 4, ∑ x : Fin 128, dgt m c (row t ⟨n.val * 128 + (y 1).val, by have h1 : (y 1).val < 128 := (y 1).isLt; omega⟩) ⟨(y 0).val * 128 + x.val, by have h0 : (y 0).val < 8 := (y 0).isLt; omega⟩

end Cert.SguGradIdeal.Arr
-- ==== Proof.SguGrad.Pieces.lean ====
module

public import Idealize.ShloMosaic.Lib.Pipeline.ValueKit
public import Idealize.ShloMosaic.Lib.Pipeline.ReadBack

@[expose] public section

/-! # Reading back an array written by many stores, some of them overwritten later -/

namespace Step

open Idealize.ShloMosaic

variable {Val : EltTy → Type} {s : Shape} {e : EltTy}

/-- Where a block's index lies in the array. -/
theorem emb_unit (off size : Fin s.rank → ℕ) (inb : ∀ a, off a + size a ≤ s.size a) (x : (Rect.unit off size inb).shape.Idx) (a : Fin s.rank) :
    ((Rect.unit off size inb).emb x a : ℕ) = off a + x a := by
  rw [Rect.emb_apply]
  exact congrArg (off a + ·) (Nat.one_mul _)

/-- The stores `L`, latest first, leave `G` outside the rectangles of the later stores `S`: each store is a block of `G` or lies under a later one, down to
    a point from which on everything is covered. -/
inductive Top (G : s.Idx → Val e) : List (View.Piece Val s e) → List (View.Piece Val s e) → Prop
  | done (S L : List (View.Piece Val s e)) (h : ∀ y : s.Idx, ∃ p ∈ S, y ∈ p.1.set) : Top G S L
  | top {S L : List (View.Piece Val s e)} {p : View.Piece Val s e} (rest : Top G (p :: S) L) (h : ∀ x : p.1.shape.Idx, p.2 x = G (p.1.emb x)) : Top G S (p :: L)
  | under {S L : List (View.Piece Val s e)} {p q : View.Piece Val s e} (rest : Top G (q :: S) L) (h : p.1 = q.1) : Top G (q :: S) (p :: L)

/-- Such stores leave `G` at every index outside the rectangles of the later stores. -/
theorem Top.canon_off [∀ e, Nonempty (Val e)] {G : s.Idx → Val e} {S L : List (View.Piece Val s e)} (h : Top G S L) (y : s.Idx) (hy : ∀ p ∈ S, y ∉ p.1.set) :
    View.canon L y = G y := by
  induction h with
  | done S L h => obtain ⟨p, hp, h⟩ := h y; exact absurd h (hy p hp)
  | @top S L p rest h ih =>
    by_cases hp : y ∈ p.1.set
    · exact View.canon_append_of_pieces G L [p] (fun q hq => by obtain rfl := List.mem_singleton.mp hq; exact h) y ⟨p, List.mem_singleton.mpr rfl, hp⟩
    · rw [View.canon_cons_of_not_mem p L hp]
      exact ih (fun q hq => by rcases List.mem_cons.mp hq with rfl | hq; exacts [hp, hy q hq])
  | @under S L p q rest h ih =>
    have hp : y ∉ p.1.set := by rw [h]; exact hy q List.mem_cons_self
    rw [View.canon_cons_of_not_mem p L hp]
    exact ih hy

/-- Such stores, with no later ones, leave `G`. -/
theorem Top.canon [∀ e, Nonempty (Val e)] {G : s.Idx → Val e} {L : List (View.Piece Val s e)} (h : Top G [] L) (y : s.Idx) : View.canon L y = G y :=
  h.canon_off y (fun p hp => absurd hp List.not_mem_nil)

/-- A load of a block outside the rectangles of the later stores reads `G` there. -/
theorem Top.readCov [∀ e, Nonempty (Val e)] {sig : RefSig} {κ : Kind} {sp : Space} {G : s.Idx → Val e} {S L : List (View.Piece Val s e)} (h : Top G S L) (v : View sig κ sp s e)
    (off size : Fin s.rank → ℕ) (inb : ∀ a, off a + size a ≤ s.size a) (X : (Rect.unit off size inb).shape.Idx → Val e)
    (hS : ∀ j, ∀ p ∈ S, (Rect.unit off size inb).emb j ∉ p.1.set) (hX : ∀ j, G ((Rect.unit off size inb).emb j) = X j) : v.readCov L (Rect.toLoadRect (Rect.unit off size inb)) = X := by
  rw [View.readCov_eq_canon']
  funext j
  exact (h.canon_off _ (hS j)).trans (hX j)

/-- An index before or past a block on one axis is not in it. -/
theorem not_mem_unit {off size : Fin s.rank → ℕ} {inb : ∀ a, off a + size a ≤ s.size a} {i : s.Idx} (a : Fin s.rank) (h : (i a : ℕ) < off a ∨ off a + size a ≤ (i a : ℕ)) :
    i ∉ (Rect.unit off size inb).set := fun hm => by
  have h' := Rect.mem_set_unit.mp hm a
  omega

end Step

end
-- ==== Proof.SguGrad.Points12.lean ====
module

public import proofs.«01_k».proof.Proof.SguGrad.Stage
public import proofs.«01_k».proof.Proof.SguGrad.Pieces

@[expose] public section

set_option maxRecDepth 16384

/-! # The scratch, and what a grid point adds to the scale's cotangent -/

noncomputable section

namespace Cert.SguGradIdeal.Arr

open Cert.SguGradIdeal Cert.SguGradIdeal.Gen Idealize.ShloMosaic Idealize.ShloMosaic.TcCoe Idealize.SL.Sem

variable (m : (ℓ : Loc nD τ sig) → Buf (Elt Ideal) ℓ) (c : Dev nD)

theorem pieceDV (t : Fin cfg0.N) (o0 o1 : ℕ) (e0 : o0 % 128 = 0) (e1 : o1 % 128 = 0) (h0 : o0 + 128 ≤ 512) (h1 : o1 + 128 ≤ 1024) (inb : ∀ a, ![o0, o1] a + ![128, 128] a ≤ S512x1024.size a)
    (w : Vec Ideal S128x128 .f32) (hw : ∀ a b : Fin 128, w (ix2 a b) = tdvn m c t o0 o1 e1 h0 h1 a b) : ∀ x, w x = DV m c t ((Rect.unit (s := S512x1024) ![o0, o1] ![128, 128] inb).emb x) := by
  intro x
  have e : (Rect.unit (s := S512x1024) ![o0, o1] ![128, 128] inb).emb x = ix2 ⟨o0 + (x 0).val, by have h : (x 0).val < 128 := (x 0).isLt; omega⟩ ⟨o1 + (x 1).val, by have h : (x 1).val < 128 := (x 1).isLt; omega⟩ := by
    idx_vars x
    blk_ext [Step.emb_unit]
  rw [e]
  idx_vars x
  exact (hw _ _).trans (tdvn_eq m c t o0 o1 e0 e1 h0 h1 _ _)

/-- Half `k` of the scratch. -/
def DVh (t : Fin cfg0.N) (k : ℕ) (hk : k < 2) : Vec Ideal S512x512 .f32 := fun y => dvn m c (row t (y 0)) ⟨k * 512 + (y 1).val, by have h : (y 1).val < 512 := (y 1).isLt; omega⟩

/-- A load of the first half, when only the second half has been stored over since. -/
theorem readDV0 (t : Fin cfg0.N) (inb : ∀ a, ![0, 0] a + ![512, 512] a ≤ S512x1024.size a) (inb' : ∀ a, ![0, 512] a + ![512, 512] a ≤ S512x1024.size a) (L : List (View.Piece (Elt Ideal) S512x1024 .f32)) (v : View sig .tc .vmem S512x1024 .f32)
    (h : Step.Top (DV m c t) [⟨Rect.unit ![0, 512] ![512, 512] inb', fun _ => (0 : EReal)⟩] L) :
    v.readCov L (Rect.toLoadRect (Rect.unit ![0, 0] ![512, 512] inb)) = DVh m c t 0 (by decide) := by
  have e (j : (Rect.unit (s := S512x1024) ![0, 0] ![512, 512] inb).shape.Idx) : (Rect.unit (s := S512x1024) ![0, 0] ![512, 512] inb).emb j = ix2 (j 0) ⟨0 * 512 + (j 1).val, by have h : (j 1).val < 512 := (j 1).isLt; omega⟩ := by
    idx_vars j
    blk_ext [Step.emb_unit]
  refine h.readCov v _ _ inb _ (fun j p hp => ?_) (fun j => ?_)
  · obtain rfl := List.mem_singleton.mp hp
    rw [e]
    idx_vars j
    exact Step.not_mem_unit (1 : Fin 2) (Or.inl (by show 0 * 512 + j1.val < 512; omega))
  · rw [e]
    rfl

/-- A load of the second half. -/
theorem readDV1 (t : Fin cfg0.N) (inb : ∀ a, ![0, 512] a + ![512, 512] a ≤ S512x1024.size a) (L : List (View.Piece (Elt Ideal) S512x1024 .f32)) (v : View sig .tc .vmem S512x1024 .f32)
    (h : Step.Top (DV m c t) [] L) : v.readCov L (Rect.toLoadRect (Rect.unit ![0, 512] ![512, 512] inb)) = DVh m c t 1 (by decide) := by
  have e (j : (Rect.unit (s := S512x1024) ![0, 512] ![512, 512] inb).shape.Idx) : (Rect.unit (s := S512x1024) ![0, 512] ![512, 512] inb).emb j = ix2 (j 0) ⟨1 * 512 + (j 1).val, by have h : (j 1).val < 512 := (j 1).isLt; omega⟩ := by
    idx_vars j
    blk_ext [Step.emb_unit]
  refine h.readCov v _ _ inb _ (fun j p hp => absurd hp List.not_mem_nil) (fun j => ?_)
  rw [e]
  rfl

/-- One half of the addition. -/
theorem piece12 (t : Fin cfg0.N) (Z : Vec Ideal S1x1024 .f32) (k o : ℕ) (hk : k < 2) (ho : o = k * 512) (inb : ∀ a, ![0, o] a + ![1, 512] a ≤ S1x1024.size a) (w : Vec Ideal S1x512 .f32)
    (hw : ∀ l : Fin 512, w (ix2 0 l) = (Z (ix2 0 (ao 1024 o l.val (by omega))) : EReal) + ∑ x : Fin 512, (DVh m c t k hk (ix2 x l) : EReal) * (gk (B0 m c t (⟨k + 2, by omega⟩ : Fin 4) x l) * B5 m c t x)) :
    ∀ x, w x = G12 m c t Z ((Rect.unit (s := S1x1024) ![0, o] ![1, 512] inb).emb x) := by
  intro x
  have e : (Rect.unit (s := S1x1024) ![0, o] ![1, 512] inb).emb x = ix2 0 ⟨o + (x 1).val, by have h : (x 1).val < 512 := (x 1).isLt; omega⟩ := by
    idx_vars x
    blk_ext [Step.emb_unit]
  rw [e]
  idx_vars x
  obtain rfl : x0 = 0 := Subsingleton.elim _ _
  refine (hw _).trans ?_
  rw [ao_eq]
  subst ho
  refine congrArg (Z _ + ·) (Finset.sum_congr rfl fun p _ => ?_)
  unfold B0 B5 vh
  rw [blk5, pv_blk m c t _ _ _ _ (⟨k * 512 + x1.val, by omega⟩ : Fin 1024) rfl (by simp only; omega)]
  rfl

theorem t12B (t : Fin cfg0.N) (h0 : ¬t.val % 8 = 0) : (outsAt0 m c t.val t.isLt).2.2.2.1 = G12 m c t (outsAt0 m c (t.val - 1) (by omega)).2.2.2.1 := by
  rw [outsAt0_B m c t h0]
  frame_open
  simp (disch := decide) only [↓ View.readCov_skip, ↓ View.readCov_cons_toLoadRect, ↓ View.readCov_fill]
  frame_out
  funext y
  rw [readDV1 m c t _ _ _ ?_]
  rw [readDV0 m c t _ (by decide) _ _ ?_]
  · refine Step.Top.canon (.top (.top (.done _ _ (View.cover_of_tiledBy _ ![1, 512] (by sl_kernel_rfl))) (piece12 m c t _ 0 _ (by decide) rfl (by decide) _ (fun l => ?_)))
      (piece12 m c t _ 1 _ (by decide) rfl (by decide) _ (fun l => ?_))) y
    all_goals
      pointwise [k0_pay9, k0_pay10, k0_pay11, k0_pay12, k0_pay13, k0_pay14, k0_pay356, k0_pay357]
      rfl
  · iterate 15 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl
  · iterate 31 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl

theorem t12A (t : Fin cfg0.N) (h0 : t.val % 8 = 0) : (outsAt0 m c t.val t.isLt).2.2.2.1 = G12 m c t (k0_pay4 (F := Ideal)) := by
  rw [outsAt0_A m c t h0]
  frame_open
  simp (disch := decide) only [↓ View.readCov_skip, ↓ View.readCov_cons_toLoadRect, ↓ View.readCov_fill]
  frame_out
  funext y
  rw [readDV1 m c t _ _ _ ?_]
  rw [readDV0 m c t _ (by decide) _ _ ?_]
  · refine Step.Top.canon (.top (.top (.done _ _ (View.cover_of_tiledBy _ ![1, 512] (by sl_kernel_rfl))) (piece12 m c t _ 0 _ (by decide) rfl (by decide) _ (fun l => ?_)))
      (piece12 m c t _ 1 _ (by decide) rfl (by decide) _ (fun l => ?_))) y
    all_goals
      pointwise [k0_pay9, k0_pay10, k0_pay11, k0_pay12, k0_pay13, k0_pay14, k0_pay356, k0_pay357]
      rfl
  · iterate 15 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl
  · iterate 31 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl

end Cert.SguGradIdeal.Arr
-- ==== Proof.SguGrad.Points9.lean ====
module

public import proofs.«01_k».proof.Proof.SguGrad.Points12

@[expose] public section

set_option maxRecDepth 16384

/-! # The projections' cotangent of a grid point -/

noncomputable section

namespace Cert.SguGradIdeal.Arr

open Cert.SguGradIdeal Cert.SguGradIdeal.Gen Idealize.ShloMosaic Idealize.ShloMosaic.TcCoe Idealize.SL.Sem

variable (m : (ℓ : Loc nD τ sig) → Buf (Elt Ideal) ℓ) (c : Dev nD)

theorem dp_fst (r : Fin 4096) (q : ℕ) (hq : q < 1024) : dp m c r (⟨q, by omega⟩ : Fin 2048) = dpu m c r (⟨q, hq⟩ : Fin 1024) := dif_pos hq

theorem piece9u (t : Fin cfg0.N) (k o1 o2 : ℕ) (hk : k < 2) (e1 : o1 % 128 = 0) (e2 : o2 % 128 = 0) (h1 : o1 + 128 ≤ 512) (h2 : o2 + 128 ≤ 512) (inb : ∀ a, ![k, o1, o2] a + ![1, 128, 128] a ≤ S4x512x512.size a)
    (w : Vec Ideal S1x128x128 .bf16) (hw : ∀ a b : Fin 128, w (ix3 0 a b) = tdp m c t k o1 o2 hk h1 h2 a b) : ∀ x, w x = G9 m c t ((Rect.unit (s := S4x512x512) ![k, o1, o2] ![1, 128, 128] inb).emb x) := by
  intro x
  have e : (Rect.unit (s := S4x512x512) ![k, o1, o2] ![1, 128, 128] inb).emb x
      = ix3 ⟨k, by omega⟩ ⟨o1 + (x 1).val, by have h : (x 1).val < 128 := (x 1).isLt; omega⟩ ⟨o2 + (x 2).val, by have h : (x 2).val < 128 := (x 2).isLt; omega⟩ := by
    idx_vars x
    blk_ext [Step.emb_unit]
  rw [e]
  idx_vars x
  obtain rfl : x0 = 0 := Subsingleton.elim _ _
  refine ((hw _ _).trans (tdp_eq m c t k o1 o2 hk e1 e2 h1 h2 _ _)).trans ?_
  have hlt : k * 512 + (o2 + x2.val) < 1024 := by omega
  have ej : (⟨k * 512 + o2 + x2.val, by omega⟩ : Fin 1024) = ⟨k * 512 + (o2 + x2.val), hlt⟩ := Fin.ext (by simp only; omega)
  rw [ej]
  exact (dp_fst m c _ _ hlt).symm

/-- A tile of the cotangent of the second half of the projections. -/
def tdpv (t : Fin cfg0.N) (k : ℕ) (hk : k < 2) (p l : Fin 512) : EReal :=
  B5 m c t p * (((DVh m c t k hk (ix2 p l) : EReal) * B6 m c t (ao 1024 (k * 512) l.val (by omega)))
    - gk (B0 m c t (⟨k + 2, by omega⟩ : Fin 4) p l) * B5 m c t p * Ideal.div
      ((∑ x : Fin 512, (DVh m c t 0 (by decide) (ix2 p x) : EReal) * B6 m c t (ao 1024 0 x.val (by omega)) * (gk (B0 m c t 2 p x) * B5 m c t p))
        + ∑ x : Fin 512, (DVh m c t 1 (by decide) (ix2 p x) : EReal) * B6 m c t (ao 1024 512 x.val (by omega)) * (gk (B0 m c t 3 p x) * B5 m c t p)) (Ideal.ofBits .f32 1149239296#32))
  * gg (B0 m c t (⟨k + 2, by omega⟩ : Fin 4) p l)

theorem tdpv_eq (t : Fin cfg0.N) (k : ℕ) (hk : k < 2) (p l : Fin 512) : tdpv m c t k hk p l = dpv m c (row t p) (⟨k * 512 + l.val, by omega⟩ : Fin 1024) := by
  have s0 : (∑ x : Fin 512, (DVh m c t 0 (by decide) (ix2 p x) : EReal) * B6 m c t (ao 1024 0 x.val (by omega)) * (gk (B0 m c t 2 p x) * B5 m c t p))
      = ∑ x : Fin 512, dvn m c (row t p) (⟨x.val, by omega⟩ : Fin 1024) * A3 m c (ix1 (⟨x.val, by omega⟩ : Fin 1024)) * vh m c (row t p) (⟨x.val, by omega⟩ : Fin 1024) := by
    refine Finset.sum_congr rfl fun x _ => ?_
    have e : (⟨0 + x.val, by omega⟩ : Fin 1024) = ⟨x.val, by omega⟩ := Fin.ext (Nat.zero_add _)
    have e' : (DVh m c t 0 (by decide) (ix2 p x) : EReal) = dvn m c (row t p) (⟨x.val, by omega⟩ : Fin 1024) := congrArg (dvn m c (row t p)) (Fin.ext (by show 0 * 512 + x.val = x.val; omega))
    rw [ao_eq, e, e']
    unfold B0 B5 B6 vh
    rw [blk5, blk6, pv_blk m c t _ _ _ _ (⟨x.val, by omega⟩ : Fin 1024) rfl (by show 1024 + x.val = 2 * 512 + x.val; omega)]
  have s1 : (∑ x : Fin 512, (DVh m c t 1 (by decide) (ix2 p x) : EReal) * B6 m c t (ao 1024 512 x.val (by omega)) * (gk (B0 m c t 3 p x) * B5 m c t p))
      = ∑ x : Fin 512, dvn m c (row t p) (⟨512 + x.val, by omega⟩ : Fin 1024) * A3 m c (ix1 (⟨512 + x.val, by omega⟩ : Fin 1024)) * vh m c (row t p) (⟨512 + x.val, by omega⟩ : Fin 1024) := by
    refine Finset.sum_congr rfl fun x _ => ?_
    have e' : (DVh m c t 1 (by decide) (ix2 p x) : EReal) = dvn m c (row t p) (⟨512 + x.val, by omega⟩ : Fin 1024) := congrArg (dvn m c (row t p)) (Fin.ext (by show 1 * 512 + x.val = 512 + x.val; omega))
    rw [ao_eq, e']
    unfold B0 B5 B6 vh
    rw [blk5, blk6, pv_blk m c t _ _ _ _ (⟨512 + x.val, by omega⟩ : Fin 1024) rfl (by show 1024 + (512 + x.val) = 3 * 512 + x.val; omega)]
  have e' : (DVh m c t k hk (ix2 p l) : EReal) = dvn m c (row t p) (⟨k * 512 + l.val, by omega⟩ : Fin 1024) := rfl
  unfold tdpv dpv dt
  rw [s0, s1, e', ao_eq]
  unfold B0 B5 B6 vh
  rw [blk5, blk6, pv_blk m c t _ _ _ _ (⟨k * 512 + l.val, by omega⟩ : Fin 1024) rfl (by simp only; omega)]

theorem dp_snd (r : Fin 4096) (k l : ℕ) (hk : k < 2) (hl : l < 512) : dp m c r (⟨(k + 2) * 512 + l, by omega⟩ : Fin 2048) = dpv m c r (⟨k * 512 + l, by omega⟩ : Fin 1024) :=
  (dif_neg (by simp only; omega)).trans (congrArg (dpv m c r) (Fin.ext (by simp only; omega)))

theorem piece9v (t : Fin cfg0.N) (k q : ℕ) (hk : k < 2) (hq : q = k + 2) (inb : ∀ a, ![q, 0, 0] a + ![1, 512, 512] a ≤ S4x512x512.size a)
    (w : Vec Ideal S1x512x512 .bf16) (hw : ∀ p l : Fin 512, w (ix3 0 p l) = tdpv m c t k hk p l) : ∀ x, w x = G9 m c t ((Rect.unit (s := S4x512x512) ![q, 0, 0] ![1, 512, 512] inb).emb x) := by
  subst hq
  intro x
  have e : (Rect.unit (s := S4x512x512) ![k + 2, 0, 0] ![1, 512, 512] inb).emb x = ix3 ⟨k + 2, by omega⟩ (x 1) (x 2) := by
    idx_vars x
    blk_ext [Step.emb_unit]
  rw [e]
  idx_vars x
  obtain rfl : x0 = 0 := Subsingleton.elim _ _
  exact ((hw _ _).trans (tdpv_eq m c t k hk _ _)).trans (dp_snd m c (row t x1) k x2.val hk x2.isLt).symm

set_option maxHeartbeats 1600000 in
theorem t9B (t : Fin cfg0.N) (h0 : ¬t.val % 8 = 0) : (outsAt0 m c t.val t.isLt).1 = G9 m c t := by
  rw [outsAt0_B m c t h0]
  frame_open
  simp (disch := decide) only [↓ View.readCov_skip, ↓ View.readCov_cons_toLoadRect, ↓ View.readCov_fill]
  frame_out
  funext y
  rw [readDV1 m c t _ _ _ ?_]
  rw [readDV0 m c t _ (by decide) _ _ ?_]
  · refine Step.Top.canon ?_ y
    refine .top (.top ?_ (piece9v m c t 0 _ (by decide) rfl (by decide) _ (fun p l => ?_))) (piece9v m c t 1 _ (by decide) rfl (by decide) _ (fun p l => ?_))
    · iterate 31 refine .top ?_ (piece9u m c t _ _ _ (by decide) (by decide) (by decide) (by decide) (by decide) (by decide) _ (fun a b => ?_))
      refine .top (.done _ _ (View.cover_of_tiledBy _ ![1, 128, 128] (by sl_kernel_rfl))) (piece9u m c t _ _ _ (by decide) (by decide) (by decide) (by decide) (by decide) (by decide) _ (fun a b => ?_))
      all_goals
        pointwise [k0_pay9, k0_pay10, k0_pay11, k0_pay12, k0_pay13, k0_pay14, k0_pay15, k0_pay16, k0_pay18, k0_pay19, k0_pay20, k0_pay21, k0_pay30, k0_pay31, k0_pay40, k0_pay41, k0_pay51, k0_pay60, k0_pay67, k0_pay68, k0_pay69, k0_pay70, k0_pay71, k0_pay78, k0_pay79, k0_pay80, k0_pay81, k0_pay82, k0_pay89, k0_pay90, k0_pay91, k0_pay92, k0_pay93, k0_pay102, k0_pay103, k0_pay104, k0_pay105, k0_pay106, k0_pay113, k0_pay114, k0_pay115, k0_pay116, k0_pay117, k0_pay118, k0_pay125, k0_pay126, k0_pay127, k0_pay128, k0_pay129, k0_pay130, k0_pay136, k0_pay137, k0_pay138, k0_pay139, k0_pay140, k0_pay147, k0_pay148, k0_pay149, k0_pay150, k0_pay157, k0_pay158, k0_pay159, k0_pay160, k0_pay166, k0_pay167, k0_pay168, k0_pay174, k0_pay175, k0_pay176, k0_pay177, k0_pay184, k0_pay185, k0_pay186, k0_pay187, k0_pay198, k0_pay199, k0_pay200, k0_pay211, k0_pay212, k0_pay220, k0_pay221, k0_pay229, k0_pay230, k0_pay239, k0_pay240, k0_pay249, k0_pay250, k0_pay260, k0_pay269, k0_pay276, k0_pay277, k0_pay278, k0_pay279, k0_pay280, k0_pay287, k0_pay288, k0_pay289, k0_pay290, k0_pay291, k0_pay298, k0_pay299, k0_pay300, k0_pay301, k0_pay302, k0_pay311, k0_pay312, k0_pay313, k0_pay314, k0_pay315, k0_pay322, k0_pay323, k0_pay324, k0_pay325, k0_pay326, k0_pay327, k0_pay334, k0_pay335, k0_pay336, k0_pay337, k0_pay338, k0_pay339, k0_pay345, k0_pay346, k0_pay347, k0_pay348, k0_pay349]
        rfl
    all_goals
      pointwise [k0_pay9, k0_pay10, k0_pay11, k0_pay12, k0_pay13, k0_pay14, k0_pay358, k0_pay359, k0_pay360, k0_pay361, k0_pay362, k0_pay363, k0_pay364, k0_pay365, k0_pay366, k0_pay367]
      rfl
  · iterate 15 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl
  · iterate 31 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl

set_option maxHeartbeats 1600000 in
theorem t9A (t : Fin cfg0.N) (h0 : t.val % 8 = 0) : (outsAt0 m c t.val t.isLt).1 = G9 m c t := by
  rw [outsAt0_A m c t h0]
  frame_open
  simp (disch := decide) only [↓ View.readCov_skip, ↓ View.readCov_cons_toLoadRect, ↓ View.readCov_fill]
  frame_out
  funext y
  rw [readDV1 m c t _ _ _ ?_]
  rw [readDV0 m c t _ (by decide) _ _ ?_]
  · refine Step.Top.canon ?_ y
    refine .top (.top ?_ (piece9v m c t 0 _ (by decide) rfl (by decide) _ (fun p l => ?_))) (piece9v m c t 1 _ (by decide) rfl (by decide) _ (fun p l => ?_))
    · iterate 31 refine .top ?_ (piece9u m c t _ _ _ (by decide) (by decide) (by decide) (by decide) (by decide) (by decide) _ (fun a b => ?_))
      refine .top (.done _ _ (View.cover_of_tiledBy _ ![1, 128, 128] (by sl_kernel_rfl))) (piece9u m c t _ _ _ (by decide) (by decide) (by decide) (by decide) (by decide) (by decide) _ (fun a b => ?_))
      all_goals
        pointwise [k0_pay9, k0_pay10, k0_pay11, k0_pay12, k0_pay13, k0_pay14, k0_pay15, k0_pay16, k0_pay18, k0_pay19, k0_pay20, k0_pay21, k0_pay30, k0_pay31, k0_pay40, k0_pay41, k0_pay51, k0_pay60, k0_pay67, k0_pay68, k0_pay69, k0_pay70, k0_pay71, k0_pay78, k0_pay79, k0_pay80, k0_pay81, k0_pay82, k0_pay89, k0_pay90, k0_pay91, k0_pay92, k0_pay93, k0_pay102, k0_pay103, k0_pay104, k0_pay105, k0_pay106, k0_pay113, k0_pay114, k0_pay115, k0_pay116, k0_pay117, k0_pay118, k0_pay125, k0_pay126, k0_pay127, k0_pay128, k0_pay129, k0_pay130, k0_pay136, k0_pay137, k0_pay138, k0_pay139, k0_pay140, k0_pay147, k0_pay148, k0_pay149, k0_pay150, k0_pay157, k0_pay158, k0_pay159, k0_pay160, k0_pay166, k0_pay167, k0_pay168, k0_pay174, k0_pay175, k0_pay176, k0_pay177, k0_pay184, k0_pay185, k0_pay186, k0_pay187, k0_pay198, k0_pay199, k0_pay200, k0_pay211, k0_pay212, k0_pay220, k0_pay221, k0_pay229, k0_pay230, k0_pay239, k0_pay240, k0_pay249, k0_pay250, k0_pay260, k0_pay269, k0_pay276, k0_pay277, k0_pay278, k0_pay279, k0_pay280, k0_pay287, k0_pay288, k0_pay289, k0_pay290, k0_pay291, k0_pay298, k0_pay299, k0_pay300, k0_pay301, k0_pay302, k0_pay311, k0_pay312, k0_pay313, k0_pay314, k0_pay315, k0_pay322, k0_pay323, k0_pay324, k0_pay325, k0_pay326, k0_pay327, k0_pay334, k0_pay335, k0_pay336, k0_pay337, k0_pay338, k0_pay339, k0_pay345, k0_pay346, k0_pay347, k0_pay348, k0_pay349]
        rfl
    all_goals
      pointwise [k0_pay9, k0_pay10, k0_pay11, k0_pay12, k0_pay13, k0_pay14, k0_pay358, k0_pay359, k0_pay360, k0_pay361, k0_pay362, k0_pay363, k0_pay364, k0_pay365, k0_pay366, k0_pay367]
      rfl
  · iterate 15 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl
  · iterate 31 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl

end Cert.SguGradIdeal.Arr
-- ==== Proof.SguGrad.Points10.lean ====
module

public import proofs.«01_k».proof.Proof.SguGrad.Points9

@[expose] public section

set_option maxRecDepth 16384

/-! # What a grid point adds to the two weight products -/

noncomputable section

namespace Cert.SguGradIdeal.Arr

open Cert.SguGradIdeal Cert.SguGradIdeal.Gen Idealize.ShloMosaic Idealize.ShloMosaic.TcCoe Idealize.SL.Sem

variable (m : (ℓ : Loc nD τ sig) → Buf (Elt Ideal) ℓ) (c : Dev nD)

/-- Block `k` of the first half of the projections' cotangent. -/
def DPh (t : Fin cfg0.N) (k : ℕ) (hk : k < 2) : Vec Ideal S1x512x512 .bf16 := fun y => dp m c (row t (y 1)) ⟨k * 512 + (y 2).val, by have h : (y 2).val < 512 := (y 2).isLt; omega⟩

/-- A load of that block, when only later blocks have been stored over since. -/
theorem readDP (t : Fin cfg0.N) (k : ℕ) (hk : k < 2) (n : ℕ) (inb : ∀ a, ![k, 0, 0] a + ![1, 512, 512] a ≤ S4x512x512.size a) (inb' : ∀ a, ![k + 1, 0, 0] a + ![n, 512, 512] a ≤ S4x512x512.size a) (L : List (View.Piece (Elt Ideal) S4x512x512 .bf16)) (v : View sig .tc .vmem S4x512x512 .bf16)
    (h : Step.Top (G9 m c t) [⟨Rect.unit ![k + 1, 0, 0] ![n, 512, 512] inb', fun _ => (0 : EReal)⟩] L) :
    v.readCov L (Rect.toLoadRect (Rect.unit ![k, 0, 0] ![1, 512, 512] inb)) = DPh m c t k hk := by
  have e (j : (Rect.unit (s := S4x512x512) ![k, 0, 0] ![1, 512, 512] inb).shape.Idx) : (Rect.unit (s := S4x512x512) ![k, 0, 0] ![1, 512, 512] inb).emb j = ix3 ⟨k, by omega⟩ (j 1) (j 2) := by
    idx_vars j
    blk_ext [Step.emb_unit]
  refine h.readCov v _ _ inb _ (fun j p hp => ?_) (fun j => ?_)
  · obtain rfl := List.mem_singleton.mp hp
    rw [e]
    exact Step.not_mem_unit (inb := inb') (0 : Fin 3) (Or.inl (by show k < k + 1; omega))
  · rw [e]
    rfl

theorem piece10 (t : Fin cfg0.N) (Z : Vec Ideal S4x1024x512 .f32) (k : ℕ) (hk : k < 4) (Y : Fin 512 → Fin 512 → EReal)
    (hY : ∀ p l : Fin 512, Y p l = dp m c (row t p) (⟨k * 512 + l.val, by omega⟩ : Fin 2048)) (inb : ∀ a, ![k, 0, 0] a + ![1, 1024, 512] a ≤ S4x1024x512.size a) (w : Vec Ideal S1x1024x512 .f32)
    (hw : ∀ (x : Fin 1024) (l : Fin 512), w (ix3 0 x l) = (Z (ix3 (⟨k, hk⟩ : Fin 4) x l) : EReal) + ∑ p : Fin 512, (HMul.hMul : EReal → EReal → EReal) (iblk m c 2 t (ix2 p x)) (Y p l)) :
    ∀ x, w x = G10 m c t Z ((Rect.unit (s := S4x1024x512) ![k, 0, 0] ![1, 1024, 512] inb).emb x) := by
  intro x
  have e : (Rect.unit (s := S4x1024x512) ![k, 0, 0] ![1, 1024, 512] inb).emb x = ix3 ⟨k, hk⟩ (x 1) (x 2) := by
    idx_vars x
    blk_ext [Step.emb_unit]
  rw [e]
  idx_vars x
  obtain rfl : x0 = 0 := Subsingleton.elim _ _
  refine (hw _ _).trans (congrArg (Z _ + ·) (Finset.sum_congr rfl fun p _ => ?_))
  rw [hY, blk2]
  rfl

set_option maxHeartbeats 1600000 in
theorem t10B (t : Fin cfg0.N) (h0 : ¬t.val % 8 = 0) : (outsAt0 m c t.val t.isLt).2.1 = G10 m c t (outsAt0 m c (t.val - 1) (by omega)).2.1 := by
  rw [outsAt0_B m c t h0]
  frame_open
  simp (disch := decide) only [↓ View.readCov_skip, ↓ View.readCov_cons_toLoadRect, ↓ View.readCov_fill]
  frame_out
  funext y
  rw [readDV1 m c t _ _ _ ?_]
  rw [readDV0 m c t _ (by decide) _ _ ?_]
  rw [readDP m c t 1 (by decide) 2 _ (by decide) _ _ ?_]
  rw [readDP m c t 0 (by decide) 3 _ (by decide) _ _ ?_]
  · refine Step.Top.canon ?_ y
    refine .top (.top (.top (.top (.done _ _ (View.cover_of_tiledBy _ ![1, 1024, 512] (by sl_kernel_rfl)))
      (piece10 m c t _ 0 (by decide) (fun p l => DPh m c t 0 (by decide) (ix3 0 p l)) (fun p l => rfl) (by decide) _ (fun x l => ?_)))
      (piece10 m c t _ 1 (by decide) (fun p l => DPh m c t 1 (by decide) (ix3 0 p l)) (fun p l => rfl) (by decide) _ (fun x l => ?_)))
      (piece10 m c t _ 2 (by decide) (tdpv m c t 0 (by decide)) (fun p l => (tdpv_eq m c t 0 (by decide) p l).trans (dp_snd m c (row t p) 0 l.val (by decide) l.isLt).symm) (by decide) _ (fun x l => ?_)))
      (piece10 m c t _ 3 (by decide) (tdpv m c t 1 (by decide)) (fun p l => (tdpv_eq m c t 1 (by decide) p l).trans (dp_snd m c (row t p) 1 l.val (by decide) l.isLt).symm) (by decide) _ (fun x l => ?_))
    all_goals
      pointwise [k0_pay1, k0_pay9, k0_pay10, k0_pay11, k0_pay12, k0_pay13, k0_pay14, k0_pay358, k0_pay359, k0_pay360, k0_pay361, k0_pay362, k0_pay363, k0_pay364, k0_pay365, k0_pay366, k0_pay367, k0_pay368, k0_pay369, k0_pay370, k0_pay371, k0_pay372, k0_pay373]
      all_goals rfl
  · iterate 15 refine .top ?_ (piece9u m c t _ _ _ (by decide) (by decide) (by decide) (by decide) (by decide) (by decide) _ (fun a b => ?_))
    refine .top (.done _ _ (View.cover_of_tiledBy _ ![1, 128, 128] (by sl_kernel_rfl))) (piece9u m c t _ _ _ (by decide) (by decide) (by decide) (by decide) (by decide) (by decide) _ (fun a b => ?_))
    all_goals
      pointwise [k0_pay9, k0_pay10, k0_pay11, k0_pay12, k0_pay13, k0_pay14, k0_pay15, k0_pay16, k0_pay18, k0_pay19, k0_pay20, k0_pay21, k0_pay30, k0_pay31, k0_pay40, k0_pay41, k0_pay51, k0_pay60, k0_pay67, k0_pay68, k0_pay69, k0_pay70, k0_pay71, k0_pay78, k0_pay79, k0_pay80, k0_pay81, k0_pay82, k0_pay89, k0_pay90, k0_pay91, k0_pay92, k0_pay93, k0_pay102, k0_pay103, k0_pay104, k0_pay105, k0_pay106, k0_pay113, k0_pay114, k0_pay115, k0_pay116, k0_pay117, k0_pay118, k0_pay125, k0_pay126, k0_pay127, k0_pay128, k0_pay129, k0_pay130, k0_pay136, k0_pay137, k0_pay138, k0_pay139, k0_pay140, k0_pay147, k0_pay148, k0_pay149, k0_pay150, k0_pay157, k0_pay158, k0_pay159, k0_pay160, k0_pay166, k0_pay167, k0_pay168, k0_pay174, k0_pay175, k0_pay176, k0_pay177, k0_pay184, k0_pay185, k0_pay186, k0_pay187, k0_pay198, k0_pay199, k0_pay200, k0_pay211, k0_pay212, k0_pay220, k0_pay221, k0_pay229, k0_pay230, k0_pay239, k0_pay240, k0_pay249, k0_pay250, k0_pay260, k0_pay269, k0_pay276, k0_pay277, k0_pay278, k0_pay279, k0_pay280, k0_pay287, k0_pay288, k0_pay289, k0_pay290, k0_pay291, k0_pay298, k0_pay299, k0_pay300, k0_pay301, k0_pay302, k0_pay311, k0_pay312, k0_pay313, k0_pay314, k0_pay315, k0_pay322, k0_pay323, k0_pay324, k0_pay325, k0_pay326, k0_pay327, k0_pay334, k0_pay335, k0_pay336, k0_pay337, k0_pay338, k0_pay339, k0_pay345, k0_pay346, k0_pay347, k0_pay348, k0_pay349]
      rfl
  · iterate 31 refine .top ?_ (piece9u m c t _ _ _ (by decide) (by decide) (by decide) (by decide) (by decide) (by decide) _ (fun a b => ?_))
    refine .top (.done _ _ (View.cover_of_tiledBy _ ![1, 128, 128] (by sl_kernel_rfl))) (piece9u m c t _ _ _ (by decide) (by decide) (by decide) (by decide) (by decide) (by decide) _ (fun a b => ?_))
    all_goals
      pointwise [k0_pay9, k0_pay10, k0_pay11, k0_pay12, k0_pay13, k0_pay14, k0_pay15, k0_pay16, k0_pay18, k0_pay19, k0_pay20, k0_pay21, k0_pay30, k0_pay31, k0_pay40, k0_pay41, k0_pay51, k0_pay60, k0_pay67, k0_pay68, k0_pay69, k0_pay70, k0_pay71, k0_pay78, k0_pay79, k0_pay80, k0_pay81, k0_pay82, k0_pay89, k0_pay90, k0_pay91, k0_pay92, k0_pay93, k0_pay102, k0_pay103, k0_pay104, k0_pay105, k0_pay106, k0_pay113, k0_pay114, k0_pay115, k0_pay116, k0_pay117, k0_pay118, k0_pay125, k0_pay126, k0_pay127, k0_pay128, k0_pay129, k0_pay130, k0_pay136, k0_pay137, k0_pay138, k0_pay139, k0_pay140, k0_pay147, k0_pay148, k0_pay149, k0_pay150, k0_pay157, k0_pay158, k0_pay159, k0_pay160, k0_pay166, k0_pay167, k0_pay168, k0_pay174, k0_pay175, k0_pay176, k0_pay177, k0_pay184, k0_pay185, k0_pay186, k0_pay187, k0_pay198, k0_pay199, k0_pay200, k0_pay211, k0_pay212, k0_pay220, k0_pay221, k0_pay229, k0_pay230, k0_pay239, k0_pay240, k0_pay249, k0_pay250, k0_pay260, k0_pay269, k0_pay276, k0_pay277, k0_pay278, k0_pay279, k0_pay280, k0_pay287, k0_pay288, k0_pay289, k0_pay290, k0_pay291, k0_pay298, k0_pay299, k0_pay300, k0_pay301, k0_pay302, k0_pay311, k0_pay312, k0_pay313, k0_pay314, k0_pay315, k0_pay322, k0_pay323, k0_pay324, k0_pay325, k0_pay326, k0_pay327, k0_pay334, k0_pay335, k0_pay336, k0_pay337, k0_pay338, k0_pay339, k0_pay345, k0_pay346, k0_pay347, k0_pay348, k0_pay349]
      rfl
  · iterate 15 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl
  · iterate 31 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl

set_option maxHeartbeats 1600000 in
theorem t10A (t : Fin cfg0.N) (h0 : t.val % 8 = 0) : (outsAt0 m c t.val t.isLt).2.1 = G10 m c t (k0_pay2 (F := Ideal)) := by
  rw [outsAt0_A m c t h0]
  frame_open
  simp (disch := decide) only [↓ View.readCov_skip, ↓ View.readCov_cons_toLoadRect, ↓ View.readCov_fill]
  frame_out
  funext y
  rw [readDV1 m c t _ _ _ ?_]
  rw [readDV0 m c t _ (by decide) _ _ ?_]
  rw [readDP m c t 1 (by decide) 2 _ (by decide) _ _ ?_]
  rw [readDP m c t 0 (by decide) 3 _ (by decide) _ _ ?_]
  · refine Step.Top.canon ?_ y
    refine .top (.top (.top (.top (.done _ _ (View.cover_of_tiledBy _ ![1, 1024, 512] (by sl_kernel_rfl)))
      (piece10 m c t _ 0 (by decide) (fun p l => DPh m c t 0 (by decide) (ix3 0 p l)) (fun p l => rfl) (by decide) _ (fun x l => ?_)))
      (piece10 m c t _ 1 (by decide) (fun p l => DPh m c t 1 (by decide) (ix3 0 p l)) (fun p l => rfl) (by decide) _ (fun x l => ?_)))
      (piece10 m c t _ 2 (by decide) (tdpv m c t 0 (by decide)) (fun p l => (tdpv_eq m c t 0 (by decide) p l).trans (dp_snd m c (row t p) 0 l.val (by decide) l.isLt).symm) (by decide) _ (fun x l => ?_)))
      (piece10 m c t _ 3 (by decide) (tdpv m c t 1 (by decide)) (fun p l => (tdpv_eq m c t 1 (by decide) p l).trans (dp_snd m c (row t p) 1 l.val (by decide) l.isLt).symm) (by decide) _ (fun x l => ?_))
    all_goals
      pointwise [k0_pay1, k0_pay9, k0_pay10, k0_pay11, k0_pay12, k0_pay13, k0_pay14, k0_pay358, k0_pay359, k0_pay360, k0_pay361, k0_pay362, k0_pay363, k0_pay364, k0_pay365, k0_pay366, k0_pay367, k0_pay368, k0_pay369, k0_pay370, k0_pay371, k0_pay372, k0_pay373]
      all_goals rfl
  · iterate 15 refine .top ?_ (piece9u m c t _ _ _ (by decide) (by decide) (by decide) (by decide) (by decide) (by decide) _ (fun a b => ?_))
    refine .top (.done _ _ (View.cover_of_tiledBy _ ![1, 128, 128] (by sl_kernel_rfl))) (piece9u m c t _ _ _ (by decide) (by decide) (by decide) (by decide) (by decide) (by decide) _ (fun a b => ?_))
    all_goals
      pointwise [k0_pay9, k0_pay10, k0_pay11, k0_pay12, k0_pay13, k0_pay14, k0_pay15, k0_pay16, k0_pay18, k0_pay19, k0_pay20, k0_pay21, k0_pay30, k0_pay31, k0_pay40, k0_pay41, k0_pay51, k0_pay60, k0_pay67, k0_pay68, k0_pay69, k0_pay70, k0_pay71, k0_pay78, k0_pay79, k0_pay80, k0_pay81, k0_pay82, k0_pay89, k0_pay90, k0_pay91, k0_pay92, k0_pay93, k0_pay102, k0_pay103, k0_pay104, k0_pay105, k0_pay106, k0_pay113, k0_pay114, k0_pay115, k0_pay116, k0_pay117, k0_pay118, k0_pay125, k0_pay126, k0_pay127, k0_pay128, k0_pay129, k0_pay130, k0_pay136, k0_pay137, k0_pay138, k0_pay139, k0_pay140, k0_pay147, k0_pay148, k0_pay149, k0_pay150, k0_pay157, k0_pay158, k0_pay159, k0_pay160, k0_pay166, k0_pay167, k0_pay168, k0_pay174, k0_pay175, k0_pay176, k0_pay177, k0_pay184, k0_pay185, k0_pay186, k0_pay187, k0_pay198, k0_pay199, k0_pay200, k0_pay211, k0_pay212, k0_pay220, k0_pay221, k0_pay229, k0_pay230, k0_pay239, k0_pay240, k0_pay249, k0_pay250, k0_pay260, k0_pay269, k0_pay276, k0_pay277, k0_pay278, k0_pay279, k0_pay280, k0_pay287, k0_pay288, k0_pay289, k0_pay290, k0_pay291, k0_pay298, k0_pay299, k0_pay300, k0_pay301, k0_pay302, k0_pay311, k0_pay312, k0_pay313, k0_pay314, k0_pay315, k0_pay322, k0_pay323, k0_pay324, k0_pay325, k0_pay326, k0_pay327, k0_pay334, k0_pay335, k0_pay336, k0_pay337, k0_pay338, k0_pay339, k0_pay345, k0_pay346, k0_pay347, k0_pay348, k0_pay349]
      rfl
  · iterate 31 refine .top ?_ (piece9u m c t _ _ _ (by decide) (by decide) (by decide) (by decide) (by decide) (by decide) _ (fun a b => ?_))
    refine .top (.done _ _ (View.cover_of_tiledBy _ ![1, 128, 128] (by sl_kernel_rfl))) (piece9u m c t _ _ _ (by decide) (by decide) (by decide) (by decide) (by decide) (by decide) _ (fun a b => ?_))
    all_goals
      pointwise [k0_pay9, k0_pay10, k0_pay11, k0_pay12, k0_pay13, k0_pay14, k0_pay15, k0_pay16, k0_pay18, k0_pay19, k0_pay20, k0_pay21, k0_pay30, k0_pay31, k0_pay40, k0_pay41, k0_pay51, k0_pay60, k0_pay67, k0_pay68, k0_pay69, k0_pay70, k0_pay71, k0_pay78, k0_pay79, k0_pay80, k0_pay81, k0_pay82, k0_pay89, k0_pay90, k0_pay91, k0_pay92, k0_pay93, k0_pay102, k0_pay103, k0_pay104, k0_pay105, k0_pay106, k0_pay113, k0_pay114, k0_pay115, k0_pay116, k0_pay117, k0_pay118, k0_pay125, k0_pay126, k0_pay127, k0_pay128, k0_pay129, k0_pay130, k0_pay136, k0_pay137, k0_pay138, k0_pay139, k0_pay140, k0_pay147, k0_pay148, k0_pay149, k0_pay150, k0_pay157, k0_pay158, k0_pay159, k0_pay160, k0_pay166, k0_pay167, k0_pay168, k0_pay174, k0_pay175, k0_pay176, k0_pay177, k0_pay184, k0_pay185, k0_pay186, k0_pay187, k0_pay198, k0_pay199, k0_pay200, k0_pay211, k0_pay212, k0_pay220, k0_pay221, k0_pay229, k0_pay230, k0_pay239, k0_pay240, k0_pay249, k0_pay250, k0_pay260, k0_pay269, k0_pay276, k0_pay277, k0_pay278, k0_pay279, k0_pay280, k0_pay287, k0_pay288, k0_pay289, k0_pay290, k0_pay291, k0_pay298, k0_pay299, k0_pay300, k0_pay301, k0_pay302, k0_pay311, k0_pay312, k0_pay313, k0_pay314, k0_pay315, k0_pay322, k0_pay323, k0_pay324, k0_pay325, k0_pay326, k0_pay327, k0_pay334, k0_pay335, k0_pay336, k0_pay337, k0_pay338, k0_pay339, k0_pay345, k0_pay346, k0_pay347, k0_pay348, k0_pay349]
      rfl
  · iterate 15 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl
  · iterate 31 refine .top ?_ (pieceDV m c t _ _ (by decide) (by decide) (by decide) (by decide) (by decide) _ (fun a b => ?_))
    refine .top (.done _ _ (View.cover_of_tiledBy _ ![128, 128] (by sl_kernel_rfl))) (pieceDV m c t _ _ (by decide) (by decide) (by decide) (by decide) (by decide) _ (fun a b => ?_))
    all_goals
      pointwise [k0_pay18, k0_pay20, k0_pay22, k0_pay30, k0_pay32, k0_pay40, k0_pay42, k0_pay52, k0_pay61, k0_pay63, k0_pay66, k0_pay67, k0_pay68, k0_pay72, k0_pay74, k0_pay77, k0_pay78, k0_pay79, k0_pay83, k0_pay85, k0_pay88, k0_pay89, k0_pay90, k0_pay94, k0_pay96, k0_pay101, k0_pay102, k0_pay103, k0_pay107, k0_pay109, k0_pay112, k0_pay113, k0_pay114, k0_pay119, k0_pay121, k0_pay124, k0_pay125, k0_pay126, k0_pay131, k0_pay133, k0_pay135, k0_pay136, k0_pay137, k0_pay141, k0_pay143, k0_pay145, k0_pay146, k0_pay147, k0_pay148, k0_pay151, k0_pay153, k0_pay155, k0_pay156, k0_pay157, k0_pay158, k0_pay161, k0_pay163, k0_pay165, k0_pay166, k0_pay167, k0_pay169, k0_pay171, k0_pay173, k0_pay174, k0_pay175, k0_pay176, k0_pay178, k0_pay179, k0_pay181, k0_pay183, k0_pay184, k0_pay185, k0_pay186, k0_pay188, k0_pay189, k0_pay198, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay275, k0_pay276, k0_pay277, k0_pay281, k0_pay283, k0_pay286, k0_pay287, k0_pay288, k0_pay292, k0_pay294, k0_pay297, k0_pay298, k0_pay299, k0_pay303, k0_pay305, k0_pay310, k0_pay311, k0_pay312, k0_pay316, k0_pay318, k0_pay321, k0_pay322, k0_pay323, k0_pay328, k0_pay330, k0_pay333, k0_pay334, k0_pay335, k0_pay340, k0_pay342, k0_pay344, k0_pay345, k0_pay346, k0_pay350, k0_pay352, k0_pay354, k0_pay355]
      rfl

theorem wo (t : Fin cfg0.N) (Z : Vec Ideal S1024x1024 .f32) (j l : Fin 1024) : k0_pay7 Z (iblk m c 1 t) (iblk m c 3 t) (ix2 j l) = G11 m c t Z (ix2 j l) := by
  have h : ∀ p : Fin 512, mx m c (row t p) j * A7 m c (ix2 (row t p) l) = (HMul.hMul : EReal → EReal → EReal) (iblk m c 1 t (ix2 p j)) (iblk m c 3 t (ix2 p l)) := fun p => by rw [blk1, blk3]
  have e : G11 m c t Z (ix2 j l) = (Z (ix2 j l) : EReal) + ∑ p : Fin 512, mx m c (row t p) j * A7 m c (ix2 (row t p) l) := rfl
  rw [e]
  simp only [h]
  pointwise [k0_pay7]

theorem t11A (t : Fin cfg0.N) (h0 : t.val % 8 = 0) : (outsAt0 m c t.val t.isLt).2.2.1 = G11 m c t (k0_pay3 (F := Ideal)) := by
  rw [outsAt0_A m c t h0]
  frame_out
  funext y
  idx_vars y
  exact wo m c t _ y0 y1

theorem t11B (t : Fin cfg0.N) (h0 : ¬t.val % 8 = 0) : (outsAt0 m c t.val t.isLt).2.2.1 = G11 m c t (outsAt0 m c (t.val - 1) (by omega)).2.2.1 := by
  rw [outsAt0_B m c t h0]
  frame_out
  funext y
  idx_vars y
  exact wo m c t _ y0 y1

end Cert.SguGradIdeal.Arr
-- ==== Proof.SguGrad.Points13.lean ====
module

public import proofs.«01_k».proof.Proof.SguGrad.Stage
public import proofs.«01_k».proof.Proof.SguGrad.Pieces

@[expose] public section

set_option maxRecDepth 16384

/-! # What a grid point adds to the spatial weights' cotangent -/

noncomputable section

namespace Cert.SguGradIdeal.Arr

open Cert.SguGradIdeal Cert.SguGradIdeal.Gen Idealize.ShloMosaic Idealize.ShloMosaic.TcCoe Idealize.SL.Sem

variable (m : (ℓ : Loc nD τ sig) → Buf (Elt Ideal) ℓ) (c : Dev nD)

theorem piece13 (t : Fin cfg0.N) (Z : Vec Ideal S8x128x128 .f32) (h : ℕ) (hh : h < 8) (inb : ∀ a, ![h, 0, 0] a + ![1, 128, 128] a ≤ S8x128x128.size a) (w : Vec Ideal S1x128x128 .f32)
    (hw : ∀ a s : Fin 128, w (ix3 0 a s) = (Z (ix3 ⟨h, hh⟩ a s) : EReal) + tw m c t h 0 hh (by decide) a s + tw m c t h 128 hh (by decide) a s + tw m c t h 256 hh (by decide) a s
      + tw m c t h 384 hh (by decide) a s) :
    ∀ x, w x = G13 m c t Z ((Rect.unit (s := S8x128x128) ![h, 0, 0] ![1, 128, 128] inb).emb x) := by
  intro x
  have e : (Rect.unit (s := S8x128x128) ![h, 0, 0] ![1, 128, 128] inb).emb x = ix3 ⟨h, hh⟩ (x 1) (x 2) := by
    idx_vars x
    blk_ext [Step.emb_unit]
  rw [e]
  idx_vars x
  obtain rfl : x0 = 0 := Subsingleton.elim _ _
  refine (hw _ _).trans ?_
  simp only [tw_eq, G13, Fin.sum_univ_four]
  simp only [← add_assoc]
  rfl

theorem t13B (t : Fin cfg0.N) (h0 : ¬t.val % 8 = 0) : (outsAt0 m c t.val t.isLt).2.2.2.2.1 = G13 m c t (outsAt0 m c (t.val - 1) (by omega)).2.2.2.2.1 := by
  rw [outsAt0_B m c t h0]
  frame_open
  simp (disch := decide) only [↓ View.readCov_skip, ↓ View.readCov_cons_toLoadRect, ↓ View.readCov_fill]
  frame_out
  funext y
  refine Step.Top.canon ?_ y
  iterate 7 refine .top (.under (.under (.under ?_ rfl) rfl) rfl) (piece13 m c t _ _ (by decide) (by decide) _ (fun a b => ?_))
  refine .top (.done _ _ (View.cover_of_tiledBy _ ![1, 128, 128] (by sl_kernel_rfl))) (piece13 m c t _ _ (by decide) (by decide) _ (fun a b => ?_))
  all_goals
    pointwise [k0_pay9, k0_pay10, k0_pay11, k0_pay12, k0_pay13, k0_pay14, k0_pay15, k0_pay16, k0_pay17, k0_pay20, k0_pay22, k0_pay30, k0_pay32, k0_pay40, k0_pay42, k0_pay52, k0_pay61, k0_pay63, k0_pay64, k0_pay65, k0_pay68, k0_pay72, k0_pay74, k0_pay75, k0_pay76, k0_pay79, k0_pay83, k0_pay85, k0_pay86, k0_pay87, k0_pay90, k0_pay94, k0_pay96, k0_pay97, k0_pay98, k0_pay99, k0_pay100, k0_pay103, k0_pay107, k0_pay109, k0_pay110, k0_pay111, k0_pay114, k0_pay119, k0_pay121, k0_pay122, k0_pay123, k0_pay126, k0_pay131, k0_pay133, k0_pay134, k0_pay137, k0_pay141, k0_pay143, k0_pay144, k0_pay148, k0_pay151, k0_pay153, k0_pay154, k0_pay158, k0_pay161, k0_pay163, k0_pay164, k0_pay167, k0_pay169, k0_pay171, k0_pay172, k0_pay176, k0_pay178, k0_pay179, k0_pay181, k0_pay182, k0_pay186, k0_pay188, k0_pay189, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay273, k0_pay274, k0_pay277, k0_pay281, k0_pay283, k0_pay284, k0_pay285, k0_pay288, k0_pay292, k0_pay294, k0_pay295, k0_pay296, k0_pay299, k0_pay303, k0_pay305, k0_pay306, k0_pay307, k0_pay308, k0_pay309, k0_pay312, k0_pay316, k0_pay318, k0_pay319, k0_pay320, k0_pay323, k0_pay328, k0_pay330, k0_pay331, k0_pay332, k0_pay335, k0_pay340, k0_pay342, k0_pay343, k0_pay346, k0_pay350, k0_pay352, k0_pay353]
    rfl

theorem t13A (t : Fin cfg0.N) (h0 : t.val % 8 = 0) : (outsAt0 m c t.val t.isLt).2.2.2.2.1 = G13 m c t (k0_pay5 (F := Ideal)) := by
  rw [outsAt0_A m c t h0]
  frame_open
  simp (disch := decide) only [↓ View.readCov_skip, ↓ View.readCov_cons_toLoadRect, ↓ View.readCov_fill]
  frame_out
  funext y
  refine Step.Top.canon ?_ y
  iterate 7 refine .top (.under (.under (.under ?_ rfl) rfl) rfl) (piece13 m c t _ _ (by decide) (by decide) _ (fun a b => ?_))
  refine .top (.done _ _ (View.cover_of_tiledBy _ ![1, 128, 128] (by sl_kernel_rfl))) (piece13 m c t _ _ (by decide) (by decide) _ (fun a b => ?_))
  all_goals
    pointwise [k0_pay9, k0_pay10, k0_pay11, k0_pay12, k0_pay13, k0_pay14, k0_pay15, k0_pay16, k0_pay17, k0_pay20, k0_pay22, k0_pay30, k0_pay32, k0_pay40, k0_pay42, k0_pay52, k0_pay61, k0_pay63, k0_pay64, k0_pay65, k0_pay68, k0_pay72, k0_pay74, k0_pay75, k0_pay76, k0_pay79, k0_pay83, k0_pay85, k0_pay86, k0_pay87, k0_pay90, k0_pay94, k0_pay96, k0_pay97, k0_pay98, k0_pay99, k0_pay100, k0_pay103, k0_pay107, k0_pay109, k0_pay110, k0_pay111, k0_pay114, k0_pay119, k0_pay121, k0_pay122, k0_pay123, k0_pay126, k0_pay131, k0_pay133, k0_pay134, k0_pay137, k0_pay141, k0_pay143, k0_pay144, k0_pay148, k0_pay151, k0_pay153, k0_pay154, k0_pay158, k0_pay161, k0_pay163, k0_pay164, k0_pay167, k0_pay169, k0_pay171, k0_pay172, k0_pay176, k0_pay178, k0_pay179, k0_pay181, k0_pay182, k0_pay186, k0_pay188, k0_pay189, k0_pay199, k0_pay201, k0_pay202, k0_pay203, k0_pay211, k0_pay213, k0_pay220, k0_pay222, k0_pay229, k0_pay231, k0_pay239, k0_pay241, k0_pay249, k0_pay251, k0_pay261, k0_pay270, k0_pay272, k0_pay273, k0_pay274, k0_pay277, k0_pay281, k0_pay283, k0_pay284, k0_pay285, k0_pay288, k0_pay292, k0_pay294, k0_pay295, k0_pay296, k0_pay299, k0_pay303, k0_pay305, k0_pay306, k0_pay307, k0_pay308, k0_pay309, k0_pay312, k0_pay316, k0_pay318, k0_pay319, k0_pay320, k0_pay323, k0_pay328, k0_pay330, k0_pay331, k0_pay332, k0_pay335, k0_pay340, k0_pay342, k0_pay343, k0_pay346, k0_pay350, k0_pay352, k0_pay353]
    rfl

end Cert.SguGradIdeal.Arr
-- ==== Proof.SguGrad.Points14.lean ====
module

public import proofs.«01_k».proof.Proof.SguGrad.Stage
public import proofs.«01_k».proof.Proof.SguGrad.Pieces

@[expose] public section

set_option maxRecDepth 16384

/-! # What a grid point adds to the spatial weights' and biases' cotangents -/

noncomputable section

namespace Cert.SguGradIdeal.Arr

open Cert.SguGradIdeal Cert.SguGradIdeal.Gen Idealize.ShloMosaic Idealize.ShloMosaic.TcCoe Idealize.SL.Sem

variable (m : (ℓ : Loc nD τ sig) → Buf (Elt Ideal) ℓ) (c : Dev nD)

theorem piece14 (t : Fin cfg0.N) (Z : Vec Ideal S8x128x1 .f32) (h : ℕ) (hh : h < 8) (inb : ∀ a, ![h, 0, 0] a + ![1, 128, 1] a ≤ S8x128x1.size a) (w : Vec Ideal S1x128x1 .f32)
    (hw : ∀ a : Fin 128, w (ix3 0 a 0) = (Z (ix3 ⟨h, hh⟩ a 0) : EReal) + tb m c t h 0 hh (by decide) a + tb m c t h 128 hh (by decide) a + tb m c t h 256 hh (by decide) a + tb m c t h 384 hh (by decide) a) :
    ∀ x, w x = G14 m c t Z ((Rect.unit (s := S8x128x1) ![h, 0, 0] ![1, 128, 1] inb).emb x) := by
  intro x
  have e : (Rect.unit (s := S8x128x1) ![h, 0, 0] ![1, 128, 1] inb).emb x = ix3 ⟨h, hh⟩ (x 1) 0 := by
    idx_vars x
    blk_ext [Step.emb_unit]
  rw [e]
  idx_vars x
  obtain rfl : x0 = 0 := Subsingleton.elim _ _
  obtain rfl : x2 = 0 := Subsingleton.elim _ _
  refine (hw _).trans ?_
  simp only [tb_eq, G14, Fin.sum_univ_four]
  simp only [← add_assoc]
  rfl

theorem t14B (t : Fin cfg0.N) (h0 : ¬t.val % 8 = 0) : (outsAt0 m c t.val t.isLt).2.2.2.2.2 = G14 m c t (outsAt0 m c (t.val - 1) (by omega)).2.2.2.2.2 := by
  rw [outsAt0_B m c t h0]
  frame_open
  simp (disch := decide) only [↓ View.readCov_skip, ↓ View.readCov_cons_toLoadRect, ↓ View.readCov_fill]
  frame_out
  funext y
  refine Step.Top.canon ?_ y
  iterate 7 refine .top (.under (.under (.under ?_ rfl) rfl) rfl) (piece14 m c t _ _ (by decide) (by decide) _ (fun a => ?_))
  refine .top (.done _ _ (View.cover_of_tiledBy _ ![1, 128, 1] (by sl_kernel_rfl))) (piece14 m c t _ _ (by decide) (by decide) _ (fun a => ?_))
  all_goals
    pointwise [k0_pay20, k0_pay22, k0_pay23, k0_pay30, k0_pay32, k0_pay33, k0_pay40, k0_pay42, k0_pay43, k0_pay52, k0_pay53, k0_pay61, k0_pay62, k0_pay68, k0_pay72, k0_pay73, k0_pay79, k0_pay83, k0_pay84, k0_pay90, k0_pay94, k0_pay95, k0_pay103, k0_pay107, k0_pay108, k0_pay114, k0_pay119, k0_pay120, k0_pay126, k0_pay131, k0_pay132, k0_pay137, k0_pay141, k0_pay142, k0_pay148, k0_pay151, k0_pay152, k0_pay158, k0_pay161, k0_pay162, k0_pay167, k0_pay169, k0_pay170, k0_pay176, k0_pay178, k0_pay179, k0_pay180, k0_pay186, k0_pay188, k0_pay189, k0_pay199, k0_pay201, k0_pay202, k0_pay203, k0_pay211, k0_pay213, k0_pay220, k0_pay222, k0_pay229, k0_pay231, k0_pay232, k0_pay239, k0_pay241, k0_pay242, k0_pay249, k0_pay251, k0_pay252, k0_pay261, k0_pay262, k0_pay270, k0_pay271, k0_pay277, k0_pay281, k0_pay282, k0_pay288, k0_pay292, k0_pay293, k0_pay299, k0_pay303, k0_pay304, k0_pay312, k0_pay316, k0_pay317, k0_pay323, k0_pay328, k0_pay329, k0_pay335, k0_pay340, k0_pay341, k0_pay346, k0_pay350, k0_pay351]
    rfl

theorem t14A (t : Fin cfg0.N) (h0 : t.val % 8 = 0) : (outsAt0 m c t.val t.isLt).2.2.2.2.2 = G14 m c t (k0_pay6 (F := Ideal)) := by
  rw [outsAt0_A m c t h0]
  frame_open
  simp (disch := decide) only [↓ View.readCov_skip, ↓ View.readCov_cons_toLoadRect, ↓ View.readCov_fill]
  frame_out
  funext y
  refine Step.Top.canon ?_ y
  iterate 7 refine .top (.under (.under (.under ?_ rfl) rfl) rfl) (piece14 m c t _ _ (by decide) (by decide) _ (fun a => ?_))
  refine .top (.done _ _ (View.cover_of_tiledBy _ ![1, 128, 1] (by sl_kernel_rfl))) (piece14 m c t _ _ (by decide) (by decide) _ (fun a => ?_))
  all_goals
    pointwise [k0_pay20, k0_pay22, k0_pay23, k0_pay30, k0_pay32, k0_pay33, k0_pay40, k0_pay42, k0_pay43, k0_pay52, k0_pay53, k0_pay61, k0_pay62, k0_pay68, k0_pay72, k0_pay73, k0_pay79, k0_pay83, k0_pay84, k0_pay90, k0_pay94, k0_pay95, k0_pay103, k0_pay107, k0_pay108, k0_pay114, k0_pay119, k0_pay120, k0_pay126, k0_pay131, k0_pay132, k0_pay137, k0_pay141, k0_pay142, k0_pay148, k0_pay151, k0_pay152, k0_pay158, k0_pay161, k0_pay162, k0_pay167, k0_pay169, k0_pay170, k0_pay176, k0_pay178, k0_pay179, k0_pay180, k0_pay186, k0_pay188, k0_pay189, k0_pay199, k0_pay201, k0_pay202, k0_pay203, k0_pay211, k0_pay213, k0_pay220, k0_pay222, k0_pay229, k0_pay231, k0_pay232, k0_pay239, k0_pay241, k0_pay242, k0_pay249, k0_pay251, k0_pay252, k0_pay261, k0_pay262, k0_pay270, k0_pay271, k0_pay277, k0_pay281, k0_pay282, k0_pay288, k0_pay292, k0_pay293, k0_pay299, k0_pay303, k0_pay304, k0_pay312, k0_pay316, k0_pay317, k0_pay323, k0_pay328, k0_pay329, k0_pay335, k0_pay340, k0_pay341, k0_pay346, k0_pay350, k0_pay351]
    rfl

end Cert.SguGradIdeal.Arr
-- ==== Proof.SguGrad.Array.lean ====
module

public import proofs.«01_k».proof.Proof.SguGrad.Points10
public import proofs.«01_k».proof.Proof.SguGrad.Points13
public import proofs.«01_k».proof.Proof.SguGrad.Points14

@[expose] public section

set_option maxRecDepth 16384

/-! # What the output arrays hold (the spatial gating's gradient) -/

noncomputable section

namespace Cert.SguGradIdeal.Arr

open Cert.SguGradIdeal Cert.SguGradIdeal.Gen Idealize.ShloMosaic Idealize.ShloMosaic.TcCoe Idealize.SL.Sem

variable (m : (ℓ : Loc nD τ sig) → Buf (Elt Ideal) ℓ) (c : Dev nD)

/-- Row `a` of chunk `N`. -/
def rc (N : Fin 32) (a : Fin 128) : Fin 4096 := ⟨N.val * 128 + a.val, by omega⟩

/-- Column `x` of head `h`. -/
def cl (h : Fin 8) (x : Fin 128) : Fin 1024 := ⟨h.val * 128 + x.val, by omega⟩

/-- Column `l` of block `k`. -/
def cq (k : Fin 4) (l : Fin 512) : Fin 2048 := ⟨k.val * 512 + l.val, by omega⟩

/-- One row's share of the gradients of the input weights, -/
def T10 (k : Fin 4) (x : Fin 1024) (l : Fin 512) (r : Fin 4096) : EReal := xn m c r x * dp m c r (cq k l)
/-- of the output weights, -/
def T11 (j l : Fin 1024) (r : Fin 4096) : EReal := mx m c r j * A7 m c (ix2 r l)
/-- and of the scale. -/
def T12 (j : Fin 1024) (r : Fin 4096) : EReal := dvn m c r j * vh m c r j
/-- One chunk's share of the gradients of the spatial weights -/
def T13 (h : Fin 8) (a s : Fin 128) (N : Fin 32) : EReal := tri a s (∑ x, dgt m c (rc N a) (cl h x) * vn m c (rc N s) (cl h x))
/-- and of their biases. -/
def T14 (h : Fin 8) (a : Fin 128) (N : Fin 32) : EReal := ∑ x, dgt m c (rc N a) (cl h x)

/-- Four chunks of a tile, and eight tiles. -/
def ch (t : Fin cfg0.N) (n : Fin 4) : Fin 32 := ⟨t.val * 4 + n.val, by have h : t.val < 8 := t.isLt; omega⟩

theorem rc_ch (t : Fin cfg0.N) (n : Fin 4) (a : Fin 128) (h : n.val * 128 + a.val < 512) : row t (⟨n.val * 128 + a.val, h⟩ : Fin 512) = rc (ch t n) a := Fin.ext (by simp only [row, rc, ch]; omega)

theorem G13_eq (t : Fin cfg0.N) (Z : Vec Ideal S8x128x128 .f32) (j : S8x128x128.Idx) : G13 m c t Z j = (Z j : EReal) + ∑ n, T13 m c (j 0) (j 1) (j 2) (ch t n) := by
  unfold G13 T13 cl
  refine congrArg (Z j + ·) (Finset.sum_congr rfl fun n _ => congrArg (tri (j 1) (j 2)) (Finset.sum_congr rfl fun x _ => ?_))
  rw [rc_ch t n (j 1), rc_ch t n (j 2)]

theorem G14_eq (t : Fin cfg0.N) (Z : Vec Ideal S8x128x1 .f32) (j : S8x128x1.Idx) : G14 m c t Z j = (Z j : EReal) + ∑ n, T14 m c (j 0) (j 1) (ch t n) := by
  unfold G14 T14 cl
  refine congrArg (Z j + ·) (Finset.sum_congr rfl fun n _ => Finset.sum_congr rfl fun x _ => ?_)
  rw [rc_ch t n (j 1)]

theorem idx9 (t : Fin cfg0.N) : win0_9.index t = ![0, t.val, 0] := (idx t).2.2.2.2.2.2.2.2.2.1

set_option maxHeartbeats 1600000 in
theorem arr9 : (dats m 0 c).arrAt 9 cfg0.N = fun i => dp m c (i 1) (cq (i 0) (i 2)) := by
  refine (dats m 0 c).arrAt_eq_of_covers 9 _ (by decide +kernel) fun t hf y => ?_
  blk_simp
  rw [after0_9]
  have e : (outsAt0 m c t.val t.isLt).1 = G9 m c t := by
    by_cases h0 : t.val % 8 = 0
    · exact t9A m c t h0
    · exact t9B m c t h0
  rw [e]
  idx_vars y
  have e0 : (((View.whole main_v79_0).slice (win0_9.rect t)).emb (ix3 y0 y1 y2)) = ix3 y0 (row t y1) y2 := by
    unfold row
    blk_ext [idx9 t]
  rw [e0]
  rfl

set_option maxHeartbeats 1600000 in
theorem arr10 : (dats m 0 c).arrAt 10 cfg0.N = fun j => ∑ r, T10 m c (j 0) (j 1) (j 2) r := by
  refine (dats m 0 c).arrAt_eq_of_after_last 10 t0_7 (by decide +kernel) _ fun j => ?_
  blk_simp
  rw [after0_10]
  refine (Pipeline.eq_sum_fin_of_reset_step_apply_last (fun n h => (outsAt0 m c n h).2.1) 8 (fun _ => (0 : EReal))
    (fun t j => ∑ p, T10 m c (j 0) (j 1) (j 2) (row t p)) (fun t h j => ?_) (fun t h j => ?_) (by decide) t0_7 rfl j).trans ?_
  · rw [t10A m c t h]
    refine congrArg (· + _) ?_
    unfold k0_pay2
    pointwise
  · exact congrFun (t10B m c t h) j
  · rw [zero_add]
    exact Fin.sum_mul_add_congr (S := 8) (n := 512) (f := fun r => T10 m c (j 0) (j 1) (j 2) r) fun s k _ => rfl

set_option maxHeartbeats 1600000 in
theorem arr11 : (dats m 0 c).arrAt 11 cfg0.N = fun j => ∑ r, T11 m c (j 0) (j 1) r := by
  refine (dats m 0 c).arrAt_eq_of_after_last 11 t0_7 (by decide +kernel) _ fun j => ?_
  blk_simp
  rw [after0_11]
  refine (Pipeline.eq_sum_fin_of_reset_step_apply_last (fun n h => (outsAt0 m c n h).2.2.1) 8 (fun _ => (0 : EReal))
    (fun t j => ∑ p, T11 m c (j 0) (j 1) (row t p)) (fun t h j => ?_) (fun t h j => ?_) (by decide) t0_7 rfl j).trans ?_
  · rw [t11A m c t h]
    refine congrArg (· + _) ?_
    unfold k0_pay3
    pointwise
  · exact congrFun (t11B m c t h) j
  · rw [zero_add]
    exact Fin.sum_mul_add_congr (S := 8) (n := 512) (f := fun r => T11 m c (j 0) (j 1) r) fun s k _ => rfl

set_option maxHeartbeats 1600000 in
theorem arr12 : (dats m 0 c).arrAt 12 cfg0.N = fun j => ∑ r, T12 m c (j 1) r := by
  refine (dats m 0 c).arrAt_eq_of_after_last 12 t0_7 (by decide +kernel) _ fun j => ?_
  blk_simp
  rw [after0_12]
  refine (Pipeline.eq_sum_fin_of_reset_step_apply_last (fun n h => (outsAt0 m c n h).2.2.2.1) 8 (fun _ => (0 : EReal))
    (fun t j => ∑ p, T12 m c (j 1) (row t p)) (fun t h j => ?_) (fun t h j => ?_) (by decide) t0_7 rfl j).trans ?_
  · rw [t12A m c t h]
    refine congrArg (· + _) ?_
    unfold k0_pay4
    pointwise
  · exact congrFun (t12B m c t h) j
  · rw [zero_add]
    exact Fin.sum_mul_add_congr (S := 8) (n := 512) (f := fun r => T12 m c (j 1) r) fun s k _ => rfl

set_option maxHeartbeats 1600000 in
theorem arr13 : (dats m 0 c).arrAt 13 cfg0.N = fun j => ∑ r, T13 m c (j 0) (j 1) (j 2) r := by
  refine (dats m 0 c).arrAt_eq_of_after_last 13 t0_7 (by decide +kernel) _ fun j => ?_
  blk_simp
  rw [after0_13]
  refine (Pipeline.eq_sum_fin_of_reset_step_apply_last (fun n h => (outsAt0 m c n h).2.2.2.2.1) 8 (fun _ => (0 : EReal))
    (fun t j => ∑ p, T13 m c (j 0) (j 1) (j 2) (ch t p)) (fun t h j => ?_) (fun t h j => ?_) (by decide) t0_7 rfl j).trans ?_
  · rw [t13A m c t h, G13_eq]
    refine congrArg (· + _) ?_
    unfold k0_pay5
    pointwise
  · exact (congrFun (t13B m c t h) j).trans (G13_eq m c t _ j)
  · rw [zero_add]
    exact Fin.sum_mul_add_congr (S := 8) (n := 4) (f := fun r => T13 m c (j 0) (j 1) (j 2) r) fun s k _ => rfl

set_option maxHeartbeats 1600000 in
theorem arr14 : (dats m 0 c).arrAt 14 cfg0.N = fun j => ∑ r, T14 m c (j 0) (j 1) r := by
  refine (dats m 0 c).arrAt_eq_of_after_last 14 t0_7 (by decide +kernel) _ fun j => ?_
  blk_simp
  rw [after0_14]
  refine (Pipeline.eq_sum_fin_of_reset_step_apply_last (fun n h => (outsAt0 m c n h).2.2.2.2.2) 8 (fun _ => (0 : EReal))
    (fun t j => ∑ p, T14 m c (j 0) (j 1) (ch t p)) (fun t h j => ?_) (fun t h j => ?_) (by decide) t0_7 rfl j).trans ?_
  · rw [t14A m c t h, G14_eq]
    refine congrArg (· + _) ?_
    unfold k0_pay6
    pointwise
  · exact (congrFun (t14B m c t h) j).trans (G14_eq m c t _ j)
  · rw [zero_add]
    exact Fin.sum_mul_add_congr (S := 8) (n := 4) (f := fun r => T14 m c (j 0) (j 1) r) fun s k _ => rfl

end Cert.SguGradIdeal.Arr

end

end
-- ==== Proof.SguGrad.Ref.lean ====
module

public import proofs.«01_k».proof.Proof.Gen.SguGradRefIdeal.Read
public import proofs.«01_k».proof.Proof.HostReads

@[expose] public section

set_option maxRecDepth 16384

/-! # What the reference computes, entry by entry (the spatial gating's gradient) -/

noncomputable section

namespace Cert.SguGradRefIdeal.Read

open Cert.SguGradRefIdeal Idealize.ShloMosaic Idealize.ShloMosaic.TcCoe Idealize.SL.Sem

section Defs

variable (x0 : Vec Ideal S4096x1024 .f32) (x1 : Vec Ideal S1024 .f32) (x2 : Vec Ideal S1024x2048 .f32) (x3 : Vec Ideal S1024 .f32)
  (x4 : Vec Ideal S8x128x128 .f32) (x5 : Vec Ideal S8x128 .f32) (x6 : Vec Ideal S1024x1024 .f32) (x7 : Vec Ideal S4096x1024 .f32)

/-- The root of one half, and GELU by it. -/
def r2 : EReal := Ideal.sqrt (Ideal.ofBits .f32 0x3F000000#32)
@[inherit_doc r2] def G (x : EReal) : EReal := Ideal.ofBits .f32 0x3F000000#32 * x * Ideal.erfc (-x * r2)

/-- The factor of the bell in GELU's derivative: the float word of `2/√π`, halved, over the root of two. -/
def kap : ℝ := 9465531 / 16777216 * (Real.sqrt 2)⁻¹

/-- GELU's derivative. -/
def G1 (x : EReal) : EReal :=
  Ideal.ofBits .f32 0x3F000000#32 * (1 + Ideal.erf (x * (((Real.sqrt 2)⁻¹ : ℝ) : EReal))) + x * Ideal.exp (Ideal.ofBits .f32 0xBF000000#32 * x * x) * (kap : EReal)

/-- The normalised input. -/
def xn (r : Fin 4096) (l : Fin 1024) : EReal := x0 (ix2 r l) * Step.rs (fun y => x0 (ix2 r y)) * x1 (ix1 l)

/-- Its projection on a column; the first and the second half of the columns. -/
def pj (r : Fin 4096) (q : Fin 2048) : EReal := ∑ x, xn x0 x1 r x * x2 (ix2 x q)
@[inherit_doc pj] def pu (r : Fin 4096) (j : Fin 1024) : EReal := pj x0 x1 x2 r ⟨j.val, by omega⟩
@[inherit_doc pj] def pv (r : Fin 4096) (j : Fin 1024) : EReal := pj x0 x1 x2 r ⟨1024 + j.val, by omega⟩

/-- The norm of the second half's GELU, and what it scales. -/
def rv (r : Fin 4096) : EReal := Step.rs (fun j => G (pv x0 x1 x2 r j))
@[inherit_doc rv] def vn (r : Fin 4096) (j : Fin 1024) : EReal := G (pv x0 x1 x2 r j) * rv x0 x1 x2 r * x3 (ix1 j)

/-- `v` where column `s` is not past row `a`. -/
def tri (a s : Fin 128) (v : EReal) : EReal := Scalar.select (IntOp.cmpi .sge (BitVec.ofNat 32 a.val) (BitVec.ofNat 32 s.val)) v 0

/-- Row `s` of the chunk that holds row `r`; the place of a row in its chunk and the head of a column. -/
def cr (r : Fin 4096) (s : Fin 128) : Fin 4096 := ⟨r.val / 128 * 128 + s.val, by omega⟩
@[inherit_doc cr] def ri (r : Fin 4096) : Fin 128 := ⟨r.val % 128, by omega⟩
@[inherit_doc cr] def hd (j : Fin 1024) : Fin 8 := ⟨j.val / 128, by omega⟩

/-- The gate of a row, and the gated first half. -/
def gate (r : Fin 4096) (j : Fin 1024) : EReal := (∑ s, tri (ri r) s (x4 (ix3 (hd j) (ri r) s) * vn x0 x1 x2 x3 (cr r s) j)) + x5 (ix2 (hd j) (ri r))
@[inherit_doc gate] def mix (r : Fin 4096) (j : Fin 1024) : EReal := G (pu x0 x1 x2 r j) * gate x0 x1 x2 x3 x4 x5 r j

/-- The cotangent of the gated half, of the gate, of the scaled second half. -/
def dm (r : Fin 4096) (j : Fin 1024) : EReal := ∑ x, x7 (ix2 r x) * x6 (ix2 j x)
@[inherit_doc dm] def dgt (r : Fin 4096) (j : Fin 1024) : EReal := dm x6 x7 r j * G (pu x0 x1 x2 r j)
@[inherit_doc dm] def dvn (r : Fin 4096) (j : Fin 1024) : EReal := ∑ x, tri x (ri r) (x4 (ix3 (hd j) x (ri r)) * dgt x0 x1 x2 x6 x7 (cr r x) j)

/-- The cotangent of the second half's GELU. -/
def dv (r : Fin 4096) (j : Fin 1024) : EReal :=
  Step.rowK 0 (fun y => G (pv x0 x1 x2 r y)) (fun y => x3 (ix1 y)) (fun y => dvn x0 x1 x2 x4 x6 x7 r y) j

/-- The cotangent of GELU's result, both halves, and of the projections. -/
def dg (r : Fin 4096) (q : Fin 2048) : EReal :=
  if h : q.val < 1024 then dm x6 x7 r ⟨q.val, h⟩ * gate x0 x1 x2 x3 x4 x5 r ⟨q.val, h⟩ else dv x0 x1 x2 x3 x4 x6 x7 r ⟨q.val - 1024, by omega⟩
@[inherit_doc dg] def dp (r : Fin 4096) (q : Fin 2048) : EReal := dg x0 x1 x2 x3 x4 x5 x6 x7 r q * G1 (pj x0 x1 x2 r q)

end Defs

/-- A sum over the first and the last of four axes. -/
theorem reduce_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (z : EReal) (a : Fin n1) (b : Fin n2) :
    Ideal.hostReduceAdd h v z (ix2 a b) = z + ∑ N, ∑ x, v (ix4 N a b x) := by
  unfold Ideal.hostReduceAdd
  rw [← Fintype.sum_prod_type' (f := fun (N : Fin n0) (x : Fin n3) => v (ix4 N a b x))]
  congr 1
  refine (Finset.sum_bij' (fun (p : Fin n0 × Fin n3) _ => (ix4 p.1 a b p.2 : (⟨4, ![n0, n1, n2, n3]⟩ : Shape).Idx)) (fun i _ => ((i 0 : Fin n0), (i 3 : Fin n3))) ?_ ?_ ?_ ?_ ?_).symm
  · intro p _
    refine Finset.mem_filter.mpr ⟨Finset.mem_univ _, funext fun d => ?_⟩
    match d with
    | ⟨0, _⟩ => rfl
    | ⟨1, _⟩ => rfl
  · intro i _; exact Finset.mem_univ _
  · intro p _; rfl
  · intro i hi
    have e := (Finset.mem_filter.mp hi).2
    have e0 : (i 1 : Fin n1) = a := congrFun e 0
    have e1 : (i 2 : Fin n2) = b := congrFun e 1
    funext d
    match d with
    | ⟨0, _⟩ => rfl
    | ⟨1, _⟩ => exact e0.symm
    | ⟨2, _⟩ => exact e1.symm
    | ⟨3, _⟩ => rfl
  · intro p _; rfl

/-- A masked factor masks the product. -/
theorem tri_mul (a s : Fin 128) (u w : EReal) : u * tri a s w = tri a s (w * u) := by
  unfold tri Scalar.select
  split <;> simp [mul_comm]

/-- The words for one half, its negative and the negative of `2/√π`. -/
theorem ofBits_half : Ideal.ofBits .f32 0x3F000000#32 = ((1 / 2 : ℝ) : EReal) := by simp [Ideal.ofBits, Ideal.ieee, -EReal.coe_mul]; norm_num
@[inherit_doc ofBits_half] theorem ofBits_c : Ideal.ofBits .f32 0xBF906EBB#32 = ((-(9465531 / 8388608) : ℝ) : EReal) := by simp [Ideal.ofBits, Ideal.ieee, -EReal.coe_mul]; norm_num

theorem r2_eq : r2 = (((Real.sqrt 2)⁻¹ : ℝ) : EReal) := by
  unfold r2
  rw [ofBits_half]
  refine (if_neg (by norm_num) : (if (1 / 2 : ℝ) < 0 then (⊥ : EReal) else ((Real.sqrt (1 / 2) : ℝ) : EReal)) = _).trans ?_
  rw [one_div, Real.sqrt_inv]

theorem inv_sq : (Real.sqrt 2)⁻¹ * (Real.sqrt 2)⁻¹ = 1 / 2 := by
  rw [← mul_inv, Real.mul_self_sqrt (by norm_num)]; norm_num

/-- GELU by the error function. -/
theorem G_eq (x : EReal) : G x = Ideal.ofBits .f32 0x3F000000#32 * x * (1 + Ideal.erf (x * (((Real.sqrt 2)⁻¹ : ℝ) : EReal))) := by
  unfold G
  rw [r2_eq, EReal.neg_mul, Ideal.erfc_neg]

theorem erf_real {x : EReal} (h : Step.IsReal x) : Step.IsReal (Ideal.erf x) := by
  obtain ⟨a, rfl⟩ := h
  exact ⟨_, Ideal.erf_coe _⟩

/-- GELU's derivative times a cotangent, as differentiation of `½ x erfc (-x √½)` forms it. -/
theorem gelu_ct (p d : EReal) (hp : Step.IsReal p) (hd : Step.IsReal d) :
    -(Ideal.ofBits .f32 3213913787#32 * (Ideal.ofBits .f32 1056964608#32 * p * d) * Ideal.exp (-(-p * r2 * (-p * r2))) * r2)
      + Ideal.ofBits .f32 1056964608#32 * (d * Ideal.erfc (-p * r2)) = d * G1 p := by
  unfold G1 kap
  rw [r2_eq, EReal.neg_mul, Ideal.erfc_neg, ofBits_c, ofBits_half, Step.ofBits_neg_half]
  obtain ⟨E, hE⟩ := erf_real (hp.mul (Step.IsReal.coe (Real.sqrt 2)⁻¹))
  rw [hE]
  obtain ⟨p, rfl⟩ := hp
  obtain ⟨d, rfl⟩ := hd
  rw [← EReal.coe_one]
  simp only [← EReal.coe_mul, ← EReal.coe_neg, Ideal.exp_coe, ← EReal.coe_add]
  congr 1
  have e : -(-(p * (Real.sqrt 2)⁻¹) * -(p * (Real.sqrt 2)⁻¹)) = -(1 / 2) * p * p := by
    linear_combination -(p * p) * inv_sq
  rw [e]
  ring

theorem r12 (x0 : Vec Ideal S4096x1024 .f32) (x1 : Vec Ideal S1024 .f32) (r : Fin 4096) (l : Fin 1024) :
    val_main_v12 (F := Ideal) x0 x1 (ix2 r l) = xn x0 x1 r l := by
  pointwise [val_main_v12, val_main_v9, val_main_v8, val_main_v7, val_main_v6, val_main_v4, val_main_v2, val_main_v1, val_main_v0, val_main_cst, val_main_v3,
    val_main_cst_0, val_main_v5, val_main_cst_1, val_main_v11, val_main_v10]
  rfl

theorem r13 (x0 : Vec Ideal S4096x1024 .f32) (x1 : Vec Ideal S1024 .f32) (x2 : Vec Ideal S1024x2048 .f32) (r : Fin 4096) (q : Fin 2048) :
    val_main_v13 (F := Ideal) x0 x1 x2 (ix2 r q) = pj x0 x1 x2 r q := by
  pointwise [val_main_v13]
  simp only [r12]
  rfl

theorem r25 (x0 : Vec Ideal S4096x1024 .f32) (x1 : Vec Ideal S1024 .f32) (x2 : Vec Ideal S1024x2048 .f32) (r : Fin 4096) (q : Fin 2048) :
    val_main_v25 (F := Ideal) x0 x1 x2 (ix2 r q) = G (pj x0 x1 x2 r q) := by
  pointwise [val_main_v25, val_main_v15, val_main_v14, val_main_cst_2, val_main_v21, val_main_v20, val_main_v16, val_main_v19, val_main_v18, val_main_v17,
    val_main_cst_3]
  simp only [r13]
  rfl

theorem r35 (x0 : Vec Ideal S4096x1024 .f32) (x1 : Vec Ideal S1024 .f32) (x2 : Vec Ideal S1024x2048 .f32) (r : Fin 4096) :
    val_main_v35 (F := Ideal) x0 x1 x2 (ix2 r 0) = rv x0 x1 x2 r := by
  pointwise [val_main_v35, val_main_v34, val_main_v32, val_main_v30, val_main_v29, val_main_v28, val_main_v27, val_main_cst_4, val_main_v31, val_main_cst_5,
    val_main_v33, val_main_cst_6]
  simp only [r25]
  rfl

theorem r43 (x0 : Vec Ideal S4096x1024 .f32) (x1 : Vec Ideal S1024 .f32) (x2 : Vec Ideal S1024x2048 .f32) (x3 : Vec Ideal S1024 .f32) (r : Fin 4096) (j : Fin 1024) :
    val_main_v43 (F := Ideal) x0 x1 x2 x3 (ix2 r j) = vn x0 x1 x2 x3 r j := by
  pointwise [val_main_v43, val_main_v40, val_main_v27, val_main_v39, val_main_v42, val_main_v41]
  simp only [r25, r35]
  rfl

theorem r49 (x4 : Vec Ideal S8x128x128 .f32) (h : Fin 8) (a s : Fin 128) :
    val_main_v49 (F := Ideal) x4 (ix3 h a s) = tri a s (x4 (ix3 h a s)) := by
  pointwise [val_main_v49, val_main_v48, val_main_v47, val_main_v46, val_main_call0_v4, val_main_call0_v2, val_main_call0_v0, val_main_call0_v1, val_main_call0_c,
    val_main_call0_v3, val_main_v45, val_main_cst_8, val_main_call0_v5, val_main_call0_cst]
  unfold tri
  simp only [IntOp.addi, BitVec.add_zero]
  try rfl

theorem r56 (x0 : Vec Ideal S4096x1024 .f32) (x1 : Vec Ideal S1024 .f32) (x2 : Vec Ideal S1024x2048 .f32) (x3 : Vec Ideal S1024 .f32) (x4 : Vec Ideal S8x128x128 .f32) (x5 : Vec Ideal S8x128 .f32) (r : Fin 4096) (j : Fin 1024) :
    val_main_v56 (F := Ideal) x0 x1 x2 x3 x4 x5 (ix2 r j) = gate x0 x1 x2 x3 x4 x5 r j := by
  pointwise [val_main_v56, val_main_v55, val_main_v51, val_main_v50, val_main_v44, val_main_v54, val_main_v53, val_main_v52]
  simp only [r43, r49, tri_mul]
  rfl

theorem r57 (x0 : Vec Ideal S4096x1024 .f32) (x1 : Vec Ideal S1024 .f32) (x2 : Vec Ideal S1024x2048 .f32) (x3 : Vec Ideal S1024 .f32) (x4 : Vec Ideal S8x128x128 .f32) (x5 : Vec Ideal S8x128 .f32) (r : Fin 4096) (j : Fin 1024) :
    val_main_v57 (F := Ideal) x0 x1 x2 x3 x4 x5 (ix2 r j) = mix x0 x1 x2 x3 x4 x5 r j := by
  pointwise [val_main_v57, val_main_v26]
  simp only [r25, r56]
  rfl

theorem r60 (x0 : Vec Ideal S4096x1024 .f32) (x1 : Vec Ideal S1024 .f32) (x2 : Vec Ideal S1024x2048 .f32) (x3 : Vec Ideal S1024 .f32) (x4 : Vec Ideal S8x128x128 .f32) (x5 : Vec Ideal S8x128 .f32) (x7 : Vec Ideal S4096x1024 .f32) (j l : Fin 1024) :
    val_main_v60 (F := Ideal) x0 x1 x2 x3 x4 x5 x7 (ix2 j l) = ∑ r, mix x0 x1 x2 x3 x4 x5 r j * x7 (ix2 r l) := by
  pointwise [val_main_v60, val_main_v59]
  simp only [r57]
  exact Finset.sum_congr rfl fun r _ => mul_comm _ _

theorem r62 (x0 : Vec Ideal S4096x1024 .f32) (x1 : Vec Ideal S1024 .f32) (x2 : Vec Ideal S1024x2048 .f32) (x6 : Vec Ideal S1024x1024 .f32) (x7 : Vec Ideal S4096x1024 .f32) (r : Fin 4096) (j : Fin 1024) :
    val_main_v62 (F := Ideal) x0 x1 x2 x6 x7 (ix2 r j) = dgt x0 x1 x2 x6 x7 r j := by
  pointwise [val_main_v62, val_main_v26, val_main_v61]
  simp only [r25]
  exact mul_comm _ _

theorem r118 (x0 : Vec Ideal S4096x1024 .f32) (x1 : Vec Ideal S1024 .f32) (x2 : Vec Ideal S1024x2048 .f32) (x6 : Vec Ideal S1024x1024 .f32) (x7 : Vec Ideal S4096x1024 .f32) (h : Fin 8) (a : Fin 128) :
    val_main_v118 (F := Ideal) x0 x1 x2 x6 x7 (ix3 h a 0) = ∑ N : Fin 32, ∑ x : Fin 128, dgt x0 x1 x2 x6 x7 ⟨N.val * 128 + a.val, by omega⟩ ⟨h.val * 128 + x.val, by omega⟩ := by
  pointwise [val_main_v118, val_main_v68, val_main_v67, val_main_v66, val_main_v65, val_main_v64, val_main_cst_9, val_main_cst_10]
  rw [reduce_outer]
  pointwise
  simp only [Fin.sum_univ_one]
  rw [reduce_outer, zero_add]
  pointwise
  simp only [r62]

theorem r74 (x0 : Vec Ideal S4096x1024 .f32) (x1 : Vec Ideal S1024 .f32) (x2 : Vec Ideal S1024x2048 .f32) (x3 : Vec Ideal S1024 .f32) (x6 : Vec Ideal S1024x1024 .f32) (x7 : Vec Ideal S4096x1024 .f32) (h : Fin 8) (a s : Fin 128) :
    val_main_v74 (F := Ideal) x0 x1 x2 x3 x6 x7 (ix3 h a s) = tri a s (∑ N : Fin 32, ∑ x : Fin 128, dgt x0 x1 x2 x6 x7 ⟨N.val * 128 + a.val, by omega⟩ ⟨h.val * 128 + x.val, by omega⟩ * vn x0 x1 x2 x3 ⟨N.val * 128 + s.val, by omega⟩ ⟨h.val * 128 + x.val, by omega⟩) := by
  pointwise [val_main_v74, val_main_v70, val_main_v69, val_main_v64, val_main_v44, val_main_v73, val_main_v47, val_main_v46, val_main_call0_v4, val_main_call0_v2,
    val_main_call0_v0, val_main_call0_v1, val_main_call0_c, val_main_call0_v3, val_main_v45, val_main_cst_8, val_main_call0_v5, val_main_call0_cst]
  unfold tri
  simp only [r62, r43, IntOp.addi, BitVec.add_zero]

theorem r75 (x0 : Vec Ideal S4096x1024 .f32) (x1 : Vec Ideal S1024 .f32) (x2 : Vec Ideal S1024x2048 .f32) (x4 : Vec Ideal S8x128x128 .f32) (x6 : Vec Ideal S1024x1024 .f32) (x7 : Vec Ideal S4096x1024 .f32) (r : Fin 4096) (j : Fin 1024) :
    val_main_v75 (F := Ideal) x0 x1 x2 x4 x6 x7 (ix2 r j) = dvn x0 x1 x2 x4 x6 x7 r j := by
  pointwise [val_main_v75, val_main_v72, val_main_v71, val_main_v69, val_main_v64]
  simp only [r62, r49, tri_mul]
  rfl

theorem r117 (x0 : Vec Ideal S4096x1024 .f32) (x1 : Vec Ideal S1024 .f32) (x2 : Vec Ideal S1024x2048 .f32) (x4 : Vec Ideal S8x128x128 .f32) (x6 : Vec Ideal S1024x1024 .f32) (x7 : Vec Ideal S4096x1024 .f32) (j : Fin 1024) :
    val_main_v117 (F := Ideal) x0 x1 x2 x4 x6 x7 (ix2 0 j) = ∑ r, dvn x0 x1 x2 x4 x6 x7 r j * (G (pv x0 x1 x2 r j) * rv x0 x1 x2 r) := by
  pointwise [val_main_v117, val_main_v81, val_main_v78, val_main_v77, val_main_v76, val_main_v40, val_main_v27, val_main_v39, val_main_cst_11, val_main_cst_12]
  simp only [Fin.sum_univ_one, r25, r35, r75]
  exact Finset.sum_congr rfl fun r _ => mul_comm _ _

theorem r95 (x0 : Vec Ideal S4096x1024 .f32) (x1 : Vec Ideal S1024 .f32) (x2 : Vec Ideal S1024x2048 .f32) (x3 : Vec Ideal S1024 .f32) (x4 : Vec Ideal S8x128x128 .f32) (x6 : Vec Ideal S1024x1024 .f32) (x7 : Vec Ideal S4096x1024 .f32) (r : Fin 4096) (j : Fin 1024) :
    val_main_v95 (F := Ideal) x0 x1 x2 x3 x4 x6 x7 (ix2 r j) = dv x0 x1 x2 x3 x4 x6 x7 r j := by
  pointwise [val_main_v95, val_main_v93, val_main_v86, val_main_v80, val_main_v79, val_main_v41, val_main_v85, val_main_v92, val_main_v27, val_main_v91,
    val_main_v90, val_main_v89, val_main_v87, val_main_v84, val_main_v83, val_main_v82, val_main_cst_13, val_main_v38, val_main_v37, val_main_cst_7,
    val_main_v36, val_main_v34, val_main_v32, val_main_v30, val_main_v29, val_main_v28, val_main_cst_4, val_main_v31, val_main_cst_5, val_main_v33,
    val_main_cst_6, val_main_v88, val_main_cst_14, val_main_cst_15, val_main_v94]
  simp only [Fin.sum_univ_one, r75, r25]
  unfold dv
  rw [Step.row_eq]
  unfold Step.rowR Step.rowQ
  rw [r35, zero_add]
  rfl

theorem r98 (x0 : Vec Ideal S4096x1024 .f32) (x1 : Vec Ideal S1024 .f32) (x2 : Vec Ideal S1024x2048 .f32) (x3 : Vec Ideal S1024 .f32) (x4 : Vec Ideal S8x128x128 .f32) (x5 : Vec Ideal S8x128 .f32) (x6 : Vec Ideal S1024x1024 .f32) (x7 : Vec Ideal S4096x1024 .f32) (r : Fin 4096) (q : Fin 2048) :
    val_main_v98 (F := Ideal) x0 x1 x2 x3 x4 x5 x6 x7 (ix2 r q) = dg x0 x1 x2 x3 x4 x5 x6 x7 r q := by
  pointwise [val_main_v98, val_main_v96, val_main_cst_16, val_main_v97, val_main_v63, val_main_v61, val_main_cst_17]
  unfold dg
  by_cases hq : q.val < 1024
  · rw [dif_neg (by omega), dif_pos hq, dif_pos hq, zero_add, r56]
    rfl
  · rw [dif_pos ⟨by omega, by omega⟩, dif_neg hq, dif_neg hq, add_zero, r95]

theorem r109 (x0 : Vec Ideal S4096x1024 .f32) (x1 : Vec Ideal S1024 .f32) (x2 : Vec Ideal S1024x2048 .f32) (x3 : Vec Ideal S1024 .f32) (x4 : Vec Ideal S8x128x128 .f32) (x5 : Vec Ideal S8x128 .f32) (x6 : Vec Ideal S1024x1024 .f32) (x7 : Vec Ideal S4096x1024 .f32) (hp : ∀ r q, Step.IsReal (pj x0 x1 x2 r q)) (hd : ∀ r q, Step.IsReal (dg x0 x1 x2 x3 x4 x5 x6 x7 r q)) (r : Fin 4096) (q : Fin 2048) :
    val_main_v109 (F := Ideal) x0 x1 x2 x3 x4 x5 x6 x7 (ix2 r q) = dp x0 x1 x2 x3 x4 x5 x6 x7 r q := by
  pointwise [val_main_v109, val_main_v106, val_main_v105, val_main_v103, val_main_v102, val_main_v101, val_main_cst_18, val_main_v99, val_main_v15, val_main_v14,
    val_main_cst_2, val_main_v24, val_main_v23, val_main_v22, val_main_v20, val_main_v16, val_main_v19, val_main_v18, val_main_v17, val_main_cst_3,
    val_main_v104, val_main_v108, val_main_v107, val_main_cst_19, val_main_v100, val_main_v21]
  simp only [r98, r13]
  unfold dp
  exact gelu_ct _ _ (hp r q) (hd r q)

theorem r114 (x0 : Vec Ideal S4096x1024 .f32) (x1 : Vec Ideal S1024 .f32) (x2 : Vec Ideal S1024x2048 .f32) (x3 : Vec Ideal S1024 .f32) (x4 : Vec Ideal S8x128x128 .f32) (x5 : Vec Ideal S8x128 .f32) (x6 : Vec Ideal S1024x1024 .f32) (x7 : Vec Ideal S4096x1024 .f32) (hp : ∀ r q, Step.IsReal (pj x0 x1 x2 r q)) (hd : ∀ r q, Step.IsReal (dg x0 x1 x2 x3 x4 x5 x6 x7 r q)) (k : Fin 4) (r : Fin 4096) (l : Fin 512) :
    val_main_v114 (F := Ideal) x0 x1 x2 x3 x4 x5 x6 x7 (ix3 k r l) = dp x0 x1 x2 x3 x4 x5 x6 x7 r ⟨k.val * 512 + l.val, by omega⟩ := by
  pointwise [val_main_v114, val_main_v113, val_main_v112]
  exact r109 x0 x1 x2 x3 x4 x5 x6 x7 hp hd r _

theorem r116 (x0 : Vec Ideal S4096x1024 .f32) (x1 : Vec Ideal S1024 .f32) (x2 : Vec Ideal S1024x2048 .f32) (x3 : Vec Ideal S1024 .f32) (x4 : Vec Ideal S8x128x128 .f32) (x5 : Vec Ideal S8x128 .f32) (x6 : Vec Ideal S1024x1024 .f32) (x7 : Vec Ideal S4096x1024 .f32) (hp : ∀ r q, Step.IsReal (pj x0 x1 x2 r q)) (hd : ∀ r q, Step.IsReal (dg x0 x1 x2 x3 x4 x5 x6 x7 r q)) (k : Fin 4) (x : Fin 1024) (l : Fin 512) :
    val_main_v116 (F := Ideal) x0 x1 x2 x3 x4 x5 x6 x7 (ix3 k x l) = ∑ r, xn x0 x1 r x * dp x0 x1 x2 x3 x4 x5 x6 x7 r ⟨k.val * 512 + l.val, by omega⟩ := by
  pointwise [val_main_v116, val_main_v115, val_main_v111, val_main_v110]
  simp only [r109 x0 x1 x2 x3 x4 x5 x6 x7 hp hd, r12]
  exact Finset.sum_congr rfl fun r _ => mul_comm _ _

/-- With real inputs the projections are real, -/
theorem pj_real (x0 : Vec Ideal S4096x1024 .f32) (x1 : Vec Ideal S1024 .f32) (x2 : Vec Ideal S1024x2048 .f32)
    (h1 : ∀ i, Step.IsReal (x1 i)) (h2 : ∀ i, Step.IsReal (x2 i)) (r : Fin 4096) (q : Fin 2048) : Step.IsReal (pj x0 x1 x2 r q) :=
  Step.IsReal.sum _ _ fun x => ((Step.normed_real (fun y => x0 (ix2 r y)) x).mul (h1 _)).mul (h2 _)

/-- so are GELU, -/
theorem G_real {x : EReal} (h : Step.IsReal x) : Step.IsReal (G x) := by
  rw [G_eq, ofBits_half]
  exact ((Step.IsReal.coe _).mul h).mul ((Step.IsReal.coe 1).add (erf_real (h.mul (Step.IsReal.coe _))))

/-- a masked entry -/
theorem tri_real (a s : Fin 128) {x : EReal} (h : Step.IsReal x) : Step.IsReal (tri a s x) := by
  unfold tri Scalar.select
  split
  · exact h
  · exact Step.IsReal.zero

/-- and the cotangent of GELU's result. -/
theorem dg_real (x0 : Vec Ideal S4096x1024 .f32) (x1 : Vec Ideal S1024 .f32) (x2 : Vec Ideal S1024x2048 .f32) (x3 : Vec Ideal S1024 .f32)
    (x4 : Vec Ideal S8x128x128 .f32) (x5 : Vec Ideal S8x128 .f32) (x6 : Vec Ideal S1024x1024 .f32) (x7 : Vec Ideal S4096x1024 .f32)
    (h1 : ∀ i, Step.IsReal (x1 i)) (h2 : ∀ i, Step.IsReal (x2 i)) (h3 : ∀ i, Step.IsReal (x3 i))
    (h4 : ∀ i, Step.IsReal (x4 i)) (h5 : ∀ i, Step.IsReal (x5 i)) (h6 : ∀ i, Step.IsReal (x6 i)) (h7 : ∀ i, Step.IsReal (x7 i))
    (r : Fin 4096) (q : Fin 2048) : Step.IsReal (dg x0 x1 x2 x3 x4 x5 x6 x7 r q) := by
  have hp := pj_real x0 x1 x2 h1 h2
  have hm : ∀ r j, Step.IsReal (dm x6 x7 r j) := fun r j => Step.IsReal.sum _ _ fun x => (h7 _).mul (h6 _)
  have hv : ∀ r j, Step.IsReal (dvn x0 x1 x2 x4 x6 x7 r j) := fun r j =>
    Step.IsReal.sum _ _ fun x => tri_real _ _ ((h4 _).mul ((hm _ _).mul (G_real (hp _ _))))
  unfold dg
  split
  · exact (hm _ _).mul ((Step.IsReal.sum _ _ fun s => tri_real _ _ ((h4 _).mul (((G_real (hp _ _)).mul (Step.rs_real _)).mul (h3 _)))).add (h5 _))
  · unfold dv Step.rowK
    rw [Step.ofBits_1024, Ideal.div_coe (by norm_num)]
    exact Step.IsReal.zero.add ((Step.rs_real _).mul (((hv _ _).mul (h3 _)).sub (((G_real (hp _ _)).mul (Step.rs_real _)).mul
      ((Step.IsReal.sum _ _ fun x => ((hv _ _).mul (h3 _)).mul ((G_real (hp _ _)).mul (Step.rs_real _))).mul (Step.IsReal.coe _)))))

end Cert.SguGradRefIdeal.Read

end

end
-- ==== Proof.SguGrad.Claim.lean ====
module

public import proofs.«01_k».proof.Defs
public import proofs.«01_k».proof.Proof.Gen.SguGradIdeal
public import proofs.«01_k».proof.Proof.Gen.SguGradRefIdeal
public import proofs.«01_k».proof.Proof.SguGrad.Array
public import proofs.«01_k».proof.Proof.SguGrad.Ref

@[expose] public section

set_option maxRecDepth 16384

/-! # The spatial gating's gradients: the kernel's six results are the reference's -/

noncomputable section

namespace Cert.SguGradTie

open Idealize.ShloMosaic Idealize.ShloMosaic.TcCoe Idealize.SL.Sem

section Same

open Cert.SguGradIdeal Cert.SguGradIdeal.Gen Cert.SguGradIdeal.Arr

variable (m : (ℓ : Loc nD τ sig) → Buf (Elt Ideal) ℓ) (c : Dev nD)

/-- The gated first half that the kernel reads is the forward lines' own array. -/
theorem saved : V m c main_v73 = SguGradRefIdeal.Read.val_main_v57 (F := Ideal) (A0 m c) (A1 m c) (A2 m c) (A3 m c) (A4 m c) (A5 m c) := by
  unfold V
  simp only [hostOps0, hostOps0_1, hostOps0_2, List.flatten_cons, List.flatten_nil, List.cons_append, List.nil_append, List.append_nil]
  entry_read
  rfl

theorem mx_same : mx m c = SguGradRefIdeal.Read.mix (A0 m c) (A1 m c) (A2 m c) (A3 m c) (A4 m c) (A5 m c) := by
  funext r j
  unfold mx
  rw [saved]
  exact SguGradRefIdeal.Read.r57 _ _ _ _ _ _ r j

/-- The two named constants. -/
theorem named_root : Named.named (F := Ideal) (φ := .f32) κ "inv_sqrt_2" 1060439283#32 = (((Real.sqrt 2)⁻¹ : ℝ) : EReal) := rfl

@[inherit_doc named_root] theorem named_bell : Named.named (F := Ideal) (φ := .f32) κ "c_over_2_sqrt_2" 1053573674#32 = ((SguGradRefIdeal.Read.kap : ℝ) : EReal) := rfl

/-- GELU and its derivative, as both sides write them. -/
theorem gk_same : gk = SguGradRefIdeal.Read.G := by
  funext x
  rw [SguGradRefIdeal.Read.G_eq]
  unfold gk
  rw [named_root]
  rfl

@[inherit_doc gk_same] theorem gg_same : gg = SguGradRefIdeal.Read.G1 := by
  funext x
  unfold gg SguGradRefIdeal.Read.G1
  rw [named_root, named_bell]
  rfl

/-- Both sides name the same quantities: the normed row, -/
theorem xn_same : xn m c = SguGradRefIdeal.Read.xn (A0 m c) (A1 m c) := rfl

/-- the projections and the norm, -/
theorem pj_same : pj m c = SguGradRefIdeal.Read.pj (A0 m c) (A1 m c) (A2 m c) := rfl

@[inherit_doc pj_same] theorem pu_same : pu m c = SguGradRefIdeal.Read.pu (A0 m c) (A1 m c) (A2 m c) := rfl

@[inherit_doc pj_same] theorem pv_same : pv m c = SguGradRefIdeal.Read.pv (A0 m c) (A1 m c) (A2 m c) := rfl

@[inherit_doc pj_same] theorem rv_same : rv m c = SguGradRefIdeal.Read.rv (A0 m c) (A1 m c) (A2 m c) := rfl

/-- the normed second half, -/
theorem vh_same : vh m c = fun r j => SguGradRefIdeal.Read.G (SguGradRefIdeal.Read.pv (A0 m c) (A1 m c) (A2 m c) r j) * SguGradRefIdeal.Read.rv (A0 m c) (A1 m c) (A2 m c) r := by
  funext r j; unfold vh; rw [gk_same, pv_same, rv_same]

@[inherit_doc vh_same] theorem vn_same : vn m c = SguGradRefIdeal.Read.vn (A0 m c) (A1 m c) (A2 m c) (A3 m c) := by
  funext r j; unfold vn SguGradRefIdeal.Read.vn; rw [gk_same, pv_same, rv_same]

/-- the gate, -/
theorem gate_same : gate m c = SguGradRefIdeal.Read.gate (A0 m c) (A1 m c) (A2 m c) (A3 m c) (A4 m c) (A5 m c) := by
  funext r j; unfold gate SguGradRefIdeal.Read.gate; rw [vn_same]; rfl

/-- and the cotangents. -/
theorem dm_same : dm m c = SguGradRefIdeal.Read.dm (A6 m c) (A7 m c) := rfl

@[inherit_doc dm_same] theorem dgt_same : dgt m c = SguGradRefIdeal.Read.dgt (A0 m c) (A1 m c) (A2 m c) (A6 m c) (A7 m c) := by
  funext r j; unfold dgt SguGradRefIdeal.Read.dgt; rw [gk_same, pu_same, dm_same]

@[inherit_doc dm_same] theorem dvn_same : dvn m c = SguGradRefIdeal.Read.dvn (A0 m c) (A1 m c) (A2 m c) (A4 m c) (A6 m c) (A7 m c) := by
  funext r j; unfold dvn SguGradRefIdeal.Read.dvn; rw [dgt_same]; rfl

/-- A sum over 1024 columns, as the two halves the kernel takes. -/
theorem halves (f : Fin 1024 → EReal) : (∑ x : Fin 512, f ⟨x.val, by omega⟩) + ∑ x : Fin 512, f ⟨512 + x.val, by omega⟩ = ∑ x, f x := by
  rw [show (∑ x : Fin 1024, f x) = ∑ x : Fin (512 + 512), f x from rfl, Fin.sum_univ_add]
  rfl

@[inherit_doc dm_same] theorem dpv_same (r : Fin 4096) (j : Fin 1024) :
    dpv m c r j = SguGradRefIdeal.Read.dv (A0 m c) (A1 m c) (A2 m c) (A3 m c) (A4 m c) (A6 m c) (A7 m c) r j * SguGradRefIdeal.Read.G1 (SguGradRefIdeal.Read.pv (A0 m c) (A1 m c) (A2 m c) r j) := by
  unfold dpv dt SguGradRefIdeal.Read.dv Step.rowK
  rw [halves (fun x => dvn m c r x * A3 m c (ix1 x) * vh m c r x), gg_same, zero_add, dvn_same, vh_same, pv_same]
  rfl

@[inherit_doc dm_same] theorem dp_same : dp m c = SguGradRefIdeal.Read.dp (A0 m c) (A1 m c) (A2 m c) (A3 m c) (A4 m c) (A5 m c) (A6 m c) (A7 m c) := by
  funext r q
  unfold dp SguGradRefIdeal.Read.dp SguGradRefIdeal.Read.dg
  by_cases hq : q.val < 1024
  · rw [dif_pos hq, dif_pos hq]
    unfold dpu
    rw [gg_same, gate_same, dm_same, pu_same]
    rfl
  · rw [dif_neg hq, dif_neg hq, dpv_same]
    congr 2
    exact congrArg (SguGradRefIdeal.Read.pj (A0 m c) (A1 m c) (A2 m c) r) (Fin.ext (by dsimp only; omega))

/-- A masked sum is the sum of the masked terms. -/
theorem tri_sum {n : ℕ} (a s : Fin 128) (f : Fin n → EReal) : ∑ r, tri a s (f r) = SguGradRefIdeal.Read.tri a s (∑ r, f r) := by
  unfold tri SguGradRefIdeal.Read.tri Scalar.select
  split
  · rfl
  · simp

end Same

/-- The side conditions of the predicate's operations. -/
theorem preFacts : Cert.Pre_sgu_finite.Facts := ⟨by decide, by decide, by decide, by decide, by decide, by decide⟩

/-- What the precondition says: every entry of all arrays but the first is a real number. -/
theorem reals [Cert.Pre_sgu_finite.Facts] (m : (ℓ : Loc SguGradIdeal.nD SguGradIdeal.τ SguGradIdeal.sig) → Buf (Elt Ideal) ℓ) (h : Cert.Pre_SguGradIdeal_sgu_finite m) (c : Dev SguGradIdeal.nD) :
    (∀ i, Step.IsReal (SguGradIdeal.Arr.A1 m c i)) ∧ (∀ i, Step.IsReal (SguGradIdeal.Arr.A2 m c i)) ∧ (∀ i, Step.IsReal (SguGradIdeal.Arr.A3 m c i)) ∧ (∀ i, Step.IsReal (SguGradIdeal.Arr.A4 m c i)) ∧ (∀ i, Step.IsReal (SguGradIdeal.Arr.A5 m c i)) ∧ (∀ i, Step.IsReal (SguGradIdeal.Arr.A6 m c i)) ∧ (∀ i, Step.IsReal (SguGradIdeal.Arr.A7 m c i)) := by
  obtain ⟨h1, h2, h3, h4, h5, h6, h7⟩ := h c
  exact ⟨fun i => Step.real_of_abs_lt (congrFun h1 i), fun i => Step.real_of_abs_lt (congrFun h2 i), fun i => Step.real_of_abs_lt (congrFun h3 i), fun i => Step.real_of_abs_lt (congrFun h4 i), fun i => Step.real_of_abs_lt (congrFun h5 i), fun i => Step.real_of_abs_lt (congrFun h6 i), fun i => Step.real_of_abs_lt (congrFun h7 i)⟩

set_option maxHeartbeats 1600000 in
/-- The kernel's six arrays, at the entry's arrays, are what reverse differentiation of the forward lines gives. -/
theorem algebraic [Cert.Pre_sgu_finite.Facts] : Cert.algebraic_SguGradIdeal_SguGradRefIdeal_pre_sgu_finite := by
  intro m ρ m' ρ' hpre hag
  refine ⟨_, _, _, _, _, _, SguGradIdeal.Value.run_blocks m ρ, ?_⟩
  refine (θ_run SguGradRefIdeal.defs _ _).mono (fun r h c => ?_) (SguGradRefIdeal.Value.run (F := Ideal) m' ρ')
  obtain ⟨e0, e1, e2, e3, e4, e5, e6, e7⟩ := hag c
  have l0 : m' ((c.tc : Thread SguGradRefIdeal.nD SguGradRefIdeal.τ).loc SguGradRefIdeal.main_arg0) = SguGradIdeal.Arr.A0 m c := e0
  have l1 : m' ((c.tc : Thread SguGradRefIdeal.nD SguGradRefIdeal.τ).loc SguGradRefIdeal.main_arg1) = SguGradIdeal.Arr.A1 m c := e1
  have l2 : m' ((c.tc : Thread SguGradRefIdeal.nD SguGradRefIdeal.τ).loc SguGradRefIdeal.main_arg2) = SguGradIdeal.Arr.A2 m c := e2
  have l3 : m' ((c.tc : Thread SguGradRefIdeal.nD SguGradRefIdeal.τ).loc SguGradRefIdeal.main_arg3) = SguGradIdeal.Arr.A3 m c := e3
  have l4 : m' ((c.tc : Thread SguGradRefIdeal.nD SguGradRefIdeal.τ).loc SguGradRefIdeal.main_arg4) = SguGradIdeal.Arr.A4 m c := e4
  have l5 : m' ((c.tc : Thread SguGradRefIdeal.nD SguGradRefIdeal.τ).loc SguGradRefIdeal.main_arg5) = SguGradIdeal.Arr.A5 m c := e5
  have l6 : m' ((c.tc : Thread SguGradRefIdeal.nD SguGradRefIdeal.τ).loc SguGradRefIdeal.main_arg6) = SguGradIdeal.Arr.A6 m c := e6
  have l7 : m' ((c.tc : Thread SguGradRefIdeal.nD SguGradRefIdeal.τ).loc SguGradRefIdeal.main_arg7) = SguGradIdeal.Arr.A7 m c := e7
  obtain ⟨h1, h2, h3, h4, h5, h6, h7⟩ := reals m hpre c
  have hp := SguGradRefIdeal.Read.pj_real (SguGradIdeal.Arr.A0 m c) _ _ h1 h2
  have hd := SguGradRefIdeal.Read.dg_real (SguGradIdeal.Arr.A0 m c) _ _ _ _ _ _ _ h1 h2 h3 h4 h5 h6 h7
  refine ⟨(h c).1.trans ?_, (h c).2.1.trans ?_, (h c).2.2.1.trans ?_, (h c).2.2.2.1.trans ?_, (h c).2.2.2.2.1.trans ?_, (h c).2.2.2.2.2.1.trans ?_,
    (h c).2.2.2.2.2.2⟩
  · rw [SguGradRefIdeal.Read.val_main_v114_eq, l0, l1, l2, l3, l4, l5, l6, l7, SguGradIdeal.Arr.arr9]
    funext i
    obtain ⟨k, r, l, rfl⟩ : ∃ (k : Fin 4) (r : Fin 4096) (l : Fin 512), i = ix3 k r l := ⟨i 0, i 1, i 2, eq_ix3 i⟩
    simp only [dp_same]
    exact SguGradRefIdeal.Read.r114 _ _ _ _ _ _ _ _ hp hd k r l
  · rw [SguGradRefIdeal.Read.val_main_v116_eq, l0, l1, l2, l3, l4, l5, l6, l7, SguGradIdeal.Arr.arr10]
    funext i
    obtain ⟨k, x, l, rfl⟩ : ∃ (k : Fin 4) (x : Fin 1024) (l : Fin 512), i = ix3 k x l := ⟨i 0, i 1, i 2, eq_ix3 i⟩
    simp only [SguGradIdeal.Arr.T10, dp_same, xn_same]
    exact SguGradRefIdeal.Read.r116 _ _ _ _ _ _ _ _ hp hd k x l
  · rw [SguGradRefIdeal.Read.val_main_v60_eq, l0, l1, l2, l3, l4, l5, l7, SguGradIdeal.Arr.arr11]
    funext i
    obtain ⟨j, l, rfl⟩ : ∃ (j l : Fin 1024), i = ix2 j l := ⟨i 0, i 1, eq_ix2 i⟩
    simp only [SguGradIdeal.Arr.T11, mx_same]
    exact SguGradRefIdeal.Read.r60 _ _ _ _ _ _ _ j l
  · rw [SguGradRefIdeal.Read.val_main_v117_eq, l0, l1, l2, l4, l6, l7, SguGradIdeal.Arr.arr12]
    funext i
    obtain ⟨j, rfl⟩ : ∃ (j : Fin 1024), i = ix2 0 j := ⟨i 1, (eq_ix2 i).trans (congrArg (fun z => ix2 z _) (Subsingleton.elim (α := Fin 1) _ _))⟩
    simp only [SguGradIdeal.Arr.T12, dvn_same, vh_same]
    exact SguGradRefIdeal.Read.r117 _ _ _ _ _ _ j
  · rw [SguGradRefIdeal.Read.val_main_v74_eq, l0, l1, l2, l3, l6, l7, SguGradIdeal.Arr.arr13]
    funext i
    obtain ⟨h, a, s, rfl⟩ : ∃ (h : Fin 8) (a s : Fin 128), i = ix3 h a s := ⟨i 0, i 1, i 2, eq_ix3 i⟩
    simp only [SguGradIdeal.Arr.T13, dgt_same, vn_same]
    exact (SguGradRefIdeal.Read.r74 _ _ _ _ _ _ h a s).trans (tri_sum _ _ _).symm
  · rw [SguGradRefIdeal.Read.val_main_v118_eq, l0, l1, l2, l6, l7, SguGradIdeal.Arr.arr14]
    funext i
    obtain ⟨h, a, rfl⟩ : ∃ (h : Fin 8) (a : Fin 128), i = ix3 h a 0 := ⟨i 0, i 1, (eq_ix3 i).trans (congrArg (fun z => ix3 _ _ z) (Subsingleton.elim (α := Fin 1) _ _))⟩
    simp only [SguGradIdeal.Arr.T14, dgt_same]
    exact SguGradRefIdeal.Read.r118 _ _ _ _ _ h a

/-- The reference ends with its arguments unchanged; it has no semaphore. -/
theorem frame_ref : Cert.quiescent_SguGradRefIdeal := fun m ρ _ =>
  (θ_run SguGradRefIdeal.defs _ _).mono (fun r h => ⟨fun c => (h c).2.2.2.2.2.2, sem_eq_zero_of_no_sems (by decide) r.2⟩)
    (SguGradRefIdeal.Value.run (F := Ideal) m ρ)

/-- The names stand for the constants they replace. -/
theorem named : Cert.preserves_SguGrad_SguGradIdeal :=
  ⟨IdealRules.named_const.statement SguGradIdeal.κ "inv_sqrt_2" .f32 _ _ rfl, IdealRules.named_const.statement SguGradIdeal.κ "c_over_2_sqrt_2" .f32 _ _ rfl⟩

end Cert.SguGradTie

end

end
-- ==== Proof.FfnLoss.Blocks.lean ====
module

public import proofs.«01_k».proof.Proof.Gen.FfnLossIdeal.Frame
public import Idealize.ShloMosaic.Lib.Pipeline.Value
public import proofs.«01_k».proof.Proof.Common
public import proofs.«01_k».proof.Proof.Halo
public import Idealize.ShloMosaic.Lib.Pipeline.ValueKit

@[expose] public section

set_option maxRecDepth 16384

/-! # The blocks a grid point reads (the last layer's feed-forward and the loss)

The grid is eight tiles of 512 rows by four blocks of 704 hidden columns; point `t` is tile `t / 4`, block `t % 4`. -/

noncomputable section

namespace Cert.FfnLossIdeal.Arr

open Cert.FfnLossIdeal Cert.FfnLossIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, 0] ∧ win0_1.index t = ![t.val / 4 * 32 - 1, 0]
    ∧ win0_2.index t = ![0, 0] ∧ win0_3.index t = ![0, 0, 0] ∧ win0_4.index t = ![0, 0, 0]
    ∧ win0_5.index t = ![0, 0, 0] ∧ win0_6.index t = ![t.val % 4, 0, 0] ∧ win0_7.index t = ![t.val % 4, 0, 0]
    ∧ win0_8.index t = ![t.val / 4, 0] ∧ win0_9.index t = ![0, 0]
    ∧ win0_10.index t = ![t.val / 4, 0] ∧ win0_11.index t = ![t.val / 4, 0] ∧ win0_12.index t = ![0, 0] ∧ win0_13.index t = ![0, 0]
    ∧ win0_14.index t = ![t.val / 4, 0] ∧ win0_15.index t = ![t.val / 4, 0] ∧ win0_16.index t = ![t.val % 4, t.val / 4, 0]
    ∧ win0_17.index t = ![t.val % 4, t.val / 4, 0] ∧ win0_18.index t = ![t.val % 4, t.val / 4, 0] := by decide +kernel

/-- The nine arrays at the entry. -/
def A0 : Vec Ideal S4096x1024 .f32 := m ((c : Thread nD τ).loc main_arg0)
@[inherit_doc A0] def A1 : Vec Ideal S1x1024 .f32 := m ((c : Thread nD τ).loc main_arg1)
@[inherit_doc A0] def A2 : Vec Ideal S1024x2816 .f32 := m ((c : Thread nD τ).loc main_arg2)
@[inherit_doc A0] def A3 : Vec Ideal S1024x2816 .f32 := m ((c : Thread nD τ).loc main_arg3)
@[inherit_doc A0] def A4 : Vec Ideal S3x2816 .f32 := m ((c : Thread nD τ).loc main_arg4)
@[inherit_doc A0] def A5 : Vec Ideal S2816 .f32 := m ((c : Thread nD τ).loc main_arg5)
@[inherit_doc A0] def A6 : Vec Ideal S2816x1024 .f32 := m ((c : Thread nD τ).loc main_arg6)
@[inherit_doc A0] def A7 : Vec Ideal S4096x1024 .f32 := m ((c : Thread nD τ).loc main_arg7)
@[inherit_doc A0] def A8 : Vec Ideal S1x1024 .f32 := m ((c : Thread nD τ).loc main_arg8)

/-- The hidden column `l` of block `k`. -/
def col (k : Fin 4) (l : Fin 704) : Fin 2816 := ⟨k.val * 704 + l.val, by omega⟩

/-- The normed row. -/
def xn (r : Fin 4096) (l : Fin 1024) : EReal := A0 m c (ix2 r l) * Step.rs (fun y => A0 m c (ix2 r y)) * A1 m c (ix2 0 l)

/-- Its gate projection at a hidden column, -/
def gf (q : Fin 2816) (r : Fin 4096) : EReal := ∑ x, xn m c r x * A2 m c (ix2 x q)

/-- its up projection, -/
def uf (q : Fin 2816) (r : Fin 4096) : EReal := ∑ x, xn m c r x * A3 m c (ix2 x q)

/-- and the causal convolution of the gate projection with its bias. -/
def gcf (q : Fin 2816) (r : Fin 4096) : EReal :=
  Step.back (gf m c q) r.val 2 * A4 m c (ix2 0 q) + Step.back (gf m c q) r.val 1 * A4 m c (ix2 1 q) + Step.back (gf m c q) r.val 0 * A4 m c (ix2 2 q)
    + A5 m c (ix1 q)

/-- The activation. -/
def act (q : Fin 2816) (r : Fin 4096) : EReal := gcf m c q r * Ideal.logistic (gcf m c q r) * uf m c q r

theorem v2 (k : Fin 4) (l : Fin 704) (x : Fin 1024) : V m c main_v2 (ix3 k l x) = A2 m c (ix2 x (col k l)) := by
  unfold V
  entry_read
  pointwise
  rfl

theorem v5 (k : Fin 4) (l : Fin 704) (x : Fin 1024) : V m c main_v5 (ix3 k l x) = A3 m c (ix2 x (col k l)) := by
  unfold V
  entry_read
  pointwise
  rfl

theorem v7 (k : Fin 4) (l : Fin 704) (x : Fin 1024) : V m c main_v7 (ix3 k l x) = A6 m c (ix2 (col k l) x) := by
  unfold V
  entry_read
  pointwise
  rfl

theorem v9 (k : Fin 4) (r : Fin 3) (l : Fin 704) : V m c main_v9 (ix3 k r l) = A4 m c (ix2 r (col k l)) := by
  unfold V
  entry_read
  pointwise
  rfl

theorem v10 (k : Fin 4) (l : Fin 704) : V m c main_v10 (ix3 k 0 l) = A5 m c (ix1 (col k l)) := by
  unfold V
  entry_read
  pointwise
  rfl

theorem a0 : V m c main_arg0 = A0 m c := by
  unfold V
  entry_read
  rfl

theorem a1 : V m c main_arg1 = A1 m c := by
  unfold V
  entry_read
  rfl

theorem a7 : V m c main_arg7 = A7 m c := by
  unfold V
  entry_read
  rfl

theorem a8 : V m c main_arg8 = A8 m c := by
  unfold V
  entry_read
  rfl

/-- Row `p` of the tile at grid point `t`. -/
def row (t : Fin cfg0.N) (p : Fin 512) : Fin 4096 := ⟨t.val / 4 * 512 + p.val, by have h : t.val < 32 := t.isLt; omega⟩

/-- Row `p` of the 16 rows before the tile (the first tile reads its own first rows). -/
def rowP (t : Fin cfg0.N) (p : Fin 16) : Fin 4096 := ⟨(t.val / 4 * 32 - 1) * 16 + p.val, by have h : t.val < 32 := t.isLt; omega⟩

/-- The block of hidden columns of grid point `t`. -/
def chip (t : Fin cfg0.N) : Fin 4 := ⟨t.val % 4, by omega⟩

theorem blk0 (t : Fin cfg0.N) (p : Fin 512) (l : Fin 1024) : iblk m c 0 t (ix2 p l) = A0 m c (ix2 (row t p) l) := by
  rw [← a0]
  unfold row
  blk_ext [iblk, idx t]

theorem blk1 (t : Fin cfg0.N) (p : Fin 16) (l : Fin 1024) : iblk m c 1 t (ix2 p l) = A0 m c (ix2 (rowP t p) l) := by
  rw [← a0]
  unfold rowP
  blk_ext [iblk, idx t]

theorem blk2 (t : Fin cfg0.N) (l : Fin 1024) : iblk m c 2 t (ix2 0 l) = A1 m c (ix2 0 l) := by
  rw [← a1]
  blk_ext [iblk, idx t]

theorem blk3 (t : Fin cfg0.N) (k : Fin 4) (l : Fin 704) (x : Fin 1024) : iblk m c 3 t (ix3 k l x) = A2 m c (ix2 x (col k l)) := by
  rw [← v2]
  blk_ext [iblk, idx t]

theorem blk4 (t : Fin cfg0.N) (k : Fin 4) (l : Fin 704) (x : Fin 1024) : iblk m c 4 t (ix3 k l x) = A3 m c (ix2 x (col k l)) := by
  rw [← v5]
  blk_ext [iblk, idx t]

theorem blk5 (t : Fin cfg0.N) (k : Fin 4) (l : Fin 704) (x : Fin 1024) : iblk m c 5 t (ix3 k l x) = A6 m c (ix2 (col k l) x) := by
  rw [← v7]
  blk_ext [iblk, idx t]

theorem blk6 (t : Fin cfg0.N) (k : Fin 3) (l : Fin 704) : iblk m c 6 t (ix3 0 k l) = A4 m c (ix2 k (col (chip t) l)) := by
  rw [← v9]
  unfold chip
  blk_ext [iblk, idx t]

theorem blk7 (t : Fin cfg0.N) (l : Fin 704) : iblk m c 7 t (ix3 0 0 l) = A5 m c (ix1 (col (chip t) l)) := by
  rw [← v10]
  unfold chip
  blk_ext [iblk, idx t]

theorem blk8 (t : Fin cfg0.N) (p : Fin 512) (l : Fin 1024) : iblk m c 8 t (ix2 p l) = A7 m c (ix2 (row t p) l) := by
  rw [← a7]
  unfold row
  blk_ext [iblk, idx t]

theorem blk9 (t : Fin cfg0.N) (l : Fin 1024) : iblk m c 9 t (ix2 0 l) = A8 m c (ix2 0 l) := by
  rw [← a8]
  blk_ext [iblk, idx t]

end Cert.FfnLossIdeal.Arr
-- ==== Proof.FfnLoss.Stage.lean ====
module

public import proofs.«01_k».proof.Proof.FfnLoss.Blocks

@[expose] public section

set_option maxRecDepth 16384

/-! # What a grid point computes from its blocks (the last layer's feed-forward and the loss) -/

noncomputable section

namespace Cert.FfnLossIdeal.Arr

open Cert.FfnLossIdeal Cert.FfnLossIdeal.Gen Idealize.ShloMosaic Idealize.ShloMosaic.TcCoe Idealize.SL.Sem

variable (m : (ℓ : Loc nD τ sig) → Buf (Elt Ideal) ℓ) (c : Dev nD)

theorem grid_val : ∀ t : Fin cfg0.N, (grid0.coords t 0).val = t.val / 4 := by decide +kernel

theorem grid_val1 : ∀ t : Fin cfg0.N, (grid0.coords t 1).val = t.val % 4 := by decide +kernel

theorem row_val (t : Fin cfg0.N) (p : Fin 512) : (row t p).val = 512 * (t.val / 4) + p.val := by
  show t.val / 4 * 512 + p.val = _; omega

theorem lit1 : Ideal.ofBits .f32 0x3F800000#32 = (1 : EReal) := by simp [Ideal.ofBits, Ideal.ieee, -EReal.coe_mul]; norm_num

/-- The mask of the rows before the tile: zero before the first tile. -/
theorem keepP (t : Fin cfg0.N) :
    Scalar.select (Scalar.cmpi .sgt (BitVec.ofNat 32 (grid0.coords t 0).val) 0#32) (Ideal.ofBits .f32 0x3F800000#32) (Ideal.ofBits .f32 0#32)
      = if t.val / 4 = 0 then (0 : EReal) else 1 := by
  have hw : ∀ n : Fin 8, Scalar.cmpi .sgt (BitVec.ofNat 32 n.val) 0#32 = if n.val = 0 then 0#1 else 1#1 := by decide +kernel
  have h8 : t.val / 4 < 8 := by have h : t.val < 32 := t.isLt; omega
  rw [grid_val, hw ⟨t.val / 4, h8⟩, lit1]
  by_cases h : t.val / 4 = 0
  · simp only [h, if_true]
    show Ideal.ofBits .f32 0#32 = 0
    simp [Ideal.ofBits, Ideal.ieee]
  · simp only [h, if_false]; rfl

/-- A row of the tile with the sixteen rows before it, in the whole array. -/
def rowE (t : Fin cfg0.N) (e : ℕ) (h : e < 528) : Fin 4096 := if he : e < 16 then rowP t ⟨e, he⟩ else row t ⟨e - 16, by omega⟩

/-- The rows with the mask a parameter. -/
def maskOf (s : Ideal .f32) (v16 : FVec Ideal S528x704 .bf16) : FVec Ideal S528x704 .f32 :=
  concatenate S528x704 0 [⟨S16x704, mulf (extf .f32 (extractStridedSlice S16x704 ![0, 0] v16 slices_S528x704_o0_0_S16x704) bitsLt_bf16_f32) (broadcast S16x704 s)⟩,
    ⟨S512x704, extf .f32 (extractStridedSlice S512x704 ![16, 0] v16 slices_S528x704_o16_0_S512x704) bitsLt_bf16_f32⟩] concatenates_S16x704_S512x704_S528x704_d0

theorem maskOf_lo (s : Ideal .f32) (v16 : FVec Ideal S528x704 .bf16) (e : Fin 16) (l : Fin 704) :
    maskOf s v16 (ix2 ⟨e.val, by omega⟩ l) = (HMul.hMul : EReal → EReal → EReal) (v16 (ix2 ⟨e.val, by omega⟩ l)) s := by
  pointwise [maskOf]

theorem maskOf_hi (s : Ideal .f32) (v16 : FVec Ideal S528x704 .bf16) (e : Fin 512) (l : Fin 704) :
    maskOf s v16 (ix2 ⟨16 + e.val, by omega⟩ l) = v16 (ix2 ⟨16 + e.val, by omega⟩ l) := by
  pointwise [maskOf]

/-- The convolution of masked rows with its bias. -/
def convOf (v38 : FVec Ideal S528x704 .f32) (v39 v44 v50 v56 : Vec Ideal S1x1x704 .f32) : FVec Ideal S512x704 .bf16 :=
  have v42 : FVec Ideal S528x704 .f32 := broadcastTo S528x704 (shapeCast S1x704 v39 shapeCasts_S1x1x704_S1x704) broadcasts_S1x704_S528x704
  have v47 : FVec Ideal S528x704 .f32 := broadcastTo S528x704 (shapeCast S1x704 v44 shapeCasts_S1x1x704_S1x704) broadcasts_S1x704_S528x704
  have v52 : FVec Ideal S528x704 .f32 := broadcastTo S528x704 (shapeCast S1x704 v50 shapeCasts_S1x1x704_S1x704) broadcasts_S1x704_S528x704
  have v54 : FVec Ideal S528x704 .f32 := addf (addf (mulf v42 (dynamicRotate 0 2#32 none v38 rotates_S528x704_d0)) (mulf v47 (dynamicRotate 0 1#32 none v38 rotates_S528x704_d0)))
    (mulf v52 v38)
  truncf .bf16 (addf (extractStridedSlice S512x704 ![16, 0] v54 slices_S528x704_o16_0_S512x704)
    (broadcastTo S512x704 (shapeCast S1x704 v56 shapeCasts_S1x1x704_S1x704) broadcasts_S1x704_S512x704)) bitsLt_bf16_f32

theorem pay23_eq (a : BitVec 32) (v16 : FVec Ideal S528x704 .bf16) (v39 v44 v50 v56 : Vec Ideal S1x1x704 .f32) :
    k0_pay23 a v16 v39 v44 v50 v56
      = convOf (maskOf (Scalar.select (Scalar.cmpi .sgt a 0#32) (Ideal.ofBits .f32 0x3F800000#32) (Ideal.ofBits .f32 0#32)) v16) v39 v44 v50 v56 := rfl

theorem convOf_apply (v38 : FVec Ideal S528x704 .f32) (v39 v44 v50 v56 : Vec Ideal S1x1x704 .f32) (p : Fin 512) (l : Fin 704) :
    convOf v38 v39 v44 v50 v56 (ix2 p l) = (HAdd.hAdd : EReal → EReal → EReal) ((HAdd.hAdd : EReal → EReal → EReal) ((HAdd.hAdd : EReal → EReal → EReal)
      ((HMul.hMul : EReal → EReal → EReal) (v39 (ix3 0 0 l)) (v38 (ix2 ⟨14 + p.val, by omega⟩ l))) ((HMul.hMul : EReal → EReal → EReal) (v44 (ix3 0 0 l)) (v38 (ix2 ⟨15 + p.val, by omega⟩ l))))
      ((HMul.hMul : EReal → EReal → EReal) (v50 (ix3 0 0 l)) (v38 (ix2 ⟨16 + p.val, by omega⟩ l)))) (v56 (ix3 0 0 l)) := by
  pointwise [convOf]
  have h2 : (⟨(16 + p.val + 528 - 2) % 528, by omega⟩ : Fin 528) = ⟨14 + p.val, by omega⟩ := Fin.ext (by dsimp only; omega)
  have h1 : (⟨(16 + p.val + 528 - 1) % 528, by omega⟩ : Fin 528) = ⟨15 + p.val, by omega⟩ := Fin.ext (by dsimp only; omega)
  rw [h2, h1]

section Rows

variable (t : Fin cfg0.N) (x : Vec Ideal S528x1024 .bf16) (hx : ∀ e h l, x (ix2 ⟨e, h⟩ l) = xn m c (rowE t e h) l)
  (v13 v19 : Vec Ideal S1x704x1024 .bf16) (h13 : ∀ l y, v13 (ix3 0 l y) = A2 m c (ix2 y (col (chip t) l))) (h19 : ∀ l y, v19 (ix3 0 l y) = A3 m c (ix2 y (col (chip t) l)))

include hx h13

/-- The gate projection of the extended tile. -/
theorem gate (e : ℕ) (h : e < 528) (l : Fin 704) : k0_pay19 (F := Ideal) x v13 (ix2 ⟨e, h⟩ l) = gf m c (col (chip t) l) (rowE t e h) := by
  pointwise [k0_pay19]
  exact Finset.sum_congr rfl fun y _ => congrArg₂ (HMul.hMul : EReal → EReal → EReal) (hx e h y) (h13 l y)

theorem gate_out (p : Fin 512) (l : Fin 704) : k0_pay21 (F := Ideal) x v13 (ix3 0 p l) = gf m c (col (chip t) l) (row t p) := by
  pointwise [k0_pay21]
  rw [gate m c t x hx v13 h13]
  unfold rowE
  rw [dif_neg (by omega)]
  exact congrArg (fun f => gf m c (col (chip t) l) (row t f)) (Fin.ext (by show 16 + p.val - 16 = p.val; omega))

/-- The masked rows are the projection's rows, with zeros before the first. -/
theorem masked (e : ℕ) (h : e < 528) (l : Fin 704) :
    maskOf (if t.val / 4 = 0 then (0 : EReal) else 1) (k0_pay19 (F := Ideal) x v13) (ix2 ⟨e, h⟩ l) = Step.lag (gf m c (col (chip t) l)) (512 * (t.val / 4) + e) := by
  by_cases he : e < 16
  · refine (maskOf_lo _ _ ⟨e, he⟩ l).trans ?_
    rw [gate m c t x hx v13 h13 e (by omega) l, rowE, dif_pos he]
    by_cases h0 : t.val / 4 = 0
    · rw [if_pos h0, mul_zero, Step.lag_lo _ _ (by omega)]
    · rw [if_neg h0, mul_one]
      refine (Step.lag_hi _ _ (rowP t ⟨e, he⟩) ?_).symm
      show _ = 16 + ((t.val / 4 * 32 - 1) * 16 + e)
      omega
  · obtain ⟨f, rfl⟩ : ∃ f : Fin 512, e = 16 + f.val := ⟨⟨e - 16, by omega⟩, by show e = 16 + (e - 16); omega⟩
    refine (maskOf_hi _ _ f l).trans ?_
    rw [gate m c t x hx v13 h13 _ (by omega) l, rowE, dif_neg he]
    refine (congrArg (fun f => gf m c (col (chip t) l) (row t f)) (Fin.ext (by show 16 + f.val - 16 = f.val; omega))).trans ?_
    exact (Step.lag_hi _ _ (row t f) (by rw [row_val]; omega)).symm

theorem conv (v39 v44 v50 v56 : Vec Ideal S1x1x704 .f32) (h39 : ∀ l, v39 (ix3 0 0 l) = A4 m c (ix2 0 (col (chip t) l))) (h44 : ∀ l, v44 (ix3 0 0 l) = A4 m c (ix2 1 (col (chip t) l)))
    (h50 : ∀ l, v50 (ix3 0 0 l) = A4 m c (ix2 2 (col (chip t) l))) (h56 : ∀ l, v56 (ix3 0 0 l) = A5 m c (ix1 (col (chip t) l))) (p : Fin 512) (l : Fin 704) :
    k0_pay23 (BitVec.ofNat 32 (grid0.coords t 0).val) (k0_pay19 (F := Ideal) x v13) v39 v44 v50 v56 (ix2 p l) = gcf m c (col (chip t) l) (row t p) := by
  rw [pay23_eq, keepP, convOf_apply, masked m c t x hx v13 h13, masked m c t x hx v13 h13, masked m c t x hx v13 h13, h39, h44, h50, h56]
  unfold gcf
  rw [← Step.lag_eq _ _ 2 (by omega), ← Step.lag_eq _ _ 1 (by omega), ← Step.lag_eq _ _ 0 (by omega), row_val]
  rw [mul_comm (A4 m c (ix2 0 _)), mul_comm (A4 m c (ix2 1 _)), mul_comm (A4 m c (ix2 2 _))]
  rw [show 512 * (t.val / 4) + (14 + p.val) = 16 + (512 * (t.val / 4) + p.val) - 2 by omega, show 512 * (t.val / 4) + (15 + p.val) = 16 + (512 * (t.val / 4) + p.val) - 1 by omega,
    show 512 * (t.val / 4) + (16 + p.val) = 16 + (512 * (t.val / 4) + p.val) - 0 by omega]

include h19

/-- The activation of the tile; `v17` are the rows of `x` after the sixteen. -/
theorem activation (v17 : Vec Ideal S512x1024 .bf16) (hm : ∀ p l, v17 (ix2 p l) = xn m c (row t p) l)
    (v39 v44 v50 v56 : Vec Ideal S1x1x704 .f32) (h39 : ∀ l, v39 (ix3 0 0 l) = A4 m c (ix2 0 (col (chip t) l))) (h44 : ∀ l, v44 (ix3 0 0 l) = A4 m c (ix2 1 (col (chip t) l)))
    (h50 : ∀ l, v50 (ix3 0 0 l) = A4 m c (ix2 2 (col (chip t) l))) (h56 : ∀ l, v56 (ix3 0 0 l) = A5 m c (ix1 (col (chip t) l))) (p : Fin 512) (l : Fin 704) :
    k0_pay25 (F := Ideal) (BitVec.ofNat 32 (grid0.coords t 0).val) (k0_pay19 (F := Ideal) x v13) (k0_pay20 (F := Ideal) v17 v19) v39 v44 v50 v56 (ix2 p l)
      = act m c (col (chip t) l) (row t p) := by
  have hu : k0_pay20 (F := Ideal) v17 v19 (ix2 p l) = uf m c (col (chip t) l) (row t p) := by
    pointwise [k0_pay20]
    exact Finset.sum_congr rfl fun y _ => congrArg₂ (HMul.hMul : EReal → EReal → EReal) (hm p y) (h19 l y)
  have hc := conv m c t x hx v13 h13 v39 v44 v50 v56 h39 h44 h50 h56 p l
  unfold act
  rw [← hu, ← hc]
  rfl

end Rows

/-- The up projection of the tile. -/
theorem up_out (t : Fin cfg0.N) (v17 : Vec Ideal S512x1024 .bf16) (hm : ∀ p l, v17 (ix2 p l) = xn m c (row t p) l) (v19 : Vec Ideal S1x704x1024 .bf16)
    (h19 : ∀ l y, v19 (ix3 0 l y) = A3 m c (ix2 y (col (chip t) l))) (p : Fin 512) (l : Fin 704) :
    k0_pay22 (F := Ideal) v17 v19 (ix3 0 p l) = uf m c (col (chip t) l) (row t p) := by
  pointwise [k0_pay22, k0_pay20]
  exact Finset.sum_congr rfl fun y _ => congrArg₂ (HMul.hMul : EReal → EReal → EReal) (hm p y) (h19 l y)

/-- What one block of hidden columns adds to a row's state. -/
def part (k : Fin 4) (r : Fin 4096) (y : Fin 1024) : EReal := ∑ l, act m c (col k l) r * A6 m c (ix2 (col k l) y)

theorem down (t : Fin cfg0.N) (v68 : FVec Ideal S512x704 .f32) (v70 : Vec Ideal S512x1024 .f32) (v72 : Vec Ideal S1x704x1024 .bf16)
    (h68 : ∀ p l, v68 (ix2 p l) = act m c (col (chip t) l) (row t p)) (h72 : ∀ l y, v72 (ix3 0 l y) = A6 m c (ix2 (col (chip t) l) y)) (p : Fin 512) (y : Fin 1024) :
    k0_pay1 (F := Ideal) v68 v70 v72 (ix2 p y) = (HAdd.hAdd : EReal → EReal → EReal) (v70 (ix2 p y)) (part m c (chip t) (row t p) y) := by
  pointwise [k0_pay1]
  refine congrArg (fun e : EReal => (v70 (ix2 p y) : EReal) + e) ?_
  exact Finset.sum_congr rfl fun l _ => congrArg₂ (HMul.hMul : EReal → EReal → EReal) (h68 p l) (h72 l y)

theorem off1 : ∀ t : Fin cfg0.N, k0_off1 (grid0.coords t) = ![t.val % 4, 0, 0] := by decide +kernel

theorem emb1 (t : Fin cfg0.N) (o : Fin 3 → ℕ) (ho : o = ![t.val % 4, 0, 0]) (h : ∀ a, o a + ![1, 704, 1024] a ≤ S4x704x1024.size a) (l : Fin 704) (y : Fin 1024) :
    (Rect.unit (s := S4x704x1024) o ![1, 704, 1024] h).idx (ix3 0 l y) = ix3 (chip t) l y := by
  subst ho
  funext a
  refine Fin.ext ?_
  match a with
  | 0 => show t.val % 4 + 1 * 0 = t.val % 4; omega
  | 1 => show 0 + 1 * l.val = l.val; omega
  | 2 => show 0 + 1 * y.val = y.val; omega

/-- The rows of the weights that a point loads. -/
theorem ld3 (t : Fin cfg0.N) (h) (l : Fin 704) (y : Fin 1024) :
    View.ld (iblk m c 3 t) (Rect.unit (s := S4x704x1024) (k0_off1 (grid0.coords t)) ![1, 704, 1024] h) (ix3 0 l y) = A2 m c (ix2 y (col (chip t) l)) := by
  rw [← blk3 m c t (chip t) l y]
  refine congrArg (iblk m c 3 t) (emb1 t _ (off1 t) h l y)

theorem ld4 (t : Fin cfg0.N) (h) (l : Fin 704) (y : Fin 1024) :
    View.ld (iblk m c 4 t) (Rect.unit (s := S4x704x1024) (k0_off1 (grid0.coords t)) ![1, 704, 1024] h) (ix3 0 l y) = A3 m c (ix2 y (col (chip t) l)) := by
  rw [← blk4 m c t (chip t) l y]
  refine congrArg (iblk m c 4 t) (emb1 t _ (off1 t) h l y)

theorem ld5 (t : Fin cfg0.N) (h) (l : Fin 704) (y : Fin 1024) :
    View.ld (iblk m c 5 t) (Rect.unit (s := S4x704x1024) (k0_off1 (grid0.coords t)) ![1, 704, 1024] h) (ix3 0 l y) = A6 m c (ix2 (col (chip t) l) y) := by
  rw [← blk5 m c t (chip t) l y]
  refine congrArg (iblk m c 5 t) (emb1 t _ (off1 t) h l y)

theorem ld6_0 (t : Fin cfg0.N) (l : Fin 704) :
    View.ld (iblk m c 6 t) (Rect.unit ![0, 0, 0] ![1, 1, 704] inb_S1x3x704_S1x1x704_0_0_0) (ix3 0 0 l) = A4 m c (ix2 0 (col (chip t) l)) := by
  rw [← blk6 m c t 0 l]
  refine congrArg (iblk m c 6 t) (funext fun a => Fin.ext ?_)
  match a with
  | 0 => rfl
  | 1 => rfl
  | 2 => show 0 + 1 * l.val = l.val; omega

theorem ld6_1 (t : Fin cfg0.N) (l : Fin 704) :
    View.ld (iblk m c 6 t) (Rect.unit ![0, 1, 0] ![1, 1, 704] inb_S1x3x704_S1x1x704_0_1_0) (ix3 0 0 l) = A4 m c (ix2 1 (col (chip t) l)) := by
  rw [← blk6 m c t 1 l]
  refine congrArg (iblk m c 6 t) (funext fun a => Fin.ext ?_)
  match a with
  | 0 => rfl
  | 1 => rfl
  | 2 => show 0 + 1 * l.val = l.val; omega

theorem ld6_2 (t : Fin cfg0.N) (l : Fin 704) :
    View.ld (iblk m c 6 t) (Rect.unit ![0, 2, 0] ![1, 1, 704] inb_S1x3x704_S1x1x704_0_2_0) (ix3 0 0 l) = A4 m c (ix2 2 (col (chip t) l)) := by
  rw [← blk6 m c t 2 l]
  refine congrArg (iblk m c 6 t) (funext fun a => Fin.ext ?_)
  match a with
  | 0 => rfl
  | 1 => rfl
  | 2 => show 0 + 1 * l.val = l.val; omega

/-- The normed rows of the extended tile and their factor, as the first point of a tile computes them. -/
theorem rows_raw (t : Fin cfg0.N) (e : ℕ) (h : e < 528) (l : Fin 1024) :
    k0_pay12 (F := Ideal) (iblk m c 1 t) (iblk m c 0 t) (ix2 ⟨e, h⟩ l) = A0 m c (ix2 (rowE t e h) l) := by
  pointwise [k0_pay12]
  unfold rowE
  by_cases he : e < 16
  · rw [dif_pos he, dif_pos he]; exact blk1 m c t ⟨e, he⟩ l
  · rw [dif_neg he, dif_neg he]; exact blk0 m c t ⟨e - 16, by omega⟩ l

theorem rows_rs (t : Fin cfg0.N) (e : ℕ) (h : e < 528) (z : Fin 1) :
    k0_pay13 (F := Ideal) (iblk m c 1 t) (iblk m c 0 t) (ix2 ⟨e, h⟩ z) = Step.rs (fun y => A0 m c (ix2 (rowE t e h) y)) := by
  unfold Step.rs Step.ms
  simp only [← rows_raw]
  pointwise [k0_pay13]

theorem rows_xn (t : Fin cfg0.N) (e : ℕ) (h : e < 528) (l : Fin 1024) :
    k0_pay14 (F := Ideal) (iblk m c 1 t) (iblk m c 0 t) (iblk m c 2 t) (ix2 ⟨e, h⟩ l) = xn m c (rowE t e h) l := by
  pointwise [k0_pay14]
  rw [rows_raw, rows_rs, blk2]
  rfl

theorem rowE_hi (t : Fin cfg0.N) (p : Fin 512) (h : 16 + p.val < 528) : rowE t (16 + p.val) h = row t p := by
  unfold rowE
  rw [dif_neg (by omega)]
  exact congrArg (row t) (Fin.ext (by show 16 + p.val - 16 = p.val; omega))

theorem rows_rstd (t : Fin cfg0.N) (p : Fin 512) (z : Fin 1) :
    k0_pay15 (F := Ideal) (iblk m c 1 t) (iblk m c 0 t) (ix2 p z) = Step.rs (fun y => A0 m c (ix2 (row t p) y)) := by
  rw [← rowE_hi t p (by omega), ← rows_rs m c t (16 + p.val) (by omega) 0]
  pointwise [k0_pay15]

end Cert.FfnLossIdeal.Arr
-- ==== Proof.FfnLoss.Points.lean ====
module

public import proofs.«01_k».proof.Proof.FfnLoss.Stage
public import Idealize.ShloMosaic.Lib.Pipeline.ReadBack

@[expose] public section

set_option maxRecDepth 16384

/-! # What the carried arrays hold after each point (the last layer's feed-forward and the loss) -/

noncomputable section

namespace Cert.FfnLossIdeal.Arr

open Cert.FfnLossIdeal Cert.FfnLossIdeal.Gen Idealize.ShloMosaic Idealize.ShloMosaic.TcCoe Idealize.SL.Sem

variable (m : (ℓ : Loc nD τ sig) → Buf (Elt Ideal) ℓ) (c : Dev nD)

/-- The normed rows carried after point `n`, -/
def xs (n : ℕ) (h : n < cfg0.N) : Vec Ideal S528x1024 .bf16 := (outsAt0 m c n h).2.2.2.2.2.2.2.2.2.1

/-- and the running state. -/
def acc (n : ℕ) (h : n < cfg0.N) : Vec Ideal S512x1024 .f32 := (outsAt0 m c n h).2.2.2.2.2.2.2.2.2.2

/-- The tile's own rows, loaded from the extended ones. -/
theorem own (t : Fin cfg0.N) (X : Vec Ideal S528x1024 .bf16) (hx : ∀ e h l, X (ix2 ⟨e, h⟩ l) = xn m c (rowE t e h) l) (p : Fin 512) (l : Fin 1024) :
    View.ld X (Rect.unit ![16, 0] ![512, 1024] inb_S528x1024_S512x1024_16_0) (ix2 p l) = xn m c (row t p) l := by
  rw [← rowE_hi t p (by omega), ← hx]
  refine congrArg X (funext fun a => Fin.ext ?_)
  match a with
  | 0 => show 16 + 1 * p.val = 16 + p.val; omega
  | 1 => show 0 + 1 * l.val = l.val; omega

/-- One block's contribution, from what the point has loaded. -/
theorem step (t : Fin cfg0.N) (X : Vec Ideal S528x1024 .bf16) (hx : ∀ e h l, X (ix2 ⟨e, h⟩ l) = xn m c (rowE t e h) l)
    (C : Vec Ideal S512x1024 .f32) (h) (p : Fin 512) (y : Fin 1024) :
    k0_pay1 (F := Ideal) (k0_pay25 (F := Ideal) (BitVec.ofNat 32 (grid0.coords t 0).val)
        (k0_pay19 (F := Ideal) X (View.ld (iblk m c 3 t) (Rect.unit (s := S4x704x1024) (k0_off1 (grid0.coords t)) ![1, 704, 1024] h)))
        (k0_pay20 (F := Ideal) (View.ld X (Rect.unit ![16, 0] ![512, 1024] inb_S528x1024_S512x1024_16_0))
          (View.ld (iblk m c 4 t) (Rect.unit (s := S4x704x1024) (k0_off1 (grid0.coords t)) ![1, 704, 1024] h)))
        (View.ld (iblk m c 6 t) (Rect.unit ![0, 0, 0] ![1, 1, 704] inb_S1x3x704_S1x1x704_0_0_0)) (View.ld (iblk m c 6 t) (Rect.unit ![0, 1, 0] ![1, 1, 704] inb_S1x3x704_S1x1x704_0_1_0))
        (View.ld (iblk m c 6 t) (Rect.unit ![0, 2, 0] ![1, 1, 704] inb_S1x3x704_S1x1x704_0_2_0)) (iblk m c 7 t)) C
        (View.ld (iblk m c 5 t) (Rect.unit (s := S4x704x1024) (k0_off1 (grid0.coords t)) ![1, 704, 1024] h)) (ix2 p y)
      = (HAdd.hAdd : EReal → EReal → EReal) (C (ix2 p y)) (part m c (chip t) (row t p) y) :=
  down m c t _ C _ (activation m c t X hx _ _ (ld3 m c t h) (ld4 m c t h) _ (own m c t X hx) _ _ _ _ (ld6_0 m c t) (ld6_1 m c t) (ld6_2 m c t) (blk7 m c t)) (ld5 m c t h) p y

theorem xs_first (t : Fin cfg0.N) (h1 : t.val % 4 = 0) : xs m c t.val t.isLt = k0_pay14 (F := Ideal) (iblk m c 1 t) (iblk m c 0 t) (iblk m c 2 t) := by
  unfold xs
  by_cases h0 : t.val % 32 = 0
  · rw [outsAt0_A m c t h0 h1 (by omega) (by omega)]
    frame_out
  · rw [outsAt0_D m c t h0 h1 (by omega) (by omega)]
    frame_out

theorem xs_next (t : Fin cfg0.N) (h1 : ¬t.val % 4 = 0) : xs m c t.val t.isLt = xs m c (t.val - 1) (by omega) := by
  unfold xs
  by_cases h3 : t.val % 4 = 3
  · rw [outsAt0_C m c t (by omega) h1 (by omega) h3]
    rfl
  · rw [outsAt0_B m c t (by omega) h1 (by omega) h3]
    rfl

/-- The first rows of the tile, and the points of one tile, see the same rows. -/
theorem rowE_prev (t : Fin cfg0.N) (h1 : ¬t.val % 4 = 0) (hp : t.val - 1 < cfg0.N) (e : ℕ) (h : e < 528) : rowE ⟨t.val - 1, hp⟩ e h = rowE t e h := by
  have hd : (t.val - 1) / 4 = t.val / 4 := by omega
  unfold rowE row rowP
  simp only [hd]

theorem row_prev (t : Fin cfg0.N) (h1 : ¬t.val % 4 = 0) (hp : t.val - 1 < cfg0.N) (p : Fin 512) : row ⟨t.val - 1, hp⟩ p = row t p := by
  have hd : (t.val - 1) / 4 = t.val / 4 := by omega
  unfold row
  simp only [hd]

theorem xs_eq : ∀ (n : ℕ) (hn : n < cfg0.N) (e : ℕ) (h : e < 528) (l : Fin 1024), xs m c n hn (ix2 ⟨e, h⟩ l) = xn m c (rowE ⟨n, hn⟩ e h) l
  | 0, hn, e, h, l => (congrFun (xs_first m c ⟨0, hn⟩ rfl) _).trans (rows_xn m c ⟨0, hn⟩ e h l)
  | n + 1, hn, e, h, l => by
    by_cases h1 : (n + 1) % 4 = 0
    · exact (congrFun (xs_first m c ⟨n + 1, hn⟩ h1) _).trans (rows_xn m c ⟨n + 1, hn⟩ e h l)
    · exact ((congrFun (xs_next m c ⟨n + 1, hn⟩ h1) _).trans (xs_eq n (by omega) e h l)).trans (congrArg (fun r => xn m c r l) (rowE_prev ⟨n + 1, hn⟩ h1 _ e h))

/-- The rows that a later point of a tile finds. -/
theorem xs_found (t : Fin cfg0.N) (h1 : ¬t.val % 4 = 0) (e : ℕ) (h : e < 528) (l : Fin 1024) :
    (outsAt0 m c (t.val - 1) (by omega)).2.2.2.2.2.2.2.2.2.1 (ix2 ⟨e, h⟩ l) = xn m c (rowE t e h) l :=
  (xs_eq m c (t.val - 1) (by omega) e h l).trans (congrArg (fun r => xn m c r l) (rowE_prev t h1 _ e h))

theorem acc_first (t : Fin cfg0.N) (h1 : t.val % 4 = 0) (p : Fin 512) (y : Fin 1024) :
    acc m c t.val t.isLt (ix2 p y) = (HAdd.hAdd : EReal → EReal → EReal) (A0 m c (ix2 (row t p) y)) (part m c (chip t) (row t p) y) := by
  unfold acc
  have e16 : k0_pay16 (F := Ideal) (iblk m c 0 t) (ix2 p y) = A0 m c (ix2 (row t p) y) := by
    pointwise [k0_pay16]
    exact blk0 m c t p y
  by_cases h0 : t.val % 32 = 0
  · rw [outsAt0_A m c t h0 h1 (by omega) (by omega)]
    frame_out
    simp (disch := decide) only [↓ View.readCov_skip, ↓ View.readCov_cons_toLoadRect, ↓ View.readCov_fill]
    exact (step m c t _ (rows_xn m c t) _ _ p y).trans (by rw [e16])
  · rw [outsAt0_D m c t h0 h1 (by omega) (by omega)]
    frame_out
    simp (disch := decide) only [↓ View.readCov_skip, ↓ View.readCov_cons_toLoadRect, ↓ View.readCov_fill]
    exact (step m c t _ (rows_xn m c t) _ _ p y).trans (by rw [e16])

theorem acc_next (t : Fin cfg0.N) (h1 : ¬t.val % 4 = 0) (p : Fin 512) (y : Fin 1024) :
    acc m c t.val t.isLt (ix2 p y) = (HAdd.hAdd : EReal → EReal → EReal) (acc m c (t.val - 1) (by omega) (ix2 p y)) (part m c (chip t) (row t p) y) := by
  unfold acc
  by_cases h3 : t.val % 4 = 3
  · rw [outsAt0_C m c t (by omega) h1 (by omega) h3]
    frame_out
    simp only [read_unread_whole]
    exact step m c t _ (xs_found m c t h1) _ _ p y
  · rw [outsAt0_B m c t (by omega) h1 (by omega) h3]
    frame_out
    simp only [read_unread_whole]
    exact step m c t _ (xs_found m c t h1) _ _ p y

/-- The state of a row after its first blocks. -/
def accv (r : Fin 4096) (y : Fin 1024) : ℕ → EReal
  | 0 => A0 m c (ix2 r y) + part m c 0 r y
  | n + 1 => accv r y n + part m c ⟨(n + 1) % 4, by omega⟩ r y

theorem acc_eq : ∀ (n : ℕ) (hn : n < cfg0.N) (p : Fin 512) (y : Fin 1024), acc m c n hn (ix2 p y) = accv m c (row ⟨n, hn⟩ p) y (n % 4)
  | 0, hn, p, y => acc_first m c ⟨0, hn⟩ rfl p y
  | n + 1, hn, p, y => by
    by_cases h1 : (n + 1) % 4 = 0
    · refine (acc_first m c ⟨n + 1, hn⟩ h1 p y).trans ?_
      rw [h1, show chip ⟨n + 1, hn⟩ = 0 from Fin.ext h1]
      rfl
    · refine (acc_next m c ⟨n + 1, hn⟩ h1 p y).trans ?_
      rw [show (n + 1) % 4 = n % 4 + 1 by omega]
      refine congrArg₂ (HAdd.hAdd : EReal → EReal → EReal) ((acc_eq n (by omega) p y).trans ?_) ?_
      · exact congrArg (fun r => accv m c r y (n % 4)) (row_prev ⟨n + 1, hn⟩ h1 _ p)
      · exact congrArg (fun k => part m c k (row ⟨n + 1, hn⟩ p) y) (Fin.ext (by show (n + 1) % 4 = (n % 4 + 1) % 4; omega))

/-- The trunk's last state. -/
def h4 (r : Fin 4096) (l : Fin 1024) : EReal := A0 m c (ix2 r l) + ∑ q, act m c q r * A6 m c (ix2 q l)

theorem accv_three (r : Fin 4096) (y : Fin 1024) : accv m c r y 3 = h4 m c r y := by
  unfold h4
  have h : ∑ k : Fin 4, ∑ l : Fin 704, act m c (col k l) r * A6 m c (ix2 (col k l) y) = ∑ q, act m c q r * A6 m c (ix2 q y) := Fin.sum_mul_add_congr (S := 4) (n := 704) (f := fun q : Fin 2816 => act m c q r * A6 m c (ix2 q y))
    (F := fun k l => act m c (col k l) r * A6 m c (ix2 (col k l) y)) fun s k _ => rfl
  refine Eq.trans ?_ (congrArg (fun e => A0 m c (ix2 r y) + e) h)
  rw [Fin.sum_univ_four]
  show A0 m c (ix2 r y) + part m c 0 r y + part m c 1 r y + part m c 2 r y + part m c 3 r y = _
  simp only [← add_assoc]
  rfl

/-- The last point of a tile has the whole state. -/
theorem acc_last (t : Fin cfg0.N) (h3 : t.val % 4 = 3) (p : Fin 512) (y : Fin 1024) : acc m c t.val t.isLt (ix2 p y) = h4 m c (row t p) y := by
  rw [acc_eq, h3, accv_three]

end Cert.FfnLossIdeal.Arr
-- ==== Proof.FfnLoss.Outs.lean ====
module

public import proofs.«01_k».proof.Proof.FfnLoss.Points

@[expose] public section

set_option maxRecDepth 16384

/-! # What each point leaves in the result blocks (the last layer's feed-forward and the loss) -/

noncomputable section

namespace Cert.FfnLossIdeal.Arr

open Cert.FfnLossIdeal Cert.FfnLossIdeal.Gen Idealize.ShloMosaic Idealize.ShloMosaic.TcCoe Idealize.SL.Sem

variable (m : (ℓ : Loc nD τ sig) → Buf (Elt Ideal) ℓ) (c : Dev nD)

/-- The gate projection's block. -/
theorem out16 (t : Fin cfg0.N) (p : Fin 512) (l : Fin 704) : (outsAt0 m c t.val t.isLt).2.2.2.2.2.2.1 (ix3 0 p l) = gf m c (col (chip t) l) (row t p) := by
  by_cases h1 : t.val % 4 = 0
  · by_cases h0 : t.val % 32 = 0
    · rw [outsAt0_A m c t h0 h1 (by omega) (by omega)]
      frame_out
      exact gate_out m c t _ (rows_xn m c t) _ (ld3 m c t _) p l
    · rw [outsAt0_D m c t h0 h1 (by omega) (by omega)]
      frame_out
      exact gate_out m c t _ (rows_xn m c t) _ (ld3 m c t _) p l
  · by_cases h3 : t.val % 4 = 3
    · rw [outsAt0_C m c t (by omega) h1 (by omega) h3]
      frame_out
      simp only [read_unread_whole]
      exact gate_out m c t _ (xs_found m c t h1) _ (ld3 m c t _) p l
    · rw [outsAt0_B m c t (by omega) h1 (by omega) h3]
      frame_out
      simp only [read_unread_whole]
      exact gate_out m c t _ (xs_found m c t h1) _ (ld3 m c t _) p l

/-- The up projection's block. -/
theorem out17 (t : Fin cfg0.N) (p : Fin 512) (l : Fin 704) : (outsAt0 m c t.val t.isLt).2.2.2.2.2.2.2.1 (ix3 0 p l) = uf m c (col (chip t) l) (row t p) := by
  by_cases h1 : t.val % 4 = 0
  · by_cases h0 : t.val % 32 = 0
    · rw [outsAt0_A m c t h0 h1 (by omega) (by omega)]
      frame_out
      simp (disch := decide) only [↓ View.readCov_skip, ↓ View.readCov_cons_toLoadRect, ↓ View.readCov_fill]
      exact up_out m c t _ (own m c t _ (rows_xn m c t)) _ (ld4 m c t _) p l
    · rw [outsAt0_D m c t h0 h1 (by omega) (by omega)]
      frame_out
      simp (disch := decide) only [↓ View.readCov_skip, ↓ View.readCov_cons_toLoadRect, ↓ View.readCov_fill]
      exact up_out m c t _ (own m c t _ (rows_xn m c t)) _ (ld4 m c t _) p l
  · by_cases h3 : t.val % 4 = 3
    · rw [outsAt0_C m c t (by omega) h1 (by omega) h3]
      frame_out
      simp only [read_unread_whole]
      exact up_out m c t _ (own m c t _ (xs_found m c t h1)) _ (ld4 m c t _) p l
    · rw [outsAt0_B m c t (by omega) h1 (by omega) h3]
      frame_out
      simp only [read_unread_whole]
      exact up_out m c t _ (own m c t _ (xs_found m c t h1)) _ (ld4 m c t _) p l

/-- The convolution's block is the convolution of the loaded rows, with a leading axis of one. -/
theorem conv_out (t : Fin cfg0.N) (x : Vec Ideal S528x1024 .bf16) (hx : ∀ e h l, x (ix2 ⟨e, h⟩ l) = xn m c (rowE t e h) l) (h) (p : Fin 512) (l : Fin 704) :
    k0_pay24 (F := Ideal) (BitVec.ofNat 32 (grid0.coords t 0).val)
        (k0_pay19 (F := Ideal) x (View.ld (iblk m c 3 t) (Rect.unit (s := S4x704x1024) (k0_off1 (grid0.coords t)) ![1, 704, 1024] h)))
        (View.ld (iblk m c 6 t) (Rect.unit ![0, 0, 0] ![1, 1, 704] inb_S1x3x704_S1x1x704_0_0_0)) (View.ld (iblk m c 6 t) (Rect.unit ![0, 1, 0] ![1, 1, 704] inb_S1x3x704_S1x1x704_0_1_0))
        (View.ld (iblk m c 6 t) (Rect.unit ![0, 2, 0] ![1, 1, 704] inb_S1x3x704_S1x1x704_0_2_0)) (iblk m c 7 t) (ix3 0 p l) = gcf m c (col (chip t) l) (row t p) := by
  refine Eq.trans ?_ (conv m c t x hx _ (ld3 m c t h) _ _ _ _ (ld6_0 m c t) (ld6_1 m c t) (ld6_2 m c t) (blk7 m c t) p l)
  unfold k0_pay24
  pointwise

/-- The convolution's block. -/
theorem out18 (t : Fin cfg0.N) (p : Fin 512) (l : Fin 704) : (outsAt0 m c t.val t.isLt).2.2.2.2.2.2.2.2.1 (ix3 0 p l) = gcf m c (col (chip t) l) (row t p) := by
  by_cases h1 : t.val % 4 = 0
  · by_cases h0 : t.val % 32 = 0
    · rw [outsAt0_A m c t h0 h1 (by omega) (by omega)]
      frame_out
      exact conv_out m c t _ (rows_xn m c t) _ p l
    · rw [outsAt0_D m c t h0 h1 (by omega) (by omega)]
      frame_out
      exact conv_out m c t _ (rows_xn m c t) _ p l
  · by_cases h3 : t.val % 4 = 3
    · rw [outsAt0_C m c t (by omega) h1 (by omega) h3]
      frame_out
      simp only [read_unread_whole]
      exact conv_out m c t _ (xs_found m c t h1) _ p l
    · rw [outsAt0_B m c t (by omega) h1 (by omega) h3]
      frame_out
      simp only [read_unread_whole]
      exact conv_out m c t _ (xs_found m c t h1) _ p l

/-- The saved rows, stored by the first point of a tile and stored back by the others. -/
theorem out14_first (t : Fin cfg0.N) (h1 : t.val % 4 = 0) (p : Fin 512) (l : Fin 1024) :
    (outsAt0 m c t.val t.isLt).2.2.2.2.1 (ix2 p l) = xn m c (row t p) l := by
  by_cases h0 : t.val % 32 = 0
  · rw [outsAt0_A m c t h0 h1 (by omega) (by omega)]
    frame_out
    simp (disch := decide) only [↓ View.readCov_skip, ↓ View.readCov_cons_toLoadRect, ↓ View.readCov_fill]
    exact own m c t _ (rows_xn m c t) p l
  · rw [outsAt0_D m c t h0 h1 (by omega) (by omega)]
    frame_out
    simp (disch := decide) only [↓ View.readCov_skip, ↓ View.readCov_cons_toLoadRect, ↓ View.readCov_fill]
    exact own m c t _ (rows_xn m c t) p l

theorem back17 (v : Vec Ideal S512x1024 .bf16) : k0_pay17 (F := Ideal) v = v := by
  funext y
  idx_vars y
  pointwise [k0_pay17]

theorem back18 (v : Vec Ideal S512x1 .f32) : k0_pay18 (F := Ideal) v = v := by
  funext y
  idx_vars y
  obtain rfl : y1 = 0 := Subsingleton.elim _ _
  pointwise [k0_pay18]

theorem out14_next (t : Fin cfg0.N) (h1 : ¬t.val % 4 = 0) :
    (outsAt0 m c t.val t.isLt).2.2.2.2.1 = (outsAt0 m c (t.val - 1) (by omega)).2.2.2.2.1 := by
  by_cases h3 : t.val % 4 = 3
  · rw [outsAt0_C m c t (by omega) h1 (by omega) h3]
    frame_out
    exact back17 _
  · rw [outsAt0_B m c t (by omega) h1 (by omega) h3]
    frame_out
    exact back17 _

theorem out14 : ∀ (n : ℕ) (hn : n < cfg0.N) (p : Fin 512) (l : Fin 1024), (outsAt0 m c n hn).2.2.2.2.1 (ix2 p l) = xn m c (row ⟨n, hn⟩ p) l
  | 0, hn, p, l => out14_first m c ⟨0, hn⟩ rfl p l
  | n + 1, hn, p, l => by
    by_cases h1 : (n + 1) % 4 = 0
    · exact out14_first m c ⟨n + 1, hn⟩ h1 p l
    · exact ((congrFun (out14_next m c ⟨n + 1, hn⟩ h1) _).trans (out14 n (by omega) p l)).trans (congrArg (fun r => xn m c r l) (row_prev ⟨n + 1, hn⟩ h1 _ p))

/-- The saved norms' factors, likewise. -/
theorem out15_first (t : Fin cfg0.N) (h1 : t.val % 4 = 0) (p : Fin 512) (z : Fin 1) :
    (outsAt0 m c t.val t.isLt).2.2.2.2.2.1 (ix2 p z) = Step.rs (fun y => A0 m c (ix2 (row t p) y)) := by
  by_cases h0 : t.val % 32 = 0
  · rw [outsAt0_A m c t h0 h1 (by omega) (by omega)]
    frame_out
    exact rows_rstd m c t p z
  · rw [outsAt0_D m c t h0 h1 (by omega) (by omega)]
    frame_out
    exact rows_rstd m c t p z

theorem out15_next (t : Fin cfg0.N) (h1 : ¬t.val % 4 = 0) :
    (outsAt0 m c t.val t.isLt).2.2.2.2.2.1 = (outsAt0 m c (t.val - 1) (by omega)).2.2.2.2.2.1 := by
  by_cases h3 : t.val % 4 = 3
  · rw [outsAt0_C m c t (by omega) h1 (by omega) h3]
    frame_out
    exact back18 _
  · rw [outsAt0_B m c t (by omega) h1 (by omega) h3]
    frame_out
    exact back18 _

theorem out15 : ∀ (n : ℕ) (hn : n < cfg0.N) (p : Fin 512) (z : Fin 1), (outsAt0 m c n hn).2.2.2.2.2.1 (ix2 p z) = Step.rs (fun y => A0 m c (ix2 (row ⟨n, hn⟩ p) y))
  | 0, hn, p, z => out15_first m c ⟨0, hn⟩ rfl p z
  | n + 1, hn, p, z => by
    by_cases h1 : (n + 1) % 4 = 0
    · exact out15_first m c ⟨n + 1, hn⟩ h1 p z
    · exact ((congrFun (out15_next m c ⟨n + 1, hn⟩ h1) _).trans (out15 n (by omega) p z)).trans
        (congrArg (fun r => Step.rs (fun y => A0 m c (ix2 r y))) (row_prev ⟨n + 1, hn⟩ h1 _ p))

end Cert.FfnLossIdeal.Arr
-- ==== Proof.FfnLoss.Last.lean ====
module

public import proofs.«01_k».proof.Proof.FfnLoss.Points

@[expose] public section

set_option maxRecDepth 16384

/-! # The last point of a tile: the final norm, the loss and the gradient that starts the backward pass -/

noncomputable section

namespace Cert.FfnLossIdeal.Arr

open Cert.FfnLossIdeal Cert.FfnLossIdeal.Gen Idealize.ShloMosaic Idealize.ShloMosaic.TcCoe Idealize.SL.Sem

variable (m : (ℓ : Loc nD τ sig) → Buf (Elt Ideal) ℓ) (c : Dev nD)

/-- The difference from the target after the final norm, -/
def err (r : Fin 4096) (l : Fin 1024) : EReal := h4 m c r l * Step.rs (h4 m c r) * A8 m c (ix2 0 l) - A7 m c (ix2 r l)

/-- and what it contributes to the gradient. -/
def dy (r : Fin 4096) (l : Fin 1024) : EReal := err m c r l * Ideal.ofBits .f32 0x3A800000#32

/-- The mean of a row's squared differences. -/
def msq (r : Fin 4096) : EReal := Ideal.div (∑ x, err m c r x * err m c r x) (Ideal.ofBits .f32 0x44800000#32)

section Tile

variable (t : Fin cfg0.N) (C : Vec Ideal S512x1024 .f32) (hC : ∀ p y, C (ix2 p y) = h4 m c (row t p) y)

include hC

theorem pay4 (p : Fin 512) (z : Fin 1) : k0_pay4 (F := Ideal) C (ix2 p z) = Step.rs (h4 m c (row t p)) := by
  unfold Step.rs Step.ms
  simp only [← hC]
  pointwise [k0_pay4]

theorem pay5 (p : Fin 512) (l : Fin 1024) : k0_pay5 (F := Ideal) C (ix2 p l) = h4 m c (row t p) l * Step.rs (h4 m c (row t p)) := by
  pointwise [k0_pay5]
  rw [hC, pay4 m c t C hC]

theorem pay6 (p : Fin 512) (l : Fin 1024) : k0_pay6 (F := Ideal) C (iblk m c 9 t) (iblk m c 8 t) (ix2 p l) = err m c (row t p) l := by
  pointwise [k0_pay6]
  rw [pay5 m c t C hC, blk8, blk9]
  rfl

theorem pay8 (p : Fin 512) (l : Fin 1024) : k0_pay8 (F := Ideal) C (iblk m c 9 t) (iblk m c 8 t) (ix2 p l) = dy m c (row t p) l := by
  pointwise [k0_pay8]
  rw [pay6 m c t C hC]
  rfl

/-- The gradient of the state, -/
theorem pay2 (p : Fin 512) (l : Fin 1024) :
    k0_pay2 (F := Ideal) (k0_pay4 (F := Ideal) C) (k0_pay5 (F := Ideal) C) (k0_pay8 (F := Ideal) C (iblk m c 9 t) (iblk m c 8 t)) (iblk m c 9 t) (ix2 p l)
      = Step.rowK 0 (h4 m c (row t p)) (fun x => A8 m c (ix2 0 x)) (dy m c (row t p)) l := by
  pointwise [k0_pay2]
  simp only [pay4 m c t C hC, pay5 m c t C hC, pay8 m c t C hC, blk9]
  unfold Step.rowK
  rw [zero_add]

/-- what the tile adds to the loss, -/
theorem pay7 (L : Vec Ideal S1x128 .f32) (z : Fin 1) (l : Fin 128) :
    k0_pay7 (F := Ideal) C (iblk m c 9 t) (iblk m c 8 t) L (ix2 z l)
      = (HAdd.hAdd : EReal → EReal → EReal) (L (ix2 z l)) (Ideal.ofBits .f32 0x3F000000#32 * ∑ p, msq m c (row t p)) := by
  obtain rfl : z = 0 := Subsingleton.elim _ _
  pointwise [k0_pay7]
  simp only [pay6 m c t C hC]
  rfl

/-- and to the final gain's gradient. -/
theorem pay9 (L : Vec Ideal S1x1024 .f32) (z : Fin 1) (l : Fin 1024) :
    k0_pay9 (F := Ideal) C (iblk m c 9 t) (iblk m c 8 t) L (ix2 z l)
      = (HAdd.hAdd : EReal → EReal → EReal) (L (ix2 z l)) (∑ p, dy m c (row t p) l * (h4 m c (row t p) l * Step.rs (h4 m c (row t p)))) := by
  obtain rfl : z = 0 := Subsingleton.elim _ _
  pointwise [k0_pay9]
  simp only [pay8 m c t C hC, pay5 m c t C hC]

end Tile

theorem out10 (t : Fin cfg0.N) (h3 : t.val % 4 = 3) (p : Fin 512) (l : Fin 1024) :
    (outsAt0 m c t.val t.isLt).1 (ix2 p l) = Step.rowK 0 (h4 m c (row t p)) (fun x => A8 m c (ix2 0 x)) (dy m c (row t p)) l := by
  have h : (outsAt0 m c t.val t.isLt).1 = k0_pay2 (F := Ideal) (k0_pay4 (F := Ideal) (acc m c t.val t.isLt)) (k0_pay5 (F := Ideal) (acc m c t.val t.isLt))
      (k0_pay8 (F := Ideal) (acc m c t.val t.isLt) (iblk m c 9 t) (iblk m c 8 t)) (iblk m c 9 t) := by
    unfold acc
    rw [outsAt0_C m c t (by omega) (by omega) (by omega) h3]
    frame_out
  rw [h]
  exact pay2 m c t _ (acc_last m c t h3) p l

theorem out11 (t : Fin cfg0.N) (h3 : t.val % 4 = 3) (p : Fin 512) (l : Fin 1024) :
    (outsAt0 m c t.val t.isLt).2.1 (ix2 p l) = Step.rowK 0 (h4 m c (row t p)) (fun x => A8 m c (ix2 0 x)) (dy m c (row t p)) l := by
  have h : (outsAt0 m c t.val t.isLt).2.1 = k0_pay3 (F := Ideal) (k0_pay4 (F := Ideal) (acc m c t.val t.isLt)) (k0_pay5 (F := Ideal) (acc m c t.val t.isLt))
      (k0_pay8 (F := Ideal) (acc m c t.val t.isLt) (iblk m c 9 t) (iblk m c 8 t)) (iblk m c 9 t) := by
    unfold acc
    rw [outsAt0_C m c t (by omega) (by omega) (by omega) h3]
    frame_out
  rw [h]
  exact pay2 m c t _ (acc_last m c t h3) p l

/-- The loss block and the gain's gradient: zero at first, added to by the last point of a tile, kept by the others. -/
theorem loss_zero (h : 0 < cfg0.N) (y) : (outsAt0 m c 0 h).2.2.1 y = (0 : EReal) := by
  rw [outsAt0_A m c ⟨0, h⟩ rfl rfl (Nat.not_succ_le_zero 0) (by simp)]
  frame_out
  unfold k0_pay10
  pointwise

theorem loss_keep (t : Fin cfg0.N) (h0 : ¬t.val % 32 = 0) (h3 : ¬t.val % 4 = 3) : (outsAt0 m c t.val t.isLt).2.2.1 = (outsAt0 m c (t.val - 1) (by omega)).2.2.1 := by
  by_cases h1 : t.val % 4 = 0
  · rw [outsAt0_D m c t h0 h1 (by omega) h3]
    rfl
  · rw [outsAt0_B m c t h0 h1 (by omega) h3]
    rfl

theorem loss_add (t : Fin cfg0.N) (h3 : t.val % 4 = 3) (z : Fin 1) (l : Fin 128) :
    (outsAt0 m c t.val t.isLt).2.2.1 (ix2 z l)
      = (HAdd.hAdd : EReal → EReal → EReal) ((outsAt0 m c (t.val - 1) (by omega)).2.2.1 (ix2 z l)) (Ideal.ofBits .f32 0x3F000000#32 * ∑ p, msq m c (row t p)) := by
  have h : (outsAt0 m c t.val t.isLt).2.2.1 = k0_pay7 (F := Ideal) (acc m c t.val t.isLt) (iblk m c 9 t) (iblk m c 8 t) (outsAt0 m c (t.val - 1) (by omega)).2.2.1 := by
    unfold acc
    rw [outsAt0_C m c t (by omega) (by omega) (by omega) h3]
    frame_out
  rw [h]
  exact pay7 m c t _ (acc_last m c t h3) _ z l

theorem gain_zero (h : 0 < cfg0.N) (y) : (outsAt0 m c 0 h).2.2.2.1 y = (0 : EReal) := by
  rw [outsAt0_A m c ⟨0, h⟩ rfl rfl (Nat.not_succ_le_zero 0) (by simp)]
  frame_out
  unfold k0_pay11
  pointwise

theorem gain_keep (t : Fin cfg0.N) (h0 : ¬t.val % 32 = 0) (h3 : ¬t.val % 4 = 3) : (outsAt0 m c t.val t.isLt).2.2.2.1 = (outsAt0 m c (t.val - 1) (by omega)).2.2.2.1 := by
  by_cases h1 : t.val % 4 = 0
  · rw [outsAt0_D m c t h0 h1 (by omega) h3]
    rfl
  · rw [outsAt0_B m c t h0 h1 (by omega) h3]
    rfl

theorem gain_add (t : Fin cfg0.N) (h3 : t.val % 4 = 3) (z : Fin 1) (l : Fin 1024) :
    (outsAt0 m c t.val t.isLt).2.2.2.1 (ix2 z l)
      = (HAdd.hAdd : EReal → EReal → EReal) ((outsAt0 m c (t.val - 1) (by omega)).2.2.2.1 (ix2 z l)) (∑ p, dy m c (row t p) l * (h4 m c (row t p) l * Step.rs (h4 m c (row t p)))) := by
  have h : (outsAt0 m c t.val t.isLt).2.2.2.1 = k0_pay9 (F := Ideal) (acc m c t.val t.isLt) (iblk m c 9 t) (iblk m c 8 t) (outsAt0 m c (t.val - 1) (by omega)).2.2.2.1 := by
    unfold acc
    rw [outsAt0_C m c t (by omega) (by omega) (by omega) h3]
    frame_out
  rw [h]
  exact pay9 m c t _ (acc_last m c t h3) _ z l

/-- A quantity that starts at zero and is added to at every fourth point is a sum over the tiles. -/
theorem carried (f : (n : ℕ) → n < 32 → EReal) (g : ℕ → EReal) (h0 : f 0 (by omega) = 0)
    (hk : ∀ n (h : n + 1 < 32), ¬(n + 1) % 4 = 3 → f (n + 1) h = f n (by omega)) (ha : ∀ n (h : n + 1 < 32), (n + 1) % 4 = 3 → f (n + 1) h = f n (by omega) + g ((n + 1) / 4)) :
    ∀ n (h : n < 32), f n h = ∑ i ∈ Finset.range ((n + 1) / 4), g i
  | 0, h => by rw [h0]; rfl
  | n + 1, h => by
    by_cases h3 : (n + 1) % 4 = 3
    · rw [ha n h h3, carried f g h0 hk ha n (by omega), show (n + 1 + 1) / 4 = (n + 1) / 4 + 1 by omega, Finset.sum_range_succ]
    · rw [hk n h h3, carried f g h0 hk ha n (by omega), show (n + 1 + 1) / 4 = (n + 1) / 4 by omega]

/-- A tile's part of a sum over the rows. -/
def tile (f : Fin 4096 → EReal) (i : ℕ) : EReal := if h : i < 8 then ∑ p : Fin 512, f ⟨i * 512 + p.val, by omega⟩ else 0

theorem tile_row (f : Fin 4096 → EReal) (t : Fin cfg0.N) : tile f (t.val / 4) = ∑ p, f (row t p) := by
  have h : t.val < 32 := t.isLt
  exact dif_pos (by omega)

theorem tile_all (f : Fin 4096 → EReal) : ∑ i ∈ Finset.range 8, tile f i = ∑ r, f r := by
  have h : ∑ s : Fin 8, ∑ p : Fin 512, f ⟨s.val * 512 + p.val, by omega⟩ = ∑ r, f r := Fin.sum_mul_add_congr (S := 8) (n := 512) (f := f) fun s p _ => rfl
  rw [← h, ← Fin.sum_univ_eq_sum_range (tile f) 8]
  exact Finset.sum_congr rfl fun s _ => dif_pos s.isLt

theorem half_val : Ideal.ofBits .f32 0x3F000000#32 = ((1 / 2 : ℝ) : EReal) := by
  simp [Ideal.ofBits, Ideal.ieee, -EReal.coe_mul]; norm_num

theorem loss_end (h : 31 < cfg0.N) (z : Fin 1) (l : Fin 128) : (outsAt0 m c 31 h).2.2.1 (ix2 z l) = Ideal.ofBits .f32 0x3F000000#32 * ∑ r, msq m c r := by
  refine (carried (fun n hn => (outsAt0 m c n hn).2.2.1 (ix2 z l)) (fun i => Ideal.ofBits .f32 0x3F000000#32 * tile (msq m c) i) (loss_zero m c _ _)
    (fun n hn h3 => congrFun (loss_keep m c ⟨n + 1, hn⟩ (by show ¬(n + 1) % 32 = 0; omega) h3) _) (fun n hn h3 => ?_) 31 h).trans ?_
  · rw [tile_row (msq m c) ⟨n + 1, hn⟩]
    exact loss_add m c ⟨n + 1, hn⟩ h3 z l
  · rw [half_val, ← tile_all (msq m c), Step.mul_sum_nonneg _ _ (by norm_num)]

theorem gain_end (h : 31 < cfg0.N) (z : Fin 1) (l : Fin 1024) :
    (outsAt0 m c 31 h).2.2.2.1 (ix2 z l) = ∑ r, dy m c r l * (h4 m c r l * Step.rs (h4 m c r)) := by
  refine (carried (fun n hn => (outsAt0 m c n hn).2.2.2.1 (ix2 z l)) (fun i => tile (fun r => dy m c r l * (h4 m c r l * Step.rs (h4 m c r))) i) (gain_zero m c _ _)
    (fun n hn h3 => congrFun (gain_keep m c ⟨n + 1, hn⟩ (by show ¬(n + 1) % 32 = 0; omega) h3) _) (fun n hn h3 => ?_) 31 h).trans ?_
  · rw [tile_row _ ⟨n + 1, hn⟩]
    exact gain_add m c ⟨n + 1, hn⟩ h3 z l
  · exact tile_all _

end Cert.FfnLossIdeal.Arr
-- ==== Proof.FfnLoss.Array.lean ====
module

public import proofs.«01_k».proof.Proof.FfnLoss.Outs
public import proofs.«01_k».proof.Proof.FfnLoss.Last

@[expose] public section

set_option maxRecDepth 16384

/-! # What the nine result arrays hold (the last layer's feed-forward and the loss) -/

noncomputable section

namespace Cert.FfnLossIdeal.Arr

open Cert.FfnLossIdeal Cert.FfnLossIdeal.Gen Idealize.ShloMosaic Idealize.ShloMosaic.TcCoe Idealize.SL.Sem

variable (m : (ℓ : Loc nD τ sig) → Buf (Elt Ideal) ℓ) (c : Dev nD)

/-- A tile's blocks are written back by its last point. -/
theorem flushed : ∀ t : Fin cfg0.N, ((cfg0.win 10).flush t = true ∨ (cfg0.win 11).flush t = true) → t.val % 4 = 3 := by decide +kernel

theorem arr10 : (dats m 0 c).arrAt 10 cfg0.N = fun i => Step.rowK 0 (h4 m c (i 0)) (fun x => A8 m c (ix2 0 x)) (dy m c (i 0)) (i 1) := by
  refine (dats m 0 c).arrAt_eq_of_covers 10 _ (by decide +kernel) fun t hf y => ?_
  blk_simp
  rw [after0_10]
  idx_vars y
  have e0 : (((View.whole main_v11_0).slice (win0_10.rect t)).emb (ix2 y0 y1)) = ix2 (row t y0) y1 := by
    unfold row
    blk_ext [idx t]
  rw [e0]
  exact out10 m c t (flushed t (.inl hf)) y0 y1

theorem arr11 : (dats m 0 c).arrAt 11 cfg0.N = fun i => Step.rowK 0 (h4 m c (i 0)) (fun x => A8 m c (ix2 0 x)) (dy m c (i 0)) (i 1) := by
  refine (dats m 0 c).arrAt_eq_of_covers 11 _ (by decide +kernel) fun t hf y => ?_
  blk_simp
  rw [after0_11]
  idx_vars y
  have e0 : (((View.whole main_v11_1).slice (win0_11.rect t)).emb (ix2 y0 y1)) = ix2 (row t y0) y1 := by
    unfold row
    blk_ext [idx t]
  rw [e0]
  exact out11 m c t (flushed t (.inr hf)) y0 y1

theorem arr14 : (dats m 0 c).arrAt 14 cfg0.N = fun i => xn m c (i 0) (i 1) := by
  refine (dats m 0 c).arrAt_eq_of_covers 14 _ (by decide +kernel) fun t hf y => ?_
  blk_simp
  rw [after0_14]
  idx_vars y
  have e0 : (((View.whole main_v11_4).slice (win0_14.rect t)).emb (ix2 y0 y1)) = ix2 (row t y0) y1 := by
    unfold row
    blk_ext [idx t]
  rw [e0]
  exact out14 m c t.val t.isLt y0 y1

theorem arr15 : (dats m 0 c).arrAt 15 cfg0.N = fun i => Step.rs (fun y => A0 m c (ix2 (i 0) y)) := by
  refine (dats m 0 c).arrAt_eq_of_covers 15 _ (by decide +kernel) fun t hf y => ?_
  blk_simp
  rw [after0_15]
  idx_vars y
  have e0 : (((View.whole main_v11_5).slice (win0_15.rect t)).emb (ix2 y0 y1)) = ix2 (row t y0) y1 := by
    unfold row
    blk_ext [idx t]
  rw [e0]
  exact out15 m c t.val t.isLt y0 y1

theorem arr16 : (dats m 0 c).arrAt 16 cfg0.N = fun i => gf m c (col (i 0) (i 2)) (i 1) := by
  refine (dats m 0 c).arrAt_eq_of_covers 16 _ (by decide +kernel) fun t hf y => ?_
  blk_simp
  rw [after0_16]
  idx_vars y
  obtain rfl : y0 = 0 := Subsingleton.elim _ _
  have e0 : (((View.whole main_v11_6).slice (win0_16.rect t)).emb (ix3 0 y1 y2)) = ix3 (chip t) (row t y1) y2 := by
    unfold row chip
    blk_ext [idx t]
  rw [e0]
  exact out16 m c t y1 y2

theorem arr17 : (dats m 0 c).arrAt 17 cfg0.N = fun i => uf m c (col (i 0) (i 2)) (i 1) := by
  refine (dats m 0 c).arrAt_eq_of_covers 17 _ (by decide +kernel) fun t hf y => ?_
  blk_simp
  rw [after0_17]
  idx_vars y
  obtain rfl : y0 = 0 := Subsingleton.elim _ _
  have e0 : (((View.whole main_v11_7).slice (win0_17.rect t)).emb (ix3 0 y1 y2)) = ix3 (chip t) (row t y1) y2 := by
    unfold row chip
    blk_ext [idx t]
  rw [e0]
  exact out17 m c t y1 y2

theorem arr18 : (dats m 0 c).arrAt 18 cfg0.N = fun i => gcf m c (col (i 0) (i 2)) (i 1) := by
  refine (dats m 0 c).arrAt_eq_of_covers 18 _ (by decide +kernel) fun t hf y => ?_
  blk_simp
  rw [after0_18]
  idx_vars y
  obtain rfl : y0 = 0 := Subsingleton.elim _ _
  have e0 : (((View.whole main_v11_8).slice (win0_18.rect t)).emb (ix3 0 y1 y2)) = ix3 (chip t) (row t y1) y2 := by
    unfold row chip
    blk_ext [idx t]
  rw [e0]
  exact out18 m c t y1 y2

/-- The last point. -/
def last : Fin cfg0.N := ⟨31, by decide⟩

theorem arr12 : (dats m 0 c).arrAt 12 cfg0.N = fun i => Ideal.ofBits .f32 0x3F000000#32 * ∑ r, msq m c r := by
  refine (dats m 0 c).arrAt_eq_of_after_last 12 last (by decide +kernel) _ fun j => ?_
  blk_simp
  rw [after0_12]
  idx_vars j
  exact loss_end m c last.isLt j0 j1

theorem arr13 : (dats m 0 c).arrAt 13 cfg0.N = fun i => ∑ r, dy m c r (i 1) * (h4 m c r (i 1) * Step.rs (h4 m c r)) := by
  refine (dats m 0 c).arrAt_eq_of_after_last 13 last (by decide +kernel) _ fun j => ?_
  blk_simp
  rw [after0_13]
  idx_vars j
  exact gain_end m c last.isLt j0 j1

/-- The program ends with the nine results at the arrays above and its nine arguments as they were. -/
theorem run (ρ : Dev nD → PrngReg) : θ_run defs (onTc (τ := τ) (main (F := Ideal))) ⟨m, fun _ => 0, ρ⟩ fun r => ∀ c : Dev nD,
    r.2.mem ((c : Thread nD τ).loc main_v11_0) = (dats m 0 c).arrAt 10 cfg0.N
      ∧ r.2.mem ((c : Thread nD τ).loc main_v11_1) = (dats m 0 c).arrAt 11 cfg0.N
      ∧ r.2.mem ((c : Thread nD τ).loc main_v11_2) = (dats m 0 c).arrAt 12 cfg0.N
      ∧ r.2.mem ((c : Thread nD τ).loc main_v11_3) = (dats m 0 c).arrAt 13 cfg0.N
      ∧ r.2.mem ((c : Thread nD τ).loc main_v11_4) = (dats m 0 c).arrAt 14 cfg0.N
      ∧ r.2.mem ((c : Thread nD τ).loc main_v11_5) = (dats m 0 c).arrAt 15 cfg0.N
      ∧ r.2.mem ((c : Thread nD τ).loc main_v11_6) = (dats m 0 c).arrAt 16 cfg0.N
      ∧ r.2.mem ((c : Thread nD τ).loc main_v11_7) = (dats m 0 c).arrAt 17 cfg0.N
      ∧ r.2.mem ((c : Thread nD τ).loc main_v11_8) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 10,
    (h c).1 11,
    (h c).1 12,
    (h c).1 13,
    (h c).1 14,
    (h c).1 15,
    (h c).1 16,
    (h c).1 17,
    (h c).1 18,
    ((h c).1 1).trans (((dats m 0 c).arrAt_in 1 rfl _).trans ((A_eq m c 1).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 8).trans (((dats m 0 c).arrAt_in 8 rfl _).trans ((A_eq m c 8).trans (V_main_arg7 m c))),
    ((h c).1 9).trans (((dats m 0 c).arrAt_in 9 rfl _).trans ((A_eq m c 9).trans (V_main_arg8 m c)))⟩) (run_main m ρ)

end Cert.FfnLossIdeal.Arr
-- ==== Proof.FfnLoss.Ref.lean ====
module

public import proofs.«01_k».proof.Proof.Gen.FfnLossRefIdeal.Read
public import proofs.«01_k».proof.Proof.HostReads

@[expose] public section

set_option maxRecDepth 16384

/-! # What the reference computes, entry by entry (the last layer's feed-forward and the loss) -/

noncomputable section

namespace Cert.FfnLossRefIdeal.Read

open Cert.FfnLossRefIdeal Idealize.ShloMosaic Idealize.ShloMosaic.TcCoe Idealize.SL.Sem

section Defs

variable (x0 : Vec Ideal S4096x1024 .f32) (x1 : Vec Ideal S1x1024 .f32) (x2 x3 : Vec Ideal S1024x2816 .f32) (x4 : Vec Ideal S3x2816 .f32)
  (x5 : Vec Ideal S2816 .f32) (x6 : Vec Ideal S2816x1024 .f32) (x7 : Vec Ideal S4096x1024 .f32) (x8 : Vec Ideal S1x1024 .f32)

/-- Hidden column `l` of block `k`. -/
def col (k : Fin 4) (l : Fin 704) : Fin 2816 := ⟨k.val * 704 + l.val, by omega⟩

/-- The normalised input. -/
def xn (r : Fin 4096) (l : Fin 1024) : EReal := x0 (ix2 r l) * Step.rs (fun y => x0 (ix2 r y)) * x1 (ix2 0 l)

/-- A projection of it: the gate's or the up one. -/
def gf (q : Fin 2816) (r : Fin 4096) : EReal := ∑ x, xn x0 x1 r x * x2 (ix2 x q)

/-- The causal convolution of the gate projection, with its bias. -/
def gcf (q : Fin 2816) (r : Fin 4096) : EReal :=
  Step.back (gf x0 x1 x2 q) r.val 2 * x4 (ix2 0 q) + Step.back (gf x0 x1 x2 q) r.val 1 * x4 (ix2 1 q) + Step.back (gf x0 x1 x2 q) r.val 0 * x4 (ix2 2 q)
    + x5 (ix1 q)

/-- The activation. -/
def act (q : Fin 2816) (r : Fin 4096) : EReal := gcf x0 x1 x2 x4 x5 q r * Ideal.logistic (gcf x0 x1 x2 x4 x5 q r) * gf x0 x1 x3 q r

/-- The trunk's last state. -/
def h4 (r : Fin 4096) (l : Fin 1024) : EReal := x0 (ix2 r l) + ∑ q, act x0 x1 x2 x3 x4 x5 q r * x6 (ix2 q l)

/-- Its difference from the target after the final norm, -/
def err (r : Fin 4096) (l : Fin 1024) : EReal :=
  h4 x0 x1 x2 x3 x4 x5 x6 r l * Step.rs (h4 x0 x1 x2 x3 x4 x5 x6 r) * x8 (ix2 0 l) - x7 (ix2 r l)

/-- and what that difference contributes to the gradient. -/
def dy (r : Fin 4096) (l : Fin 1024) : EReal := err x0 x1 x2 x3 x4 x5 x6 x7 x8 r l * Ideal.ofBits .f32 0x3A800000#32

end Defs

theorem ofBits_inv1024 : Ideal.ofBits .f32 0x3A800000#32 = ((1 / 1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The derivative of half the mean square: half of a 1024th of twice the entry is a 1024th of it. -/
theorem half_mean_sq (e : EReal) :
    Ideal.div (Ideal.ofBits .f32 0x3F000000#32) (Ideal.ofBits .f32 0x44800000#32) * (Ideal.ofBits .f32 0x40000000#32 * e)
      = e * Ideal.ofBits .f32 0x3A800000#32 := by
  rw [ofBits_half, Step.ofBits_1024, ofBits_two, ofBits_inv1024, Ideal.div_coe (by norm_num), ← EReal.coe_mul, ← mul_assoc,
    ← EReal.coe_mul, mul_comm]
  congr 2
  norm_num

theorem r13 (x0 : Vec Ideal S4096x1024 .f32) (x1 : Vec Ideal S1x1024 .f32) (r : Fin 4096) (l : Fin 1024) :
    val_main_v13 (F := Ideal) x0 x1 (ix2 r l) = xn x0 x1 r l := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

theorem r14 (x0 : Vec Ideal S4096x1024 .f32) (x1 : Vec Ideal S1x1024 .f32) (x2 : Vec Ideal S1024x2816 .f32) (r : Fin 4096) (q : Fin 2816) :
    val_main_v14 (F := Ideal) x0 x1 x2 (ix2 r q) = gf x0 x1 x2 q r := by
  pointwise [val_main_v14]
  simp only [r13]; rfl

theorem r15 (x0 : Vec Ideal S4096x1024 .f32) (x1 : Vec Ideal S1x1024 .f32) (x3 : Vec Ideal S1024x2816 .f32) (r : Fin 4096) (q : Fin 2816) :
    val_main_v15 (F := Ideal) x0 x1 x3 (ix2 r q) = gf x0 x1 x3 q r := by
  pointwise [val_main_v15]
  simp only [r13]; rfl

theorem r18 (x0 : Vec Ideal S4096x1024 .f32) (x1 : Vec Ideal S1x1024 .f32) (x2 : Vec Ideal S1024x2816 .f32) (r : Fin 4096) (q : Fin 2816) :
    val_main_v18 (F := Ideal) x0 x1 x2 (ix2 r q) = Step.back (gf x0 x1 x2 q) r.val 2 := by
  pointwise [val_main_v18, val_main_v17, val_main_v16, val_main_cst_2]
  rw [← Step.back_dif _ r (r.val) 2 2 (by omega) (fun _ => by omega)]
  exact dite_congr rfl (fun _ => rfl) fun h => r14 x0 x1 x2 _ q

theorem r24 (x0 : Vec Ideal S4096x1024 .f32) (x1 : Vec Ideal S1x1024 .f32) (x2 : Vec Ideal S1024x2816 .f32) (r : Fin 4096) (q : Fin 2816) :
    val_main_v24 (F := Ideal) x0 x1 x2 (ix2 r q) = Step.back (gf x0 x1 x2 q) r.val 1 := by
  pointwise [val_main_v24, val_main_v17, val_main_v16, val_main_cst_2]
  rw [← Step.back_dif _ r (1 + r.val) 2 1 (by omega) (fun _ => by omega)]
  exact dite_congr rfl (fun _ => rfl) fun h => r14 x0 x1 x2 _ q

theorem r31 (x0 : Vec Ideal S4096x1024 .f32) (x1 : Vec Ideal S1x1024 .f32) (x2 : Vec Ideal S1024x2816 .f32) (r : Fin 4096) (q : Fin 2816) :
    val_main_v31 (F := Ideal) x0 x1 x2 (ix2 r q) = Step.back (gf x0 x1 x2 q) r.val 0 := by
  pointwise [val_main_v31, val_main_v17, val_main_v16, val_main_cst_2]
  exact (r14 x0 x1 x2 r q).trans (Step.back_zero (gf x0 x1 x2 q) r).symm

theorem r40 (x0 : Vec Ideal S4096x1024 .f32) (x1 : Vec Ideal S1x1024 .f32) (x2 : Vec Ideal S1024x2816 .f32) (x4 : Vec Ideal S3x2816 .f32) (x5 : Vec Ideal S2816 .f32) (r : Fin 4096) (q : Fin 2816) :
    val_main_v40 (F := Ideal) x0 x1 x2 x4 x5 (ix2 r q) = gcf x0 x1 x2 x4 x5 q r := by
  pointwise [val_main_v40, val_main_v37, val_main_v30, val_main_v23, val_main_v22, val_main_v21, val_main_v20, val_main_v19, val_main_v29, val_main_v28, val_main_v27, val_main_v26, val_main_v25, val_main_v36, val_main_v35, val_main_v34, val_main_v33, val_main_v32, val_main_v39, val_main_v38]
  rw [r18, r24, r31]; rfl

theorem r117 (x0 : Vec Ideal S4096x1024 .f32) (x1 : Vec Ideal S1x1024 .f32) (x2 : Vec Ideal S1024x2816 .f32) (r : Fin 4096) (q : Fin 2816) :
    val_main_v117 (F := Ideal) x0 x1 x2 (ix2 r q) = Step.back (gf x0 x1 x2 q) r.val 2 := by
  pointwise [val_main_v117, val_main_v116, val_main_v115, val_main_cst_23]
  rw [← Step.back_dif _ r (r.val) 2 2 (by omega) (fun _ => by omega)]
  exact dite_congr rfl (fun _ => rfl) fun h => r14 x0 x1 x2 _ q

theorem r123 (x0 : Vec Ideal S4096x1024 .f32) (x1 : Vec Ideal S1x1024 .f32) (x2 : Vec Ideal S1024x2816 .f32) (r : Fin 4096) (q : Fin 2816) :
    val_main_v123 (F := Ideal) x0 x1 x2 (ix2 r q) = Step.back (gf x0 x1 x2 q) r.val 1 := by
  pointwise [val_main_v123, val_main_v116, val_main_v115, val_main_cst_23]
  rw [← Step.back_dif _ r (1 + r.val) 2 1 (by omega) (fun _ => by omega)]
  exact dite_congr rfl (fun _ => rfl) fun h => r14 x0 x1 x2 _ q

theorem r130 (x0 : Vec Ideal S4096x1024 .f32) (x1 : Vec Ideal S1x1024 .f32) (x2 : Vec Ideal S1024x2816 .f32) (r : Fin 4096) (q : Fin 2816) :
    val_main_v130 (F := Ideal) x0 x1 x2 (ix2 r q) = Step.back (gf x0 x1 x2 q) r.val 0 := by
  pointwise [val_main_v130, val_main_v116, val_main_v115, val_main_cst_23]
  exact (r14 x0 x1 x2 r q).trans (Step.back_zero (gf x0 x1 x2 q) r).symm

theorem r139 (x0 : Vec Ideal S4096x1024 .f32) (x1 : Vec Ideal S1x1024 .f32) (x2 : Vec Ideal S1024x2816 .f32) (x4 : Vec Ideal S3x2816 .f32) (x5 : Vec Ideal S2816 .f32) (r : Fin 4096) (q : Fin 2816) :
    val_main_v139 (F := Ideal) x0 x1 x2 x4 x5 (ix2 r q) = gcf x0 x1 x2 x4 x5 q r := by
  pointwise [val_main_v139, val_main_v136, val_main_v129, val_main_v122, val_main_v121, val_main_v120, val_main_v119, val_main_v118, val_main_v128, val_main_v127, val_main_v126, val_main_v125, val_main_v124, val_main_v135, val_main_v134, val_main_v133, val_main_v132, val_main_v131, val_main_v138, val_main_v137]
  rw [r117, r123, r130]; rfl

theorem r41 (x0 : Vec Ideal S4096x1024 .f32) (x1 : Vec Ideal S1x1024 .f32) (x2 : Vec Ideal S1024x2816 .f32) (x4 : Vec Ideal S3x2816 .f32) (x5 : Vec Ideal S2816 .f32) (r : Fin 4096) (q : Fin 2816) :
    val_main_v41 (F := Ideal) x0 x1 x2 x4 x5 (ix2 r q) = gcf x0 x1 x2 x4 x5 q r * Ideal.logistic (gcf x0 x1 x2 x4 x5 q r) := by
  pointwise [val_main_v41, val_main_call0_v5, val_main_call0_v4, val_main_call0_cst_0, val_main_call0_v3, val_main_call0_v2, val_main_call0_cst, val_main_call0_v1, val_main_call0_v0]
  rw [r40]; rfl

theorem r42 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (r : Fin 4096) (q : Fin 2816) :
    val_main_v42 (F := Ideal) x0 x1 x2 x3 x4 x5 (ix2 r q) = act x0 x1 x2 x3 x4 x5 q r := by
  pointwise [val_main_v42]
  rw [r41, r15]; rfl

theorem r44 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (x6 : Vec Ideal S2816x1024 .f32) (r : Fin 4096) (l : Fin 1024) :
    val_main_v44 (F := Ideal) x0 x1 x2 x3 x4 x5 x6 (ix2 r l) = h4 x0 x1 x2 x3 x4 x5 x6 r l := by
  pointwise [val_main_v44, val_main_v43]
  simp only [r42]; rfl

theorem r53 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (x6 : Vec Ideal S2816x1024 .f32) (r : Fin 4096) (z : Fin 1) :
    val_main_v53 (F := Ideal) x0 x1 x2 x3 x4 x5 x6 (ix2 r z) = Step.rs (h4 x0 x1 x2 x3 x4 x5 x6 r) := by
  pointwise [val_main_v46, val_main_v47, val_main_v48, val_main_v49, val_main_v50, val_main_v51, val_main_v52, val_main_v53, val_main_cst_3, val_main_cst_4, val_main_cst_5]
  simp only [r44]; rfl

theorem r52 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (x6 : Vec Ideal S2816x1024 .f32) (r : Fin 4096) (z : Fin 1) :
    val_main_v52 (F := Ideal) x0 x1 x2 x3 x4 x5 x6 (ix2 r z) = Step.ms (h4 x0 x1 x2 x3 x4 x5 x6 r) := by
  pointwise [val_main_v46, val_main_v47, val_main_v48, val_main_v49, val_main_v50, val_main_v51, val_main_v52, val_main_cst_3, val_main_cst_4, val_main_cst_5]
  simp only [r44]; rfl

theorem r62 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (x8 : Vec Ideal S1x1024 .f32) (r : Fin 4096) (l : Fin 1024) :
    val_main_v62 (F := Ideal) x0 x1 x2 x3 x4 x5 x6 x7 x8 (ix2 r l) = err x0 x1 x2 x3 x4 x5 x6 x7 x8 r l := by
  pointwise [val_main_v62, val_main_v61, val_main_v60, val_main_v59, val_main_v45, val_main_v58, val_main_v57]
  rw [r44, r53]; rfl

theorem r76 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (x8 : Vec Ideal S1x1024 .f32) (r : Fin 4096) (l : Fin 1024) :
    val_main_v76 (F := Ideal) x0 x1 x2 x3 x4 x5 x6 x7 x8 (ix2 r l) = dy x0 x1 x2 x3 x4 x5 x6 x7 x8 r l := by
  pointwise [val_main_v71, val_main_v72, val_main_v73, val_main_v74, val_main_v75, val_main_v76, val_main_v65, val_main_v64, val_main_cst_7, val_main_cst_12, val_main_cst_13, val_main_cst_14]
  rw [r62]
  exact half_mean_sq _

/-- The gradient with respect to the last state. -/
theorem r96 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (x8 : Vec Ideal S1x1024 .f32) (r : Fin 4096) (l : Fin 1024) :
    val_main_v96 (F := Ideal) x0 x1 x2 x3 x4 x5 x6 x7 x8 (ix2 r l) = Step.rowR 0 (h4 x0 x1 x2 x3 x4 x5 x6 r) (fun x => x8 (ix2 0 x)) (dy x0 x1 x2 x3 x4 x5 x6 x7 x8 r) l := by
  pointwise [val_main_v96, val_main_v95, val_main_v94, val_main_v93, val_main_v92, val_main_v91, val_main_v90, val_main_v89, val_main_v88, val_main_v87, val_main_v86, val_main_v85, val_main_v84, val_main_v83, val_main_v81, val_main_v80, val_main_v59, val_main_v45, val_main_v56, val_main_v55, val_main_v54, val_main_cst_6, val_main_cst_17, val_main_cst_18, val_main_cst_19]
  simp only [Fin.sum_univ_one, r44, r53, r52, r76]
  unfold Step.rowR
  rw [zero_add]
  rfl

/-- Its bf16 copy is the same array over the extended reals. -/
theorem r105 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (x8 : Vec Ideal S1x1024 .f32) (r : Fin 4096) (l : Fin 1024) :
    val_main_v105 (F := Ideal) x0 x1 x2 x3 x4 x5 x6 x7 x8 (ix2 r l) = Step.rowR 0 (h4 x0 x1 x2 x3 x4 x5 x6 r) (fun x => x8 (ix2 0 x)) (dy x0 x1 x2 x3 x4 x5 x6 x7 x8 r) l := by
  exact r96 x0 x1 x2 x3 x4 x5 x6 x7 x8 r l

/-- The loss. -/
theorem r106 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (x8 : Vec Ideal S1x1024 .f32) (z : Fin 1) (l : Fin 128) :
    val_main_v106 (F := Ideal) x0 x1 x2 x3 x4 x5 x6 x7 x8 (ix2 z l) = Ideal.ofBits .f32 0x3F000000#32 * ∑ r, Ideal.div (∑ x, err x0 x1 x2 x3 x4 x5 x6 x7 x8 r x * err x0 x1 x2 x3 x4 x5 x6 x7 x8 r x) (Ideal.ofBits .f32 0x44800000#32) := by
  pointwise [val_main_v106, val_main_v70, val_main_v69, val_main_v68, val_main_v67, val_main_v66, val_main_v63, val_main_cst_8, val_main_cst_9, val_main_cst_10, val_main_cst_11]
  simp only [r62]

/-- The gradient with respect to the final gain. -/
theorem r107 (x0 : Vec Ideal S4096x1024 .f32) (x1 : Vec Ideal S1x1024 .f32) (x2 : Vec Ideal S1024x2816 .f32) (x3 : Vec Ideal S1024x2816 .f32) (x4 : Vec Ideal S3x2816 .f32) (x5 : Vec Ideal S2816 .f32) (x6 : Vec Ideal S2816x1024 .f32) (x7 : Vec Ideal S4096x1024 .f32) (x8 : Vec Ideal S1x1024 .f32) (z : Fin 1) (l : Fin 1024) :
    val_main_v107 (F := Ideal) x0 x1 x2 x3 x4 x5 x6 x7 x8 (ix2 z l) = ∑ r, dy x0 x1 x2 x3 x4 x5 x6 x7 x8 r l * (h4 x0 x1 x2 x3 x4 x5 x6 r l * Step.rs (h4 x0 x1 x2 x3 x4 x5 x6 r)) := by
  pointwise [val_main_v107, val_main_v82, val_main_v79, val_main_v78, val_main_v77, val_main_v58, val_main_v57, val_main_cst_15, val_main_cst_16]
  simp only [Fin.sum_univ_one, r44, r53, r76]
  exact Finset.sum_congr rfl fun r _ => mul_comm _ _

/-- The saved values: the normed rows, their factor, the projections and the convolved gate. -/
theorem r108 (x0 : Vec Ideal S4096x1024 .f32) (x1 : Vec Ideal S1x1024 .f32) (r : Fin 4096) (l : Fin 1024) :
    val_main_v108 (F := Ideal) x0 x1 (ix2 r l) = xn x0 x1 r l := by
  exact r13 x0 x1 r l

theorem r104 (x0 : Vec Ideal S4096x1024 .f32) (r : Fin 4096) (z : Fin 1) :
    val_main_v104 (F := Ideal) x0 (ix2 r z) = Step.rs (fun y => x0 (ix2 r y)) := by
  pointwise [val_main_v97, val_main_v98, val_main_v99, val_main_v100, val_main_v101, val_main_v102, val_main_v103, val_main_v104, val_main_cst_20, val_main_cst_21, val_main_cst_22]
  rfl

theorem r111 (x0 : Vec Ideal S4096x1024 .f32) (x1 : Vec Ideal S1x1024 .f32) (x2 : Vec Ideal S1024x2816 .f32) (k : Fin 4) (r : Fin 4096) (l : Fin 704) :
    val_main_v111 (F := Ideal) x0 x1 x2 (ix3 k r l) = gf x0 x1 x2 (col k l) r := by
  pointwise [val_main_v111, val_main_v110, val_main_v109]
  exact r14 x0 x1 x2 r (col k l)

theorem r114 (x0 : Vec Ideal S4096x1024 .f32) (x1 : Vec Ideal S1x1024 .f32) (x3 : Vec Ideal S1024x2816 .f32) (k : Fin 4) (r : Fin 4096) (l : Fin 704) :
    val_main_v114 (F := Ideal) x0 x1 x3 (ix3 k r l) = gf x0 x1 x3 (col k l) r := by
  pointwise [val_main_v114, val_main_v113, val_main_v112]
  exact r15 x0 x1 x3 r (col k l)

theorem r142 (x0 : Vec Ideal S4096x1024 .f32) (x1 : Vec Ideal S1x1024 .f32) (x2 : Vec Ideal S1024x2816 .f32) (x4 : Vec Ideal S3x2816 .f32) (x5 : Vec Ideal S2816 .f32) (k : Fin 4) (r : Fin 4096) (l : Fin 704) :
    val_main_v142 (F := Ideal) x0 x1 x2 x4 x5 (ix3 k r l) = gcf x0 x1 x2 x4 x5 (col k l) r := by
  pointwise [val_main_v142, val_main_v141, val_main_v140]
  exact r139 x0 x1 x2 x4 x5 r (col k l)

end Cert.FfnLossRefIdeal.Read
-- ==== Proof.FfnLoss.Claim.lean ====
module

public import proofs.«01_k».proof.Defs
public import proofs.«01_k».proof.Proof.Gen.FfnLossIdeal
public import proofs.«01_k».proof.Proof.Gen.FfnLossRefIdeal
public import proofs.«01_k».proof.Proof.FfnLoss.Array
public import proofs.«01_k».proof.Proof.FfnLoss.Ref

@[expose] public section

set_option maxRecDepth 16384

/-! # The last layer's feed-forward, the final norm and the loss: the kernel's nine results are the reference's -/

noncomputable section

namespace Cert.FfnLossTie

open Idealize.ShloMosaic Idealize.ShloMosaic.TcCoe Idealize.SL.Sem

section Same

open Cert.FfnLossIdeal Cert.FfnLossIdeal.Arr

variable (m : (ℓ : Loc nD τ sig) → Buf (Elt Ideal) ℓ) (c : Dev nD)

/-- Both sides name the same quantities: the normed row, -/
theorem xn_same : xn m c = FfnLossRefIdeal.Read.xn (A0 m c) (A1 m c) := rfl

/-- the projections, -/
theorem gf_same : gf m c = FfnLossRefIdeal.Read.gf (A0 m c) (A1 m c) (A2 m c) := rfl

@[inherit_doc gf_same] theorem uf_same : uf m c = FfnLossRefIdeal.Read.gf (A0 m c) (A1 m c) (A3 m c) := rfl

/-- the convolved gate, -/
theorem gcf_same : gcf m c = FfnLossRefIdeal.Read.gcf (A0 m c) (A1 m c) (A2 m c) (A4 m c) (A5 m c) := by
  funext q R; unfold gcf FfnLossRefIdeal.Read.gcf; rw [gf_same]

/-- the activation, -/
theorem act_same : act m c = FfnLossRefIdeal.Read.act (A0 m c) (A1 m c) (A2 m c) (A3 m c) (A4 m c) (A5 m c) := by
  funext q R; unfold act FfnLossRefIdeal.Read.act; rw [gcf_same, uf_same]

/-- the last state, -/
theorem h4_same : h4 m c = FfnLossRefIdeal.Read.h4 (A0 m c) (A1 m c) (A2 m c) (A3 m c) (A4 m c) (A5 m c) (A6 m c) := by
  funext r l; unfold h4 FfnLossRefIdeal.Read.h4; rw [act_same]

/-- the difference from the target -/
theorem err_same : err m c = FfnLossRefIdeal.Read.err (A0 m c) (A1 m c) (A2 m c) (A3 m c) (A4 m c) (A5 m c) (A6 m c) (A7 m c) (A8 m c) := by
  funext r l; unfold err FfnLossRefIdeal.Read.err; rw [h4_same]

/-- and the gradient it starts. -/
theorem dy_same : dy m c = FfnLossRefIdeal.Read.dy (A0 m c) (A1 m c) (A2 m c) (A3 m c) (A4 m c) (A5 m c) (A6 m c) (A7 m c) (A8 m c) := by
  funext r l; unfold dy FfnLossRefIdeal.Read.dy; rw [err_same]

end Same

set_option maxHeartbeats 1600000 in
/-- The kernel's nine arrays, at the entry's arrays, are what the forward lines and their reverse differentiation give. -/
theorem algebraic : Cert.algebraic_FfnLossIdeal_FfnLossRefIdeal := by
  intro m ρ m' ρ' _ hag
  refine ⟨_, _, _, _, _, _, _, _, _, FfnLossIdeal.Arr.run m ρ, ?_⟩
  refine (θ_run FfnLossRefIdeal.defs _ _).mono (fun r h c => ?_) (FfnLossRefIdeal.Value.run (F := Ideal) m' ρ')
  obtain ⟨e0, e1, e2, e3, e4, e5, e6, e7, e8⟩ := hag c
  have l0 : StableHlo.launchContents m' c (Proc.devRef .tc FfnLossRefIdeal.main_arg0) = FfnLossIdeal.Arr.A0 m c := e0
  have l1 : StableHlo.launchContents m' c (Proc.devRef .tc FfnLossRefIdeal.main_arg1) = FfnLossIdeal.Arr.A1 m c := e1
  have l2 : StableHlo.launchContents m' c (Proc.devRef .tc FfnLossRefIdeal.main_arg2) = FfnLossIdeal.Arr.A2 m c := e2
  have l3 : StableHlo.launchContents m' c (Proc.devRef .tc FfnLossRefIdeal.main_arg3) = FfnLossIdeal.Arr.A3 m c := e3
  have l4 : StableHlo.launchContents m' c (Proc.devRef .tc FfnLossRefIdeal.main_arg4) = FfnLossIdeal.Arr.A4 m c := e4
  have l5 : StableHlo.launchContents m' c (Proc.devRef .tc FfnLossRefIdeal.main_arg5) = FfnLossIdeal.Arr.A5 m c := e5
  have l6 : StableHlo.launchContents m' c (Proc.devRef .tc FfnLossRefIdeal.main_arg6) = FfnLossIdeal.Arr.A6 m c := e6
  have l7 : StableHlo.launchContents m' c (Proc.devRef .tc FfnLossRefIdeal.main_arg7) = FfnLossIdeal.Arr.A7 m c := e7
  have l8 : StableHlo.launchContents m' c (Proc.devRef .tc FfnLossRefIdeal.main_arg8) = FfnLossIdeal.Arr.A8 m c := e8
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
  · rw [FfnLossRefIdeal.Read.val_main_v96_eq, l0, l1, l2, l3, l4, l5, l6, l7, l8, FfnLossIdeal.Arr.arr10]
    funext i
    obtain ⟨r, l, rfl⟩ : ∃ (r : Fin 4096) (l : Fin 1024), i = ix2 r l := ⟨i 0, i 1, eq_ix2 i⟩
    simp only [h4_same, dy_same]
    exact (FfnLossRefIdeal.Read.r96 _ _ _ _ _ _ _ _ _ r l).trans (Step.row_eq _ _ _ _ _).symm
  · rw [FfnLossRefIdeal.Read.val_main_v105_eq, l0, l1, l2, l3, l4, l5, l6, l7, l8, FfnLossIdeal.Arr.arr11]
    funext i
    obtain ⟨r, l, rfl⟩ : ∃ (r : Fin 4096) (l : Fin 1024), i = ix2 r l := ⟨i 0, i 1, eq_ix2 i⟩
    simp only [h4_same, dy_same]
    exact (FfnLossRefIdeal.Read.r105 _ _ _ _ _ _ _ _ _ r l).trans (Step.row_eq _ _ _ _ _).symm
  · rw [FfnLossRefIdeal.Read.val_main_v106_eq, l0, l1, l2, l3, l4, l5, l6, l7, l8, FfnLossIdeal.Arr.arr12]
    funext i
    obtain ⟨r, l, rfl⟩ : ∃ (r : Fin 1) (l : Fin 128), i = ix2 r l := ⟨i 0, i 1, eq_ix2 i⟩
    unfold FfnLossIdeal.Arr.msq
    simp only [err_same]
    exact FfnLossRefIdeal.Read.r106 _ _ _ _ _ _ _ _ _ r l
  · rw [FfnLossRefIdeal.Read.val_main_v107_eq, l0, l1, l2, l3, l4, l5, l6, l7, l8, FfnLossIdeal.Arr.arr13]
    funext i
    obtain ⟨r, l, rfl⟩ : ∃ (r : Fin 1) (l : Fin 1024), i = ix2 r l := ⟨i 0, i 1, eq_ix2 i⟩
    simp only [h4_same, dy_same]
    exact FfnLossRefIdeal.Read.r107 _ _ _ _ _ _ _ _ _ r l
  · rw [FfnLossRefIdeal.Read.val_main_v108_eq, l0, l1, FfnLossIdeal.Arr.arr14]
    funext i
    obtain ⟨r, l, rfl⟩ : ∃ (r : Fin 4096) (l : Fin 1024), i = ix2 r l := ⟨i 0, i 1, eq_ix2 i⟩
    exact FfnLossRefIdeal.Read.r108 _ _ r l
  · rw [FfnLossRefIdeal.Read.val_main_v104_eq, l0, FfnLossIdeal.Arr.arr15]
    funext i
    obtain ⟨r, l, rfl⟩ : ∃ (r : Fin 4096) (l : Fin 1), i = ix2 r l := ⟨i 0, i 1, eq_ix2 i⟩
    exact FfnLossRefIdeal.Read.r104 _ r l
  · rw [FfnLossRefIdeal.Read.val_main_v111_eq, l0, l1, l2, FfnLossIdeal.Arr.arr16]
    funext i
    obtain ⟨k, r, l, rfl⟩ : ∃ (k : Fin 4) (r : Fin 4096) (l : Fin 704), i = ix3 k r l := ⟨i 0, i 1, i 2, eq_ix3 i⟩
    simp only [gf_same]
    exact FfnLossRefIdeal.Read.r111 _ _ _ k r l
  · rw [FfnLossRefIdeal.Read.val_main_v114_eq, l0, l1, l3, FfnLossIdeal.Arr.arr17]
    funext i
    obtain ⟨k, r, l, rfl⟩ : ∃ (k : Fin 4) (r : Fin 4096) (l : Fin 704), i = ix3 k r l := ⟨i 0, i 1, i 2, eq_ix3 i⟩
    simp only [uf_same]
    exact FfnLossRefIdeal.Read.r114 _ _ _ k r l
  · rw [FfnLossRefIdeal.Read.val_main_v142_eq, l0, l1, l2, l4, l5, FfnLossIdeal.Arr.arr18]
    funext i
    obtain ⟨k, r, l, rfl⟩ : ∃ (k : Fin 4) (r : Fin 4096) (l : Fin 704), i = ix3 k r l := ⟨i 0, i 1, i 2, eq_ix3 i⟩
    simp only [gcf_same]
    exact FfnLossRefIdeal.Read.r142 _ _ _ _ _ k r l

/-- The reference ends with its arguments unchanged; it has no semaphore. -/
theorem frame_ref : Cert.quiescent_FfnLossRefIdeal := fun m ρ _ =>
  (θ_run FfnLossRefIdeal.defs _ _).mono (fun r h => ⟨fun c => (h c).2.2.2.2.2.2.2.2.2, sem_eq_zero_of_no_sems (by decide) r.2⟩)
    (FfnLossRefIdeal.Value.run (F := Ideal) m ρ)

end Cert.FfnLossTie
-- ==== Proof.OddFwd.Ref.lean ====
module

public import proofs.«01_k».proof.Proof.Gen.OddFwdRefIdeal.Read
public import proofs.«01_k».proof.Proof.SguGrad.Ref

@[expose] public section

set_option maxRecDepth 16384

/-! # What the reference computes, entry by entry (the odd layer) -/

noncomputable section

namespace Cert.OddFwdRefIdeal.Read

open Cert.OddFwdRefIdeal Idealize.ShloMosaic Idealize.ShloMosaic.TcCoe Idealize.SL.Sem
open Cert.SguGradRefIdeal.Read (G tri tri_mul cr ri hd)

section Defs

variable (x0 : Vec Ideal S4096x1024 .f32) (x1 : Vec Ideal S1x1024 .f32) (x2 : Vec Ideal S1024x2048 .f32) (x3 : Vec Ideal S1x1024 .f32)
  (x4 : Vec Ideal S8x128x128 .f32) (x5 : Vec Ideal S8x128 .f32) (x6 : Vec Ideal S1024x1024 .f32)

/-- The normed row. -/
def xn (r : Fin 4096) (l : Fin 1024) : EReal := x0 (ix2 r l) * Step.rs (fun y => x0 (ix2 r y)) * x1 (ix2 0 l)

/-- Its projection on a column; the first and the second half of the columns. -/
def pj (r : Fin 4096) (q : Fin 2048) : EReal := ∑ x, xn x0 x1 r x * x2 (ix2 x q)
@[inherit_doc pj] def pu (r : Fin 4096) (j : Fin 1024) : EReal := pj x0 x1 x2 r ⟨j.val, by omega⟩
@[inherit_doc pj] def pv (r : Fin 4096) (j : Fin 1024) : EReal := pj x0 x1 x2 r ⟨1024 + j.val, by omega⟩

/-- The norm of the second half's GELU, and what it scales. -/
def rv (r : Fin 4096) : EReal := Step.rs (fun j => G (pv x0 x1 x2 r j))
@[inherit_doc rv] def vn (r : Fin 4096) (j : Fin 1024) : EReal := G (pv x0 x1 x2 r j) * rv x0 x1 x2 r * x3 (ix2 0 j)

/-- The gate of a row, and the gated first half. -/
def gate (r : Fin 4096) (j : Fin 1024) : EReal := (∑ s, tri (ri r) s (x4 (ix3 (hd j) (ri r) s) * vn x0 x1 x2 x3 (cr r s) j)) + x5 (ix2 (hd j) (ri r))
@[inherit_doc gate] def mix (r : Fin 4096) (j : Fin 1024) : EReal := G (pu x0 x1 x2 r j) * gate x0 x1 x2 x3 x4 x5 r j

/-- The layer's result. -/
def out (r : Fin 4096) (l : Fin 1024) : EReal := x0 (ix2 r l) + ∑ j, mix x0 x1 x2 x3 x4 x5 r j * x6 (ix2 j l)

end Defs

variable (x0 : Vec Ideal S4096x1024 .f32) (x1 : Vec Ideal S1x1024 .f32) (x2 : Vec Ideal S1024x2048 .f32) (x3 : Vec Ideal S1x1024 .f32)
  (x4 : Vec Ideal S8x128x128 .f32) (x5 : Vec Ideal S8x128 .f32) (x6 : Vec Ideal S1024x1024 .f32)

theorem r13 (r : Fin 4096) (l : Fin 1024) : val_main_v13 (F := Ideal) x0 x1 (ix2 r l) = xn x0 x1 r l := by
  pointwise [val_main_v13, val_main_v10, val_main_v9, val_main_v8, val_main_v7, val_main_v5, val_main_v3, val_main_v2, val_main_v1, val_main_cst, val_main_v4,
    val_main_cst_0, val_main_v6, val_main_cst_1, val_main_v12, val_main_v11, val_main_v0]
  rfl

theorem r14 (r : Fin 4096) (q : Fin 2048) : val_main_v14 (F := Ideal) x0 x1 x2 (ix2 r q) = pj x0 x1 x2 r q := by
  pointwise [val_main_v14]
  simp only [r13]
  rfl

theorem r24 (r : Fin 4096) (q : Fin 2048) : val_main_v24 (F := Ideal) x0 x1 x2 (ix2 r q) = G (pj x0 x1 x2 r q) := by
  pointwise [val_main_v24, val_main_v17, val_main_v16, val_main_cst_2, val_main_v23, val_main_v22, val_main_v18, val_main_v21, val_main_v20, val_main_v19,
    val_main_cst_3]
  simp only [r14]
  rfl

theorem r34 (r : Fin 4096) : val_main_v34 (F := Ideal) x0 x1 x2 (ix2 r 0) = rv x0 x1 x2 r := by
  pointwise [val_main_v34, val_main_v33, val_main_v31, val_main_v29, val_main_v28, val_main_v27, val_main_v26, val_main_cst_4, val_main_v30, val_main_cst_5,
    val_main_v32, val_main_cst_6]
  simp only [r24]
  rfl

theorem r39 (r : Fin 4096) (j : Fin 1024) : val_main_v39 (F := Ideal) x0 x1 x2 x3 (ix2 r j) = vn x0 x1 x2 x3 r j := by
  pointwise [val_main_v39, val_main_v36, val_main_v26, val_main_v35, val_main_v38, val_main_v37, val_main_v15]
  simp only [r24, r34]
  rfl

theorem r45 (h : Fin 8) (a s : Fin 128) : val_main_v45 (F := Ideal) x4 (ix3 h a s) = tri a s (x4 (ix3 h a s)) := by
  pointwise [val_main_v45, val_main_v44, val_main_v43, val_main_v42, val_main_call0_v4, val_main_call0_v2, val_main_call0_v0, val_main_call0_v1, val_main_call0_c,
    val_main_call0_v3, val_main_v41, val_main_cst_7, val_main_call0_v5, val_main_call0_cst]
  unfold tri
  simp only [IntOp.addi, BitVec.add_zero]
  try rfl

theorem r52 (r : Fin 4096) (j : Fin 1024) : val_main_v52 (F := Ideal) x0 x1 x2 x3 x4 x5 (ix2 r j) = gate x0 x1 x2 x3 x4 x5 r j := by
  pointwise [val_main_v52, val_main_v51, val_main_v47, val_main_v46, val_main_v40, val_main_v50, val_main_v49, val_main_v48]
  simp only [r39, r45, tri_mul]
  rfl

theorem r53 (r : Fin 4096) (j : Fin 1024) : val_main_v53 (F := Ideal) x0 x1 x2 x3 x4 x5 (ix2 r j) = mix x0 x1 x2 x3 x4 x5 r j := by
  pointwise [val_main_v53, val_main_v25]
  simp only [r24, r52]
  rfl

/-- The six results: the layer's output, -/
theorem r65 (r : Fin 4096) (l : Fin 1024) : val_main_v65 (F := Ideal) x0 x1 x2 x3 x4 x5 x6 (ix2 r l) = out x0 x1 x2 x3 x4 x5 x6 r l := by
  pointwise [val_main_v65, val_main_v64]
  simp only [r53]
  rfl

/-- the normed rows, -/
theorem r66 (r : Fin 4096) (l : Fin 1024) : val_main_v66 (F := Ideal) x0 x1 (ix2 r l) = xn x0 x1 r l := by
  pointwise [val_main_v66]
  exact r13 x0 x1 r l

/-- their norm, -/
theorem r74 (r : Fin 4096) : val_main_v74 (F := Ideal) x0 (ix2 r 0) = Step.rs (fun y => x0 (ix2 r y)) := by
  pointwise [val_main_v74, val_main_v73, val_main_v71, val_main_v69, val_main_v68, val_main_v67, val_main_cst_10, val_main_v70, val_main_cst_11, val_main_v72,
    val_main_cst_12]
  rfl

/-- the projections in four blocks of columns, -/
theorem r77 (k : Fin 4) (r : Fin 4096) (l : Fin 512) : val_main_v77 (F := Ideal) x0 x1 x2 (ix3 k r l) = pj x0 x1 x2 r ⟨k.val * 512 + l.val, by omega⟩ := by
  pointwise [val_main_v77, val_main_v76, val_main_v75]
  exact r14 x0 x1 x2 r _

/-- the gated first half, -/
theorem r78 (r : Fin 4096) (j : Fin 1024) : val_main_v78 (F := Ideal) x0 x1 x2 x3 x4 x5 (ix2 r j) = mix x0 x1 x2 x3 x4 x5 r j := by
  pointwise [val_main_v78]
  exact r53 x0 x1 x2 x3 x4 x5 r j

/-- and the norm of the second half. -/
theorem r86 (r : Fin 4096) : val_main_v86 (F := Ideal) x0 x1 x2 (ix2 r 0) = rv x0 x1 x2 r := by
  pointwise [val_main_v86, val_main_v85, val_main_v83, val_main_v81, val_main_v80, val_main_v79, val_main_cst_13, val_main_v82, val_main_cst_14, val_main_v84,
    val_main_cst_15, val_main_v63, val_main_v56, val_main_v55, val_main_cst_8, val_main_v62, val_main_v61, val_main_v57, val_main_v60, val_main_v59,
    val_main_v58, val_main_cst_9, val_main_v54]
  simp only [r14]
  rfl

end Cert.OddFwdRefIdeal.Read
-- ==== Proof.OddFwd.Blocks.lean ====
module

public import proofs.«01_k».proof.Proof.Gen.OddFwdIdeal.Value
public import proofs.«01_k».proof.Proof.OddFwd.Ref
public import Idealize.ShloMosaic.Lib.Pipeline.ValueKit

@[expose] public section

set_option maxRecDepth 16384

/-! # The blocks a grid point reads (the odd layer)

The grid is eight tiles of 512 rows. -/

noncomputable section

namespace Cert.OddFwdIdeal.Arr

open Cert.OddFwdIdeal Cert.OddFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0, 0] ∧ win0_3.index t = ![0, 0]
    ∧ win0_4.index t = ![0, 0, 0] ∧ win0_5.index t = ![0, 0, 0] ∧ win0_6.index t = ![0, 0] ∧ win0_7.index t = ![t.val, 0] ∧ win0_8.index t = ![t.val, 0]
    ∧ win0_9.index t = ![t.val, 0] ∧ win0_10.index t = ![0, t.val, 0] ∧ win0_11.index t = ![t.val, 0] ∧ win0_12.index t = ![t.val, 0] := by decide +kernel

/-- The seven arrays at the entry. -/
def A0 : Vec Ideal S4096x1024 .f32 := m ((c : Thread nD τ).loc main_arg0)
@[inherit_doc A0] def A1 : Vec Ideal S1x1024 .f32 := m ((c : Thread nD τ).loc main_arg1)
@[inherit_doc A0] def A2 : Vec Ideal S1024x2048 .f32 := m ((c : Thread nD τ).loc main_arg2)
@[inherit_doc A0] def A3 : Vec Ideal S1x1024 .f32 := m ((c : Thread nD τ).loc main_arg3)
@[inherit_doc A0] def A4 : Vec Ideal S8x128x128 .f32 := m ((c : Thread nD τ).loc main_arg4)
@[inherit_doc A0] def A5 : Vec Ideal S8x128 .f32 := m ((c : Thread nD τ).loc main_arg5)
@[inherit_doc A0] def A6 : Vec Ideal S1024x1024 .f32 := m ((c : Thread nD τ).loc main_arg6)

theorem v2 (k : Fin 4) (x : Fin 1024) (l : Fin 512) : V m c main_v2 (ix3 k x l) = A2 m c (ix2 x ⟨k.val * 512 + l.val, by omega⟩) := by
  unfold V
  entry_read
  pointwise
  rfl

theorem v3 (h : Fin 8) (a : Fin 128) : V m c main_v3 (ix3 h a 0) = A5 m c (ix2 h a) := by
  unfold V
  entry_read
  pointwise
  rfl

theorem v4 (j l : Fin 1024) : V m c main_v4 (ix2 j l) = A6 m c (ix2 j l) := by
  unfold V
  entry_read
  pointwise
  rfl

theorem w0 : V m c main_arg0 = A0 m c := by
  unfold V
  entry_read
  rfl

theorem w1 : V m c main_arg1 = A1 m c := by
  unfold V
  entry_read
  rfl

theorem w3 : V m c main_arg3 = A3 m c := by
  unfold V
  entry_read
  rfl

theorem w4 : V m c main_arg4 = A4 m c := by
  unfold V
  entry_read
  rfl

/-- Row `p` of the tile at grid point `t`. -/
def row (t : Fin cfg0.N) (p : Fin 512) : Fin 4096 := ⟨t.val * 512 + p.val, by have h : t.val < 8 := t.isLt; omega⟩

theorem blk0 (t : Fin cfg0.N) (p : Fin 512) (l : Fin 1024) : iblk m c 0 t (ix2 p l) = A0 m c (ix2 (row t p) l) := by
  rw [← w0]
  unfold row
  blk_ext [iblk, idx t]

theorem blk1 (t : Fin cfg0.N) (l : Fin 1024) : iblk m c 1 t (ix2 0 l) = A1 m c (ix2 0 l) := by
  rw [← w1]
  blk_ext [iblk, idx t]

theorem blk2 (t : Fin cfg0.N) (k : Fin 4) (x : Fin 1024) (l : Fin 512) : iblk m c 2 t (ix3 k x l) = A2 m c (ix2 x ⟨k.val * 512 + l.val, by omega⟩) := by
  rw [← v2]
  blk_ext [iblk, idx t]

theorem blk3 (t : Fin cfg0.N) (l : Fin 1024) : iblk m c 3 t (ix2 0 l) = A3 m c (ix2 0 l) := by
  rw [← w3]
  blk_ext [iblk, idx t]

theorem blk4 (t : Fin cfg0.N) (h : Fin 8) (a s : Fin 128) : iblk m c 4 t (ix3 h a s) = A4 m c (ix3 h a s) := by
  rw [← w4]
  blk_ext [iblk, idx t]

theorem blk5 (t : Fin cfg0.N) (h : Fin 8) (a : Fin 128) : iblk m c 5 t (ix3 h a 0) = A5 m c (ix2 h a) := by
  rw [← v3]
  blk_ext [iblk, idx t]

theorem blk6 (t : Fin cfg0.N) (j l : Fin 1024) : iblk m c 6 t (ix2 j l) = A6 m c (ix2 j l) := by
  rw [← v4]
  blk_ext [iblk, idx t]

end Cert.OddFwdIdeal.Arr
-- ==== Proof.OddFwd.Stage.lean ====
module

public import proofs.«01_k».proof.Proof.OddFwd.Blocks
public import proofs.«01_k».proof.Proof.SguGrad.Stage
public import proofs.«01_k».proof.Proof.SguGrad.Pieces

@[expose] public section

set_option maxRecDepth 16384

/-! # What one grid point computes (the odd layer) -/

noncomputable section

namespace Cert.OddFwdIdeal.Arr

open Cert.OddFwdIdeal Cert.OddFwdIdeal.Gen Idealize.ShloMosaic Idealize.ShloMosaic.TcCoe Idealize.SL.Sem
open Cert.SguGradRefIdeal.Read (G G_eq tri cr ri hd)
open Cert.SguGradIdeal.Arr (off off_eq ao ao_eq)
open Cert.OddFwdRefIdeal.Read (xn pj pu pv rv vn gate mix out)

variable (m : (ℓ : Loc nD τ sig) → Buf (Elt Ideal) ℓ) (c : Dev nD)

/-- GELU as the kernel writes it. -/
def gk (x : EReal) : EReal := Ideal.ofBits .f32 1056964608#32 * x * (1 + FloatOps.erf (F := Ideal) (φ := .f32) (x * Named.named (F := Ideal) (φ := .f32) κ "inv_sqrt_2" 1060439283#32))

/-- The named constant. -/
theorem named_root : Named.named (F := Ideal) (φ := .f32) κ "inv_sqrt_2" 1060439283#32 = (((Real.sqrt 2)⁻¹ : ℝ) : EReal) := rfl

/-- It is the reference's GELU. -/
theorem gk_same : gk = G := by
  funext x
  rw [G_eq]
  unfold gk
  rw [named_root]
  rfl

/-- A sum over 1024 columns, as the two halves the kernel takes. -/
theorem halves (f : Fin 1024 → EReal) : (∑ x : Fin 512, f ⟨x.val, by omega⟩) + ∑ x : Fin 512, f ⟨512 + x.val, by omega⟩ = ∑ x, f x := by
  rw [show (∑ x : Fin 1024, f x) = ∑ x : Fin (512 + 512), f x from rfl, Fin.sum_univ_add]
  rfl

/-- The norm of a row of the tile, -/
theorem rstd (t : Fin cfg0.N) (p : Fin 512) : k0_pay3 (F := Ideal) (iblk m c 0 t) (ix2 p 0) = Step.rs (fun y => A0 m c (ix2 (row t p) y)) := by
  pointwise [k0_pay3]
  simp only [blk0]
  rfl

/-- the row normed, -/
theorem normed (t : Fin cfg0.N) (p : Fin 512) (l : Fin 1024) : k0_pay4 (F := Ideal) (iblk m c 0 t) (iblk m c 1 t) (ix2 p l) = xn (A0 m c) (A1 m c) (row t p) l := by
  pointwise [k0_pay4]
  rw [rstd, blk0, blk1]
  rfl

/-- and its projection on a block of columns. -/
theorem proj (t : Fin cfg0.N) (k : Fin 4) (v : Vec Ideal S1x1024x512 .bf16) (hv : ∀ x l, v (ix3 0 x l) = A2 m c (ix2 x ⟨k.val * 512 + l.val, by omega⟩)) (p l : Fin 512) :
    k0_pay5 (F := Ideal) (iblk m c 0 t) (iblk m c 1 t) v (ix3 0 p l) = pj (A0 m c) (A1 m c) (A2 m c) (row t p) ⟨k.val * 512 + l.val, by omega⟩ := by
  pointwise [k0_pay5]
  simp only [normed, hv]
  rfl

/-- The window of the projections. -/
def G10 (t : Fin cfg0.N) : Vec Ideal S4x512x512 .bf16 := fun y =>
  pj (A0 m c) (A1 m c) (A2 m c) (row t (y 1)) ⟨(y 0).val * 512 + (y 2).val, by have h0 : (y 0).val < 4 := (y 0).isLt; have h2 : (y 2).val < 512 := (y 2).isLt; omega⟩

/-- The window of the gated first half. -/
def G11 (t : Fin cfg0.N) : Vec Ideal S512x1024 .bf16 := fun y => mix (A0 m c) (A1 m c) (A2 m c) (A3 m c) (A4 m c) (A5 m c) (row t (y 0)) (y 1)

/-! ## Tiles, with the offsets their loads name -/

/-- The projections that the window holds, and the blocks of the scale, the weights and the bias. -/
def P0 (t : Fin cfg0.N) (k : Fin 4) (p l : Fin 512) : EReal := G10 m c t (ix3 k p l)
@[inherit_doc P0] def B3 (t : Fin cfg0.N) (j : Fin 1024) : EReal := iblk m c 3 t (ix2 0 j)
@[inherit_doc P0] def B4 (t : Fin cfg0.N) (h : Fin 8) (a b : Fin 128) : EReal := iblk m c 4 t (ix3 h a b)
@[inherit_doc P0] def B5 (t : Fin cfg0.N) (h : Fin 8) (a : Fin 128) : EReal := iblk m c 5 t (ix3 h a 0)

/-- The norm of a row's second half, from the two blocks of columns. -/
def RV (t : Fin cfg0.N) (p : Fin 512) : EReal :=
  Ideal.rsqrt (Ideal.div ((∑ x : Fin 512, gk (P0 m c t 2 p x) * gk (P0 m c t 2 p x)) + ∑ x : Fin 512, gk (P0 m c t 3 p x) * gk (P0 m c t 3 p x)) (Ideal.ofBits .f32 1149239296#32)
    + Ideal.ofBits .f32 897988541#32)

theorem P0_u (t : Fin cfg0.N) (k : Fin 4) (p l : Fin 512) (r : Fin 4096) (j : Fin 1024) (hr : row t p = r) (hj : j.val = k.val * 512 + l.val) :
    P0 m c t k p l = pu (A0 m c) (A1 m c) (A2 m c) r j := by
  subst hr
  exact congrArg (pj (A0 m c) (A1 m c) (A2 m c) _) (Fin.ext hj.symm)

theorem P0_v (t : Fin cfg0.N) (k : Fin 4) (p l : Fin 512) (r : Fin 4096) (j : Fin 1024) (hr : row t p = r) (hj : 1024 + j.val = k.val * 512 + l.val) :
    P0 m c t k p l = pv (A0 m c) (A1 m c) (A2 m c) r j := by
  subst hr
  exact congrArg (pj (A0 m c) (A1 m c) (A2 m c) _) (Fin.ext hj.symm)

theorem RV_eq (t : Fin cfg0.N) (p : Fin 512) : RV m c t p = rv (A0 m c) (A1 m c) (A2 m c) (row t p) := by
  unfold RV rv Step.rs Step.ms
  rw [← halves, gk_same]
  have e2 (x : Fin 512) : P0 m c t 2 p x = pv (A0 m c) (A1 m c) (A2 m c) (row t p) ⟨x.val, by omega⟩ := P0_v m c t 2 p x _ ⟨x.val, by omega⟩ rfl rfl
  have e3 (x : Fin 512) : P0 m c t 3 p x = pv (A0 m c) (A1 m c) (A2 m c) (row t p) ⟨512 + x.val, by omega⟩ := P0_v m c t 3 p x _ ⟨512 + x.val, by omega⟩ rfl (by show 1024 + (512 + x.val) = 3 * 512 + x.val; omega)
  simp only [e2, e3]

/-- A tile of the gated first half. -/
def tm (t : Fin cfg0.N) (o1 o2 : ℕ) (h1 : o1 + 128 ≤ 512) (h2 : o2 + 128 ≤ 1024) (e2 : o2 % 128 = 0) (a b : Fin 128) : EReal :=
  gk (P0 m c t (⟨o2 / 512, by omega⟩ : Fin 4) (ao 512 o1 a.val (by omega)) (ao 512 (o2 % 512) b.val (by omega)))
    * ((∑ s : Fin 128, tri a s (B4 m c t (⟨o2 / 128, by omega⟩ : Fin 8) a s
        * (gk (P0 m c t (⟨o2 / 512 + 2, by omega⟩ : Fin 4) (ao 512 o1 s.val (by omega)) (ao 512 (o2 % 512) b.val (by omega))) * RV m c t (ao 512 o1 s.val (by omega))
          * B3 m c t (ao 1024 (o2 / 512 * 512) (off (o2 % 512) b.val) (by rw [off_eq]; omega)))))
      + B5 m c t (⟨o2 / 128, by omega⟩ : Fin 8) a)

theorem tm_eq (t : Fin cfg0.N) (o1 o2 : ℕ) (h1 : o1 + 128 ≤ 512) (h2 : o2 + 128 ≤ 1024) (e1 : o1 % 128 = 0) (e2 : o2 % 128 = 0) (a b : Fin 128) :
    tm m c t o1 o2 h1 h2 e2 a b = mix (A0 m c) (A1 m c) (A2 m c) (A3 m c) (A4 m c) (A5 m c) (row t (⟨o1 + a.val, by omega⟩ : Fin 512)) (⟨o2 + b.val, by omega⟩ : Fin 1024) := by
  have ea : ri (row t (⟨o1 + a.val, by omega⟩ : Fin 512)) = a := Fin.ext (by simp only [ri, row]; omega)
  have eh : hd (⟨o2 + b.val, by omega⟩ : Fin 1024) = (⟨o2 / 128, by omega⟩ : Fin 8) := Fin.ext (by simp only [hd]; omega)
  have en : (⟨o2 / 512 * 512 + (o2 % 512 + b.val), by omega⟩ : Fin 1024) = ⟨o2 + b.val, by omega⟩ := Fin.ext (by simp only; omega)
  unfold tm mix gate vn
  simp only [ao_eq, off_eq]
  rw [ea, eh, en, gk_same]
  unfold B3 B4 B5
  rw [blk5, blk3, P0_u m c t _ _ _ _ (⟨o2 + b.val, by omega⟩ : Fin 1024) rfl (by simp only; omega)]
  refine congrArg (fun z : EReal => G _ * (z + _)) (Finset.sum_congr rfl fun s _ => ?_)
  have er : row t (⟨o1 + s.val, by omega⟩ : Fin 512) = cr (row t (⟨o1 + a.val, by omega⟩ : Fin 512)) s := Fin.ext (by simp only [cr, row]; omega)
  rw [blk4, RV_eq, er, P0_v m c t _ _ _ _ (⟨o2 + b.val, by omega⟩ : Fin 1024) er (by simp only; omega)]

/-- A store of a block of columns of the projections is a block of the window. -/
theorem piece10 (t : Fin cfg0.N) (k : ℕ) (hk : k < 4) (inb : ∀ a, ![k, 0, 0] a + ![1, 512, 512] a ≤ S4x512x512.size a)
    (w : Vec Ideal S1x512x512 .bf16) (hw : ∀ p l : Fin 512, w (ix3 0 p l) = pj (A0 m c) (A1 m c) (A2 m c) (row t p) ⟨k * 512 + l.val, by omega⟩) :
    ∀ x, w x = G10 m c t ((Rect.unit (s := S4x512x512) ![k, 0, 0] ![1, 512, 512] inb).emb x) := by
  intro x
  have e : (Rect.unit (s := S4x512x512) ![k, 0, 0] ![1, 512, 512] inb).emb x = ix3 ⟨k, hk⟩ (x 1) (x 2) := by
    idx_vars x
    blk_ext [Step.emb_unit]
  rw [e]
  idx_vars x
  obtain rfl : x0 = 0 := Subsingleton.elim _ _
  exact hw _ _

/-- A store of a tile is a block of the window. -/
theorem piece11 (t : Fin cfg0.N) (o1 o2 : ℕ) (h1 : o1 + 128 ≤ 512) (h2 : o2 + 128 ≤ 1024) (e1 : o1 % 128 = 0) (e2 : o2 % 128 = 0) (inb : ∀ a, ![o1, o2] a + ![128, 128] a ≤ S512x1024.size a)
    (w : Vec Ideal S128x128 .bf16) (hw : ∀ a b : Fin 128, w (ix2 a b) = tm m c t o1 o2 h1 h2 e2 a b) :
    ∀ x, w x = G11 m c t ((Rect.unit (s := S512x1024) ![o1, o2] ![128, 128] inb).emb x) := by
  intro x
  have e : (Rect.unit (s := S512x1024) ![o1, o2] ![128, 128] inb).emb x
      = ix2 ⟨o1 + (x 0).val, by have h : (x 0).val < 128 := (x 0).isLt; omega⟩ ⟨o2 + (x 1).val, by have h : (x 1).val < 128 := (x 1).isLt; omega⟩ := by
    idx_vars x
    blk_ext [Step.emb_unit]
  rw [e]
  idx_vars x
  exact (hw _ _).trans (tm_eq m c t o1 o2 h1 h2 e1 e2 _ _)

end Cert.OddFwdIdeal.Arr
-- ==== Proof.OddFwd.Points.lean ====
module

public import proofs.«01_k».proof.Proof.OddFwd.Stage

@[expose] public section

set_option maxRecDepth 16384

/-! # What the windows hold after a grid point (the odd layer) -/

noncomputable section

namespace Cert.OddFwdIdeal.Arr

open Cert.OddFwdIdeal Cert.OddFwdIdeal.Gen Idealize.ShloMosaic Idealize.ShloMosaic.TcCoe Idealize.SL.Sem
open Cert.SguGradRefIdeal.Read (G G_eq tri cr ri hd)
open Cert.SguGradIdeal.Arr (off off_eq ao ao_eq)
open Cert.OddFwdRefIdeal.Read (xn pj pu pv rv vn gate mix out)

variable (m : (ℓ : Loc nD τ sig) → Buf (Elt Ideal) ℓ) (c : Dev nD)

/-- A load of a block of columns of the input weights. -/
theorem ld2 (t : Fin cfg0.N) (k : Fin 4) (h) (x : Fin 1024) (l : Fin 512) :
    View.ld (iblk m c 2 t) (Rect.unit (s := S4x1024x512) ![k.val, 0, 0] ![1, 1024, 512] h) (ix3 0 x l) = A2 m c (ix2 x ⟨k.val * 512 + l.val, by omega⟩) := by
  rw [← blk2 m c t k x l]
  refine congrArg (iblk m c 2 t) (funext fun a => Fin.ext ?_)
  match a with
  | 0 => rfl
  | 1 => show 0 + 1 * x.val = x.val; omega
  | 2 => show 0 + 1 * l.val = l.val; omega

/-- Stores that leave `G` at every index leave `G`. -/
theorem canon_of {s : Shape} {e : EltTy} {G : s.Idx → Elt Ideal e} {L : List (View.Piece (Elt Ideal) s e)} (h : Step.Top G [] L) : View.canon L = G :=
  funext h.canon

/-- The four stores of the projections leave them. -/
theorem top10 (t : Fin cfg0.N) (i0 i1 i2 i3 j0 j1 j2 j3) :
    Step.Top (G10 m c t) [] [⟨Rect.unit (s := S4x512x512) ![3, 0, 0] ![1, 512, 512] i3, k0_pay8 (F := Ideal) (k0_pay4 (iblk m c 0 t) (iblk m c 1 t)) (View.ld (iblk m c 2 t) (Rect.unit (s := S4x1024x512) ![3, 0, 0] ![1, 1024, 512] j3))⟩,
      ⟨Rect.unit (s := S4x512x512) ![2, 0, 0] ![1, 512, 512] i2, k0_pay7 (F := Ideal) (k0_pay4 (iblk m c 0 t) (iblk m c 1 t)) (View.ld (iblk m c 2 t) (Rect.unit (s := S4x1024x512) ![2, 0, 0] ![1, 1024, 512] j2))⟩,
      ⟨Rect.unit (s := S4x512x512) ![1, 0, 0] ![1, 512, 512] i1, k0_pay6 (F := Ideal) (iblk m c 0 t) (iblk m c 1 t) (View.ld (iblk m c 2 t) (Rect.unit (s := S4x1024x512) ![1, 0, 0] ![1, 1024, 512] j1))⟩,
      ⟨Rect.unit (s := S4x512x512) ![0, 0, 0] ![1, 512, 512] i0, k0_pay5 (F := Ideal) (iblk m c 0 t) (iblk m c 1 t) (View.ld (iblk m c 2 t) (Rect.unit (s := S4x1024x512) ![0, 0, 0] ![1, 1024, 512] j0))⟩] := by
  refine .top (.top (.top (.top (.done _ _ (View.cover_of_tiledBy _ ![1, 512, 512] (by sl_kernel_rfl))) ?_) ?_) ?_) ?_
  · exact piece10 m c t 0 (by decide) i0 _ (proj m c t 0 _ (ld2 m c t 0 j0))
  · exact piece10 m c t 1 (by decide) i1 _ (proj m c t 1 _ (ld2 m c t 1 j1))
  · exact piece10 m c t 2 (by decide) i2 _ (proj m c t 2 _ (ld2 m c t 2 j2))
  · exact piece10 m c t 3 (by decide) i3 _ (proj m c t 3 _ (ld2 m c t 3 j3))

/-- The windows after a point: the projections, -/
theorem t10 (t : Fin cfg0.N) : (outsAt0 m c t).2.2.2.1 = G10 m c t := by
  unfold outsAt0
  frame_open
  simp (disch := decide) only [↓ View.readCov_skip, ↓ View.readCov_cons_toLoadRect, ↓ View.readCov_fill]
  frame_out
  funext y
  exact (top10 m c t _ _ _ _ _ _ _ _).canon y

/-- the normed rows, -/
theorem t8 (t : Fin cfg0.N) : (outsAt0 m c t).2.1 = k0_pay4 (F := Ideal) (iblk m c 0 t) (iblk m c 1 t) := by
  unfold outsAt0
  frame_out
  rfl

/-- their norm, -/
theorem t9 (t : Fin cfg0.N) : (outsAt0 m c t).2.2.1 = k0_pay3 (F := Ideal) (iblk m c 0 t) := by
  unfold outsAt0
  frame_out
  rfl

/-- the norm of the second half, -/
theorem t12 (t : Fin cfg0.N) (p : Fin 512) : (outsAt0 m c t).2.2.2.2.2 (ix2 p 0) = RV m c t p := by
  unfold outsAt0
  frame_open
  simp only [View.readCov_eq_canon']
  frame_out
  rw [canon_of (G := G10 m c t) ?h]
  case h => exact top10 m c t _ _ _ _ _ _ _ _
  pointwise [k0_pay9, k0_pay10, k0_pay11, k0_pay12, k0_pay13, k0_pay14]
  rfl

set_option maxHeartbeats 1600000 in
/-- the gated first half. -/
theorem t11 (t : Fin cfg0.N) : (outsAt0 m c t).2.2.2.2.1 = G11 m c t := by
  unfold outsAt0
  frame_open
  simp only [View.readCov_eq_canon']
  frame_out
  rw [canon_of (G := G10 m c t) ?h]
  case h => exact top10 m c t _ _ _ _ _ _ _ _
  funext y
  refine Step.Top.canon ?_ y
  iterate 31 refine .top ?_ (piece11 m c t _ _ (by decide) (by decide) (by decide) (by decide) (by decide) _ (fun a b => ?_))
  refine .top (.done _ _ (View.cover_of_tiledBy _ ![128, 128] (by sl_kernel_rfl))) (piece11 m c t _ _ (by decide) (by decide) (by decide) (by decide) (by decide) _ (fun a b => ?_))
  all_goals
    pointwise [k0_pay1, k0_pay9, k0_pay10, k0_pay11, k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78, k0_pay79, k0_pay80, k0_pay81, k0_pay82,
      k0_pay83, k0_pay84, k0_pay85, k0_pay86, k0_pay87, k0_pay88, k0_pay89, k0_pay90, k0_pay91, k0_pay92, k0_pay93, k0_pay94, k0_pay95, k0_pay96, k0_pay97,
      k0_pay98, k0_pay99]
    rfl

end Cert.OddFwdIdeal.Arr
-- ==== Proof.OddFwd.Array.lean ====
module

public import proofs.«01_k».proof.Proof.OddFwd.Points

@[expose] public section

set_option maxRecDepth 16384

/-! # The six arrays the odd layer's forward call leaves -/

noncomputable section

namespace Cert.OddFwdIdeal.Arr

open Cert.OddFwdIdeal Cert.OddFwdIdeal.Gen Idealize.ShloMosaic Idealize.ShloMosaic.TcCoe Idealize.SL.Sem
open Cert.OddFwdRefIdeal.Read (xn pj rv mix out)

variable (m : (ℓ : Loc nD τ sig) → Buf (Elt Ideal) ℓ) (c : Dev nD)

/-- Block `k` of the projections. -/
def PJ (k : Fin 4) (r : Fin 4096) (l : Fin 512) : EReal := pj (A0 m c) (A1 m c) (A2 m c) r ⟨k.val * 512 + l.val, by omega⟩

set_option maxHeartbeats 1600000 in
/-- The layer's output reads the gated first half back from its window. -/
theorem t7 (t : Fin cfg0.N) (p : Fin 512) (l : Fin 1024) :
    (outsAt0 m c t).1 (ix2 p l) = out (A0 m c) (A1 m c) (A2 m c) (A3 m c) (A4 m c) (A5 m c) (A6 m c) (row t p) l := by
  have h := t11 m c t
  revert h
  unfold outsAt0
  frame_open
  simp only [View.readCov_eq_canon']
  frame_out
  intro h
  rw [h]
  pointwise [k0_pay2]
  unfold out
  rw [blk0]
  refine congrArg (_ + ·) (Finset.sum_congr rfl fun j _ => ?_)
  rw [blk6]
  rfl

/-- Every output block is written once, so the arrays hold the stated values everywhere: the output, -/
theorem arr7 : (dats m 0 c).arrAt 7 cfg0.N = fun i => out (A0 m c) (A1 m c) (A2 m c) (A3 m c) (A4 m c) (A5 m c) (A6 m c) (i 0) (i 1) := by
  refine (dats m 0 c).arrAt_eq_of_covers 7 _ (by decide +kernel) fun t hf y => ?_
  blk_simp
  rw [after0_7]
  idx_vars y
  have e0 : (((View.whole main_v5_0).slice (win0_7.rect t)).emb (ix2 y0 y1)) = ix2 (row t y0) y1 := by
    unfold row
    blk_ext [idx t]
  rw [e0]
  exact t7 m c t y0 y1

/-- the normed rows, -/
theorem arr8 : (dats m 0 c).arrAt 8 cfg0.N = fun i => xn (A0 m c) (A1 m c) (i 0) (i 1) := by
  refine (dats m 0 c).arrAt_eq_of_covers 8 _ (by decide +kernel) fun t hf y => ?_
  blk_simp
  rw [after0_8]
  idx_vars y
  have e0 : (((View.whole main_v5_1).slice (win0_8.rect t)).emb (ix2 y0 y1)) = ix2 (row t y0) y1 := by
    unfold row
    blk_ext [idx t]
  rw [e0]
  rw [t8]
  exact normed m c t y0 y1

/-- their norm, -/
theorem arr9 : (dats m 0 c).arrAt 9 cfg0.N = fun i => Step.rs (fun y => A0 m c (ix2 (i 0) y)) := by
  refine (dats m 0 c).arrAt_eq_of_covers 9 _ (by decide +kernel) fun t hf y => ?_
  blk_simp
  rw [after0_9]
  idx_vars y
  obtain rfl : y1 = 0 := Subsingleton.elim _ _
  have e0 : (((View.whole main_v5_2).slice (win0_9.rect t)).emb (ix2 y0 0)) = ix2 (row t y0) 0 := by
    unfold row
    blk_ext [idx t]
  rw [e0]
  rw [t9]
  exact rstd m c t y0

/-- the projections, -/
theorem arr10 : (dats m 0 c).arrAt 10 cfg0.N = fun i => PJ m c (i 0) (i 1) (i 2) := by
  refine (dats m 0 c).arrAt_eq_of_covers 10 _ (by decide +kernel) fun t hf y => ?_
  blk_simp
  rw [after0_10]
  idx_vars y
  have e0 : (((View.whole main_v5_3).slice (win0_10.rect t)).emb (ix3 y0 y1 y2)) = ix3 y0 (row t y1) y2 := by
    unfold row
    blk_ext [idx t]
  rw [e0]
  rw [t10]
  rfl

/-- the gated first half -/
theorem arr11 : (dats m 0 c).arrAt 11 cfg0.N = fun i => mix (A0 m c) (A1 m c) (A2 m c) (A3 m c) (A4 m c) (A5 m c) (i 0) (i 1) := by
  refine (dats m 0 c).arrAt_eq_of_covers 11 _ (by decide +kernel) fun t hf y => ?_
  blk_simp
  rw [after0_11]
  idx_vars y
  have e0 : (((View.whole main_v5_4).slice (win0_11.rect t)).emb (ix2 y0 y1)) = ix2 (row t y0) y1 := by
    unfold row
    blk_ext [idx t]
  rw [e0]
  rw [t11]
  rfl

/-- and the norm of the second. -/
theorem arr12 : (dats m 0 c).arrAt 12 cfg0.N = fun i => rv (A0 m c) (A1 m c) (A2 m c) (i 0) := by
  refine (dats m 0 c).arrAt_eq_of_covers 12 _ (by decide +kernel) fun t hf y => ?_
  blk_simp
  rw [after0_12]
  idx_vars y
  obtain rfl : y1 = 0 := Subsingleton.elim _ _
  have e0 : (((View.whole main_v5_5).slice (win0_12.rect t)).emb (ix2 y0 0)) = ix2 (row t y0) 0 := by
    unfold row
    blk_ext [idx t]
  rw [e0]
  exact (t12 m c t y0).trans (RV_eq m c t y0)

end Cert.OddFwdIdeal.Arr

end

end
-- ==== Proof.OddFwd.Claim.lean ====
module

public import proofs.«01_k».proof.Defs
public import proofs.«01_k».proof.Proof.Gen.OddFwdIdeal
public import proofs.«01_k».proof.Proof.Gen.OddFwdRefIdeal
public import proofs.«01_k».proof.Proof.Gen.OddFwdIdeal.Value
public import proofs.«01_k».proof.Proof.OddFwd.Array
public import proofs.«01_k».proof.Proof.OddFwd.Ref

@[expose] public section

set_option maxRecDepth 16384

/-! # The odd layer: the kernel's six results are the reference's -/

noncomputable section

namespace Cert.OddFwdTie

open Idealize.ShloMosaic Idealize.ShloMosaic.TcCoe Idealize.SL.Sem

set_option maxHeartbeats 1600000 in
/-- The kernel's six arrays, at the entry's arrays, are what the forward lines give. -/
theorem algebraic : Cert.algebraic_OddFwdIdeal_OddFwdRefIdeal := by
  intro m ρ m' ρ' _ hag
  refine ⟨_, _, _, _, _, _, OddFwdIdeal.Value.run_blocks m ρ, ?_⟩
  refine (θ_run OddFwdRefIdeal.defs _ _).mono (fun r h c => ?_) (OddFwdRefIdeal.Value.run (F := Ideal) m' ρ')
  obtain ⟨e0, e1, e2, e3, e4, e5, e6⟩ := hag c
  have k0 : m' ((c.tc : Thread OddFwdRefIdeal.nD OddFwdRefIdeal.τ).loc OddFwdRefIdeal.main_arg0) = OddFwdIdeal.Arr.A0 m c := e0
  have k1 : m' ((c.tc : Thread OddFwdRefIdeal.nD OddFwdRefIdeal.τ).loc OddFwdRefIdeal.main_arg1) = OddFwdIdeal.Arr.A1 m c := e1
  have k2 : m' ((c.tc : Thread OddFwdRefIdeal.nD OddFwdRefIdeal.τ).loc OddFwdRefIdeal.main_arg2) = OddFwdIdeal.Arr.A2 m c := e2
  have k3 : m' ((c.tc : Thread OddFwdRefIdeal.nD OddFwdRefIdeal.τ).loc OddFwdRefIdeal.main_arg3) = OddFwdIdeal.Arr.A3 m c := e3
  have k4 : m' ((c.tc : Thread OddFwdRefIdeal.nD OddFwdRefIdeal.τ).loc OddFwdRefIdeal.main_arg4) = OddFwdIdeal.Arr.A4 m c := e4
  have k5 : m' ((c.tc : Thread OddFwdRefIdeal.nD OddFwdRefIdeal.τ).loc OddFwdRefIdeal.main_arg5) = OddFwdIdeal.Arr.A5 m c := e5
  have k6 : m' ((c.tc : Thread OddFwdRefIdeal.nD OddFwdRefIdeal.τ).loc OddFwdRefIdeal.main_arg6) = OddFwdIdeal.Arr.A6 m c := e6
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [OddFwdRefIdeal.Read.val_main_v65_eq, k0, k1, k2, k3, k4, k5, k6, OddFwdIdeal.Arr.arr7]
    funext i
    obtain ⟨r, l, rfl⟩ : ∃ (r : Fin 4096) (l : Fin 1024), i = ix2 r l := ⟨i 0, i 1, eq_ix2 i⟩
    exact OddFwdRefIdeal.Read.r65 _ _ _ _ _ _ _ r l
  · rw [OddFwdRefIdeal.Read.val_main_v66_eq, k0, k1, OddFwdIdeal.Arr.arr8]
    funext i
    obtain ⟨r, l, rfl⟩ : ∃ (r : Fin 4096) (l : Fin 1024), i = ix2 r l := ⟨i 0, i 1, eq_ix2 i⟩
    exact OddFwdRefIdeal.Read.r66 _ _ r l
  · rw [OddFwdRefIdeal.Read.val_main_v74_eq, k0, OddFwdIdeal.Arr.arr9]
    funext i
    obtain ⟨r, rfl⟩ : ∃ (r : Fin 4096), i = ix2 r 0 := ⟨i 0, (eq_ix2 i).trans (congrArg (fun z => ix2 _ z) (Subsingleton.elim (α := Fin 1) _ _))⟩
    exact OddFwdRefIdeal.Read.r74 _ r
  · rw [OddFwdRefIdeal.Read.val_main_v77_eq, k0, k1, k2, OddFwdIdeal.Arr.arr10]
    funext i
    obtain ⟨k, r, l, rfl⟩ : ∃ (k : Fin 4) (r : Fin 4096) (l : Fin 512), i = ix3 k r l := ⟨i 0, i 1, i 2, eq_ix3 i⟩
    exact OddFwdRefIdeal.Read.r77 _ _ _ k r l
  · rw [OddFwdRefIdeal.Read.val_main_v78_eq, k0, k1, k2, k3, k4, k5, OddFwdIdeal.Arr.arr11]
    funext i
    obtain ⟨r, l, rfl⟩ : ∃ (r : Fin 4096) (l : Fin 1024), i = ix2 r l := ⟨i 0, i 1, eq_ix2 i⟩
    exact OddFwdRefIdeal.Read.r78 _ _ _ _ _ _ r l
  · rw [OddFwdRefIdeal.Read.val_main_v86_eq, k0, k1, k2, OddFwdIdeal.Arr.arr12]
    funext i
    obtain ⟨r, rfl⟩ : ∃ (r : Fin 4096), i = ix2 r 0 := ⟨i 0, (eq_ix2 i).trans (congrArg (fun z => ix2 _ z) (Subsingleton.elim (α := Fin 1) _ _))⟩
    exact OddFwdRefIdeal.Read.r86 _ _ _ r

/-- The reference ends with its arguments unchanged; it has no semaphore. -/
theorem frame_ref : Cert.quiescent_OddFwdRefIdeal := fun m ρ _ =>
  (θ_run OddFwdRefIdeal.defs _ _).mono (fun r h => ⟨fun c => (h c).2.2.2.2.2.2, sem_eq_zero_of_no_sems (by decide) r.2⟩)
    (OddFwdRefIdeal.Value.run (F := Ideal) m ρ)

/-- The name stands for the constant it replaces. -/
theorem named : Cert.preserves_OddFwd_OddFwdIdeal :=
  IdealRules.named_const.statement OddFwdIdeal.κ "inv_sqrt_2" .f32 _ _ rfl

end Cert.OddFwdTie

end

end
-- ==== Proof.FfnIn.Blocks.lean ====
module

public import proofs.«01_k».proof.Proof.Gen.FfnInIdeal.Frame
public import Idealize.ShloMosaic.Lib.Pipeline.Value
public import proofs.«01_k».proof.Proof.Common
public import proofs.«01_k».proof.Proof.Halo
public import Idealize.ShloMosaic.Lib.Pipeline.ValueKit

@[expose] public section

set_option maxRecDepth 16384

/-! # The blocks a grid point reads (the feed-forward input)

The grid is eight tiles of 512 rows by four blocks of 704 hidden columns; point `t` is tile `t / 4`, block `t % 4`. -/

noncomputable section

namespace Cert.FfnInIdeal.Arr

open Cert.FfnInIdeal Cert.FfnInIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, 0] ∧ win0_1.index t = ![t.val / 4 * 32 - 1, 0]
    ∧ win0_2.index t = ![0, 0, 0] ∧ win0_3.index t = ![0, 0, 0] ∧ win0_4.index t = ![t.val % 4, 0, 0] ∧ win0_5.index t = ![t.val % 4, 0, 0]
    ∧ win0_6.index t = ![t.val % 4, t.val / 4, 0] ∧ win0_7.index t = ![t.val % 4, t.val / 4, 0] ∧ win0_8.index t = ![t.val % 4, t.val / 4, 0]
    ∧ win0_9.index t = ![t.val % 4, t.val / 4, 0] := by decide +kernel

/-- The six arrays at the entry. -/
def A0 : Vec Ideal S4096x1024 .f32 := m ((c : Thread nD τ).loc main_arg0)
@[inherit_doc A0] def A1 : Vec Ideal S1024 .f32 := m ((c : Thread nD τ).loc main_arg1)
@[inherit_doc A0] def A2 : Vec Ideal S1024x2816 .f32 := m ((c : Thread nD τ).loc main_arg2)
@[inherit_doc A0] def A3 : Vec Ideal S1024x2816 .f32 := m ((c : Thread nD τ).loc main_arg3)
@[inherit_doc A0] def A4 : Vec Ideal S3x2816 .f32 := m ((c : Thread nD τ).loc main_arg4)
@[inherit_doc A0] def A5 : Vec Ideal S2816 .f32 := m ((c : Thread nD τ).loc main_arg5)

/-- The hidden column `l` of block `k`. -/
def col (k : Fin 4) (l : Fin 704) : Fin 2816 := ⟨k.val * 704 + l.val, by omega⟩

/-- The normed row. -/
def xn (r : Fin 4096) (l : Fin 1024) : EReal := A0 m c (ix2 r l) * Step.rs (fun y => A0 m c (ix2 r y)) * A1 m c (ix1 l)

/-- Its gate projection at a hidden column, -/
def gf (q : Fin 2816) (r : Fin 4096) : EReal := ∑ x, xn m c r x * A2 m c (ix2 x q)

/-- its up projection, -/
def uf (q : Fin 2816) (r : Fin 4096) : EReal := ∑ x, xn m c r x * A3 m c (ix2 x q)

/-- and the causal convolution of the gate projection with its bias. -/
def gcf (q : Fin 2816) (r : Fin 4096) : EReal :=
  Step.back (gf m c q) r.val 2 * A4 m c (ix2 0 q) + Step.back (gf m c q) r.val 1 * A4 m c (ix2 1 q) + Step.back (gf m c q) r.val 0 * A4 m c (ix2 2 q)
    + A5 m c (ix1 q)

/-- The activation. -/
def act (q : Fin 2816) (r : Fin 4096) : EReal := gcf m c q r * Ideal.logistic (gcf m c q r) * uf m c q r

theorem v2 (k : Fin 4) (l : Fin 704) (x : Fin 1024) : V m c main_v2 (ix3 k l x) = A2 m c (ix2 x (col k l)) := by
  unfold V
  entry_read
  pointwise
  rfl

theorem v5 (k : Fin 4) (l : Fin 704) (x : Fin 1024) : V m c main_v5 (ix3 k l x) = A3 m c (ix2 x (col k l)) := by
  unfold V
  entry_read
  pointwise
  rfl

theorem v7 (k : Fin 4) (r : Fin 3) (l : Fin 704) : V m c main_v7 (ix3 k r l) = A4 m c (ix2 r (col k l)) := by
  unfold V
  entry_read
  pointwise
  rfl

theorem v21 (r : Fin 4096) (l : Fin 1024) : V m c main_v21 (ix2 r l) = xn m c r l := by
  unfold V
  entry_read
  pointwise
  rfl

theorem v22 (k : Fin 4) (l : Fin 704) : V m c main_v22 (ix3 k 0 l) = A5 m c (ix1 (col k l)) := by
  unfold V
  entry_read
  pointwise
  rfl

/-- Row `p` of the tile at grid point `t`. -/
def row (t : Fin cfg0.N) (p : Fin 512) : Fin 4096 := ⟨t.val / 4 * 512 + p.val, by have h : t.val < 32 := t.isLt; omega⟩

/-- Row `p` of the 16 rows before the tile (the first tile reads its own first rows). -/
def rowP (t : Fin cfg0.N) (p : Fin 16) : Fin 4096 := ⟨(t.val / 4 * 32 - 1) * 16 + p.val, by have h : t.val < 32 := t.isLt; omega⟩

/-- The block of hidden columns of grid point `t`. -/
def chip (t : Fin cfg0.N) : Fin 4 := ⟨t.val % 4, by omega⟩

theorem blk0 (t : Fin cfg0.N) (p : Fin 512) (l : Fin 1024) : iblk m c 0 t (ix2 p l) = xn m c (row t p) l := by
  rw [← v21]
  unfold row
  blk_ext [iblk, idx t]

theorem blk1 (t : Fin cfg0.N) (p : Fin 16) (l : Fin 1024) : iblk m c 1 t (ix2 p l) = xn m c (rowP t p) l := by
  rw [← v21]
  unfold rowP
  blk_ext [iblk, idx t]

theorem blk2 (t : Fin cfg0.N) (k : Fin 4) (l : Fin 704) (x : Fin 1024) : iblk m c 2 t (ix3 k l x) = A2 m c (ix2 x (col k l)) := by
  rw [← v2]
  blk_ext [iblk, idx t]

theorem blk3 (t : Fin cfg0.N) (k : Fin 4) (l : Fin 704) (x : Fin 1024) : iblk m c 3 t (ix3 k l x) = A3 m c (ix2 x (col k l)) := by
  rw [← v5]
  blk_ext [iblk, idx t]

theorem blk4 (t : Fin cfg0.N) (k : Fin 3) (l : Fin 704) : iblk m c 4 t (ix3 0 k l) = A4 m c (ix2 k (col (chip t) l)) := by
  rw [← v7]
  unfold chip
  blk_ext [iblk, idx t]

theorem blk5 (t : Fin cfg0.N) (l : Fin 704) : iblk m c 5 t (ix3 0 0 l) = A5 m c (ix1 (col (chip t) l)) := by
  rw [← v22]
  unfold chip
  blk_ext [iblk, idx t]

end Cert.FfnInIdeal.Arr
-- ==== Proof.FfnIn.Stage.lean ====
module

public import proofs.«01_k».proof.Proof.FfnIn.Blocks
public import proofs.«01_k».proof.Proof.FfnLoss.Stage

@[expose] public section

set_option maxRecDepth 16384

/-! # What a grid point computes from its blocks (the feed-forward input) -/

noncomputable section

namespace Cert.FfnInIdeal.Arr

open Cert.FfnInIdeal Cert.FfnInIdeal.Gen Idealize.ShloMosaic Idealize.ShloMosaic.TcCoe Idealize.SL.Sem

variable (m : (ℓ : Loc nD τ sig) → Buf (Elt Ideal) ℓ) (c : Dev nD)

theorem grid_val : ∀ t : Fin cfg0.N, (grid0.coords t 0).val = t.val / 4 := by decide +kernel

theorem row_val (t : Fin cfg0.N) (p : Fin 512) : (row t p).val = 512 * (t.val / 4) + p.val := by
  show t.val / 4 * 512 + p.val = _; omega

/-- The mask of the rows before the tile: zero before the first tile. -/
theorem keep (t : Fin cfg0.N) :
    Scalar.select (Scalar.cmpi .sgt (BitVec.ofNat 32 (grid0.coords t 0).val) 0#32) (Ideal.ofBits .f32 0x3F800000#32) (Ideal.ofBits .f32 0#32)
      = if t.val / 4 = 0 then (0 : EReal) else 1 := FfnLossIdeal.Arr.keepP t

/-- A row of the tile with the sixteen rows before it, in the whole array. -/
def rowE (t : Fin cfg0.N) (e : ℕ) (h : e < 528) : Fin 4096 := if he : e < 16 then rowP t ⟨e, he⟩ else row t ⟨e - 16, by omega⟩

theorem rowE_tile (t : Fin cfg0.N) (p : Fin 512) : rowE t (16 + p.val) (by omega) = row t p := by
  unfold rowE
  rw [dif_neg (by omega)]
  exact congrArg (row t) (Fin.ext (by show 16 + p.val - 16 = p.val; omega))

theorem off1 : ∀ t : Fin cfg0.N, k0_off1 (grid0.coords t) = ![t.val % 4, 0, 0] := by decide +kernel

theorem emb1 (t : Fin cfg0.N) (o : Fin 3 → ℕ) (ho : o = ![t.val % 4, 0, 0]) (h : ∀ a, o a + ![1, 704, 1024] a ≤ S4x704x1024.size a) (l : Fin 704) (y : Fin 1024) :
    (Rect.unit (s := S4x704x1024) o ![1, 704, 1024] h).idx (ix3 0 l y) = ix3 (chip t) l y := by
  subst ho
  funext a
  refine Fin.ext ?_
  match a with
  | 0 => show t.val % 4 + 1 * 0 = t.val % 4; omega
  | 1 => show 0 + 1 * l.val = l.val; omega
  | 2 => show 0 + 1 * y.val = y.val; omega

/-- The rows of the weights that a point loads. -/
theorem ld2 (t : Fin cfg0.N) (h) (l : Fin 704) (y : Fin 1024) :
    View.ld (iblk m c 2 t) (Rect.unit (s := S4x704x1024) (k0_off1 (grid0.coords t)) ![1, 704, 1024] h) (ix3 0 l y) = A2 m c (ix2 y (col (chip t) l)) := by
  rw [← blk2 m c t (chip t) l y]
  exact congrArg (iblk m c 2 t) (emb1 t _ (off1 t) h l y)

@[inherit_doc ld2] theorem ld3 (t : Fin cfg0.N) (h) (l : Fin 704) (y : Fin 1024) :
    View.ld (iblk m c 3 t) (Rect.unit (s := S4x704x1024) (k0_off1 (grid0.coords t)) ![1, 704, 1024] h) (ix3 0 l y) = A3 m c (ix2 y (col (chip t) l)) := by
  rw [← blk3 m c t (chip t) l y]
  exact congrArg (iblk m c 3 t) (emb1 t _ (off1 t) h l y)

/-- Row `k` of the convolution's weights, as a point loads it. -/
theorem ld4 (t : Fin cfg0.N) (k : Fin 3) (h) (l : Fin 704) :
    View.ld (iblk m c 4 t) (Rect.unit (s := S1x3x704) ![0, k.val, 0] ![1, 1, 704] h) (ix3 0 0 l) = A4 m c (ix2 k (col (chip t) l)) := by
  rw [← blk4 m c t k l]
  refine congrArg (iblk m c 4 t) (funext fun a => Fin.ext ?_)
  match a with
  | 0 => rfl
  | 1 => show k.val + 1 * 0 = k.val; omega
  | 2 => show 0 + 1 * l.val = l.val; omega

section Rows

variable (t : Fin cfg0.N) (v6 : Vec Ideal S1x704x1024 .bf16) (h6 : ∀ l y, v6 (ix3 0 l y) = A2 m c (ix2 y (col (chip t) l)))

include h6

/-- The gate projection of the extended tile. -/
theorem gate (e : ℕ) (h : e < 528) (l : Fin 704) : k0_pay4 (F := Ideal) (iblk m c 1 t) (iblk m c 0 t) v6 (ix2 ⟨e, h⟩ l) = gf m c (col (chip t) l) (rowE t e h) := by
  pointwise [k0_pay4]
  refine Finset.sum_congr rfl fun y _ => congrArg₂ (HMul.hMul : EReal → EReal → EReal) ?_ (h6 l y)
  unfold rowE
  by_cases he : e < 16
  · rw [dif_pos he, dif_pos he]; exact blk1 m c t ⟨e, he⟩ y
  · rw [dif_neg he, dif_neg he]; exact blk0 m c t ⟨e - 16, by omega⟩ y

theorem gate_out (p : Fin 512) (l : Fin 704) : k0_pay6 (F := Ideal) (iblk m c 1 t) (iblk m c 0 t) v6 (ix3 0 p l) = gf m c (col (chip t) l) (row t p) := by
  pointwise [k0_pay6]
  rw [gate m c t v6 h6]
  exact congrArg (gf m c (col (chip t) l)) (rowE_tile t p)

/-- The masked rows are the projection's rows, with zeros before the first. -/
theorem masked (e : ℕ) (h : e < 528) (l : Fin 704) :
    k0_pay8 (F := Ideal) (grid0.coords t) (iblk m c 1 t) (iblk m c 0 t) v6 (ix2 ⟨e, h⟩ l) = Step.lag (gf m c (col (chip t) l)) (512 * (t.val / 4) + e) := by
  have hp : k0_pay8 (F := Ideal) (grid0.coords t) (iblk m c 1 t) (iblk m c 0 t) v6
      = FfnLossIdeal.Arr.maskOf (Scalar.select (Scalar.cmpi .sgt (BitVec.ofNat 32 (grid0.coords t 0).val) 0#32) (Ideal.ofBits .f32 0x3F800000#32) (Ideal.ofBits .f32 0#32))
        (k0_pay4 (F := Ideal) (iblk m c 1 t) (iblk m c 0 t) v6) := rfl
  rw [hp, keep]
  by_cases he : e < 16
  · refine (FfnLossIdeal.Arr.maskOf_lo _ _ ⟨e, he⟩ l).trans ?_
    rw [gate m c t v6 h6 e (by omega) l, rowE, dif_pos he]
    by_cases h0 : t.val / 4 = 0
    · rw [if_pos h0, mul_zero, Step.lag_lo _ _ (by omega)]
    · rw [if_neg h0, mul_one]
      refine (Step.lag_hi _ _ (rowP t ⟨e, he⟩) ?_).symm
      show _ = 16 + ((t.val / 4 * 32 - 1) * 16 + e)
      omega
  · obtain ⟨f, rfl⟩ : ∃ f : Fin 512, e = 16 + f.val := ⟨⟨e - 16, by omega⟩, by show e = 16 + (e - 16); omega⟩
    refine (FfnLossIdeal.Arr.maskOf_hi _ _ f l).trans ?_
    rw [gate m c t v6 h6 _ (by omega) l, rowE_tile]
    exact (Step.lag_hi _ _ (row t f) (by rw [row_val]; omega)).symm

/-- The convolution of the tile's gate projection. -/
theorem conv (v33 v38 v44 v50 : Vec Ideal S1x1x704 .f32) (h33 : ∀ l, v33 (ix3 0 0 l) = A4 m c (ix2 0 (col (chip t) l))) (h38 : ∀ l, v38 (ix3 0 0 l) = A4 m c (ix2 1 (col (chip t) l)))
    (h44 : ∀ l, v44 (ix3 0 0 l) = A4 m c (ix2 2 (col (chip t) l))) (h50 : ∀ l, v50 (ix3 0 0 l) = A5 m c (ix1 (col (chip t) l))) (p : Fin 512) (l : Fin 704) :
    k0_pay1 (F := Ideal) (k0_pay8 (F := Ideal) (grid0.coords t) (iblk m c 1 t) (iblk m c 0 t) v6) v33 v38 v44 v50 (ix2 p l) = gcf m c (col (chip t) l) (row t p) := by
  have hp : ∀ v : FVec Ideal S528x704 .f32, k0_pay1 (F := Ideal) v v33 v38 v44 v50 = FfnLossIdeal.Arr.convOf v v33 v38 v44 v50 := fun _ => rfl
  rw [hp, FfnLossIdeal.Arr.convOf_apply]
  refine (congrArg₂ (HAdd.hAdd : EReal → EReal → EReal) (congrArg₂ (HAdd.hAdd : EReal → EReal → EReal) (congrArg₂ (HAdd.hAdd : EReal → EReal → EReal)
    (congrArg₂ (HMul.hMul : EReal → EReal → EReal) (h33 l) (masked m c t v6 h6 _ _ l)) (congrArg₂ (HMul.hMul : EReal → EReal → EReal) (h38 l) (masked m c t v6 h6 _ _ l)))
    (congrArg₂ (HMul.hMul : EReal → EReal → EReal) (h44 l) (masked m c t v6 h6 _ _ l))) (h50 l)).trans ?_
  unfold gcf
  rw [← Step.lag_eq _ _ 2 (by omega), ← Step.lag_eq _ _ 1 (by omega), ← Step.lag_eq _ _ 0 (by omega), row_val]
  rw [mul_comm (A4 m c (ix2 0 _)), mul_comm (A4 m c (ix2 1 _)), mul_comm (A4 m c (ix2 2 _))]
  rw [show 512 * (t.val / 4) + (14 + p.val) = 16 + (512 * (t.val / 4) + p.val) - 2 by omega, show 512 * (t.val / 4) + (15 + p.val) = 16 + (512 * (t.val / 4) + p.val) - 1 by omega,
    show 512 * (t.val / 4) + (16 + p.val) = 16 + (512 * (t.val / 4) + p.val) - 0 by omega]

end Rows

/-- The up projection of the tile. -/
theorem up (t : Fin cfg0.N) (v13 : Vec Ideal S1x704x1024 .bf16) (h13 : ∀ l y, v13 (ix3 0 l y) = A3 m c (ix2 y (col (chip t) l))) (p : Fin 512) (l : Fin 704) :
    k0_pay5 (F := Ideal) (iblk m c 0 t) v13 (ix2 p l) = uf m c (col (chip t) l) (row t p) := by
  pointwise [k0_pay5]
  exact Finset.sum_congr rfl fun y _ => congrArg₂ (HMul.hMul : EReal → EReal → EReal) (blk0 m c t p y) (h13 l y)

theorem up_out (t : Fin cfg0.N) (v13 : Vec Ideal S1x704x1024 .bf16) (h13 : ∀ l y, v13 (ix3 0 l y) = A3 m c (ix2 y (col (chip t) l))) (p : Fin 512) (l : Fin 704) :
    k0_pay7 (F := Ideal) (iblk m c 0 t) v13 (ix3 0 p l) = uf m c (col (chip t) l) (row t p) := by
  pointwise [k0_pay7]
  exact up m c t v13 h13 p l

/-- The four blocks a point leaves: the gate projection, -/
theorem out6 (t : Fin cfg0.N) (p : Fin 512) (l : Fin 704) : (outsAt0 m c t).1 (ix3 0 p l) = gf m c (col (chip t) l) (row t p) := by
  unfold outsAt0
  frame_out
  exact gate_out m c t _ (ld2 m c t _) p l

/-- the up projection, -/
theorem out7 (t : Fin cfg0.N) (p : Fin 512) (l : Fin 704) : (outsAt0 m c t).2.1 (ix3 0 p l) = uf m c (col (chip t) l) (row t p) := by
  unfold outsAt0
  frame_out
  exact up_out m c t _ (ld3 m c t _) p l

/-- the convolution, -/
theorem out8 (t : Fin cfg0.N) (p : Fin 512) (l : Fin 704) : (outsAt0 m c t).2.2.1 (ix3 0 p l) = gcf m c (col (chip t) l) (row t p) := by
  unfold outsAt0
  frame_out
  pointwise [k0_pay2]
  exact conv m c t _ (ld2 m c t _) _ _ _ _ (ld4 m c t 0 _) (ld4 m c t 1 _) (ld4 m c t 2 _) (blk5 m c t) p l

/-- and the activation. -/
theorem out9 (t : Fin cfg0.N) (p : Fin 512) (l : Fin 704) : (outsAt0 m c t).2.2.2 (ix3 0 p l) = act m c (col (chip t) l) (row t p) := by
  unfold outsAt0
  frame_out
  pointwise [k0_pay3]
  have hu := up m c t _ (ld3 m c t (k0_off1_inb (grid0.coords t))) p l
  have hc := conv m c t _ (ld2 m c t (k0_off1_inb (grid0.coords t))) _ _ _ _ (ld4 m c t 0 inb_S1x3x704_S1x1x704_0_0_0) (ld4 m c t 1 inb_S1x3x704_S1x1x704_0_1_0) (ld4 m c t 2 inb_S1x3x704_S1x1x704_0_2_0) (blk5 m c t) p l
  unfold act
  rw [← hu, ← hc]
  rfl

theorem arr6 : (dats m 0 c).arrAt 6 cfg0.N = fun i => gf m c (col (i 0) (i 2)) (i 1) := by
  refine (dats m 0 c).arrAt_eq_of_covers 6 _ (by decide +kernel) fun t hf y => ?_
  blk_simp
  rw [after0_6]
  idx_vars y
  obtain rfl : y0 = 0 := Subsingleton.elim _ _
  have e0 : (((View.whole main_v23_0).slice (win0_6.rect t)).emb (ix3 0 y1 y2)) = ix3 (chip t) (row t y1) y2 := by
    unfold row chip
    blk_ext [idx t]
  rw [e0]
  exact out6 m c t y1 y2

theorem arr7 : (dats m 0 c).arrAt 7 cfg0.N = fun i => uf m c (col (i 0) (i 2)) (i 1) := by
  refine (dats m 0 c).arrAt_eq_of_covers 7 _ (by decide +kernel) fun t hf y => ?_
  blk_simp
  rw [after0_7]
  idx_vars y
  obtain rfl : y0 = 0 := Subsingleton.elim _ _
  have e0 : (((View.whole main_v23_1).slice (win0_7.rect t)).emb (ix3 0 y1 y2)) = ix3 (chip t) (row t y1) y2 := by
    unfold row chip
    blk_ext [idx t]
  rw [e0]
  exact out7 m c t y1 y2

theorem arr8 : (dats m 0 c).arrAt 8 cfg0.N = fun i => gcf m c (col (i 0) (i 2)) (i 1) := by
  refine (dats m 0 c).arrAt_eq_of_covers 8 _ (by decide +kernel) fun t hf y => ?_
  blk_simp
  rw [after0_8]
  idx_vars y
  obtain rfl : y0 = 0 := Subsingleton.elim _ _
  have e0 : (((View.whole main_v23_2).slice (win0_8.rect t)).emb (ix3 0 y1 y2)) = ix3 (chip t) (row t y1) y2 := by
    unfold row chip
    blk_ext [idx t]
  rw [e0]
  exact out8 m c t y1 y2

theorem arr9 : (dats m 0 c).arrAt 9 cfg0.N = fun i => act m c (col (i 0) (i 2)) (i 1) := by
  refine (dats m 0 c).arrAt_eq_of_covers 9 _ (by decide +kernel) fun t hf y => ?_
  blk_simp
  rw [after0_9]
  idx_vars y
  obtain rfl : y0 = 0 := Subsingleton.elim _ _
  have e0 : (((View.whole main_v23_3).slice (win0_9.rect t)).emb (ix3 0 y1 y2)) = ix3 (chip t) (row t y1) y2 := by
    unfold row chip
    blk_ext [idx t]
  rw [e0]
  exact out9 m c t y1 y2

end Cert.FfnInIdeal.Arr
-- ==== Proof.FfnIn.Ref.lean ====
module

public import proofs.«01_k».proof.Proof.Gen.FfnInRefIdeal.Read
public import proofs.«01_k».proof.Proof.HostReads

@[expose] public section

set_option maxRecDepth 16384

/-! # What the reference computes, entry by entry (the feed-forward input) -/

noncomputable section

namespace Cert.FfnInRefIdeal.Read

open Cert.FfnInRefIdeal Idealize.ShloMosaic Idealize.ShloMosaic.TcCoe Idealize.SL.Sem

section Defs

variable (x0 : Vec Ideal S4096x1024 .f32) (x1 : Vec Ideal S1024 .f32) (x2 x3 : Vec Ideal S1024x2816 .f32) (x4 : Vec Ideal S3x2816 .f32)
  (x5 : Vec Ideal S2816 .f32)

/-- Hidden column `l` of block `k`. -/
def col (k : Fin 4) (l : Fin 704) : Fin 2816 := ⟨k.val * 704 + l.val, by omega⟩

/-- The normalised input. -/
def xn (r : Fin 4096) (l : Fin 1024) : EReal := x0 (ix2 r l) * Step.rs (fun y => x0 (ix2 r y)) * x1 (ix1 l)

/-- A projection of it: the gate's or the up one. -/
def gf (q : Fin 2816) (r : Fin 4096) : EReal := ∑ x, xn x0 x1 r x * x2 (ix2 x q)

/-- The causal convolution of the gate projection, with its bias. -/
def gcf (q : Fin 2816) (r : Fin 4096) : EReal :=
  Step.back (gf x0 x1 x2 q) r.val 2 * x4 (ix2 0 q) + Step.back (gf x0 x1 x2 q) r.val 1 * x4 (ix2 1 q) + Step.back (gf x0 x1 x2 q) r.val 0 * x4 (ix2 2 q)
    + x5 (ix1 q)

/-- The activation. -/
def act (q : Fin 2816) (r : Fin 4096) : EReal := gcf x0 x1 x2 x4 x5 q r * Ideal.logistic (gcf x0 x1 x2 x4 x5 q r) * gf x0 x1 x3 q r

end Defs

theorem r12 (x0 : Vec Ideal S4096x1024 .f32) (x1 : Vec Ideal S1024 .f32) (r : Fin 4096) (l : Fin 1024) :
    val_main_v12 (F := Ideal) x0 x1 (ix2 r l) = xn x0 x1 r l := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

theorem r13 (x0 : Vec Ideal S4096x1024 .f32) (x1 : Vec Ideal S1024 .f32) (x2 : Vec Ideal S1024x2816 .f32) (r : Fin 4096) (q : Fin 2816) :
    val_main_v13 (F := Ideal) x0 x1 x2 (ix2 r q) = gf x0 x1 x2 q r := by
  pointwise [val_main_v13]
  simp only [r12]; rfl

theorem r14 (x0 : Vec Ideal S4096x1024 .f32) (x1 : Vec Ideal S1024 .f32) (x3 : Vec Ideal S1024x2816 .f32) (r : Fin 4096) (q : Fin 2816) :
    val_main_v14 (F := Ideal) x0 x1 x3 (ix2 r q) = gf x0 x1 x3 q r := by
  pointwise [val_main_v14]
  simp only [r12]; rfl

theorem r17 (x0 : Vec Ideal S4096x1024 .f32) (x1 : Vec Ideal S1024 .f32) (x2 : Vec Ideal S1024x2816 .f32) (r : Fin 4096) (q : Fin 2816) :
    val_main_v17 (F := Ideal) x0 x1 x2 (ix2 r q) = Step.back (gf x0 x1 x2 q) r.val 2 := by
  pointwise [val_main_v17, val_main_v16, val_main_v15, val_main_cst_2]
  rw [← Step.back_dif _ r (r.val) 2 2 (by omega) (fun _ => by omega)]
  exact dite_congr rfl (fun _ => rfl) fun h => r13 x0 x1 x2 _ q

theorem r23 (x0 : Vec Ideal S4096x1024 .f32) (x1 : Vec Ideal S1024 .f32) (x2 : Vec Ideal S1024x2816 .f32) (r : Fin 4096) (q : Fin 2816) :
    val_main_v23 (F := Ideal) x0 x1 x2 (ix2 r q) = Step.back (gf x0 x1 x2 q) r.val 1 := by
  pointwise [val_main_v23, val_main_v16, val_main_v15, val_main_cst_2]
  rw [← Step.back_dif _ r (1 + r.val) 2 1 (by omega) (fun _ => by omega)]
  exact dite_congr rfl (fun _ => rfl) fun h => r13 x0 x1 x2 _ q

theorem r30 (x0 : Vec Ideal S4096x1024 .f32) (x1 : Vec Ideal S1024 .f32) (x2 : Vec Ideal S1024x2816 .f32) (r : Fin 4096) (q : Fin 2816) :
    val_main_v30 (F := Ideal) x0 x1 x2 (ix2 r q) = Step.back (gf x0 x1 x2 q) r.val 0 := by
  pointwise [val_main_v30, val_main_v16, val_main_v15, val_main_cst_2]
  exact (r13 x0 x1 x2 r q).trans (Step.back_zero (gf x0 x1 x2 q) r).symm

theorem r39 (x0 : Vec Ideal S4096x1024 .f32) (x1 : Vec Ideal S1024 .f32) (x2 : Vec Ideal S1024x2816 .f32) (x4 : Vec Ideal S3x2816 .f32) (x5 : Vec Ideal S2816 .f32) (r : Fin 4096) (q : Fin 2816) :
    val_main_v39 (F := Ideal) x0 x1 x2 x4 x5 (ix2 r q) = gcf x0 x1 x2 x4 x5 q r := by
  pointwise [val_main_v18, val_main_v19, val_main_v20, val_main_v21, val_main_v22, val_main_v24, val_main_v25, val_main_v26, val_main_v27, val_main_v28, val_main_v29, val_main_v31, val_main_v32, val_main_v33, val_main_v34, val_main_v35, val_main_v36, val_main_v37, val_main_v38, val_main_v39]
  rw [r17, r23, r30]; rfl

theorem r50 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (r : Fin 4096) (q : Fin 2816) :
    val_main_v50 (F := Ideal) x0 x1 x2 x3 x4 x5 (ix2 r q) = act x0 x1 x2 x3 x4 x5 q r := by
  pointwise [val_main_v50, val_main_v49, val_main_call0_v5, val_main_call0_v4, val_main_call0_cst_0, val_main_call0_v3, val_main_call0_v2, val_main_call0_cst, val_main_call0_v1, val_main_call0_v0]
  rw [r39, r14]; rfl

theorem r42 (x0 : Vec Ideal S4096x1024 .f32) (x1 : Vec Ideal S1024 .f32) (x2 : Vec Ideal S1024x2816 .f32) (k : Fin 4) (r : Fin 4096) (l : Fin 704) :
    val_main_v42 (F := Ideal) x0 x1 x2 (ix3 k r l) = gf x0 x1 x2 (col k l) r := by
  pointwise [val_main_v40, val_main_v41, val_main_v42]
  exact r13 x0 x1 x2 r (col k l)

theorem r45 (x0 : Vec Ideal S4096x1024 .f32) (x1 : Vec Ideal S1024 .f32) (x3 : Vec Ideal S1024x2816 .f32) (k : Fin 4) (r : Fin 4096) (l : Fin 704) :
    val_main_v45 (F := Ideal) x0 x1 x3 (ix3 k r l) = gf x0 x1 x3 (col k l) r := by
  pointwise [val_main_v43, val_main_v44, val_main_v45]
  exact r14 x0 x1 x3 r (col k l)

theorem r48 (x0 : Vec Ideal S4096x1024 .f32) (x1 : Vec Ideal S1024 .f32) (x2 : Vec Ideal S1024x2816 .f32) (x4 : Vec Ideal S3x2816 .f32) (x5 : Vec Ideal S2816 .f32) (k : Fin 4) (r : Fin 4096) (l : Fin 704) :
    val_main_v48 (F := Ideal) x0 x1 x2 x4 x5 (ix3 k r l) = gcf x0 x1 x2 x4 x5 (col k l) r := by
  pointwise [val_main_v46, val_main_v47, val_main_v48]
  exact r39 x0 x1 x2 x4 x5 r (col k l)

theorem r53 (x0 : Vec Ideal S4096x1024 .f32) (x1 : Vec Ideal S1024 .f32) (x2 : Vec Ideal S1024x2816 .f32) (x3 : Vec Ideal S1024x2816 .f32) (x4 : Vec Ideal S3x2816 .f32) (x5 : Vec Ideal S2816 .f32) (k : Fin 4) (r : Fin 4096) (l : Fin 704) :
    val_main_v53 (F := Ideal) x0 x1 x2 x3 x4 x5 (ix3 k r l) = act x0 x1 x2 x3 x4 x5 (col k l) r := by
  pointwise [val_main_v51, val_main_v52, val_main_v53]
  exact r50 x0 x1 x2 x3 x4 x5 r (col k l)

end Cert.FfnInRefIdeal.Read
-- ==== Proof.FfnIn.Claim.lean ====
module

public import proofs.«01_k».proof.Defs
public import proofs.«01_k».proof.Proof.Gen.FfnInIdeal
public import proofs.«01_k».proof.Proof.Gen.FfnInRefIdeal
public import proofs.«01_k».proof.Proof.Gen.FfnInIdeal.Value
public import proofs.«01_k».proof.Proof.FfnIn.Stage
public import proofs.«01_k».proof.Proof.FfnIn.Ref

@[expose] public section

set_option maxRecDepth 16384

/-! # The feed-forward input: the kernel's four results are the reference's -/

noncomputable section

namespace Cert.FfnInTie

open Idealize.ShloMosaic Idealize.ShloMosaic.TcCoe Idealize.SL.Sem

section Same

open Cert.FfnInIdeal Cert.FfnInIdeal.Arr

variable (m : (ℓ : Loc nD τ sig) → Buf (Elt Ideal) ℓ) (c : Dev nD)

/-- Both sides name the same quantities: the projections, -/
theorem gf_same : gf m c = FfnInRefIdeal.Read.gf (A0 m c) (A1 m c) (A2 m c) := rfl

@[inherit_doc gf_same] theorem uf_same : uf m c = FfnInRefIdeal.Read.gf (A0 m c) (A1 m c) (A3 m c) := rfl

/-- the convolved gate -/
theorem gcf_same : gcf m c = FfnInRefIdeal.Read.gcf (A0 m c) (A1 m c) (A2 m c) (A4 m c) (A5 m c) := by
  funext q R; unfold gcf FfnInRefIdeal.Read.gcf; rw [gf_same]

/-- and the activation. -/
theorem act_same : act m c = FfnInRefIdeal.Read.act (A0 m c) (A1 m c) (A2 m c) (A3 m c) (A4 m c) (A5 m c) := by
  funext q R; unfold act FfnInRefIdeal.Read.act; rw [gcf_same, uf_same]

end Same

set_option maxHeartbeats 1600000 in
/-- The kernel's four arrays, at the entry's arrays, are what the forward lines give. -/
theorem algebraic : Cert.algebraic_FfnInIdeal_FfnInRefIdeal := by
  intro m ρ m' ρ' _ hag
  refine ⟨_, _, _, _, FfnInIdeal.Value.run_blocks m ρ, ?_⟩
  refine (θ_run FfnInRefIdeal.defs _ _).mono (fun r h c => ?_) (FfnInRefIdeal.Value.run (F := Ideal) m' ρ')
  obtain ⟨e0, e1, e2, e3, e4, e5⟩ := hag c
  have k0 : m' ((c.tc : Thread FfnInRefIdeal.nD FfnInRefIdeal.τ).loc FfnInRefIdeal.main_arg0) = FfnInIdeal.Arr.A0 m c := e0
  have k1 : m' ((c.tc : Thread FfnInRefIdeal.nD FfnInRefIdeal.τ).loc FfnInRefIdeal.main_arg1) = FfnInIdeal.Arr.A1 m c := e1
  have k2 : m' ((c.tc : Thread FfnInRefIdeal.nD FfnInRefIdeal.τ).loc FfnInRefIdeal.main_arg2) = FfnInIdeal.Arr.A2 m c := e2
  have k3 : m' ((c.tc : Thread FfnInRefIdeal.nD FfnInRefIdeal.τ).loc FfnInRefIdeal.main_arg3) = FfnInIdeal.Arr.A3 m c := e3
  have k4 : m' ((c.tc : Thread FfnInRefIdeal.nD FfnInRefIdeal.τ).loc FfnInRefIdeal.main_arg4) = FfnInIdeal.Arr.A4 m c := e4
  have k5 : m' ((c.tc : Thread FfnInRefIdeal.nD FfnInRefIdeal.τ).loc FfnInRefIdeal.main_arg5) = FfnInIdeal.Arr.A5 m c := e5
  refine ⟨(h c).1.trans ?_, (h c).2.1.trans ?_, (h c).2.2.1.trans ?_, (h c).2.2.2.1.trans ?_, (h c).2.2.2.2⟩
  · rw [FfnInRefIdeal.Read.val_main_v42_eq, k0, k1, k2, FfnInIdeal.Arr.arr6]
    funext i
    obtain ⟨k, r, l, rfl⟩ : ∃ (k : Fin 4) (r : Fin 4096) (l : Fin 704), i = ix3 k r l := ⟨i 0, i 1, i 2, eq_ix3 i⟩
    simp only [gf_same]
    exact FfnInRefIdeal.Read.r42 _ _ _ k r l
  · rw [FfnInRefIdeal.Read.val_main_v45_eq, k0, k1, k3, FfnInIdeal.Arr.arr7]
    funext i
    obtain ⟨k, r, l, rfl⟩ : ∃ (k : Fin 4) (r : Fin 4096) (l : Fin 704), i = ix3 k r l := ⟨i 0, i 1, i 2, eq_ix3 i⟩
    simp only [uf_same]
    exact FfnInRefIdeal.Read.r45 _ _ _ k r l
  · rw [FfnInRefIdeal.Read.val_main_v48_eq, k0, k1, k2, k4, k5, FfnInIdeal.Arr.arr8]
    funext i
    obtain ⟨k, r, l, rfl⟩ : ∃ (k : Fin 4) (r : Fin 4096) (l : Fin 704), i = ix3 k r l := ⟨i 0, i 1, i 2, eq_ix3 i⟩
    simp only [gcf_same]
    exact FfnInRefIdeal.Read.r48 _ _ _ _ _ k r l
  · rw [FfnInRefIdeal.Read.val_main_v53_eq, k0, k1, k2, k3, k4, k5, FfnInIdeal.Arr.arr9]
    funext i
    obtain ⟨k, r, l, rfl⟩ : ∃ (k : Fin 4) (r : Fin 4096) (l : Fin 704), i = ix3 k r l := ⟨i 0, i 1, i 2, eq_ix3 i⟩
    simp only [act_same]
    exact FfnInRefIdeal.Read.r53 _ _ _ _ _ _ k r l

/-- The reference ends with its arguments unchanged; it has no semaphore. -/
theorem frame_ref : Cert.quiescent_FfnInRefIdeal := fun m ρ _ =>
  (θ_run FfnInRefIdeal.defs _ _).mono (fun r h => ⟨fun c => (h c).2.2.2.2, sem_eq_zero_of_no_sems (by decide) r.2⟩)
    (FfnInRefIdeal.Value.run (F := Ideal) m ρ)

end Cert.FfnInTie
-- ==== Proof.EvenFwd.Ref.lean ====
module

public import proofs.«01_k».proof.Proof.EvenGrad.RefBwd
public import proofs.«01_k».proof.Proof.Gen.EvenFwdRefIdeal.Read

@[expose] public section

set_option maxRecDepth 16384

/-! # What the reference computes, entry by entry (the even layer)

Up to the joined mixers these are the forward lines of the mixers' weight gradients, read there already. -/

noncomputable section

namespace Cert.EvenFwdRefIdeal.Read

open Cert.EvenFwdRefIdeal Idealize.ShloMosaic Idealize.ShloMosaic.TcCoe Idealize.SL.Sem

variable (x0 : Vec Ideal S4096x1024 .f32) (x1 : Vec Ideal S1x1024 .f32) (x2 : Vec Ideal S1024x2048 .f32) (x3 : Vec Ideal S3x512 .f32)
  (x4 : Vec Ideal S4x128x128 .f32) (x5 : Vec Ideal S1x512 .f32) (x6 : Vec Ideal S1024x1024 .f32) (x7 : Vec Ideal S1x1024 .f32)

/-- The gain and the scales as plain vectors. -/
def g1 : Vec Ideal S1024 .f32 := val_main_v0 (F := Ideal) x1
@[inherit_doc g1] def g5 : Vec Ideal S512 .f32 := val_main_v15 (F := Ideal) x5

theorem g1_apply (l : Fin 1024) : g1 x1 (ix1 l) = x1 (ix2 0 l) := by
  pointwise [g1, val_main_v0]

theorem g5_apply (l : Fin 512) : g5 x5 (ix1 l) = x5 (ix2 0 l) := by
  pointwise [g5, val_main_v15]

/-- The normed rows. -/
def xn (r : Fin 4096) (l : Fin 1024) : EReal := EvenGradRefIdeal.Read.xn x0 (g1 x1) r l

/-- Block `k` of the projections. -/
def pr (k : Fin 4) (r : Fin 4096) (l : Fin 512) : EReal := EvenGradRefIdeal.Read.pr x0 (g1 x1) x2 k r l

/-- The two mixers side by side. -/
def mx (r : Fin 4096) (j : Fin 1024) : EReal := EvenGradRefIdeal.Read.mx x0 (g1 x1) x2 x3 x4 (g5 x5) r j

/-- The layer's output: the input and the mixers through the output projection. -/
def out (r : Fin 4096) (l : Fin 1024) : EReal := x0 (ix2 r l) + ∑ j, mx x0 x1 x2 x3 x4 x5 r j * x6 (ix2 j l)

/-- The output normed for the next layer. -/
def hn (r : Fin 4096) (l : Fin 1024) : EReal :=
  out x0 x1 x2 x3 x4 x5 x6 r l * Step.rs (out x0 x1 x2 x3 x4 x5 x6 r) * x7 (ix2 0 l)

theorem xn_eq (r : Fin 4096) (l : Fin 1024) : xn x0 x1 r l = x0 (ix2 r l) * Step.rs (fun y => x0 (ix2 r y)) * x1 (ix2 0 l) := by
  rw [← g1_apply x1]
  rfl

theorem r13 (r : Fin 4096) (l : Fin 1024) : val_main_v13 (F := Ideal) x0 x1 (ix2 r l) = xn x0 x1 r l :=
  (congrFun (show val_main_v13 (F := Ideal) x0 x1 = EvenGradRefIdeal.Read.val_main_v12 (F := Ideal) x0 (g1 x1) from rfl) _).trans
    (EvenGradRefIdeal.Read.r12 x0 (g1 x1) r l)

theorem r14 (k : Fin 4) (r : Fin 4096) (l : Fin 512) (j : Fin 2048) (hj : j.val = k.val * 512 + l.val) :
    val_main_v14 (F := Ideal) x0 x1 x2 (ix2 r j) = pr x0 x1 x2 k r l :=
  (congrFun (show val_main_v14 (F := Ideal) x0 x1 x2 = EvenGradRefIdeal.Read.val_main_v13 (F := Ideal) x0 (g1 x1) x2 from rfl) _).trans
    (EvenGradRefIdeal.Read.r13 x0 (g1 x1) x2 k r l j hj)

section Real

variable (hz : ∀ l R, Step.IsReal (EvenGradRefIdeal.Read.zf x0 (g1 x1) x2 l R))
include hz

theorem r113 (r : Fin 4096) (j : Fin 1024) : val_main_v113 (F := Ideal) x0 x1 x2 x3 x4 x5 (ix2 r j) = mx x0 x1 x2 x3 x4 x5 r j :=
  (congrFun (show val_main_v113 (F := Ideal) x0 x1 x2 x3 x4 x5 = EvenGradRefIdeal.Read.val_main_v116 (F := Ideal) x0 (g1 x1) x2 x3 x4 (g5 x5) from rfl) _).trans
    (EvenGradRefIdeal.Read.r116 x0 (g1 x1) x2 x3 x4 (g5 x5) hz r j)

/-- The seven results: the output, -/
theorem r115 (r : Fin 4096) (l : Fin 1024) : val_main_v115 (F := Ideal) x0 x1 x2 x3 x4 x5 x6 (ix2 r l) = out x0 x1 x2 x3 x4 x5 x6 r l := by
  pointwise [val_main_v115, val_main_v114]
  unfold out
  exact congrArg (_ + ·) (Finset.sum_congr rfl fun j _ => by rw [r113 x0 x1 x2 x3 x4 x5 hz])

/-- the joined mixers, -/
theorem r135 (r : Fin 4096) (j : Fin 1024) : val_main_v135 (F := Ideal) x0 x1 x2 x3 x4 x5 (ix2 r j) = mx x0 x1 x2 x3 x4 x5 r j := by
  pointwise [val_main_v135]
  exact r113 x0 x1 x2 x3 x4 x5 hz r j

/-- the output normed for the next layer, -/
theorem r150 (r : Fin 4096) (l : Fin 1024) : val_main_v150 (F := Ideal) x0 x1 x2 x3 x4 x5 x6 x7 (ix2 r l) = hn x0 x1 x2 x3 x4 x5 x6 x7 r l := by
  pointwise [val_main_v150, val_main_v149, val_main_v146, val_main_v145, val_main_v144, val_main_v143, val_main_v142, val_main_v141, val_main_v140, val_main_v139,
    val_main_v138, val_main_v137, val_main_cst_15, val_main_cst_16, val_main_cst_17, val_main_v148, val_main_v147, val_main_v136]
  simp only [r115 x0 x1 x2 x3 x4 x5 x6 hz]
  rfl

/-- its norm, -/
theorem r158 (r : Fin 4096) : val_main_v158 (F := Ideal) x0 x1 x2 x3 x4 x5 x6 (ix2 r 0) = Step.rs (out x0 x1 x2 x3 x4 x5 x6 r) := by
  pointwise [val_main_v158, val_main_v157, val_main_v156, val_main_v155, val_main_v154, val_main_v153, val_main_v152, val_main_v151, val_main_cst_18,
    val_main_cst_19, val_main_cst_20]
  simp only [r115 x0 x1 x2 x3 x4 x5 x6 hz]
  rfl

end Real

/-- the normed rows, -/
theorem r116 (r : Fin 4096) (l : Fin 1024) : val_main_v116 (F := Ideal) x0 x1 (ix2 r l) = xn x0 x1 r l := by
  pointwise [val_main_v116]
  exact r13 x0 x1 r l

/-- their norm -/
theorem r124 (r : Fin 4096) : val_main_v124 (F := Ideal) x0 (ix2 r 0) = Step.rs (fun y => x0 (ix2 r y)) := by
  pointwise [val_main_v124, val_main_v123, val_main_v122, val_main_v121, val_main_v120, val_main_v119, val_main_v118, val_main_v117, val_main_cst_12,
    val_main_cst_13, val_main_cst_14]
  rfl

/-- and the projections. -/
theorem r134 (k : Fin 4) (r : Fin 4096) (l : Fin 512) : val_main_v134 (F := Ideal) x0 x1 x2 (ix3 k r l) = pr x0 x1 x2 k r l := by
  pointwise [val_main_v134, val_main_v133, val_main_v132, val_main_v131, val_main_v130, val_main_v129, val_main_v128, val_main_v127, val_main_v126, val_main_v125]
  match k with
  | 0 => exact r14 x0 x1 x2 0 r l _ (by simp)
  | 1 => exact r14 x0 x1 x2 1 r l _ (by simp)
  | 2 => exact r14 x0 x1 x2 2 r l _ (by simp)
  | 3 => exact r14 x0 x1 x2 3 r l _ (by simp)

end Cert.EvenFwdRefIdeal.Read

end

end
-- ==== Proof.EvenFwd.Blocks.lean ====
module

public import proofs.«01_k».proof.Proof.Gen.EvenFwdIdeal.Value
public import proofs.«01_k».proof.Proof.EvenFwd.Ref
public import Idealize.ShloMosaic.Lib.Pipeline.ValueKit

@[expose] public section

set_option maxRecDepth 16384

/-! # The blocks a grid point reads (the even layer)

The grid is eight tiles of 512 rows; a tile is read with the sixteen rows before it. -/

noncomputable section

namespace Cert.EvenFwdIdeal.Arr

open Cert.EvenFwdIdeal Cert.EvenFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![t.val * 32 - 1, 0] ∧ win0_2.index t = ![0, 0] ∧ win0_3.index t = ![0, 0, 0]
    ∧ win0_4.index t = ![0, 0] ∧ win0_5.index t = ![0, 0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![0, t.val, 0]
    ∧ win0_13.index t = ![t.val, 0] ∧ win0_14.index t = ![t.val, 0] ∧ win0_15.index t = ![t.val, 0] := by decide +kernel

/-- The eight arrays at the entry. -/
def A0 : Vec Ideal S4096x1024 .f32 := m ((c : Thread nD τ).loc main_arg0)
@[inherit_doc A0] def A1 : Vec Ideal S1x1024 .f32 := m ((c : Thread nD τ).loc main_arg1)
@[inherit_doc A0] def A2 : Vec Ideal S1024x2048 .f32 := m ((c : Thread nD τ).loc main_arg2)
@[inherit_doc A0] def A3 : Vec Ideal S3x512 .f32 := m ((c : Thread nD τ).loc main_arg3)
@[inherit_doc A0] def A4 : Vec Ideal S4x128x128 .f32 := m ((c : Thread nD τ).loc main_arg4)
@[inherit_doc A0] def A5 : Vec Ideal S1x512 .f32 := m ((c : Thread nD τ).loc main_arg5)
@[inherit_doc A0] def A6 : Vec Ideal S1024x1024 .f32 := m ((c : Thread nD τ).loc main_arg6)
@[inherit_doc A0] def A7 : Vec Ideal S1x1024 .f32 := m ((c : Thread nD τ).loc main_arg7)

theorem v2 (k : Fin 4) (x : Fin 1024) (l : Fin 512) : V m c main_v2 (ix3 k x l) = A2 m c (ix2 x ⟨k.val * 512 + l.val, by omega⟩) := by
  unfold V
  entry_read
  pointwise
  rfl

theorem v3 (g : Fin 4) (a b : Fin 128) : V m c main_v3 (ix3 g a b) = A4 m c (ix3 g a b) := by
  unfold V
  entry_read
  pointwise
  rfl

theorem v4 (j l : Fin 1024) : V m c main_v4 (ix2 j l) = A6 m c (ix2 j l) := by
  unfold V
  entry_read
  pointwise
  rfl

theorem w0 : V m c main_arg0 = A0 m c := by
  unfold V
  entry_read
  rfl

theorem w1 : V m c main_arg1 = A1 m c := by
  unfold V
  entry_read
  rfl

theorem w3 : V m c main_arg3 = A3 m c := by
  unfold V
  entry_read
  rfl

theorem w5 : V m c main_arg5 = A5 m c := by
  unfold V
  entry_read
  rfl

theorem w7 : V m c main_arg7 = A7 m c := by
  unfold V
  entry_read
  rfl

/-- Row `p` of the tile at grid point `t`. -/
def row (t : Fin cfg0.N) (p : Fin 512) : Fin 4096 := ⟨t.val * 512 + p.val, by have h : t.val < 8 := t.isLt; omega⟩

/-- Row `p` of the 16 rows before the tile (the first tile reads its own first rows). -/
def rowP (t : Fin cfg0.N) (p : Fin 16) : Fin 4096 := ⟨(t.val * 32 - 1) * 16 + p.val, by have h : t.val < 8 := t.isLt; omega⟩

theorem blk0 (t : Fin cfg0.N) (p : Fin 512) (l : Fin 1024) : iblk m c 0 t (ix2 p l) = A0 m c (ix2 (row t p) l) := by
  rw [← w0]
  unfold row
  blk_ext [iblk, idx t]

theorem blk1 (t : Fin cfg0.N) (p : Fin 16) (l : Fin 1024) : iblk m c 1 t (ix2 p l) = A0 m c (ix2 (rowP t p) l) := by
  rw [← w0]
  unfold rowP
  blk_ext [iblk, idx t]

theorem blk2 (t : Fin cfg0.N) (l : Fin 1024) : iblk m c 2 t (ix2 0 l) = A1 m c (ix2 0 l) := by
  rw [← w1]
  blk_ext [iblk, idx t]

theorem blk3 (t : Fin cfg0.N) (k : Fin 4) (x : Fin 1024) (l : Fin 512) : iblk m c 3 t (ix3 k x l) = A2 m c (ix2 x ⟨k.val * 512 + l.val, by omega⟩) := by
  rw [← v2]
  blk_ext [iblk, idx t]

theorem blk4 (t : Fin cfg0.N) (p : Fin 3) (l : Fin 512) : iblk m c 4 t (ix2 p l) = A3 m c (ix2 p l) := by
  rw [← w3]
  blk_ext [iblk, idx t]

theorem blk5 (t : Fin cfg0.N) (g : Fin 4) (a b : Fin 128) : iblk m c 5 t (ix3 g a b) = A4 m c (ix3 g a b) := by
  rw [← v3]
  blk_ext [iblk, idx t]

theorem blk6 (t : Fin cfg0.N) (l : Fin 512) : iblk m c 6 t (ix2 0 l) = A5 m c (ix2 0 l) := by
  rw [← w5]
  blk_ext [iblk, idx t]

theorem blk7 (t : Fin cfg0.N) (j l : Fin 1024) : iblk m c 7 t (ix2 j l) = A6 m c (ix2 j l) := by
  rw [← v4]
  blk_ext [iblk, idx t]

theorem blk8 (t : Fin cfg0.N) (l : Fin 1024) : iblk m c 8 t (ix2 0 l) = A7 m c (ix2 0 l) := by
  rw [← w7]
  blk_ext [iblk, idx t]

end Cert.EvenFwdIdeal.Arr

end

end
-- ==== Proof.EvenFwd.Stage.lean ====
module

public import proofs.«01_k».proof.Proof.EvenFwd.Blocks
public import proofs.«01_k».proof.Proof.EvenGrad.Pool
public import proofs.«01_k».proof.Proof.SguGrad.Pieces

@[expose] public section

set_option maxRecDepth 16384

/-! # The intermediate blocks of a grid point, as rows of arrays of 4096 rows (the even layer) -/

noncomputable section

namespace Cert.EvenFwdIdeal.Arr

open Cert.EvenFwdIdeal Cert.EvenFwdIdeal.Gen Idealize.ShloMosaic Idealize.ShloMosaic.TcCoe Idealize.SL.Sem
open Cert.EvenFwdRefIdeal.Read (g1 g5 xn pr mx out hn)

variable (m : (ℓ : Loc nD τ sig) → Buf (Elt Ideal) ℓ) (c : Dev nD)

theorem row_val (t : Fin cfg0.N) (p : Fin 512) : (row t p).val = 512 * t.val + p.val := by
  show t.val * 512 + p.val = _; omega

/-- The mask of the rows before the tile. -/
def kp (t : Fin cfg0.N) : Ideal .f32 := k0_pay5 (F := Ideal) (grid0.coords t)

theorem kp_eq (t : Fin cfg0.N) : kp t = if t.val = 0 then 0 else 1 := EvenGradIdeal.Arr.keepP t

/-- The positions of the tile's rows, from one. -/
def pos (t : Fin cfg0.N) : FVec Ideal S512x1 .f32 := k0_pay27 (F := Ideal) (BitVec.ofNat 32 (grid0.coords t 0).val)

/-- Block `k` of the input projection. -/
def WB (k : Fin 4) (x : Fin 1024) (l : Fin 512) : EReal := A2 m c (ix2 x ⟨k.val * 512 + l.val, by omega⟩)

/-- The tile and the sixteen rows before it, normed. -/
def XN (t : Fin cfg0.N) : FVec Ideal S528x1024 .bf16 := k0_pay8 (F := Ideal) (iblk m c 1 t) (iblk m c 0 t) (iblk m c 2 t)

theorem XN_lo (t : Fin cfg0.N) (e : ℕ) (h : e < 528) (he : e < 16) (l : Fin 1024) :
    XN m c t (ix2 ⟨e, h⟩ l) = xn (A0 m c) (A1 m c) (rowP t ⟨e, he⟩) l := by
  rw [EvenFwdRefIdeal.Read.xn_eq, ← blk2 m c t l]
  simp only [← blk1 m c t ⟨e, he⟩]
  pointwise [XN, k0_pay8, k0_pay7, k0_pay6]
  simp only [dif_pos he]
  rfl

theorem XN_hi (t : Fin cfg0.N) (e : ℕ) (h : e < 528) (p : Fin 512) (he : e = 16 + p.val) (l : Fin 1024) :
    XN m c t (ix2 ⟨e, h⟩ l) = xn (A0 m c) (A1 m c) (row t p) l := by
  have hp : p = ⟨e - 16, by omega⟩ := Fin.ext (by show p.val = e - 16; omega)
  rw [hp]
  rw [EvenFwdRefIdeal.Read.xn_eq, ← blk2 m c t l]
  simp only [← blk0 m c t ⟨e - 16, by omega⟩]
  have hn : ¬ e < 16 := by omega
  pointwise [XN, k0_pay8, k0_pay7, k0_pay6]
  simp only [dif_neg hn]
  rfl

/-- The tile's normed rows and their norm. -/
theorem xnt (t : Fin cfg0.N) (p : Fin 512) (l : Fin 1024) :
    k0_pay9 (F := Ideal) (iblk m c 1 t) (iblk m c 0 t) (iblk m c 2 t) (ix2 p l) = xn (A0 m c) (A1 m c) (row t p) l := by
  rw [← XN_hi m c t (16 + p.val) (by omega) p rfl l]
  pointwise [k0_pay9]
  rfl

@[inherit_doc xnt] theorem rst (t : Fin cfg0.N) (p : Fin 512) :
    k0_pay10 (F := Ideal) (iblk m c 1 t) (iblk m c 0 t) (ix2 p 0) = Step.rs (fun y => A0 m c (ix2 (row t p) y)) := by
  simp only [← blk0 m c t p]
  have hn : ¬ 16 + p.val < 16 := by omega
  have hp : (⟨16 + p.val - 16, by omega⟩ : Fin 512) = p := Fin.ext (by show 16 + p.val - 16 = p.val; omega)
  pointwise [k0_pay10, k0_pay7, k0_pay6]
  rfl

section Block

variable (t : Fin cfg0.N) (k : Fin 4) (w : Vec Ideal S1x1024x512 .bf16) (hw : ∀ x l, w (ix3 0 x l) = WB m c k x l)
include hw

/-- A block of the projections, with the rows before the tile. -/
theorem pb_lo (e : ℕ) (h : e < 528) (he : e < 16) (l : Fin 512) :
    k0_pay16 (XN m c t) w (ix2 ⟨e, h⟩ l) = pr (A0 m c) (A1 m c) (A2 m c) k (rowP t ⟨e, he⟩) l := by
  pointwise [k0_pay16]
  show _ = ∑ x, xn (A0 m c) (A1 m c) (rowP t ⟨e, he⟩) x * WB m c k x l
  refine Finset.sum_congr rfl fun x _ => ?_
  rw [XN_lo m c t e h he, hw]

@[inherit_doc pb_lo] theorem pb_hi (e : ℕ) (h : e < 528) (p : Fin 512) (he : e = 16 + p.val) (l : Fin 512) :
    k0_pay16 (XN m c t) w (ix2 ⟨e, h⟩ l) = pr (A0 m c) (A1 m c) (A2 m c) k (row t p) l := by
  pointwise [k0_pay16]
  show _ = ∑ x, xn (A0 m c) (A1 m c) (row t p) x * WB m c k x l
  refine Finset.sum_congr rfl fun x _ => ?_
  rw [XN_hi m c t e h p he, hw]

/-- The stored tile of it. -/
theorem proj (p l : Fin 512) : k0_pay17 (XN m c t) w (ix3 0 p l) = pr (A0 m c) (A1 m c) (A2 m c) k (row t p) l := by
  pointwise [k0_pay17]
  exact pb_hi m c t k w hw _ _ p rfl l

/-- The block with the rows before the first tile set to zero. -/
theorem msk (e : ℕ) (h : e < 528) (l : Fin 512) :
    k0_pay18 (kp t) (XN m c t) w (ix2 ⟨e, h⟩ l) = Step.lag (fun R => pr (A0 m c) (A1 m c) (A2 m c) k R l) (512 * t.val + e) := by
  have ht : t.val < 8 := t.isLt
  pointwise [k0_pay18]
  rw [kp_eq]
  by_cases he : e < 16
  · rw [dif_pos he]
    by_cases h0 : t.val = 0
    · rw [if_pos h0, mul_zero, Step.lag_lo _ _ (by omega)]
    · rw [if_neg h0, mul_one]
      refine (pb_lo m c t k w hw e _ he l).trans (Step.lag_hi (fun R => pr (A0 m c) (A1 m c) (A2 m c) k R l) _ (rowP t ⟨e, he⟩) ?_).symm
      show _ = 16 + ((t.val * 32 - 1) * 16 + e)
      omega
  · rw [dif_neg he]
    refine (pb_hi m c t k w hw _ _ ⟨e - 16, by omega⟩ rfl l).trans (Step.lag_hi (fun R => pr (A0 m c) (A1 m c) (A2 m c) k R l) _ (row t ⟨e - 16, by omega⟩) ?_).symm
    show _ = 16 + (t.val * 512 + (e - 16))
    omega

theorem msk_back (p l : Fin 512) (j e : ℕ) (h : e < 528) (hj : j ≤ 16) (he : e = 16 + p.val - j) :
    k0_pay18 (kp t) (XN m c t) w (ix2 ⟨e, h⟩ l) = Step.back (fun R => pr (A0 m c) (A1 m c) (A2 m c) k R l) (row t p).val j := by
  rw [msk m c t k w hw, row_val, ← Step.lag_eq _ _ _ hj]
  congr 1; omega

end Block

/-- Products of shifted columns are shifted products. -/
theorem back_mul (f g : Fin 4096 → EReal) (R k : ℕ) : Step.back f R k * Step.back g R k = Step.back (fun S => f S * g S) R k := by
  unfold Step.back Step.ext
  split <;> [split; skip] <;> simp

/-- The gated convolution. -/
theorem conv (t : Fin cfg0.N) (w0 w1 w2 : Vec Ideal S1x1024x512 .bf16) (a0 a1 a2 : Vec Ideal S1x512 .f32) (h0 : ∀ x l, w0 (ix3 0 x l) = WB m c 0 x l)
    (h1 : ∀ x l, w1 (ix3 0 x l) = WB m c 1 x l) (h2 : ∀ x l, w2 (ix3 0 x l) = WB m c 2 x l) (b0 : ∀ l, a0 (ix2 0 l) = A3 m c (ix2 0 l))
    (b1 : ∀ l, a1 (ix2 0 l) = A3 m c (ix2 1 l)) (b2 : ∀ l, a2 (ix2 0 l) = A3 m c (ix2 2 l)) (p l : Fin 512) (j : Fin 1024) (hj : j.val = 0 + l.val) :
    k0_pay26 (k0_pay18 (kp t) (XN m c t) w0) (k0_pay18 (kp t) (XN m c t) w1) (k0_pay18 (kp t) (XN m c t) w2) a0 a1 a2 (ix2 p l)
      = mx (A0 m c) (A1 m c) (A2 m c) (A3 m c) (A4 m c) (A5 m c) (row t p) j := by
  obtain ⟨jv, hjv⟩ := j
  obtain rfl : jv = l.val := by simpa using hj
  have hp := msk_back m c t 0 w0 h0 p l 0 (16 + p.val) (by omega) (by omega) (by omega)
  have e0 : EvenGradRefIdeal.Read.pr (A0 m c) (g1 (A1 m c)) (A2 m c) 0 (row t p) l = k0_pay18 (kp t) (XN m c t) w0 (ix2 ⟨16 + p.val, by omega⟩ l) := by
    rw [hp]; exact (Step.back_zero (fun R => pr (A0 m c) (A1 m c) (A2 m c) 0 R l) (row t p)).symm
  have ec : ∀ i e h, i ≤ 16 → e = 16 + p.val - i → Step.back (EvenGradRefIdeal.Read.cvf (A0 m c) (g1 (A1 m c)) (A2 m c) l) (row t p).val i
      = k0_pay18 (kp t) (XN m c t) w1 (ix2 ⟨e, h⟩ l) * k0_pay18 (kp t) (XN m c t) w2 (ix2 ⟨e, h⟩ l) := fun i e h hi he => by
    rw [msk_back m c t 1 w1 h1 p l i e h hi he, msk_back m c t 2 w2 h2 p l i e h hi he, back_mul]; rfl
  have key : k0_pay26 (k0_pay18 (kp t) (XN m c t) w0) (k0_pay18 (kp t) (XN m c t) w1) (k0_pay18 (kp t) (XN m c t) w2) a0 a1 a2 (ix2 p l)
      = EvenGradRefIdeal.Read.pr (A0 m c) (g1 (A1 m c)) (A2 m c) 0 (row t p) l * EvenGradRefIdeal.Read.cv (A0 m c) (g1 (A1 m c)) (A2 m c) (A3 m c) l (row t p) := by
    unfold EvenGradRefIdeal.Read.cv
    rw [e0, ← b0, ← b1, ← b2, ec 2 ((16 + p.val + 528 - 2) % 528) (by omega) (by decide) (by omega),
      ec 1 ((16 + p.val + 528 - 1) % 528) (by omega) (by decide) (by omega), ec 0 (16 + p.val) (by omega) (by decide) (by omega)]
    pointwise [k0_pay26]
  unfold EvenFwdRefIdeal.Read.mx EvenGradRefIdeal.Read.mx
  rw [dif_pos (show (⟨l.val, hjv⟩ : Fin 1024).val < 512 from l.isLt)]
  exact key

/-- A pooled block mixed within its group and scaled. -/
def grp (P : FVec Ideal S512x128 .bf16) (w : Vec Ideal S1x128x128 .bf16) (s : Vec Ideal S1x128 .f32) : FVec Ideal S512x128 .bf16 :=
  truncf .bf16 (mulf (matmul (φ₂ := .bf16) dot_S512x128_S128x128_S512x128_1_0_0_1_n_n none P (shapeCast S128x128 w shapeCasts_S1x128x128_S128x128)
    (constant S512x128 .f32 0x00000000#32)) (broadcastTo S512x128 s broadcasts_S1x128_S512x128)) bitsLt_bf16_f32

theorem grp_mx (t : Fin cfg0.N) (g : Fin 4) (P : FVec Ideal S512x128 .bf16) (w : Vec Ideal S1x128x128 .bf16) (s : Vec Ideal S1x128 .f32)
    (hP : ∀ p x, P (ix2 p x) = EvenGradRefIdeal.Read.pl (A0 m c) (g1 (A1 m c)) (A2 m c) g x (row t p)) (hw : ∀ a b, w (ix3 0 a b) = A4 m c (ix3 g a b))
    (hs : ∀ q, s (ix2 0 q) = A5 m c (ix2 0 (EvenGradRefIdeal.Read.gcol g q))) (p : Fin 512) (q : Fin 128) (j : Fin 1024) (hj : j.val = 512 + g.val * 128 + q.val) :
    grp P w s (ix2 p q) = mx (A0 m c) (A1 m c) (A2 m c) (A3 m c) (A4 m c) (A5 m c) (row t p) j := by
  have key : ∀ g' q' x, g' = g → q' = q → x = EvenGradRefIdeal.Read.gcol g q → grp P w s (ix2 p q)
      = EvenGradRefIdeal.Read.mxd (A0 m c) (g1 (A1 m c)) (A2 m c) (A4 m c) g' q' (row t p) * g5 (A5 m c) (ix1 x) := by
    rintro _ _ _ rfl rfl rfl
    unfold EvenGradRefIdeal.Read.mxd
    rw [EvenFwdRefIdeal.Read.g5_apply, ← hs]
    simp only [← hP, ← hw]
    pointwise [grp]
  unfold EvenFwdRefIdeal.Read.mx EvenGradRefIdeal.Read.mx
  have hn : ¬ j.val < 512 := by omega
  rw [dif_neg hn]
  refine key _ _ _ ?_ ?_ ?_
  · exact Fin.ext (by show (j.val - 512) / 128 = g.val; omega)
  · exact Fin.ext (by show (j.val - 512) % 128 = q.val; omega)
  · exact Fin.ext (by show j.val - 512 = g.val * 128 + q.val; omega)

section Groups

variable (t : Fin cfg0.N) (w : Vec Ideal S1x1024x512 .bf16) (hw : ∀ x l, w (ix3 0 x l) = WB m c 3 x l)
include hw

theorem mskz (e : ℕ) (h : e < 528) (l : Fin 512) :
    k0_pay18 (kp t) (XN m c t) w (ix2 ⟨e, h⟩ l) = Step.lag (EvenGradRefIdeal.Read.zf (A0 m c) (g1 (A1 m c)) (A2 m c) l) (512 * t.val + e) :=
  msk m c t 3 w hw e h l

/-- The four groups' pooled blocks, mixed. -/
theorem st0 (v : Vec Ideal S1x128x128 .bf16) (s : Vec Ideal S1x128 .f32) (hv : ∀ a b, v (ix3 0 a b) = A4 m c (ix3 0 a b))
    (hs : ∀ q, s (ix2 0 q) = A5 m c (ix2 0 (EvenGradRefIdeal.Read.gcol 0 q))) (p : Fin 512) (q : Fin 128) (j : Fin 1024) (hj : j.val = 512 + q.val) :
    k0_pay31 (k0_pay29 (BitVec.ofNat 32 (grid0.coords t 0).val) (kp t) (k0_pay22 (XN m c t) w)) (k0_pay30 (kp t) (k0_pay22 (XN m c t) w)) v s (ix2 p q)
      = mx (A0 m c) (A1 m c) (A2 m c) (A3 m c) (A4 m c) (A5 m c) (row t p) j := by
  refine grp_mx m c t 0 _ v s (fun p x => (EvenGradIdeal.Arr.pooled0 t (k0_pay18 (kp t) (XN m c t) w) _ (mskz m c t w hw) p x).trans ?_) hv hs p q j (by show j.val = 512 + 0 * 128 + q.val; omega)
  unfold EvenGradRefIdeal.Read.pl
  rw [row_val]
  exact congrArg (fun i => Step.pool 2 (EvenGradRefIdeal.Read.zf (A0 m c) (g1 (A1 m c)) (A2 m c) i) _) (Fin.ext (by show 0 + x.val = 0 * 128 + x.val; omega))

@[inherit_doc st0]
theorem st1 (v : Vec Ideal S1x128x128 .bf16) (s : Vec Ideal S1x128 .f32) (hv : ∀ a b, v (ix3 0 a b) = A4 m c (ix3 1 a b))
    (hs : ∀ q, s (ix2 0 q) = A5 m c (ix2 0 (EvenGradRefIdeal.Read.gcol 1 q))) (p : Fin 512) (q : Fin 128) (j : Fin 1024) (hj : j.val = 640 + q.val) :
    k0_pay32 (k0_pay25 (kp t) (k0_pay22 (XN m c t) w)) (pos t) v s (ix2 p q) = mx (A0 m c) (A1 m c) (A2 m c) (A3 m c) (A4 m c) (A5 m c) (row t p) j := by
  refine grp_mx m c t 1 _ v s (fun p x => (EvenGradIdeal.Arr.pooled1 t (k0_pay18 (kp t) (XN m c t) w) _ (mskz m c t w hw) p x).trans ?_) hv hs p q j (by show j.val = 512 + 1 * 128 + q.val; omega)
  unfold EvenGradRefIdeal.Read.pl
  rw [row_val]
  exact congrArg (fun i => Step.pool 4 (EvenGradRefIdeal.Read.zf (A0 m c) (g1 (A1 m c)) (A2 m c) i) _) (Fin.ext (by show 128 + x.val = 1 * 128 + x.val; omega))

@[inherit_doc st0]
theorem st2 (v : Vec Ideal S1x128x128 .bf16) (s : Vec Ideal S1x128 .f32) (hv : ∀ a b, v (ix3 0 a b) = A4 m c (ix3 2 a b))
    (hs : ∀ q, s (ix2 0 q) = A5 m c (ix2 0 (EvenGradRefIdeal.Read.gcol 2 q))) (p : Fin 512) (q : Fin 128) (j : Fin 1024) (hj : j.val = 768 + q.val) :
    k0_pay35 (pos t) (k0_pay33 (k0_pay25 (kp t) (k0_pay22 (XN m c t) w))) (k0_pay34 (k0_pay25 (kp t) (k0_pay22 (XN m c t) w))) 4#32 v s (ix2 p q)
      = mx (A0 m c) (A1 m c) (A2 m c) (A3 m c) (A4 m c) (A5 m c) (row t p) j := by
  refine grp_mx m c t 2 _ v s (fun p x => (EvenGradIdeal.Arr.pooled2 t (k0_pay18 (kp t) (XN m c t) w) _ (mskz m c t w hw) p x).trans ?_) hv hs p q j (by show j.val = 512 + 2 * 128 + q.val; omega)
  unfold EvenGradRefIdeal.Read.pl
  rw [row_val]
  exact congrArg (fun i => Step.pool 8 (EvenGradRefIdeal.Read.zf (A0 m c) (g1 (A1 m c)) (A2 m c) i) _) (Fin.ext (by show 256 + x.val = 2 * 128 + x.val; omega))

@[inherit_doc st0]
theorem st3 (v : Vec Ideal S1x128x128 .bf16) (s : Vec Ideal S1x128 .f32) (hv : ∀ a b, v (ix3 0 a b) = A4 m c (ix3 3 a b))
    (hs : ∀ q, s (ix2 0 q) = A5 m c (ix2 0 (EvenGradRefIdeal.Read.gcol 3 q))) (p : Fin 512) (q : Fin 128) (j : Fin 1024) (hj : j.val = 896 + q.val) :
    k0_pay1 (k0_pay36 (k0_pay25 (kp t) (k0_pay22 (XN m c t) w)) (pos t) v) s (ix2 p q)
      = mx (A0 m c) (A1 m c) (A2 m c) (A3 m c) (A4 m c) (A5 m c) (row t p) j := by
  refine grp_mx m c t 3 _ v s (fun p x => (EvenGradIdeal.Arr.pooled3 t (k0_pay18 (kp t) (XN m c t) w) _ (mskz m c t w hw) p x).trans ?_) hv hs p q j (by show j.val = 512 + 3 * 128 + q.val; omega)
  unfold EvenGradRefIdeal.Read.pl
  rw [row_val]
  exact congrArg (fun i => Step.pool 16 (EvenGradRefIdeal.Read.zf (A0 m c) (g1 (A1 m c)) (A2 m c) i) _) (Fin.ext (by show 384 + x.val = 3 * 128 + x.val; omega))

end Groups

/-- The windows of the projections and of the joined mixers. -/
def G12 (t : Fin cfg0.N) : Vec Ideal S4x512x512 .bf16 := fun y => pr (A0 m c) (A1 m c) (A2 m c) (y 0) (row t (y 1)) (y 2)
@[inherit_doc G12] def G13 (t : Fin cfg0.N) : Vec Ideal S512x1024 .bf16 := fun y => mx (A0 m c) (A1 m c) (A2 m c) (A3 m c) (A4 m c) (A5 m c) (row t (y 0)) (y 1)

/-- A store of a block of columns of the projections is a block of the window. -/
theorem piece12 (t : Fin cfg0.N) (k : ℕ) (hk : k < 4) (inb : ∀ a, ![k, 0, 0] a + ![1, 512, 512] a ≤ S4x512x512.size a)
    (w : Vec Ideal S1x512x512 .bf16) (hw : ∀ p l : Fin 512, w (ix3 0 p l) = pr (A0 m c) (A1 m c) (A2 m c) ⟨k, hk⟩ (row t p) l) :
    ∀ x, w x = G12 m c t ((Rect.unit (s := S4x512x512) ![k, 0, 0] ![1, 512, 512] inb).emb x) := by
  intro x
  have e : (Rect.unit (s := S4x512x512) ![k, 0, 0] ![1, 512, 512] inb).emb x = ix3 ⟨k, hk⟩ (x 1) (x 2) := by
    idx_vars x
    blk_ext [Step.emb_unit]
  rw [e]
  idx_vars x
  obtain rfl : x0 = 0 := Subsingleton.elim _ _
  exact hw _ _

/-- So is a store of a mixer's columns. -/
theorem piece13 (t : Fin cfg0.N) (o : ℕ) (ho : o + 128 ≤ 1024) (inb : ∀ a, ![0, o] a + ![512, 128] a ≤ S512x1024.size a)
    (w : Vec Ideal S512x128 .bf16) (hw : ∀ (p : Fin 512) (q : Fin 128) (j : Fin 1024), j.val = o + q.val → w (ix2 p q) = mx (A0 m c) (A1 m c) (A2 m c) (A3 m c) (A4 m c) (A5 m c) (row t p) j) :
    ∀ x, w x = G13 m c t ((Rect.unit (s := S512x1024) ![0, o] ![512, 128] inb).emb x) := by
  intro x
  have e : (Rect.unit (s := S512x1024) ![0, o] ![512, 128] inb).emb x = ix2 (x 0) ⟨o + (x 1).val, by have h : (x 1).val < 128 := (x 1).isLt; omega⟩ := by
    idx_vars x
    blk_ext [Step.emb_unit]
  rw [e]
  idx_vars x
  exact hw _ _ _ rfl

@[inherit_doc piece13]
theorem piece13' (t : Fin cfg0.N) (inb : ∀ a, ![0, 0] a + ![512, 512] a ≤ S512x1024.size a)
    (w : Vec Ideal S512x512 .bf16) (hw : ∀ (p l : Fin 512) (j : Fin 1024), j.val = 0 + l.val → w (ix2 p l) = mx (A0 m c) (A1 m c) (A2 m c) (A3 m c) (A4 m c) (A5 m c) (row t p) j) :
    ∀ x, w x = G13 m c t ((Rect.unit (s := S512x1024) ![0, 0] ![512, 512] inb).emb x) := by
  intro x
  have e : (Rect.unit (s := S512x1024) ![0, 0] ![512, 512] inb).emb x = ix2 (x 0) ⟨0 + (x 1).val, by have h : (x 1).val < 512 := (x 1).isLt; omega⟩ := by
    idx_vars x
    blk_ext [Step.emb_unit]
  rw [e]
  idx_vars x
  exact hw _ _ _ rfl

end Cert.EvenFwdIdeal.Arr

end

end
-- ==== Proof.EvenFwd.Points.lean ====
module

public import proofs.«01_k».proof.Proof.EvenFwd.Stage

@[expose] public section

set_option maxRecDepth 16384

/-! # What the windows hold after a grid point (the even layer) -/

noncomputable section

namespace Cert.EvenFwdIdeal.Arr

open Cert.EvenFwdIdeal Cert.EvenFwdIdeal.Gen Idealize.ShloMosaic Idealize.ShloMosaic.TcCoe Idealize.SL.Sem
open Cert.EvenFwdRefIdeal.Read (g1 g5 xn pr mx out hn)

variable (m : (ℓ : Loc nD τ sig) → Buf (Elt Ideal) ℓ) (c : Dev nD)

/-- Loads of a block of the input projection, of a row of the convolution's weights, of a group's mixing weights and of its scales. -/
theorem ld3 (t : Fin cfg0.N) (k : Fin 4) (h) (x : Fin 1024) (l : Fin 512) :
    View.ld (iblk m c 3 t) (Rect.unit (s := S4x1024x512) ![k.val, 0, 0] ![1, 1024, 512] h) (ix3 0 x l) = WB m c k x l := by
  unfold WB
  rw [← blk3 m c t k x l]
  refine congrArg (iblk m c 3 t) (funext fun a => Fin.ext ?_)
  match a with
  | 0 => rfl
  | 1 => show 0 + 1 * x.val = x.val; omega
  | 2 => show 0 + 1 * l.val = l.val; omega

@[inherit_doc ld3]
theorem ld4 (t : Fin cfg0.N) (k : Fin 3) (h) (l : Fin 512) :
    View.ld (iblk m c 4 t) (Rect.unit (s := S3x512) ![k.val, 0] ![1, 512] h) (ix2 0 l) = A3 m c (ix2 k l) := by
  rw [← blk4 m c t k l]
  refine congrArg (iblk m c 4 t) (funext fun a => Fin.ext ?_)
  match a with
  | 0 => rfl
  | 1 => show 0 + 1 * l.val = l.val; omega

@[inherit_doc ld3]
theorem ld5 (t : Fin cfg0.N) (g : Fin 4) (h) (a b : Fin 128) :
    View.ld (iblk m c 5 t) (Rect.unit (s := S4x128x128) ![g.val, 0, 0] ![1, 128, 128] h) (ix3 0 a b) = A4 m c (ix3 g a b) := by
  rw [← blk5 m c t g a b]
  refine congrArg (iblk m c 5 t) (funext fun z => Fin.ext ?_)
  match z with
  | 0 => rfl
  | 1 => show 0 + 1 * a.val = a.val; omega
  | 2 => show 0 + 1 * b.val = b.val; omega

@[inherit_doc ld3]
theorem ld6 (t : Fin cfg0.N) (g : Fin 4) (o : ℕ) (ho : o = g.val * 128) (h) (q : Fin 128) :
    View.ld (iblk m c 6 t) (Rect.unit (s := S1x512) ![0, o] ![1, 128] h) (ix2 0 q) = A5 m c (ix2 0 (EvenGradRefIdeal.Read.gcol g q)) := by
  subst ho
  rw [← blk6 m c t (EvenGradRefIdeal.Read.gcol g q)]
  refine congrArg (iblk m c 6 t) (funext fun z => Fin.ext ?_)
  match z with
  | 0 => rfl
  | 1 => show g.val * 128 + 1 * q.val = g.val * 128 + q.val; omega

/-- Stores that leave `G` at every index leave `G`. -/
theorem canon_of {s : Shape} {e : EltTy} {G : s.Idx → Elt Ideal e} {L : List (View.Piece (Elt Ideal) s e)} (h : Step.Top G [] L) : View.canon L = G :=
  funext h.canon

/-- The four stores of the projections leave them. -/
theorem top12 (t : Fin cfg0.N) (i0 i1 i2 i3 j0 j1 j2 j3) :
    Step.Top (G12 m c t) [] [⟨Rect.unit (s := S4x512x512) ![3, 0, 0] ![1, 512, 512] i3, k0_pay24 (k0_pay23 (k0_pay8 (F := Ideal) (iblk m c 1 t) (iblk m c 0 t) (iblk m c 2 t)) (View.ld (iblk m c 3 t) (Rect.unit (s := S4x1024x512) ![3, 0, 0] ![1, 1024, 512] j3)))⟩,
      ⟨Rect.unit (s := S4x512x512) ![2, 0, 0] ![1, 512, 512] i2, k0_pay20 (k0_pay8 (F := Ideal) (iblk m c 1 t) (iblk m c 0 t) (iblk m c 2 t)) (View.ld (iblk m c 3 t) (Rect.unit (s := S4x1024x512) ![2, 0, 0] ![1, 1024, 512] j2))⟩,
      ⟨Rect.unit (s := S4x512x512) ![1, 0, 0] ![1, 512, 512] i1, k0_pay17 (k0_pay8 (F := Ideal) (iblk m c 1 t) (iblk m c 0 t) (iblk m c 2 t)) (View.ld (iblk m c 3 t) (Rect.unit (s := S4x1024x512) ![1, 0, 0] ![1, 1024, 512] j1))⟩,
      ⟨Rect.unit (s := S4x512x512) ![0, 0, 0] ![1, 512, 512] i0, k0_pay12 (F := Ideal) (iblk m c 1 t) (iblk m c 0 t) (iblk m c 2 t) (View.ld (iblk m c 3 t) (Rect.unit (s := S4x1024x512) ![0, 0, 0] ![1, 1024, 512] j0))⟩] := by
  refine .top (.top (.top (.top (.done _ _ (View.cover_of_tiledBy _ ![1, 512, 512] (by sl_kernel_rfl))) ?_) ?_) ?_) ?_
  · exact piece12 m c t 0 (by decide) i0 _ (proj m c t 0 _ (ld3 m c t 0 j0))
  · exact piece12 m c t 1 (by decide) i1 _ (proj m c t 1 _ (ld3 m c t 1 j1))
  · exact piece12 m c t 2 (by decide) i2 _ (proj m c t 2 _ (ld3 m c t 2 j2))
  · exact piece12 m c t 3 (by decide) i3 _ (proj m c t 3 _ (ld3 m c t 3 j3))

/-- The five stores of the mixers leave them. -/
theorem top13 (t : Fin cfg0.N) (i0 i1 i2 i3 i4 j0 j1 j2 j3 v0 v1 v2 v3 s0 s1 s2 s3 a0 a1 a2) :
    Step.Top (G13 m c t) [] [⟨Rect.unit (s := S512x1024) ![0, 896] ![512, 128] i4, k0_pay1 (k0_pay36 (k0_pay25 (k0_pay5 (F := Ideal) (grid0.coords t)) (k0_pay22 (k0_pay8 (F := Ideal) (iblk m c 1 t) (iblk m c 0 t) (iblk m c 2 t)) (View.ld (iblk m c 3 t) (Rect.unit (s := S4x1024x512) ![3, 0, 0] ![1, 1024, 512] j3)))) (k0_pay27 (F := Ideal) (BitVec.ofNat 32 (grid0.coords t 0).val)) (View.ld (iblk m c 5 t) (Rect.unit (s := S4x128x128) ![3, 0, 0] ![1, 128, 128] v3))) (View.ld (iblk m c 6 t) (Rect.unit (s := S1x512) ![0, 384] ![1, 128] s3))⟩,
      ⟨Rect.unit (s := S512x1024) ![0, 768] ![512, 128] i3, k0_pay35 (k0_pay27 (F := Ideal) (BitVec.ofNat 32 (grid0.coords t 0).val)) (k0_pay33 (k0_pay25 (k0_pay5 (F := Ideal) (grid0.coords t)) (k0_pay22 (k0_pay8 (F := Ideal) (iblk m c 1 t) (iblk m c 0 t) (iblk m c 2 t)) (View.ld (iblk m c 3 t) (Rect.unit (s := S4x1024x512) ![3, 0, 0] ![1, 1024, 512] j3))))) (k0_pay34 (k0_pay25 (k0_pay5 (F := Ideal) (grid0.coords t)) (k0_pay22 (k0_pay8 (F := Ideal) (iblk m c 1 t) (iblk m c 0 t) (iblk m c 2 t)) (View.ld (iblk m c 3 t) (Rect.unit (s := S4x1024x512) ![3, 0, 0] ![1, 1024, 512] j3))))) 4#32 (View.ld (iblk m c 5 t) (Rect.unit (s := S4x128x128) ![2, 0, 0] ![1, 128, 128] v2)) (View.ld (iblk m c 6 t) (Rect.unit (s := S1x512) ![0, 256] ![1, 128] s2))⟩,
      ⟨Rect.unit (s := S512x1024) ![0, 640] ![512, 128] i2, k0_pay32 (k0_pay25 (k0_pay5 (F := Ideal) (grid0.coords t)) (k0_pay22 (k0_pay8 (F := Ideal) (iblk m c 1 t) (iblk m c 0 t) (iblk m c 2 t)) (View.ld (iblk m c 3 t) (Rect.unit (s := S4x1024x512) ![3, 0, 0] ![1, 1024, 512] j3)))) (k0_pay27 (F := Ideal) (BitVec.ofNat 32 (grid0.coords t 0).val)) (View.ld (iblk m c 5 t) (Rect.unit (s := S4x128x128) ![1, 0, 0] ![1, 128, 128] v1)) (View.ld (iblk m c 6 t) (Rect.unit (s := S1x512) ![0, 128] ![1, 128] s1))⟩,
      ⟨Rect.unit (s := S512x1024) ![0, 512] ![512, 128] i1, k0_pay31 (k0_pay29 (BitVec.ofNat 32 (grid0.coords t 0).val) (k0_pay5 (F := Ideal) (grid0.coords t)) (k0_pay22 (k0_pay8 (F := Ideal) (iblk m c 1 t) (iblk m c 0 t) (iblk m c 2 t)) (View.ld (iblk m c 3 t) (Rect.unit (s := S4x1024x512) ![3, 0, 0] ![1, 1024, 512] j3)))) (k0_pay30 (k0_pay5 (F := Ideal) (grid0.coords t)) (k0_pay22 (k0_pay8 (F := Ideal) (iblk m c 1 t) (iblk m c 0 t) (iblk m c 2 t)) (View.ld (iblk m c 3 t) (Rect.unit (s := S4x1024x512) ![3, 0, 0] ![1, 1024, 512] j3)))) (View.ld (iblk m c 5 t) (Rect.unit (s := S4x128x128) ![0, 0, 0] ![1, 128, 128] v0)) (View.ld (iblk m c 6 t) (Rect.unit (s := S1x512) ![0, 0] ![1, 128] s0))⟩,
      ⟨Rect.unit (s := S512x1024) ![0, 0] ![512, 512] i0, k0_pay26 (k0_pay15 (k0_pay5 (F := Ideal) (grid0.coords t)) (k0_pay13 (F := Ideal) (iblk m c 1 t) (iblk m c 0 t) (iblk m c 2 t) (View.ld (iblk m c 3 t) (Rect.unit (s := S4x1024x512) ![0, 0, 0] ![1, 1024, 512] j0))) (k0_pay14 (F := Ideal) (iblk m c 1 t) (iblk m c 0 t) (iblk m c 2 t) (View.ld (iblk m c 3 t) (Rect.unit (s := S4x1024x512) ![0, 0, 0] ![1, 1024, 512] j0)))) (k0_pay18 (k0_pay5 (F := Ideal) (grid0.coords t)) (k0_pay8 (F := Ideal) (iblk m c 1 t) (iblk m c 0 t) (iblk m c 2 t)) (View.ld (iblk m c 3 t) (Rect.unit (s := S4x1024x512) ![1, 0, 0] ![1, 1024, 512] j1))) (k0_pay21 (k0_pay5 (F := Ideal) (grid0.coords t)) (k0_pay8 (F := Ideal) (iblk m c 1 t) (iblk m c 0 t) (iblk m c 2 t)) (View.ld (iblk m c 3 t) (Rect.unit (s := S4x1024x512) ![2, 0, 0] ![1, 1024, 512] j2))) (View.ld (iblk m c 4 t) (Rect.unit (s := S3x512) ![0, 0] ![1, 512] a0)) (View.ld (iblk m c 4 t) (Rect.unit (s := S3x512) ![1, 0] ![1, 512] a1)) (View.ld (iblk m c 4 t) (Rect.unit (s := S3x512) ![2, 0] ![1, 512] a2))⟩] := by
  refine .top (.top (.top (.top (.top (.done _ _ (View.cover_of_tiledBy _ ![512, 128] (by sl_kernel_rfl))) ?_) ?_) ?_) ?_) ?_
  · exact piece13' m c t i0 _ (conv m c t _ _ _ _ _ _ (ld3 m c t 0 j0) (ld3 m c t 1 j1) (ld3 m c t 2 j2) (ld4 m c t 0 a0) (ld4 m c t 1 a1) (ld4 m c t 2 a2))
  · exact piece13 m c t 512 (by decide) i1 _ (st0 m c t _ (ld3 m c t 3 j3) _ _ (ld5 m c t 0 v0) (ld6 m c t 0 0 rfl s0))
  · exact piece13 m c t 640 (by decide) i2 _ (st1 m c t _ (ld3 m c t 3 j3) _ _ (ld5 m c t 1 v1) (ld6 m c t 1 128 rfl s1))
  · exact piece13 m c t 768 (by decide) i3 _ (st2 m c t _ (ld3 m c t 3 j3) _ _ (ld5 m c t 2 v2) (ld6 m c t 2 256 rfl s2))
  · exact piece13 m c t 896 (by decide) i4 _ (st3 m c t _ (ld3 m c t 3 j3) _ _ (ld5 m c t 3 v3) (ld6 m c t 3 384 rfl s3))

/-- The windows after a point: the normed rows, -/
theorem t10 (t : Fin cfg0.N) : (outsAt0 m c t).2.1 = k0_pay9 (F := Ideal) (iblk m c 1 t) (iblk m c 0 t) (iblk m c 2 t) := by
  unfold outsAt0
  frame_out

/-- their norm, -/
theorem t11 (t : Fin cfg0.N) : (outsAt0 m c t).2.2.1 = k0_pay10 (F := Ideal) (iblk m c 1 t) (iblk m c 0 t) := by
  unfold outsAt0
  frame_out

/-- the projections, -/
theorem t12 (t : Fin cfg0.N) : (outsAt0 m c t).2.2.2.1 = G12 m c t := by
  unfold outsAt0
  frame_open
  simp (disch := decide) only [↓ View.readCov_skip, ↓ View.readCov_cons_toLoadRect, ↓ View.readCov_fill]
  frame_out
  exact canon_of (top12 m c t _ _ _ _ _ _ _ _)

/-- the joined mixers, -/
theorem t13 (t : Fin cfg0.N) : (outsAt0 m c t).2.2.2.2.1 = G13 m c t := by
  unfold outsAt0
  frame_open
  simp (disch := decide) only [↓ View.readCov_skip, ↓ View.readCov_cons_toLoadRect, ↓ View.readCov_fill]
  frame_out
  exact canon_of (top13 m c t _ _ _ _ _ _ _ _ _ _ _ _ _ _ _ _ _ _ _ _)

/-- The output's block, from the joined mixers read back. -/
theorem ob (t : Fin cfg0.N) (p : Fin 512) (l : Fin 1024) :
    k0_pay2 (F := Ideal) (iblk m c 0 t) (G13 m c t) (iblk m c 7 t) (ix2 p l) = out (A0 m c) (A1 m c) (A2 m c) (A3 m c) (A4 m c) (A5 m c) (A6 m c) (row t p) l := by
  pointwise [k0_pay2]
  unfold out
  rw [blk0]
  exact congrArg (_ + ·) (Finset.sum_congr rfl fun j _ => by rw [blk7]; rfl)

@[inherit_doc ob] theorem obn (t : Fin cfg0.N) (p : Fin 512) :
    k0_pay3 (F := Ideal) (iblk m c 0 t) (G13 m c t) (iblk m c 7 t) (ix2 p 0) = Step.rs (out (A0 m c) (A1 m c) (A2 m c) (A3 m c) (A4 m c) (A5 m c) (A6 m c) (row t p)) := by
  pointwise [k0_pay3]
  simp only [ob]
  rfl

@[inherit_doc ob] theorem obh (t : Fin cfg0.N) (p : Fin 512) (l : Fin 1024) :
    k0_pay4 (F := Ideal) (iblk m c 0 t) (G13 m c t) (iblk m c 7 t) (iblk m c 8 t) (ix2 p l) = hn (A0 m c) (A1 m c) (A2 m c) (A3 m c) (A4 m c) (A5 m c) (A6 m c) (A7 m c) (row t p) l := by
  pointwise [k0_pay4]
  rw [ob, obn, blk8]
  rfl

/-- Reading a whole window gives what it holds. -/
theorem whole (G : Vec Ideal S512x1024 .bf16) (h) : (fun j => G ((Rect.unit (s := S512x1024) ![0, 0] ![512, 1024] h).idx j)) = G :=
  funext fun j => congrArg G (funext fun a => Fin.ext (by
    match a with
    | 0 => show 0 + 1 * (j 0).val = (j 0).val; omega
    | 1 => show 0 + 1 * (j 1).val = (j 1).val; omega))

/-- the output, -/
theorem t9 (t : Fin cfg0.N) : (outsAt0 m c t).1 = k0_pay2 (F := Ideal) (iblk m c 0 t) (G13 m c t) (iblk m c 7 t) := by
  unfold outsAt0
  frame_open
  simp only [View.readCov_eq_canon']
  frame_out
  rw [canon_of (G := G13 m c t) ?h]
  case h => exact top13 m c t _ _ _ _ _ _ _ _ _ _ _ _ _ _ _ _ _ _ _ _
  rw [whole]

/-- the output normed for the next call, -/
theorem t14 (t : Fin cfg0.N) : (outsAt0 m c t).2.2.2.2.2.1 = k0_pay4 (F := Ideal) (iblk m c 0 t) (G13 m c t) (iblk m c 7 t) (iblk m c 8 t) := by
  unfold outsAt0
  frame_open
  simp only [View.readCov_eq_canon']
  frame_out
  rw [canon_of (G := G13 m c t) ?h]
  case h => exact top13 m c t _ _ _ _ _ _ _ _ _ _ _ _ _ _ _ _ _ _ _ _
  rw [whole]

/-- and its norm. -/
theorem t15 (t : Fin cfg0.N) : (outsAt0 m c t).2.2.2.2.2.2 = k0_pay3 (F := Ideal) (iblk m c 0 t) (G13 m c t) (iblk m c 7 t) := by
  unfold outsAt0
  frame_open
  simp only [View.readCov_eq_canon']
  frame_out
  rw [canon_of (G := G13 m c t) ?h]
  case h => exact top13 m c t _ _ _ _ _ _ _ _ _ _ _ _ _ _ _ _ _ _ _ _
  rw [whole]

end Cert.EvenFwdIdeal.Arr

end

end
-- ==== Proof.EvenFwd.Array.lean ====
module

public import proofs.«01_k».proof.Proof.EvenFwd.Points

@[expose] public section

set_option maxRecDepth 16384

/-! # The seven arrays the even layer's forward call leaves -/

noncomputable section

namespace Cert.EvenFwdIdeal.Arr

open Cert.EvenFwdIdeal Cert.EvenFwdIdeal.Gen Idealize.ShloMosaic Idealize.ShloMosaic.TcCoe Idealize.SL.Sem
open Cert.EvenFwdRefIdeal.Read (g1 g5 xn pr mx out hn)

variable (m : (ℓ : Loc nD τ sig) → Buf (Elt Ideal) ℓ) (c : Dev nD)

/-- Every output block is written once, so the arrays hold the stated values everywhere: the output, -/
theorem arr9 : (dats m 0 c).arrAt 9 cfg0.N = fun i => out (A0 m c) (A1 m c) (A2 m c) (A3 m c) (A4 m c) (A5 m c) (A6 m c) (i 0) (i 1) := by
  refine (dats m 0 c).arrAt_eq_of_covers 9 _ (by decide +kernel) fun t hf y => ?_
  blk_simp
  rw [after0_9]
  idx_vars y
  have e0 : (((View.whole main_v5_0).slice (win0_9.rect t)).emb (ix2 y0 y1)) = ix2 (row t y0) y1 := by
    unfold row
    blk_ext [idx t]
  rw [e0]
  exact (congrFun (t9 m c t) _).trans (ob m c t y0 y1)

/-- the normed rows, -/
theorem arr10 : (dats m 0 c).arrAt 10 cfg0.N = fun i => xn (A0 m c) (A1 m c) (i 0) (i 1) := by
  refine (dats m 0 c).arrAt_eq_of_covers 10 _ (by decide +kernel) fun t hf y => ?_
  blk_simp
  rw [after0_10]
  idx_vars y
  have e0 : (((View.whole main_v5_1).slice (win0_10.rect t)).emb (ix2 y0 y1)) = ix2 (row t y0) y1 := by
    unfold row
    blk_ext [idx t]
  rw [e0]
  exact (congrFun (t10 m c t) _).trans (xnt m c t y0 y1)

/-- their norm, -/
theorem arr11 : (dats m 0 c).arrAt 11 cfg0.N = fun i => Step.rs (fun y => A0 m c (ix2 (i 0) y)) := by
  refine (dats m 0 c).arrAt_eq_of_covers 11 _ (by decide +kernel) fun t hf y => ?_
  blk_simp
  rw [after0_11]
  idx_vars y
  obtain rfl : y1 = 0 := Subsingleton.elim _ _
  have e0 : (((View.whole main_v5_2).slice (win0_11.rect t)).emb (ix2 y0 0)) = ix2 (row t y0) 0 := by
    unfold row
    blk_ext [idx t]
  rw [e0]
  exact (congrFun (t11 m c t) _).trans (rst m c t y0)

/-- the projections, -/
theorem arr12 : (dats m 0 c).arrAt 12 cfg0.N = fun i => pr (A0 m c) (A1 m c) (A2 m c) (i 0) (i 1) (i 2) := by
  refine (dats m 0 c).arrAt_eq_of_covers 12 _ (by decide +kernel) fun t hf y => ?_
  blk_simp
  rw [after0_12]
  idx_vars y
  have e0 : (((View.whole main_v5_3).slice (win0_12.rect t)).emb (ix3 y0 y1 y2)) = ix3 y0 (row t y1) y2 := by
    unfold row
    blk_ext [idx t]
  rw [e0]
  exact congrFun (t12 m c t) _

/-- the joined mixers, -/
theorem arr13 : (dats m 0 c).arrAt 13 cfg0.N = fun i => mx (A0 m c) (A1 m c) (A2 m c) (A3 m c) (A4 m c) (A5 m c) (i 0) (i 1) := by
  refine (dats m 0 c).arrAt_eq_of_covers 13 _ (by decide +kernel) fun t hf y => ?_
  blk_simp
  rw [after0_13]
  idx_vars y
  have e0 : (((View.whole main_v5_4).slice (win0_13.rect t)).emb (ix2 y0 y1)) = ix2 (row t y0) y1 := by
    unfold row
    blk_ext [idx t]
  rw [e0]
  exact congrFun (t13 m c t) _

/-- the output normed for the next call -/
theorem arr14 : (dats m 0 c).arrAt 14 cfg0.N = fun i => hn (A0 m c) (A1 m c) (A2 m c) (A3 m c) (A4 m c) (A5 m c) (A6 m c) (A7 m c) (i 0) (i 1) := by
  refine (dats m 0 c).arrAt_eq_of_covers 14 _ (by decide +kernel) fun t hf y => ?_
  blk_simp
  rw [after0_14]
  idx_vars y
  have e0 : (((View.whole main_v5_5).slice (win0_14.rect t)).emb (ix2 y0 y1)) = ix2 (row t y0) y1 := by
    unfold row
    blk_ext [idx t]
  rw [e0]
  exact (congrFun (t14 m c t) _).trans (obh m c t y0 y1)

/-- and its norm. -/
theorem arr15 : (dats m 0 c).arrAt 15 cfg0.N = fun i => Step.rs (out (A0 m c) (A1 m c) (A2 m c) (A3 m c) (A4 m c) (A5 m c) (A6 m c) (i 0)) := by
  refine (dats m 0 c).arrAt_eq_of_covers 15 _ (by decide +kernel) fun t hf y => ?_
  blk_simp
  rw [after0_15]
  idx_vars y
  obtain rfl : y1 = 0 := Subsingleton.elim _ _
  have e0 : (((View.whole main_v5_6).slice (win0_15.rect t)).emb (ix2 y0 0)) = ix2 (row t y0) 0 := by
    unfold row
    blk_ext [idx t]
  rw [e0]
  exact (congrFun (t15 m c t) _).trans (obn m c t y0)

end Cert.EvenFwdIdeal.Arr

end

end
-- ==== Proof.EvenFwd.Claim.lean ====
module

public import proofs.«01_k».proof.Defs
public import proofs.«01_k».proof.Proof.Gen.EvenFwdIdeal
public import proofs.«01_k».proof.Proof.Gen.EvenFwdRefIdeal
public import proofs.«01_k».proof.Proof.EvenFwd.Array
public import proofs.«01_k».proof.Proof.EvenFwd.Ref

@[expose] public section

set_option maxRecDepth 16384

/-! # The even layer's forward call: the kernel's seven results are the reference's -/

noncomputable section

namespace Cert.EvenFwdTie

open Idealize.ShloMosaic Idealize.ShloMosaic.TcCoe Idealize.SL.Sem

/-- The precondition's comparisons have the shapes they name. -/
theorem preFacts : Cert.Pre_even_fwd_finite.Facts := ⟨by decide, by decide⟩

/-- Under the precondition the gain and the input projection hold real numbers. -/
theorem reals [Cert.Pre_even_fwd_finite.Facts] (m : (ℓ : Loc EvenFwdIdeal.nD EvenFwdIdeal.τ EvenFwdIdeal.sig) → Buf (Elt Ideal) ℓ)
    (h : Cert.Pre_EvenFwdIdeal_even_fwd_finite m) (c : Dev EvenFwdIdeal.nD) :
    (∀ i, Step.IsReal (EvenFwdIdeal.Arr.A1 m c i)) ∧ ∀ i, Step.IsReal (EvenFwdIdeal.Arr.A2 m c i) := by
  obtain ⟨h1, h2⟩ := h c
  exact ⟨fun i => Step.real_of_abs_lt (congrFun h1 i), fun i => Step.real_of_abs_lt (congrFun h2 i)⟩

/-- The kernel's seven arrays, at the entry's arrays, are what the forward lines give. -/
theorem algebraic [Cert.Pre_even_fwd_finite.Facts] : Cert.algebraic_EvenFwdIdeal_EvenFwdRefIdeal_pre_even_fwd_finite := by
  intro m ρ m' ρ' hpre hag
  refine ⟨_, _, _, _, _, _, _, EvenFwdIdeal.Value.run_blocks m ρ, ?_⟩
  refine (θ_run EvenFwdRefIdeal.defs _ _).mono (fun r h c => ?_) (EvenFwdRefIdeal.Value.run (F := Ideal) m' ρ')
  obtain ⟨e0, e1, e2, e3, e4, e5, e6, e7⟩ := hag c
  have l0 : StableHlo.launchContents m' c (Proc.tc.devRef EvenFwdRefIdeal.main_arg0) = EvenFwdIdeal.Arr.A0 m c := e0
  have l1 : StableHlo.launchContents m' c (Proc.tc.devRef EvenFwdRefIdeal.main_arg1) = EvenFwdIdeal.Arr.A1 m c := e1
  have l2 : StableHlo.launchContents m' c (Proc.tc.devRef EvenFwdRefIdeal.main_arg2) = EvenFwdIdeal.Arr.A2 m c := e2
  have l3 : StableHlo.launchContents m' c (Proc.tc.devRef EvenFwdRefIdeal.main_arg3) = EvenFwdIdeal.Arr.A3 m c := e3
  have l4 : StableHlo.launchContents m' c (Proc.tc.devRef EvenFwdRefIdeal.main_arg4) = EvenFwdIdeal.Arr.A4 m c := e4
  have l5 : StableHlo.launchContents m' c (Proc.tc.devRef EvenFwdRefIdeal.main_arg5) = EvenFwdIdeal.Arr.A5 m c := e5
  have l6 : StableHlo.launchContents m' c (Proc.tc.devRef EvenFwdRefIdeal.main_arg6) = EvenFwdIdeal.Arr.A6 m c := e6
  have l7 : StableHlo.launchContents m' c (Proc.tc.devRef EvenFwdRefIdeal.main_arg7) = EvenFwdIdeal.Arr.A7 m c := e7
  obtain ⟨h1, h2⟩ := reals m hpre c
  have hz := EvenGradRefIdeal.Read.zf_real (EvenFwdIdeal.Arr.A0 m c) (EvenFwdRefIdeal.Read.g1 (EvenFwdIdeal.Arr.A1 m c)) (EvenFwdIdeal.Arr.A2 m c)
    (fun i => by
      obtain ⟨l, rfl⟩ : ∃ l : Fin 1024, i = ix1 l := ⟨i 0, eq_ix1 i⟩
      rw [EvenFwdRefIdeal.Read.g1_apply]
      exact h1 _) h2
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · rw [EvenFwdRefIdeal.Read.val_main_v115_eq, l0, l1, l2, l3, l4, l5, l6, EvenFwdIdeal.Arr.arr9]
    funext i
    obtain ⟨r, l, rfl⟩ : ∃ (r : Fin 4096) (l : Fin 1024), i = ix2 r l := ⟨i 0, i 1, eq_ix2 i⟩
    exact EvenFwdRefIdeal.Read.r115 _ _ _ _ _ _ _ hz r l
  · rw [EvenFwdRefIdeal.Read.val_main_v116_eq, l0, l1, EvenFwdIdeal.Arr.arr10]
    funext i
    obtain ⟨r, l, rfl⟩ : ∃ (r : Fin 4096) (l : Fin 1024), i = ix2 r l := ⟨i 0, i 1, eq_ix2 i⟩
    exact EvenFwdRefIdeal.Read.r116 _ _ r l
  · rw [EvenFwdRefIdeal.Read.val_main_v124_eq, l0, EvenFwdIdeal.Arr.arr11]
    funext i
    obtain ⟨r, rfl⟩ : ∃ (r : Fin 4096), i = ix2 r 0 := ⟨i 0, (eq_ix2 i).trans (congrArg (fun z => ix2 _ z) (Subsingleton.elim (α := Fin 1) _ _))⟩
    exact EvenFwdRefIdeal.Read.r124 _ r
  · rw [EvenFwdRefIdeal.Read.val_main_v134_eq, l0, l1, l2, EvenFwdIdeal.Arr.arr12]
    funext i
    obtain ⟨k, r, l, rfl⟩ : ∃ (k : Fin 4) (r : Fin 4096) (l : Fin 512), i = ix3 k r l := ⟨i 0, i 1, i 2, eq_ix3 i⟩
    exact EvenFwdRefIdeal.Read.r134 _ _ _ k r l
  · rw [EvenFwdRefIdeal.Read.val_main_v135_eq, l0, l1, l2, l3, l4, l5, EvenFwdIdeal.Arr.arr13]
    funext i
    obtain ⟨r, l, rfl⟩ : ∃ (r : Fin 4096) (l : Fin 1024), i = ix2 r l := ⟨i 0, i 1, eq_ix2 i⟩
    exact EvenFwdRefIdeal.Read.r135 _ _ _ _ _ _ hz r l
  · rw [EvenFwdRefIdeal.Read.val_main_v150_eq, l0, l1, l2, l3, l4, l5, l6, l7, EvenFwdIdeal.Arr.arr14]
    funext i
    obtain ⟨r, l, rfl⟩ : ∃ (r : Fin 4096) (l : Fin 1024), i = ix2 r l := ⟨i 0, i 1, eq_ix2 i⟩
    exact EvenFwdRefIdeal.Read.r150 _ _ _ _ _ _ _ _ hz r l
  · rw [EvenFwdRefIdeal.Read.val_main_v158_eq, l0, l1, l2, l3, l4, l5, l6, EvenFwdIdeal.Arr.arr15]
    funext i
    obtain ⟨r, rfl⟩ : ∃ (r : Fin 4096), i = ix2 r 0 := ⟨i 0, (eq_ix2 i).trans (congrArg (fun z => ix2 _ z) (Subsingleton.elim (α := Fin 1) _ _))⟩
    exact EvenFwdRefIdeal.Read.r158 _ _ _ _ _ _ _ hz r

/-- The reference ends with its arguments unchanged; it has no semaphore. -/
theorem frame_ref : Cert.quiescent_EvenFwdRefIdeal := fun m ρ _ =>
  (θ_run EvenFwdRefIdeal.defs _ _).mono (fun r h => ⟨fun c => (h c).2.2.2.2.2.2.2, sem_eq_zero_of_no_sems (by decide) r.2⟩)
    (EvenFwdRefIdeal.Value.run (F := Ideal) m ρ)

end Cert.EvenFwdTie

end

end
-- ==== Proof.lean ====
module

public import proofs.«01_k».proof.Defs
public import proofs.«01_k».proof.Proof.Gen.FfnDx
public import proofs.«01_k».proof.Proof.Gen.FfnDx.Skeleton
public import proofs.«01_k».proof.Proof.Gen.FfnDx.Launch
public import proofs.«01_k».proof.Proof.Gen.FfnDx.Points
public import proofs.«01_k».proof.Proof.Gen.FfnDx.Frame
public import proofs.«01_k».proof.Proof.Gen.FfnDxIdeal
public import proofs.«01_k».proof.Proof.Gen.FfnDxIdeal.Skeleton
public import proofs.«01_k».proof.Proof.Gen.FfnDxIdeal.Launch
public import proofs.«01_k».proof.Proof.Gen.FfnDxIdeal.Points
public import proofs.«01_k».proof.Proof.Gen.FfnDxIdeal.Frame
public import proofs.«01_k».proof.Proof.Gen.FfnDxIdeal.Value
public import proofs.«01_k».proof.Proof.Gen.FfnDxRefIdeal
public import proofs.«01_k».proof.Proof.Gen.FfnDxRefIdeal.Run
public import proofs.«01_k».proof.Proof.Gen.FfnDxRefIdeal.Read
public import proofs.«01_k».proof.Proof.FfnDx.Claim
public import proofs.«01_k».proof.Proof.Gen.MixDx
public import proofs.«01_k».proof.Proof.Gen.MixDx.Skeleton
public import proofs.«01_k».proof.Proof.Gen.MixDx.Launch
public import proofs.«01_k».proof.Proof.Gen.MixDx.Points
public import proofs.«01_k».proof.Proof.Gen.MixDx.Frame
public import proofs.«01_k».proof.Proof.Gen.MixDxIdeal
public import proofs.«01_k».proof.Proof.Gen.MixDxIdeal.Skeleton
public import proofs.«01_k».proof.Proof.Gen.MixDxIdeal.Launch
public import proofs.«01_k».proof.Proof.Gen.MixDxIdeal.Points
public import proofs.«01_k».proof.Proof.Gen.MixDxIdeal.Frame
public import proofs.«01_k».proof.Proof.Gen.MixDxIdeal.Value
public import proofs.«01_k».proof.Proof.Gen.MixDxRefIdeal
public import proofs.«01_k».proof.Proof.Gen.MixDxRefIdeal.Run
public import proofs.«01_k».proof.Proof.Gen.MixDxRefIdeal.Read
public import proofs.«01_k».proof.Proof.MixDx.Claim
public import proofs.«01_k».proof.Proof.Gen.EvenGrad
public import proofs.«01_k».proof.Proof.Gen.EvenGrad.Skeleton
public import proofs.«01_k».proof.Proof.Gen.EvenGrad.Launch
public import proofs.«01_k».proof.Proof.Gen.EvenGrad.Points
public import proofs.«01_k».proof.Proof.Gen.EvenGrad.Frame
public import proofs.«01_k».proof.Proof.Gen.EvenGradIdeal
public import proofs.«01_k».proof.Proof.Gen.EvenGradIdeal.Skeleton
public import proofs.«01_k».proof.Proof.Gen.EvenGradIdeal.Launch
public import proofs.«01_k».proof.Proof.Gen.EvenGradIdeal.Points
public import proofs.«01_k».proof.Proof.Gen.EvenGradIdeal.Frame
public import proofs.«01_k».proof.Proof.Gen.EvenGradIdeal.Value
public import proofs.«01_k».proof.Proof.Gen.EvenGradRefIdeal
public import proofs.«01_k».proof.Proof.Gen.EvenGradRefIdeal.Run
public import proofs.«01_k».proof.Proof.Gen.EvenGradRefIdeal.Read
public import proofs.«01_k».proof.Proof.EvenGrad.Claim
public import proofs.«01_k».proof.Proof.Gen.FfnGrad
public import proofs.«01_k».proof.Proof.Gen.FfnGrad.Skeleton
public import proofs.«01_k».proof.Proof.Gen.FfnGrad.Launch
public import proofs.«01_k».proof.Proof.Gen.FfnGrad.Points
public import proofs.«01_k».proof.Proof.Gen.FfnGrad.Frame
public import proofs.«01_k».proof.Proof.Gen.FfnGradIdeal
public import proofs.«01_k».proof.Proof.Gen.FfnGradIdeal.Skeleton
public import proofs.«01_k».proof.Proof.Gen.FfnGradIdeal.Launch
public import proofs.«01_k».proof.Proof.Gen.FfnGradIdeal.Points
public import proofs.«01_k».proof.Proof.Gen.FfnGradIdeal.Frame
public import proofs.«01_k».proof.Proof.Gen.FfnGradIdeal.Value
public import proofs.«01_k».proof.Proof.Gen.FfnGradRefIdeal
public import proofs.«01_k».proof.Proof.Gen.FfnGradRefIdeal.Run
public import proofs.«01_k».proof.Proof.Gen.FfnGradRefIdeal.Read
public import proofs.«01_k».proof.Proof.FfnGrad.Claim
public import proofs.«01_k».proof.Proof.Gen.SguGrad
public import proofs.«01_k».proof.Proof.Gen.SguGrad.Skeleton
public import proofs.«01_k».proof.Proof.Gen.SguGrad.Launch
public import proofs.«01_k».proof.Proof.Gen.SguGrad.Points
public import proofs.«01_k».proof.Proof.Gen.SguGrad.Frame
public import proofs.«01_k».proof.Proof.Gen.SguGradIdeal
public import proofs.«01_k».proof.Proof.Gen.SguGradIdeal.Skeleton
public import proofs.«01_k».proof.Proof.Gen.SguGradIdeal.Launch
public import proofs.«01_k».proof.Proof.Gen.SguGradIdeal.Points
public import proofs.«01_k».proof.Proof.Gen.SguGradIdeal.Frame
public import proofs.«01_k».proof.Proof.Gen.SguGradIdeal.Value
public import proofs.«01_k».proof.Proof.Gen.SguGradRefIdeal
public import proofs.«01_k».proof.Proof.Gen.SguGradRefIdeal.Run
public import proofs.«01_k».proof.Proof.Gen.SguGradRefIdeal.Read
public import proofs.«01_k».proof.Proof.SguGrad.Claim
public import proofs.«01_k».proof.Proof.Gen.FfnLoss
public import proofs.«01_k».proof.Proof.Gen.FfnLoss.Skeleton
public import proofs.«01_k».proof.Proof.Gen.FfnLoss.Launch
public import proofs.«01_k».proof.Proof.Gen.FfnLoss.Points
public import proofs.«01_k».proof.Proof.Gen.FfnLoss.Frame
public import proofs.«01_k».proof.Proof.Gen.FfnLossIdeal
public import proofs.«01_k».proof.Proof.Gen.FfnLossIdeal.Skeleton
public import proofs.«01_k».proof.Proof.Gen.FfnLossIdeal.Launch
public import proofs.«01_k».proof.Proof.Gen.FfnLossIdeal.Points
public import proofs.«01_k».proof.Proof.Gen.FfnLossIdeal.Frame
public import proofs.«01_k».proof.Proof.Gen.FfnLossRefIdeal
public import proofs.«01_k».proof.Proof.Gen.FfnLossRefIdeal.Run
public import proofs.«01_k».proof.Proof.Gen.FfnLossRefIdeal.Read
public import proofs.«01_k».proof.Proof.FfnLoss.Claim
public import proofs.«01_k».proof.Proof.Gen.OddFwd
public import proofs.«01_k».proof.Proof.Gen.OddFwd.Skeleton
public import proofs.«01_k».proof.Proof.Gen.OddFwd.Launch
public import proofs.«01_k».proof.Proof.Gen.OddFwd.Points
public import proofs.«01_k».proof.Proof.Gen.OddFwd.Frame
public import proofs.«01_k».proof.Proof.Gen.OddFwdIdeal
public import proofs.«01_k».proof.Proof.Gen.OddFwdIdeal.Skeleton
public import proofs.«01_k».proof.Proof.Gen.OddFwdIdeal.Launch
public import proofs.«01_k».proof.Proof.Gen.OddFwdIdeal.Points
public import proofs.«01_k».proof.Proof.Gen.OddFwdIdeal.Frame
public import proofs.«01_k».proof.Proof.Gen.OddFwdIdeal.Value
public import proofs.«01_k».proof.Proof.Gen.OddFwdRefIdeal
public import proofs.«01_k».proof.Proof.Gen.OddFwdRefIdeal.Run
public import proofs.«01_k».proof.Proof.Gen.OddFwdRefIdeal.Read
public import proofs.«01_k».proof.Proof.OddFwd.Claim
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.FfnIn.Claim
public import proofs.«01_k».proof.Proof.Gen.EvenFwd
public import proofs.«01_k».proof.Proof.Gen.EvenFwd.Skeleton
public import proofs.«01_k».proof.Proof.Gen.EvenFwd.Launch
public import proofs.«01_k».proof.Proof.Gen.EvenFwd.Points
public import proofs.«01_k».proof.Proof.Gen.EvenFwd.Frame
public import proofs.«01_k».proof.Proof.Gen.EvenFwdIdeal
public import proofs.«01_k».proof.Proof.Gen.EvenFwdIdeal.Skeleton
public import proofs.«01_k».proof.Proof.Gen.EvenFwdIdeal.Launch
public import proofs.«01_k».proof.Proof.Gen.EvenFwdIdeal.Points
public import proofs.«01_k».proof.Proof.Gen.EvenFwdIdeal.Frame
public import proofs.«01_k».proof.Proof.Gen.EvenFwdIdeal.Value
public import proofs.«01_k».proof.Proof.Gen.EvenFwdRefIdeal
public import proofs.«01_k».proof.Proof.Gen.EvenFwdRefIdeal.Run
public import proofs.«01_k».proof.Proof.Gen.EvenFwdRefIdeal.Read
public import proofs.«01_k».proof.Proof.EvenFwd.Claim
public import Idealize.ShloMosaic.Adequacy
public import Idealize.ShloMosaic.Init

@[expose] public section

noncomputable section

namespace Cert.Proof

open Idealize.ShloMosaic Idealize.SL.Sem

theorem claim : Cert.Claim := ⟨Cert.FfnDx.Gen.facts, Cert.FfnDxIdeal.Gen.facts, Cert.FfnDxRefIdeal.Gen.facts, Cert.MixDx.Gen.facts, Cert.MixDxIdeal.Gen.facts, Cert.MixDxRefIdeal.Gen.facts, Cert.EvenGrad.Gen.facts, Cert.EvenGradIdeal.Gen.facts, Cert.EvenGradRefIdeal.Gen.facts, Cert.FfnGrad.Gen.facts, Cert.FfnGradIdeal.Gen.facts, Cert.FfnGradRefIdeal.Gen.facts, Cert.SguGrad.Gen.facts, Cert.SguGradIdeal.Gen.facts, Cert.SguGradRefIdeal.Gen.facts, Cert.FfnLoss.Gen.facts, Cert.FfnLossIdeal.Gen.facts, Cert.FfnLossRefIdeal.Gen.facts, Cert.OddFwd.Gen.facts, Cert.OddFwdIdeal.Gen.facts, Cert.OddFwdRefIdeal.Gen.facts, Cert.FfnIn.Gen.facts, Cert.FfnInIdeal.Gen.facts, Cert.FfnInRefIdeal.Gen.facts, Cert.EvenFwd.Gen.facts, Cert.EvenFwdIdeal.Gen.facts, Cert.EvenFwdRefIdeal.Gen.facts, EvenGradTie.preFacts, FfnGradTie.preFacts, SguGradTie.preFacts, EvenFwdTie.preFacts,
  fun m ρ _ => Cert.FfnDx.Gen.frame m ρ,
  fun m ρ _ => Cert.FfnDxIdeal.Gen.frame m ρ,
  FfnDxTie.frame_ref,
  fun m ρ _ => Cert.MixDx.Gen.frame m ρ,
  fun m ρ _ => Cert.MixDxIdeal.Gen.frame m ρ,
  MixDxTie.frame_ref,
  fun m ρ _ => Cert.EvenGrad.Gen.frame m ρ,
  fun m ρ _ => Cert.EvenGradIdeal.Gen.frame m ρ,
  fun m ρ _ => Cert.EvenGradIdeal.Gen.frame m ρ,
  EvenGradTie.frame_ref,
  fun m ρ _ => EvenGradTie.frame_ref m ρ trivial,
  fun m ρ _ => Cert.FfnGrad.Gen.frame m ρ,
  fun m ρ _ => Cert.FfnGradIdeal.Gen.frame m ρ,
  fun m ρ _ => Cert.FfnGradIdeal.Gen.frame m ρ,
  FfnGradTie.frame_ref,
  fun m ρ _ => FfnGradTie.frame_ref m ρ trivial,
  fun m ρ _ => Cert.SguGrad.Gen.frame m ρ,
  fun m ρ _ => Cert.SguGradIdeal.Gen.frame m ρ,
  fun m ρ _ => Cert.SguGradIdeal.Gen.frame m ρ,
  SguGradTie.frame_ref,
  fun m ρ _ => SguGradTie.frame_ref m ρ trivial,
  fun m ρ _ => Cert.FfnLoss.Gen.frame m ρ,
  fun m ρ _ => Cert.FfnLossIdeal.Gen.frame m ρ,
  FfnLossTie.frame_ref,
  fun m ρ _ => Cert.OddFwd.Gen.frame m ρ,
  fun m ρ _ => Cert.OddFwdIdeal.Gen.frame m ρ,
  OddFwdTie.frame_ref,
  fun m ρ _ => Cert.FfnIn.Gen.frame m ρ,
  fun m ρ _ => Cert.FfnInIdeal.Gen.frame m ρ,
  FfnInTie.frame_ref,
  fun m ρ _ => Cert.EvenFwd.Gen.frame m ρ,
  fun m ρ _ => Cert.EvenFwdIdeal.Gen.frame m ρ,
  fun m ρ _ => Cert.EvenFwdIdeal.Gen.frame m ρ,
  EvenFwdTie.frame_ref,
  fun m ρ _ => EvenFwdTie.frame_ref m ρ trivial,
  trivial, FfnDxTie.algebraic, trivial, MixDxTie.algebraic, trivial, @EvenGradTie.algebraic EvenGradTie.preFacts, trivial, @FfnGradTie.algebraic FfnGradTie.preFacts, SguGradTie.named, @SguGradTie.algebraic SguGradTie.preFacts, trivial, FfnLossTie.algebraic, OddFwdTie.named, OddFwdTie.algebraic, trivial, FfnInTie.algebraic, trivial, @EvenFwdTie.algebraic EvenFwdTie.preFacts⟩

end Cert.Proof

end
